-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Quantise (m : (ℓ : Loc Cert.Quantise.nD Cert.Quantise.τ Cert.Quantise.sig) → Buf (Elt Bits) ℓ) : Prop :=
  True

def Pre_QuantiseIdeal (m : (ℓ : Loc Cert.QuantiseIdeal.nD Cert.QuantiseIdeal.τ Cert.QuantiseIdeal.sig) → Buf (Elt Ideal) ℓ) : Prop :=
  True

def Pre_QuantiseReferenceIdeal (m : (ℓ : Loc Cert.QuantiseReferenceIdeal.nD Cert.QuantiseReferenceIdeal.τ Cert.QuantiseReferenceIdeal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0))
      ∧ r.2.sem = fun _ => 0)

def quiescent_QuantiseIdeal [hQuantiseIdeal : Cert.QuantiseIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0))
      ∧ r.2.sem = fun _ => 0)

def quiescent_QuantiseReferenceIdeal [hQuantiseReferenceIdeal : Cert.QuantiseReferenceIdeal.Facts] : Prop :=
  ∀ (m : (ℓ : Loc Cert.QuantiseReferenceIdeal.nD Cert.QuantiseReferenceIdeal.τ Cert.QuantiseReferenceIdeal.sig) → Buf (Elt Ideal) ℓ) (g : Dev Cert.QuantiseReferenceIdeal.nD → PrngReg), Pre_QuantiseReferenceIdeal m →
    θ_run (Cert.QuantiseReferenceIdeal.defs (F := Ideal)) (onTc (τ := Cert.QuantiseReferenceIdeal.τ) (Cert.QuantiseReferenceIdeal.main (F := Ideal))) ⟨m, fun _ => 0, g⟩ (fun r => (∀ c : Dev Cert.QuantiseReferenceIdeal.nD,
      r.2.mem ((c.tc : Thread Cert.QuantiseReferenceIdeal.nD Cert.QuantiseReferenceIdeal.τ).loc Cert.QuantiseReferenceIdeal.main_arg0) = m ((c.tc : Thread Cert.QuantiseReferenceIdeal.nD Cert.QuantiseReferenceIdeal.τ).loc Cert.QuantiseReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Quantise_QuantiseIdeal : Prop :=
  True

def algebraic_QuantiseIdeal_QuantiseReferenceIdeal [hQuantiseIdeal : Cert.QuantiseIdeal.Facts] [hQuantiseReferenceIdeal : Cert.QuantiseReferenceIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg)
    (m' : (ℓ : Loc Cert.QuantiseReferenceIdeal.nD Cert.QuantiseReferenceIdeal.τ Cert.QuantiseReferenceIdeal.sig) → Buf (Elt Ideal) ℓ) (g' : Dev Cert.QuantiseReferenceIdeal.nD → PrngReg), Pre_QuantiseIdeal m →
    (∀ c : Dev Cert.QuantiseIdeal.nD,
      m' ((c.tc : Thread Cert.QuantiseReferenceIdeal.nD Cert.QuantiseReferenceIdeal.τ).loc Cert.QuantiseReferenceIdeal.main_arg0) = m ((c.tc : Thread Cert.QuantiseIdeal.nD Cert.QuantiseIdeal.τ).loc Cert.QuantiseIdeal.main_arg0)) →
    ∃ (v0 : (c : Dev Cert.QuantiseIdeal.nD) → Buf (Elt Ideal) ((c.tc : Thread Cert.QuantiseIdeal.nD Cert.QuantiseIdeal.τ).loc Cert.QuantiseIdeal.main_v0_0)) (v1 : (c : Dev Cert.QuantiseIdeal.nD) → Buf (Elt Ideal) ((c.tc : Thread Cert.QuantiseIdeal.nD Cert.QuantiseIdeal.τ).loc Cert.QuantiseIdeal.main_v0_3)),
      θ_run (Cert.QuantiseIdeal.defs (F := Ideal)) (onTc (τ := Cert.QuantiseIdeal.τ) (Cert.QuantiseIdeal.main (F := Ideal))) ⟨m, fun _ => 0, g⟩ (fun r => ∀ c : Dev Cert.QuantiseIdeal.nD,
          r.2.mem ((c.tc : Thread Cert.QuantiseIdeal.nD Cert.QuantiseIdeal.τ).loc Cert.QuantiseIdeal.main_v0_0) = v0 c
          ∧ r.2.mem ((c.tc : Thread Cert.QuantiseIdeal.nD Cert.QuantiseIdeal.τ).loc Cert.QuantiseIdeal.main_v0_3) = v1 c
          ∧ r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0))
      ∧ θ_run (Cert.QuantiseReferenceIdeal.defs (F := Ideal)) (onTc (τ := Cert.QuantiseReferenceIdeal.τ) (Cert.QuantiseReferenceIdeal.main (F := Ideal))) ⟨m', fun _ => 0, g'⟩ (fun r => ∀ c : Dev Cert.QuantiseReferenceIdeal.nD,
          r.2.mem ((c.tc : Thread Cert.QuantiseReferenceIdeal.nD Cert.QuantiseReferenceIdeal.τ).loc Cert.QuantiseReferenceIdeal.main_v14) = v0 c
          ∧ r.2.mem ((c.tc : Thread Cert.QuantiseReferenceIdeal.nD Cert.QuantiseReferenceIdeal.τ).loc Cert.QuantiseReferenceIdeal.main_v15) = v1 c
          ∧ r.2.mem ((c.tc : Thread Cert.QuantiseReferenceIdeal.nD Cert.QuantiseReferenceIdeal.τ).loc Cert.QuantiseReferenceIdeal.main_arg0) = m' ((c.tc : Thread Cert.QuantiseReferenceIdeal.nD Cert.QuantiseReferenceIdeal.τ).loc Cert.QuantiseReferenceIdeal.main_arg0))

def Claim : Prop :=
  ∃ (hKernel : Cert.Kernel.Facts) (hKernelIdeal : Cert.KernelIdeal.Facts) (hReferenceIdeal : Cert.ReferenceIdeal.Facts) (hQuantise : Cert.Quantise.Facts) (hQuantiseIdeal : Cert.QuantiseIdeal.Facts) (hQuantiseReferenceIdeal : Cert.QuantiseReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Quantise (hQuantise := hQuantise)
    ∧ quiescent_QuantiseIdeal (hQuantiseIdeal := hQuantiseIdeal)
    ∧ quiescent_QuantiseReferenceIdeal (hQuantiseReferenceIdeal := hQuantiseReferenceIdeal)
    ∧ preserves_Kernel_KernelIdeal
    ∧ algebraic_KernelIdeal_ReferenceIdeal (hKernelIdeal := hKernelIdeal) (hReferenceIdeal := hReferenceIdeal) (hPre_in_range := hPre_in_range)
    ∧ preserves_Quantise_QuantiseIdeal
    ∧ algebraic_QuantiseIdeal_QuantiseReferenceIdeal (hQuantiseIdeal := hQuantiseIdeal) (hQuantiseReferenceIdeal := hQuantiseReferenceIdeal)
-- ==== Pre_in_range.lean ====
abbrev S27648 : Shape := ⟨1, ![27648]⟩
abbrev S3072x5120 : Shape := ⟨2, ![3072, 5120]⟩
abbrev S3072 : Shape := ⟨1, ![3072]⟩
abbrev S5504x5120 : Shape := ⟨2, ![5504, 5120]⟩
abbrev S5504 : Shape := ⟨1, ![5504]⟩
abbrev S22144x2560 : Shape := ⟨2, ![22144, 2560]⟩
abbrev S22144x40 : Shape := ⟨2, ![22144, 40]⟩
abbrev S_ : Shape := ⟨0, ![]⟩

class Facts : Prop where
  bcast_S_S27648 : S_.BroadcastsInDim S27648 (![] : Fin 0 → Fin S27648.rank)

variable [Facts]

def fn {F : FTy → Type} [FloatOps F] (main_arg0 : IVec S27648 32) (main_arg1 : FVec F S3072x5120 .bf16) (main_arg2 : FVec F S3072 .f32) (main_arg3 : IVec S5504x5120 8) (main_arg4 : FVec F S5504 .f32) (main_arg5 : IVec S22144x2560 8) (main_arg6 : IVec S22144x40 16) : IVec S27648 1 :=
  let main_c : IVec S_ 32 := constantI S_ 32 0#32
  let main_v0 : IVec S27648 32 := broadcastInDim S27648 ![] bcast_S_S27648 main_c
  let main_v1 : IVec S27648 1 := cmpi .sge main_arg0 main_v0
  let main_c_0 : IVec S_ 32 := constantI S_ 32 27648#32
  let main_v2 : IVec S27648 32 := broadcastInDim S27648 ![] bcast_S_S27648 main_c_0
  let main_v3 : IVec S27648 1 := cmpi .slt main_arg0 main_v2
  let main_v4 : IVec S27648 1 := andi main_v1 main_v3
  main_v4
-- ==== Kernel.lean ====
abbrev S27648 : Shape := ⟨1, ![27648]⟩
abbrev S3072x5120 : Shape := ⟨2, ![3072, 5120]⟩
abbrev S3072 : Shape := ⟨1, ![3072]⟩
abbrev S5504x5120 : Shape := ⟨2, ![5504, 5120]⟩
abbrev S5504 : Shape := ⟨1, ![5504]⟩
abbrev S22144x2560 : Shape := ⟨2, ![22144, 2560]⟩
abbrev S22144x40 : Shape := ⟨2, ![22144, 40]⟩
abbrev S_ : Shape := ⟨0, ![]⟩
abbrev S27648x1 : Shape := ⟨2, ![27648, 1]⟩
abbrev S3072x1 : Shape := ⟨2, ![3072, 1]⟩
abbrev S3072x128 : Shape := ⟨2, ![3072, 128]⟩
abbrev S3072x20x128x2 : Shape := ⟨4, ![3072, 20, 128, 2]⟩
abbrev S3072x20x2x128 : Shape := ⟨4, ![3072, 20, 2, 128]⟩
abbrev S216x128 : Shape := ⟨2, ![216, 128]⟩
abbrev S5536x4x2560 : Shape := ⟨3, ![5536, 4, 2560]⟩
abbrev S5536x2560x4 : Shape := ⟨3, ![5536, 2560, 4]⟩
abbrev S5536x2560 : Shape := ⟨2, ![5536, 2560]⟩
abbrev S1376x4x5120 : Shape := ⟨3, ![1376, 4, 5120]⟩
abbrev S1376x5120x4 : Shape := ⟨3, ![1376, 5120, 4]⟩
abbrev S1376x5120 : Shape := ⟨2, ![1376, 5120]⟩
abbrev S11072x2x40 : Shape := ⟨3, ![11072, 2, 40]⟩
abbrev S11072x40x2 : Shape := ⟨3, ![11072, 40, 2]⟩
abbrev S11072x40 : Shape := ⟨2, ![11072, 40]⟩
abbrev S3072x27648 : Shape := ⟨2, ![3072, 27648]⟩
abbrev S3072x512 : Shape := ⟨2, ![3072, 512]⟩
abbrev S512x5120 : Shape := ⟨2, ![512, 5120]⟩
abbrev S64x2560 : Shape := ⟨2, ![64, 2560]⟩
abbrev S64x5120 : Shape := ⟨2, ![64, 5120]⟩
abbrev S64x40 : Shape := ⟨2, ![64, 40]⟩
abbrev S1 : Shape := ⟨1, ![1]⟩
abbrev S1x5120 : Shape := ⟨2, ![1, 5120]⟩
abbrev S1x2560 : Shape := ⟨2, ![1, 2560]⟩
abbrev S1x40 : Shape := ⟨2, ![1, 40]⟩
abbrev S2x2560 : Shape := ⟨2, ![2, 2560]⟩
abbrev S4x2560 : Shape := ⟨2, ![4, 2560]⟩
abbrev S8x2560 : Shape := ⟨2, ![8, 2560]⟩
abbrev S16x2560 : Shape := ⟨2, ![16, 2560]⟩
abbrev S32x2560 : Shape := ⟨2, ![32, 2560]⟩
abbrev S1x128 : Shape := ⟨2, ![1, 128]⟩
abbrev S64x128 : Shape := ⟨2, ![64, 128]⟩
abbrev S64x128x1 : Shape := ⟨3, ![64, 128, 1]⟩
abbrev S64x88 : Shape := ⟨2, ![64, 88]⟩
abbrev S64x256 : Shape := ⟨2, ![64, 256]⟩
abbrev S256x5120 : Shape := ⟨2, ![256, 5120]⟩
abbrev S256x512 : Shape := ⟨2, ![256, 512]⟩
abbrev S256x128 : Shape := ⟨2, ![256, 128]⟩

abbrev nBuf : Space → Nat
  | .hbm => 47
  | .vmem => 10
  | .smem => 1
  | _ => 0

abbrev bufTy : (tb : Table) → Fin (tcTables nBuf tb) → BufTy
  | .hbm, ⟨0, _⟩ => ⟨S27648, .i32⟩
  | .hbm, ⟨1, _⟩ => ⟨S3072x5120, .bf16⟩
  | .hbm, ⟨2, _⟩ => ⟨S3072, .f32⟩
  | .hbm, ⟨3, _⟩ => ⟨S5504x5120, .i8⟩
  | .hbm, ⟨4, _⟩ => ⟨S5504, .f32⟩
  | .hbm, ⟨5, _⟩ => ⟨S22144x2560, .i8⟩
  | .hbm, ⟨6, _⟩ => ⟨S22144x40, .i16⟩
  | .hbm, ⟨7, _⟩ => ⟨S_, .i32⟩
  | .hbm, ⟨8, _⟩ => ⟨S27648, .i32⟩
  | .hbm, ⟨9, _⟩ => ⟨S27648, .i1⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S27648, .i32⟩
  | .hbm, ⟨14, _⟩ => ⟨S27648, .i32⟩
  | .hbm, ⟨15, _⟩ => ⟨S_, .i32⟩
  | .hbm, ⟨16, _⟩ => ⟨S27648, .i32⟩
  | .hbm, ⟨17, _⟩ => ⟨S27648, .i32⟩
  | .hbm, ⟨18, _⟩ => ⟨S_, .i32⟩
  | .hbm, ⟨19, _⟩ => ⟨S27648, .i32⟩
  | .hbm, ⟨20, _⟩ => ⟨S27648, .i1⟩
  | .hbm, ⟨21, _⟩ => ⟨S_, .i32⟩
  | .hbm, ⟨22, _⟩ => ⟨S27648, .i32⟩
  | .hbm, ⟨23, _⟩ => ⟨S27648, .i32⟩
  | .hbm, ⟨24, _⟩ => ⟨S27648, .i32⟩
  | .hbm, ⟨25, _⟩ => ⟨S27648x1, .i32⟩
  | .hbm, ⟨26, _⟩ => ⟨S27648, .f32⟩
  | .hbm, ⟨27, _⟩ => ⟨S_, .f32⟩
  | .hbm, ⟨28, _⟩ => ⟨S27648, .f32⟩
  | .hbm, ⟨29, _⟩ => ⟨S27648, .f32⟩
  | .hbm, ⟨30, _⟩ => ⟨S3072x1, .f32⟩
  | .hbm, ⟨31, _⟩ => ⟨S3072x128, .f32⟩
  | .hbm, ⟨32, _⟩ => ⟨S3072x20x128x2, .bf16⟩
  | .hbm, ⟨33, _⟩ => ⟨S3072x20x2x128, .bf16⟩
  | .hbm, ⟨34, _⟩ => ⟨S3072x5120, .bf16⟩
  | .hbm, ⟨35, _⟩ => ⟨S216x128, .i32⟩
  | .hbm, ⟨36, _⟩ => ⟨S216x128, .f32⟩
  | .hbm, ⟨37, _⟩ => ⟨S5536x4x2560, .i8⟩
  | .hbm, ⟨38, _⟩ => ⟨S5536x2560x4, .i8⟩
  | .hbm, ⟨39, _⟩ => ⟨S5536x2560, .i32⟩
  | .hbm, ⟨40, _⟩ => ⟨S1376x4x5120, .i8⟩
  | .hbm, ⟨41, _⟩ => ⟨S1376x5120x4, .i8⟩
  | .hbm, ⟨42, _⟩ => ⟨S1376x5120, .i32⟩
  | .hbm, ⟨43, _⟩ => ⟨S11072x2x40, .i16⟩
  | .hbm, ⟨44, _⟩ => ⟨S11072x40x2, .i16⟩
  | .hbm, ⟨45, _⟩ => ⟨S11072x40, .i32⟩
  | .hbm, ⟨46, _⟩ => ⟨S3072x27648, .bf16⟩
  | .local _ .vmem, ⟨0, _⟩ => ⟨S216x128, .i32⟩
  | .local _ .vmem, ⟨1, _⟩ => ⟨S216x128, .f32⟩
  | .local _ .vmem, ⟨2, _⟩ => ⟨S3072x128, .f32⟩
  | .local _ .vmem, ⟨3, _⟩ => ⟨S3072x512, .bf16⟩
  | .local _ .vmem, ⟨4, _⟩ => ⟨S3072x512, .bf16⟩
  | .local _ .vmem, ⟨5, _⟩ => ⟨S3072x5120, .bf16⟩
  | .local _ .vmem, ⟨6, _⟩ => ⟨S512x5120, .bf16⟩
  | .local _ .vmem, ⟨7, _⟩ => ⟨S64x2560, .i32⟩
  | .local _ .vmem, ⟨8, _⟩ => ⟨S64x5120, .i32⟩
  | .local _ .vmem, ⟨9, _⟩ => ⟨S64x40, .i32⟩
  | .local _ .smem, ⟨0, _⟩ => ⟨S27648, .i32⟩
  | _, _ => ⟨S27648, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v2 : Ref sig .tc := ⟨.hbm, 17, rfl⟩
abbrev main_c_2 : Ref sig .tc := ⟨.hbm, 18, rfl⟩
abbrev main_v3 : Ref sig .tc := ⟨.hbm, 19, rfl⟩
abbrev main_v4 : Ref sig .tc := ⟨.hbm, 20, rfl⟩
abbrev main_c_3 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst : Ref sig .tc := ⟨.hbm, 27, rfl⟩
abbrev main_call1_v0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5

abbrev nD : Nat := 1
abbrev τ : Topo := Topo.v7x

variable {F : FTy → Type} [FloatOps F]

abbrev grid0 : Pipeline.Grid := ⟨1, ![54], ![false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_off1 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c0_i32_9 : BitVec 32 := 0#32
  let v10 : BitVec 32 := Scalar.addi v9 c0_i32_9
  let v11 : Index := Scalar.indexCast v10
  ![v11.toNat]
def k0_off2 (v12 : BitVec 32) : Fin 2 → Nat :=
  let c2_i32_947 : BitVec 32 := 2#32
  let v1234 : BitVec 32 := Scalar.shrui v12 c2_i32_947
  let c0_i32_950 : BitVec 32 := 0#32
  ![v1234.toNat, 0]
def k0_cond2 (v12 : BitVec 32) : BitVec 1 :=
  let c5504_i32 : BitVec 32 := 5504#32
  let v13 : BitVec 1 := Scalar.cmpi .slt v12 c5504_i32
  let v18 : BitVec 32 := Scalar.extui v13
  let c0_i32_13 : BitVec 32 := 0#32
  let v19 : BitVec 1 := Scalar.cmpi .ne v18 c0_i32_13
  v19

def k0_off3 (v12 : BitVec 32) : Fin 2 → Nat :=
  let c5504_i32_10 : BitVec 32 := 5504#32
  let v14 : BitVec 32 := Scalar.subi v12 c5504_i32_10
  let c0_i32_11 : BitVec 32 := 0#32
  let v15 : BitVec 32 := Scalar.maxsi v14 c0_i32_11
  let c2_i32_947 : BitVec 32 := 2#32
  let v1234 : BitVec 32 := Scalar.shrui v15 c2_i32_947
  let c0_i32_950 : BitVec 32 := 0#32
  ![v1234.toNat, 0]
def k0_cond3 (v12 : BitVec 32) : BitVec 1 :=
  let c5504_i32 : BitVec 32 := 5504#32
  let v13 : BitVec 1 := Scalar.cmpi .slt v12 c5504_i32
  let v_true : BitVec 1 := 1#1
  let v20 : BitVec 1 := Scalar.xori v13 v_true
  let v21 : BitVec 32 := Scalar.extui v20
  let c0_i32_14 : BitVec 32 := 0#32
  let v22 : BitVec 1 := Scalar.cmpi .ne v21 c0_i32_14
  v22

def k0_off4 (v12 : BitVec 32) : Fin 2 → Nat :=
  let c5504_i32_10 : BitVec 32 := 5504#32
  let v14 : BitVec 32 := Scalar.subi v12 c5504_i32_10
  let c0_i32_11 : BitVec 32 := 0#32
  let v15 : BitVec 32 := Scalar.maxsi v14 c0_i32_11
  let c1_i32_15 : BitVec 32 := 1#32
  let v23 : BitVec 32 := Scalar.shrui v15 c1_i32_15
  let c0_i32_18 : BitVec 32 := 0#32
  ![v23.toNat, 0]

def k0_chk1 (v12 : BitVec 32) : Prop :=
  (∀ (k0_h2 : k0_cond2 v12 = 1#1), ∀ a, (k0_off2 v12) a + S1x5120.size a ≤ S1376x5120.size a) ∧
  (∀ (k0_h3 : k0_cond3 v12 = 1#1), ∀ a, (k0_off3 v12) a + S1x2560.size a ≤ S5536x2560.size a) ∧
  (∀ a, (k0_off4 v12) a + S1x40.size a ≤ S11072x40.size a)
theorem k0_off2_inb : ∀ (v12 : BitVec 32) (k0_hw1 : k0_chk1 v12), ∀ (k0_h2 : k0_cond2 v12 = 1#1), ∀ a, (k0_off2 v12) a + S1x5120.size a ≤ S1376x5120.size a := fun v12 k0_hw1 k0_h2 => k0_hw1.1 k0_h2
theorem k0_off3_inb : ∀ (v12 : BitVec 32) (k0_hw1 : k0_chk1 v12), ∀ (k0_h3 : k0_cond3 v12 = 1#1), ∀ a, (k0_off3 v12) a + S1x2560.size a ≤ S5536x2560.size a := fun v12 k0_hw1 k0_h3 => k0_hw1.2.1 k0_h3
theorem k0_off4_inb : ∀ (v12 : BitVec 32) (k0_hw1 : k0_chk1 v12), ∀ a, (k0_off4 v12) a + S1x40.size a ≤ S11072x40.size a := fun v12 k0_hw1 => k0_hw1.2.2

def k0_off5 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c1_i32_19 : BitVec 32 := 1#32
  let v26 : BitVec 32 := Scalar.addi v9 c1_i32_19
  let v27 : Index := Scalar.indexCast v26
  ![v27.toNat]
def k0_off6 (v28 : BitVec 32) : Fin 2 → Nat :=
  let c2_i32_947 : BitVec 32 := 2#32
  let v1234 : BitVec 32 := Scalar.shrui v28 c2_i32_947
  let c0_i32_950 : BitVec 32 := 0#32
  ![v1234.toNat, 0]
def k0_cond4 (v28 : BitVec 32) : BitVec 1 :=
  let c5504_i32_20 : BitVec 32 := 5504#32
  let v29 : BitVec 1 := Scalar.cmpi .slt v28 c5504_i32_20
  let v34 : BitVec 32 := Scalar.extui v29
  let c0_i32_23 : BitVec 32 := 0#32
  let v35 : BitVec 1 := Scalar.cmpi .ne v34 c0_i32_23
  v35

def k0_off7 (v28 : BitVec 32) : Fin 2 → Nat :=
  let c5504_i32_21 : BitVec 32 := 5504#32
  let v30 : BitVec 32 := Scalar.subi v28 c5504_i32_21
  let c0_i32_22 : BitVec 32 := 0#32
  let v31 : BitVec 32 := Scalar.maxsi v30 c0_i32_22
  let c2_i32_947 : BitVec 32 := 2#32
  let v1234 : BitVec 32 := Scalar.shrui v31 c2_i32_947
  let c0_i32_950 : BitVec 32 := 0#32
  ![v1234.toNat, 0]
def k0_cond5 (v28 : BitVec 32) : BitVec 1 :=
  let c5504_i32_20 : BitVec 32 := 5504#32
  let v29 : BitVec 1 := Scalar.cmpi .slt v28 c5504_i32_20
  let true_24 : BitVec 1 := 1#1
  let v36 : BitVec 1 := Scalar.xori v29 true_24
  let v37 : BitVec 32 := Scalar.extui v36
  let c0_i32_25 : BitVec 32 := 0#32
  let v38 : BitVec 1 := Scalar.cmpi .ne v37 c0_i32_25
  v38

def k0_off8 (v28 : BitVec 32) : Fin 2 → Nat :=
  let c5504_i32_21 : BitVec 32 := 5504#32
  let v30 : BitVec 32 := Scalar.subi v28 c5504_i32_21
  let c0_i32_22 : BitVec 32 := 0#32
  let v31 : BitVec 32 := Scalar.maxsi v30 c0_i32_22
  let c1_i32_26 : BitVec 32 := 1#32
  let v39 : BitVec 32 := Scalar.shrui v31 c1_i32_26
  let c0_i32_29 : BitVec 32 := 0#32
  ![v39.toNat, 0]

def k0_chk2 (v28 : BitVec 32) : Prop :=
  (∀ (k0_h4 : k0_cond4 v28 = 1#1), ∀ a, (k0_off6 v28) a + S1x5120.size a ≤ S1376x5120.size a) ∧
  (∀ (k0_h5 : k0_cond5 v28 = 1#1), ∀ a, (k0_off7 v28) a + S1x2560.size a ≤ S5536x2560.size a) ∧
  (∀ a, (k0_off8 v28) a + S1x40.size a ≤ S11072x40.size a)
theorem k0_off6_inb : ∀ (v28 : BitVec 32) (k0_hw2 : k0_chk2 v28), ∀ (k0_h4 : k0_cond4 v28 = 1#1), ∀ a, (k0_off6 v28) a + S1x5120.size a ≤ S1376x5120.size a := fun v28 k0_hw2 k0_h4 => k0_hw2.1 k0_h4
theorem k0_off7_inb : ∀ (v28 : BitVec 32) (k0_hw2 : k0_chk2 v28), ∀ (k0_h5 : k0_cond5 v28 = 1#1), ∀ a, (k0_off7 v28) a + S1x2560.size a ≤ S5536x2560.size a := fun v28 k0_hw2 k0_h5 => k0_hw2.2.1 k0_h5
theorem k0_off8_inb : ∀ (v28 : BitVec 32) (k0_hw2 : k0_chk2 v28), ∀ a, (k0_off8 v28) a + S1x40.size a ≤ S11072x40.size a := fun v28 k0_hw2 => k0_hw2.2.2

def k0_off9 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c2_i32 : BitVec 32 := 2#32
  let v42 : BitVec 32 := Scalar.addi v9 c2_i32
  let v43 : Index := Scalar.indexCast v42
  ![v43.toNat]
def k0_off10 (v44 : BitVec 32) : Fin 2 → Nat :=
  let c2_i32_947 : BitVec 32 := 2#32
  let v1234 : BitVec 32 := Scalar.shrui v44 c2_i32_947
  let c0_i32_950 : BitVec 32 := 0#32
  ![v1234.toNat, 0]
def k0_cond6 (v44 : BitVec 32) : BitVec 1 :=
  let c5504_i32_30 : BitVec 32 := 5504#32
  let v45 : BitVec 1 := Scalar.cmpi .slt v44 c5504_i32_30
  let v50 : BitVec 32 := Scalar.extui v45
  let c0_i32_33 : BitVec 32 := 0#32
  let v51 : BitVec 1 := Scalar.cmpi .ne v50 c0_i32_33
  v51

def k0_off11 (v44 : BitVec 32) : Fin 2 → Nat :=
  let c5504_i32_31 : BitVec 32 := 5504#32
  let v46 : BitVec 32 := Scalar.subi v44 c5504_i32_31
  let c0_i32_32 : BitVec 32 := 0#32
  let v47 : BitVec 32 := Scalar.maxsi v46 c0_i32_32
  let c2_i32_947 : BitVec 32 := 2#32
  let v1234 : BitVec 32 := Scalar.shrui v47 c2_i32_947
  let c0_i32_950 : BitVec 32 := 0#32
  ![v1234.toNat, 0]
def k0_cond7 (v44 : BitVec 32) : BitVec 1 :=
  let c5504_i32_30 : BitVec 32 := 5504#32
  let v45 : BitVec 1 := Scalar.cmpi .slt v44 c5504_i32_30
  let true_34 : BitVec 1 := 1#1
  let v52 : BitVec 1 := Scalar.xori v45 true_34
  let v53 : BitVec 32 := Scalar.extui v52
  let c0_i32_35 : BitVec 32 := 0#32
  let v54 : BitVec 1 := Scalar.cmpi .ne v53 c0_i32_35
  v54

def k0_off12 (v44 : BitVec 32) : Fin 2 → Nat :=
  let c5504_i32_31 : BitVec 32 := 5504#32
  let v46 : BitVec 32 := Scalar.subi v44 c5504_i32_31
  let c0_i32_32 : BitVec 32 := 0#32
  let v47 : BitVec 32 := Scalar.maxsi v46 c0_i32_32
  let c1_i32_36 : BitVec 32 := 1#32
  let v55 : BitVec 32 := Scalar.shrui v47 c1_i32_36
  let c0_i32_39 : BitVec 32 := 0#32
  ![v55.toNat, 0]

def k0_chk3 (v44 : BitVec 32) : Prop :=
  (∀ (k0_h6 : k0_cond6 v44 = 1#1), ∀ a, (k0_off10 v44) a + S1x5120.size a ≤ S1376x5120.size a) ∧
  (∀ (k0_h7 : k0_cond7 v44 = 1#1), ∀ a, (k0_off11 v44) a + S1x2560.size a ≤ S5536x2560.size a) ∧
  (∀ a, (k0_off12 v44) a + S1x40.size a ≤ S11072x40.size a)
theorem k0_off10_inb : ∀ (v44 : BitVec 32) (k0_hw3 : k0_chk3 v44), ∀ (k0_h6 : k0_cond6 v44 = 1#1), ∀ a, (k0_off10 v44) a + S1x5120.size a ≤ S1376x5120.size a := fun v44 k0_hw3 k0_h6 => k0_hw3.1 k0_h6
theorem k0_off11_inb : ∀ (v44 : BitVec 32) (k0_hw3 : k0_chk3 v44), ∀ (k0_h7 : k0_cond7 v44 = 1#1), ∀ a, (k0_off11 v44) a + S1x2560.size a ≤ S5536x2560.size a := fun v44 k0_hw3 k0_h7 => k0_hw3.2.1 k0_h7
theorem k0_off12_inb : ∀ (v44 : BitVec 32) (k0_hw3 : k0_chk3 v44), ∀ a, (k0_off12 v44) a + S1x40.size a ≤ S11072x40.size a := fun v44 k0_hw3 => k0_hw3.2.2

def k0_off13 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c3_i32 : BitVec 32 := 3#32
  let v58 : BitVec 32 := Scalar.addi v9 c3_i32
  let v59 : Index := Scalar.indexCast v58
  ![v59.toNat]
def k0_off14 (v60 : BitVec 32) : Fin 2 → Nat :=
  let c2_i32_947 : BitVec 32 := 2#32
  let v1234 : BitVec 32 := Scalar.shrui v60 c2_i32_947
  let c0_i32_950 : BitVec 32 := 0#32
  ![v1234.toNat, 0]
def k0_cond8 (v60 : BitVec 32) : BitVec 1 :=
  let c5504_i32_40 : BitVec 32 := 5504#32
  let v61 : BitVec 1 := Scalar.cmpi .slt v60 c5504_i32_40
  let v66 : BitVec 32 := Scalar.extui v61
  let c0_i32_43 : BitVec 32 := 0#32
  let v67 : BitVec 1 := Scalar.cmpi .ne v66 c0_i32_43
  v67

def k0_off15 (v60 : BitVec 32) : Fin 2 → Nat :=
  let c5504_i32_41 : BitVec 32 := 5504#32
  let v62 : BitVec 32 := Scalar.subi v60 c5504_i32_41
  let c0_i32_42 : BitVec 32 := 0#32
  let v63 : BitVec 32 := Scalar.maxsi v62 c0_i32_42
  let c2_i32_947 : BitVec 32 := 2#32
  let v1234 : BitVec 32 := Scalar.shrui v63 c2_i32_947
  let c0_i32_950 : BitVec 32 := 0#32
  ![v1234.toNat, 0]
def k0_cond9 (v60 : BitVec 32) : BitVec 1 :=
  let c5504_i32_40 : BitVec 32 := 5504#32
  let v61 : BitVec 1 := Scalar.cmpi .slt v60 c5504_i32_40
  let true_44 : BitVec 1 := 1#1
  let v68 : BitVec 1 := Scalar.xori v61 true_44
  let v69 : BitVec 32 := Scalar.extui v68
  let c0_i32_45 : BitVec 32 := 0#32
  let v70 : BitVec 1 := Scalar.cmpi .ne v69 c0_i32_45
  v70

def k0_off16 (v60 : BitVec 32) : Fin 2 → Nat :=
  let c5504_i32_41 : BitVec 32 := 5504#32
  let v62 : BitVec 32 := Scalar.subi v60 c5504_i32_41
  let c0_i32_42 : BitVec 32 := 0#32
  let v63 : BitVec 32 := Scalar.maxsi v62 c0_i32_42
  let c1_i32_46 : BitVec 32 := 1#32
  let v71 : BitVec 32 := Scalar.shrui v63 c1_i32_46
  let c0_i32_49 : BitVec 32 := 0#32
  ![v71.toNat, 0]

def k0_chk4 (v60 : BitVec 32) : Prop :=
  (∀ (k0_h8 : k0_cond8 v60 = 1#1), ∀ a, (k0_off14 v60) a + S1x5120.size a ≤ S1376x5120.size a) ∧
  (∀ (k0_h9 : k0_cond9 v60 = 1#1), ∀ a, (k0_off15 v60) a + S1x2560.size a ≤ S5536x2560.size a) ∧
  (∀ a, (k0_off16 v60) a + S1x40.size a ≤ S11072x40.size a)
theorem k0_off14_inb : ∀ (v60 : BitVec 32) (k0_hw4 : k0_chk4 v60), ∀ (k0_h8 : k0_cond8 v60 = 1#1), ∀ a, (k0_off14 v60) a + S1x5120.size a ≤ S1376x5120.size a := fun v60 k0_hw4 k0_h8 => k0_hw4.1 k0_h8
theorem k0_off15_inb : ∀ (v60 : BitVec 32) (k0_hw4 : k0_chk4 v60), ∀ (k0_h9 : k0_cond9 v60 = 1#1), ∀ a, (k0_off15 v60) a + S1x2560.size a ≤ S5536x2560.size a := fun v60 k0_hw4 k0_h9 => k0_hw4.2.1 k0_h9
theorem k0_off16_inb : ∀ (v60 : BitVec 32) (k0_hw4 : k0_chk4 v60), ∀ a, (k0_off16 v60) a + S1x40.size a ≤ S11072x40.size a := fun v60 k0_hw4 => k0_hw4.2.2

def k0_off17 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c4_i32 : BitVec 32 := 4#32
  let v74 : BitVec 32 := Scalar.addi v9 c4_i32
  let v75 : Index := Scalar.indexCast v74
  ![v75.toNat]
def k0_off18 (v76 : BitVec 32) : Fin 2 → Nat :=
  let c2_i32_947 : BitVec 32 := 2#32
  let v1234 : BitVec 32 := Scalar.shrui v76 c2_i32_947
  let c0_i32_950 : BitVec 32 := 0#32
  ![v1234.toNat, 0]
def k0_cond10 (v76 : BitVec 32) : BitVec 1 :=
  let c5504_i32_50 : BitVec 32 := 5504#32
  let v77 : BitVec 1 := Scalar.cmpi .slt v76 c5504_i32_50
  let v82 : BitVec 32 := Scalar.extui v77
  let c0_i32_53 : BitVec 32 := 0#32
  let v83 : BitVec 1 := Scalar.cmpi .ne v82 c0_i32_53
  v83

def k0_off19 (v76 : BitVec 32) : Fin 2 → Nat :=
  let c5504_i32_51 : BitVec 32 := 5504#32
  let v78 : BitVec 32 := Scalar.subi v76 c5504_i32_51
  let c0_i32_52 : BitVec 32 := 0#32
  let v79 : BitVec 32 := Scalar.maxsi v78 c0_i32_52
  let c2_i32_947 : BitVec 32 := 2#32
  let v1234 : BitVec 32 := Scalar.shrui v79 c2_i32_947
  let c0_i32_950 : BitVec 32 := 0#32
  ![v1234.toNat, 0]
def k0_cond11 (v76 : BitVec 32) : BitVec 1 :=
  let c5504_i32_50 : BitVec 32 := 5504#32
  let v77 : BitVec 1 := Scalar.cmpi .slt v76 c5504_i32_50
  let true_54 : BitVec 1 := 1#1
  let v84 : BitVec 1 := Scalar.xori v77 true_54
  let v85 : BitVec 32 := Scalar.extui v84
  let c0_i32_55 : BitVec 32 := 0#32
  let v86 : BitVec 1 := Scalar.cmpi .ne v85 c0_i32_55
  v86

def k0_off20 (v76 : BitVec 32) : Fin 2 → Nat :=
  let c5504_i32_51 : BitVec 32 := 5504#32
  let v78 : BitVec 32 := Scalar.subi v76 c5504_i32_51
  let c0_i32_52 : BitVec 32 := 0#32
  let v79 : BitVec 32 := Scalar.maxsi v78 c0_i32_52
  let c1_i32_56 : BitVec 32 := 1#32
  let v87 : BitVec 32 := Scalar.shrui v79 c1_i32_56
  let c0_i32_59 : BitVec 32 := 0#32
  ![v87.toNat, 0]

def k0_chk5 (v76 : BitVec 32) : Prop :=
  (∀ (k0_h10 : k0_cond10 v76 = 1#1), ∀ a, (k0_off18 v76) a + S1x5120.size a ≤ S1376x5120.size a) ∧
  (∀ (k0_h11 : k0_cond11 v76 = 1#1), ∀ a, (k0_off19 v76) a + S1x2560.size a ≤ S5536x2560.size a) ∧
  (∀ a, (k0_off20 v76) a + S1x40.size a ≤ S11072x40.size a)
theorem k0_off18_inb : ∀ (v76 : BitVec 32) (k0_hw5 : k0_chk5 v76), ∀ (k0_h10 : k0_cond10 v76 = 1#1), ∀ a, (k0_off18 v76) a + S1x5120.size a ≤ S1376x5120.size a := fun v76 k0_hw5 k0_h10 => k0_hw5.1 k0_h10
theorem k0_off19_inb : ∀ (v76 : BitVec 32) (k0_hw5 : k0_chk5 v76), ∀ (k0_h11 : k0_cond11 v76 = 1#1), ∀ a, (k0_off19 v76) a + S1x2560.size a ≤ S5536x2560.size a := fun v76 k0_hw5 k0_h11 => k0_hw5.2.1 k0_h11
theorem k0_off20_inb : ∀ (v76 : BitVec 32) (k0_hw5 : k0_chk5 v76), ∀ a, (k0_off20 v76) a + S1x40.size a ≤ S11072x40.size a := fun v76 k0_hw5 => k0_hw5.2.2

def k0_off21 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c5_i32 : BitVec 32 := 5#32
  let v90 : BitVec 32 := Scalar.addi v9 c5_i32
  let v91 : Index := Scalar.indexCast v90
  ![v91.toNat]
def k0_off22 (v92 : BitVec 32) : Fin 2 → Nat :=
  let c2_i32_947 : BitVec 32 := 2#32
  let v1234 : BitVec 32 := Scalar.shrui v92 c2_i32_947
  let c0_i32_950 : BitVec 32 := 0#32
  ![v1234.toNat, 0]
def k0_cond12 (v92 : BitVec 32) : BitVec 1 :=
  let c5504_i32_60 : BitVec 32 := 5504#32
  let v93 : BitVec 1 := Scalar.cmpi .slt v92 c5504_i32_60
  let v98 : BitVec 32 := Scalar.extui v93
  let c0_i32_63 : BitVec 32 := 0#32
  let v99 : BitVec 1 := Scalar.cmpi .ne v98 c0_i32_63
  v99

def k0_off23 (v92 : BitVec 32) : Fin 2 → Nat :=
  let c5504_i32_61 : BitVec 32 := 5504#32
  let v94 : BitVec 32 := Scalar.subi v92 c5504_i32_61
  let c0_i32_62 : BitVec 32 := 0#32
  let v95 : BitVec 32 := Scalar.maxsi v94 c0_i32_62
  let c2_i32_947 : BitVec 32 := 2#32
  let v1234 : BitVec 32 := Scalar.shrui v95 c2_i32_947
  let c0_i32_950 : BitVec 32 := 0#32
  ![v1234.toNat, 0]
def k0_cond13 (v92 : BitVec 32) : BitVec 1 :=
  let c5504_i32_60 : BitVec 32 := 5504#32
  let v93 : BitVec 1 := Scalar.cmpi .slt v92 c5504_i32_60
  let true_64 : BitVec 1 := 1#1
  let v100 : BitVec 1 := Scalar.xori v93 true_64
  let v101 : BitVec 32 := Scalar.extui v100
  let c0_i32_65 : BitVec 32 := 0#32
  let v102 : BitVec 1 := Scalar.cmpi .ne v101 c0_i32_65
  v102

def k0_off24 (v92 : BitVec 32) : Fin 2 → Nat :=
  let c5504_i32_61 : BitVec 32 := 5504#32
  let v94 : BitVec 32 := Scalar.subi v92 c5504_i32_61
  let c0_i32_62 : BitVec 32 := 0#32
  let v95 : BitVec 32 := Scalar.maxsi v94 c0_i32_62
  let c1_i32_66 : BitVec 32 := 1#32
  let v103 : BitVec 32 := Scalar.shrui v95 c1_i32_66
  let c0_i32_69 : BitVec 32 := 0#32
  ![v103.toNat, 0]

def k0_chk6 (v92 : BitVec 32) : Prop :=
  (∀ (k0_h12 : k0_cond12 v92 = 1#1), ∀ a, (k0_off22 v92) a + S1x5120.size a ≤ S1376x5120.size a) ∧
  (∀ (k0_h13 : k0_cond13 v92 = 1#1), ∀ a, (k0_off23 v92) a + S1x2560.size a ≤ S5536x2560.size a) ∧
  (∀ a, (k0_off24 v92) a + S1x40.size a ≤ S11072x40.size a)
theorem k0_off22_inb : ∀ (v92 : BitVec 32) (k0_hw6 : k0_chk6 v92), ∀ (k0_h12 : k0_cond12 v92 = 1#1), ∀ a, (k0_off22 v92) a + S1x5120.size a ≤ S1376x5120.size a := fun v92 k0_hw6 k0_h12 => k0_hw6.1 k0_h12
theorem k0_off23_inb : ∀ (v92 : BitVec 32) (k0_hw6 : k0_chk6 v92), ∀ (k0_h13 : k0_cond13 v92 = 1#1), ∀ a, (k0_off23 v92) a + S1x2560.size a ≤ S5536x2560.size a := fun v92 k0_hw6 k0_h13 => k0_hw6.2.1 k0_h13
theorem k0_off24_inb : ∀ (v92 : BitVec 32) (k0_hw6 : k0_chk6 v92), ∀ a, (k0_off24 v92) a + S1x40.size a ≤ S11072x40.size a := fun v92 k0_hw6 => k0_hw6.2.2

def k0_off25 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c6_i32 : BitVec 32 := 6#32
  let v106 : BitVec 32 := Scalar.addi v9 c6_i32
  let v107 : Index := Scalar.indexCast v106
  ![v107.toNat]
def k0_off26 (v108 : BitVec 32) : Fin 2 → Nat :=
  let c2_i32_947 : BitVec 32 := 2#32
  let v1234 : BitVec 32 := Scalar.shrui v108 c2_i32_947
  let c0_i32_950 : BitVec 32 := 0#32
  ![v1234.toNat, 0]
def k0_cond14 (v108 : BitVec 32) : BitVec 1 :=
  let c5504_i32_70 : BitVec 32 := 5504#32
  let v109 : BitVec 1 := Scalar.cmpi .slt v108 c5504_i32_70
  let v114 : BitVec 32 := Scalar.extui v109
  let c0_i32_73 : BitVec 32 := 0#32
  let v115 : BitVec 1 := Scalar.cmpi .ne v114 c0_i32_73
  v115

def k0_off27 (v108 : BitVec 32) : Fin 2 → Nat :=
  let c5504_i32_71 : BitVec 32 := 5504#32
  let v110 : BitVec 32 := Scalar.subi v108 c5504_i32_71
  let c0_i32_72 : BitVec 32 := 0#32
  let v111 : BitVec 32 := Scalar.maxsi v110 c0_i32_72
  let c2_i32_947 : BitVec 32 := 2#32
  let v1234 : BitVec 32 := Scalar.shrui v111 c2_i32_947
  let c0_i32_950 : BitVec 32 := 0#32
  ![v1234.toNat, 0]
def k0_cond15 (v108 : BitVec 32) : BitVec 1 :=
  let c5504_i32_70 : BitVec 32 := 5504#32
  let v109 : BitVec 1 := Scalar.cmpi .slt v108 c5504_i32_70
  let true_74 : BitVec 1 := 1#1
  let v116 : BitVec 1 := Scalar.xori v109 true_74
  let v117 : BitVec 32 := Scalar.extui v116
  let c0_i32_75 : BitVec 32 := 0#32
  let v118 : BitVec 1 := Scalar.cmpi .ne v117 c0_i32_75
  v118

def k0_off28 (v108 : BitVec 32) : Fin 2 → Nat :=
  let c5504_i32_71 : BitVec 32 := 5504#32
  let v110 : BitVec 32 := Scalar.subi v108 c5504_i32_71
  let c0_i32_72 : BitVec 32 := 0#32
  let v111 : BitVec 32 := Scalar.maxsi v110 c0_i32_72
  let c1_i32_76 : BitVec 32 := 1#32
  let v119 : BitVec 32 := Scalar.shrui v111 c1_i32_76
  let c0_i32_79 : BitVec 32 := 0#32
  ![v119.toNat, 0]

def k0_chk7 (v108 : BitVec 32) : Prop :=
  (∀ (k0_h14 : k0_cond14 v108 = 1#1), ∀ a, (k0_off26 v108) a + S1x5120.size a ≤ S1376x5120.size a) ∧
  (∀ (k0_h15 : k0_cond15 v108 = 1#1), ∀ a, (k0_off27 v108) a + S1x2560.size a ≤ S5536x2560.size a) ∧
  (∀ a, (k0_off28 v108) a + S1x40.size a ≤ S11072x40.size a)
theorem k0_off26_inb : ∀ (v108 : BitVec 32) (k0_hw7 : k0_chk7 v108), ∀ (k0_h14 : k0_cond14 v108 = 1#1), ∀ a, (k0_off26 v108) a + S1x5120.size a ≤ S1376x5120.size a := fun v108 k0_hw7 k0_h14 => k0_hw7.1 k0_h14
theorem k0_off27_inb : ∀ (v108 : BitVec 32) (k0_hw7 : k0_chk7 v108), ∀ (k0_h15 : k0_cond15 v108 = 1#1), ∀ a, (k0_off27 v108) a + S1x2560.size a ≤ S5536x2560.size a := fun v108 k0_hw7 k0_h15 => k0_hw7.2.1 k0_h15
theorem k0_off28_inb : ∀ (v108 : BitVec 32) (k0_hw7 : k0_chk7 v108), ∀ a, (k0_off28 v108) a + S1x40.size a ≤ S11072x40.size a := fun v108 k0_hw7 => k0_hw7.2.2

def k0_off29 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c7_i32 : BitVec 32 := 7#32
  let v122 : BitVec 32 := Scalar.addi v9 c7_i32
  let v123 : Index := Scalar.indexCast v122
  ![v123.toNat]
def k0_off30 (v124 : BitVec 32) : Fin 2 → Nat :=
  let c2_i32_947 : BitVec 32 := 2#32
  let v1234 : BitVec 32 := Scalar.shrui v124 c2_i32_947
  let c0_i32_950 : BitVec 32 := 0#32
  ![v1234.toNat, 0]
def k0_cond16 (v124 : BitVec 32) : BitVec 1 :=
  let c5504_i32_80 : BitVec 32 := 5504#32
  let v125 : BitVec 1 := Scalar.cmpi .slt v124 c5504_i32_80
  let v130 : BitVec 32 := Scalar.extui v125
  let c0_i32_83 : BitVec 32 := 0#32
  let v131 : BitVec 1 := Scalar.cmpi .ne v130 c0_i32_83
  v131

def k0_off31 (v124 : BitVec 32) : Fin 2 → Nat :=
  let c5504_i32_81 : BitVec 32 := 5504#32
  let v126 : BitVec 32 := Scalar.subi v124 c5504_i32_81
  let c0_i32_82 : BitVec 32 := 0#32
  let v127 : BitVec 32 := Scalar.maxsi v126 c0_i32_82
  let c2_i32_947 : BitVec 32 := 2#32
  let v1234 : BitVec 32 := Scalar.shrui v127 c2_i32_947
  let c0_i32_950 : BitVec 32 := 0#32
  ![v1234.toNat, 0]
def k0_cond17 (v124 : BitVec 32) : BitVec 1 :=
  let c5504_i32_80 : BitVec 32 := 5504#32
  let v125 : BitVec 1 := Scalar.cmpi .slt v124 c5504_i32_80
  let true_84 : BitVec 1 := 1#1
  let v132 : BitVec 1 := Scalar.xori v125 true_84
  let v133 : BitVec 32 := Scalar.extui v132
  let c0_i32_85 : BitVec 32 := 0#32
  let v134 : BitVec 1 := Scalar.cmpi .ne v133 c0_i32_85
  v134

def k0_off32 (v124 : BitVec 32) : Fin 2 → Nat :=
  let c5504_i32_81 : BitVec 32 := 5504#32
  let v126 : BitVec 32 := Scalar.subi v124 c5504_i32_81
  let c0_i32_82 : BitVec 32 := 0#32
  let v127 : BitVec 32 := Scalar.maxsi v126 c0_i32_82
  let c1_i32_86 : BitVec 32 := 1#32
  let v135 : BitVec 32 := Scalar.shrui v127 c1_i32_86
  let c0_i32_89 : BitVec 32 := 0#32
  ![v135.toNat, 0]

def k0_chk8 (v124 : BitVec 32) : Prop :=
  (∀ (k0_h16 : k0_cond16 v124 = 1#1), ∀ a, (k0_off30 v124) a + S1x5120.size a ≤ S1376x5120.size a) ∧
  (∀ (k0_h17 : k0_cond17 v124 = 1#1), ∀ a, (k0_off31 v124) a + S1x2560.size a ≤ S5536x2560.size a) ∧
  (∀ a, (k0_off32 v124) a + S1x40.size a ≤ S11072x40.size a)
theorem k0_off30_inb : ∀ (v124 : BitVec 32) (k0_hw8 : k0_chk8 v124), ∀ (k0_h16 : k0_cond16 v124 = 1#1), ∀ a, (k0_off30 v124) a + S1x5120.size a ≤ S1376x5120.size a := fun v124 k0_hw8 k0_h16 => k0_hw8.1 k0_h16
theorem k0_off31_inb : ∀ (v124 : BitVec 32) (k0_hw8 : k0_chk8 v124), ∀ (k0_h17 : k0_cond17 v124 = 1#1), ∀ a, (k0_off31 v124) a + S1x2560.size a ≤ S5536x2560.size a := fun v124 k0_hw8 k0_h17 => k0_hw8.2.1 k0_h17
theorem k0_off32_inb : ∀ (v124 : BitVec 32) (k0_hw8 : k0_chk8 v124), ∀ a, (k0_off32 v124) a + S1x40.size a ≤ S11072x40.size a := fun v124 k0_hw8 => k0_hw8.2.2

def k0_off33 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c8_i32_90 : BitVec 32 := 8#32
  let v138 : BitVec 32 := Scalar.addi v9 c8_i32_90
  let v139 : Index := Scalar.indexCast v138
  ![v139.toNat]
def k0_off34 (v140 : BitVec 32) : Fin 2 → Nat :=
  let c2_i32_947 : BitVec 32 := 2#32
  let v1234 : BitVec 32 := Scalar.shrui v140 c2_i32_947
  let c0_i32_950 : BitVec 32 := 0#32
  ![v1234.toNat, 0]
def k0_cond18 (v140 : BitVec 32) : BitVec 1 :=
  let c5504_i32_91 : BitVec 32 := 5504#32
  let v141 : BitVec 1 := Scalar.cmpi .slt v140 c5504_i32_91
  let v146 : BitVec 32 := Scalar.extui v141
  let c0_i32_94 : BitVec 32 := 0#32
  let v147 : BitVec 1 := Scalar.cmpi .ne v146 c0_i32_94
  v147

def k0_off35 (v140 : BitVec 32) : Fin 2 → Nat :=
  let c5504_i32_92 : BitVec 32 := 5504#32
  let v142 : BitVec 32 := Scalar.subi v140 c5504_i32_92
  let c0_i32_93 : BitVec 32 := 0#32
  let v143 : BitVec 32 := Scalar.maxsi v142 c0_i32_93
  let c2_i32_947 : BitVec 32 := 2#32
  let v1234 : BitVec 32 := Scalar.shrui v143 c2_i32_947
  let c0_i32_950 : BitVec 32 := 0#32
  ![v1234.toNat, 0]
def k0_cond19 (v140 : BitVec 32) : BitVec 1 :=
  let c5504_i32_91 : BitVec 32 := 5504#32
  let v141 : BitVec 1 := Scalar.cmpi .slt v140 c5504_i32_91
  let true_95 : BitVec 1 := 1#1
  let v148 : BitVec 1 := Scalar.xori v141 true_95
  let v149 : BitVec 32 := Scalar.extui v148
  let c0_i32_96 : BitVec 32 := 0#32
  let v150 : BitVec 1 := Scalar.cmpi .ne v149 c0_i32_96
  v150

def k0_off36 (v140 : BitVec 32) : Fin 2 → Nat :=
  let c5504_i32_92 : BitVec 32 := 5504#32
  let v142 : BitVec 32 := Scalar.subi v140 c5504_i32_92
  let c0_i32_93 : BitVec 32 := 0#32
  let v143 : BitVec 32 := Scalar.maxsi v142 c0_i32_93
  let c1_i32_97 : BitVec 32 := 1#32
  let v151 : BitVec 32 := Scalar.shrui v143 c1_i32_97
  let c0_i32_100 : BitVec 32 := 0#32
  ![v151.toNat, 0]

def k0_chk9 (v140 : BitVec 32) : Prop :=
  (∀ (k0_h18 : k0_cond18 v140 = 1#1), ∀ a, (k0_off34 v140) a + S1x5120.size a ≤ S1376x5120.size a) ∧
  (∀ (k0_h19 : k0_cond19 v140 = 1#1), ∀ a, (k0_off35 v140) a + S1x2560.size a ≤ S5536x2560.size a) ∧
  (∀ a, (k0_off36 v140) a + S1x40.size a ≤ S11072x40.size a)
theorem k0_off34_inb : ∀ (v140 : BitVec 32) (k0_hw9 : k0_chk9 v140), ∀ (k0_h18 : k0_cond18 v140 = 1#1), ∀ a, (k0_off34 v140) a + S1x5120.size a ≤ S1376x5120.size a := fun v140 k0_hw9 k0_h18 => k0_hw9.1 k0_h18
theorem k0_off35_inb : ∀ (v140 : BitVec 32) (k0_hw9 : k0_chk9 v140), ∀ (k0_h19 : k0_cond19 v140 = 1#1), ∀ a, (k0_off35 v140) a + S1x2560.size a ≤ S5536x2560.size a := fun v140 k0_hw9 k0_h19 => k0_hw9.2.1 k0_h19
theorem k0_off36_inb : ∀ (v140 : BitVec 32) (k0_hw9 : k0_chk9 v140), ∀ a, (k0_off36 v140) a + S1x40.size a ≤ S11072x40.size a := fun v140 k0_hw9 => k0_hw9.2.2

def k0_off37 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c9_i32 : BitVec 32 := 9#32
  let v154 : BitVec 32 := Scalar.addi v9 c9_i32
  let v155 : Index := Scalar.indexCast v154
  ![v155.toNat]
def k0_off38 (v156 : BitVec 32) : Fin 2 → Nat :=
  let c2_i32_947 : BitVec 32 := 2#32
  let v1234 : BitVec 32 := Scalar.shrui v156 c2_i32_947
  let c0_i32_950 : BitVec 32 := 0#32
  ![v1234.toNat, 0]
def k0_cond20 (v156 : BitVec 32) : BitVec 1 :=
  let c5504_i32_101 : BitVec 32 := 5504#32
  let v157 : BitVec 1 := Scalar.cmpi .slt v156 c5504_i32_101
  let v162 : BitVec 32 := Scalar.extui v157
  let c0_i32_104 : BitVec 32 := 0#32
  let v163 : BitVec 1 := Scalar.cmpi .ne v162 c0_i32_104
  v163

def k0_off39 (v156 : BitVec 32) : Fin 2 → Nat :=
  let c5504_i32_102 : BitVec 32 := 5504#32
  let v158 : BitVec 32 := Scalar.subi v156 c5504_i32_102
  let c0_i32_103 : BitVec 32 := 0#32
  let v159 : BitVec 32 := Scalar.maxsi v158 c0_i32_103
  let c2_i32_947 : BitVec 32 := 2#32
  let v1234 : BitVec 32 := Scalar.shrui v159 c2_i32_947
  let c0_i32_950 : BitVec 32 := 0#32
  ![v1234.toNat, 0]
def k0_cond21 (v156 : BitVec 32) : BitVec 1 :=
  let c5504_i32_101 : BitVec 32 := 5504#32
  let v157 : BitVec 1 := Scalar.cmpi .slt v156 c5504_i32_101
  let true_105 : BitVec 1 := 1#1
  let v164 : BitVec 1 := Scalar.xori v157 true_105
  let v165 : BitVec 32 := Scalar.extui v164
  let c0_i32_106 : BitVec 32 := 0#32
  let v166 : BitVec 1 := Scalar.cmpi .ne v165 c0_i32_106
  v166

def k0_off40 (v156 : BitVec 32) : Fin 2 → Nat :=
  let c5504_i32_102 : BitVec 32 := 5504#32
  let v158 : BitVec 32 := Scalar.subi v156 c5504_i32_102
  let c0_i32_103 : BitVec 32 := 0#32
  let v159 : BitVec 32 := Scalar.maxsi v158 c0_i32_103
  let c1_i32_107 : BitVec 32 := 1#32
  let v167 : BitVec 32 := Scalar.shrui v159 c1_i32_107
  let c0_i32_110 : BitVec 32 := 0#32
  ![v167.toNat, 0]

def k0_chk10 (v156 : BitVec 32) : Prop :=
  (∀ (k0_h20 : k0_cond20 v156 = 1#1), ∀ a, (k0_off38 v156) a + S1x5120.size a ≤ S1376x5120.size a) ∧
  (∀ (k0_h21 : k0_cond21 v156 = 1#1), ∀ a, (k0_off39 v156) a + S1x2560.size a ≤ S5536x2560.size a) ∧
  (∀ a, (k0_off40 v156) a + S1x40.size a ≤ S11072x40.size a)
theorem k0_off38_inb : ∀ (v156 : BitVec 32) (k0_hw10 : k0_chk10 v156), ∀ (k0_h20 : k0_cond20 v156 = 1#1), ∀ a, (k0_off38 v156) a + S1x5120.size a ≤ S1376x5120.size a := fun v156 k0_hw10 k0_h20 => k0_hw10.1 k0_h20
theorem k0_off39_inb : ∀ (v156 : BitVec 32) (k0_hw10 : k0_chk10 v156), ∀ (k0_h21 : k0_cond21 v156 = 1#1), ∀ a, (k0_off39 v156) a + S1x2560.size a ≤ S5536x2560.size a := fun v156 k0_hw10 k0_h21 => k0_hw10.2.1 k0_h21
theorem k0_off40_inb : ∀ (v156 : BitVec 32) (k0_hw10 : k0_chk10 v156), ∀ a, (k0_off40 v156) a + S1x40.size a ≤ S11072x40.size a := fun v156 k0_hw10 => k0_hw10.2.2

def k0_off41 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c10_i32 : BitVec 32 := 10#32
  let v170 : BitVec 32 := Scalar.addi v9 c10_i32
  let v171 : Index := Scalar.indexCast v170
  ![v171.toNat]
def k0_off42 (v172 : BitVec 32) : Fin 2 → Nat :=
  let c2_i32_947 : BitVec 32 := 2#32
  let v1234 : BitVec 32 := Scalar.shrui v172 c2_i32_947
  let c0_i32_950 : BitVec 32 := 0#32
  ![v1234.toNat, 0]
def k0_cond22 (v172 : BitVec 32) : BitVec 1 :=
  let c5504_i32_111 : BitVec 32 := 5504#32
  let v173 : BitVec 1 := Scalar.cmpi .slt v172 c5504_i32_111
  let v178 : BitVec 32 := Scalar.extui v173
  let c0_i32_114 : BitVec 32 := 0#32
  let v179 : BitVec 1 := Scalar.cmpi .ne v178 c0_i32_114
  v179

def k0_off43 (v172 : BitVec 32) : Fin 2 → Nat :=
  let c5504_i32_112 : BitVec 32 := 5504#32
  let v174 : BitVec 32 := Scalar.subi v172 c5504_i32_112
  let c0_i32_113 : BitVec 32 := 0#32
  let v175 : BitVec 32 := Scalar.maxsi v174 c0_i32_113
  let c2_i32_947 : BitVec 32 := 2#32
  let v1234 : BitVec 32 := Scalar.shrui v175 c2_i32_947
  let c0_i32_950 : BitVec 32 := 0#32
  ![v1234.toNat, 0]
def k0_cond23 (v172 : BitVec 32) : BitVec 1 :=
  let c5504_i32_111 : BitVec 32 := 5504#32
  let v173 : BitVec 1 := Scalar.cmpi .slt v172 c5504_i32_111
  let true_115 : BitVec 1 := 1#1
  let v180 : BitVec 1 := Scalar.xori v173 true_115
  let v181 : BitVec 32 := Scalar.extui v180
  let c0_i32_116 : BitVec 32 := 0#32
  let v182 : BitVec 1 := Scalar.cmpi .ne v181 c0_i32_116
  v182

def k0_off44 (v172 : BitVec 32) : Fin 2 → Nat :=
  let c5504_i32_112 : BitVec 32 := 5504#32
  let v174 : BitVec 32 := Scalar.subi v172 c5504_i32_112
  let c0_i32_113 : BitVec 32 := 0#32
  let v175 : BitVec 32 := Scalar.maxsi v174 c0_i32_113
  let c1_i32_117 : BitVec 32 := 1#32
  let v183 : BitVec 32 := Scalar.shrui v175 c1_i32_117
  let c0_i32_120 : BitVec 32 := 0#32
  ![v183.toNat, 0]

def k0_chk11 (v172 : BitVec 32) : Prop :=
  (∀ (k0_h22 : k0_cond22 v172 = 1#1), ∀ a, (k0_off42 v172) a + S1x5120.size a ≤ S1376x5120.size a) ∧
  (∀ (k0_h23 : k0_cond23 v172 = 1#1), ∀ a, (k0_off43 v172) a + S1x2560.size a ≤ S5536x2560.size a) ∧
  (∀ a, (k0_off44 v172) a + S1x40.size a ≤ S11072x40.size a)
theorem k0_off42_inb : ∀ (v172 : BitVec 32) (k0_hw11 : k0_chk11 v172), ∀ (k0_h22 : k0_cond22 v172 = 1#1), ∀ a, (k0_off42 v172) a + S1x5120.size a ≤ S1376x5120.size a := fun v172 k0_hw11 k0_h22 => k0_hw11.1 k0_h22
theorem k0_off43_inb : ∀ (v172 : BitVec 32) (k0_hw11 : k0_chk11 v172), ∀ (k0_h23 : k0_cond23 v172 = 1#1), ∀ a, (k0_off43 v172) a + S1x2560.size a ≤ S5536x2560.size a := fun v172 k0_hw11 k0_h23 => k0_hw11.2.1 k0_h23
theorem k0_off44_inb : ∀ (v172 : BitVec 32) (k0_hw11 : k0_chk11 v172), ∀ a, (k0_off44 v172) a + S1x40.size a ≤ S11072x40.size a := fun v172 k0_hw11 => k0_hw11.2.2

def k0_off45 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c11_i32 : BitVec 32 := 11#32
  let v186 : BitVec 32 := Scalar.addi v9 c11_i32
  let v187 : Index := Scalar.indexCast v186
  ![v187.toNat]
def k0_off46 (v188 : BitVec 32) : Fin 2 → Nat :=
  let c2_i32_947 : BitVec 32 := 2#32
  let v1234 : BitVec 32 := Scalar.shrui v188 c2_i32_947
  let c0_i32_950 : BitVec 32 := 0#32
  ![v1234.toNat, 0]
def k0_cond24 (v188 : BitVec 32) : BitVec 1 :=
  let c5504_i32_121 : BitVec 32 := 5504#32
  let v189 : BitVec 1 := Scalar.cmpi .slt v188 c5504_i32_121
  let v194 : BitVec 32 := Scalar.extui v189
  let c0_i32_124 : BitVec 32 := 0#32
  let v195 : BitVec 1 := Scalar.cmpi .ne v194 c0_i32_124
  v195

def k0_off47 (v188 : BitVec 32) : Fin 2 → Nat :=
  let c5504_i32_122 : BitVec 32 := 5504#32
  let v190 : BitVec 32 := Scalar.subi v188 c5504_i32_122
  let c0_i32_123 : BitVec 32 := 0#32
  let v191 : BitVec 32 := Scalar.maxsi v190 c0_i32_123
  let c2_i32_947 : BitVec 32 := 2#32
  let v1234 : BitVec 32 := Scalar.shrui v191 c2_i32_947
  let c0_i32_950 : BitVec 32 := 0#32
  ![v1234.toNat, 0]
def k0_cond25 (v188 : BitVec 32) : BitVec 1 :=
  let c5504_i32_121 : BitVec 32 := 5504#32
  let v189 : BitVec 1 := Scalar.cmpi .slt v188 c5504_i32_121
  let true_125 : BitVec 1 := 1#1
  let v196 : BitVec 1 := Scalar.xori v189 true_125
  let v197 : BitVec 32 := Scalar.extui v196
  let c0_i32_126 : BitVec 32 := 0#32
  let v198 : BitVec 1 := Scalar.cmpi .ne v197 c0_i32_126
  v198

def k0_off48 (v188 : BitVec 32) : Fin 2 → Nat :=
  let c5504_i32_122 : BitVec 32 := 5504#32
  let v190 : BitVec 32 := Scalar.subi v188 c5504_i32_122
  let c0_i32_123 : BitVec 32 := 0#32
  let v191 : BitVec 32 := Scalar.maxsi v190 c0_i32_123
  let c1_i32_127 : BitVec 32 := 1#32
  let v199 : BitVec 32 := Scalar.shrui v191 c1_i32_127
  let c0_i32_130 : BitVec 32 := 0#32
  ![v199.toNat, 0]

def k0_chk12 (v188 : BitVec 32) : Prop :=
  (∀ (k0_h24 : k0_cond24 v188 = 1#1), ∀ a, (k0_off46 v188) a + S1x5120.size a ≤ S1376x5120.size a) ∧
  (∀ (k0_h25 : k0_cond25 v188 = 1#1), ∀ a, (k0_off47 v188) a + S1x2560.size a ≤ S5536x2560.size a) ∧
  (∀ a, (k0_off48 v188) a + S1x40.size a ≤ S11072x40.size a)
theorem k0_off46_inb : ∀ (v188 : BitVec 32) (k0_hw12 : k0_chk12 v188), ∀ (k0_h24 : k0_cond24 v188 = 1#1), ∀ a, (k0_off46 v188) a + S1x5120.size a ≤ S1376x5120.size a := fun v188 k0_hw12 k0_h24 => k0_hw12.1 k0_h24
theorem k0_off47_inb : ∀ (v188 : BitVec 32) (k0_hw12 : k0_chk12 v188), ∀ (k0_h25 : k0_cond25 v188 = 1#1), ∀ a, (k0_off47 v188) a + S1x2560.size a ≤ S5536x2560.size a := fun v188 k0_hw12 k0_h25 => k0_hw12.2.1 k0_h25
theorem k0_off48_inb : ∀ (v188 : BitVec 32) (k0_hw12 : k0_chk12 v188), ∀ a, (k0_off48 v188) a + S1x40.size a ≤ S11072x40.size a := fun v188 k0_hw12 => k0_hw12.2.2

def k0_off49 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c12_i32_131 : BitVec 32 := 12#32
  let v202 : BitVec 32 := Scalar.addi v9 c12_i32_131
  let v203 : Index := Scalar.indexCast v202
  ![v203.toNat]
def k0_off50 (v204 : BitVec 32) : Fin 2 → Nat :=
  let c2_i32_947 : BitVec 32 := 2#32
  let v1234 : BitVec 32 := Scalar.shrui v204 c2_i32_947
  let c0_i32_950 : BitVec 32 := 0#32
  ![v1234.toNat, 0]
def k0_cond26 (v204 : BitVec 32) : BitVec 1 :=
  let c5504_i32_132 : BitVec 32 := 5504#32
  let v205 : BitVec 1 := Scalar.cmpi .slt v204 c5504_i32_132
  let v210 : BitVec 32 := Scalar.extui v205
  let c0_i32_135 : BitVec 32 := 0#32
  let v211 : BitVec 1 := Scalar.cmpi .ne v210 c0_i32_135
  v211

def k0_off51 (v204 : BitVec 32) : Fin 2 → Nat :=
  let c5504_i32_133 : BitVec 32 := 5504#32
  let v206 : BitVec 32 := Scalar.subi v204 c5504_i32_133
  let c0_i32_134 : BitVec 32 := 0#32
  let v207 : BitVec 32 := Scalar.maxsi v206 c0_i32_134
  let c2_i32_947 : BitVec 32 := 2#32
  let v1234 : BitVec 32 := Scalar.shrui v207 c2_i32_947
  let c0_i32_950 : BitVec 32 := 0#32
  ![v1234.toNat, 0]
def k0_cond27 (v204 : BitVec 32) : BitVec 1 :=
  let c5504_i32_132 : BitVec 32 := 5504#32
  let v205 : BitVec 1 := Scalar.cmpi .slt v204 c5504_i32_132
  let true_136 : BitVec 1 := 1#1
  let v212 : BitVec 1 := Scalar.xori v205 true_136
  let v213 : BitVec 32 := Scalar.extui v212
  let c0_i32_137 : BitVec 32 := 0#32
  let v214 : BitVec 1 := Scalar.cmpi .ne v213 c0_i32_137
  v214

def k0_off52 (v204 : BitVec 32) : Fin 2 → Nat :=
  let c5504_i32_133 : BitVec 32 := 5504#32
  let v206 : BitVec 32 := Scalar.subi v204 c5504_i32_133
  let c0_i32_134 : BitVec 32 := 0#32
  let v207 : BitVec 32 := Scalar.maxsi v206 c0_i32_134
  let c1_i32_138 : BitVec 32 := 1#32
  let v215 : BitVec 32 := Scalar.shrui v207 c1_i32_138
  let c0_i32_141 : BitVec 32 := 0#32
  ![v215.toNat, 0]

def k0_chk13 (v204 : BitVec 32) : Prop :=
  (∀ (k0_h26 : k0_cond26 v204 = 1#1), ∀ a, (k0_off50 v204) a + S1x5120.size a ≤ S1376x5120.size a) ∧
  (∀ (k0_h27 : k0_cond27 v204 = 1#1), ∀ a, (k0_off51 v204) a + S1x2560.size a ≤ S5536x2560.size a) ∧
  (∀ a, (k0_off52 v204) a + S1x40.size a ≤ S11072x40.size a)
theorem k0_off50_inb : ∀ (v204 : BitVec 32) (k0_hw13 : k0_chk13 v204), ∀ (k0_h26 : k0_cond26 v204 = 1#1), ∀ a, (k0_off50 v204) a + S1x5120.size a ≤ S1376x5120.size a := fun v204 k0_hw13 k0_h26 => k0_hw13.1 k0_h26
theorem k0_off51_inb : ∀ (v204 : BitVec 32) (k0_hw13 : k0_chk13 v204), ∀ (k0_h27 : k0_cond27 v204 = 1#1), ∀ a, (k0_off51 v204) a + S1x2560.size a ≤ S5536x2560.size a := fun v204 k0_hw13 k0_h27 => k0_hw13.2.1 k0_h27
theorem k0_off52_inb : ∀ (v204 : BitVec 32) (k0_hw13 : k0_chk13 v204), ∀ a, (k0_off52 v204) a + S1x40.size a ≤ S11072x40.size a := fun v204 k0_hw13 => k0_hw13.2.2

def k0_off53 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c13_i32 : BitVec 32 := 13#32
  let v218 : BitVec 32 := Scalar.addi v9 c13_i32
  let v219 : Index := Scalar.indexCast v218
  ![v219.toNat]
def k0_off54 (v220 : BitVec 32) : Fin 2 → Nat :=
  let c2_i32_947 : BitVec 32 := 2#32
  let v1234 : BitVec 32 := Scalar.shrui v220 c2_i32_947
  let c0_i32_950 : BitVec 32 := 0#32
  ![v1234.toNat, 0]
def k0_cond28 (v220 : BitVec 32) : BitVec 1 :=
  let c5504_i32_142 : BitVec 32 := 5504#32
  let v221 : BitVec 1 := Scalar.cmpi .slt v220 c5504_i32_142
  let v226 : BitVec 32 := Scalar.extui v221
  let c0_i32_145 : BitVec 32 := 0#32
  let v227 : BitVec 1 := Scalar.cmpi .ne v226 c0_i32_145
  v227

def k0_off55 (v220 : BitVec 32) : Fin 2 → Nat :=
  let c5504_i32_143 : BitVec 32 := 5504#32
  let v222 : BitVec 32 := Scalar.subi v220 c5504_i32_143
  let c0_i32_144 : BitVec 32 := 0#32
  let v223 : BitVec 32 := Scalar.maxsi v222 c0_i32_144
  let c2_i32_947 : BitVec 32 := 2#32
  let v1234 : BitVec 32 := Scalar.shrui v223 c2_i32_947
  let c0_i32_950 : BitVec 32 := 0#32
  ![v1234.toNat, 0]
def k0_cond29 (v220 : BitVec 32) : BitVec 1 :=
  let c5504_i32_142 : BitVec 32 := 5504#32
  let v221 : BitVec 1 := Scalar.cmpi .slt v220 c5504_i32_142
  let true_146 : BitVec 1 := 1#1
  let v228 : BitVec 1 := Scalar.xori v221 true_146
  let v229 : BitVec 32 := Scalar.extui v228
  let c0_i32_147 : BitVec 32 := 0#32
  let v230 : BitVec 1 := Scalar.cmpi .ne v229 c0_i32_147
  v230

def k0_off56 (v220 : BitVec 32) : Fin 2 → Nat :=
  let c5504_i32_143 : BitVec 32 := 5504#32
  let v222 : BitVec 32 := Scalar.subi v220 c5504_i32_143
  let c0_i32_144 : BitVec 32 := 0#32
  let v223 : BitVec 32 := Scalar.maxsi v222 c0_i32_144
  let c1_i32_148 : BitVec 32 := 1#32
  let v231 : BitVec 32 := Scalar.shrui v223 c1_i32_148
  let c0_i32_151 : BitVec 32 := 0#32
  ![v231.toNat, 0]

def k0_chk14 (v220 : BitVec 32) : Prop :=
  (∀ (k0_h28 : k0_cond28 v220 = 1#1), ∀ a, (k0_off54 v220) a + S1x5120.size a ≤ S1376x5120.size a) ∧
  (∀ (k0_h29 : k0_cond29 v220 = 1#1), ∀ a, (k0_off55 v220) a + S1x2560.size a ≤ S5536x2560.size a) ∧
  (∀ a, (k0_off56 v220) a + S1x40.size a ≤ S11072x40.size a)
theorem k0_off54_inb : ∀ (v220 : BitVec 32) (k0_hw14 : k0_chk14 v220), ∀ (k0_h28 : k0_cond28 v220 = 1#1), ∀ a, (k0_off54 v220) a + S1x5120.size a ≤ S1376x5120.size a := fun v220 k0_hw14 k0_h28 => k0_hw14.1 k0_h28
theorem k0_off55_inb : ∀ (v220 : BitVec 32) (k0_hw14 : k0_chk14 v220), ∀ (k0_h29 : k0_cond29 v220 = 1#1), ∀ a, (k0_off55 v220) a + S1x2560.size a ≤ S5536x2560.size a := fun v220 k0_hw14 k0_h29 => k0_hw14.2.1 k0_h29
theorem k0_off56_inb : ∀ (v220 : BitVec 32) (k0_hw14 : k0_chk14 v220), ∀ a, (k0_off56 v220) a + S1x40.size a ≤ S11072x40.size a := fun v220 k0_hw14 => k0_hw14.2.2

def k0_off57 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c14_i32 : BitVec 32 := 14#32
  let v234 : BitVec 32 := Scalar.addi v9 c14_i32
  let v235 : Index := Scalar.indexCast v234
  ![v235.toNat]
def k0_off58 (v236 : BitVec 32) : Fin 2 → Nat :=
  let c2_i32_947 : BitVec 32 := 2#32
  let v1234 : BitVec 32 := Scalar.shrui v236 c2_i32_947
  let c0_i32_950 : BitVec 32 := 0#32
  ![v1234.toNat, 0]
def k0_cond30 (v236 : BitVec 32) : BitVec 1 :=
  let c5504_i32_152 : BitVec 32 := 5504#32
  let v237 : BitVec 1 := Scalar.cmpi .slt v236 c5504_i32_152
  let v242 : BitVec 32 := Scalar.extui v237
  let c0_i32_155 : BitVec 32 := 0#32
  let v243 : BitVec 1 := Scalar.cmpi .ne v242 c0_i32_155
  v243

def k0_off59 (v236 : BitVec 32) : Fin 2 → Nat :=
  let c5504_i32_153 : BitVec 32 := 5504#32
  let v238 : BitVec 32 := Scalar.subi v236 c5504_i32_153
  let c0_i32_154 : BitVec 32 := 0#32
  let v239 : BitVec 32 := Scalar.maxsi v238 c0_i32_154
  let c2_i32_947 : BitVec 32 := 2#32
  let v1234 : BitVec 32 := Scalar.shrui v239 c2_i32_947
  let c0_i32_950 : BitVec 32 := 0#32
  ![v1234.toNat, 0]
def k0_cond31 (v236 : BitVec 32) : BitVec 1 :=
  let c5504_i32_152 : BitVec 32 := 5504#32
  let v237 : BitVec 1 := Scalar.cmpi .slt v236 c5504_i32_152
  let true_156 : BitVec 1 := 1#1
  let v244 : BitVec 1 := Scalar.xori v237 true_156
  let v245 : BitVec 32 := Scalar.extui v244
  let c0_i32_157 : BitVec 32 := 0#32
  let v246 : BitVec 1 := Scalar.cmpi .ne v245 c0_i32_157
  v246

def k0_off60 (v236 : BitVec 32) : Fin 2 → Nat :=
  let c5504_i32_153 : BitVec 32 := 5504#32
  let v238 : BitVec 32 := Scalar.subi v236 c5504_i32_153
  let c0_i32_154 : BitVec 32 := 0#32
  let v239 : BitVec 32 := Scalar.maxsi v238 c0_i32_154
  let c1_i32_158 : BitVec 32 := 1#32
  let v247 : BitVec 32 := Scalar.shrui v239 c1_i32_158
  let c0_i32_161 : BitVec 32 := 0#32
  ![v247.toNat, 0]

def k0_chk15 (v236 : BitVec 32) : Prop :=
  (∀ (k0_h30 : k0_cond30 v236 = 1#1), ∀ a, (k0_off58 v236) a + S1x5120.size a ≤ S1376x5120.size a) ∧
  (∀ (k0_h31 : k0_cond31 v236 = 1#1), ∀ a, (k0_off59 v236) a + S1x2560.size a ≤ S5536x2560.size a) ∧
  (∀ a, (k0_off60 v236) a + S1x40.size a ≤ S11072x40.size a)
theorem k0_off58_inb : ∀ (v236 : BitVec 32) (k0_hw15 : k0_chk15 v236), ∀ (k0_h30 : k0_cond30 v236 = 1#1), ∀ a, (k0_off58 v236) a + S1x5120.size a ≤ S1376x5120.size a := fun v236 k0_hw15 k0_h30 => k0_hw15.1 k0_h30
theorem k0_off59_inb : ∀ (v236 : BitVec 32) (k0_hw15 : k0_chk15 v236), ∀ (k0_h31 : k0_cond31 v236 = 1#1), ∀ a, (k0_off59 v236) a + S1x2560.size a ≤ S5536x2560.size a := fun v236 k0_hw15 k0_h31 => k0_hw15.2.1 k0_h31
theorem k0_off60_inb : ∀ (v236 : BitVec 32) (k0_hw15 : k0_chk15 v236), ∀ a, (k0_off60 v236) a + S1x40.size a ≤ S11072x40.size a := fun v236 k0_hw15 => k0_hw15.2.2

def k0_off61 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c15_i32 : BitVec 32 := 15#32
  let v250 : BitVec 32 := Scalar.addi v9 c15_i32
  let v251 : Index := Scalar.indexCast v250
  ![v251.toNat]
def k0_off62 (v252 : BitVec 32) : Fin 2 → Nat :=
  let c2_i32_947 : BitVec 32 := 2#32
  let v1234 : BitVec 32 := Scalar.shrui v252 c2_i32_947
  let c0_i32_950 : BitVec 32 := 0#32
  ![v1234.toNat, 0]
def k0_cond32 (v252 : BitVec 32) : BitVec 1 :=
  let c5504_i32_162 : BitVec 32 := 5504#32
  let v253 : BitVec 1 := Scalar.cmpi .slt v252 c5504_i32_162
  let v258 : BitVec 32 := Scalar.extui v253
  let c0_i32_165 : BitVec 32 := 0#32
  let v259 : BitVec 1 := Scalar.cmpi .ne v258 c0_i32_165
  v259

def k0_off63 (v252 : BitVec 32) : Fin 2 → Nat :=
  let c5504_i32_163 : BitVec 32 := 5504#32
  let v254 : BitVec 32 := Scalar.subi v252 c5504_i32_163
  let c0_i32_164 : BitVec 32 := 0#32
  let v255 : BitVec 32 := Scalar.maxsi v254 c0_i32_164
  let c2_i32_947 : BitVec 32 := 2#32
  let v1234 : BitVec 32 := Scalar.shrui v255 c2_i32_947
  let c0_i32_950 : BitVec 32 := 0#32
  ![v1234.toNat, 0]
def k0_cond33 (v252 : BitVec 32) : BitVec 1 :=
  let c5504_i32_162 : BitVec 32 := 5504#32
  let v253 : BitVec 1 := Scalar.cmpi .slt v252 c5504_i32_162
  let true_166 : BitVec 1 := 1#1
  let v260 : BitVec 1 := Scalar.xori v253 true_166
  let v261 : BitVec 32 := Scalar.extui v260
  let c0_i32_167 : BitVec 32 := 0#32
  let v262 : BitVec 1 := Scalar.cmpi .ne v261 c0_i32_167
  v262

def k0_off64 (v252 : BitVec 32) : Fin 2 → Nat :=
  let c5504_i32_163 : BitVec 32 := 5504#32
  let v254 : BitVec 32 := Scalar.subi v252 c5504_i32_163
  let c0_i32_164 : BitVec 32 := 0#32
  let v255 : BitVec 32 := Scalar.maxsi v254 c0_i32_164
  let c1_i32_168 : BitVec 32 := 1#32
  let v263 : BitVec 32 := Scalar.shrui v255 c1_i32_168
  let c0_i32_171 : BitVec 32 := 0#32
  ![v263.toNat, 0]

def k0_chk16 (v252 : BitVec 32) : Prop :=
  (∀ (k0_h32 : k0_cond32 v252 = 1#1), ∀ a, (k0_off62 v252) a + S1x5120.size a ≤ S1376x5120.size a) ∧
  (∀ (k0_h33 : k0_cond33 v252 = 1#1), ∀ a, (k0_off63 v252) a + S1x2560.size a ≤ S5536x2560.size a) ∧
  (∀ a, (k0_off64 v252) a + S1x40.size a ≤ S11072x40.size a)
theorem k0_off62_inb : ∀ (v252 : BitVec 32) (k0_hw16 : k0_chk16 v252), ∀ (k0_h32 : k0_cond32 v252 = 1#1), ∀ a, (k0_off62 v252) a + S1x5120.size a ≤ S1376x5120.size a := fun v252 k0_hw16 k0_h32 => k0_hw16.1 k0_h32
theorem k0_off63_inb : ∀ (v252 : BitVec 32) (k0_hw16 : k0_chk16 v252), ∀ (k0_h33 : k0_cond33 v252 = 1#1), ∀ a, (k0_off63 v252) a + S1x2560.size a ≤ S5536x2560.size a := fun v252 k0_hw16 k0_h33 => k0_hw16.2.1 k0_h33
theorem k0_off64_inb : ∀ (v252 : BitVec 32) (k0_hw16 : k0_chk16 v252), ∀ a, (k0_off64 v252) a + S1x40.size a ≤ S11072x40.size a := fun v252 k0_hw16 => k0_hw16.2.2

def k0_off65 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c16_i32 : BitVec 32 := 16#32
  let v266 : BitVec 32 := Scalar.addi v9 c16_i32
  let v267 : Index := Scalar.indexCast v266
  ![v267.toNat]
def k0_off66 (v268 : BitVec 32) : Fin 2 → Nat :=
  let c2_i32_947 : BitVec 32 := 2#32
  let v1234 : BitVec 32 := Scalar.shrui v268 c2_i32_947
  let c0_i32_950 : BitVec 32 := 0#32
  ![v1234.toNat, 0]
def k0_cond34 (v268 : BitVec 32) : BitVec 1 :=
  let c5504_i32_172 : BitVec 32 := 5504#32
  let v269 : BitVec 1 := Scalar.cmpi .slt v268 c5504_i32_172
  let v274 : BitVec 32 := Scalar.extui v269
  let c0_i32_175 : BitVec 32 := 0#32
  let v275 : BitVec 1 := Scalar.cmpi .ne v274 c0_i32_175
  v275

def k0_off67 (v268 : BitVec 32) : Fin 2 → Nat :=
  let c5504_i32_173 : BitVec 32 := 5504#32
  let v270 : BitVec 32 := Scalar.subi v268 c5504_i32_173
  let c0_i32_174 : BitVec 32 := 0#32
  let v271 : BitVec 32 := Scalar.maxsi v270 c0_i32_174
  let c2_i32_947 : BitVec 32 := 2#32
  let v1234 : BitVec 32 := Scalar.shrui v271 c2_i32_947
  let c0_i32_950 : BitVec 32 := 0#32
  ![v1234.toNat, 0]
def k0_cond35 (v268 : BitVec 32) : BitVec 1 :=
  let c5504_i32_172 : BitVec 32 := 5504#32
  let v269 : BitVec 1 := Scalar.cmpi .slt v268 c5504_i32_172
  let true_176 : BitVec 1 := 1#1
  let v276 : BitVec 1 := Scalar.xori v269 true_176
  let v277 : BitVec 32 := Scalar.extui v276
  let c0_i32_177 : BitVec 32 := 0#32
  let v278 : BitVec 1 := Scalar.cmpi .ne v277 c0_i32_177
  v278

def k0_off68 (v268 : BitVec 32) : Fin 2 → Nat :=
  let c5504_i32_173 : BitVec 32 := 5504#32
  let v270 : BitVec 32 := Scalar.subi v268 c5504_i32_173
  let c0_i32_174 : BitVec 32 := 0#32
  let v271 : BitVec 32 := Scalar.maxsi v270 c0_i32_174
  let c1_i32_178 : BitVec 32 := 1#32
  let v279 : BitVec 32 := Scalar.shrui v271 c1_i32_178
  let c0_i32_181 : BitVec 32 := 0#32
  ![v279.toNat, 0]

def k0_chk17 (v268 : BitVec 32) : Prop :=
  (∀ (k0_h34 : k0_cond34 v268 = 1#1), ∀ a, (k0_off66 v268) a + S1x5120.size a ≤ S1376x5120.size a) ∧
  (∀ (k0_h35 : k0_cond35 v268 = 1#1), ∀ a, (k0_off67 v268) a + S1x2560.size a ≤ S5536x2560.size a) ∧
  (∀ a, (k0_off68 v268) a + S1x40.size a ≤ S11072x40.size a)
theorem k0_off66_inb : ∀ (v268 : BitVec 32) (k0_hw17 : k0_chk17 v268), ∀ (k0_h34 : k0_cond34 v268 = 1#1), ∀ a, (k0_off66 v268) a + S1x5120.size a ≤ S1376x5120.size a := fun v268 k0_hw17 k0_h34 => k0_hw17.1 k0_h34
theorem k0_off67_inb : ∀ (v268 : BitVec 32) (k0_hw17 : k0_chk17 v268), ∀ (k0_h35 : k0_cond35 v268 = 1#1), ∀ a, (k0_off67 v268) a + S1x2560.size a ≤ S5536x2560.size a := fun v268 k0_hw17 k0_h35 => k0_hw17.2.1 k0_h35
theorem k0_off68_inb : ∀ (v268 : BitVec 32) (k0_hw17 : k0_chk17 v268), ∀ a, (k0_off68 v268) a + S1x40.size a ≤ S11072x40.size a := fun v268 k0_hw17 => k0_hw17.2.2

def k0_off69 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c17_i32 : BitVec 32 := 17#32
  let v282 : BitVec 32 := Scalar.addi v9 c17_i32
  let v283 : Index := Scalar.indexCast v282
  ![v283.toNat]
def k0_off70 (v284 : BitVec 32) : Fin 2 → Nat :=
  let c2_i32_947 : BitVec 32 := 2#32
  let v1234 : BitVec 32 := Scalar.shrui v284 c2_i32_947
  let c0_i32_950 : BitVec 32 := 0#32
  ![v1234.toNat, 0]
def k0_cond36 (v284 : BitVec 32) : BitVec 1 :=
  let c5504_i32_182 : BitVec 32 := 5504#32
  let v285 : BitVec 1 := Scalar.cmpi .slt v284 c5504_i32_182
  let v290 : BitVec 32 := Scalar.extui v285
  let c0_i32_185 : BitVec 32 := 0#32
  let v291 : BitVec 1 := Scalar.cmpi .ne v290 c0_i32_185
  v291

def k0_off71 (v284 : BitVec 32) : Fin 2 → Nat :=
  let c5504_i32_183 : BitVec 32 := 5504#32
  let v286 : BitVec 32 := Scalar.subi v284 c5504_i32_183
  let c0_i32_184 : BitVec 32 := 0#32
  let v287 : BitVec 32 := Scalar.maxsi v286 c0_i32_184
  let c2_i32_947 : BitVec 32 := 2#32
  let v1234 : BitVec 32 := Scalar.shrui v287 c2_i32_947
  let c0_i32_950 : BitVec 32 := 0#32
  ![v1234.toNat, 0]
def k0_cond37 (v284 : BitVec 32) : BitVec 1 :=
  let c5504_i32_182 : BitVec 32 := 5504#32
  let v285 : BitVec 1 := Scalar.cmpi .slt v284 c5504_i32_182
  let true_186 : BitVec 1 := 1#1
  let v292 : BitVec 1 := Scalar.xori v285 true_186
  let v293 : BitVec 32 := Scalar.extui v292
  let c0_i32_187 : BitVec 32 := 0#32
  let v294 : BitVec 1 := Scalar.cmpi .ne v293 c0_i32_187
  v294

def k0_off72 (v284 : BitVec 32) : Fin 2 → Nat :=
  let c5504_i32_183 : BitVec 32 := 5504#32
  let v286 : BitVec 32 := Scalar.subi v284 c5504_i32_183
  let c0_i32_184 : BitVec 32 := 0#32
  let v287 : BitVec 32 := Scalar.maxsi v286 c0_i32_184
  let c1_i32_188 : BitVec 32 := 1#32
  let v295 : BitVec 32 := Scalar.shrui v287 c1_i32_188
  let c0_i32_191 : BitVec 32 := 0#32
  ![v295.toNat, 0]

def k0_chk18 (v284 : BitVec 32) : Prop :=
  (∀ (k0_h36 : k0_cond36 v284 = 1#1), ∀ a, (k0_off70 v284) a + S1x5120.size a ≤ S1376x5120.size a) ∧
  (∀ (k0_h37 : k0_cond37 v284 = 1#1), ∀ a, (k0_off71 v284) a + S1x2560.size a ≤ S5536x2560.size a) ∧
  (∀ a, (k0_off72 v284) a + S1x40.size a ≤ S11072x40.size a)
theorem k0_off70_inb : ∀ (v284 : BitVec 32) (k0_hw18 : k0_chk18 v284), ∀ (k0_h36 : k0_cond36 v284 = 1#1), ∀ a, (k0_off70 v284) a + S1x5120.size a ≤ S1376x5120.size a := fun v284 k0_hw18 k0_h36 => k0_hw18.1 k0_h36
theorem k0_off71_inb : ∀ (v284 : BitVec 32) (k0_hw18 : k0_chk18 v284), ∀ (k0_h37 : k0_cond37 v284 = 1#1), ∀ a, (k0_off71 v284) a + S1x2560.size a ≤ S5536x2560.size a := fun v284 k0_hw18 k0_h37 => k0_hw18.2.1 k0_h37
theorem k0_off72_inb : ∀ (v284 : BitVec 32) (k0_hw18 : k0_chk18 v284), ∀ a, (k0_off72 v284) a + S1x40.size a ≤ S11072x40.size a := fun v284 k0_hw18 => k0_hw18.2.2

def k0_off73 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c18_i32 : BitVec 32 := 18#32
  let v298 : BitVec 32 := Scalar.addi v9 c18_i32
  let v299 : Index := Scalar.indexCast v298
  ![v299.toNat]
def k0_off74 (v300 : BitVec 32) : Fin 2 → Nat :=
  let c2_i32_947 : BitVec 32 := 2#32
  let v1234 : BitVec 32 := Scalar.shrui v300 c2_i32_947
  let c0_i32_950 : BitVec 32 := 0#32
  ![v1234.toNat, 0]
def k0_cond38 (v300 : BitVec 32) : BitVec 1 :=
  let c5504_i32_192 : BitVec 32 := 5504#32
  let v301 : BitVec 1 := Scalar.cmpi .slt v300 c5504_i32_192
  let v306 : BitVec 32 := Scalar.extui v301
  let c0_i32_195 : BitVec 32 := 0#32
  let v307 : BitVec 1 := Scalar.cmpi .ne v306 c0_i32_195
  v307

def k0_off75 (v300 : BitVec 32) : Fin 2 → Nat :=
  let c5504_i32_193 : BitVec 32 := 5504#32
  let v302 : BitVec 32 := Scalar.subi v300 c5504_i32_193
  let c0_i32_194 : BitVec 32 := 0#32
  let v303 : BitVec 32 := Scalar.maxsi v302 c0_i32_194
  let c2_i32_947 : BitVec 32 := 2#32
  let v1234 : BitVec 32 := Scalar.shrui v303 c2_i32_947
  let c0_i32_950 : BitVec 32 := 0#32
  ![v1234.toNat, 0]
def k0_cond39 (v300 : BitVec 32) : BitVec 1 :=
  let c5504_i32_192 : BitVec 32 := 5504#32
  let v301 : BitVec 1 := Scalar.cmpi .slt v300 c5504_i32_192
  let true_196 : BitVec 1 := 1#1
  let v308 : BitVec 1 := Scalar.xori v301 true_196
  let v309 : BitVec 32 := Scalar.extui v308
  let c0_i32_197 : BitVec 32 := 0#32
  let v310 : BitVec 1 := Scalar.cmpi .ne v309 c0_i32_197
  v310

def k0_off76 (v300 : BitVec 32) : Fin 2 → Nat :=
  let c5504_i32_193 : BitVec 32 := 5504#32
  let v302 : BitVec 32 := Scalar.subi v300 c5504_i32_193
  let c0_i32_194 : BitVec 32 := 0#32
  let v303 : BitVec 32 := Scalar.maxsi v302 c0_i32_194
  let c1_i32_198 : BitVec 32 := 1#32
  let v311 : BitVec 32 := Scalar.shrui v303 c1_i32_198
  let c0_i32_201 : BitVec 32 := 0#32
  ![v311.toNat, 0]

def k0_chk19 (v300 : BitVec 32) : Prop :=
  (∀ (k0_h38 : k0_cond38 v300 = 1#1), ∀ a, (k0_off74 v300) a + S1x5120.size a ≤ S1376x5120.size a) ∧
  (∀ (k0_h39 : k0_cond39 v300 = 1#1), ∀ a, (k0_off75 v300) a + S1x2560.size a ≤ S5536x2560.size a) ∧
  (∀ a, (k0_off76 v300) a + S1x40.size a ≤ S11072x40.size a)
theorem k0_off74_inb : ∀ (v300 : BitVec 32) (k0_hw19 : k0_chk19 v300), ∀ (k0_h38 : k0_cond38 v300 = 1#1), ∀ a, (k0_off74 v300) a + S1x5120.size a ≤ S1376x5120.size a := fun v300 k0_hw19 k0_h38 => k0_hw19.1 k0_h38
theorem k0_off75_inb : ∀ (v300 : BitVec 32) (k0_hw19 : k0_chk19 v300), ∀ (k0_h39 : k0_cond39 v300 = 1#1), ∀ a, (k0_off75 v300) a + S1x2560.size a ≤ S5536x2560.size a := fun v300 k0_hw19 k0_h39 => k0_hw19.2.1 k0_h39
theorem k0_off76_inb : ∀ (v300 : BitVec 32) (k0_hw19 : k0_chk19 v300), ∀ a, (k0_off76 v300) a + S1x40.size a ≤ S11072x40.size a := fun v300 k0_hw19 => k0_hw19.2.2

def k0_off77 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c19_i32 : BitVec 32 := 19#32
  let v314 : BitVec 32 := Scalar.addi v9 c19_i32
  let v315 : Index := Scalar.indexCast v314
  ![v315.toNat]
def k0_off78 (v316 : BitVec 32) : Fin 2 → Nat :=
  let c2_i32_947 : BitVec 32 := 2#32
  let v1234 : BitVec 32 := Scalar.shrui v316 c2_i32_947
  let c0_i32_950 : BitVec 32 := 0#32
  ![v1234.toNat, 0]
def k0_cond40 (v316 : BitVec 32) : BitVec 1 :=
  let c5504_i32_202 : BitVec 32 := 5504#32
  let v317 : BitVec 1 := Scalar.cmpi .slt v316 c5504_i32_202
  let v322 : BitVec 32 := Scalar.extui v317
  let c0_i32_205 : BitVec 32 := 0#32
  let v323 : BitVec 1 := Scalar.cmpi .ne v322 c0_i32_205
  v323

def k0_off79 (v316 : BitVec 32) : Fin 2 → Nat :=
  let c5504_i32_203 : BitVec 32 := 5504#32
  let v318 : BitVec 32 := Scalar.subi v316 c5504_i32_203
  let c0_i32_204 : BitVec 32 := 0#32
  let v319 : BitVec 32 := Scalar.maxsi v318 c0_i32_204
  let c2_i32_947 : BitVec 32 := 2#32
  let v1234 : BitVec 32 := Scalar.shrui v319 c2_i32_947
  let c0_i32_950 : BitVec 32 := 0#32
  ![v1234.toNat, 0]
def k0_cond41 (v316 : BitVec 32) : BitVec 1 :=
  let c5504_i32_202 : BitVec 32 := 5504#32
  let v317 : BitVec 1 := Scalar.cmpi .slt v316 c5504_i32_202
  let true_206 : BitVec 1 := 1#1
  let v324 : BitVec 1 := Scalar.xori v317 true_206
  let v325 : BitVec 32 := Scalar.extui v324
  let c0_i32_207 : BitVec 32 := 0#32
  let v326 : BitVec 1 := Scalar.cmpi .ne v325 c0_i32_207
  v326

def k0_off80 (v316 : BitVec 32) : Fin 2 → Nat :=
  let c5504_i32_203 : BitVec 32 := 5504#32
  let v318 : BitVec 32 := Scalar.subi v316 c5504_i32_203
  let c0_i32_204 : BitVec 32 := 0#32
  let v319 : BitVec 32 := Scalar.maxsi v318 c0_i32_204
  let c1_i32_208 : BitVec 32 := 1#32
  let v327 : BitVec 32 := Scalar.shrui v319 c1_i32_208
  let c0_i32_211 : BitVec 32 := 0#32
  ![v327.toNat, 0]

def k0_chk20 (v316 : BitVec 32) : Prop :=
  (∀ (k0_h40 : k0_cond40 v316 = 1#1), ∀ a, (k0_off78 v316) a + S1x5120.size a ≤ S1376x5120.size a) ∧
  (∀ (k0_h41 : k0_cond41 v316 = 1#1), ∀ a, (k0_off79 v316) a + S1x2560.size a ≤ S5536x2560.size a) ∧
  (∀ a, (k0_off80 v316) a + S1x40.size a ≤ S11072x40.size a)
theorem k0_off78_inb : ∀ (v316 : BitVec 32) (k0_hw20 : k0_chk20 v316), ∀ (k0_h40 : k0_cond40 v316 = 1#1), ∀ a, (k0_off78 v316) a + S1x5120.size a ≤ S1376x5120.size a := fun v316 k0_hw20 k0_h40 => k0_hw20.1 k0_h40
theorem k0_off79_inb : ∀ (v316 : BitVec 32) (k0_hw20 : k0_chk20 v316), ∀ (k0_h41 : k0_cond41 v316 = 1#1), ∀ a, (k0_off79 v316) a + S1x2560.size a ≤ S5536x2560.size a := fun v316 k0_hw20 k0_h41 => k0_hw20.2.1 k0_h41
theorem k0_off80_inb : ∀ (v316 : BitVec 32) (k0_hw20 : k0_chk20 v316), ∀ a, (k0_off80 v316) a + S1x40.size a ≤ S11072x40.size a := fun v316 k0_hw20 => k0_hw20.2.2

def k0_off81 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c20_i32 : BitVec 32 := 20#32
  let v330 : BitVec 32 := Scalar.addi v9 c20_i32
  let v331 : Index := Scalar.indexCast v330
  ![v331.toNat]
def k0_off82 (v332 : BitVec 32) : Fin 2 → Nat :=
  let c2_i32_947 : BitVec 32 := 2#32
  let v1234 : BitVec 32 := Scalar.shrui v332 c2_i32_947
  let c0_i32_950 : BitVec 32 := 0#32
  ![v1234.toNat, 0]
def k0_cond42 (v332 : BitVec 32) : BitVec 1 :=
  let c5504_i32_212 : BitVec 32 := 5504#32
  let v333 : BitVec 1 := Scalar.cmpi .slt v332 c5504_i32_212
  let v338 : BitVec 32 := Scalar.extui v333
  let c0_i32_215 : BitVec 32 := 0#32
  let v339 : BitVec 1 := Scalar.cmpi .ne v338 c0_i32_215
  v339

def k0_off83 (v332 : BitVec 32) : Fin 2 → Nat :=
  let c5504_i32_213 : BitVec 32 := 5504#32
  let v334 : BitVec 32 := Scalar.subi v332 c5504_i32_213
  let c0_i32_214 : BitVec 32 := 0#32
  let v335 : BitVec 32 := Scalar.maxsi v334 c0_i32_214
  let c2_i32_947 : BitVec 32 := 2#32
  let v1234 : BitVec 32 := Scalar.shrui v335 c2_i32_947
  let c0_i32_950 : BitVec 32 := 0#32
  ![v1234.toNat, 0]
def k0_cond43 (v332 : BitVec 32) : BitVec 1 :=
  let c5504_i32_212 : BitVec 32 := 5504#32
  let v333 : BitVec 1 := Scalar.cmpi .slt v332 c5504_i32_212
  let true_216 : BitVec 1 := 1#1
  let v340 : BitVec 1 := Scalar.xori v333 true_216
  let v341 : BitVec 32 := Scalar.extui v340
  let c0_i32_217 : BitVec 32 := 0#32
  let v342 : BitVec 1 := Scalar.cmpi .ne v341 c0_i32_217
  v342

def k0_off84 (v332 : BitVec 32) : Fin 2 → Nat :=
  let c5504_i32_213 : BitVec 32 := 5504#32
  let v334 : BitVec 32 := Scalar.subi v332 c5504_i32_213
  let c0_i32_214 : BitVec 32 := 0#32
  let v335 : BitVec 32 := Scalar.maxsi v334 c0_i32_214
  let c1_i32_218 : BitVec 32 := 1#32
  let v343 : BitVec 32 := Scalar.shrui v335 c1_i32_218
  let c0_i32_221 : BitVec 32 := 0#32
  ![v343.toNat, 0]

def k0_chk21 (v332 : BitVec 32) : Prop :=
  (∀ (k0_h42 : k0_cond42 v332 = 1#1), ∀ a, (k0_off82 v332) a + S1x5120.size a ≤ S1376x5120.size a) ∧
  (∀ (k0_h43 : k0_cond43 v332 = 1#1), ∀ a, (k0_off83 v332) a + S1x2560.size a ≤ S5536x2560.size a) ∧
  (∀ a, (k0_off84 v332) a + S1x40.size a ≤ S11072x40.size a)
theorem k0_off82_inb : ∀ (v332 : BitVec 32) (k0_hw21 : k0_chk21 v332), ∀ (k0_h42 : k0_cond42 v332 = 1#1), ∀ a, (k0_off82 v332) a + S1x5120.size a ≤ S1376x5120.size a := fun v332 k0_hw21 k0_h42 => k0_hw21.1 k0_h42
theorem k0_off83_inb : ∀ (v332 : BitVec 32) (k0_hw21 : k0_chk21 v332), ∀ (k0_h43 : k0_cond43 v332 = 1#1), ∀ a, (k0_off83 v332) a + S1x2560.size a ≤ S5536x2560.size a := fun v332 k0_hw21 k0_h43 => k0_hw21.2.1 k0_h43
theorem k0_off84_inb : ∀ (v332 : BitVec 32) (k0_hw21 : k0_chk21 v332), ∀ a, (k0_off84 v332) a + S1x40.size a ≤ S11072x40.size a := fun v332 k0_hw21 => k0_hw21.2.2

def k0_off85 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c21_i32 : BitVec 32 := 21#32
  let v346 : BitVec 32 := Scalar.addi v9 c21_i32
  let v347 : Index := Scalar.indexCast v346
  ![v347.toNat]
def k0_off86 (v348 : BitVec 32) : Fin 2 → Nat :=
  let c2_i32_947 : BitVec 32 := 2#32
  let v1234 : BitVec 32 := Scalar.shrui v348 c2_i32_947
  let c0_i32_950 : BitVec 32 := 0#32
  ![v1234.toNat, 0]
def k0_cond44 (v348 : BitVec 32) : BitVec 1 :=
  let c5504_i32_222 : BitVec 32 := 5504#32
  let v349 : BitVec 1 := Scalar.cmpi .slt v348 c5504_i32_222
  let v354 : BitVec 32 := Scalar.extui v349
  let c0_i32_225 : BitVec 32 := 0#32
  let v355 : BitVec 1 := Scalar.cmpi .ne v354 c0_i32_225
  v355

def k0_off87 (v348 : BitVec 32) : Fin 2 → Nat :=
  let c5504_i32_223 : BitVec 32 := 5504#32
  let v350 : BitVec 32 := Scalar.subi v348 c5504_i32_223
  let c0_i32_224 : BitVec 32 := 0#32
  let v351 : BitVec 32 := Scalar.maxsi v350 c0_i32_224
  let c2_i32_947 : BitVec 32 := 2#32
  let v1234 : BitVec 32 := Scalar.shrui v351 c2_i32_947
  let c0_i32_950 : BitVec 32 := 0#32
  ![v1234.toNat, 0]
def k0_cond45 (v348 : BitVec 32) : BitVec 1 :=
  let c5504_i32_222 : BitVec 32 := 5504#32
  let v349 : BitVec 1 := Scalar.cmpi .slt v348 c5504_i32_222
  let true_226 : BitVec 1 := 1#1
  let v356 : BitVec 1 := Scalar.xori v349 true_226
  let v357 : BitVec 32 := Scalar.extui v356
  let c0_i32_227 : BitVec 32 := 0#32
  let v358 : BitVec 1 := Scalar.cmpi .ne v357 c0_i32_227
  v358

def k0_off88 (v348 : BitVec 32) : Fin 2 → Nat :=
  let c5504_i32_223 : BitVec 32 := 5504#32
  let v350 : BitVec 32 := Scalar.subi v348 c5504_i32_223
  let c0_i32_224 : BitVec 32 := 0#32
  let v351 : BitVec 32 := Scalar.maxsi v350 c0_i32_224
  let c1_i32_228 : BitVec 32 := 1#32
  let v359 : BitVec 32 := Scalar.shrui v351 c1_i32_228
  let c0_i32_231 : BitVec 32 := 0#32
  ![v359.toNat, 0]

def k0_chk22 (v348 : BitVec 32) : Prop :=
  (∀ (k0_h44 : k0_cond44 v348 = 1#1), ∀ a, (k0_off86 v348) a + S1x5120.size a ≤ S1376x5120.size a) ∧
  (∀ (k0_h45 : k0_cond45 v348 = 1#1), ∀ a, (k0_off87 v348) a + S1x2560.size a ≤ S5536x2560.size a) ∧
  (∀ a, (k0_off88 v348) a + S1x40.size a ≤ S11072x40.size a)
theorem k0_off86_inb : ∀ (v348 : BitVec 32) (k0_hw22 : k0_chk22 v348), ∀ (k0_h44 : k0_cond44 v348 = 1#1), ∀ a, (k0_off86 v348) a + S1x5120.size a ≤ S1376x5120.size a := fun v348 k0_hw22 k0_h44 => k0_hw22.1 k0_h44
theorem k0_off87_inb : ∀ (v348 : BitVec 32) (k0_hw22 : k0_chk22 v348), ∀ (k0_h45 : k0_cond45 v348 = 1#1), ∀ a, (k0_off87 v348) a + S1x2560.size a ≤ S5536x2560.size a := fun v348 k0_hw22 k0_h45 => k0_hw22.2.1 k0_h45
theorem k0_off88_inb : ∀ (v348 : BitVec 32) (k0_hw22 : k0_chk22 v348), ∀ a, (k0_off88 v348) a + S1x40.size a ≤ S11072x40.size a := fun v348 k0_hw22 => k0_hw22.2.2

def k0_off89 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c22_i32 : BitVec 32 := 22#32
  let v362 : BitVec 32 := Scalar.addi v9 c22_i32
  let v363 : Index := Scalar.indexCast v362
  ![v363.toNat]
def k0_off90 (v364 : BitVec 32) : Fin 2 → Nat :=
  let c2_i32_947 : BitVec 32 := 2#32
  let v1234 : BitVec 32 := Scalar.shrui v364 c2_i32_947
  let c0_i32_950 : BitVec 32 := 0#32
  ![v1234.toNat, 0]
def k0_cond46 (v364 : BitVec 32) : BitVec 1 :=
  let c5504_i32_232 : BitVec 32 := 5504#32
  let v365 : BitVec 1 := Scalar.cmpi .slt v364 c5504_i32_232
  let v370 : BitVec 32 := Scalar.extui v365
  let c0_i32_235 : BitVec 32 := 0#32
  let v371 : BitVec 1 := Scalar.cmpi .ne v370 c0_i32_235
  v371

def k0_off91 (v364 : BitVec 32) : Fin 2 → Nat :=
  let c5504_i32_233 : BitVec 32 := 5504#32
  let v366 : BitVec 32 := Scalar.subi v364 c5504_i32_233
  let c0_i32_234 : BitVec 32 := 0#32
  let v367 : BitVec 32 := Scalar.maxsi v366 c0_i32_234
  let c2_i32_947 : BitVec 32 := 2#32
  let v1234 : BitVec 32 := Scalar.shrui v367 c2_i32_947
  let c0_i32_950 : BitVec 32 := 0#32
  ![v1234.toNat, 0]
def k0_cond47 (v364 : BitVec 32) : BitVec 1 :=
  let c5504_i32_232 : BitVec 32 := 5504#32
  let v365 : BitVec 1 := Scalar.cmpi .slt v364 c5504_i32_232
  let true_236 : BitVec 1 := 1#1
  let v372 : BitVec 1 := Scalar.xori v365 true_236
  let v373 : BitVec 32 := Scalar.extui v372
  let c0_i32_237 : BitVec 32 := 0#32
  let v374 : BitVec 1 := Scalar.cmpi .ne v373 c0_i32_237
  v374

def k0_off92 (v364 : BitVec 32) : Fin 2 → Nat :=
  let c5504_i32_233 : BitVec 32 := 5504#32
  let v366 : BitVec 32 := Scalar.subi v364 c5504_i32_233
  let c0_i32_234 : BitVec 32 := 0#32
  let v367 : BitVec 32 := Scalar.maxsi v366 c0_i32_234
  let c1_i32_238 : BitVec 32 := 1#32
  let v375 : BitVec 32 := Scalar.shrui v367 c1_i32_238
  let c0_i32_241 : BitVec 32 := 0#32
  ![v375.toNat, 0]

def k0_chk23 (v364 : BitVec 32) : Prop :=
  (∀ (k0_h46 : k0_cond46 v364 = 1#1), ∀ a, (k0_off90 v364) a + S1x5120.size a ≤ S1376x5120.size a) ∧
  (∀ (k0_h47 : k0_cond47 v364 = 1#1), ∀ a, (k0_off91 v364) a + S1x2560.size a ≤ S5536x2560.size a) ∧
  (∀ a, (k0_off92 v364) a + S1x40.size a ≤ S11072x40.size a)
theorem k0_off90_inb : ∀ (v364 : BitVec 32) (k0_hw23 : k0_chk23 v364), ∀ (k0_h46 : k0_cond46 v364 = 1#1), ∀ a, (k0_off90 v364) a + S1x5120.size a ≤ S1376x5120.size a := fun v364 k0_hw23 k0_h46 => k0_hw23.1 k0_h46
theorem k0_off91_inb : ∀ (v364 : BitVec 32) (k0_hw23 : k0_chk23 v364), ∀ (k0_h47 : k0_cond47 v364 = 1#1), ∀ a, (k0_off91 v364) a + S1x2560.size a ≤ S5536x2560.size a := fun v364 k0_hw23 k0_h47 => k0_hw23.2.1 k0_h47
theorem k0_off92_inb : ∀ (v364 : BitVec 32) (k0_hw23 : k0_chk23 v364), ∀ a, (k0_off92 v364) a + S1x40.size a ≤ S11072x40.size a := fun v364 k0_hw23 => k0_hw23.2.2

def k0_off93 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c23_i32 : BitVec 32 := 23#32
  let v378 : BitVec 32 := Scalar.addi v9 c23_i32
  let v379 : Index := Scalar.indexCast v378
  ![v379.toNat]
def k0_off94 (v380 : BitVec 32) : Fin 2 → Nat :=
  let c2_i32_947 : BitVec 32 := 2#32
  let v1234 : BitVec 32 := Scalar.shrui v380 c2_i32_947
  let c0_i32_950 : BitVec 32 := 0#32
  ![v1234.toNat, 0]
def k0_cond48 (v380 : BitVec 32) : BitVec 1 :=
  let c5504_i32_242 : BitVec 32 := 5504#32
  let v381 : BitVec 1 := Scalar.cmpi .slt v380 c5504_i32_242
  let v386 : BitVec 32 := Scalar.extui v381
  let c0_i32_245 : BitVec 32 := 0#32
  let v387 : BitVec 1 := Scalar.cmpi .ne v386 c0_i32_245
  v387

def k0_off95 (v380 : BitVec 32) : Fin 2 → Nat :=
  let c5504_i32_243 : BitVec 32 := 5504#32
  let v382 : BitVec 32 := Scalar.subi v380 c5504_i32_243
  let c0_i32_244 : BitVec 32 := 0#32
  let v383 : BitVec 32 := Scalar.maxsi v382 c0_i32_244
  let c2_i32_947 : BitVec 32 := 2#32
  let v1234 : BitVec 32 := Scalar.shrui v383 c2_i32_947
  let c0_i32_950 : BitVec 32 := 0#32
  ![v1234.toNat, 0]
def k0_cond49 (v380 : BitVec 32) : BitVec 1 :=
  let c5504_i32_242 : BitVec 32 := 5504#32
  let v381 : BitVec 1 := Scalar.cmpi .slt v380 c5504_i32_242
  let true_246 : BitVec 1 := 1#1
  let v388 : BitVec 1 := Scalar.xori v381 true_246
  let v389 : BitVec 32 := Scalar.extui v388
  let c0_i32_247 : BitVec 32 := 0#32
  let v390 : BitVec 1 := Scalar.cmpi .ne v389 c0_i32_247
  v390

def k0_off96 (v380 : BitVec 32) : Fin 2 → Nat :=
  let c5504_i32_243 : BitVec 32 := 5504#32
  let v382 : BitVec 32 := Scalar.subi v380 c5504_i32_243
  let c0_i32_244 : BitVec 32 := 0#32
  let v383 : BitVec 32 := Scalar.maxsi v382 c0_i32_244
  let c1_i32_248 : BitVec 32 := 1#32
  let v391 : BitVec 32 := Scalar.shrui v383 c1_i32_248
  let c0_i32_251 : BitVec 32 := 0#32
  ![v391.toNat, 0]

def k0_chk24 (v380 : BitVec 32) : Prop :=
  (∀ (k0_h48 : k0_cond48 v380 = 1#1), ∀ a, (k0_off94 v380) a + S1x5120.size a ≤ S1376x5120.size a) ∧
  (∀ (k0_h49 : k0_cond49 v380 = 1#1), ∀ a, (k0_off95 v380) a + S1x2560.size a ≤ S5536x2560.size a) ∧
  (∀ a, (k0_off96 v380) a + S1x40.size a ≤ S11072x40.size a)
theorem k0_off94_inb : ∀ (v380 : BitVec 32) (k0_hw24 : k0_chk24 v380), ∀ (k0_h48 : k0_cond48 v380 = 1#1), ∀ a, (k0_off94 v380) a + S1x5120.size a ≤ S1376x5120.size a := fun v380 k0_hw24 k0_h48 => k0_hw24.1 k0_h48
theorem k0_off95_inb : ∀ (v380 : BitVec 32) (k0_hw24 : k0_chk24 v380), ∀ (k0_h49 : k0_cond49 v380 = 1#1), ∀ a, (k0_off95 v380) a + S1x2560.size a ≤ S5536x2560.size a := fun v380 k0_hw24 k0_h49 => k0_hw24.2.1 k0_h49
theorem k0_off96_inb : ∀ (v380 : BitVec 32) (k0_hw24 : k0_chk24 v380), ∀ a, (k0_off96 v380) a + S1x40.size a ≤ S11072x40.size a := fun v380 k0_hw24 => k0_hw24.2.2

def k0_off97 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c24_i32 : BitVec 32 := 24#32
  let v394 : BitVec 32 := Scalar.addi v9 c24_i32
  let v395 : Index := Scalar.indexCast v394
  ![v395.toNat]
def k0_off98 (v396 : BitVec 32) : Fin 2 → Nat :=
  let c2_i32_947 : BitVec 32 := 2#32
  let v1234 : BitVec 32 := Scalar.shrui v396 c2_i32_947
  let c0_i32_950 : BitVec 32 := 0#32
  ![v1234.toNat, 0]
def k0_cond50 (v396 : BitVec 32) : BitVec 1 :=
  let c5504_i32_252 : BitVec 32 := 5504#32
  let v397 : BitVec 1 := Scalar.cmpi .slt v396 c5504_i32_252
  let v402 : BitVec 32 := Scalar.extui v397
  let c0_i32_255 : BitVec 32 := 0#32
  let v403 : BitVec 1 := Scalar.cmpi .ne v402 c0_i32_255
  v403

def k0_off99 (v396 : BitVec 32) : Fin 2 → Nat :=
  let c5504_i32_253 : BitVec 32 := 5504#32
  let v398 : BitVec 32 := Scalar.subi v396 c5504_i32_253
  let c0_i32_254 : BitVec 32 := 0#32
  let v399 : BitVec 32 := Scalar.maxsi v398 c0_i32_254
  let c2_i32_947 : BitVec 32 := 2#32
  let v1234 : BitVec 32 := Scalar.shrui v399 c2_i32_947
  let c0_i32_950 : BitVec 32 := 0#32
  ![v1234.toNat, 0]
def k0_cond51 (v396 : BitVec 32) : BitVec 1 :=
  let c5504_i32_252 : BitVec 32 := 5504#32
  let v397 : BitVec 1 := Scalar.cmpi .slt v396 c5504_i32_252
  let true_256 : BitVec 1 := 1#1
  let v404 : BitVec 1 := Scalar.xori v397 true_256
  let v405 : BitVec 32 := Scalar.extui v404
  let c0_i32_257 : BitVec 32 := 0#32
  let v406 : BitVec 1 := Scalar.cmpi .ne v405 c0_i32_257
  v406

def k0_off100 (v396 : BitVec 32) : Fin 2 → Nat :=
  let c5504_i32_253 : BitVec 32 := 5504#32
  let v398 : BitVec 32 := Scalar.subi v396 c5504_i32_253
  let c0_i32_254 : BitVec 32 := 0#32
  let v399 : BitVec 32 := Scalar.maxsi v398 c0_i32_254
  let c1_i32_258 : BitVec 32 := 1#32
  let v407 : BitVec 32 := Scalar.shrui v399 c1_i32_258
  let c0_i32_261 : BitVec 32 := 0#32
  ![v407.toNat, 0]

def k0_chk25 (v396 : BitVec 32) : Prop :=
  (∀ (k0_h50 : k0_cond50 v396 = 1#1), ∀ a, (k0_off98 v396) a + S1x5120.size a ≤ S1376x5120.size a) ∧
  (∀ (k0_h51 : k0_cond51 v396 = 1#1), ∀ a, (k0_off99 v396) a + S1x2560.size a ≤ S5536x2560.size a) ∧
  (∀ a, (k0_off100 v396) a + S1x40.size a ≤ S11072x40.size a)
theorem k0_off98_inb : ∀ (v396 : BitVec 32) (k0_hw25 : k0_chk25 v396), ∀ (k0_h50 : k0_cond50 v396 = 1#1), ∀ a, (k0_off98 v396) a + S1x5120.size a ≤ S1376x5120.size a := fun v396 k0_hw25 k0_h50 => k0_hw25.1 k0_h50
theorem k0_off99_inb : ∀ (v396 : BitVec 32) (k0_hw25 : k0_chk25 v396), ∀ (k0_h51 : k0_cond51 v396 = 1#1), ∀ a, (k0_off99 v396) a + S1x2560.size a ≤ S5536x2560.size a := fun v396 k0_hw25 k0_h51 => k0_hw25.2.1 k0_h51
theorem k0_off100_inb : ∀ (v396 : BitVec 32) (k0_hw25 : k0_chk25 v396), ∀ a, (k0_off100 v396) a + S1x40.size a ≤ S11072x40.size a := fun v396 k0_hw25 => k0_hw25.2.2

def k0_off101 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c25_i32 : BitVec 32 := 25#32
  let v410 : BitVec 32 := Scalar.addi v9 c25_i32
  let v411 : Index := Scalar.indexCast v410
  ![v411.toNat]
def k0_off102 (v412 : BitVec 32) : Fin 2 → Nat :=
  let c2_i32_947 : BitVec 32 := 2#32
  let v1234 : BitVec 32 := Scalar.shrui v412 c2_i32_947
  let c0_i32_950 : BitVec 32 := 0#32
  ![v1234.toNat, 0]
def k0_cond52 (v412 : BitVec 32) : BitVec 1 :=
  let c5504_i32_262 : BitVec 32 := 5504#32
  let v413 : BitVec 1 := Scalar.cmpi .slt v412 c5504_i32_262
  let v418 : BitVec 32 := Scalar.extui v413
  let c0_i32_265 : BitVec 32 := 0#32
  let v419 : BitVec 1 := Scalar.cmpi .ne v418 c0_i32_265
  v419

def k0_off103 (v412 : BitVec 32) : Fin 2 → Nat :=
  let c5504_i32_263 : BitVec 32 := 5504#32
  let v414 : BitVec 32 := Scalar.subi v412 c5504_i32_263
  let c0_i32_264 : BitVec 32 := 0#32
  let v415 : BitVec 32 := Scalar.maxsi v414 c0_i32_264
  let c2_i32_947 : BitVec 32 := 2#32
  let v1234 : BitVec 32 := Scalar.shrui v415 c2_i32_947
  let c0_i32_950 : BitVec 32 := 0#32
  ![v1234.toNat, 0]
def k0_cond53 (v412 : BitVec 32) : BitVec 1 :=
  let c5504_i32_262 : BitVec 32 := 5504#32
  let v413 : BitVec 1 := Scalar.cmpi .slt v412 c5504_i32_262
  let true_266 : BitVec 1 := 1#1
  let v420 : BitVec 1 := Scalar.xori v413 true_266
  let v421 : BitVec 32 := Scalar.extui v420
  let c0_i32_267 : BitVec 32 := 0#32
  let v422 : BitVec 1 := Scalar.cmpi .ne v421 c0_i32_267
  v422

def k0_off104 (v412 : BitVec 32) : Fin 2 → Nat :=
  let c5504_i32_263 : BitVec 32 := 5504#32
  let v414 : BitVec 32 := Scalar.subi v412 c5504_i32_263
  let c0_i32_264 : BitVec 32 := 0#32
  let v415 : BitVec 32 := Scalar.maxsi v414 c0_i32_264
  let c1_i32_268 : BitVec 32 := 1#32
  let v423 : BitVec 32 := Scalar.shrui v415 c1_i32_268
  let c0_i32_271 : BitVec 32 := 0#32
  ![v423.toNat, 0]

def k0_chk26 (v412 : BitVec 32) : Prop :=
  (∀ (k0_h52 : k0_cond52 v412 = 1#1), ∀ a, (k0_off102 v412) a + S1x5120.size a ≤ S1376x5120.size a) ∧
  (∀ (k0_h53 : k0_cond53 v412 = 1#1), ∀ a, (k0_off103 v412) a + S1x2560.size a ≤ S5536x2560.size a) ∧
  (∀ a, (k0_off104 v412) a + S1x40.size a ≤ S11072x40.size a)
theorem k0_off102_inb : ∀ (v412 : BitVec 32) (k0_hw26 : k0_chk26 v412), ∀ (k0_h52 : k0_cond52 v412 = 1#1), ∀ a, (k0_off102 v412) a + S1x5120.size a ≤ S1376x5120.size a := fun v412 k0_hw26 k0_h52 => k0_hw26.1 k0_h52
theorem k0_off103_inb : ∀ (v412 : BitVec 32) (k0_hw26 : k0_chk26 v412), ∀ (k0_h53 : k0_cond53 v412 = 1#1), ∀ a, (k0_off103 v412) a + S1x2560.size a ≤ S5536x2560.size a := fun v412 k0_hw26 k0_h53 => k0_hw26.2.1 k0_h53
theorem k0_off104_inb : ∀ (v412 : BitVec 32) (k0_hw26 : k0_chk26 v412), ∀ a, (k0_off104 v412) a + S1x40.size a ≤ S11072x40.size a := fun v412 k0_hw26 => k0_hw26.2.2

def k0_off105 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c26_i32 : BitVec 32 := 26#32
  let v426 : BitVec 32 := Scalar.addi v9 c26_i32
  let v427 : Index := Scalar.indexCast v426
  ![v427.toNat]
def k0_off106 (v428 : BitVec 32) : Fin 2 → Nat :=
  let c2_i32_947 : BitVec 32 := 2#32
  let v1234 : BitVec 32 := Scalar.shrui v428 c2_i32_947
  let c0_i32_950 : BitVec 32 := 0#32
  ![v1234.toNat, 0]
def k0_cond54 (v428 : BitVec 32) : BitVec 1 :=
  let c5504_i32_272 : BitVec 32 := 5504#32
  let v429 : BitVec 1 := Scalar.cmpi .slt v428 c5504_i32_272
  let v434 : BitVec 32 := Scalar.extui v429
  let c0_i32_275 : BitVec 32 := 0#32
  let v435 : BitVec 1 := Scalar.cmpi .ne v434 c0_i32_275
  v435

def k0_off107 (v428 : BitVec 32) : Fin 2 → Nat :=
  let c5504_i32_273 : BitVec 32 := 5504#32
  let v430 : BitVec 32 := Scalar.subi v428 c5504_i32_273
  let c0_i32_274 : BitVec 32 := 0#32
  let v431 : BitVec 32 := Scalar.maxsi v430 c0_i32_274
  let c2_i32_947 : BitVec 32 := 2#32
  let v1234 : BitVec 32 := Scalar.shrui v431 c2_i32_947
  let c0_i32_950 : BitVec 32 := 0#32
  ![v1234.toNat, 0]
def k0_cond55 (v428 : BitVec 32) : BitVec 1 :=
  let c5504_i32_272 : BitVec 32 := 5504#32
  let v429 : BitVec 1 := Scalar.cmpi .slt v428 c5504_i32_272
  let true_276 : BitVec 1 := 1#1
  let v436 : BitVec 1 := Scalar.xori v429 true_276
  let v437 : BitVec 32 := Scalar.extui v436
  let c0_i32_277 : BitVec 32 := 0#32
  let v438 : BitVec 1 := Scalar.cmpi .ne v437 c0_i32_277
  v438

def k0_off108 (v428 : BitVec 32) : Fin 2 → Nat :=
  let c5504_i32_273 : BitVec 32 := 5504#32
  let v430 : BitVec 32 := Scalar.subi v428 c5504_i32_273
  let c0_i32_274 : BitVec 32 := 0#32
  let v431 : BitVec 32 := Scalar.maxsi v430 c0_i32_274
  let c1_i32_278 : BitVec 32 := 1#32
  let v439 : BitVec 32 := Scalar.shrui v431 c1_i32_278
  let c0_i32_281 : BitVec 32 := 0#32
  ![v439.toNat, 0]

def k0_chk27 (v428 : BitVec 32) : Prop :=
  (∀ (k0_h54 : k0_cond54 v428 = 1#1), ∀ a, (k0_off106 v428) a + S1x5120.size a ≤ S1376x5120.size a) ∧
  (∀ (k0_h55 : k0_cond55 v428 = 1#1), ∀ a, (k0_off107 v428) a + S1x2560.size a ≤ S5536x2560.size a) ∧
  (∀ a, (k0_off108 v428) a + S1x40.size a ≤ S11072x40.size a)
theorem k0_off106_inb : ∀ (v428 : BitVec 32) (k0_hw27 : k0_chk27 v428), ∀ (k0_h54 : k0_cond54 v428 = 1#1), ∀ a, (k0_off106 v428) a + S1x5120.size a ≤ S1376x5120.size a := fun v428 k0_hw27 k0_h54 => k0_hw27.1 k0_h54
theorem k0_off107_inb : ∀ (v428 : BitVec 32) (k0_hw27 : k0_chk27 v428), ∀ (k0_h55 : k0_cond55 v428 = 1#1), ∀ a, (k0_off107 v428) a + S1x2560.size a ≤ S5536x2560.size a := fun v428 k0_hw27 k0_h55 => k0_hw27.2.1 k0_h55
theorem k0_off108_inb : ∀ (v428 : BitVec 32) (k0_hw27 : k0_chk27 v428), ∀ a, (k0_off108 v428) a + S1x40.size a ≤ S11072x40.size a := fun v428 k0_hw27 => k0_hw27.2.2

def k0_off109 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c27_i32 : BitVec 32 := 27#32
  let v442 : BitVec 32 := Scalar.addi v9 c27_i32
  let v443 : Index := Scalar.indexCast v442
  ![v443.toNat]
def k0_off110 (v444 : BitVec 32) : Fin 2 → Nat :=
  let c2_i32_947 : BitVec 32 := 2#32
  let v1234 : BitVec 32 := Scalar.shrui v444 c2_i32_947
  let c0_i32_950 : BitVec 32 := 0#32
  ![v1234.toNat, 0]
def k0_cond56 (v444 : BitVec 32) : BitVec 1 :=
  let c5504_i32_282 : BitVec 32 := 5504#32
  let v445 : BitVec 1 := Scalar.cmpi .slt v444 c5504_i32_282
  let v450 : BitVec 32 := Scalar.extui v445
  let c0_i32_285 : BitVec 32 := 0#32
  let v451 : BitVec 1 := Scalar.cmpi .ne v450 c0_i32_285
  v451

def k0_off111 (v444 : BitVec 32) : Fin 2 → Nat :=
  let c5504_i32_283 : BitVec 32 := 5504#32
  let v446 : BitVec 32 := Scalar.subi v444 c5504_i32_283
  let c0_i32_284 : BitVec 32 := 0#32
  let v447 : BitVec 32 := Scalar.maxsi v446 c0_i32_284
  let c2_i32_947 : BitVec 32 := 2#32
  let v1234 : BitVec 32 := Scalar.shrui v447 c2_i32_947
  let c0_i32_950 : BitVec 32 := 0#32
  ![v1234.toNat, 0]
def k0_cond57 (v444 : BitVec 32) : BitVec 1 :=
  let c5504_i32_282 : BitVec 32 := 5504#32
  let v445 : BitVec 1 := Scalar.cmpi .slt v444 c5504_i32_282
  let true_286 : BitVec 1 := 1#1
  let v452 : BitVec 1 := Scalar.xori v445 true_286
  let v453 : BitVec 32 := Scalar.extui v452
  let c0_i32_287 : BitVec 32 := 0#32
  let v454 : BitVec 1 := Scalar.cmpi .ne v453 c0_i32_287
  v454

def k0_off112 (v444 : BitVec 32) : Fin 2 → Nat :=
  let c5504_i32_283 : BitVec 32 := 5504#32
  let v446 : BitVec 32 := Scalar.subi v444 c5504_i32_283
  let c0_i32_284 : BitVec 32 := 0#32
  let v447 : BitVec 32 := Scalar.maxsi v446 c0_i32_284
  let c1_i32_288 : BitVec 32 := 1#32
  let v455 : BitVec 32 := Scalar.shrui v447 c1_i32_288
  let c0_i32_291 : BitVec 32 := 0#32
  ![v455.toNat, 0]

def k0_chk28 (v444 : BitVec 32) : Prop :=
  (∀ (k0_h56 : k0_cond56 v444 = 1#1), ∀ a, (k0_off110 v444) a + S1x5120.size a ≤ S1376x5120.size a) ∧
  (∀ (k0_h57 : k0_cond57 v444 = 1#1), ∀ a, (k0_off111 v444) a + S1x2560.size a ≤ S5536x2560.size a) ∧
  (∀ a, (k0_off112 v444) a + S1x40.size a ≤ S11072x40.size a)
theorem k0_off110_inb : ∀ (v444 : BitVec 32) (k0_hw28 : k0_chk28 v444), ∀ (k0_h56 : k0_cond56 v444 = 1#1), ∀ a, (k0_off110 v444) a + S1x5120.size a ≤ S1376x5120.size a := fun v444 k0_hw28 k0_h56 => k0_hw28.1 k0_h56
theorem k0_off111_inb : ∀ (v444 : BitVec 32) (k0_hw28 : k0_chk28 v444), ∀ (k0_h57 : k0_cond57 v444 = 1#1), ∀ a, (k0_off111 v444) a + S1x2560.size a ≤ S5536x2560.size a := fun v444 k0_hw28 k0_h57 => k0_hw28.2.1 k0_h57
theorem k0_off112_inb : ∀ (v444 : BitVec 32) (k0_hw28 : k0_chk28 v444), ∀ a, (k0_off112 v444) a + S1x40.size a ≤ S11072x40.size a := fun v444 k0_hw28 => k0_hw28.2.2

def k0_off113 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c28_i32 : BitVec 32 := 28#32
  let v458 : BitVec 32 := Scalar.addi v9 c28_i32
  let v459 : Index := Scalar.indexCast v458
  ![v459.toNat]
def k0_off114 (v460 : BitVec 32) : Fin 2 → Nat :=
  let c2_i32_947 : BitVec 32 := 2#32
  let v1234 : BitVec 32 := Scalar.shrui v460 c2_i32_947
  let c0_i32_950 : BitVec 32 := 0#32
  ![v1234.toNat, 0]
def k0_cond58 (v460 : BitVec 32) : BitVec 1 :=
  let c5504_i32_292 : BitVec 32 := 5504#32
  let v461 : BitVec 1 := Scalar.cmpi .slt v460 c5504_i32_292
  let v466 : BitVec 32 := Scalar.extui v461
  let c0_i32_295 : BitVec 32 := 0#32
  let v467 : BitVec 1 := Scalar.cmpi .ne v466 c0_i32_295
  v467

def k0_off115 (v460 : BitVec 32) : Fin 2 → Nat :=
  let c5504_i32_293 : BitVec 32 := 5504#32
  let v462 : BitVec 32 := Scalar.subi v460 c5504_i32_293
  let c0_i32_294 : BitVec 32 := 0#32
  let v463 : BitVec 32 := Scalar.maxsi v462 c0_i32_294
  let c2_i32_947 : BitVec 32 := 2#32
  let v1234 : BitVec 32 := Scalar.shrui v463 c2_i32_947
  let c0_i32_950 : BitVec 32 := 0#32
  ![v1234.toNat, 0]
def k0_cond59 (v460 : BitVec 32) : BitVec 1 :=
  let c5504_i32_292 : BitVec 32 := 5504#32
  let v461 : BitVec 1 := Scalar.cmpi .slt v460 c5504_i32_292
  let true_296 : BitVec 1 := 1#1
  let v468 : BitVec 1 := Scalar.xori v461 true_296
  let v469 : BitVec 32 := Scalar.extui v468
  let c0_i32_297 : BitVec 32 := 0#32
  let v470 : BitVec 1 := Scalar.cmpi .ne v469 c0_i32_297
  v470

def k0_off116 (v460 : BitVec 32) : Fin 2 → Nat :=
  let c5504_i32_293 : BitVec 32 := 5504#32
  let v462 : BitVec 32 := Scalar.subi v460 c5504_i32_293
  let c0_i32_294 : BitVec 32 := 0#32
  let v463 : BitVec 32 := Scalar.maxsi v462 c0_i32_294
  let c1_i32_298 : BitVec 32 := 1#32
  let v471 : BitVec 32 := Scalar.shrui v463 c1_i32_298
  let c0_i32_301 : BitVec 32 := 0#32
  ![v471.toNat, 0]

def k0_chk29 (v460 : BitVec 32) : Prop :=
  (∀ (k0_h58 : k0_cond58 v460 = 1#1), ∀ a, (k0_off114 v460) a + S1x5120.size a ≤ S1376x5120.size a) ∧
  (∀ (k0_h59 : k0_cond59 v460 = 1#1), ∀ a, (k0_off115 v460) a + S1x2560.size a ≤ S5536x2560.size a) ∧
  (∀ a, (k0_off116 v460) a + S1x40.size a ≤ S11072x40.size a)
theorem k0_off114_inb : ∀ (v460 : BitVec 32) (k0_hw29 : k0_chk29 v460), ∀ (k0_h58 : k0_cond58 v460 = 1#1), ∀ a, (k0_off114 v460) a + S1x5120.size a ≤ S1376x5120.size a := fun v460 k0_hw29 k0_h58 => k0_hw29.1 k0_h58
theorem k0_off115_inb : ∀ (v460 : BitVec 32) (k0_hw29 : k0_chk29 v460), ∀ (k0_h59 : k0_cond59 v460 = 1#1), ∀ a, (k0_off115 v460) a + S1x2560.size a ≤ S5536x2560.size a := fun v460 k0_hw29 k0_h59 => k0_hw29.2.1 k0_h59
theorem k0_off116_inb : ∀ (v460 : BitVec 32) (k0_hw29 : k0_chk29 v460), ∀ a, (k0_off116 v460) a + S1x40.size a ≤ S11072x40.size a := fun v460 k0_hw29 => k0_hw29.2.2

def k0_off117 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c29_i32 : BitVec 32 := 29#32
  let v474 : BitVec 32 := Scalar.addi v9 c29_i32
  let v475 : Index := Scalar.indexCast v474
  ![v475.toNat]
def k0_off118 (v476 : BitVec 32) : Fin 2 → Nat :=
  let c2_i32_947 : BitVec 32 := 2#32
  let v1234 : BitVec 32 := Scalar.shrui v476 c2_i32_947
  let c0_i32_950 : BitVec 32 := 0#32
  ![v1234.toNat, 0]
def k0_cond60 (v476 : BitVec 32) : BitVec 1 :=
  let c5504_i32_302 : BitVec 32 := 5504#32
  let v477 : BitVec 1 := Scalar.cmpi .slt v476 c5504_i32_302
  let v482 : BitVec 32 := Scalar.extui v477
  let c0_i32_305 : BitVec 32 := 0#32
  let v483 : BitVec 1 := Scalar.cmpi .ne v482 c0_i32_305
  v483

def k0_off119 (v476 : BitVec 32) : Fin 2 → Nat :=
  let c5504_i32_303 : BitVec 32 := 5504#32
  let v478 : BitVec 32 := Scalar.subi v476 c5504_i32_303
  let c0_i32_304 : BitVec 32 := 0#32
  let v479 : BitVec 32 := Scalar.maxsi v478 c0_i32_304
  let c2_i32_947 : BitVec 32 := 2#32
  let v1234 : BitVec 32 := Scalar.shrui v479 c2_i32_947
  let c0_i32_950 : BitVec 32 := 0#32
  ![v1234.toNat, 0]
def k0_cond61 (v476 : BitVec 32) : BitVec 1 :=
  let c5504_i32_302 : BitVec 32 := 5504#32
  let v477 : BitVec 1 := Scalar.cmpi .slt v476 c5504_i32_302
  let true_306 : BitVec 1 := 1#1
  let v484 : BitVec 1 := Scalar.xori v477 true_306
  let v485 : BitVec 32 := Scalar.extui v484
  let c0_i32_307 : BitVec 32 := 0#32
  let v486 : BitVec 1 := Scalar.cmpi .ne v485 c0_i32_307
  v486

def k0_off120 (v476 : BitVec 32) : Fin 2 → Nat :=
  let c5504_i32_303 : BitVec 32 := 5504#32
  let v478 : BitVec 32 := Scalar.subi v476 c5504_i32_303
  let c0_i32_304 : BitVec 32 := 0#32
  let v479 : BitVec 32 := Scalar.maxsi v478 c0_i32_304
  let c1_i32_308 : BitVec 32 := 1#32
  let v487 : BitVec 32 := Scalar.shrui v479 c1_i32_308
  let c0_i32_311 : BitVec 32 := 0#32
  ![v487.toNat, 0]

def k0_chk30 (v476 : BitVec 32) : Prop :=
  (∀ (k0_h60 : k0_cond60 v476 = 1#1), ∀ a, (k0_off118 v476) a + S1x5120.size a ≤ S1376x5120.size a) ∧
  (∀ (k0_h61 : k0_cond61 v476 = 1#1), ∀ a, (k0_off119 v476) a + S1x2560.size a ≤ S5536x2560.size a) ∧
  (∀ a, (k0_off120 v476) a + S1x40.size a ≤ S11072x40.size a)
theorem k0_off118_inb : ∀ (v476 : BitVec 32) (k0_hw30 : k0_chk30 v476), ∀ (k0_h60 : k0_cond60 v476 = 1#1), ∀ a, (k0_off118 v476) a + S1x5120.size a ≤ S1376x5120.size a := fun v476 k0_hw30 k0_h60 => k0_hw30.1 k0_h60
theorem k0_off119_inb : ∀ (v476 : BitVec 32) (k0_hw30 : k0_chk30 v476), ∀ (k0_h61 : k0_cond61 v476 = 1#1), ∀ a, (k0_off119 v476) a + S1x2560.size a ≤ S5536x2560.size a := fun v476 k0_hw30 k0_h61 => k0_hw30.2.1 k0_h61
theorem k0_off120_inb : ∀ (v476 : BitVec 32) (k0_hw30 : k0_chk30 v476), ∀ a, (k0_off120 v476) a + S1x40.size a ≤ S11072x40.size a := fun v476 k0_hw30 => k0_hw30.2.2

def k0_off121 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c30_i32 : BitVec 32 := 30#32
  let v490 : BitVec 32 := Scalar.addi v9 c30_i32
  let v491 : Index := Scalar.indexCast v490
  ![v491.toNat]
def k0_off122 (v492 : BitVec 32) : Fin 2 → Nat :=
  let c2_i32_947 : BitVec 32 := 2#32
  let v1234 : BitVec 32 := Scalar.shrui v492 c2_i32_947
  let c0_i32_950 : BitVec 32 := 0#32
  ![v1234.toNat, 0]
def k0_cond62 (v492 : BitVec 32) : BitVec 1 :=
  let c5504_i32_312 : BitVec 32 := 5504#32
  let v493 : BitVec 1 := Scalar.cmpi .slt v492 c5504_i32_312
  let v498 : BitVec 32 := Scalar.extui v493
  let c0_i32_315 : BitVec 32 := 0#32
  let v499 : BitVec 1 := Scalar.cmpi .ne v498 c0_i32_315
  v499

def k0_off123 (v492 : BitVec 32) : Fin 2 → Nat :=
  let c5504_i32_313 : BitVec 32 := 5504#32
  let v494 : BitVec 32 := Scalar.subi v492 c5504_i32_313
  let c0_i32_314 : BitVec 32 := 0#32
  let v495 : BitVec 32 := Scalar.maxsi v494 c0_i32_314
  let c2_i32_947 : BitVec 32 := 2#32
  let v1234 : BitVec 32 := Scalar.shrui v495 c2_i32_947
  let c0_i32_950 : BitVec 32 := 0#32
  ![v1234.toNat, 0]
def k0_cond63 (v492 : BitVec 32) : BitVec 1 :=
  let c5504_i32_312 : BitVec 32 := 5504#32
  let v493 : BitVec 1 := Scalar.cmpi .slt v492 c5504_i32_312
  let true_316 : BitVec 1 := 1#1
  let v500 : BitVec 1 := Scalar.xori v493 true_316
  let v501 : BitVec 32 := Scalar.extui v500
  let c0_i32_317 : BitVec 32 := 0#32
  let v502 : BitVec 1 := Scalar.cmpi .ne v501 c0_i32_317
  v502

def k0_off124 (v492 : BitVec 32) : Fin 2 → Nat :=
  let c5504_i32_313 : BitVec 32 := 5504#32
  let v494 : BitVec 32 := Scalar.subi v492 c5504_i32_313
  let c0_i32_314 : BitVec 32 := 0#32
  let v495 : BitVec 32 := Scalar.maxsi v494 c0_i32_314
  let c1_i32_318 : BitVec 32 := 1#32
  let v503 : BitVec 32 := Scalar.shrui v495 c1_i32_318
  let c0_i32_321 : BitVec 32 := 0#32
  ![v503.toNat, 0]

def k0_chk31 (v492 : BitVec 32) : Prop :=
  (∀ (k0_h62 : k0_cond62 v492 = 1#1), ∀ a, (k0_off122 v492) a + S1x5120.size a ≤ S1376x5120.size a) ∧
  (∀ (k0_h63 : k0_cond63 v492 = 1#1), ∀ a, (k0_off123 v492) a + S1x2560.size a ≤ S5536x2560.size a) ∧
  (∀ a, (k0_off124 v492) a + S1x40.size a ≤ S11072x40.size a)
theorem k0_off122_inb : ∀ (v492 : BitVec 32) (k0_hw31 : k0_chk31 v492), ∀ (k0_h62 : k0_cond62 v492 = 1#1), ∀ a, (k0_off122 v492) a + S1x5120.size a ≤ S1376x5120.size a := fun v492 k0_hw31 k0_h62 => k0_hw31.1 k0_h62
theorem k0_off123_inb : ∀ (v492 : BitVec 32) (k0_hw31 : k0_chk31 v492), ∀ (k0_h63 : k0_cond63 v492 = 1#1), ∀ a, (k0_off123 v492) a + S1x2560.size a ≤ S5536x2560.size a := fun v492 k0_hw31 k0_h63 => k0_hw31.2.1 k0_h63
theorem k0_off124_inb : ∀ (v492 : BitVec 32) (k0_hw31 : k0_chk31 v492), ∀ a, (k0_off124 v492) a + S1x40.size a ≤ S11072x40.size a := fun v492 k0_hw31 => k0_hw31.2.2

def k0_off125 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c31_i32 : BitVec 32 := 31#32
  let v506 : BitVec 32 := Scalar.addi v9 c31_i32
  let v507 : Index := Scalar.indexCast v506
  ![v507.toNat]
def k0_off126 (v508 : BitVec 32) : Fin 2 → Nat :=
  let c2_i32_947 : BitVec 32 := 2#32
  let v1234 : BitVec 32 := Scalar.shrui v508 c2_i32_947
  let c0_i32_950 : BitVec 32 := 0#32
  ![v1234.toNat, 0]
def k0_cond64 (v508 : BitVec 32) : BitVec 1 :=
  let c5504_i32_322 : BitVec 32 := 5504#32
  let v509 : BitVec 1 := Scalar.cmpi .slt v508 c5504_i32_322
  let v514 : BitVec 32 := Scalar.extui v509
  let c0_i32_325 : BitVec 32 := 0#32
  let v515 : BitVec 1 := Scalar.cmpi .ne v514 c0_i32_325
  v515

def k0_off127 (v508 : BitVec 32) : Fin 2 → Nat :=
  let c5504_i32_323 : BitVec 32 := 5504#32
  let v510 : BitVec 32 := Scalar.subi v508 c5504_i32_323
  let c0_i32_324 : BitVec 32 := 0#32
  let v511 : BitVec 32 := Scalar.maxsi v510 c0_i32_324
  let c2_i32_947 : BitVec 32 := 2#32
  let v1234 : BitVec 32 := Scalar.shrui v511 c2_i32_947
  let c0_i32_950 : BitVec 32 := 0#32
  ![v1234.toNat, 0]
def k0_cond65 (v508 : BitVec 32) : BitVec 1 :=
  let c5504_i32_322 : BitVec 32 := 5504#32
  let v509 : BitVec 1 := Scalar.cmpi .slt v508 c5504_i32_322
  let true_326 : BitVec 1 := 1#1
  let v516 : BitVec 1 := Scalar.xori v509 true_326
  let v517 : BitVec 32 := Scalar.extui v516
  let c0_i32_327 : BitVec 32 := 0#32
  let v518 : BitVec 1 := Scalar.cmpi .ne v517 c0_i32_327
  v518

def k0_off128 (v508 : BitVec 32) : Fin 2 → Nat :=
  let c5504_i32_323 : BitVec 32 := 5504#32
  let v510 : BitVec 32 := Scalar.subi v508 c5504_i32_323
  let c0_i32_324 : BitVec 32 := 0#32
  let v511 : BitVec 32 := Scalar.maxsi v510 c0_i32_324
  let c1_i32_328 : BitVec 32 := 1#32
  let v519 : BitVec 32 := Scalar.shrui v511 c1_i32_328
  let c0_i32_331 : BitVec 32 := 0#32
  ![v519.toNat, 0]

def k0_chk32 (v508 : BitVec 32) : Prop :=
  (∀ (k0_h64 : k0_cond64 v508 = 1#1), ∀ a, (k0_off126 v508) a + S1x5120.size a ≤ S1376x5120.size a) ∧
  (∀ (k0_h65 : k0_cond65 v508 = 1#1), ∀ a, (k0_off127 v508) a + S1x2560.size a ≤ S5536x2560.size a) ∧
  (∀ a, (k0_off128 v508) a + S1x40.size a ≤ S11072x40.size a)
theorem k0_off126_inb : ∀ (v508 : BitVec 32) (k0_hw32 : k0_chk32 v508), ∀ (k0_h64 : k0_cond64 v508 = 1#1), ∀ a, (k0_off126 v508) a + S1x5120.size a ≤ S1376x5120.size a := fun v508 k0_hw32 k0_h64 => k0_hw32.1 k0_h64
theorem k0_off127_inb : ∀ (v508 : BitVec 32) (k0_hw32 : k0_chk32 v508), ∀ (k0_h65 : k0_cond65 v508 = 1#1), ∀ a, (k0_off127 v508) a + S1x2560.size a ≤ S5536x2560.size a := fun v508 k0_hw32 k0_h65 => k0_hw32.2.1 k0_h65
theorem k0_off128_inb : ∀ (v508 : BitVec 32) (k0_hw32 : k0_chk32 v508), ∀ a, (k0_off128 v508) a + S1x40.size a ≤ S11072x40.size a := fun v508 k0_hw32 => k0_hw32.2.2

def k0_off129 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c32_i32 : BitVec 32 := 32#32
  let v522 : BitVec 32 := Scalar.addi v9 c32_i32
  let v523 : Index := Scalar.indexCast v522
  ![v523.toNat]
def k0_off130 (v524 : BitVec 32) : Fin 2 → Nat :=
  let c2_i32_947 : BitVec 32 := 2#32
  let v1234 : BitVec 32 := Scalar.shrui v524 c2_i32_947
  let c0_i32_950 : BitVec 32 := 0#32
  ![v1234.toNat, 0]
def k0_cond66 (v524 : BitVec 32) : BitVec 1 :=
  let c5504_i32_332 : BitVec 32 := 5504#32
  let v525 : BitVec 1 := Scalar.cmpi .slt v524 c5504_i32_332
  let v530 : BitVec 32 := Scalar.extui v525
  let c0_i32_335 : BitVec 32 := 0#32
  let v531 : BitVec 1 := Scalar.cmpi .ne v530 c0_i32_335
  v531

def k0_off131 (v524 : BitVec 32) : Fin 2 → Nat :=
  let c5504_i32_333 : BitVec 32 := 5504#32
  let v526 : BitVec 32 := Scalar.subi v524 c5504_i32_333
  let c0_i32_334 : BitVec 32 := 0#32
  let v527 : BitVec 32 := Scalar.maxsi v526 c0_i32_334
  let c2_i32_947 : BitVec 32 := 2#32
  let v1234 : BitVec 32 := Scalar.shrui v527 c2_i32_947
  let c0_i32_950 : BitVec 32 := 0#32
  ![v1234.toNat, 0]
def k0_cond67 (v524 : BitVec 32) : BitVec 1 :=
  let c5504_i32_332 : BitVec 32 := 5504#32
  let v525 : BitVec 1 := Scalar.cmpi .slt v524 c5504_i32_332
  let true_336 : BitVec 1 := 1#1
  let v532 : BitVec 1 := Scalar.xori v525 true_336
  let v533 : BitVec 32 := Scalar.extui v532
  let c0_i32_337 : BitVec 32 := 0#32
  let v534 : BitVec 1 := Scalar.cmpi .ne v533 c0_i32_337
  v534

def k0_off132 (v524 : BitVec 32) : Fin 2 → Nat :=
  let c5504_i32_333 : BitVec 32 := 5504#32
  let v526 : BitVec 32 := Scalar.subi v524 c5504_i32_333
  let c0_i32_334 : BitVec 32 := 0#32
  let v527 : BitVec 32 := Scalar.maxsi v526 c0_i32_334
  let c1_i32_338 : BitVec 32 := 1#32
  let v535 : BitVec 32 := Scalar.shrui v527 c1_i32_338
  let c0_i32_341 : BitVec 32 := 0#32
  ![v535.toNat, 0]

def k0_chk33 (v524 : BitVec 32) : Prop :=
  (∀ (k0_h66 : k0_cond66 v524 = 1#1), ∀ a, (k0_off130 v524) a + S1x5120.size a ≤ S1376x5120.size a) ∧
  (∀ (k0_h67 : k0_cond67 v524 = 1#1), ∀ a, (k0_off131 v524) a + S1x2560.size a ≤ S5536x2560.size a) ∧
  (∀ a, (k0_off132 v524) a + S1x40.size a ≤ S11072x40.size a)
theorem k0_off130_inb : ∀ (v524 : BitVec 32) (k0_hw33 : k0_chk33 v524), ∀ (k0_h66 : k0_cond66 v524 = 1#1), ∀ a, (k0_off130 v524) a + S1x5120.size a ≤ S1376x5120.size a := fun v524 k0_hw33 k0_h66 => k0_hw33.1 k0_h66
theorem k0_off131_inb : ∀ (v524 : BitVec 32) (k0_hw33 : k0_chk33 v524), ∀ (k0_h67 : k0_cond67 v524 = 1#1), ∀ a, (k0_off131 v524) a + S1x2560.size a ≤ S5536x2560.size a := fun v524 k0_hw33 k0_h67 => k0_hw33.2.1 k0_h67
theorem k0_off132_inb : ∀ (v524 : BitVec 32) (k0_hw33 : k0_chk33 v524), ∀ a, (k0_off132 v524) a + S1x40.size a ≤ S11072x40.size a := fun v524 k0_hw33 => k0_hw33.2.2

def k0_off133 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c33_i32 : BitVec 32 := 33#32
  let v538 : BitVec 32 := Scalar.addi v9 c33_i32
  let v539 : Index := Scalar.indexCast v538
  ![v539.toNat]
def k0_off134 (v540 : BitVec 32) : Fin 2 → Nat :=
  let c2_i32_947 : BitVec 32 := 2#32
  let v1234 : BitVec 32 := Scalar.shrui v540 c2_i32_947
  let c0_i32_950 : BitVec 32 := 0#32
  ![v1234.toNat, 0]
def k0_cond68 (v540 : BitVec 32) : BitVec 1 :=
  let c5504_i32_342 : BitVec 32 := 5504#32
  let v541 : BitVec 1 := Scalar.cmpi .slt v540 c5504_i32_342
  let v546 : BitVec 32 := Scalar.extui v541
  let c0_i32_345 : BitVec 32 := 0#32
  let v547 : BitVec 1 := Scalar.cmpi .ne v546 c0_i32_345
  v547

def k0_off135 (v540 : BitVec 32) : Fin 2 → Nat :=
  let c5504_i32_343 : BitVec 32 := 5504#32
  let v542 : BitVec 32 := Scalar.subi v540 c5504_i32_343
  let c0_i32_344 : BitVec 32 := 0#32
  let v543 : BitVec 32 := Scalar.maxsi v542 c0_i32_344
  let c2_i32_947 : BitVec 32 := 2#32
  let v1234 : BitVec 32 := Scalar.shrui v543 c2_i32_947
  let c0_i32_950 : BitVec 32 := 0#32
  ![v1234.toNat, 0]
def k0_cond69 (v540 : BitVec 32) : BitVec 1 :=
  let c5504_i32_342 : BitVec 32 := 5504#32
  let v541 : BitVec 1 := Scalar.cmpi .slt v540 c5504_i32_342
  let true_346 : BitVec 1 := 1#1
  let v548 : BitVec 1 := Scalar.xori v541 true_346
  let v549 : BitVec 32 := Scalar.extui v548
  let c0_i32_347 : BitVec 32 := 0#32
  let v550 : BitVec 1 := Scalar.cmpi .ne v549 c0_i32_347
  v550

def k0_off136 (v540 : BitVec 32) : Fin 2 → Nat :=
  let c5504_i32_343 : BitVec 32 := 5504#32
  let v542 : BitVec 32 := Scalar.subi v540 c5504_i32_343
  let c0_i32_344 : BitVec 32 := 0#32
  let v543 : BitVec 32 := Scalar.maxsi v542 c0_i32_344
  let c1_i32_348 : BitVec 32 := 1#32
  let v551 : BitVec 32 := Scalar.shrui v543 c1_i32_348
  let c0_i32_351 : BitVec 32 := 0#32
  ![v551.toNat, 0]

def k0_chk34 (v540 : BitVec 32) : Prop :=
  (∀ (k0_h68 : k0_cond68 v540 = 1#1), ∀ a, (k0_off134 v540) a + S1x5120.size a ≤ S1376x5120.size a) ∧
  (∀ (k0_h69 : k0_cond69 v540 = 1#1), ∀ a, (k0_off135 v540) a + S1x2560.size a ≤ S5536x2560.size a) ∧
  (∀ a, (k0_off136 v540) a + S1x40.size a ≤ S11072x40.size a)
theorem k0_off134_inb : ∀ (v540 : BitVec 32) (k0_hw34 : k0_chk34 v540), ∀ (k0_h68 : k0_cond68 v540 = 1#1), ∀ a, (k0_off134 v540) a + S1x5120.size a ≤ S1376x5120.size a := fun v540 k0_hw34 k0_h68 => k0_hw34.1 k0_h68
theorem k0_off135_inb : ∀ (v540 : BitVec 32) (k0_hw34 : k0_chk34 v540), ∀ (k0_h69 : k0_cond69 v540 = 1#1), ∀ a, (k0_off135 v540) a + S1x2560.size a ≤ S5536x2560.size a := fun v540 k0_hw34 k0_h69 => k0_hw34.2.1 k0_h69
theorem k0_off136_inb : ∀ (v540 : BitVec 32) (k0_hw34 : k0_chk34 v540), ∀ a, (k0_off136 v540) a + S1x40.size a ≤ S11072x40.size a := fun v540 k0_hw34 => k0_hw34.2.2

def k0_off137 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c34_i32 : BitVec 32 := 34#32
  let v554 : BitVec 32 := Scalar.addi v9 c34_i32
  let v555 : Index := Scalar.indexCast v554
  ![v555.toNat]
def k0_off138 (v556 : BitVec 32) : Fin 2 → Nat :=
  let c2_i32_947 : BitVec 32 := 2#32
  let v1234 : BitVec 32 := Scalar.shrui v556 c2_i32_947
  let c0_i32_950 : BitVec 32 := 0#32
  ![v1234.toNat, 0]
def k0_cond70 (v556 : BitVec 32) : BitVec 1 :=
  let c5504_i32_352 : BitVec 32 := 5504#32
  let v557 : BitVec 1 := Scalar.cmpi .slt v556 c5504_i32_352
  let v562 : BitVec 32 := Scalar.extui v557
  let c0_i32_355 : BitVec 32 := 0#32
  let v563 : BitVec 1 := Scalar.cmpi .ne v562 c0_i32_355
  v563

def k0_off139 (v556 : BitVec 32) : Fin 2 → Nat :=
  let c5504_i32_353 : BitVec 32 := 5504#32
  let v558 : BitVec 32 := Scalar.subi v556 c5504_i32_353
  let c0_i32_354 : BitVec 32 := 0#32
  let v559 : BitVec 32 := Scalar.maxsi v558 c0_i32_354
  let c2_i32_947 : BitVec 32 := 2#32
  let v1234 : BitVec 32 := Scalar.shrui v559 c2_i32_947
  let c0_i32_950 : BitVec 32 := 0#32
  ![v1234.toNat, 0]
def k0_cond71 (v556 : BitVec 32) : BitVec 1 :=
  let c5504_i32_352 : BitVec 32 := 5504#32
  let v557 : BitVec 1 := Scalar.cmpi .slt v556 c5504_i32_352
  let true_356 : BitVec 1 := 1#1
  let v564 : BitVec 1 := Scalar.xori v557 true_356
  let v565 : BitVec 32 := Scalar.extui v564
  let c0_i32_357 : BitVec 32 := 0#32
  let v566 : BitVec 1 := Scalar.cmpi .ne v565 c0_i32_357
  v566

def k0_off140 (v556 : BitVec 32) : Fin 2 → Nat :=
  let c5504_i32_353 : BitVec 32 := 5504#32
  let v558 : BitVec 32 := Scalar.subi v556 c5504_i32_353
  let c0_i32_354 : BitVec 32 := 0#32
  let v559 : BitVec 32 := Scalar.maxsi v558 c0_i32_354
  let c1_i32_358 : BitVec 32 := 1#32
  let v567 : BitVec 32 := Scalar.shrui v559 c1_i32_358
  let c0_i32_361 : BitVec 32 := 0#32
  ![v567.toNat, 0]

def k0_chk35 (v556 : BitVec 32) : Prop :=
  (∀ (k0_h70 : k0_cond70 v556 = 1#1), ∀ a, (k0_off138 v556) a + S1x5120.size a ≤ S1376x5120.size a) ∧
  (∀ (k0_h71 : k0_cond71 v556 = 1#1), ∀ a, (k0_off139 v556) a + S1x2560.size a ≤ S5536x2560.size a) ∧
  (∀ a, (k0_off140 v556) a + S1x40.size a ≤ S11072x40.size a)
theorem k0_off138_inb : ∀ (v556 : BitVec 32) (k0_hw35 : k0_chk35 v556), ∀ (k0_h70 : k0_cond70 v556 = 1#1), ∀ a, (k0_off138 v556) a + S1x5120.size a ≤ S1376x5120.size a := fun v556 k0_hw35 k0_h70 => k0_hw35.1 k0_h70
theorem k0_off139_inb : ∀ (v556 : BitVec 32) (k0_hw35 : k0_chk35 v556), ∀ (k0_h71 : k0_cond71 v556 = 1#1), ∀ a, (k0_off139 v556) a + S1x2560.size a ≤ S5536x2560.size a := fun v556 k0_hw35 k0_h71 => k0_hw35.2.1 k0_h71
theorem k0_off140_inb : ∀ (v556 : BitVec 32) (k0_hw35 : k0_chk35 v556), ∀ a, (k0_off140 v556) a + S1x40.size a ≤ S11072x40.size a := fun v556 k0_hw35 => k0_hw35.2.2

def k0_off141 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c35_i32 : BitVec 32 := 35#32
  let v570 : BitVec 32 := Scalar.addi v9 c35_i32
  let v571 : Index := Scalar.indexCast v570
  ![v571.toNat]
def k0_off142 (v572 : BitVec 32) : Fin 2 → Nat :=
  let c2_i32_947 : BitVec 32 := 2#32
  let v1234 : BitVec 32 := Scalar.shrui v572 c2_i32_947
  let c0_i32_950 : BitVec 32 := 0#32
  ![v1234.toNat, 0]
def k0_cond72 (v572 : BitVec 32) : BitVec 1 :=
  let c5504_i32_362 : BitVec 32 := 5504#32
  let v573 : BitVec 1 := Scalar.cmpi .slt v572 c5504_i32_362
  let v578 : BitVec 32 := Scalar.extui v573
  let c0_i32_365 : BitVec 32 := 0#32
  let v579 : BitVec 1 := Scalar.cmpi .ne v578 c0_i32_365
  v579

def k0_off143 (v572 : BitVec 32) : Fin 2 → Nat :=
  let c5504_i32_363 : BitVec 32 := 5504#32
  let v574 : BitVec 32 := Scalar.subi v572 c5504_i32_363
  let c0_i32_364 : BitVec 32 := 0#32
  let v575 : BitVec 32 := Scalar.maxsi v574 c0_i32_364
  let c2_i32_947 : BitVec 32 := 2#32
  let v1234 : BitVec 32 := Scalar.shrui v575 c2_i32_947
  let c0_i32_950 : BitVec 32 := 0#32
  ![v1234.toNat, 0]
def k0_cond73 (v572 : BitVec 32) : BitVec 1 :=
  let c5504_i32_362 : BitVec 32 := 5504#32
  let v573 : BitVec 1 := Scalar.cmpi .slt v572 c5504_i32_362
  let true_366 : BitVec 1 := 1#1
  let v580 : BitVec 1 := Scalar.xori v573 true_366
  let v581 : BitVec 32 := Scalar.extui v580
  let c0_i32_367 : BitVec 32 := 0#32
  let v582 : BitVec 1 := Scalar.cmpi .ne v581 c0_i32_367
  v582

def k0_off144 (v572 : BitVec 32) : Fin 2 → Nat :=
  let c5504_i32_363 : BitVec 32 := 5504#32
  let v574 : BitVec 32 := Scalar.subi v572 c5504_i32_363
  let c0_i32_364 : BitVec 32 := 0#32
  let v575 : BitVec 32 := Scalar.maxsi v574 c0_i32_364
  let c1_i32_368 : BitVec 32 := 1#32
  let v583 : BitVec 32 := Scalar.shrui v575 c1_i32_368
  let c0_i32_371 : BitVec 32 := 0#32
  ![v583.toNat, 0]

def k0_chk36 (v572 : BitVec 32) : Prop :=
  (∀ (k0_h72 : k0_cond72 v572 = 1#1), ∀ a, (k0_off142 v572) a + S1x5120.size a ≤ S1376x5120.size a) ∧
  (∀ (k0_h73 : k0_cond73 v572 = 1#1), ∀ a, (k0_off143 v572) a + S1x2560.size a ≤ S5536x2560.size a) ∧
  (∀ a, (k0_off144 v572) a + S1x40.size a ≤ S11072x40.size a)
theorem k0_off142_inb : ∀ (v572 : BitVec 32) (k0_hw36 : k0_chk36 v572), ∀ (k0_h72 : k0_cond72 v572 = 1#1), ∀ a, (k0_off142 v572) a + S1x5120.size a ≤ S1376x5120.size a := fun v572 k0_hw36 k0_h72 => k0_hw36.1 k0_h72
theorem k0_off143_inb : ∀ (v572 : BitVec 32) (k0_hw36 : k0_chk36 v572), ∀ (k0_h73 : k0_cond73 v572 = 1#1), ∀ a, (k0_off143 v572) a + S1x2560.size a ≤ S5536x2560.size a := fun v572 k0_hw36 k0_h73 => k0_hw36.2.1 k0_h73
theorem k0_off144_inb : ∀ (v572 : BitVec 32) (k0_hw36 : k0_chk36 v572), ∀ a, (k0_off144 v572) a + S1x40.size a ≤ S11072x40.size a := fun v572 k0_hw36 => k0_hw36.2.2

def k0_off145 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c36_i32 : BitVec 32 := 36#32
  let v586 : BitVec 32 := Scalar.addi v9 c36_i32
  let v587 : Index := Scalar.indexCast v586
  ![v587.toNat]
def k0_off146 (v588 : BitVec 32) : Fin 2 → Nat :=
  let c2_i32_947 : BitVec 32 := 2#32
  let v1234 : BitVec 32 := Scalar.shrui v588 c2_i32_947
  let c0_i32_950 : BitVec 32 := 0#32
  ![v1234.toNat, 0]
def k0_cond74 (v588 : BitVec 32) : BitVec 1 :=
  let c5504_i32_372 : BitVec 32 := 5504#32
  let v589 : BitVec 1 := Scalar.cmpi .slt v588 c5504_i32_372
  let v594 : BitVec 32 := Scalar.extui v589
  let c0_i32_375 : BitVec 32 := 0#32
  let v595 : BitVec 1 := Scalar.cmpi .ne v594 c0_i32_375
  v595

def k0_off147 (v588 : BitVec 32) : Fin 2 → Nat :=
  let c5504_i32_373 : BitVec 32 := 5504#32
  let v590 : BitVec 32 := Scalar.subi v588 c5504_i32_373
  let c0_i32_374 : BitVec 32 := 0#32
  let v591 : BitVec 32 := Scalar.maxsi v590 c0_i32_374
  let c2_i32_947 : BitVec 32 := 2#32
  let v1234 : BitVec 32 := Scalar.shrui v591 c2_i32_947
  let c0_i32_950 : BitVec 32 := 0#32
  ![v1234.toNat, 0]
def k0_cond75 (v588 : BitVec 32) : BitVec 1 :=
  let c5504_i32_372 : BitVec 32 := 5504#32
  let v589 : BitVec 1 := Scalar.cmpi .slt v588 c5504_i32_372
  let true_376 : BitVec 1 := 1#1
  let v596 : BitVec 1 := Scalar.xori v589 true_376
  let v597 : BitVec 32 := Scalar.extui v596
  let c0_i32_377 : BitVec 32 := 0#32
  let v598 : BitVec 1 := Scalar.cmpi .ne v597 c0_i32_377
  v598

def k0_off148 (v588 : BitVec 32) : Fin 2 → Nat :=
  let c5504_i32_373 : BitVec 32 := 5504#32
  let v590 : BitVec 32 := Scalar.subi v588 c5504_i32_373
  let c0_i32_374 : BitVec 32 := 0#32
  let v591 : BitVec 32 := Scalar.maxsi v590 c0_i32_374
  let c1_i32_378 : BitVec 32 := 1#32
  let v599 : BitVec 32 := Scalar.shrui v591 c1_i32_378
  let c0_i32_381 : BitVec 32 := 0#32
  ![v599.toNat, 0]

def k0_chk37 (v588 : BitVec 32) : Prop :=
  (∀ (k0_h74 : k0_cond74 v588 = 1#1), ∀ a, (k0_off146 v588) a + S1x5120.size a ≤ S1376x5120.size a) ∧
  (∀ (k0_h75 : k0_cond75 v588 = 1#1), ∀ a, (k0_off147 v588) a + S1x2560.size a ≤ S5536x2560.size a) ∧
  (∀ a, (k0_off148 v588) a + S1x40.size a ≤ S11072x40.size a)
theorem k0_off146_inb : ∀ (v588 : BitVec 32) (k0_hw37 : k0_chk37 v588), ∀ (k0_h74 : k0_cond74 v588 = 1#1), ∀ a, (k0_off146 v588) a + S1x5120.size a ≤ S1376x5120.size a := fun v588 k0_hw37 k0_h74 => k0_hw37.1 k0_h74
theorem k0_off147_inb : ∀ (v588 : BitVec 32) (k0_hw37 : k0_chk37 v588), ∀ (k0_h75 : k0_cond75 v588 = 1#1), ∀ a, (k0_off147 v588) a + S1x2560.size a ≤ S5536x2560.size a := fun v588 k0_hw37 k0_h75 => k0_hw37.2.1 k0_h75
theorem k0_off148_inb : ∀ (v588 : BitVec 32) (k0_hw37 : k0_chk37 v588), ∀ a, (k0_off148 v588) a + S1x40.size a ≤ S11072x40.size a := fun v588 k0_hw37 => k0_hw37.2.2

def k0_off149 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c37_i32 : BitVec 32 := 37#32
  let v602 : BitVec 32 := Scalar.addi v9 c37_i32
  let v603 : Index := Scalar.indexCast v602
  ![v603.toNat]
def k0_off150 (v604 : BitVec 32) : Fin 2 → Nat :=
  let c2_i32_947 : BitVec 32 := 2#32
  let v1234 : BitVec 32 := Scalar.shrui v604 c2_i32_947
  let c0_i32_950 : BitVec 32 := 0#32
  ![v1234.toNat, 0]
def k0_cond76 (v604 : BitVec 32) : BitVec 1 :=
  let c5504_i32_382 : BitVec 32 := 5504#32
  let v605 : BitVec 1 := Scalar.cmpi .slt v604 c5504_i32_382
  let v610 : BitVec 32 := Scalar.extui v605
  let c0_i32_385 : BitVec 32 := 0#32
  let v611 : BitVec 1 := Scalar.cmpi .ne v610 c0_i32_385
  v611

def k0_off151 (v604 : BitVec 32) : Fin 2 → Nat :=
  let c5504_i32_383 : BitVec 32 := 5504#32
  let v606 : BitVec 32 := Scalar.subi v604 c5504_i32_383
  let c0_i32_384 : BitVec 32 := 0#32
  let v607 : BitVec 32 := Scalar.maxsi v606 c0_i32_384
  let c2_i32_947 : BitVec 32 := 2#32
  let v1234 : BitVec 32 := Scalar.shrui v607 c2_i32_947
  let c0_i32_950 : BitVec 32 := 0#32
  ![v1234.toNat, 0]
def k0_cond77 (v604 : BitVec 32) : BitVec 1 :=
  let c5504_i32_382 : BitVec 32 := 5504#32
  let v605 : BitVec 1 := Scalar.cmpi .slt v604 c5504_i32_382
  let true_386 : BitVec 1 := 1#1
  let v612 : BitVec 1 := Scalar.xori v605 true_386
  let v613 : BitVec 32 := Scalar.extui v612
  let c0_i32_387 : BitVec 32 := 0#32
  let v614 : BitVec 1 := Scalar.cmpi .ne v613 c0_i32_387
  v614

def k0_off152 (v604 : BitVec 32) : Fin 2 → Nat :=
  let c5504_i32_383 : BitVec 32 := 5504#32
  let v606 : BitVec 32 := Scalar.subi v604 c5504_i32_383
  let c0_i32_384 : BitVec 32 := 0#32
  let v607 : BitVec 32 := Scalar.maxsi v606 c0_i32_384
  let c1_i32_388 : BitVec 32 := 1#32
  let v615 : BitVec 32 := Scalar.shrui v607 c1_i32_388
  let c0_i32_391 : BitVec 32 := 0#32
  ![v615.toNat, 0]

def k0_chk38 (v604 : BitVec 32) : Prop :=
  (∀ (k0_h76 : k0_cond76 v604 = 1#1), ∀ a, (k0_off150 v604) a + S1x5120.size a ≤ S1376x5120.size a) ∧
  (∀ (k0_h77 : k0_cond77 v604 = 1#1), ∀ a, (k0_off151 v604) a + S1x2560.size a ≤ S5536x2560.size a) ∧
  (∀ a, (k0_off152 v604) a + S1x40.size a ≤ S11072x40.size a)
theorem k0_off150_inb : ∀ (v604 : BitVec 32) (k0_hw38 : k0_chk38 v604), ∀ (k0_h76 : k0_cond76 v604 = 1#1), ∀ a, (k0_off150 v604) a + S1x5120.size a ≤ S1376x5120.size a := fun v604 k0_hw38 k0_h76 => k0_hw38.1 k0_h76
theorem k0_off151_inb : ∀ (v604 : BitVec 32) (k0_hw38 : k0_chk38 v604), ∀ (k0_h77 : k0_cond77 v604 = 1#1), ∀ a, (k0_off151 v604) a + S1x2560.size a ≤ S5536x2560.size a := fun v604 k0_hw38 k0_h77 => k0_hw38.2.1 k0_h77
theorem k0_off152_inb : ∀ (v604 : BitVec 32) (k0_hw38 : k0_chk38 v604), ∀ a, (k0_off152 v604) a + S1x40.size a ≤ S11072x40.size a := fun v604 k0_hw38 => k0_hw38.2.2

def k0_off153 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c38_i32 : BitVec 32 := 38#32
  let v618 : BitVec 32 := Scalar.addi v9 c38_i32
  let v619 : Index := Scalar.indexCast v618
  ![v619.toNat]
def k0_off154 (v620 : BitVec 32) : Fin 2 → Nat :=
  let c2_i32_947 : BitVec 32 := 2#32
  let v1234 : BitVec 32 := Scalar.shrui v620 c2_i32_947
  let c0_i32_950 : BitVec 32 := 0#32
  ![v1234.toNat, 0]
def k0_cond78 (v620 : BitVec 32) : BitVec 1 :=
  let c5504_i32_392 : BitVec 32 := 5504#32
  let v621 : BitVec 1 := Scalar.cmpi .slt v620 c5504_i32_392
  let v626 : BitVec 32 := Scalar.extui v621
  let c0_i32_395 : BitVec 32 := 0#32
  let v627 : BitVec 1 := Scalar.cmpi .ne v626 c0_i32_395
  v627

def k0_off155 (v620 : BitVec 32) : Fin 2 → Nat :=
  let c5504_i32_393 : BitVec 32 := 5504#32
  let v622 : BitVec 32 := Scalar.subi v620 c5504_i32_393
  let c0_i32_394 : BitVec 32 := 0#32
  let v623 : BitVec 32 := Scalar.maxsi v622 c0_i32_394
  let c2_i32_947 : BitVec 32 := 2#32
  let v1234 : BitVec 32 := Scalar.shrui v623 c2_i32_947
  let c0_i32_950 : BitVec 32 := 0#32
  ![v1234.toNat, 0]
def k0_cond79 (v620 : BitVec 32) : BitVec 1 :=
  let c5504_i32_392 : BitVec 32 := 5504#32
  let v621 : BitVec 1 := Scalar.cmpi .slt v620 c5504_i32_392
  let true_396 : BitVec 1 := 1#1
  let v628 : BitVec 1 := Scalar.xori v621 true_396
  let v629 : BitVec 32 := Scalar.extui v628
  let c0_i32_397 : BitVec 32 := 0#32
  let v630 : BitVec 1 := Scalar.cmpi .ne v629 c0_i32_397
  v630

def k0_off156 (v620 : BitVec 32) : Fin 2 → Nat :=
  let c5504_i32_393 : BitVec 32 := 5504#32
  let v622 : BitVec 32 := Scalar.subi v620 c5504_i32_393
  let c0_i32_394 : BitVec 32 := 0#32
  let v623 : BitVec 32 := Scalar.maxsi v622 c0_i32_394
  let c1_i32_398 : BitVec 32 := 1#32
  let v631 : BitVec 32 := Scalar.shrui v623 c1_i32_398
  let c0_i32_401 : BitVec 32 := 0#32
  ![v631.toNat, 0]

def k0_chk39 (v620 : BitVec 32) : Prop :=
  (∀ (k0_h78 : k0_cond78 v620 = 1#1), ∀ a, (k0_off154 v620) a + S1x5120.size a ≤ S1376x5120.size a) ∧
  (∀ (k0_h79 : k0_cond79 v620 = 1#1), ∀ a, (k0_off155 v620) a + S1x2560.size a ≤ S5536x2560.size a) ∧
  (∀ a, (k0_off156 v620) a + S1x40.size a ≤ S11072x40.size a)
theorem k0_off154_inb : ∀ (v620 : BitVec 32) (k0_hw39 : k0_chk39 v620), ∀ (k0_h78 : k0_cond78 v620 = 1#1), ∀ a, (k0_off154 v620) a + S1x5120.size a ≤ S1376x5120.size a := fun v620 k0_hw39 k0_h78 => k0_hw39.1 k0_h78
theorem k0_off155_inb : ∀ (v620 : BitVec 32) (k0_hw39 : k0_chk39 v620), ∀ (k0_h79 : k0_cond79 v620 = 1#1), ∀ a, (k0_off155 v620) a + S1x2560.size a ≤ S5536x2560.size a := fun v620 k0_hw39 k0_h79 => k0_hw39.2.1 k0_h79
theorem k0_off156_inb : ∀ (v620 : BitVec 32) (k0_hw39 : k0_chk39 v620), ∀ a, (k0_off156 v620) a + S1x40.size a ≤ S11072x40.size a := fun v620 k0_hw39 => k0_hw39.2.2

def k0_off157 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c39_i32 : BitVec 32 := 39#32
  let v634 : BitVec 32 := Scalar.addi v9 c39_i32
  let v635 : Index := Scalar.indexCast v634
  ![v635.toNat]
def k0_off158 (v636 : BitVec 32) : Fin 2 → Nat :=
  let c2_i32_947 : BitVec 32 := 2#32
  let v1234 : BitVec 32 := Scalar.shrui v636 c2_i32_947
  let c0_i32_950 : BitVec 32 := 0#32
  ![v1234.toNat, 0]
def k0_cond80 (v636 : BitVec 32) : BitVec 1 :=
  let c5504_i32_402 : BitVec 32 := 5504#32
  let v637 : BitVec 1 := Scalar.cmpi .slt v636 c5504_i32_402
  let v642 : BitVec 32 := Scalar.extui v637
  let c0_i32_405 : BitVec 32 := 0#32
  let v643 : BitVec 1 := Scalar.cmpi .ne v642 c0_i32_405
  v643

def k0_off159 (v636 : BitVec 32) : Fin 2 → Nat :=
  let c5504_i32_403 : BitVec 32 := 5504#32
  let v638 : BitVec 32 := Scalar.subi v636 c5504_i32_403
  let c0_i32_404 : BitVec 32 := 0#32
  let v639 : BitVec 32 := Scalar.maxsi v638 c0_i32_404
  let c2_i32_947 : BitVec 32 := 2#32
  let v1234 : BitVec 32 := Scalar.shrui v639 c2_i32_947
  let c0_i32_950 : BitVec 32 := 0#32
  ![v1234.toNat, 0]
def k0_cond81 (v636 : BitVec 32) : BitVec 1 :=
  let c5504_i32_402 : BitVec 32 := 5504#32
  let v637 : BitVec 1 := Scalar.cmpi .slt v636 c5504_i32_402
  let true_406 : BitVec 1 := 1#1
  let v644 : BitVec 1 := Scalar.xori v637 true_406
  let v645 : BitVec 32 := Scalar.extui v644
  let c0_i32_407 : BitVec 32 := 0#32
  let v646 : BitVec 1 := Scalar.cmpi .ne v645 c0_i32_407
  v646

def k0_off160 (v636 : BitVec 32) : Fin 2 → Nat :=
  let c5504_i32_403 : BitVec 32 := 5504#32
  let v638 : BitVec 32 := Scalar.subi v636 c5504_i32_403
  let c0_i32_404 : BitVec 32 := 0#32
  let v639 : BitVec 32 := Scalar.maxsi v638 c0_i32_404
  let c1_i32_408 : BitVec 32 := 1#32
  let v647 : BitVec 32 := Scalar.shrui v639 c1_i32_408
  let c0_i32_411 : BitVec 32 := 0#32
  ![v647.toNat, 0]

def k0_chk40 (v636 : BitVec 32) : Prop :=
  (∀ (k0_h80 : k0_cond80 v636 = 1#1), ∀ a, (k0_off158 v636) a + S1x5120.size a ≤ S1376x5120.size a) ∧
  (∀ (k0_h81 : k0_cond81 v636 = 1#1), ∀ a, (k0_off159 v636) a + S1x2560.size a ≤ S5536x2560.size a) ∧
  (∀ a, (k0_off160 v636) a + S1x40.size a ≤ S11072x40.size a)
theorem k0_off158_inb : ∀ (v636 : BitVec 32) (k0_hw40 : k0_chk40 v636), ∀ (k0_h80 : k0_cond80 v636 = 1#1), ∀ a, (k0_off158 v636) a + S1x5120.size a ≤ S1376x5120.size a := fun v636 k0_hw40 k0_h80 => k0_hw40.1 k0_h80
theorem k0_off159_inb : ∀ (v636 : BitVec 32) (k0_hw40 : k0_chk40 v636), ∀ (k0_h81 : k0_cond81 v636 = 1#1), ∀ a, (k0_off159 v636) a + S1x2560.size a ≤ S5536x2560.size a := fun v636 k0_hw40 k0_h81 => k0_hw40.2.1 k0_h81
theorem k0_off160_inb : ∀ (v636 : BitVec 32) (k0_hw40 : k0_chk40 v636), ∀ a, (k0_off160 v636) a + S1x40.size a ≤ S11072x40.size a := fun v636 k0_hw40 => k0_hw40.2.2

def k0_off161 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c40_i32 : BitVec 32 := 40#32
  let v650 : BitVec 32 := Scalar.addi v9 c40_i32
  let v651 : Index := Scalar.indexCast v650
  ![v651.toNat]
def k0_off162 (v652 : BitVec 32) : Fin 2 → Nat :=
  let c2_i32_947 : BitVec 32 := 2#32
  let v1234 : BitVec 32 := Scalar.shrui v652 c2_i32_947
  let c0_i32_950 : BitVec 32 := 0#32
  ![v1234.toNat, 0]
def k0_cond82 (v652 : BitVec 32) : BitVec 1 :=
  let c5504_i32_412 : BitVec 32 := 5504#32
  let v653 : BitVec 1 := Scalar.cmpi .slt v652 c5504_i32_412
  let v658 : BitVec 32 := Scalar.extui v653
  let c0_i32_415 : BitVec 32 := 0#32
  let v659 : BitVec 1 := Scalar.cmpi .ne v658 c0_i32_415
  v659

def k0_off163 (v652 : BitVec 32) : Fin 2 → Nat :=
  let c5504_i32_413 : BitVec 32 := 5504#32
  let v654 : BitVec 32 := Scalar.subi v652 c5504_i32_413
  let c0_i32_414 : BitVec 32 := 0#32
  let v655 : BitVec 32 := Scalar.maxsi v654 c0_i32_414
  let c2_i32_947 : BitVec 32 := 2#32
  let v1234 : BitVec 32 := Scalar.shrui v655 c2_i32_947
  let c0_i32_950 : BitVec 32 := 0#32
  ![v1234.toNat, 0]
def k0_cond83 (v652 : BitVec 32) : BitVec 1 :=
  let c5504_i32_412 : BitVec 32 := 5504#32
  let v653 : BitVec 1 := Scalar.cmpi .slt v652 c5504_i32_412
  let true_416 : BitVec 1 := 1#1
  let v660 : BitVec 1 := Scalar.xori v653 true_416
  let v661 : BitVec 32 := Scalar.extui v660
  let c0_i32_417 : BitVec 32 := 0#32
  let v662 : BitVec 1 := Scalar.cmpi .ne v661 c0_i32_417
  v662

def k0_off164 (v652 : BitVec 32) : Fin 2 → Nat :=
  let c5504_i32_413 : BitVec 32 := 5504#32
  let v654 : BitVec 32 := Scalar.subi v652 c5504_i32_413
  let c0_i32_414 : BitVec 32 := 0#32
  let v655 : BitVec 32 := Scalar.maxsi v654 c0_i32_414
  let c1_i32_418 : BitVec 32 := 1#32
  let v663 : BitVec 32 := Scalar.shrui v655 c1_i32_418
  let c0_i32_421 : BitVec 32 := 0#32
  ![v663.toNat, 0]

def k0_chk41 (v652 : BitVec 32) : Prop :=
  (∀ (k0_h82 : k0_cond82 v652 = 1#1), ∀ a, (k0_off162 v652) a + S1x5120.size a ≤ S1376x5120.size a) ∧
  (∀ (k0_h83 : k0_cond83 v652 = 1#1), ∀ a, (k0_off163 v652) a + S1x2560.size a ≤ S5536x2560.size a) ∧
  (∀ a, (k0_off164 v652) a + S1x40.size a ≤ S11072x40.size a)
theorem k0_off162_inb : ∀ (v652 : BitVec 32) (k0_hw41 : k0_chk41 v652), ∀ (k0_h82 : k0_cond82 v652 = 1#1), ∀ a, (k0_off162 v652) a + S1x5120.size a ≤ S1376x5120.size a := fun v652 k0_hw41 k0_h82 => k0_hw41.1 k0_h82
theorem k0_off163_inb : ∀ (v652 : BitVec 32) (k0_hw41 : k0_chk41 v652), ∀ (k0_h83 : k0_cond83 v652 = 1#1), ∀ a, (k0_off163 v652) a + S1x2560.size a ≤ S5536x2560.size a := fun v652 k0_hw41 k0_h83 => k0_hw41.2.1 k0_h83
theorem k0_off164_inb : ∀ (v652 : BitVec 32) (k0_hw41 : k0_chk41 v652), ∀ a, (k0_off164 v652) a + S1x40.size a ≤ S11072x40.size a := fun v652 k0_hw41 => k0_hw41.2.2

def k0_off165 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c41_i32 : BitVec 32 := 41#32
  let v666 : BitVec 32 := Scalar.addi v9 c41_i32
  let v667 : Index := Scalar.indexCast v666
  ![v667.toNat]
def k0_off166 (v668 : BitVec 32) : Fin 2 → Nat :=
  let c2_i32_947 : BitVec 32 := 2#32
  let v1234 : BitVec 32 := Scalar.shrui v668 c2_i32_947
  let c0_i32_950 : BitVec 32 := 0#32
  ![v1234.toNat, 0]
def k0_cond84 (v668 : BitVec 32) : BitVec 1 :=
  let c5504_i32_422 : BitVec 32 := 5504#32
  let v669 : BitVec 1 := Scalar.cmpi .slt v668 c5504_i32_422
  let v674 : BitVec 32 := Scalar.extui v669
  let c0_i32_425 : BitVec 32 := 0#32
  let v675 : BitVec 1 := Scalar.cmpi .ne v674 c0_i32_425
  v675

def k0_off167 (v668 : BitVec 32) : Fin 2 → Nat :=
  let c5504_i32_423 : BitVec 32 := 5504#32
  let v670 : BitVec 32 := Scalar.subi v668 c5504_i32_423
  let c0_i32_424 : BitVec 32 := 0#32
  let v671 : BitVec 32 := Scalar.maxsi v670 c0_i32_424
  let c2_i32_947 : BitVec 32 := 2#32
  let v1234 : BitVec 32 := Scalar.shrui v671 c2_i32_947
  let c0_i32_950 : BitVec 32 := 0#32
  ![v1234.toNat, 0]
def k0_cond85 (v668 : BitVec 32) : BitVec 1 :=
  let c5504_i32_422 : BitVec 32 := 5504#32
  let v669 : BitVec 1 := Scalar.cmpi .slt v668 c5504_i32_422
  let true_426 : BitVec 1 := 1#1
  let v676 : BitVec 1 := Scalar.xori v669 true_426
  let v677 : BitVec 32 := Scalar.extui v676
  let c0_i32_427 : BitVec 32 := 0#32
  let v678 : BitVec 1 := Scalar.cmpi .ne v677 c0_i32_427
  v678

def k0_off168 (v668 : BitVec 32) : Fin 2 → Nat :=
  let c5504_i32_423 : BitVec 32 := 5504#32
  let v670 : BitVec 32 := Scalar.subi v668 c5504_i32_423
  let c0_i32_424 : BitVec 32 := 0#32
  let v671 : BitVec 32 := Scalar.maxsi v670 c0_i32_424
  let c1_i32_428 : BitVec 32 := 1#32
  let v679 : BitVec 32 := Scalar.shrui v671 c1_i32_428
  let c0_i32_431 : BitVec 32 := 0#32
  ![v679.toNat, 0]

def k0_chk42 (v668 : BitVec 32) : Prop :=
  (∀ (k0_h84 : k0_cond84 v668 = 1#1), ∀ a, (k0_off166 v668) a + S1x5120.size a ≤ S1376x5120.size a) ∧
  (∀ (k0_h85 : k0_cond85 v668 = 1#1), ∀ a, (k0_off167 v668) a + S1x2560.size a ≤ S5536x2560.size a) ∧
  (∀ a, (k0_off168 v668) a + S1x40.size a ≤ S11072x40.size a)
theorem k0_off166_inb : ∀ (v668 : BitVec 32) (k0_hw42 : k0_chk42 v668), ∀ (k0_h84 : k0_cond84 v668 = 1#1), ∀ a, (k0_off166 v668) a + S1x5120.size a ≤ S1376x5120.size a := fun v668 k0_hw42 k0_h84 => k0_hw42.1 k0_h84
theorem k0_off167_inb : ∀ (v668 : BitVec 32) (k0_hw42 : k0_chk42 v668), ∀ (k0_h85 : k0_cond85 v668 = 1#1), ∀ a, (k0_off167 v668) a + S1x2560.size a ≤ S5536x2560.size a := fun v668 k0_hw42 k0_h85 => k0_hw42.2.1 k0_h85
theorem k0_off168_inb : ∀ (v668 : BitVec 32) (k0_hw42 : k0_chk42 v668), ∀ a, (k0_off168 v668) a + S1x40.size a ≤ S11072x40.size a := fun v668 k0_hw42 => k0_hw42.2.2

def k0_off169 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c42_i32 : BitVec 32 := 42#32
  let v682 : BitVec 32 := Scalar.addi v9 c42_i32
  let v683 : Index := Scalar.indexCast v682
  ![v683.toNat]
def k0_off170 (v684 : BitVec 32) : Fin 2 → Nat :=
  let c2_i32_947 : BitVec 32 := 2#32
  let v1234 : BitVec 32 := Scalar.shrui v684 c2_i32_947
  let c0_i32_950 : BitVec 32 := 0#32
  ![v1234.toNat, 0]
def k0_cond86 (v684 : BitVec 32) : BitVec 1 :=
  let c5504_i32_432 : BitVec 32 := 5504#32
  let v685 : BitVec 1 := Scalar.cmpi .slt v684 c5504_i32_432
  let v690 : BitVec 32 := Scalar.extui v685
  let c0_i32_435 : BitVec 32 := 0#32
  let v691 : BitVec 1 := Scalar.cmpi .ne v690 c0_i32_435
  v691

def k0_off171 (v684 : BitVec 32) : Fin 2 → Nat :=
  let c5504_i32_433 : BitVec 32 := 5504#32
  let v686 : BitVec 32 := Scalar.subi v684 c5504_i32_433
  let c0_i32_434 : BitVec 32 := 0#32
  let v687 : BitVec 32 := Scalar.maxsi v686 c0_i32_434
  let c2_i32_947 : BitVec 32 := 2#32
  let v1234 : BitVec 32 := Scalar.shrui v687 c2_i32_947
  let c0_i32_950 : BitVec 32 := 0#32
  ![v1234.toNat, 0]
def k0_cond87 (v684 : BitVec 32) : BitVec 1 :=
  let c5504_i32_432 : BitVec 32 := 5504#32
  let v685 : BitVec 1 := Scalar.cmpi .slt v684 c5504_i32_432
  let true_436 : BitVec 1 := 1#1
  let v692 : BitVec 1 := Scalar.xori v685 true_436
  let v693 : BitVec 32 := Scalar.extui v692
  let c0_i32_437 : BitVec 32 := 0#32
  let v694 : BitVec 1 := Scalar.cmpi .ne v693 c0_i32_437
  v694

def k0_off172 (v684 : BitVec 32) : Fin 2 → Nat :=
  let c5504_i32_433 : BitVec 32 := 5504#32
  let v686 : BitVec 32 := Scalar.subi v684 c5504_i32_433
  let c0_i32_434 : BitVec 32 := 0#32
  let v687 : BitVec 32 := Scalar.maxsi v686 c0_i32_434
  let c1_i32_438 : BitVec 32 := 1#32
  let v695 : BitVec 32 := Scalar.shrui v687 c1_i32_438
  let c0_i32_441 : BitVec 32 := 0#32
  ![v695.toNat, 0]

def k0_chk43 (v684 : BitVec 32) : Prop :=
  (∀ (k0_h86 : k0_cond86 v684 = 1#1), ∀ a, (k0_off170 v684) a + S1x5120.size a ≤ S1376x5120.size a) ∧
  (∀ (k0_h87 : k0_cond87 v684 = 1#1), ∀ a, (k0_off171 v684) a + S1x2560.size a ≤ S5536x2560.size a) ∧
  (∀ a, (k0_off172 v684) a + S1x40.size a ≤ S11072x40.size a)
theorem k0_off170_inb : ∀ (v684 : BitVec 32) (k0_hw43 : k0_chk43 v684), ∀ (k0_h86 : k0_cond86 v684 = 1#1), ∀ a, (k0_off170 v684) a + S1x5120.size a ≤ S1376x5120.size a := fun v684 k0_hw43 k0_h86 => k0_hw43.1 k0_h86
theorem k0_off171_inb : ∀ (v684 : BitVec 32) (k0_hw43 : k0_chk43 v684), ∀ (k0_h87 : k0_cond87 v684 = 1#1), ∀ a, (k0_off171 v684) a + S1x2560.size a ≤ S5536x2560.size a := fun v684 k0_hw43 k0_h87 => k0_hw43.2.1 k0_h87
theorem k0_off172_inb : ∀ (v684 : BitVec 32) (k0_hw43 : k0_chk43 v684), ∀ a, (k0_off172 v684) a + S1x40.size a ≤ S11072x40.size a := fun v684 k0_hw43 => k0_hw43.2.2

def k0_off173 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c43_i32 : BitVec 32 := 43#32
  let v698 : BitVec 32 := Scalar.addi v9 c43_i32
  let v699 : Index := Scalar.indexCast v698
  ![v699.toNat]
def k0_off174 (v700 : BitVec 32) : Fin 2 → Nat :=
  let c2_i32_947 : BitVec 32 := 2#32
  let v1234 : BitVec 32 := Scalar.shrui v700 c2_i32_947
  let c0_i32_950 : BitVec 32 := 0#32
  ![v1234.toNat, 0]
def k0_cond88 (v700 : BitVec 32) : BitVec 1 :=
  let c5504_i32_442 : BitVec 32 := 5504#32
  let v701 : BitVec 1 := Scalar.cmpi .slt v700 c5504_i32_442
  let v706 : BitVec 32 := Scalar.extui v701
  let c0_i32_445 : BitVec 32 := 0#32
  let v707 : BitVec 1 := Scalar.cmpi .ne v706 c0_i32_445
  v707

def k0_off175 (v700 : BitVec 32) : Fin 2 → Nat :=
  let c5504_i32_443 : BitVec 32 := 5504#32
  let v702 : BitVec 32 := Scalar.subi v700 c5504_i32_443
  let c0_i32_444 : BitVec 32 := 0#32
  let v703 : BitVec 32 := Scalar.maxsi v702 c0_i32_444
  let c2_i32_947 : BitVec 32 := 2#32
  let v1234 : BitVec 32 := Scalar.shrui v703 c2_i32_947
  let c0_i32_950 : BitVec 32 := 0#32
  ![v1234.toNat, 0]
def k0_cond89 (v700 : BitVec 32) : BitVec 1 :=
  let c5504_i32_442 : BitVec 32 := 5504#32
  let v701 : BitVec 1 := Scalar.cmpi .slt v700 c5504_i32_442
  let true_446 : BitVec 1 := 1#1
  let v708 : BitVec 1 := Scalar.xori v701 true_446
  let v709 : BitVec 32 := Scalar.extui v708
  let c0_i32_447 : BitVec 32 := 0#32
  let v710 : BitVec 1 := Scalar.cmpi .ne v709 c0_i32_447
  v710

def k0_off176 (v700 : BitVec 32) : Fin 2 → Nat :=
  let c5504_i32_443 : BitVec 32 := 5504#32
  let v702 : BitVec 32 := Scalar.subi v700 c5504_i32_443
  let c0_i32_444 : BitVec 32 := 0#32
  let v703 : BitVec 32 := Scalar.maxsi v702 c0_i32_444
  let c1_i32_448 : BitVec 32 := 1#32
  let v711 : BitVec 32 := Scalar.shrui v703 c1_i32_448
  let c0_i32_451 : BitVec 32 := 0#32
  ![v711.toNat, 0]

def k0_chk44 (v700 : BitVec 32) : Prop :=
  (∀ (k0_h88 : k0_cond88 v700 = 1#1), ∀ a, (k0_off174 v700) a + S1x5120.size a ≤ S1376x5120.size a) ∧
  (∀ (k0_h89 : k0_cond89 v700 = 1#1), ∀ a, (k0_off175 v700) a + S1x2560.size a ≤ S5536x2560.size a) ∧
  (∀ a, (k0_off176 v700) a + S1x40.size a ≤ S11072x40.size a)
theorem k0_off174_inb : ∀ (v700 : BitVec 32) (k0_hw44 : k0_chk44 v700), ∀ (k0_h88 : k0_cond88 v700 = 1#1), ∀ a, (k0_off174 v700) a + S1x5120.size a ≤ S1376x5120.size a := fun v700 k0_hw44 k0_h88 => k0_hw44.1 k0_h88
theorem k0_off175_inb : ∀ (v700 : BitVec 32) (k0_hw44 : k0_chk44 v700), ∀ (k0_h89 : k0_cond89 v700 = 1#1), ∀ a, (k0_off175 v700) a + S1x2560.size a ≤ S5536x2560.size a := fun v700 k0_hw44 k0_h89 => k0_hw44.2.1 k0_h89
theorem k0_off176_inb : ∀ (v700 : BitVec 32) (k0_hw44 : k0_chk44 v700), ∀ a, (k0_off176 v700) a + S1x40.size a ≤ S11072x40.size a := fun v700 k0_hw44 => k0_hw44.2.2

def k0_off177 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c44_i32 : BitVec 32 := 44#32
  let v714 : BitVec 32 := Scalar.addi v9 c44_i32
  let v715 : Index := Scalar.indexCast v714
  ![v715.toNat]
def k0_off178 (v716 : BitVec 32) : Fin 2 → Nat :=
  let c2_i32_947 : BitVec 32 := 2#32
  let v1234 : BitVec 32 := Scalar.shrui v716 c2_i32_947
  let c0_i32_950 : BitVec 32 := 0#32
  ![v1234.toNat, 0]
def k0_cond90 (v716 : BitVec 32) : BitVec 1 :=
  let c5504_i32_452 : BitVec 32 := 5504#32
  let v717 : BitVec 1 := Scalar.cmpi .slt v716 c5504_i32_452
  let v722 : BitVec 32 := Scalar.extui v717
  let c0_i32_455 : BitVec 32 := 0#32
  let v723 : BitVec 1 := Scalar.cmpi .ne v722 c0_i32_455
  v723

def k0_off179 (v716 : BitVec 32) : Fin 2 → Nat :=
  let c5504_i32_453 : BitVec 32 := 5504#32
  let v718 : BitVec 32 := Scalar.subi v716 c5504_i32_453
  let c0_i32_454 : BitVec 32 := 0#32
  let v719 : BitVec 32 := Scalar.maxsi v718 c0_i32_454
  let c2_i32_947 : BitVec 32 := 2#32
  let v1234 : BitVec 32 := Scalar.shrui v719 c2_i32_947
  let c0_i32_950 : BitVec 32 := 0#32
  ![v1234.toNat, 0]
def k0_cond91 (v716 : BitVec 32) : BitVec 1 :=
  let c5504_i32_452 : BitVec 32 := 5504#32
  let v717 : BitVec 1 := Scalar.cmpi .slt v716 c5504_i32_452
  let true_456 : BitVec 1 := 1#1
  let v724 : BitVec 1 := Scalar.xori v717 true_456
  let v725 : BitVec 32 := Scalar.extui v724
  let c0_i32_457 : BitVec 32 := 0#32
  let v726 : BitVec 1 := Scalar.cmpi .ne v725 c0_i32_457
  v726

def k0_off180 (v716 : BitVec 32) : Fin 2 → Nat :=
  let c5504_i32_453 : BitVec 32 := 5504#32
  let v718 : BitVec 32 := Scalar.subi v716 c5504_i32_453
  let c0_i32_454 : BitVec 32 := 0#32
  let v719 : BitVec 32 := Scalar.maxsi v718 c0_i32_454
  let c1_i32_458 : BitVec 32 := 1#32
  let v727 : BitVec 32 := Scalar.shrui v719 c1_i32_458
  let c0_i32_461 : BitVec 32 := 0#32
  ![v727.toNat, 0]

def k0_chk45 (v716 : BitVec 32) : Prop :=
  (∀ (k0_h90 : k0_cond90 v716 = 1#1), ∀ a, (k0_off178 v716) a + S1x5120.size a ≤ S1376x5120.size a) ∧
  (∀ (k0_h91 : k0_cond91 v716 = 1#1), ∀ a, (k0_off179 v716) a + S1x2560.size a ≤ S5536x2560.size a) ∧
  (∀ a, (k0_off180 v716) a + S1x40.size a ≤ S11072x40.size a)
theorem k0_off178_inb : ∀ (v716 : BitVec 32) (k0_hw45 : k0_chk45 v716), ∀ (k0_h90 : k0_cond90 v716 = 1#1), ∀ a, (k0_off178 v716) a + S1x5120.size a ≤ S1376x5120.size a := fun v716 k0_hw45 k0_h90 => k0_hw45.1 k0_h90
theorem k0_off179_inb : ∀ (v716 : BitVec 32) (k0_hw45 : k0_chk45 v716), ∀ (k0_h91 : k0_cond91 v716 = 1#1), ∀ a, (k0_off179 v716) a + S1x2560.size a ≤ S5536x2560.size a := fun v716 k0_hw45 k0_h91 => k0_hw45.2.1 k0_h91
theorem k0_off180_inb : ∀ (v716 : BitVec 32) (k0_hw45 : k0_chk45 v716), ∀ a, (k0_off180 v716) a + S1x40.size a ≤ S11072x40.size a := fun v716 k0_hw45 => k0_hw45.2.2

def k0_off181 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c45_i32 : BitVec 32 := 45#32
  let v730 : BitVec 32 := Scalar.addi v9 c45_i32
  let v731 : Index := Scalar.indexCast v730
  ![v731.toNat]
def k0_off182 (v732 : BitVec 32) : Fin 2 → Nat :=
  let c2_i32_947 : BitVec 32 := 2#32
  let v1234 : BitVec 32 := Scalar.shrui v732 c2_i32_947
  let c0_i32_950 : BitVec 32 := 0#32
  ![v1234.toNat, 0]
def k0_cond92 (v732 : BitVec 32) : BitVec 1 :=
  let c5504_i32_462 : BitVec 32 := 5504#32
  let v733 : BitVec 1 := Scalar.cmpi .slt v732 c5504_i32_462
  let v738 : BitVec 32 := Scalar.extui v733
  let c0_i32_465 : BitVec 32 := 0#32
  let v739 : BitVec 1 := Scalar.cmpi .ne v738 c0_i32_465
  v739

def k0_off183 (v732 : BitVec 32) : Fin 2 → Nat :=
  let c5504_i32_463 : BitVec 32 := 5504#32
  let v734 : BitVec 32 := Scalar.subi v732 c5504_i32_463
  let c0_i32_464 : BitVec 32 := 0#32
  let v735 : BitVec 32 := Scalar.maxsi v734 c0_i32_464
  let c2_i32_947 : BitVec 32 := 2#32
  let v1234 : BitVec 32 := Scalar.shrui v735 c2_i32_947
  let c0_i32_950 : BitVec 32 := 0#32
  ![v1234.toNat, 0]
def k0_cond93 (v732 : BitVec 32) : BitVec 1 :=
  let c5504_i32_462 : BitVec 32 := 5504#32
  let v733 : BitVec 1 := Scalar.cmpi .slt v732 c5504_i32_462
  let true_466 : BitVec 1 := 1#1
  let v740 : BitVec 1 := Scalar.xori v733 true_466
  let v741 : BitVec 32 := Scalar.extui v740
  let c0_i32_467 : BitVec 32 := 0#32
  let v742 : BitVec 1 := Scalar.cmpi .ne v741 c0_i32_467
  v742

def k0_off184 (v732 : BitVec 32) : Fin 2 → Nat :=
  let c5504_i32_463 : BitVec 32 := 5504#32
  let v734 : BitVec 32 := Scalar.subi v732 c5504_i32_463
  let c0_i32_464 : BitVec 32 := 0#32
  let v735 : BitVec 32 := Scalar.maxsi v734 c0_i32_464
  let c1_i32_468 : BitVec 32 := 1#32
  let v743 : BitVec 32 := Scalar.shrui v735 c1_i32_468
  let c0_i32_471 : BitVec 32 := 0#32
  ![v743.toNat, 0]

def k0_chk46 (v732 : BitVec 32) : Prop :=
  (∀ (k0_h92 : k0_cond92 v732 = 1#1), ∀ a, (k0_off182 v732) a + S1x5120.size a ≤ S1376x5120.size a) ∧
  (∀ (k0_h93 : k0_cond93 v732 = 1#1), ∀ a, (k0_off183 v732) a + S1x2560.size a ≤ S5536x2560.size a) ∧
  (∀ a, (k0_off184 v732) a + S1x40.size a ≤ S11072x40.size a)
theorem k0_off182_inb : ∀ (v732 : BitVec 32) (k0_hw46 : k0_chk46 v732), ∀ (k0_h92 : k0_cond92 v732 = 1#1), ∀ a, (k0_off182 v732) a + S1x5120.size a ≤ S1376x5120.size a := fun v732 k0_hw46 k0_h92 => k0_hw46.1 k0_h92
theorem k0_off183_inb : ∀ (v732 : BitVec 32) (k0_hw46 : k0_chk46 v732), ∀ (k0_h93 : k0_cond93 v732 = 1#1), ∀ a, (k0_off183 v732) a + S1x2560.size a ≤ S5536x2560.size a := fun v732 k0_hw46 k0_h93 => k0_hw46.2.1 k0_h93
theorem k0_off184_inb : ∀ (v732 : BitVec 32) (k0_hw46 : k0_chk46 v732), ∀ a, (k0_off184 v732) a + S1x40.size a ≤ S11072x40.size a := fun v732 k0_hw46 => k0_hw46.2.2

def k0_off185 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c46_i32 : BitVec 32 := 46#32
  let v746 : BitVec 32 := Scalar.addi v9 c46_i32
  let v747 : Index := Scalar.indexCast v746
  ![v747.toNat]
def k0_off186 (v748 : BitVec 32) : Fin 2 → Nat :=
  let c2_i32_947 : BitVec 32 := 2#32
  let v1234 : BitVec 32 := Scalar.shrui v748 c2_i32_947
  let c0_i32_950 : BitVec 32 := 0#32
  ![v1234.toNat, 0]
def k0_cond94 (v748 : BitVec 32) : BitVec 1 :=
  let c5504_i32_472 : BitVec 32 := 5504#32
  let v749 : BitVec 1 := Scalar.cmpi .slt v748 c5504_i32_472
  let v754 : BitVec 32 := Scalar.extui v749
  let c0_i32_475 : BitVec 32 := 0#32
  let v755 : BitVec 1 := Scalar.cmpi .ne v754 c0_i32_475
  v755

def k0_off187 (v748 : BitVec 32) : Fin 2 → Nat :=
  let c5504_i32_473 : BitVec 32 := 5504#32
  let v750 : BitVec 32 := Scalar.subi v748 c5504_i32_473
  let c0_i32_474 : BitVec 32 := 0#32
  let v751 : BitVec 32 := Scalar.maxsi v750 c0_i32_474
  let c2_i32_947 : BitVec 32 := 2#32
  let v1234 : BitVec 32 := Scalar.shrui v751 c2_i32_947
  let c0_i32_950 : BitVec 32 := 0#32
  ![v1234.toNat, 0]
def k0_cond95 (v748 : BitVec 32) : BitVec 1 :=
  let c5504_i32_472 : BitVec 32 := 5504#32
  let v749 : BitVec 1 := Scalar.cmpi .slt v748 c5504_i32_472
  let true_476 : BitVec 1 := 1#1
  let v756 : BitVec 1 := Scalar.xori v749 true_476
  let v757 : BitVec 32 := Scalar.extui v756
  let c0_i32_477 : BitVec 32 := 0#32
  let v758 : BitVec 1 := Scalar.cmpi .ne v757 c0_i32_477
  v758

def k0_off188 (v748 : BitVec 32) : Fin 2 → Nat :=
  let c5504_i32_473 : BitVec 32 := 5504#32
  let v750 : BitVec 32 := Scalar.subi v748 c5504_i32_473
  let c0_i32_474 : BitVec 32 := 0#32
  let v751 : BitVec 32 := Scalar.maxsi v750 c0_i32_474
  let c1_i32_478 : BitVec 32 := 1#32
  let v759 : BitVec 32 := Scalar.shrui v751 c1_i32_478
  let c0_i32_481 : BitVec 32 := 0#32
  ![v759.toNat, 0]

def k0_chk47 (v748 : BitVec 32) : Prop :=
  (∀ (k0_h94 : k0_cond94 v748 = 1#1), ∀ a, (k0_off186 v748) a + S1x5120.size a ≤ S1376x5120.size a) ∧
  (∀ (k0_h95 : k0_cond95 v748 = 1#1), ∀ a, (k0_off187 v748) a + S1x2560.size a ≤ S5536x2560.size a) ∧
  (∀ a, (k0_off188 v748) a + S1x40.size a ≤ S11072x40.size a)
theorem k0_off186_inb : ∀ (v748 : BitVec 32) (k0_hw47 : k0_chk47 v748), ∀ (k0_h94 : k0_cond94 v748 = 1#1), ∀ a, (k0_off186 v748) a + S1x5120.size a ≤ S1376x5120.size a := fun v748 k0_hw47 k0_h94 => k0_hw47.1 k0_h94
theorem k0_off187_inb : ∀ (v748 : BitVec 32) (k0_hw47 : k0_chk47 v748), ∀ (k0_h95 : k0_cond95 v748 = 1#1), ∀ a, (k0_off187 v748) a + S1x2560.size a ≤ S5536x2560.size a := fun v748 k0_hw47 k0_h95 => k0_hw47.2.1 k0_h95
theorem k0_off188_inb : ∀ (v748 : BitVec 32) (k0_hw47 : k0_chk47 v748), ∀ a, (k0_off188 v748) a + S1x40.size a ≤ S11072x40.size a := fun v748 k0_hw47 => k0_hw47.2.2

def k0_off189 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c47_i32 : BitVec 32 := 47#32
  let v762 : BitVec 32 := Scalar.addi v9 c47_i32
  let v763 : Index := Scalar.indexCast v762
  ![v763.toNat]
def k0_off190 (v764 : BitVec 32) : Fin 2 → Nat :=
  let c2_i32_947 : BitVec 32 := 2#32
  let v1234 : BitVec 32 := Scalar.shrui v764 c2_i32_947
  let c0_i32_950 : BitVec 32 := 0#32
  ![v1234.toNat, 0]
def k0_cond96 (v764 : BitVec 32) : BitVec 1 :=
  let c5504_i32_482 : BitVec 32 := 5504#32
  let v765 : BitVec 1 := Scalar.cmpi .slt v764 c5504_i32_482
  let v770 : BitVec 32 := Scalar.extui v765
  let c0_i32_485 : BitVec 32 := 0#32
  let v771 : BitVec 1 := Scalar.cmpi .ne v770 c0_i32_485
  v771

def k0_off191 (v764 : BitVec 32) : Fin 2 → Nat :=
  let c5504_i32_483 : BitVec 32 := 5504#32
  let v766 : BitVec 32 := Scalar.subi v764 c5504_i32_483
  let c0_i32_484 : BitVec 32 := 0#32
  let v767 : BitVec 32 := Scalar.maxsi v766 c0_i32_484
  let c2_i32_947 : BitVec 32 := 2#32
  let v1234 : BitVec 32 := Scalar.shrui v767 c2_i32_947
  let c0_i32_950 : BitVec 32 := 0#32
  ![v1234.toNat, 0]
def k0_cond97 (v764 : BitVec 32) : BitVec 1 :=
  let c5504_i32_482 : BitVec 32 := 5504#32
  let v765 : BitVec 1 := Scalar.cmpi .slt v764 c5504_i32_482
  let true_486 : BitVec 1 := 1#1
  let v772 : BitVec 1 := Scalar.xori v765 true_486
  let v773 : BitVec 32 := Scalar.extui v772
  let c0_i32_487 : BitVec 32 := 0#32
  let v774 : BitVec 1 := Scalar.cmpi .ne v773 c0_i32_487
  v774

def k0_off192 (v764 : BitVec 32) : Fin 2 → Nat :=
  let c5504_i32_483 : BitVec 32 := 5504#32
  let v766 : BitVec 32 := Scalar.subi v764 c5504_i32_483
  let c0_i32_484 : BitVec 32 := 0#32
  let v767 : BitVec 32 := Scalar.maxsi v766 c0_i32_484
  let c1_i32_488 : BitVec 32 := 1#32
  let v775 : BitVec 32 := Scalar.shrui v767 c1_i32_488
  let c0_i32_491 : BitVec 32 := 0#32
  ![v775.toNat, 0]

def k0_chk48 (v764 : BitVec 32) : Prop :=
  (∀ (k0_h96 : k0_cond96 v764 = 1#1), ∀ a, (k0_off190 v764) a + S1x5120.size a ≤ S1376x5120.size a) ∧
  (∀ (k0_h97 : k0_cond97 v764 = 1#1), ∀ a, (k0_off191 v764) a + S1x2560.size a ≤ S5536x2560.size a) ∧
  (∀ a, (k0_off192 v764) a + S1x40.size a ≤ S11072x40.size a)
theorem k0_off190_inb : ∀ (v764 : BitVec 32) (k0_hw48 : k0_chk48 v764), ∀ (k0_h96 : k0_cond96 v764 = 1#1), ∀ a, (k0_off190 v764) a + S1x5120.size a ≤ S1376x5120.size a := fun v764 k0_hw48 k0_h96 => k0_hw48.1 k0_h96
theorem k0_off191_inb : ∀ (v764 : BitVec 32) (k0_hw48 : k0_chk48 v764), ∀ (k0_h97 : k0_cond97 v764 = 1#1), ∀ a, (k0_off191 v764) a + S1x2560.size a ≤ S5536x2560.size a := fun v764 k0_hw48 k0_h97 => k0_hw48.2.1 k0_h97
theorem k0_off192_inb : ∀ (v764 : BitVec 32) (k0_hw48 : k0_chk48 v764), ∀ a, (k0_off192 v764) a + S1x40.size a ≤ S11072x40.size a := fun v764 k0_hw48 => k0_hw48.2.2

def k0_off193 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c48_i32 : BitVec 32 := 48#32
  let v778 : BitVec 32 := Scalar.addi v9 c48_i32
  let v779 : Index := Scalar.indexCast v778
  ![v779.toNat]
def k0_off194 (v780 : BitVec 32) : Fin 2 → Nat :=
  let c2_i32_947 : BitVec 32 := 2#32
  let v1234 : BitVec 32 := Scalar.shrui v780 c2_i32_947
  let c0_i32_950 : BitVec 32 := 0#32
  ![v1234.toNat, 0]
def k0_cond98 (v780 : BitVec 32) : BitVec 1 :=
  let c5504_i32_492 : BitVec 32 := 5504#32
  let v781 : BitVec 1 := Scalar.cmpi .slt v780 c5504_i32_492
  let v786 : BitVec 32 := Scalar.extui v781
  let c0_i32_495 : BitVec 32 := 0#32
  let v787 : BitVec 1 := Scalar.cmpi .ne v786 c0_i32_495
  v787

def k0_off195 (v780 : BitVec 32) : Fin 2 → Nat :=
  let c5504_i32_493 : BitVec 32 := 5504#32
  let v782 : BitVec 32 := Scalar.subi v780 c5504_i32_493
  let c0_i32_494 : BitVec 32 := 0#32
  let v783 : BitVec 32 := Scalar.maxsi v782 c0_i32_494
  let c2_i32_947 : BitVec 32 := 2#32
  let v1234 : BitVec 32 := Scalar.shrui v783 c2_i32_947
  let c0_i32_950 : BitVec 32 := 0#32
  ![v1234.toNat, 0]
def k0_cond99 (v780 : BitVec 32) : BitVec 1 :=
  let c5504_i32_492 : BitVec 32 := 5504#32
  let v781 : BitVec 1 := Scalar.cmpi .slt v780 c5504_i32_492
  let true_496 : BitVec 1 := 1#1
  let v788 : BitVec 1 := Scalar.xori v781 true_496
  let v789 : BitVec 32 := Scalar.extui v788
  let c0_i32_497 : BitVec 32 := 0#32
  let v790 : BitVec 1 := Scalar.cmpi .ne v789 c0_i32_497
  v790

def k0_off196 (v780 : BitVec 32) : Fin 2 → Nat :=
  let c5504_i32_493 : BitVec 32 := 5504#32
  let v782 : BitVec 32 := Scalar.subi v780 c5504_i32_493
  let c0_i32_494 : BitVec 32 := 0#32
  let v783 : BitVec 32 := Scalar.maxsi v782 c0_i32_494
  let c1_i32_498 : BitVec 32 := 1#32
  let v791 : BitVec 32 := Scalar.shrui v783 c1_i32_498
  let c0_i32_501 : BitVec 32 := 0#32
  ![v791.toNat, 0]

def k0_chk49 (v780 : BitVec 32) : Prop :=
  (∀ (k0_h98 : k0_cond98 v780 = 1#1), ∀ a, (k0_off194 v780) a + S1x5120.size a ≤ S1376x5120.size a) ∧
  (∀ (k0_h99 : k0_cond99 v780 = 1#1), ∀ a, (k0_off195 v780) a + S1x2560.size a ≤ S5536x2560.size a) ∧
  (∀ a, (k0_off196 v780) a + S1x40.size a ≤ S11072x40.size a)
theorem k0_off194_inb : ∀ (v780 : BitVec 32) (k0_hw49 : k0_chk49 v780), ∀ (k0_h98 : k0_cond98 v780 = 1#1), ∀ a, (k0_off194 v780) a + S1x5120.size a ≤ S1376x5120.size a := fun v780 k0_hw49 k0_h98 => k0_hw49.1 k0_h98
theorem k0_off195_inb : ∀ (v780 : BitVec 32) (k0_hw49 : k0_chk49 v780), ∀ (k0_h99 : k0_cond99 v780 = 1#1), ∀ a, (k0_off195 v780) a + S1x2560.size a ≤ S5536x2560.size a := fun v780 k0_hw49 k0_h99 => k0_hw49.2.1 k0_h99
theorem k0_off196_inb : ∀ (v780 : BitVec 32) (k0_hw49 : k0_chk49 v780), ∀ a, (k0_off196 v780) a + S1x40.size a ≤ S11072x40.size a := fun v780 k0_hw49 => k0_hw49.2.2

def k0_off197 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c49_i32 : BitVec 32 := 49#32
  let v794 : BitVec 32 := Scalar.addi v9 c49_i32
  let v795 : Index := Scalar.indexCast v794
  ![v795.toNat]
def k0_off198 (v796 : BitVec 32) : Fin 2 → Nat :=
  let c2_i32_947 : BitVec 32 := 2#32
  let v1234 : BitVec 32 := Scalar.shrui v796 c2_i32_947
  let c0_i32_950 : BitVec 32 := 0#32
  ![v1234.toNat, 0]
def k0_cond100 (v796 : BitVec 32) : BitVec 1 :=
  let c5504_i32_502 : BitVec 32 := 5504#32
  let v797 : BitVec 1 := Scalar.cmpi .slt v796 c5504_i32_502
  let v802 : BitVec 32 := Scalar.extui v797
  let c0_i32_505 : BitVec 32 := 0#32
  let v803 : BitVec 1 := Scalar.cmpi .ne v802 c0_i32_505
  v803

def k0_off199 (v796 : BitVec 32) : Fin 2 → Nat :=
  let c5504_i32_503 : BitVec 32 := 5504#32
  let v798 : BitVec 32 := Scalar.subi v796 c5504_i32_503
  let c0_i32_504 : BitVec 32 := 0#32
  let v799 : BitVec 32 := Scalar.maxsi v798 c0_i32_504
  let c2_i32_947 : BitVec 32 := 2#32
  let v1234 : BitVec 32 := Scalar.shrui v799 c2_i32_947
  let c0_i32_950 : BitVec 32 := 0#32
  ![v1234.toNat, 0]
def k0_cond101 (v796 : BitVec 32) : BitVec 1 :=
  let c5504_i32_502 : BitVec 32 := 5504#32
  let v797 : BitVec 1 := Scalar.cmpi .slt v796 c5504_i32_502
  let true_506 : BitVec 1 := 1#1
  let v804 : BitVec 1 := Scalar.xori v797 true_506
  let v805 : BitVec 32 := Scalar.extui v804
  let c0_i32_507 : BitVec 32 := 0#32
  let v806 : BitVec 1 := Scalar.cmpi .ne v805 c0_i32_507
  v806

def k0_off200 (v796 : BitVec 32) : Fin 2 → Nat :=
  let c5504_i32_503 : BitVec 32 := 5504#32
  let v798 : BitVec 32 := Scalar.subi v796 c5504_i32_503
  let c0_i32_504 : BitVec 32 := 0#32
  let v799 : BitVec 32 := Scalar.maxsi v798 c0_i32_504
  let c1_i32_508 : BitVec 32 := 1#32
  let v807 : BitVec 32 := Scalar.shrui v799 c1_i32_508
  let c0_i32_511 : BitVec 32 := 0#32
  ![v807.toNat, 0]

def k0_chk50 (v796 : BitVec 32) : Prop :=
  (∀ (k0_h100 : k0_cond100 v796 = 1#1), ∀ a, (k0_off198 v796) a + S1x5120.size a ≤ S1376x5120.size a) ∧
  (∀ (k0_h101 : k0_cond101 v796 = 1#1), ∀ a, (k0_off199 v796) a + S1x2560.size a ≤ S5536x2560.size a) ∧
  (∀ a, (k0_off200 v796) a + S1x40.size a ≤ S11072x40.size a)
theorem k0_off198_inb : ∀ (v796 : BitVec 32) (k0_hw50 : k0_chk50 v796), ∀ (k0_h100 : k0_cond100 v796 = 1#1), ∀ a, (k0_off198 v796) a + S1x5120.size a ≤ S1376x5120.size a := fun v796 k0_hw50 k0_h100 => k0_hw50.1 k0_h100
theorem k0_off199_inb : ∀ (v796 : BitVec 32) (k0_hw50 : k0_chk50 v796), ∀ (k0_h101 : k0_cond101 v796 = 1#1), ∀ a, (k0_off199 v796) a + S1x2560.size a ≤ S5536x2560.size a := fun v796 k0_hw50 k0_h101 => k0_hw50.2.1 k0_h101
theorem k0_off200_inb : ∀ (v796 : BitVec 32) (k0_hw50 : k0_chk50 v796), ∀ a, (k0_off200 v796) a + S1x40.size a ≤ S11072x40.size a := fun v796 k0_hw50 => k0_hw50.2.2

def k0_off201 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c50_i32 : BitVec 32 := 50#32
  let v810 : BitVec 32 := Scalar.addi v9 c50_i32
  let v811 : Index := Scalar.indexCast v810
  ![v811.toNat]
def k0_off202 (v812 : BitVec 32) : Fin 2 → Nat :=
  let c2_i32_947 : BitVec 32 := 2#32
  let v1234 : BitVec 32 := Scalar.shrui v812 c2_i32_947
  let c0_i32_950 : BitVec 32 := 0#32
  ![v1234.toNat, 0]
def k0_cond102 (v812 : BitVec 32) : BitVec 1 :=
  let c5504_i32_512 : BitVec 32 := 5504#32
  let v813 : BitVec 1 := Scalar.cmpi .slt v812 c5504_i32_512
  let v818 : BitVec 32 := Scalar.extui v813
  let c0_i32_515 : BitVec 32 := 0#32
  let v819 : BitVec 1 := Scalar.cmpi .ne v818 c0_i32_515
  v819

def k0_off203 (v812 : BitVec 32) : Fin 2 → Nat :=
  let c5504_i32_513 : BitVec 32 := 5504#32
  let v814 : BitVec 32 := Scalar.subi v812 c5504_i32_513
  let c0_i32_514 : BitVec 32 := 0#32
  let v815 : BitVec 32 := Scalar.maxsi v814 c0_i32_514
  let c2_i32_947 : BitVec 32 := 2#32
  let v1234 : BitVec 32 := Scalar.shrui v815 c2_i32_947
  let c0_i32_950 : BitVec 32 := 0#32
  ![v1234.toNat, 0]
def k0_cond103 (v812 : BitVec 32) : BitVec 1 :=
  let c5504_i32_512 : BitVec 32 := 5504#32
  let v813 : BitVec 1 := Scalar.cmpi .slt v812 c5504_i32_512
  let true_516 : BitVec 1 := 1#1
  let v820 : BitVec 1 := Scalar.xori v813 true_516
  let v821 : BitVec 32 := Scalar.extui v820
  let c0_i32_517 : BitVec 32 := 0#32
  let v822 : BitVec 1 := Scalar.cmpi .ne v821 c0_i32_517
  v822

def k0_off204 (v812 : BitVec 32) : Fin 2 → Nat :=
  let c5504_i32_513 : BitVec 32 := 5504#32
  let v814 : BitVec 32 := Scalar.subi v812 c5504_i32_513
  let c0_i32_514 : BitVec 32 := 0#32
  let v815 : BitVec 32 := Scalar.maxsi v814 c0_i32_514
  let c1_i32_518 : BitVec 32 := 1#32
  let v823 : BitVec 32 := Scalar.shrui v815 c1_i32_518
  let c0_i32_521 : BitVec 32 := 0#32
  ![v823.toNat, 0]

def k0_chk51 (v812 : BitVec 32) : Prop :=
  (∀ (k0_h102 : k0_cond102 v812 = 1#1), ∀ a, (k0_off202 v812) a + S1x5120.size a ≤ S1376x5120.size a) ∧
  (∀ (k0_h103 : k0_cond103 v812 = 1#1), ∀ a, (k0_off203 v812) a + S1x2560.size a ≤ S5536x2560.size a) ∧
  (∀ a, (k0_off204 v812) a + S1x40.size a ≤ S11072x40.size a)
theorem k0_off202_inb : ∀ (v812 : BitVec 32) (k0_hw51 : k0_chk51 v812), ∀ (k0_h102 : k0_cond102 v812 = 1#1), ∀ a, (k0_off202 v812) a + S1x5120.size a ≤ S1376x5120.size a := fun v812 k0_hw51 k0_h102 => k0_hw51.1 k0_h102
theorem k0_off203_inb : ∀ (v812 : BitVec 32) (k0_hw51 : k0_chk51 v812), ∀ (k0_h103 : k0_cond103 v812 = 1#1), ∀ a, (k0_off203 v812) a + S1x2560.size a ≤ S5536x2560.size a := fun v812 k0_hw51 k0_h103 => k0_hw51.2.1 k0_h103
theorem k0_off204_inb : ∀ (v812 : BitVec 32) (k0_hw51 : k0_chk51 v812), ∀ a, (k0_off204 v812) a + S1x40.size a ≤ S11072x40.size a := fun v812 k0_hw51 => k0_hw51.2.2

def k0_off205 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c51_i32 : BitVec 32 := 51#32
  let v826 : BitVec 32 := Scalar.addi v9 c51_i32
  let v827 : Index := Scalar.indexCast v826
  ![v827.toNat]
def k0_off206 (v828 : BitVec 32) : Fin 2 → Nat :=
  let c2_i32_947 : BitVec 32 := 2#32
  let v1234 : BitVec 32 := Scalar.shrui v828 c2_i32_947
  let c0_i32_950 : BitVec 32 := 0#32
  ![v1234.toNat, 0]
def k0_cond104 (v828 : BitVec 32) : BitVec 1 :=
  let c5504_i32_522 : BitVec 32 := 5504#32
  let v829 : BitVec 1 := Scalar.cmpi .slt v828 c5504_i32_522
  let v834 : BitVec 32 := Scalar.extui v829
  let c0_i32_525 : BitVec 32 := 0#32
  let v835 : BitVec 1 := Scalar.cmpi .ne v834 c0_i32_525
  v835

def k0_off207 (v828 : BitVec 32) : Fin 2 → Nat :=
  let c5504_i32_523 : BitVec 32 := 5504#32
  let v830 : BitVec 32 := Scalar.subi v828 c5504_i32_523
  let c0_i32_524 : BitVec 32 := 0#32
  let v831 : BitVec 32 := Scalar.maxsi v830 c0_i32_524
  let c2_i32_947 : BitVec 32 := 2#32
  let v1234 : BitVec 32 := Scalar.shrui v831 c2_i32_947
  let c0_i32_950 : BitVec 32 := 0#32
  ![v1234.toNat, 0]
def k0_cond105 (v828 : BitVec 32) : BitVec 1 :=
  let c5504_i32_522 : BitVec 32 := 5504#32
  let v829 : BitVec 1 := Scalar.cmpi .slt v828 c5504_i32_522
  let true_526 : BitVec 1 := 1#1
  let v836 : BitVec 1 := Scalar.xori v829 true_526
  let v837 : BitVec 32 := Scalar.extui v836
  let c0_i32_527 : BitVec 32 := 0#32
  let v838 : BitVec 1 := Scalar.cmpi .ne v837 c0_i32_527
  v838

def k0_off208 (v828 : BitVec 32) : Fin 2 → Nat :=
  let c5504_i32_523 : BitVec 32 := 5504#32
  let v830 : BitVec 32 := Scalar.subi v828 c5504_i32_523
  let c0_i32_524 : BitVec 32 := 0#32
  let v831 : BitVec 32 := Scalar.maxsi v830 c0_i32_524
  let c1_i32_528 : BitVec 32 := 1#32
  let v839 : BitVec 32 := Scalar.shrui v831 c1_i32_528
  let c0_i32_531 : BitVec 32 := 0#32
  ![v839.toNat, 0]

def k0_chk52 (v828 : BitVec 32) : Prop :=
  (∀ (k0_h104 : k0_cond104 v828 = 1#1), ∀ a, (k0_off206 v828) a + S1x5120.size a ≤ S1376x5120.size a) ∧
  (∀ (k0_h105 : k0_cond105 v828 = 1#1), ∀ a, (k0_off207 v828) a + S1x2560.size a ≤ S5536x2560.size a) ∧
  (∀ a, (k0_off208 v828) a + S1x40.size a ≤ S11072x40.size a)
theorem k0_off206_inb : ∀ (v828 : BitVec 32) (k0_hw52 : k0_chk52 v828), ∀ (k0_h104 : k0_cond104 v828 = 1#1), ∀ a, (k0_off206 v828) a + S1x5120.size a ≤ S1376x5120.size a := fun v828 k0_hw52 k0_h104 => k0_hw52.1 k0_h104
theorem k0_off207_inb : ∀ (v828 : BitVec 32) (k0_hw52 : k0_chk52 v828), ∀ (k0_h105 : k0_cond105 v828 = 1#1), ∀ a, (k0_off207 v828) a + S1x2560.size a ≤ S5536x2560.size a := fun v828 k0_hw52 k0_h105 => k0_hw52.2.1 k0_h105
theorem k0_off208_inb : ∀ (v828 : BitVec 32) (k0_hw52 : k0_chk52 v828), ∀ a, (k0_off208 v828) a + S1x40.size a ≤ S11072x40.size a := fun v828 k0_hw52 => k0_hw52.2.2

def k0_off209 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c52_i32 : BitVec 32 := 52#32
  let v842 : BitVec 32 := Scalar.addi v9 c52_i32
  let v843 : Index := Scalar.indexCast v842
  ![v843.toNat]
def k0_off210 (v844 : BitVec 32) : Fin 2 → Nat :=
  let c2_i32_947 : BitVec 32 := 2#32
  let v1234 : BitVec 32 := Scalar.shrui v844 c2_i32_947
  let c0_i32_950 : BitVec 32 := 0#32
  ![v1234.toNat, 0]
def k0_cond106 (v844 : BitVec 32) : BitVec 1 :=
  let c5504_i32_532 : BitVec 32 := 5504#32
  let v845 : BitVec 1 := Scalar.cmpi .slt v844 c5504_i32_532
  let v850 : BitVec 32 := Scalar.extui v845
  let c0_i32_535 : BitVec 32 := 0#32
  let v851 : BitVec 1 := Scalar.cmpi .ne v850 c0_i32_535
  v851

def k0_off211 (v844 : BitVec 32) : Fin 2 → Nat :=
  let c5504_i32_533 : BitVec 32 := 5504#32
  let v846 : BitVec 32 := Scalar.subi v844 c5504_i32_533
  let c0_i32_534 : BitVec 32 := 0#32
  let v847 : BitVec 32 := Scalar.maxsi v846 c0_i32_534
  let c2_i32_947 : BitVec 32 := 2#32
  let v1234 : BitVec 32 := Scalar.shrui v847 c2_i32_947
  let c0_i32_950 : BitVec 32 := 0#32
  ![v1234.toNat, 0]
def k0_cond107 (v844 : BitVec 32) : BitVec 1 :=
  let c5504_i32_532 : BitVec 32 := 5504#32
  let v845 : BitVec 1 := Scalar.cmpi .slt v844 c5504_i32_532
  let true_536 : BitVec 1 := 1#1
  let v852 : BitVec 1 := Scalar.xori v845 true_536
  let v853 : BitVec 32 := Scalar.extui v852
  let c0_i32_537 : BitVec 32 := 0#32
  let v854 : BitVec 1 := Scalar.cmpi .ne v853 c0_i32_537
  v854

def k0_off212 (v844 : BitVec 32) : Fin 2 → Nat :=
  let c5504_i32_533 : BitVec 32 := 5504#32
  let v846 : BitVec 32 := Scalar.subi v844 c5504_i32_533
  let c0_i32_534 : BitVec 32 := 0#32
  let v847 : BitVec 32 := Scalar.maxsi v846 c0_i32_534
  let c1_i32_538 : BitVec 32 := 1#32
  let v855 : BitVec 32 := Scalar.shrui v847 c1_i32_538
  let c0_i32_541 : BitVec 32 := 0#32
  ![v855.toNat, 0]

def k0_chk53 (v844 : BitVec 32) : Prop :=
  (∀ (k0_h106 : k0_cond106 v844 = 1#1), ∀ a, (k0_off210 v844) a + S1x5120.size a ≤ S1376x5120.size a) ∧
  (∀ (k0_h107 : k0_cond107 v844 = 1#1), ∀ a, (k0_off211 v844) a + S1x2560.size a ≤ S5536x2560.size a) ∧
  (∀ a, (k0_off212 v844) a + S1x40.size a ≤ S11072x40.size a)
theorem k0_off210_inb : ∀ (v844 : BitVec 32) (k0_hw53 : k0_chk53 v844), ∀ (k0_h106 : k0_cond106 v844 = 1#1), ∀ a, (k0_off210 v844) a + S1x5120.size a ≤ S1376x5120.size a := fun v844 k0_hw53 k0_h106 => k0_hw53.1 k0_h106
theorem k0_off211_inb : ∀ (v844 : BitVec 32) (k0_hw53 : k0_chk53 v844), ∀ (k0_h107 : k0_cond107 v844 = 1#1), ∀ a, (k0_off211 v844) a + S1x2560.size a ≤ S5536x2560.size a := fun v844 k0_hw53 k0_h107 => k0_hw53.2.1 k0_h107
theorem k0_off212_inb : ∀ (v844 : BitVec 32) (k0_hw53 : k0_chk53 v844), ∀ a, (k0_off212 v844) a + S1x40.size a ≤ S11072x40.size a := fun v844 k0_hw53 => k0_hw53.2.2

def k0_off213 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c53_i32 : BitVec 32 := 53#32
  let v858 : BitVec 32 := Scalar.addi v9 c53_i32
  let v859 : Index := Scalar.indexCast v858
  ![v859.toNat]
def k0_off214 (v860 : BitVec 32) : Fin 2 → Nat :=
  let c2_i32_947 : BitVec 32 := 2#32
  let v1234 : BitVec 32 := Scalar.shrui v860 c2_i32_947
  let c0_i32_950 : BitVec 32 := 0#32
  ![v1234.toNat, 0]
def k0_cond108 (v860 : BitVec 32) : BitVec 1 :=
  let c5504_i32_542 : BitVec 32 := 5504#32
  let v861 : BitVec 1 := Scalar.cmpi .slt v860 c5504_i32_542
  let v866 : BitVec 32 := Scalar.extui v861
  let c0_i32_545 : BitVec 32 := 0#32
  let v867 : BitVec 1 := Scalar.cmpi .ne v866 c0_i32_545
  v867

def k0_off215 (v860 : BitVec 32) : Fin 2 → Nat :=
  let c5504_i32_543 : BitVec 32 := 5504#32
  let v862 : BitVec 32 := Scalar.subi v860 c5504_i32_543
  let c0_i32_544 : BitVec 32 := 0#32
  let v863 : BitVec 32 := Scalar.maxsi v862 c0_i32_544
  let c2_i32_947 : BitVec 32 := 2#32
  let v1234 : BitVec 32 := Scalar.shrui v863 c2_i32_947
  let c0_i32_950 : BitVec 32 := 0#32
  ![v1234.toNat, 0]
def k0_cond109 (v860 : BitVec 32) : BitVec 1 :=
  let c5504_i32_542 : BitVec 32 := 5504#32
  let v861 : BitVec 1 := Scalar.cmpi .slt v860 c5504_i32_542
  let true_546 : BitVec 1 := 1#1
  let v868 : BitVec 1 := Scalar.xori v861 true_546
  let v869 : BitVec 32 := Scalar.extui v868
  let c0_i32_547 : BitVec 32 := 0#32
  let v870 : BitVec 1 := Scalar.cmpi .ne v869 c0_i32_547
  v870

def k0_off216 (v860 : BitVec 32) : Fin 2 → Nat :=
  let c5504_i32_543 : BitVec 32 := 5504#32
  let v862 : BitVec 32 := Scalar.subi v860 c5504_i32_543
  let c0_i32_544 : BitVec 32 := 0#32
  let v863 : BitVec 32 := Scalar.maxsi v862 c0_i32_544
  let c1_i32_548 : BitVec 32 := 1#32
  let v871 : BitVec 32 := Scalar.shrui v863 c1_i32_548
  let c0_i32_551 : BitVec 32 := 0#32
  ![v871.toNat, 0]

def k0_chk54 (v860 : BitVec 32) : Prop :=
  (∀ (k0_h108 : k0_cond108 v860 = 1#1), ∀ a, (k0_off214 v860) a + S1x5120.size a ≤ S1376x5120.size a) ∧
  (∀ (k0_h109 : k0_cond109 v860 = 1#1), ∀ a, (k0_off215 v860) a + S1x2560.size a ≤ S5536x2560.size a) ∧
  (∀ a, (k0_off216 v860) a + S1x40.size a ≤ S11072x40.size a)
theorem k0_off214_inb : ∀ (v860 : BitVec 32) (k0_hw54 : k0_chk54 v860), ∀ (k0_h108 : k0_cond108 v860 = 1#1), ∀ a, (k0_off214 v860) a + S1x5120.size a ≤ S1376x5120.size a := fun v860 k0_hw54 k0_h108 => k0_hw54.1 k0_h108
theorem k0_off215_inb : ∀ (v860 : BitVec 32) (k0_hw54 : k0_chk54 v860), ∀ (k0_h109 : k0_cond109 v860 = 1#1), ∀ a, (k0_off215 v860) a + S1x2560.size a ≤ S5536x2560.size a := fun v860 k0_hw54 k0_h109 => k0_hw54.2.1 k0_h109
theorem k0_off216_inb : ∀ (v860 : BitVec 32) (k0_hw54 : k0_chk54 v860), ∀ a, (k0_off216 v860) a + S1x40.size a ≤ S11072x40.size a := fun v860 k0_hw54 => k0_hw54.2.2

def k0_off217 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c54_i32 : BitVec 32 := 54#32
  let v874 : BitVec 32 := Scalar.addi v9 c54_i32
  let v875 : Index := Scalar.indexCast v874
  ![v875.toNat]
def k0_off218 (v876 : BitVec 32) : Fin 2 → Nat :=
  let c2_i32_947 : BitVec 32 := 2#32
  let v1234 : BitVec 32 := Scalar.shrui v876 c2_i32_947
  let c0_i32_950 : BitVec 32 := 0#32
  ![v1234.toNat, 0]
def k0_cond110 (v876 : BitVec 32) : BitVec 1 :=
  let c5504_i32_552 : BitVec 32 := 5504#32
  let v877 : BitVec 1 := Scalar.cmpi .slt v876 c5504_i32_552
  let v882 : BitVec 32 := Scalar.extui v877
  let c0_i32_555 : BitVec 32 := 0#32
  let v883 : BitVec 1 := Scalar.cmpi .ne v882 c0_i32_555
  v883

def k0_off219 (v876 : BitVec 32) : Fin 2 → Nat :=
  let c5504_i32_553 : BitVec 32 := 5504#32
  let v878 : BitVec 32 := Scalar.subi v876 c5504_i32_553
  let c0_i32_554 : BitVec 32 := 0#32
  let v879 : BitVec 32 := Scalar.maxsi v878 c0_i32_554
  let c2_i32_947 : BitVec 32 := 2#32
  let v1234 : BitVec 32 := Scalar.shrui v879 c2_i32_947
  let c0_i32_950 : BitVec 32 := 0#32
  ![v1234.toNat, 0]
def k0_cond111 (v876 : BitVec 32) : BitVec 1 :=
  let c5504_i32_552 : BitVec 32 := 5504#32
  let v877 : BitVec 1 := Scalar.cmpi .slt v876 c5504_i32_552
  let true_556 : BitVec 1 := 1#1
  let v884 : BitVec 1 := Scalar.xori v877 true_556
  let v885 : BitVec 32 := Scalar.extui v884
  let c0_i32_557 : BitVec 32 := 0#32
  let v886 : BitVec 1 := Scalar.cmpi .ne v885 c0_i32_557
  v886

def k0_off220 (v876 : BitVec 32) : Fin 2 → Nat :=
  let c5504_i32_553 : BitVec 32 := 5504#32
  let v878 : BitVec 32 := Scalar.subi v876 c5504_i32_553
  let c0_i32_554 : BitVec 32 := 0#32
  let v879 : BitVec 32 := Scalar.maxsi v878 c0_i32_554
  let c1_i32_558 : BitVec 32 := 1#32
  let v887 : BitVec 32 := Scalar.shrui v879 c1_i32_558
  let c0_i32_561 : BitVec 32 := 0#32
  ![v887.toNat, 0]

def k0_chk55 (v876 : BitVec 32) : Prop :=
  (∀ (k0_h110 : k0_cond110 v876 = 1#1), ∀ a, (k0_off218 v876) a + S1x5120.size a ≤ S1376x5120.size a) ∧
  (∀ (k0_h111 : k0_cond111 v876 = 1#1), ∀ a, (k0_off219 v876) a + S1x2560.size a ≤ S5536x2560.size a) ∧
  (∀ a, (k0_off220 v876) a + S1x40.size a ≤ S11072x40.size a)
theorem k0_off218_inb : ∀ (v876 : BitVec 32) (k0_hw55 : k0_chk55 v876), ∀ (k0_h110 : k0_cond110 v876 = 1#1), ∀ a, (k0_off218 v876) a + S1x5120.size a ≤ S1376x5120.size a := fun v876 k0_hw55 k0_h110 => k0_hw55.1 k0_h110
theorem k0_off219_inb : ∀ (v876 : BitVec 32) (k0_hw55 : k0_chk55 v876), ∀ (k0_h111 : k0_cond111 v876 = 1#1), ∀ a, (k0_off219 v876) a + S1x2560.size a ≤ S5536x2560.size a := fun v876 k0_hw55 k0_h111 => k0_hw55.2.1 k0_h111
theorem k0_off220_inb : ∀ (v876 : BitVec 32) (k0_hw55 : k0_chk55 v876), ∀ a, (k0_off220 v876) a + S1x40.size a ≤ S11072x40.size a := fun v876 k0_hw55 => k0_hw55.2.2

def k0_off221 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c55_i32 : BitVec 32 := 55#32
  let v890 : BitVec 32 := Scalar.addi v9 c55_i32
  let v891 : Index := Scalar.indexCast v890
  ![v891.toNat]
def k0_off222 (v892 : BitVec 32) : Fin 2 → Nat :=
  let c2_i32_947 : BitVec 32 := 2#32
  let v1234 : BitVec 32 := Scalar.shrui v892 c2_i32_947
  let c0_i32_950 : BitVec 32 := 0#32
  ![v1234.toNat, 0]
def k0_cond112 (v892 : BitVec 32) : BitVec 1 :=
  let c5504_i32_562 : BitVec 32 := 5504#32
  let v893 : BitVec 1 := Scalar.cmpi .slt v892 c5504_i32_562
  let v898 : BitVec 32 := Scalar.extui v893
  let c0_i32_565 : BitVec 32 := 0#32
  let v899 : BitVec 1 := Scalar.cmpi .ne v898 c0_i32_565
  v899

def k0_off223 (v892 : BitVec 32) : Fin 2 → Nat :=
  let c5504_i32_563 : BitVec 32 := 5504#32
  let v894 : BitVec 32 := Scalar.subi v892 c5504_i32_563
  let c0_i32_564 : BitVec 32 := 0#32
  let v895 : BitVec 32 := Scalar.maxsi v894 c0_i32_564
  let c2_i32_947 : BitVec 32 := 2#32
  let v1234 : BitVec 32 := Scalar.shrui v895 c2_i32_947
  let c0_i32_950 : BitVec 32 := 0#32
  ![v1234.toNat, 0]
def k0_cond113 (v892 : BitVec 32) : BitVec 1 :=
  let c5504_i32_562 : BitVec 32 := 5504#32
  let v893 : BitVec 1 := Scalar.cmpi .slt v892 c5504_i32_562
  let true_566 : BitVec 1 := 1#1
  let v900 : BitVec 1 := Scalar.xori v893 true_566
  let v901 : BitVec 32 := Scalar.extui v900
  let c0_i32_567 : BitVec 32 := 0#32
  let v902 : BitVec 1 := Scalar.cmpi .ne v901 c0_i32_567
  v902

def k0_off224 (v892 : BitVec 32) : Fin 2 → Nat :=
  let c5504_i32_563 : BitVec 32 := 5504#32
  let v894 : BitVec 32 := Scalar.subi v892 c5504_i32_563
  let c0_i32_564 : BitVec 32 := 0#32
  let v895 : BitVec 32 := Scalar.maxsi v894 c0_i32_564
  let c1_i32_568 : BitVec 32 := 1#32
  let v903 : BitVec 32 := Scalar.shrui v895 c1_i32_568
  let c0_i32_571 : BitVec 32 := 0#32
  ![v903.toNat, 0]

def k0_chk56 (v892 : BitVec 32) : Prop :=
  (∀ (k0_h112 : k0_cond112 v892 = 1#1), ∀ a, (k0_off222 v892) a + S1x5120.size a ≤ S1376x5120.size a) ∧
  (∀ (k0_h113 : k0_cond113 v892 = 1#1), ∀ a, (k0_off223 v892) a + S1x2560.size a ≤ S5536x2560.size a) ∧
  (∀ a, (k0_off224 v892) a + S1x40.size a ≤ S11072x40.size a)
theorem k0_off222_inb : ∀ (v892 : BitVec 32) (k0_hw56 : k0_chk56 v892), ∀ (k0_h112 : k0_cond112 v892 = 1#1), ∀ a, (k0_off222 v892) a + S1x5120.size a ≤ S1376x5120.size a := fun v892 k0_hw56 k0_h112 => k0_hw56.1 k0_h112
theorem k0_off223_inb : ∀ (v892 : BitVec 32) (k0_hw56 : k0_chk56 v892), ∀ (k0_h113 : k0_cond113 v892 = 1#1), ∀ a, (k0_off223 v892) a + S1x2560.size a ≤ S5536x2560.size a := fun v892 k0_hw56 k0_h113 => k0_hw56.2.1 k0_h113
theorem k0_off224_inb : ∀ (v892 : BitVec 32) (k0_hw56 : k0_chk56 v892), ∀ a, (k0_off224 v892) a + S1x40.size a ≤ S11072x40.size a := fun v892 k0_hw56 => k0_hw56.2.2

def k0_off225 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c56_i32 : BitVec 32 := 56#32
  let v906 : BitVec 32 := Scalar.addi v9 c56_i32
  let v907 : Index := Scalar.indexCast v906
  ![v907.toNat]
def k0_off226 (v908 : BitVec 32) : Fin 2 → Nat :=
  let c2_i32_947 : BitVec 32 := 2#32
  let v1234 : BitVec 32 := Scalar.shrui v908 c2_i32_947
  let c0_i32_950 : BitVec 32 := 0#32
  ![v1234.toNat, 0]
def k0_cond114 (v908 : BitVec 32) : BitVec 1 :=
  let c5504_i32_572 : BitVec 32 := 5504#32
  let v909 : BitVec 1 := Scalar.cmpi .slt v908 c5504_i32_572
  let v914 : BitVec 32 := Scalar.extui v909
  let c0_i32_575 : BitVec 32 := 0#32
  let v915 : BitVec 1 := Scalar.cmpi .ne v914 c0_i32_575
  v915

def k0_off227 (v908 : BitVec 32) : Fin 2 → Nat :=
  let c5504_i32_573 : BitVec 32 := 5504#32
  let v910 : BitVec 32 := Scalar.subi v908 c5504_i32_573
  let c0_i32_574 : BitVec 32 := 0#32
  let v911 : BitVec 32 := Scalar.maxsi v910 c0_i32_574
  let c2_i32_947 : BitVec 32 := 2#32
  let v1234 : BitVec 32 := Scalar.shrui v911 c2_i32_947
  let c0_i32_950 : BitVec 32 := 0#32
  ![v1234.toNat, 0]
def k0_cond115 (v908 : BitVec 32) : BitVec 1 :=
  let c5504_i32_572 : BitVec 32 := 5504#32
  let v909 : BitVec 1 := Scalar.cmpi .slt v908 c5504_i32_572
  let true_576 : BitVec 1 := 1#1
  let v916 : BitVec 1 := Scalar.xori v909 true_576
  let v917 : BitVec 32 := Scalar.extui v916
  let c0_i32_577 : BitVec 32 := 0#32
  let v918 : BitVec 1 := Scalar.cmpi .ne v917 c0_i32_577
  v918

def k0_off228 (v908 : BitVec 32) : Fin 2 → Nat :=
  let c5504_i32_573 : BitVec 32 := 5504#32
  let v910 : BitVec 32 := Scalar.subi v908 c5504_i32_573
  let c0_i32_574 : BitVec 32 := 0#32
  let v911 : BitVec 32 := Scalar.maxsi v910 c0_i32_574
  let c1_i32_578 : BitVec 32 := 1#32
  let v919 : BitVec 32 := Scalar.shrui v911 c1_i32_578
  let c0_i32_581 : BitVec 32 := 0#32
  ![v919.toNat, 0]

def k0_chk57 (v908 : BitVec 32) : Prop :=
  (∀ (k0_h114 : k0_cond114 v908 = 1#1), ∀ a, (k0_off226 v908) a + S1x5120.size a ≤ S1376x5120.size a) ∧
  (∀ (k0_h115 : k0_cond115 v908 = 1#1), ∀ a, (k0_off227 v908) a + S1x2560.size a ≤ S5536x2560.size a) ∧
  (∀ a, (k0_off228 v908) a + S1x40.size a ≤ S11072x40.size a)
theorem k0_off226_inb : ∀ (v908 : BitVec 32) (k0_hw57 : k0_chk57 v908), ∀ (k0_h114 : k0_cond114 v908 = 1#1), ∀ a, (k0_off226 v908) a + S1x5120.size a ≤ S1376x5120.size a := fun v908 k0_hw57 k0_h114 => k0_hw57.1 k0_h114
theorem k0_off227_inb : ∀ (v908 : BitVec 32) (k0_hw57 : k0_chk57 v908), ∀ (k0_h115 : k0_cond115 v908 = 1#1), ∀ a, (k0_off227 v908) a + S1x2560.size a ≤ S5536x2560.size a := fun v908 k0_hw57 k0_h115 => k0_hw57.2.1 k0_h115
theorem k0_off228_inb : ∀ (v908 : BitVec 32) (k0_hw57 : k0_chk57 v908), ∀ a, (k0_off228 v908) a + S1x40.size a ≤ S11072x40.size a := fun v908 k0_hw57 => k0_hw57.2.2

def k0_off229 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c57_i32 : BitVec 32 := 57#32
  let v922 : BitVec 32 := Scalar.addi v9 c57_i32
  let v923 : Index := Scalar.indexCast v922
  ![v923.toNat]
def k0_off230 (v924 : BitVec 32) : Fin 2 → Nat :=
  let c2_i32_947 : BitVec 32 := 2#32
  let v1234 : BitVec 32 := Scalar.shrui v924 c2_i32_947
  let c0_i32_950 : BitVec 32 := 0#32
  ![v1234.toNat, 0]
def k0_cond116 (v924 : BitVec 32) : BitVec 1 :=
  let c5504_i32_582 : BitVec 32 := 5504#32
  let v925 : BitVec 1 := Scalar.cmpi .slt v924 c5504_i32_582
  let v930 : BitVec 32 := Scalar.extui v925
  let c0_i32_585 : BitVec 32 := 0#32
  let v931 : BitVec 1 := Scalar.cmpi .ne v930 c0_i32_585
  v931

def k0_off231 (v924 : BitVec 32) : Fin 2 → Nat :=
  let c5504_i32_583 : BitVec 32 := 5504#32
  let v926 : BitVec 32 := Scalar.subi v924 c5504_i32_583
  let c0_i32_584 : BitVec 32 := 0#32
  let v927 : BitVec 32 := Scalar.maxsi v926 c0_i32_584
  let c2_i32_947 : BitVec 32 := 2#32
  let v1234 : BitVec 32 := Scalar.shrui v927 c2_i32_947
  let c0_i32_950 : BitVec 32 := 0#32
  ![v1234.toNat, 0]
def k0_cond117 (v924 : BitVec 32) : BitVec 1 :=
  let c5504_i32_582 : BitVec 32 := 5504#32
  let v925 : BitVec 1 := Scalar.cmpi .slt v924 c5504_i32_582
  let true_586 : BitVec 1 := 1#1
  let v932 : BitVec 1 := Scalar.xori v925 true_586
  let v933 : BitVec 32 := Scalar.extui v932
  let c0_i32_587 : BitVec 32 := 0#32
  let v934 : BitVec 1 := Scalar.cmpi .ne v933 c0_i32_587
  v934

def k0_off232 (v924 : BitVec 32) : Fin 2 → Nat :=
  let c5504_i32_583 : BitVec 32 := 5504#32
  let v926 : BitVec 32 := Scalar.subi v924 c5504_i32_583
  let c0_i32_584 : BitVec 32 := 0#32
  let v927 : BitVec 32 := Scalar.maxsi v926 c0_i32_584
  let c1_i32_588 : BitVec 32 := 1#32
  let v935 : BitVec 32 := Scalar.shrui v927 c1_i32_588
  let c0_i32_591 : BitVec 32 := 0#32
  ![v935.toNat, 0]

def k0_chk58 (v924 : BitVec 32) : Prop :=
  (∀ (k0_h116 : k0_cond116 v924 = 1#1), ∀ a, (k0_off230 v924) a + S1x5120.size a ≤ S1376x5120.size a) ∧
  (∀ (k0_h117 : k0_cond117 v924 = 1#1), ∀ a, (k0_off231 v924) a + S1x2560.size a ≤ S5536x2560.size a) ∧
  (∀ a, (k0_off232 v924) a + S1x40.size a ≤ S11072x40.size a)
theorem k0_off230_inb : ∀ (v924 : BitVec 32) (k0_hw58 : k0_chk58 v924), ∀ (k0_h116 : k0_cond116 v924 = 1#1), ∀ a, (k0_off230 v924) a + S1x5120.size a ≤ S1376x5120.size a := fun v924 k0_hw58 k0_h116 => k0_hw58.1 k0_h116
theorem k0_off231_inb : ∀ (v924 : BitVec 32) (k0_hw58 : k0_chk58 v924), ∀ (k0_h117 : k0_cond117 v924 = 1#1), ∀ a, (k0_off231 v924) a + S1x2560.size a ≤ S5536x2560.size a := fun v924 k0_hw58 k0_h117 => k0_hw58.2.1 k0_h117
theorem k0_off232_inb : ∀ (v924 : BitVec 32) (k0_hw58 : k0_chk58 v924), ∀ a, (k0_off232 v924) a + S1x40.size a ≤ S11072x40.size a := fun v924 k0_hw58 => k0_hw58.2.2

def k0_off233 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c58_i32 : BitVec 32 := 58#32
  let v938 : BitVec 32 := Scalar.addi v9 c58_i32
  let v939 : Index := Scalar.indexCast v938
  ![v939.toNat]
def k0_off234 (v940 : BitVec 32) : Fin 2 → Nat :=
  let c2_i32_947 : BitVec 32 := 2#32
  let v1234 : BitVec 32 := Scalar.shrui v940 c2_i32_947
  let c0_i32_950 : BitVec 32 := 0#32
  ![v1234.toNat, 0]
def k0_cond118 (v940 : BitVec 32) : BitVec 1 :=
  let c5504_i32_592 : BitVec 32 := 5504#32
  let v941 : BitVec 1 := Scalar.cmpi .slt v940 c5504_i32_592
  let v946 : BitVec 32 := Scalar.extui v941
  let c0_i32_595 : BitVec 32 := 0#32
  let v947 : BitVec 1 := Scalar.cmpi .ne v946 c0_i32_595
  v947

def k0_off235 (v940 : BitVec 32) : Fin 2 → Nat :=
  let c5504_i32_593 : BitVec 32 := 5504#32
  let v942 : BitVec 32 := Scalar.subi v940 c5504_i32_593
  let c0_i32_594 : BitVec 32 := 0#32
  let v943 : BitVec 32 := Scalar.maxsi v942 c0_i32_594
  let c2_i32_947 : BitVec 32 := 2#32
  let v1234 : BitVec 32 := Scalar.shrui v943 c2_i32_947
  let c0_i32_950 : BitVec 32 := 0#32
  ![v1234.toNat, 0]
def k0_cond119 (v940 : BitVec 32) : BitVec 1 :=
  let c5504_i32_592 : BitVec 32 := 5504#32
  let v941 : BitVec 1 := Scalar.cmpi .slt v940 c5504_i32_592
  let true_596 : BitVec 1 := 1#1
  let v948 : BitVec 1 := Scalar.xori v941 true_596
  let v949 : BitVec 32 := Scalar.extui v948
  let c0_i32_597 : BitVec 32 := 0#32
  let v950 : BitVec 1 := Scalar.cmpi .ne v949 c0_i32_597
  v950

def k0_off236 (v940 : BitVec 32) : Fin 2 → Nat :=
  let c5504_i32_593 : BitVec 32 := 5504#32
  let v942 : BitVec 32 := Scalar.subi v940 c5504_i32_593
  let c0_i32_594 : BitVec 32 := 0#32
  let v943 : BitVec 32 := Scalar.maxsi v942 c0_i32_594
  let c1_i32_598 : BitVec 32 := 1#32
  let v951 : BitVec 32 := Scalar.shrui v943 c1_i32_598
  let c0_i32_601 : BitVec 32 := 0#32
  ![v951.toNat, 0]

def k0_chk59 (v940 : BitVec 32) : Prop :=
  (∀ (k0_h118 : k0_cond118 v940 = 1#1), ∀ a, (k0_off234 v940) a + S1x5120.size a ≤ S1376x5120.size a) ∧
  (∀ (k0_h119 : k0_cond119 v940 = 1#1), ∀ a, (k0_off235 v940) a + S1x2560.size a ≤ S5536x2560.size a) ∧
  (∀ a, (k0_off236 v940) a + S1x40.size a ≤ S11072x40.size a)
theorem k0_off234_inb : ∀ (v940 : BitVec 32) (k0_hw59 : k0_chk59 v940), ∀ (k0_h118 : k0_cond118 v940 = 1#1), ∀ a, (k0_off234 v940) a + S1x5120.size a ≤ S1376x5120.size a := fun v940 k0_hw59 k0_h118 => k0_hw59.1 k0_h118
theorem k0_off235_inb : ∀ (v940 : BitVec 32) (k0_hw59 : k0_chk59 v940), ∀ (k0_h119 : k0_cond119 v940 = 1#1), ∀ a, (k0_off235 v940) a + S1x2560.size a ≤ S5536x2560.size a := fun v940 k0_hw59 k0_h119 => k0_hw59.2.1 k0_h119
theorem k0_off236_inb : ∀ (v940 : BitVec 32) (k0_hw59 : k0_chk59 v940), ∀ a, (k0_off236 v940) a + S1x40.size a ≤ S11072x40.size a := fun v940 k0_hw59 => k0_hw59.2.2

def k0_off237 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c59_i32 : BitVec 32 := 59#32
  let v954 : BitVec 32 := Scalar.addi v9 c59_i32
  let v955 : Index := Scalar.indexCast v954
  ![v955.toNat]
def k0_off238 (v956 : BitVec 32) : Fin 2 → Nat :=
  let c2_i32_947 : BitVec 32 := 2#32
  let v1234 : BitVec 32 := Scalar.shrui v956 c2_i32_947
  let c0_i32_950 : BitVec 32 := 0#32
  ![v1234.toNat, 0]
def k0_cond120 (v956 : BitVec 32) : BitVec 1 :=
  let c5504_i32_602 : BitVec 32 := 5504#32
  let v957 : BitVec 1 := Scalar.cmpi .slt v956 c5504_i32_602
  let v962 : BitVec 32 := Scalar.extui v957
  let c0_i32_605 : BitVec 32 := 0#32
  let v963 : BitVec 1 := Scalar.cmpi .ne v962 c0_i32_605
  v963

def k0_off239 (v956 : BitVec 32) : Fin 2 → Nat :=
  let c5504_i32_603 : BitVec 32 := 5504#32
  let v958 : BitVec 32 := Scalar.subi v956 c5504_i32_603
  let c0_i32_604 : BitVec 32 := 0#32
  let v959 : BitVec 32 := Scalar.maxsi v958 c0_i32_604
  let c2_i32_947 : BitVec 32 := 2#32
  let v1234 : BitVec 32 := Scalar.shrui v959 c2_i32_947
  let c0_i32_950 : BitVec 32 := 0#32
  ![v1234.toNat, 0]
def k0_cond121 (v956 : BitVec 32) : BitVec 1 :=
  let c5504_i32_602 : BitVec 32 := 5504#32
  let v957 : BitVec 1 := Scalar.cmpi .slt v956 c5504_i32_602
  let true_606 : BitVec 1 := 1#1
  let v964 : BitVec 1 := Scalar.xori v957 true_606
  let v965 : BitVec 32 := Scalar.extui v964
  let c0_i32_607 : BitVec 32 := 0#32
  let v966 : BitVec 1 := Scalar.cmpi .ne v965 c0_i32_607
  v966

def k0_off240 (v956 : BitVec 32) : Fin 2 → Nat :=
  let c5504_i32_603 : BitVec 32 := 5504#32
  let v958 : BitVec 32 := Scalar.subi v956 c5504_i32_603
  let c0_i32_604 : BitVec 32 := 0#32
  let v959 : BitVec 32 := Scalar.maxsi v958 c0_i32_604
  let c1_i32_608 : BitVec 32 := 1#32
  let v967 : BitVec 32 := Scalar.shrui v959 c1_i32_608
  let c0_i32_611 : BitVec 32 := 0#32
  ![v967.toNat, 0]

def k0_chk60 (v956 : BitVec 32) : Prop :=
  (∀ (k0_h120 : k0_cond120 v956 = 1#1), ∀ a, (k0_off238 v956) a + S1x5120.size a ≤ S1376x5120.size a) ∧
  (∀ (k0_h121 : k0_cond121 v956 = 1#1), ∀ a, (k0_off239 v956) a + S1x2560.size a ≤ S5536x2560.size a) ∧
  (∀ a, (k0_off240 v956) a + S1x40.size a ≤ S11072x40.size a)
theorem k0_off238_inb : ∀ (v956 : BitVec 32) (k0_hw60 : k0_chk60 v956), ∀ (k0_h120 : k0_cond120 v956 = 1#1), ∀ a, (k0_off238 v956) a + S1x5120.size a ≤ S1376x5120.size a := fun v956 k0_hw60 k0_h120 => k0_hw60.1 k0_h120
theorem k0_off239_inb : ∀ (v956 : BitVec 32) (k0_hw60 : k0_chk60 v956), ∀ (k0_h121 : k0_cond121 v956 = 1#1), ∀ a, (k0_off239 v956) a + S1x2560.size a ≤ S5536x2560.size a := fun v956 k0_hw60 k0_h121 => k0_hw60.2.1 k0_h121
theorem k0_off240_inb : ∀ (v956 : BitVec 32) (k0_hw60 : k0_chk60 v956), ∀ a, (k0_off240 v956) a + S1x40.size a ≤ S11072x40.size a := fun v956 k0_hw60 => k0_hw60.2.2

def k0_off241 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c60_i32 : BitVec 32 := 60#32
  let v970 : BitVec 32 := Scalar.addi v9 c60_i32
  let v971 : Index := Scalar.indexCast v970
  ![v971.toNat]
def k0_off242 (v972 : BitVec 32) : Fin 2 → Nat :=
  let c2_i32_947 : BitVec 32 := 2#32
  let v1234 : BitVec 32 := Scalar.shrui v972 c2_i32_947
  let c0_i32_950 : BitVec 32 := 0#32
  ![v1234.toNat, 0]
def k0_cond122 (v972 : BitVec 32) : BitVec 1 :=
  let c5504_i32_612 : BitVec 32 := 5504#32
  let v973 : BitVec 1 := Scalar.cmpi .slt v972 c5504_i32_612
  let v978 : BitVec 32 := Scalar.extui v973
  let c0_i32_615 : BitVec 32 := 0#32
  let v979 : BitVec 1 := Scalar.cmpi .ne v978 c0_i32_615
  v979

def k0_off243 (v972 : BitVec 32) : Fin 2 → Nat :=
  let c5504_i32_613 : BitVec 32 := 5504#32
  let v974 : BitVec 32 := Scalar.subi v972 c5504_i32_613
  let c0_i32_614 : BitVec 32 := 0#32
  let v975 : BitVec 32 := Scalar.maxsi v974 c0_i32_614
  let c2_i32_947 : BitVec 32 := 2#32
  let v1234 : BitVec 32 := Scalar.shrui v975 c2_i32_947
  let c0_i32_950 : BitVec 32 := 0#32
  ![v1234.toNat, 0]
def k0_cond123 (v972 : BitVec 32) : BitVec 1 :=
  let c5504_i32_612 : BitVec 32 := 5504#32
  let v973 : BitVec 1 := Scalar.cmpi .slt v972 c5504_i32_612
  let true_616 : BitVec 1 := 1#1
  let v980 : BitVec 1 := Scalar.xori v973 true_616
  let v981 : BitVec 32 := Scalar.extui v980
  let c0_i32_617 : BitVec 32 := 0#32
  let v982 : BitVec 1 := Scalar.cmpi .ne v981 c0_i32_617
  v982

def k0_off244 (v972 : BitVec 32) : Fin 2 → Nat :=
  let c5504_i32_613 : BitVec 32 := 5504#32
  let v974 : BitVec 32 := Scalar.subi v972 c5504_i32_613
  let c0_i32_614 : BitVec 32 := 0#32
  let v975 : BitVec 32 := Scalar.maxsi v974 c0_i32_614
  let c1_i32_618 : BitVec 32 := 1#32
  let v983 : BitVec 32 := Scalar.shrui v975 c1_i32_618
  let c0_i32_621 : BitVec 32 := 0#32
  ![v983.toNat, 0]

def k0_chk61 (v972 : BitVec 32) : Prop :=
  (∀ (k0_h122 : k0_cond122 v972 = 1#1), ∀ a, (k0_off242 v972) a + S1x5120.size a ≤ S1376x5120.size a) ∧
  (∀ (k0_h123 : k0_cond123 v972 = 1#1), ∀ a, (k0_off243 v972) a + S1x2560.size a ≤ S5536x2560.size a) ∧
  (∀ a, (k0_off244 v972) a + S1x40.size a ≤ S11072x40.size a)
theorem k0_off242_inb : ∀ (v972 : BitVec 32) (k0_hw61 : k0_chk61 v972), ∀ (k0_h122 : k0_cond122 v972 = 1#1), ∀ a, (k0_off242 v972) a + S1x5120.size a ≤ S1376x5120.size a := fun v972 k0_hw61 k0_h122 => k0_hw61.1 k0_h122
theorem k0_off243_inb : ∀ (v972 : BitVec 32) (k0_hw61 : k0_chk61 v972), ∀ (k0_h123 : k0_cond123 v972 = 1#1), ∀ a, (k0_off243 v972) a + S1x2560.size a ≤ S5536x2560.size a := fun v972 k0_hw61 k0_h123 => k0_hw61.2.1 k0_h123
theorem k0_off244_inb : ∀ (v972 : BitVec 32) (k0_hw61 : k0_chk61 v972), ∀ a, (k0_off244 v972) a + S1x40.size a ≤ S11072x40.size a := fun v972 k0_hw61 => k0_hw61.2.2

def k0_off245 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c61_i32 : BitVec 32 := 61#32
  let v986 : BitVec 32 := Scalar.addi v9 c61_i32
  let v987 : Index := Scalar.indexCast v986
  ![v987.toNat]
def k0_off246 (v988 : BitVec 32) : Fin 2 → Nat :=
  let c2_i32_947 : BitVec 32 := 2#32
  let v1234 : BitVec 32 := Scalar.shrui v988 c2_i32_947
  let c0_i32_950 : BitVec 32 := 0#32
  ![v1234.toNat, 0]
def k0_cond124 (v988 : BitVec 32) : BitVec 1 :=
  let c5504_i32_622 : BitVec 32 := 5504#32
  let v989 : BitVec 1 := Scalar.cmpi .slt v988 c5504_i32_622
  let v994 : BitVec 32 := Scalar.extui v989
  let c0_i32_625 : BitVec 32 := 0#32
  let v995 : BitVec 1 := Scalar.cmpi .ne v994 c0_i32_625
  v995

def k0_off247 (v988 : BitVec 32) : Fin 2 → Nat :=
  let c5504_i32_623 : BitVec 32 := 5504#32
  let v990 : BitVec 32 := Scalar.subi v988 c5504_i32_623
  let c0_i32_624 : BitVec 32 := 0#32
  let v991 : BitVec 32 := Scalar.maxsi v990 c0_i32_624
  let c2_i32_947 : BitVec 32 := 2#32
  let v1234 : BitVec 32 := Scalar.shrui v991 c2_i32_947
  let c0_i32_950 : BitVec 32 := 0#32
  ![v1234.toNat, 0]
def k0_cond125 (v988 : BitVec 32) : BitVec 1 :=
  let c5504_i32_622 : BitVec 32 := 5504#32
  let v989 : BitVec 1 := Scalar.cmpi .slt v988 c5504_i32_622
  let true_626 : BitVec 1 := 1#1
  let v996 : BitVec 1 := Scalar.xori v989 true_626
  let v997 : BitVec 32 := Scalar.extui v996
  let c0_i32_627 : BitVec 32 := 0#32
  let v998 : BitVec 1 := Scalar.cmpi .ne v997 c0_i32_627
  v998

def k0_off248 (v988 : BitVec 32) : Fin 2 → Nat :=
  let c5504_i32_623 : BitVec 32 := 5504#32
  let v990 : BitVec 32 := Scalar.subi v988 c5504_i32_623
  let c0_i32_624 : BitVec 32 := 0#32
  let v991 : BitVec 32 := Scalar.maxsi v990 c0_i32_624
  let c1_i32_628 : BitVec 32 := 1#32
  let v999 : BitVec 32 := Scalar.shrui v991 c1_i32_628
  let c0_i32_631 : BitVec 32 := 0#32
  ![v999.toNat, 0]

def k0_chk62 (v988 : BitVec 32) : Prop :=
  (∀ (k0_h124 : k0_cond124 v988 = 1#1), ∀ a, (k0_off246 v988) a + S1x5120.size a ≤ S1376x5120.size a) ∧
  (∀ (k0_h125 : k0_cond125 v988 = 1#1), ∀ a, (k0_off247 v988) a + S1x2560.size a ≤ S5536x2560.size a) ∧
  (∀ a, (k0_off248 v988) a + S1x40.size a ≤ S11072x40.size a)
theorem k0_off246_inb : ∀ (v988 : BitVec 32) (k0_hw62 : k0_chk62 v988), ∀ (k0_h124 : k0_cond124 v988 = 1#1), ∀ a, (k0_off246 v988) a + S1x5120.size a ≤ S1376x5120.size a := fun v988 k0_hw62 k0_h124 => k0_hw62.1 k0_h124
theorem k0_off247_inb : ∀ (v988 : BitVec 32) (k0_hw62 : k0_chk62 v988), ∀ (k0_h125 : k0_cond125 v988 = 1#1), ∀ a, (k0_off247 v988) a + S1x2560.size a ≤ S5536x2560.size a := fun v988 k0_hw62 k0_h125 => k0_hw62.2.1 k0_h125
theorem k0_off248_inb : ∀ (v988 : BitVec 32) (k0_hw62 : k0_chk62 v988), ∀ a, (k0_off248 v988) a + S1x40.size a ≤ S11072x40.size a := fun v988 k0_hw62 => k0_hw62.2.2

def k0_off249 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c62_i32 : BitVec 32 := 62#32
  let v1002 : BitVec 32 := Scalar.addi v9 c62_i32
  let v1003 : Index := Scalar.indexCast v1002
  ![v1003.toNat]
def k0_off250 (v1004 : BitVec 32) : Fin 2 → Nat :=
  let c2_i32_947 : BitVec 32 := 2#32
  let v1234 : BitVec 32 := Scalar.shrui v1004 c2_i32_947
  let c0_i32_950 : BitVec 32 := 0#32
  ![v1234.toNat, 0]
def k0_cond126 (v1004 : BitVec 32) : BitVec 1 :=
  let c5504_i32_632 : BitVec 32 := 5504#32
  let v1005 : BitVec 1 := Scalar.cmpi .slt v1004 c5504_i32_632
  let v1010 : BitVec 32 := Scalar.extui v1005
  let c0_i32_635 : BitVec 32 := 0#32
  let v1011 : BitVec 1 := Scalar.cmpi .ne v1010 c0_i32_635
  v1011

def k0_off251 (v1004 : BitVec 32) : Fin 2 → Nat :=
  let c5504_i32_633 : BitVec 32 := 5504#32
  let v1006 : BitVec 32 := Scalar.subi v1004 c5504_i32_633
  let c0_i32_634 : BitVec 32 := 0#32
  let v1007 : BitVec 32 := Scalar.maxsi v1006 c0_i32_634
  let c2_i32_947 : BitVec 32 := 2#32
  let v1234 : BitVec 32 := Scalar.shrui v1007 c2_i32_947
  let c0_i32_950 : BitVec 32 := 0#32
  ![v1234.toNat, 0]
def k0_cond127 (v1004 : BitVec 32) : BitVec 1 :=
  let c5504_i32_632 : BitVec 32 := 5504#32
  let v1005 : BitVec 1 := Scalar.cmpi .slt v1004 c5504_i32_632
  let true_636 : BitVec 1 := 1#1
  let v1012 : BitVec 1 := Scalar.xori v1005 true_636
  let v1013 : BitVec 32 := Scalar.extui v1012
  let c0_i32_637 : BitVec 32 := 0#32
  let v1014 : BitVec 1 := Scalar.cmpi .ne v1013 c0_i32_637
  v1014

def k0_off252 (v1004 : BitVec 32) : Fin 2 → Nat :=
  let c5504_i32_633 : BitVec 32 := 5504#32
  let v1006 : BitVec 32 := Scalar.subi v1004 c5504_i32_633
  let c0_i32_634 : BitVec 32 := 0#32
  let v1007 : BitVec 32 := Scalar.maxsi v1006 c0_i32_634
  let c1_i32_638 : BitVec 32 := 1#32
  let v1015 : BitVec 32 := Scalar.shrui v1007 c1_i32_638
  let c0_i32_641 : BitVec 32 := 0#32
  ![v1015.toNat, 0]

def k0_chk63 (v1004 : BitVec 32) : Prop :=
  (∀ (k0_h126 : k0_cond126 v1004 = 1#1), ∀ a, (k0_off250 v1004) a + S1x5120.size a ≤ S1376x5120.size a) ∧
  (∀ (k0_h127 : k0_cond127 v1004 = 1#1), ∀ a, (k0_off251 v1004) a + S1x2560.size a ≤ S5536x2560.size a) ∧
  (∀ a, (k0_off252 v1004) a + S1x40.size a ≤ S11072x40.size a)
theorem k0_off250_inb : ∀ (v1004 : BitVec 32) (k0_hw63 : k0_chk63 v1004), ∀ (k0_h126 : k0_cond126 v1004 = 1#1), ∀ a, (k0_off250 v1004) a + S1x5120.size a ≤ S1376x5120.size a := fun v1004 k0_hw63 k0_h126 => k0_hw63.1 k0_h126
theorem k0_off251_inb : ∀ (v1004 : BitVec 32) (k0_hw63 : k0_chk63 v1004), ∀ (k0_h127 : k0_cond127 v1004 = 1#1), ∀ a, (k0_off251 v1004) a + S1x2560.size a ≤ S5536x2560.size a := fun v1004 k0_hw63 k0_h127 => k0_hw63.2.1 k0_h127
theorem k0_off252_inb : ∀ (v1004 : BitVec 32) (k0_hw63 : k0_chk63 v1004), ∀ a, (k0_off252 v1004) a + S1x40.size a ≤ S11072x40.size a := fun v1004 k0_hw63 => k0_hw63.2.2

def k0_off253 (i : grid0.Coords) (k0_t1 : Fin k0_t1_loop.trips) : Fin 1 → Nat :=
  let arg0 : BitVec 32 := BitVec.ofNat 32 (i 0).val
  let c8_i32_8 : BitVec 32 := 8#32
  let v7 : BitVec 32 := Scalar.muli arg0 c8_i32_8
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v8 : BitVec 32 := Scalar.addi v7 v6
  let c64_i32 : BitVec 32 := 64#32
  let v9 : BitVec 32 := Scalar.muli v8 c64_i32
  let c63_i32 : BitVec 32 := 63#32
  let v1018 : BitVec 32 := Scalar.addi v9 c63_i32
  let v1019 : Index := Scalar.indexCast v1018
  ![v1019.toNat]
def k0_off254 (v1020 : BitVec 32) : Fin 2 → Nat :=
  let c2_i32_947 : BitVec 32 := 2#32
  let v1234 : BitVec 32 := Scalar.shrui v1020 c2_i32_947
  let c0_i32_950 : BitVec 32 := 0#32
  ![v1234.toNat, 0]
def k0_cond128 (v1020 : BitVec 32) : BitVec 1 :=
  let c5504_i32_642 : BitVec 32 := 5504#32
  let v1021 : BitVec 1 := Scalar.cmpi .slt v1020 c5504_i32_642
  let v1026 : BitVec 32 := Scalar.extui v1021
  let c0_i32_645 : BitVec 32 := 0#32
  let v1027 : BitVec 1 := Scalar.cmpi .ne v1026 c0_i32_645
  v1027

def k0_off255 (v1020 : BitVec 32) : Fin 2 → Nat :=
  let c5504_i32_643 : BitVec 32 := 5504#32
  let v1022 : BitVec 32 := Scalar.subi v1020 c5504_i32_643
  let c0_i32_644 : BitVec 32 := 0#32
  let v1023 : BitVec 32 := Scalar.maxsi v1022 c0_i32_644
  let c2_i32_947 : BitVec 32 := 2#32
  let v1234 : BitVec 32 := Scalar.shrui v1023 c2_i32_947
  let c0_i32_950 : BitVec 32 := 0#32
  ![v1234.toNat, 0]
def k0_cond129 (v1020 : BitVec 32) : BitVec 1 :=
  let c5504_i32_642 : BitVec 32 := 5504#32
  let v1021 : BitVec 1 := Scalar.cmpi .slt v1020 c5504_i32_642
  let true_646 : BitVec 1 := 1#1
  let v1028 : BitVec 1 := Scalar.xori v1021 true_646
  let v1029 : BitVec 32 := Scalar.extui v1028
  let c0_i32_647 : BitVec 32 := 0#32
  let v1030 : BitVec 1 := Scalar.cmpi .ne v1029 c0_i32_647
  v1030

def k0_off256 (v1020 : BitVec 32) : Fin 2 → Nat :=
  let c5504_i32_643 : BitVec 32 := 5504#32
  let v1022 : BitVec 32 := Scalar.subi v1020 c5504_i32_643
  let c0_i32_644 : BitVec 32 := 0#32
  let v1023 : BitVec 32 := Scalar.maxsi v1022 c0_i32_644
  let c1_i32_648 : BitVec 32 := 1#32
  let v1031 : BitVec 32 := Scalar.shrui v1023 c1_i32_648
  let c0_i32_651 : BitVec 32 := 0#32
  ![v1031.toNat, 0]

def k0_chk64 (v1020 : BitVec 32) : Prop :=
  (∀ (k0_h128 : k0_cond128 v1020 = 1#1), ∀ a, (k0_off254 v1020) a + S1x5120.size a ≤ S1376x5120.size a) ∧
  (∀ (k0_h129 : k0_cond129 v1020 = 1#1), ∀ a, (k0_off255 v1020) a + S1x2560.size a ≤ S5536x2560.size a) ∧
  (∀ a, (k0_off256 v1020) a + S1x40.size a ≤ S11072x40.size a)
theorem k0_off254_inb : ∀ (v1020 : BitVec 32) (k0_hw64 : k0_chk64 v1020), ∀ (k0_h128 : k0_cond128 v1020 = 1#1), ∀ a, (k0_off254 v1020) a + S1x5120.size a ≤ S1376x5120.size a := fun v1020 k0_hw64 k0_h128 => k0_hw64.1 k0_h128
theorem k0_off255_inb : ∀ (v1020 : BitVec 32) (k0_hw64 : k0_chk64 v1020), ∀ (k0_h129 : k0_cond129 v1020 = 1#1), ∀ a, (k0_off255 v1020) a + S1x2560.size a ≤ S5536x2560.size a := fun v1020 k0_hw64 k0_h129 => k0_hw64.2.1 k0_h129
theorem k0_off256_inb : ∀ (v1020 : BitVec 32) (k0_hw64 : k0_chk64 v1020), ∀ a, (k0_off256 v1020) a + S1x40.size a ≤ S11072x40.size a := fun v1020 k0_hw64 => k0_hw64.2.2

def k0_off257 (i : grid0.Coords) (k0_t1 : Fin k0_t1_loop.trips) : Fin 2 → Nat :=
  let arg0 : BitVec 32 := BitVec.ofNat 32 (i 0).val
  let c4_i32_929 : BitVec 32 := 4#32
  let v1190 : BitVec 32 := Scalar.muli arg0 c4_i32_929
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let c1_i32_930 : BitVec 32 := 1#32
  let v1191 : BitVec 32 := Scalar.shrui v6 c1_i32_930
  let v1192 : BitVec 32 := Scalar.addi v1190 v1191
  let v1193 : Index := Scalar.indexCast v1192
  let c0 : Index := 0#32
  ![v1193.toNat, 0]
@[reducible] def k0_t2_loop : Scf.Loop 32 :=
  let c0_i32_943 : BitVec 32 := 0#32
  let c20_i32_944 : BitVec 32 := 20#32
  let v1233 : BitVec 32 := Scalar.addi c0_i32_943 c20_i32_944
  let c1_i32_945 : BitVec 32 := 1#32
  ⟨c0_i32_943, v1233, c1_i32_945⟩
def k0_mult1 (k0_t2 : Fin k0_t2_loop.trips) : BitVec 32 :=
  let c128_i32_950 : BitVec 32 := 128#32
  let c0_i32_948 : BitVec 32 := 0#32
  let c0_i32_943 : BitVec 32 := 0#32
  let c1_i32_945 : BitVec 32 := 1#32
  let arg19 : BitVec 32 := Scf.iv c0_i32_943 c1_i32_945 k0_t2
  let c1_i32_947 : BitVec 32 := 1#32
  let v1234 : BitVec 32 := Scalar.muli arg19 c1_i32_947
  let v1235 : BitVec 32 := Scalar.addi c0_i32_948 v1234
  let v1239 : BitVec 32 := Scalar.muli c128_i32_950 v1235
  v1239
def k0_off258 (k0_t2 : Fin k0_t2_loop.trips) : Fin 2 → Nat :=
  let c0_951 : Index := 0#32
  let c128_i32_950 : BitVec 32 := 128#32
  let c0_i32_948 : BitVec 32 := 0#32
  let c0_i32_943 : BitVec 32 := 0#32
  let c1_i32_945 : BitVec 32 := 1#32
  let arg19 : BitVec 32 := Scf.iv c0_i32_943 c1_i32_945 k0_t2
  let c1_i32_947 : BitVec 32 := 1#32
  let v1234 : BitVec 32 := Scalar.muli arg19 c1_i32_947
  let v1235 : BitVec 32 := Scalar.addi c0_i32_948 v1234
  let v1239 : BitVec 32 := Scalar.muli c128_i32_950 v1235
  let v1240 : BitVec 32 := v1239
  let v1241 : Index := Scalar.indexCast v1240
  ![0, v1241.toNat]
def k0_mult2 (k0_t2 : Fin k0_t2_loop.trips) : BitVec 32 :=
  let c256_i32 : BitVec 32 := 256#32
  let c0_i32_948 : BitVec 32 := 0#32
  let c0_i32_943 : BitVec 32 := 0#32
  let c1_i32_945 : BitVec 32 := 1#32
  let arg19 : BitVec 32 := Scf.iv c0_i32_943 c1_i32_945 k0_t2
  let c1_i32_947 : BitVec 32 := 1#32
  let v1234 : BitVec 32 := Scalar.muli arg19 c1_i32_947
  let v1235 : BitVec 32 := Scalar.addi c0_i32_948 v1234
  let v1268 : BitVec 32 := Scalar.muli c256_i32 v1235
  v1268
def k0_off259 (k0_t2 : Fin k0_t2_loop.trips) : Fin 2 → Nat :=
  let c0_960 : Index := 0#32
  let c256_i32 : BitVec 32 := 256#32
  let c0_i32_948 : BitVec 32 := 0#32
  let c0_i32_943 : BitVec 32 := 0#32
  let c1_i32_945 : BitVec 32 := 1#32
  let arg19 : BitVec 32 := Scf.iv c0_i32_943 c1_i32_945 k0_t2
  let c1_i32_947 : BitVec 32 := 1#32
  let v1234 : BitVec 32 := Scalar.muli arg19 c1_i32_947
  let v1235 : BitVec 32 := Scalar.addi c0_i32_948 v1234
  let v1268 : BitVec 32 := Scalar.muli c256_i32 v1235
  let v1269 : BitVec 32 := v1268
  let v1270 : Index := Scalar.indexCast v1269
  ![0, v1270.toNat]
def k0_mult3 (k0_t2 : Fin k0_t2_loop.trips) : BitVec 32 :=
  let c256_i32_961 : BitVec 32 := 256#32
  let c0_i32_948 : BitVec 32 := 0#32
  let c0_i32_943 : BitVec 32 := 0#32
  let c1_i32_945 : BitVec 32 := 1#32
  let arg19 : BitVec 32 := Scf.iv c0_i32_943 c1_i32_945 k0_t2
  let c1_i32_947 : BitVec 32 := 1#32
  let v1234 : BitVec 32 := Scalar.muli arg19 c1_i32_947
  let v1235 : BitVec 32 := Scalar.addi c0_i32_948 v1234
  let v1273 : BitVec 32 := Scalar.muli c256_i32_961 v1235
  let c128_i32_962 : BitVec 32 := 128#32
  let v1274 : BitVec 32 := Scalar.addi v1273 c128_i32_962
  v1274
def k0_off260 (k0_t2 : Fin k0_t2_loop.trips) : Fin 2 → Nat :=
  let c0_963 : Index := 0#32
  let c256_i32_961 : BitVec 32 := 256#32
  let c0_i32_948 : BitVec 32 := 0#32
  let c0_i32_943 : BitVec 32 := 0#32
  let c1_i32_945 : BitVec 32 := 1#32
  let arg19 : BitVec 32 := Scf.iv c0_i32_943 c1_i32_945 k0_t2
  let c1_i32_947 : BitVec 32 := 1#32
  let v1234 : BitVec 32 := Scalar.muli arg19 c1_i32_947
  let v1235 : BitVec 32 := Scalar.addi c0_i32_948 v1234
  let v1273 : BitVec 32 := Scalar.muli c256_i32_961 v1235
  let c128_i32_962 : BitVec 32 := 128#32
  let v1274 : BitVec 32 := Scalar.addi v1273 c128_i32_962
  let v1275 : BitVec 32 := v1274
  let v1276 : Index := Scalar.indexCast v1275
  ![0, v1276.toNat]
def k0_mult4 (k0_t1 : Fin k0_t1_loop.trips) : BitVec 32 :=
  let c64_i32_976 : BitVec 32 := 64#32
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v1322 : BitVec 32 := Scalar.muli c64_i32_976 v6
  v1322
def k0_mult5 (k0_t2 : Fin k0_t2_loop.trips) : BitVec 32 :=
  let c256_i32_977 : BitVec 32 := 256#32
  let c0_i32_948 : BitVec 32 := 0#32
  let c0_i32_943 : BitVec 32 := 0#32
  let c1_i32_945 : BitVec 32 := 1#32
  let arg19 : BitVec 32 := Scf.iv c0_i32_943 c1_i32_945 k0_t2
  let c1_i32_947 : BitVec 32 := 1#32
  let v1234 : BitVec 32 := Scalar.muli arg19 c1_i32_947
  let v1235 : BitVec 32 := Scalar.addi c0_i32_948 v1234
  let v1324 : BitVec 32 := Scalar.muli c256_i32_977 v1235
  v1324
def k0_off261 (k0_t1 : Fin k0_t1_loop.trips) (k0_t2 : Fin k0_t2_loop.trips) : Fin 2 → Nat :=
  let c64_i32_976 : BitVec 32 := 64#32
  let c0_i32_7 : BitVec 32 := 0#32
  let c0_i32_1 : BitVec 32 := 0#32
  let c1_i32 : BitVec 32 := 1#32
  let arg18 : BitVec 32 := Scf.iv c0_i32_1 c1_i32 k0_t1
  let c1_i32_6 : BitVec 32 := 1#32
  let v5 : BitVec 32 := Scalar.muli arg18 c1_i32_6
  let v6 : BitVec 32 := Scalar.addi c0_i32_7 v5
  let v1322 : BitVec 32 := Scalar.muli c64_i32_976 v6
  let v1323 : BitVec 32 := v1322
  let v1326 : Index := Scalar.indexCast v1323
  let c256_i32_977 : BitVec 32 := 256#32
  let c0_i32_948 : BitVec 32 := 0#32
  let c0_i32_943 : BitVec 32 := 0#32
  let c1_i32_945 : BitVec 32 := 1#32
  let arg19 : BitVec 32 := Scf.iv c0_i32_943 c1_i32_945 k0_t2
  let c1_i32_947 : BitVec 32 := 1#32
  let v1234 : BitVec 32 := Scalar.muli arg19 c1_i32_947
  let v1235 : BitVec 32 := Scalar.addi c0_i32_948 v1234
  let v1324 : BitVec 32 := Scalar.muli c256_i32_977 v1235
  let v1325 : BitVec 32 := v1324
  let v1327 : Index := Scalar.indexCast v1325
  ![v1326.toNat, v1327.toNat]
@[reducible] def k0_t3_loop : Scf.Loop 32 :=
  let c0_i32_3 : BitVec 32 := 0#32
  let c12_i32 : BitVec 32 := 12#32
  let v4 : BitVec 32 := Scalar.addi c0_i32_3 c12_i32
  let c1_i32_4 : BitVec 32 := 1#32
  ⟨c0_i32_3, v4, c1_i32_4⟩
def k0_mult6 (k0_t3 : Fin k0_t3_loop.trips) : BitVec 32 :=
  let c0_i32_7 : BitVec 32 := 0#32
  let c0_i32_3 : BitVec 32 := 0#32
  let c1_i32_4 : BitVec 32 := 1#32
  let arg18 : BitVec 32 := Scf.iv c0_i32_3 c1_i32_4 k0_t3
  let c1_i32_6 : BitVec 32 := 1#32
  let v5 : BitVec 32 := Scalar.muli arg18 c1_i32_6
  let v6 : BitVec 32 := Scalar.addi c0_i32_7 v5
  let c256_i32 : BitVec 32 := 256#32
  let v7 : BitVec 32 := Scalar.muli v6 c256_i32
  v7
def k0_off262 (k0_t3 : Fin k0_t3_loop.trips) : Fin 2 → Nat :=
  let c0_i32_7 : BitVec 32 := 0#32
  let c0_i32_3 : BitVec 32 := 0#32
  let c1_i32_4 : BitVec 32 := 1#32
  let arg18 : BitVec 32 := Scf.iv c0_i32_3 c1_i32_4 k0_t3
  let c1_i32_6 : BitVec 32 := 1#32
  let v5 : BitVec 32 := Scalar.muli arg18 c1_i32_6
  let v6 : BitVec 32 := Scalar.addi c0_i32_7 v5
  let c256_i32 : BitVec 32 := 256#32
  let v7 : BitVec 32 := Scalar.muli v6 c256_i32
  let v8 : BitVec 32 := v7
  let v9 : Index := Scalar.indexCast v8
  let c0 : Index := 0#32
  ![v9.toNat, 0]
def k0_mult7 (k0_t3 : Fin k0_t3_loop.trips) : BitVec 32 :=
  let c0_i32_7 : BitVec 32 := 0#32
  let c0_i32_3 : BitVec 32 := 0#32
  let c1_i32_4 : BitVec 32 := 1#32
  let arg18 : BitVec 32 := Scf.iv c0_i32_3 c1_i32_4 k0_t3
  let c1_i32_6 : BitVec 32 := 1#32
  let v5 : BitVec 32 := Scalar.muli arg18 c1_i32_6
  let v6 : BitVec 32 := Scalar.addi c0_i32_7 v5
  let c256_i32_10 : BitVec 32 := 256#32
  let v13 : BitVec 32 := Scalar.muli v6 c256_i32_10
  v13
def k0_off263 (k0_t3 : Fin k0_t3_loop.trips) : Fin 2 → Nat :=
  let c0_i32_7 : BitVec 32 := 0#32
  let c0_i32_3 : BitVec 32 := 0#32
  let c1_i32_4 : BitVec 32 := 1#32
  let arg18 : BitVec 32 := Scf.iv c0_i32_3 c1_i32_4 k0_t3
  let c1_i32_6 : BitVec 32 := 1#32
  let v5 : BitVec 32 := Scalar.muli arg18 c1_i32_6
  let v6 : BitVec 32 := Scalar.addi c0_i32_7 v5
  let c256_i32_10 : BitVec 32 := 256#32
  let v13 : BitVec 32 := Scalar.muli v6 c256_i32_10
  let v14 : BitVec 32 := v13
  let v15 : Index := Scalar.indexCast v14
  let c0_11 : Index := 0#32
  ![v15.toNat, 0]
def k0_off264 (i : grid0.Coords) (c0_i32_12 : BitVec 32) : Fin 2 → Nat :=
  let arg0 : BitVec 32 := BitVec.ofNat 32 (i 0).val
  let c4_i32 : BitVec 32 := 4#32
  let v18 : BitVec 32 := Scalar.muli arg0 c4_i32
  let v19 : BitVec 32 := Scalar.addi v18 c0_i32_12
  let v20 : Index := Scalar.indexCast v19
  let c0_13 : Index := 0#32
  ![v20.toNat, 0]
def k0_off265 (k0_t3 : Fin k0_t3_loop.trips) : Fin 2 → Nat :=
  let c0_i32_7 : BitVec 32 := 0#32
  let c0_i32_3 : BitVec 32 := 0#32
  let c1_i32_4 : BitVec 32 := 1#32
  let arg18 : BitVec 32 := Scf.iv c0_i32_3 c1_i32_4 k0_t3
  let c1_i32_6 : BitVec 32 := 1#32
  let v5 : BitVec 32 := Scalar.muli arg18 c1_i32_6
  let v6 : BitVec 32 := Scalar.addi c0_i32_7 v5
  let c256_i32_10 : BitVec 32 := 256#32
  let v13 : BitVec 32 := Scalar.muli v6 c256_i32_10
  let v14 : BitVec 32 := v13
  let v28 : Index := Scalar.indexCast v14
  let c0_14 : Index := 0#32
  ![v28.toNat, 0]
def k0_off266 (k0_t3 : Fin k0_t3_loop.trips) : Fin 2 → Nat :=
  let c0_i32_7 : BitVec 32 := 0#32
  let c0_i32_3 : BitVec 32 := 0#32
  let c1_i32_4 : BitVec 32 := 1#32
  let arg18 : BitVec 32 := Scf.iv c0_i32_3 c1_i32_4 k0_t3
  let c1_i32_6 : BitVec 32 := 1#32
  let v5 : BitVec 32 := Scalar.muli arg18 c1_i32_6
  let v6 : BitVec 32 := Scalar.addi c0_i32_7 v5
  let c256_i32_10 : BitVec 32 := 256#32
  let v13 : BitVec 32 := Scalar.muli v6 c256_i32_10
  let v14 : BitVec 32 := v13
  let v40 : Index := Scalar.indexCast v14
  let c128 : Index := 128#32
  ![v40.toNat, 128]
def k0_off267 (k0_t3 : Fin k0_t3_loop.trips) : Fin 2 → Nat :=
  let c0_i32_7 : BitVec 32 := 0#32
  let c0_i32_3 : BitVec 32 := 0#32
  let c1_i32_4 : BitVec 32 := 1#32
  let arg18 : BitVec 32 := Scf.iv c0_i32_3 c1_i32_4 k0_t3
  let c1_i32_6 : BitVec 32 := 1#32
  let v5 : BitVec 32 := Scalar.muli arg18 c1_i32_6
  let v6 : BitVec 32 := Scalar.addi c0_i32_7 v5
  let c256_i32_10 : BitVec 32 := 256#32
  let v13 : BitVec 32 := Scalar.muli v6 c256_i32_10
  let v14 : BitVec 32 := v13
  let v52 : Index := Scalar.indexCast v14
  let c256 : Index := 256#32
  ![v52.toNat, 256]
def k0_off268 (k0_t3 : Fin k0_t3_loop.trips) : Fin 2 → Nat :=
  let c0_i32_7 : BitVec 32 := 0#32
  let c0_i32_3 : BitVec 32 := 0#32
  let c1_i32_4 : BitVec 32 := 1#32
  let arg18 : BitVec 32 := Scf.iv c0_i32_3 c1_i32_4 k0_t3
  let c1_i32_6 : BitVec 32 := 1#32
  let v5 : BitVec 32 := Scalar.muli arg18 c1_i32_6
  let v6 : BitVec 32 := Scalar.addi c0_i32_7 v5
  let c256_i32_10 : BitVec 32 := 256#32
  let v13 : BitVec 32 := Scalar.muli v6 c256_i32_10
  let v14 : BitVec 32 := v13
  let v64 : Index := Scalar.indexCast v14
  let c384 : Index := 384#32
  ![v64.toNat, 384]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S27648 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S216x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S216x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3072x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S27648 : Shape := ⟨1, ![27648]⟩
abbrev S3072x5120 : Shape := ⟨2, ![3072, 5120]⟩
abbrev S3072 : Shape := ⟨1, ![3072]⟩
abbrev S5504x5120 : Shape := ⟨2, ![5504, 5120]⟩
abbrev S5504 : Shape := ⟨1, ![5504]⟩
abbrev S22144x2560 : Shape := ⟨2, ![22144, 2560]⟩
abbrev S22144x40 : Shape := ⟨2, ![22144, 40]⟩
abbrev S3072x5504 : Shape := ⟨2, ![3072, 5504]⟩
abbrev S3072x1 : Shape := ⟨2, ![3072, 1]⟩
abbrev S1x5504 : Shape := ⟨2, ![1, 5504]⟩
abbrev S22144x40x64 : Shape := ⟨3, ![22144, 40, 64]⟩
abbrev S_ : Shape := ⟨0, ![]⟩
abbrev S3072x2560 : Shape := ⟨2, ![3072, 2560]⟩
abbrev S3072x22144 : Shape := ⟨2, ![3072, 22144]⟩
abbrev S3072x27648 : Shape := ⟨2, ![3072, 27648]⟩
abbrev S27648x1 : Shape := ⟨2, ![27648, 1]⟩

abbrev nBuf : Space → Nat
  | .hbm => 74
  | .vmem => 0
  | .smem => 0
  | _ => 0

abbrev bufTy : (tb : Table) → Fin (tcTables nBuf tb) → BufTy
  | .hbm, ⟨0, _⟩ => ⟨S27648, .i32⟩
  | .hbm, ⟨1, _⟩ => ⟨S3072x5120, .bf16⟩
  | .hbm, ⟨2, _⟩ => ⟨S3072, .f32⟩
  | .hbm, ⟨3, _⟩ => ⟨S5504x5120, .i8⟩
  | .hbm, ⟨4, _⟩ => ⟨S5504, .f32⟩
  | .hbm, ⟨5, _⟩ => ⟨S22144x2560, .i8⟩
  | .hbm, ⟨6, _⟩ => ⟨S22144x40, .i16⟩
  | .hbm, ⟨7, _⟩ => ⟨S5504x5120, .i32⟩
  | .hbm, ⟨8, _⟩ => ⟨S5504x5120, .f32⟩
  | .hbm, ⟨9, _⟩ => ⟨S5504x5120, .bf16⟩
  | .hbm, ⟨10, _⟩ => ⟨S3072x5504, .f32⟩
  | .hbm, ⟨11, _⟩ => ⟨S3072x1, .f32⟩
  | .hbm, ⟨12, _⟩ => ⟨S3072x5504, .f32⟩
  | .hbm, ⟨13, _⟩ => ⟨S3072x5504, .f32⟩
  | .hbm, ⟨14, _⟩ => ⟨S1x5504, .f32⟩
  | .hbm, ⟨15, _⟩ => ⟨S3072x5504, .f32⟩
  | .hbm, ⟨16, _⟩ => ⟨S3072x5504, .f32⟩
  | .hbm, ⟨17, _⟩ => ⟨S22144x40, .bf16⟩
  | .hbm, ⟨18, _⟩ => ⟨S22144x40x64, .bf16⟩
  | .hbm, ⟨19, _⟩ => ⟨S22144x2560, .bf16⟩
  | .hbm, ⟨20, _⟩ => ⟨S22144x2560, .i32⟩
  | .hbm, ⟨21, _⟩ => ⟨S_, .i32⟩
  | .hbm, ⟨22, _⟩ => ⟨S22144x2560, .i32⟩
  | .hbm, ⟨23, _⟩ => ⟨S22144x2560, .i32⟩
  | .hbm, ⟨24, _⟩ => ⟨S_, .i32⟩
  | .hbm, ⟨25, _⟩ => ⟨S22144x2560, .i32⟩
  | .hbm, ⟨26, _⟩ => ⟨S22144x2560, .i1⟩
  | .hbm, ⟨27, _⟩ => ⟨S_, .i32⟩
  | .hbm, ⟨28, _⟩ => ⟨S22144x2560, .i32⟩
  | .hbm, ⟨29, _⟩ => ⟨S22144x2560, .i32⟩
  | .hbm, ⟨30, _⟩ => ⟨S22144x2560, .i32⟩
  | .hbm, ⟨31, _⟩ => ⟨S22144x2560, .f32⟩
  | .hbm, ⟨32, _⟩ => ⟨S22144x2560, .bf16⟩
  | .hbm, ⟨33, _⟩ => ⟨S22144x2560, .bf16⟩
  | .hbm, ⟨34, _⟩ => ⟨S_, .i32⟩
  | .hbm, ⟨35, _⟩ => ⟨S22144x2560, .i32⟩
  | .hbm, ⟨36, _⟩ => ⟨S22144x2560, .i32⟩
  | .hbm, ⟨37, _⟩ => ⟨S_, .i32⟩
  | .hbm, ⟨38, _⟩ => ⟨S22144x2560, .i32⟩
  | .hbm, ⟨39, _⟩ => ⟨S22144x2560, .i1⟩
  | .hbm, ⟨40, _⟩ => ⟨S_, .i32⟩
  | .hbm, ⟨41, _⟩ => ⟨S22144x2560, .i32⟩
  | .hbm, ⟨42, _⟩ => ⟨S22144x2560, .i32⟩
  | .hbm, ⟨43, _⟩ => ⟨S22144x2560, .i32⟩
  | .hbm, ⟨44, _⟩ => ⟨S22144x2560, .f32⟩
  | .hbm, ⟨45, _⟩ => ⟨S22144x2560, .bf16⟩
  | .hbm, ⟨46, _⟩ => ⟨S22144x2560, .bf16⟩
  | .hbm, ⟨47, _⟩ => ⟨S3072x2560, .bf16⟩
  | .hbm, ⟨48, _⟩ => ⟨S3072x22144, .f32⟩
  | .hbm, ⟨49, _⟩ => ⟨S3072x2560, .bf16⟩
  | .hbm, ⟨50, _⟩ => ⟨S3072x22144, .f32⟩
  | .hbm, ⟨51, _⟩ => ⟨S3072x22144, .f32⟩
  | .hbm, ⟨52, _⟩ => ⟨S3072x1, .f32⟩
  | .hbm, ⟨53, _⟩ => ⟨S3072x22144, .f32⟩
  | .hbm, ⟨54, _⟩ => ⟨S3072x22144, .f32⟩
  | .hbm, ⟨55, _⟩ => ⟨S3072x27648, .f32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S27648, .i32⟩
  | .hbm, ⟨60, _⟩ => ⟨S27648, .i32⟩
  | .hbm, ⟨61, _⟩ => ⟨S_, .i32⟩
  | .hbm, ⟨62, _⟩ => ⟨S27648, .i32⟩
  | .hbm, ⟨63, _⟩ => ⟨S27648, .i32⟩
  | .hbm, ⟨64, _⟩ => ⟨S_, .i32⟩
  | .hbm, ⟨65, _⟩ => ⟨S27648, .i32⟩
  | .hbm, ⟨66, _⟩ => ⟨S27648, .i1⟩
  | .hbm, ⟨67, _⟩ => ⟨S_, .i32⟩
  | .hbm, ⟨68, _⟩ => ⟨S27648, .i32⟩
  | .hbm, ⟨69, _⟩ => ⟨S27648, .i32⟩
  | .hbm, ⟨70, _⟩ => ⟨S27648, .i32⟩
  | .hbm, ⟨71, _⟩ => ⟨S27648x1, .i32⟩
  | .hbm, ⟨72, _⟩ => ⟨S3072x27648, .f32⟩
  | .hbm, ⟨73, _⟩ => ⟨S3072x27648, .bf16⟩
  | _, _ => ⟨S27648, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_5 : Ref sig .tc := ⟨.hbm, 56, rfl⟩
abbrev main_c_6 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v43 : Ref sig .tc := ⟨.hbm, 63, rfl⟩
abbrev main_c_7 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]
-- ==== Quantise.lean ====
abbrev S3072x5120 : Shape := ⟨2, ![3072, 5120]⟩
abbrev S3072x128 : Shape := ⟨2, ![3072, 128]⟩
abbrev S24x1x128 : Shape := ⟨3, ![24, 1, 128]⟩
abbrev S128x5120 : Shape := ⟨2, ![128, 5120]⟩
abbrev S128x128 : Shape := ⟨2, ![128, 128]⟩
abbrev S1x1x128 : Shape := ⟨3, ![1, 1, 128]⟩
abbrev S128 : Shape := ⟨1, ![128]⟩
abbrev S128x1 : Shape := ⟨2, ![128, 1]⟩
abbrev S128x128x1 : Shape := ⟨3, ![128, 128, 1]⟩
abbrev S1x128 : Shape := ⟨2, ![1, 128]⟩

abbrev nBuf : Space → Nat
  | .hbm => 5
  | .vmem => 10
  | .smem => 0
  | _ => 0

abbrev bufTy : (tb : Table) → Fin (tcTables nBuf tb) → BufTy
  | .hbm, ⟨0, _⟩ => ⟨S3072x5120, .bf16⟩
  | .hbm, ⟨1, _⟩ => ⟨S3072x5120, .i8⟩
  | .hbm, ⟨2, _⟩ => ⟨S3072x5120, .bf16⟩
  | .hbm, ⟨3, _⟩ => ⟨S3072x128, .f32⟩
  | .hbm, ⟨4, _⟩ => ⟨S24x1x128, .f32⟩
  | .local _ .vmem, ⟨0, _⟩ => ⟨S128x5120, .bf16⟩
  | .local _ .vmem, ⟨1, _⟩ => ⟨S128x5120, .bf16⟩
  | .local _ .vmem, ⟨2, _⟩ => ⟨S128x5120, .i8⟩
  | .local _ .vmem, ⟨3, _⟩ => ⟨S128x5120, .i8⟩
  | .local _ .vmem, ⟨4, _⟩ => ⟨S128x5120, .bf16⟩
  | .local _ .vmem, ⟨5, _⟩ => ⟨S128x5120, .bf16⟩
  | .local _ .vmem, ⟨6, _⟩ => ⟨S128x128, .f32⟩
  | .local _ .vmem, ⟨7, _⟩ => ⟨S128x128, .f32⟩
  | .local _ .vmem, ⟨8, _⟩ => ⟨S1x1x128, .f32⟩
  | .local _ .vmem, ⟨9, _⟩ => ⟨S1x1x128, .f32⟩
  | _, _ => ⟨S3072x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5120 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5120 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QuantiseReferenceIdeal.lean ====
abbrev S3072x5120 : Shape := ⟨2, ![3072, 5120]⟩
abbrev S_ : Shape := ⟨0, ![]⟩
abbrev S3072 : Shape := ⟨1, ![3072]⟩
abbrev S3072x1 : Shape := ⟨2, ![3072, 1]⟩
abbrev S24x1x128 : Shape := ⟨3, ![24, 1, 128]⟩

abbrev nBuf : Space → Nat
  | .hbm => 29
  | .vmem => 0
  | .smem => 0
  | _ => 0

abbrev bufTy : (tb : Table) → Fin (tcTables nBuf tb) → BufTy
  | .hbm, ⟨0, _⟩ => ⟨S3072x5120, .bf16⟩
  | .hbm, ⟨1, _⟩ => ⟨S3072x5120, .f32⟩
  | .hbm, ⟨2, _⟩ => ⟨S3072x5120, .f32⟩
  | .hbm, ⟨3, _⟩ => ⟨S_, .f32⟩
  | .hbm, ⟨4, _⟩ => ⟨S3072, .f32⟩
  | .hbm, ⟨5, _⟩ => ⟨S_, .f32⟩
  | .hbm, ⟨6, _⟩ => ⟨S3072, .f32⟩
  | .hbm, ⟨7, _⟩ => ⟨S3072, .i1⟩
  | .hbm, ⟨8, _⟩ => ⟨S_, .f32⟩
  | .hbm, ⟨9, _⟩ => ⟨S3072, .f32⟩
  | .hbm, ⟨10, _⟩ => ⟨S3072, .f32⟩
  | .hbm, ⟨11, _⟩ => ⟨S_, .f32⟩
  | .hbm, ⟨12, _⟩ => ⟨S3072, .f32⟩
  | .hbm, ⟨13, _⟩ => ⟨S3072, .f32⟩
  | .hbm, ⟨14, _⟩ => ⟨S3072x1, .f32⟩
  | .hbm, ⟨15, _⟩ => ⟨S3072x5120, .f32⟩
  | .hbm, ⟨16, _⟩ => ⟨S3072x5120, .f32⟩
  | .hbm, ⟨17, _⟩ => ⟨S3072x5120, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S3072x5120, .f32⟩
  | .hbm, ⟨22, _⟩ => ⟨S3072x5120, .f32⟩
  | .hbm, ⟨23, _⟩ => ⟨S_, .f32⟩
  | .hbm, ⟨24, _⟩ => ⟨S3072x5120, .f32⟩
  | .hbm, ⟨25, _⟩ => ⟨S3072x5120, .f32⟩
  | .hbm, ⟨26, _⟩ => ⟨S3072x5120, .i32⟩
  | .hbm, ⟨27, _⟩ => ⟨S3072x5120, .i8⟩
  | .hbm, ⟨28, _⟩ => ⟨S24x1x128, .f32⟩
  | _, _ => ⟨S3072x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_cst_4 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩

abbrev nD : Nat := 1
abbrev τ : Topo := Topo.v7x

variable {F : FTy → Type} [FloatOps F]
-- ==== Proof.K.Elem.lean ====
/-
  One widened weight element: what the kernel's arithmetic on a chunk's vectors leaves at row `r` and place `128h + l` of a
  256-wide group, in terms of the row's number, one word of its 8-bit row, one word of its 4-bit row and one scale word.
-/
module

public import proofs.«01_k».proof.Proof.Gen.Kernel.Skeleton
public import Idealize.ShloMosaic.Lib.Pointwise

@[expose] public section

noncomputable section

namespace Cert.Kernel.Hand

open Cert.Kernel Cert.Kernel.Gen
open Idealize.ShloMosaic

variable {F : FTy → Type} [FloatOps F]

/-- The shift that brings a row's byte of a word to the top. -/
def shw (w : BitVec 32) : BitVec 32 := IntOp.subi 24#32 (IntOp.muli 8#32 (IntOp.andi w 3#32))
/-- The row's byte of a word, and the low and high half of it, as signed numbers. -/
def byteOf (w a : BitVec 32) : BitVec 32 := IntOp.shrsi .vector (IntOp.shli .vector a (shw w)) 24#32
def nibS0 (s a : BitVec 32) : BitVec 32 := IntOp.shrsi .vector (IntOp.shli .vector (IntOp.shli .vector a s) 4#32) 28#32
def nibS1 (s a : BitVec 32) : BitVec 32 := IntOp.shrsi .vector (IntOp.shli .vector a s) 28#32
def nib0 (w a : BitVec 32) : BitVec 32 := nibS0 (shw w) a
def nib1 (w a : BitVec 32) : BitVec 32 := nibS1 (shw w) a
/-- The row's half of a scale word, as the bits of a 32-bit float. -/
def sbits (w s : BitVec 32) : BitVec 32 :=
  Scalar.select (IntOp.cmpi .ne (IntOp.andi w 1#32) 0#32) (IntOp.andi s 4294901760#32) (IntOp.shli .vector s 16#32)
/-- The widened element. -/
def elt (w a8 n s : BitVec 32) : F .bf16 :=
  FloatOps.truncf .bf16 bitsLt_bf16_f32
    (Scalar.select (IntOp.cmpi .slt w 5504#32) (FloatOps.sitofp .f32 (byteOf w a8))
      (FloatOps.mulf (FloatOps.sitofp .f32 n) (FloatOps.ofBits .f32 (sbits w s))))

/-- A chunk's vectors put through the widening. -/
def widen (m sh : IVec S64x128 32) (sc : Vec F S64x40 .i32) (g : Fin k0_t2_loop.trips) (x4 lo hi : Vec F S64x128 .i32) : FVec F S64x256 .bf16 :=
  k0_pay3 (k0_pay12 sh (k0_pay1 m 5504#32) (iota .tc S64x128 32 [1] iota_S64x128_d1_w32) k0_pay6
    (k0_pay9 sh (k0_pay2 m sc) 0#32 1#32 g x4) (k0_pay10 sh (k0_pay2 m sc) 0#32 1#32 g x4) (k0_pay11 sh lo) hi)

/-- The bits of the mask of a word's high half. -/
theorem mask_bit : ∀ i : Fin 32, (4294901760#32).getLsbD i.val = decide (16 ≤ i.val) := by decide

theorem shl16_sar24 (y z : BitVec 32) : IntOp.shrsi .vector (IntOp.shli .vector
    (IntOp.ori (IntOp.shrui .vector y 16#32) (IntOp.andi z 4294901760#32)) 16#32) 24#32 = IntOp.shrsi .vector y 24#32 := by
  show BitVec.sshiftRight (((y >>> 16) ||| (z &&& 4294901760#32)) <<< 16) 24 = BitVec.sshiftRight y 24
  apply BitVec.eq_of_getLsbD_eq
  intro i hi
  have hm : ∀ k, k < 16 → (4294901760#32).getLsbD k = false := fun k hk => by
    have := mask_bit ⟨k, by omega⟩; simp only at this; rw [this]; exact decide_eq_false (by omega)
  have key : ∀ k, 16 ≤ k → k < 32 → (((y >>> 16) ||| (z &&& 4294901760#32)) <<< 16).getLsbD k = y.getLsbD k := fun k h1 h2 => by
    rw [BitVec.getLsbD_shiftLeft, BitVec.getLsbD_or, BitVec.getLsbD_and, BitVec.getLsbD_ushiftRight, hm _ (by omega)]
    have : 16 + (k - 16) = k := by omega
    simp [this, h2]; omega
  rw [BitVec.getLsbD_sshiftRight, BitVec.getLsbD_sshiftRight]
  by_cases h : 24 + i < 32
  · rw [if_pos h, if_pos h, key _ (by omega) h]
  · rw [if_neg h, if_neg h, BitVec.msb_eq_getLsbD_last, BitVec.msb_eq_getLsbD_last, key _ (by omega) (by omega)]

theorem or_sar24 (y z : BitVec 32) : IntOp.shrsi .vector
    (IntOp.ori (IntOp.shrui .vector y 16#32) (IntOp.andi z 4294901760#32)) 24#32 = IntOp.shrsi .vector z 24#32 := by
  show BitVec.sshiftRight ((y >>> 16) ||| (z &&& 4294901760#32)) 24 = BitVec.sshiftRight z 24
  apply BitVec.eq_of_getLsbD_eq
  intro i hi
  have hm : ∀ k, 16 ≤ k → k < 32 → (4294901760#32).getLsbD k = true := fun k hk h2 => by
    have := mask_bit ⟨k, h2⟩; simp only at this; rw [this]; exact decide_eq_true hk
  have key : ∀ k, 16 ≤ k → k < 32 → ((y >>> 16) ||| (z &&& 4294901760#32)).getLsbD k = z.getLsbD k := fun k h1 h2 => by
    rw [BitVec.getLsbD_or, BitVec.getLsbD_and, BitVec.getLsbD_ushiftRight, hm _ h1 h2, BitVec.getLsbD_of_ge y _ (by omega)]
    simp
  rw [BitVec.getLsbD_sshiftRight, BitVec.getLsbD_sshiftRight]
  by_cases h : 24 + i < 32
  · rw [if_pos h, if_pos h, key _ (by omega) h]
  · rw [if_neg h, if_neg h, BitVec.msb_eq_getLsbD_last, BitVec.msb_eq_getLsbD_last, key _ (by omega) (by omega)]

/-- The low half of the lanes. -/
theorem low_apply (r : Fin 64) (l : Fin 128) : k0_pay6 (ix2 r l) = if l.val < 64 then 1#1 else 0#1 := by
  have e : ∀ l : Fin 128, IntOp.cmpi .slt (BitVec.ofNat 32 l.val) 64#32 = if l.val < 64 then 1#1 else 0#1 := by decide +kernel
  rw [← e l]
  show IntOp.cmpi .slt (iota .tc S64x128 32 [1] iota_S64x128_d1_w32 (ix2 r l)) 64#32 = _
  rw [iota_single_apply]; rfl

/-- A lane gather whose index vector was cast to a column and back. -/
theorem gather_lane {α : Type} (x : S64x128.Idx → α) (idx : IVec S64x128 32) (r : Fin 64) (l l' : Fin 128)
    (h : (idx (ix2 r l)).toNat % 128 = l'.val) :
    dynamicGather 1 x (shapeCast S64x128 (shapeCast S64x128x1 idx shapeCasts_S64x128_S64x128x1) shapeCasts_S64x128x1_S64x128) (ix2 r l)
      = x (ix2 r l') := by
  rw [shapeCast_shapeCast]
  refine congrArg x (funext fun b => ?_)
  match b with
  | 0 => rfl
  | 1 => exact Fin.ext h

/-- An index that is never negative is left alone by the fold at zero. -/
def fold (x : BitVec 32) : BitVec 32 := Scalar.select (IntOp.cmpi .slt x 0#32) (IntOp.addi x 128#32) x

theorem scale_lane (v : FVec F S64x128 .f32) (g : Fin k0_t2_loop.trips) (r : Fin 64) (l : Fin 128) (l' : Fin 128)
    (h : l'.val = 2 * g.val + if l.val < 64 then 0 else 1) :
    k0_pay8 v 0#32 1#32 g (ix2 r l) = v (ix2 r l') := by
  refine gather_lane v _ r l l' ?_
  show (fold (IntOp.addi (Scalar.muli 2#32 (Scalar.addi 0#32 (Scalar.muli (Scf.iv 0#32 1#32 g) 1#32)))
    (Scalar.select (k0_pay6 (ix2 r l)) 0#32 1#32))).toNat % 128 = _
  rw [low_apply, h]
  have hg : g.val < 20 := Nat.lt_of_lt_of_le g.isLt k0_t2_abs.2.1
  have e : ∀ (g : Fin 20) (b : Bool), (fold (IntOp.addi (Scalar.muli 2#32 (Scalar.addi 0#32 (Scalar.muli (Scf.iv 0#32 1#32 g) 1#32)))
    (Scalar.select (if b then 1#1 else 0#1) 0#32 1#32))).toNat % 128 = 2 * g.val + if b then 0 else 1 := by decide +kernel
  have := e ⟨g.val, hg⟩ (decide (l.val < 64))
  simpa using this

theorem scale_apply (m : IVec S64x128 32) (sc : Vec F S64x40 .i32) (r : Fin 64) (k : Fin 40) :
    k0_pay2 m sc (ix2 r (⟨k.val, by omega⟩ : Fin 128)) = (FloatOps.ofBits .f32 (sbits (m (ix2 r (⟨k.val, by omega⟩ : Fin 128))) (sc (ix2 r k))) : F .f32) := by
  unfold k0_pay2
  refine (concatenate_pair_apply_left (t := S64x128) (s₁ := S64x40) (s₂ := S64x88) 1 _ _ concatenates_S64x40_S64x88_S64x128_d1 (ix2 r (⟨k.val, by omega⟩ : Fin 128)) rfl (ix2 r k) ?_).trans ?_
  · intro b
    match b with
    | 0 => rfl
    | 1 => rfl
  · show FloatOps.ofBits .f32 (Scalar.select (IntOp.cmpi .ne (IntOp.andi (extractStridedSlice S64x40 ![0, 0] m slices_S64x128_o0_0_S64x40 (ix2 r k)) 1#32) 0#32)
      (IntOp.andi (sc (ix2 r k)) 4294901760#32) (IntOp.shli .vector (sc (ix2 r k)) 16#32)) = _
    have : extractStridedSlice S64x40 ![0, 0] m slices_S64x128_o0_0_S64x40 (ix2 r k) = m (ix2 r (⟨k.val, by omega⟩ : Fin 128)) := by
      refine congrArg m (funext fun b => ?_)
      match b with
      | 0 => exact Fin.ext (by simp)
      | 1 => exact Fin.ext (by simp)
    rw [this]; rfl

/-- The two 8-bit words of a lane, joined. -/
def joined (sh : IVec S64x128 32) (lo hi : Vec F S64x128 .i32) : IVec S64x128 32 :=
  fun j => IntOp.ori (IntOp.shrui .vector (IntOp.shli .vector (lo j) (sh j)) 16#32) (IntOp.andi (IntOp.shli .vector (hi j) (sh j)) 4294901760#32)

theorem even_lane (r : Fin 64) (l : Fin 128) : ((fold (IntOp.andi (IntOp.muli 2#32 (iota .tc S64x128 32 [1] iota_S64x128_d1_w32 (ix2 r l))) 127#32))).toNat % 128
    = 2 * l.val % 128 := by
  rw [iota_single_apply]
  have e : ∀ l : Fin 128, (fold (IntOp.andi (IntOp.muli 2#32 (BitVec.ofNat 32 l.val)) 127#32)).toNat % 128 = 2 * l.val % 128 := by decide +kernel
  exact e l

theorem odd_lane (r : Fin 64) (l : Fin 128) : ((fold (IntOp.addi (IntOp.andi (IntOp.muli 2#32 (iota .tc S64x128 32 [1] iota_S64x128_d1_w32 (ix2 r l))) 127#32) 1#32))).toNat % 128
    = 2 * l.val % 128 + 1 := by
  rw [iota_single_apply]
  have e : ∀ l : Fin 128, (fold (IntOp.addi (IntOp.andi (IntOp.muli 2#32 (BitVec.ofNat 32 l.val)) 127#32) 1#32)).toNat % 128 = 2 * l.val % 128 + 1 := by decide +kernel
  exact e l

/-- The byte a lane of the joined words is read as. -/
theorem joined_byte (W : Fin 64 → BitVec 32) (sh : IVec S64x128 32) (hs : ∀ r l, sh (ix2 r l) = shw (W r)) (lo hi : Vec F S64x128 .i32) (r : Fin 64) (l l' : Fin 128) :
    IntOp.shrsi .vector (Scalar.select (k0_pay6 (ix2 r l)) (IntOp.shli .vector (joined (F := F) sh lo hi (ix2 r l')) 16#32) (joined (F := F) sh lo hi (ix2 r l'))) 24#32
      = byteOf (W r) (if l.val < 64 then lo (ix2 r l') else hi (ix2 r l')) := by
  rw [low_apply]
  unfold joined byteOf
  rw [hs]
  by_cases h : l.val < 64
  · rw [if_pos h, if_pos h, Scalar.select, if_pos (by rfl), shl16_sar24]
  · rw [if_neg h, if_neg h, Scalar.select, if_neg (by decide), or_sar24]

theorem scale_at (m : IVec S64x128 32) (sc : Vec F S64x40 .i32) (W : Fin 64 → BitVec 32) (hm : ∀ r l, m (ix2 r l) = W r) (g : Fin k0_t2_loop.trips) (r : Fin 64) (l : Fin 128)
    (k : Fin 40) (hk : k.val = 2 * g.val + if l.val < 64 then 0 else 1) :
    k0_pay8 (k0_pay2 m sc) 0#32 1#32 g (ix2 r l) = (FloatOps.ofBits .f32 (sbits (W r) (sc (ix2 r k))) : F .f32) := by
  rw [scale_lane _ g r l (⟨k.val, by omega⟩ : Fin 128) hk, scale_apply, hm]

theorem widen_lo (m sh : IVec S64x128 32) (W : Fin 64 → BitVec 32) (hm : ∀ r l, m (ix2 r l) = W r) (hs : ∀ r l, sh (ix2 r l) = shw (W r))
    (sc : Vec F S64x40 .i32) (g : Fin k0_t2_loop.trips) (x4 lo hi : Vec F S64x128 .i32) (r : Fin 64) (l : Fin 128) (c : Fin 256) (hc : c.val = l.val)
    (k : Fin 40) (hk : k.val = 2 * g.val + if l.val < 64 then 0 else 1) :
    widen m sh sc g x4 lo hi (ix2 r c)
      = (elt (W r) (if l.val < 64 then lo (ix2 r (⟨2 * l.val % 128, by omega⟩ : Fin 128)) else hi (ix2 r (⟨2 * l.val % 128, by omega⟩ : Fin 128)))
          (nib0 (W r) (x4 (ix2 r l))) (sc (ix2 r k)) : F .bf16) := by
  unfold widen k0_pay3
  rw [shapeCast_self]
  unfold elt
  refine congrArg (FloatOps.truncf .bf16 bitsLt_bf16_f32) ?_
  refine (concatenate_pair_apply_left (t := S64x256) (s₁ := S64x128) (s₂ := S64x128) 1 _ _ _ (ix2 r c) rfl (ix2 r l) ?_).trans ?_
  · intro b
    match b with
    | 0 => rfl
    | 1 => exact hc.symm
  refine congr (congr (congrArg Scalar.select ?_) ?_) ?_
  · exact congrArg (IntOp.cmpi .slt · 5504#32) (hm r l)
  · refine congrArg (FloatOps.sitofp .f32) ?_
    rw [← joined_byte W sh hs lo hi r l]
    refine congrArg (IntOp.shrsi .vector · 24#32) ?_
    rw [← gather_lane (joined (F := F) sh lo hi) (fun j => fold (IntOp.andi (IntOp.muli 2#32 (iota .tc S64x128 32 [1] iota_S64x128_d1_w32 j)) 127#32)) r l _ (even_lane r l)]
    rfl
  · unfold nib0
    rw [← scale_at m sc W hm g r l k hk, ← hs r l]
    rfl

theorem widen_hi (m sh : IVec S64x128 32) (W : Fin 64 → BitVec 32) (hm : ∀ r l, m (ix2 r l) = W r) (hs : ∀ r l, sh (ix2 r l) = shw (W r))
    (sc : Vec F S64x40 .i32) (g : Fin k0_t2_loop.trips) (x4 lo hi : Vec F S64x128 .i32) (r : Fin 64) (l : Fin 128) (c : Fin 256) (hc : c.val = 128 + l.val)
    (k : Fin 40) (hk : k.val = 2 * g.val + if l.val < 64 then 0 else 1) :
    widen m sh sc g x4 lo hi (ix2 r c)
      = (elt (W r) (if l.val < 64 then lo (ix2 r (⟨2 * l.val % 128 + 1, by omega⟩ : Fin 128)) else hi (ix2 r (⟨2 * l.val % 128 + 1, by omega⟩ : Fin 128)))
          (nib1 (W r) (x4 (ix2 r l))) (sc (ix2 r k)) : F .bf16) := by
  unfold widen k0_pay3
  rw [shapeCast_self]
  unfold elt
  refine congrArg (FloatOps.truncf .bf16 bitsLt_bf16_f32) ?_
  refine (concatenate_pair_apply_right (t := S64x256) (s₁ := S64x128) (s₂ := S64x128) 1 _ _ _ (ix2 r c) rfl rfl (ix2 r l) ?_ ?_).trans ?_
  · intro b hb
    match b with
    | 0 => rfl
    | 1 => exact absurd rfl hb
  · show l.val + 128 = c.val
    omega
  refine congr (congr (congrArg Scalar.select ?_) ?_) ?_
  · exact congrArg (IntOp.cmpi .slt · 5504#32) (hm r l)
  · refine congrArg (FloatOps.sitofp .f32) ?_
    rw [← joined_byte W sh hs lo hi r l]
    refine congrArg (IntOp.shrsi .vector · 24#32) ?_
    rw [← gather_lane (joined (F := F) sh lo hi) (fun j => fold (IntOp.addi (IntOp.andi (IntOp.muli 2#32 (iota .tc S64x128 32 [1] iota_S64x128_d1_w32 j)) 127#32) 1#32)) r l _ (odd_lane r l)]
    rfl
  · unfold nib1
    rw [← scale_at m sc W hm g r l k hk, ← hs r l]
    rfl

end Cert.Kernel.Hand

end
-- ==== Proof.K.Rows.lean ====
/-
  The gather of one chunk's 64 weight rows, one operation at a time.

  Row `t` of the chunk starts one copy on the shared semaphore: an 8-bit row when the row's number is below 5504, a 4-bit row
  otherwise. It also starts one copy of a scale row on a semaphore of its own. The copies of one chunk on one semaphore are one
  `MixedBatch`. The state `St a b` says that `a` copies are started on the shared semaphore and `b` on the scales' one. Every
  rule below carries one printed operation past that state.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.MixedBatch
public import Idealize.ShloMosaic.Lib.Ring
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's algebra: the pipeline library's beside the transfers' counters. -/
local notation "𝕄" => MT nD τ sig Unit (Elt F) ℕ (Pipeline.UD sig nD τ) ℕ

/-- The transfers' counters. -/
abbrev EC : UEmb Counters 𝕄 := countersEmb (U := Pipeline.UD sig nD τ)

/-! ## One issue of a batch, with resources that ride along with the copy -/

open Transfers in
/-- Starting a batch's next copy, where the row's resources `pre` split into the copy's two ends and a rest `put`, and the
    landed copy with that rest is the delivery. -/
theorem issue {n : ℕ} {c : Dev nD} {sp sp' : Space} {s : Shape} {e : EltTy} {α : Type} {Q : α → sProp 𝕄}
    {src : Memref sig (c : Thread nD τ).2.kind sp s e} {dst : Memref sig (c : Thread nD τ).2.kind sp' s e} {sm : SemLoc sig}
    {hsrc : src.view.WordExact} {hdst : dst.view.WordExact} {hsem : DmaTarget.Typed (nD := nD) sp sm (DmaTarget.here (τ := τ) (p := (c : Thread nD τ).2) dst)}
    {K : Prog (TpuEff nD τ sig (Elt F) Λ₀ (c : Thread nD τ).2) α} {q : PosShare TreeShare} {fs : Buf (Elt F) (src.view.loc (c : Thread nD τ))}
    {Sd : Finset (Idx (dst.view.loc (c : Thread nD τ)))} {fd : Buf (Elt F) (dst.view.loc (c : Thread nD τ))}
    {A : Fin n → ℕ} {D pre : Fin n → sProp 𝕄} {j : ℕ} {put : sProp 𝕄}
    (hj : j < n) (hSd : dst.view.set ⊆ Sd) (hA : dst.view.amount sm = A ⟨j, hj⟩)
    (hpre : pre ⟨j, hj⟩ ⊢ iprop(((src.view.loc (c : Thread nD τ) ↦[src.view.set]{q} fs) ∗ (dst.view.loc (c : Thread nD τ) ↦[Sd]{fullShare} fd)) ∗ put))
    (hD : iprop(put ∗ ((dst.view.loc (c : Thread nD τ) ↦[Sd]{fullShare} (dst.view.write (Elt F) fd (src.view.read (Elt F) fs) Finset.univ))
              ∗ (src.view.loc (c : Thread nD τ) ↦[src.view.set]{q} fs))) ⊢ D ⟨j, hj⟩) :
    iprop(MixedBatch EC (c : Thread nD τ) sm () A D j 0 ∗ bigSep (pending j) pre)
      ⊢ iprop((iprop(MixedBatch EC (c : Thread nD τ) sm () A D (j + 1) 0 ∗ bigSep (pending (j + 1)) pre)
          -∗ wp frame (wpE (defs₀ (F := F)) Variants.none (c : Thread nD τ) none) Set.univ K Q)
        -∗ wp frame (wpE (defs₀ (F := F)) Variants.none (c : Thread nD τ) none) Set.univ
            (.op (.enqueueDmaAs src (.here dst) .same sm hsrc hdst hsem) fun _ => K) Q) := by
  unfold MixedBatch
  iintro ⟨⟨%γ, %γ₀, %κ, #Hinv, HI, H0, Hcred⟩, HP⟩ Hk
  ihave HI' := (show bigSep (pending j) (fun t => count EC (γ t) 0) ⊢ iprop(count EC (γ ⟨j, hj⟩) 0 ∗ bigSep (pending (j + 1)) (fun t => count EC (γ t) 0))
    from Entails.of_eq (by rw [pending_succ hj, bigSep_insert (not_mem_pending_succ hj)]; rfl)) $$ HI
  icases HI' with ⟨Ht, HI⟩
  ihave HP' := (show bigSep (pending j) pre ⊢ iprop(pre ⟨j, hj⟩ ∗ bigSep (pending (j + 1)) pre)
    from Entails.of_eq (by rw [pending_succ hj, bigSep_insert (not_mem_pending_succ hj)]; rfl)) $$ HP
  icases HP' with ⟨Hp, HP⟩
  ihave Hp' := hpre $$ Hp
  icases Hp' with ⟨⟨Hs, Hd⟩, Hput⟩
  iapply (wp_enqueueDmaAs Variants.none (c : Thread nD τ) none Set.univ () (A ⟨j, hj⟩) hA) $$ [Hs Hd] [Ht Hput]
  · isplitl [Hs]; · iexact Hs
    iapply (pointsTo_writeUpdate (c : Thread nD τ) hSd) $$ Hd
  · iapply (mixedBatch_creditUpdate_with EC ⟨j, hj⟩ hD)
    isplitr; · iexact Hinv
    isplitl [Ht] <;> iassumption
  iintro Hcred'
  iapply Hk
  isplitr [HP]
  · iexists γ, γ₀, κ
    isplitr; · iexact Hinv
    isplitl [HI]; · iexact HI
    isplitl [H0]; · iexact H0
    rw [show sumTo A (j + 1) - 0 = (sumTo A j - 0) + A ⟨j, hj⟩ by rw [sumTo_succ A hj]; omega, ← tallyAt_add]
    icombine Hcred Hcred' as H
    iexact H
  · iexact HP

/-! ## The buffers and the rows -/

abbrev w8M : Memref sig .tc .hbm S1376x5120 .i32 := Memref.whole main_v23
abbrev w4M : Memref sig .tc .hbm S5536x2560 .i32 := Memref.whole main_v20
abbrev wsM : Memref sig .tc .hbm S11072x40 .i32 := Memref.whole main_v26
abbrev g4M : Memref sig .tc .vmem S64x2560 .i32 := Memref.whole cc0_scratch2
abbrev g8M : Memref sig .tc .vmem S64x5120 .i32 := Memref.whole cc0_scratch3
abbrev gsM : Memref sig .tc .vmem S64x40 .i32 := Memref.whole cc0_scratch4

theorem inb8 (t : Fin 64) : ∀ a, (![t.val, 0] : Fin 2 → ℕ) a + S1x5120.size a ≤ S64x5120.size a := by
  intro a; fin_cases a <;> simp [S1x5120, S64x5120] <;> omega
theorem inb4 (t : Fin 64) : ∀ a, (![t.val, 0] : Fin 2 → ℕ) a + S1x2560.size a ≤ S64x2560.size a := by
  intro a; fin_cases a <;> simp [S1x2560, S64x2560] <;> omega
theorem inbs (t : Fin 64) : ∀ a, (![t.val, 0] : Fin 2 → ℕ) a + S1x40.size a ≤ S64x40.size a := by
  intro a; fin_cases a <;> simp [S1x40, S64x40] <;> omega

/-- Row `t` of the three gather buffers. -/
abbrev row8 (t : Fin 64) : Memref sig .tc .vmem S1x5120 .i32 :=
  g8M.slice (Rect.unit (s := S64x5120) ![t.val, 0] S1x5120.size (inb8 t)) (fun _ => rfl)
abbrev row4 (t : Fin 64) : Memref sig .tc .vmem S1x2560 .i32 :=
  g4M.slice (Rect.unit (s := S64x2560) ![t.val, 0] S1x2560.size (inb4 t)) (fun _ => rfl)
abbrev rows (t : Fin 64) : Memref sig .tc .vmem S1x40 .i32 :=
  gsM.slice (Rect.unit (s := S64x40) ![t.val, 0] S1x40.size (inbs t)) (fun _ => rfl)

/-- The rows a row number names in the three word arrays, as the kernel computes them. -/
abbrev src8 (w : BitVec 32) (h : ∀ a, k0_off2 w a + S1x5120.size a ≤ S1376x5120.size a) : Memref sig .tc .hbm S1x5120 .i32 :=
  w8M.slice (Rect.unit (s := S1376x5120) (k0_off2 w) S1x5120.size h) (fun _ => rfl)
abbrev src4 (w : BitVec 32) (h : ∀ a, k0_off3 w a + S1x2560.size a ≤ S5536x2560.size a) : Memref sig .tc .hbm S1x2560 .i32 :=
  w4M.slice (Rect.unit (s := S5536x2560) (k0_off3 w) S1x2560.size h) (fun _ => rfl)
abbrev srcs (w : BitVec 32) (h : ∀ a, k0_off4 w a + S1x40.size a ≤ S11072x40.size a) : Memref sig .tc .hbm S1x40 .i32 :=
  wsM.slice (Rect.unit (s := S11072x40) (k0_off4 w) S1x40.size h) (fun _ => rfl)

/-- The two tests a row makes are complementary. -/
theorem cond3_iff (w : BitVec 32) : k0_cond3 w = 1#1 ↔ ¬ k0_cond2 w = 1#1 := by
  unfold k0_cond3 k0_cond2
  simp only [Scalar.cmpi, Scalar.extui, Scalar.xori, IntOp.cmpi]
  cases BitVec.slt w 5504#32 <;> decide

variable (c : Dev nD) (W : Fin 64 → BitVec 32) (hW : ∀ t, k0_chk1 (W t))
variable (f8 : Buf (Elt F) (g8M.view.loc (c : Thread nD τ))) (f4 : Buf (Elt F) (g4M.view.loc (c : Thread nD τ)))
variable (fs : Buf (Elt F) (gsM.view.loc (c : Thread nD τ)))
variable (F8 : Buf (Elt F) (w8M.view.loc (c : Thread nD τ))) (F4 : Buf (Elt F) (w4M.view.loc (c : Thread nD τ)))
variable (Fs : Buf (Elt F) (wsM.view.loc (c : Thread nD τ)))

/-- What row `t`'s copy leaves in the 8-bit gather buffer, the 4-bit one and the scales' one. -/
def got8 (t : Fin 64) : Buf (Elt F) (g8M.view.loc (c : Thread nD τ)) :=
  if h : k0_cond2 (W t) = 1#1 then
    (row8 t).view.write (Elt F) f8 ((src8 (W t) ((hW t).1 h)).view.read (Elt F) F8) Finset.univ else f8
def got4 (t : Fin 64) : Buf (Elt F) (g4M.view.loc (c : Thread nD τ)) :=
  if h : k0_cond3 (W t) = 1#1 then
    (row4 t).view.write (Elt F) f4 ((src4 (W t) ((hW t).2.1 h)).view.read (Elt F) F4) Finset.univ else f4
def gots (t : Fin 64) : Buf (Elt F) (gsM.view.loc (c : Thread nD τ)) :=
  (rows t).view.write (Elt F) fs ((srcs (W t) (hW t).2.2).view.read (Elt F) Fs) Finset.univ

/-- A row's read share of each word array. -/
abbrev tk (t : Fin 64) : PosShare TreeShare := Transfers.shareTok fullShare 64 t

/-- A row before and after its copy. -/
def pre (t : Fin 64) : sProp 𝕄 :=
  iprop(((row8 t).view.loc (c : Thread nD τ) ↦[(row8 t).view.set]{fullShare} f8)
    ∗ ((row4 t).view.loc (c : Thread nD τ) ↦[(row4 t).view.set]{fullShare} f4)
    ∗ (w8M.view.loc (c : Thread nD τ) ↦[Finset.univ]{tk t} F8) ∗ (w4M.view.loc (c : Thread nD τ) ↦[Finset.univ]{tk t} F4))
def post (t : Fin 64) : sProp 𝕄 :=
  iprop(((row8 t).view.loc (c : Thread nD τ) ↦[(row8 t).view.set]{fullShare} got8 c W hW f8 F8 t)
    ∗ ((row4 t).view.loc (c : Thread nD τ) ↦[(row4 t).view.set]{fullShare} got4 c W hW f4 F4 t)
    ∗ (w8M.view.loc (c : Thread nD τ) ↦[Finset.univ]{tk t} F8) ∗ (w4M.view.loc (c : Thread nD τ) ↦[Finset.univ]{tk t} F4))
def preS (t : Fin 64) : sProp 𝕄 :=
  iprop(((rows t).view.loc (c : Thread nD τ) ↦[(rows t).view.set]{fullShare} fs) ∗ (wsM.view.loc (c : Thread nD τ) ↦[Finset.univ]{tk t} Fs))
def postS (t : Fin 64) : sProp 𝕄 :=
  iprop(((rows t).view.loc (c : Thread nD τ) ↦[(rows t).view.set]{fullShare} gots c W hW fs Fs t) ∗ (wsM.view.loc (c : Thread nD τ) ↦[Finset.univ]{tk t} Fs))

instance post_storable (t : Fin 64) : Storable (upEmb : UEmb _ 𝕄) (post c W hW f8 f4 F8 F4 t) := by unfold post; infer_instance
instance postS_storable (t : Fin 64) : Storable (upEmb : UEmb _ 𝕄) (postS c W hW fs Fs t) := by unfold postS; infer_instance

/-- The credit of a row: an 8-bit row is worth two 4-bit ones. -/
abbrev cr : ℕ := (row4 0).view.amount (.dma cc0_scratch5.sem)
abbrev crs : ℕ := (rows 0).view.amount (.dma cc0_scratch6.sem)
def Amt (t : Fin 64) : ℕ := if k0_cond2 (W t) = 1#1 then 2 * cr else cr

theorem amt8 (t : Fin 64) : (row8 t).view.amount (.dma cc0_scratch5.sem) = 2 * cr := by decide +revert
theorem amt4 (t : Fin 64) : (row4 t).view.amount (.dma cc0_scratch5.sem) = cr := rfl
theorem amts (t : Fin 64) : (rows t).view.amount (.dma cc0_scratch6.sem) = crs := rfl

end Cert.Kernel.Hand

end
-- ==== Proof.K.Steps.lean ====
/-
  The state of one chunk's gather and the step rules: a word loaded, its row number assumed in range, the three copies of a row
  started, and the waits.
-/
module

public import proofs.«01_k».proof.Proof.K.Rows

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

/-- A core's weakest precondition in this program. -/
abbrev wpc (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- The place of word `r` of a chunk among the row numbers, as the kernel computes it. -/
def offW (r : ℕ) (i : grid0.Coords) (t : Fin k0_t1_loop.trips) : Fin 1 → ℕ :=
  ![(Scalar.indexCast (Scalar.addi (Scalar.muli (Scalar.addi (Scalar.muli (BitVec.ofNat 32 (i 0).val) 8#32)
      (Scalar.addi 0#32 (Scalar.muli (Scf.iv 0#32 1#32 t) 1#32))) 64#32) (BitVec.ofNat 32 r))).toNat]

theorem offW_int (r : ℕ) (hr : r < 64) (i : grid0.Coords) (t : Fin k0_t1_loop.trips) :
    Affine.IsInt (Scalar.indexCast (Scalar.addi (Scalar.muli (Scalar.addi (Scalar.muli (BitVec.ofNat 32 (i 0).val) 8#32)
      (Scalar.addi 0#32 (Scalar.muli (Scf.iv 0#32 1#32 t) 1#32))) 64#32) (BitVec.ofNat 32 r)))
      (512 * ((i 0).val : Int) + 64 * (t.val : Int) + r) := by
  have r_i0 : (i 0).val < 54 := (i 0).isLt
  have r_t : t.val < 8 := Nat.lt_of_lt_of_le t.isLt k0_t1_abs.2.1
  have h0 : Affine.IsInt 0#32 (0) := Affine.ofNat _ (by omega)
  have h1 : Affine.IsInt 1#32 (1) := Affine.ofNat _ (by omega)
  have hiv : Affine.IsInt _ ((t.val : Int)) := Affine.iv h0 h1 t.val (by omega)
  have h5 : Affine.IsInt _ ((t.val : Int)) := Affine.muli hiv h1 (by omega)
  have h6 : Affine.IsInt _ ((t.val : Int)) := Affine.addi h0 h5 (by omega)
  have ha : Affine.IsInt (BitVec.ofNat 32 (i 0).val) (((i 0).val : Int)) := Affine.ofNat _ (by omega)
  have h8 : Affine.IsInt 8#32 (8) := Affine.ofNat _ (by omega)
  have h7 : Affine.IsInt _ (8 * ((i 0).val : Int)) := Affine.muli ha h8 (by omega)
  have h9 : Affine.IsInt _ (8 * ((i 0).val : Int) + (t.val : Int)) := Affine.addi h7 h6 (by omega)
  have h64 : Affine.IsInt 64#32 (64) := Affine.ofNat _ (by omega)
  have h10 : Affine.IsInt _ (512 * ((i 0).val : Int) + 64 * (t.val : Int)) := Affine.muli h9 h64 (by omega)
  have hn : Affine.IsInt (BitVec.ofNat 32 r) (r : Int) := Affine.ofNat _ (by omega)
  have h11 : Affine.IsInt _ (512 * ((i 0).val : Int) + 64 * (t.val : Int) + r) := Affine.addi h10 hn (by omega)
  exact Affine.indexCast h11

theorem inbW (r : ℕ) (hr : r < 64) (i : grid0.Coords) (t : Fin k0_t1_loop.trips) :
    ∀ a, offW r i t a + S1.size a ≤ S27648.size a := by
  have r_i0 : (i 0).val < 54 := (i 0).isLt
  have r_t : t.val < 8 := Nat.lt_of_lt_of_le t.isLt k0_t1_abs.2.1
  exact Affine.inb_cons (offW_int r hr i t) (by omega) <| Affine.inb_nil

variable (c : Dev nD) (W : Fin 64 → BitVec 32) (hW : ∀ t, k0_chk1 (W t))
variable (f8 : Buf (Elt F) (g8M.view.loc (c : Thread nD τ))) (f4 : Buf (Elt F) (g4M.view.loc (c : Thread nD τ)))
variable (fs : Buf (Elt F) (gsM.view.loc (c : Thread nD τ)))
variable (F8 : Buf (Elt F) (w8M.view.loc (c : Thread nD τ))) (F4 : Buf (Elt F) (w4M.view.loc (c : Thread nD τ)))
variable (Fs : Buf (Elt F) (wsM.view.loc (c : Thread nD τ)))

/-- `a` copies started on the shared semaphore, `b` on the scales' one; `R` is what the rest of the kernel holds. -/
def St (R : sProp 𝕄) (a b : ℕ) : sProp 𝕄 :=
  iprop(R ∗ (MixedBatch EC (c : Thread nD τ) (.dma cc0_scratch5.sem) () (Amt W) (post c W hW f8 f4 F8 F4) a 0
      ∗ bigSep (pending a) (pre c f8 f4 F8 F4))
    ∗ (MixedBatch EC (c : Thread nD τ) (.dma cc0_scratch6.sem) () (fun _ => crs) (postS c W hW fs Fs) b 0
      ∗ bigSep (pending b) (preS c fs Fs))
    ∗ (∃ V, owes (c : Thread nD τ) 0 V))

variable {c W hW f8 f4 fs F8 F4 Fs}
variable {α : Type}

theorem st_assume {Q : α → sProp 𝕄} {P : Prop} {d : Decidable P} {X : sProp 𝕄} {k : PLift P → Prog (TpuEff nD τ sig (Elt F) Λ₀ .tc) α} (hP : P)
    (h : X ⊢ wpc c (k ⟨hP⟩) Q) : X ⊢ wpc c (Prog.lift (.assume P d) >>= k) Q :=
  h.trans (wp_assume Variants.none (c : Thread nD τ) none Set.univ hP)

/-- A buffer held at a share splits into what one copy reads of it and the rest. -/
theorem lend {sp : Space} {s : Shape} {e : EltTy} (b : Memref sig .tc sp s e) (r : Rect s) (q : PosShare TreeShare)
    (f : Buf (Elt F) (b.view.loc (c : Thread nD τ))) :
    ((b.view.loc (c : Thread nD τ) ↦[Finset.univ]{q} f) : sProp 𝕄)
      ⊣⊢ iprop(((b.view.slice r).loc (c : Thread nD τ) ↦[(b.view.slice r).set]{q} f)
          ∗ (b.view.loc (c : Thread nD τ) ↦[Finset.univ \ (b.view.slice r).set]{q} f)) :=
  pointsTo_split_subset (ℓ := b.view.loc (c : Thread nD τ)) (Finset.subset_univ (b.view.slice r).set)

/-- An 8-bit row's copy. -/
theorem st_if8 {R : sProp 𝕄} {Q : α → sProp 𝕄} (r : ℕ) (hr : r < 64) {inst : Decidable (k0_cond2 (W ⟨r, hr⟩) = 1#1)}
    {K : Prog (TpuEff nD τ sig (Elt F) Λ₀ .tc) α}
    (h : St c W hW f8 f4 fs F8 F4 Fs R (if k0_cond2 (W ⟨r, hr⟩) = 1#1 then r + 1 else r) r ⊢ wpc c K Q) :
    St c W hW f8 f4 fs F8 F4 Fs R r r ⊢ wpc c (@dite _ (k0_cond2 (W ⟨r, hr⟩) = 1#1) inst
      (fun hc => Prog.lift (.enqueueDma (src8 (W ⟨r, hr⟩) ((hW ⟨r, hr⟩).1 hc)) (.here (row8 ⟨r, hr⟩)) (.dma cc0_scratch5.sem)
        (View.wordExact_bits rfl) (View.wordExact_bits rfl) ⟨Or.inl rfl, trivial⟩) >>= fun _ => K) (fun _ => K)) Q := by
  by_cases hc : k0_cond2 (W ⟨r, hr⟩) = 1#1
  · rw [dif_pos hc]
    rw [if_pos hc] at h
    unfold St at h ⊢
    iintro ⟨HR, HB, HS⟩
    iapply (issue (c := c) (src := src8 (W ⟨r, hr⟩) ((hW ⟨r, hr⟩).1 hc)) (dst := row8 ⟨r, hr⟩) (sm := .dma cc0_scratch5.sem)
      (q := tk ⟨r, hr⟩) (fs := F8) (Sd := (row8 ⟨r, hr⟩).view.set) (fd := f8)
      (put := iprop((w8M.view.loc (c : Thread nD τ) ↦[Finset.univ \ (src8 (W ⟨r, hr⟩) ((hW ⟨r, hr⟩).1 hc)).view.set]{tk ⟨r, hr⟩} F8)
         ∗ ((row4 ⟨r, hr⟩).view.loc (c : Thread nD τ) ↦[(row4 ⟨r, hr⟩).view.set]{fullShare} f4)
         ∗ (w4M.view.loc (c : Thread nD τ) ↦[Finset.univ]{tk ⟨r, hr⟩} F4)))
      (A := Amt W) (D := post c W hW f8 f4 F8 F4) (pre := pre c f8 f4 F8 F4) hr (Finset.Subset.refl _) ?_ ?_ ?_) $$ HB
    · rw [amt8, Amt, if_pos hc]
    · unfold pre
      iintro ⟨H8, H4, HF8, HF4⟩
      ihave HF' := (lend w8M (Rect.unit (k0_off2 (W ⟨r, hr⟩)) _ ((hW ⟨r, hr⟩).1 hc)) (tk ⟨r, hr⟩) F8).1 $$ HF8
      icases HF' with ⟨Ha, Hb⟩
      isplitl [Ha H8]
      · isplitl [Ha]
        · iexact Ha
        · iexact H8
      · isplitl [Hb]
        · iexact Hb
        isplitl [H4]
        · iexact H4
        · iexact HF4
    · unfold post got8 got4
      rw [dif_pos hc, dif_neg (fun h3 => (cond3_iff _).1 h3 hc)]
      iintro ⟨⟨Hb, H4, HF4⟩, H8, Ha⟩
      ihave HF8 := (lend w8M (Rect.unit (k0_off2 (W ⟨r, hr⟩)) _ ((hW ⟨r, hr⟩).1 hc)) (tk ⟨r, hr⟩) F8).2 $$ [Ha Hb]
      · isplitl [Ha]
        · iexact Ha
        · iexact Hb
      isplitl [H8]; · iexact H8
      isplitl [H4]; · iexact H4
      isplitl [HF8]; · iexact HF8
      iexact HF4
    · iintro HB
      iapply h
      isplitl [HR]; · iexact HR
      isplitl [HB]; · iexact HB
      iexact HS
  · rw [dif_neg hc]
    rw [if_neg hc] at h
    exact h

/-- A 4-bit row's copy. -/
theorem st_if4 {R : sProp 𝕄} {Q : α → sProp 𝕄} (r : ℕ) (hr : r < 64) {inst : Decidable (k0_cond3 (W ⟨r, hr⟩) = 1#1)}
    {K : Prog (TpuEff nD τ sig (Elt F) Λ₀ .tc) α}
    (h : St c W hW f8 f4 fs F8 F4 Fs R (r + 1) r ⊢ wpc c K Q) :
    St c W hW f8 f4 fs F8 F4 Fs R (if k0_cond2 (W ⟨r, hr⟩) = 1#1 then r + 1 else r) r ⊢ wpc c (@dite _ (k0_cond3 (W ⟨r, hr⟩) = 1#1) inst
      (fun hc => Prog.lift (.enqueueDma (src4 (W ⟨r, hr⟩) ((hW ⟨r, hr⟩).2.1 hc)) (.here (row4 ⟨r, hr⟩)) (.dma cc0_scratch5.sem)
        (View.wordExact_bits rfl) (View.wordExact_bits rfl) ⟨Or.inl rfl, trivial⟩) >>= fun _ => K) (fun _ => K)) Q := by
  by_cases hc : k0_cond3 (W ⟨r, hr⟩) = 1#1
  · rw [dif_pos hc]
    rw [if_neg ((cond3_iff _).1 hc)]
    unfold St at h ⊢
    iintro ⟨HR, HB, HS⟩
    iapply (issue (c := c) (src := src4 (W ⟨r, hr⟩) ((hW ⟨r, hr⟩).2.1 hc)) (dst := row4 ⟨r, hr⟩) (sm := .dma cc0_scratch5.sem)
      (q := tk ⟨r, hr⟩) (fs := F4) (Sd := (row4 ⟨r, hr⟩).view.set) (fd := f4)
      (put := iprop((w4M.view.loc (c : Thread nD τ) ↦[Finset.univ \ (src4 (W ⟨r, hr⟩) ((hW ⟨r, hr⟩).2.1 hc)).view.set]{tk ⟨r, hr⟩} F4)
         ∗ ((row8 ⟨r, hr⟩).view.loc (c : Thread nD τ) ↦[(row8 ⟨r, hr⟩).view.set]{fullShare} f8)
         ∗ (w8M.view.loc (c : Thread nD τ) ↦[Finset.univ]{tk ⟨r, hr⟩} F8)))
      (A := Amt W) (D := post c W hW f8 f4 F8 F4) (pre := pre c f8 f4 F8 F4) hr (Finset.Subset.refl _) ?_ ?_ ?_) $$ HB
    · rw [amt4, Amt, if_neg ((cond3_iff _).1 hc)]
    · unfold pre
      iintro ⟨H8, H4, HF8, HF4⟩
      ihave HF' := (lend w4M (Rect.unit (k0_off3 (W ⟨r, hr⟩)) _ ((hW ⟨r, hr⟩).2.1 hc)) (tk ⟨r, hr⟩) F4).1 $$ HF4
      icases HF' with ⟨Ha, Hb⟩
      isplitl [Ha H4]
      · isplitl [Ha]
        · iexact Ha
        · iexact H4
      · isplitl [Hb]
        · iexact Hb
        isplitl [H8]
        · iexact H8
        · iexact HF8
    · unfold post got8 got4
      rw [dif_pos hc, dif_neg ((cond3_iff _).1 hc)]
      iintro ⟨⟨Hb, H8, HF8⟩, H4, Ha⟩
      ihave HF4 := (lend w4M (Rect.unit (k0_off3 (W ⟨r, hr⟩)) _ ((hW ⟨r, hr⟩).2.1 hc)) (tk ⟨r, hr⟩) F4).2 $$ [Ha Hb]
      · isplitl [Ha]
        · iexact Ha
        · iexact Hb
      isplitl [H8]; · iexact H8
      isplitl [H4]; · iexact H4
      isplitl [HF8]; · iexact HF8
      iexact HF4
    · iintro HB
      iapply h
      isplitl [HR]; · iexact HR
      isplitl [HB]; · iexact HB
      iexact HS
  · rw [dif_neg hc]
    rw [if_pos (by by_contra hn; exact hc ((cond3_iff _).2 hn))]
    exact h

/-- A scale row's copy. -/
theorem st_scale {R : sProp 𝕄} {Q : α → sProp 𝕄} (r : ℕ) (hr : r < 64)
    {k : PUnit → Prog (TpuEff nD τ sig (Elt F) Λ₀ .tc) α}
    (h : St c W hW f8 f4 fs F8 F4 Fs R (r + 1) (r + 1) ⊢ wpc c (k ⟨⟩) Q) :
    St c W hW f8 f4 fs F8 F4 Fs R (r + 1) r ⊢ wpc c
      (Prog.lift (.enqueueDma (srcs (W ⟨r, hr⟩) (hW ⟨r, hr⟩).2.2) (.here (rows ⟨r, hr⟩)) (.dma cc0_scratch6.sem)
        (View.wordExact_bits rfl) (View.wordExact_bits rfl) ⟨Or.inl rfl, trivial⟩) >>= k) Q := by
  unfold St at h ⊢
  iintro ⟨HR, HB, HS, HO⟩
  iapply (issue (c := c) (src := srcs (W ⟨r, hr⟩) (hW ⟨r, hr⟩).2.2) (dst := rows ⟨r, hr⟩) (sm := .dma cc0_scratch6.sem)
    (K := k ⟨⟩)
    (q := tk ⟨r, hr⟩) (fs := Fs) (Sd := (rows ⟨r, hr⟩).view.set) (fd := fs)
    (put := iprop(wsM.view.loc (c : Thread nD τ) ↦[Finset.univ \ (srcs (W ⟨r, hr⟩) (hW ⟨r, hr⟩).2.2).view.set]{tk ⟨r, hr⟩} Fs))
    (A := fun _ => crs) (D := postS c W hW fs Fs) (pre := preS c fs Fs) hr (Finset.Subset.refl _) ?_ ?_ ?_) $$ HS
  · exact amts _
  · unfold preS
    iintro ⟨H8, HF8⟩
    ihave HF' := (lend wsM (Rect.unit (k0_off4 (W ⟨r, hr⟩)) _ (hW ⟨r, hr⟩).2.2) (tk ⟨r, hr⟩) Fs).1 $$ HF8
    icases HF' with ⟨Ha, Hb⟩
    isplitl [Ha H8]
    · isplitl [Ha]
      · iexact Ha
      · iexact H8
    · iexact Hb
  · unfold postS gots
    iintro ⟨Hb, H8, Ha⟩
    ihave HF8 := (lend wsM (Rect.unit (k0_off4 (W ⟨r, hr⟩)) _ (hW ⟨r, hr⟩).2.2) (tk ⟨r, hr⟩) Fs).2 $$ [Ha Hb]
    · isplitl [Ha]
      · iexact Ha
      · iexact Hb
    isplitl [H8]; · iexact H8
    iexact HF8
  · iintro HS
    iapply h
    isplitl [HR]; · iexact HR
    isplitl [HB]; · iexact HB
    isplitl [HS]; · iexact HS
    iexact HO

end Cert.Kernel.Hand

end
-- ==== Proof.K.Waits.lean ====
/-
  The word loads and the waits of one chunk's gather. The shared semaphore is waited on for all 64 four-bit rows at once, and
  then, one bit of the count of 8-bit rows at a time, for the second half of each 8-bit row. The scales' semaphore is waited on
  row by row.
-/
module

public import proofs.«01_k».proof.Proof.K.Steps
public import Idealize.ShloMosaic.Lib.Exec.Context

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

variable {c : Dev nD} {W : Fin 64 → BitVec 32} {hW : ∀ t, k0_chk1 (W t)}
variable {f8 : Buf (Elt F) (g8M.view.loc (c : Thread nD τ))} {f4 : Buf (Elt F) (g4M.view.loc (c : Thread nD τ))}
variable {fs : Buf (Elt F) (gsM.view.loc (c : Thread nD τ))}
variable {F8 : Buf (Elt F) (w8M.view.loc (c : Thread nD τ))} {F4 : Buf (Elt F) (w4M.view.loc (c : Thread nD τ))}
variable {Fs : Buf (Elt F) (wsM.view.loc (c : Thread nD τ))}
variable {α : Type}

/-! ## The count of 8-bit rows -/

/-- The kernel's running count of 8-bit rows after `r` rows. -/
def nsum (W : Fin 64 → BitVec 32) : ℕ → BitVec 32
  | 0 => 0#32
  | r + 1 => if h : r < 64 then Scalar.addi (nsum W r) (Scalar.extui (Scalar.cmpi .slt (W ⟨r, h⟩) 5504#32)) else 0#32

/-- The same count in the naturals. -/
def cnt (W : Fin 64 → BitVec 32) : ℕ → ℕ := sumTo (fun t : Fin 64 => if k0_cond2 (W t) = 1#1 then 1 else 0)

theorem ext_cond (w : BitVec 32) :
    (Scalar.extui (Scalar.cmpi .slt w 5504#32) : BitVec 32).toNat = if k0_cond2 w = 1#1 then 1 else 0 := by
  unfold k0_cond2
  cases h : w.slt 5504#32 <;> simp [Scalar.cmpi, Scalar.extui, IntOp.cmpi, h]

theorem cnt_le (W : Fin 64 → BitVec 32) : ∀ r, r ≤ 64 → cnt W r ≤ r
  | 0, _ => le_rfl
  | r + 1, h => by
    have := cnt_le W r (by omega)
    unfold cnt at this ⊢
    rw [sumTo_succ _ (show r < 64 by omega)]
    split <;> omega

theorem nsum_toNat (W : Fin 64 → BitVec 32) : ∀ r, r ≤ 64 → (nsum W r).toNat = cnt W r
  | 0, _ => rfl
  | r + 1, h => by
    have h1 := nsum_toNat W r (by omega)
    have h2 := cnt_le W r (by omega)
    have hr : r < 64 := by omega
    unfold cnt at h1 h2 ⊢
    rw [sumTo_succ _ hr, ← h1, nsum, dif_pos hr, ← ext_cond]
    have h3 : (Scalar.extui (Scalar.cmpi .slt (W ⟨r, hr⟩) 5504#32) : BitVec 32).toNat ≤ 1 := by
      rw [ext_cond]; split <;> omega
    show (nsum W r + Scalar.extui (Scalar.cmpi .slt (W ⟨r, hr⟩) 5504#32)).toNat = _
    rw [BitVec.toNat_add, Nat.mod_eq_of_lt]
    omega

theorem sum_Amt (W : Fin 64 → BitVec 32) : ∀ r, r ≤ 64 → sumTo (Amt W) r = r * cr + cnt W r * cr
  | 0, _ => by simp [sumTo, cnt]
  | r + 1, h => by
    have hr : r < 64 := by omega
    have ih := sum_Amt W r (by omega)
    unfold cnt at ih ⊢
    rw [sumTo_succ _ hr, sumTo_succ _ hr, ih, Amt]
    split
    · rw [Nat.add_mul, Nat.add_mul]; omega
    · rw [Nat.add_mul, Nat.add_mul]; omega

/-- What the waits have taken off the shared semaphore: nothing, then the 64 rows, then bit by bit. -/
def U (W : Fin 64 → BitVec 32) : ℕ → ℕ
  | 0 => 0
  | b + 1 => 64 * cr + (cnt W 64 % 2 ^ b) * cr

theorem U_end (W : Fin 64 → BitVec 32) : U W 8 = sumTo (Amt W) 64 := by
  rw [sum_Amt W 64 le_rfl, U, Nat.mod_eq_of_lt (by have := cnt_le W 64 le_rfl; omega)]

theorem U_le (W : Fin 64 → BitVec 32) (b : ℕ) : U W b ≤ sumTo (Amt W) 64 := by
  rw [sum_Amt W 64 le_rfl]
  cases b with
  | zero => exact Nat.zero_le _
  | succ b => exact Nat.add_le_add_left (Nat.mul_le_mul_right _ (Nat.mod_le _ _)) _

/-- The test of bit `b` of the count. -/
theorem bit_test (W : Fin 64 → BitVec 32) (b : ℕ) (hb : b < 7) :
    Scalar.cmpi .ne (Scalar.extui (Scalar.cmpi .ne (Scalar.andi (nsum W 64) (BitVec.ofNat 32 (2 ^ b))) 0#32)) 0#32 = 1#1
      ↔ (cnt W 64).testBit b = true := by
  rw [← nsum_toNat W 64 le_rfl]
  generalize nsum W 64 = n
  have h1 : (n &&& BitVec.ofNat 32 (2 ^ b) ≠ 0#32) ↔ n.toNat.testBit b = true := by
    have hp : BitVec.ofNat 32 (2 ^ b) = BitVec.twoPow 32 b := by
      have h : ∀ b : Fin 7, BitVec.ofNat 32 (2 ^ b.val) = BitVec.twoPow 32 b.val := by decide
      exact h ⟨b, hb⟩
    have hz : BitVec.twoPow 32 b ≠ 0#32 := by
      have h : ∀ b : Fin 7, BitVec.twoPow 32 b.val ≠ 0#32 := by decide
      exact h ⟨b, hb⟩
    rw [hp, BitVec.and_twoPow, BitVec.testBit_toNat]
    cases n.getLsbD b <;> simp [hz]
  rw [← h1]
  simp only [Scalar.cmpi, Scalar.extui, Scalar.andi, IntOp.cmpi, IntOp.andi]
  by_cases h : n &&& BitVec.ofNat 32 (2 ^ b) = 0#32
  · simp [h]
  · rw [show (n &&& BitVec.ofNat 32 (2 ^ b) != 0#32) = true by simp [bne, h]]
    simp [h]

theorem U_succ (W : Fin 64 → BitVec 32) (b : ℕ) :
    U W (b + 2) = U W (b + 1) + if (cnt W 64).testBit b = true then 2 ^ b * cr else 0 := by
  show 64 * cr + (cnt W 64 % 2 ^ (b + 1)) * cr = 64 * cr + (cnt W 64 % 2 ^ b) * cr + _
  rw [Nat.mod_pow_succ, Nat.add_mul, ← Nat.add_assoc, Nat.testBit_eq_decide_div_mod_eq]
  have h2 : cnt W 64 / 2 ^ b % 2 < 2 := Nat.mod_lt _ (by omega)
  by_cases h : cnt W 64 / 2 ^ b % 2 = 1
  · simp [h]
  · have h0 : cnt W 64 / 2 ^ b % 2 = 0 := by omega
    simp [h0]

/-! ## The loads and the waits -/

/-- Word `r` of the chunk, as the kernel reads it. -/
def wordAt (arg1 : Memref sig .tc .smem S27648 .i32) (f1 : Buf (Elt F) (arg1.view.loc (c : Thread nD τ))) (i : grid0.Coords)
    (t : Fin k0_t1_loop.trips) (r : Fin 64) : BitVec 32 :=
  (arg1.access (Rect.unit (s := S27648) (offW r.val i t) S1.size (inbW r.val r.isLt i t))).read (Elt F) f1
    (Shape.Idx.first (numel1_S1.symm ▸ Nat.one_pos))

theorem st_load {arg1 : Memref sig .tc .smem S27648 .i32} {f1 : Buf (Elt F) (arg1.view.loc (c : Thread nD τ))} {q1 : PosShare TreeShare}
    {i : grid0.Coords} {t : Fin k0_t1_loop.trips} {R : sProp 𝕄} {Q : α → sProp 𝕄} (r : ℕ) (hr : r < 64)
    (hw : W ⟨r, hr⟩ = wordAt (c := c) arg1 f1 i t ⟨r, hr⟩)
    {k : BitVec 32 → Prog (TpuEff nD τ sig (Elt F) Λ₀ .tc) α}
    (h : St c W hW f8 f4 fs F8 F4 Fs iprop((arg1.view.loc (c : Thread nD τ) ↦[arg1.view.set]{q1} f1) ∗ R) r r ⊢ wpc c (k (W ⟨r, hr⟩)) Q) :
    St c W hW f8 f4 fs F8 F4 Fs iprop((arg1.view.loc (c : Thread nD τ) ↦[arg1.view.set]{q1} f1) ∗ R) r r
      ⊢ wpc c (smemLoad arg1 (Rect.unit (s := S27648) (offW r i t) S1.size (inbW r hr i t)) numel1_S1 rfl >>= k) Q := by
  rw [hw] at h
  unfold St at h ⊢
  iintro ⟨⟨H1, HR⟩, HS⟩
  iapply (wp_smemLoadElt_named Variants.none (c : Thread nD τ) none Set.univ (hw := View.loads_smem_one rfl numel1_S1) (m := arg1) (S := arg1.view.set) (f := f1) (q := q1)
    (r := Rect.unit (s := S27648) (offW r i t) S1.size (inbW r hr i t)) (x := Shape.Idx.first (numel1_S1.symm ▸ Nat.one_pos))
    (k := fun x => Prog.ret x >>= k)
    (View.set_slice_subset arg1.view _)) $$ H1
  iintro H1 %w %hv
  rw [show w = wordAt (c := c) arg1 f1 i t ⟨r, hr⟩ from hv]
  iapply h
  isplitr [HS]
  · isplitl [H1]; · iexact H1
    iexact HR
  · iexact HS

variable (c W hW f8 f4 fs F8 F4 Fs) in
/-- The gather's waits: `p` of them are done on the shared semaphore, `r` on the scales' one. -/
def Wt (R : sProp 𝕄) (p r : ℕ) : sProp 𝕄 :=
  iprop(R ∗ MixedBatch EC (c : Thread nD τ) (.dma cc0_scratch5.sem) () (Amt W) (post c W hW f8 f4 F8 F4) 64 (U W p)
    ∗ MixedBatch EC (c : Thread nD τ) (.dma cc0_scratch6.sem) () (fun _ => crs) (postS c W hW fs Fs) 64 (r * crs)
    ∗ (∃ V, owes (c : Thread nD τ) 0 V))

theorem st_done {R : sProp 𝕄} {P : sProp 𝕄} (h : Wt c W hW f8 f4 fs F8 F4 Fs R 0 0 ⊢ P) : St c W hW f8 f4 fs F8 F4 Fs R 64 64 ⊢ P := by
  refine BIBase.Entails.trans ?_ h
  unfold St Wt
  iintro ⟨HR, ⟨HB, -⟩, ⟨HS, -⟩, HO⟩
  isplitl [HR]; · iexact HR
  isplitl [HB]; · iexact HB
  isplitl [HS]; · rw [Nat.zero_mul]; iexact HS
  iexact HO

theorem st_wait4 {R : sProp 𝕄} {Q : α → sProp 𝕄} {r : ℕ} {s s' : Shape} {e : EltTy} {srcw : Memref sig .tc .vmem s' e}
    {dstw : Memref sig .tc .vmem s e} {hsrc : srcw.view.WordExact} {hdst : dstw.view.WordExact}
    (hJ : dstw.view.dmaCredit = 64 * cr) {k : PUnit → Prog (TpuEff nD τ sig (Elt F) Λ₀ .tc) α}
    (h : Wt c W hW f8 f4 fs F8 F4 Fs R 1 r ⊢ wpc c (k ⟨⟩) Q) :
    Wt c W hW f8 f4 fs F8 F4 Fs R 0 r ⊢ wpc c (Prog.lift (.waitDma2 cc0_scratch5.sem srcw dstw hsrc hdst) >>= k) Q := by
  unfold Wt at h ⊢
  iintro ⟨HR, HB, HS, ⟨%V, HO⟩⟩
  iapply (wp_waitMixedBatch EC Variants.none (c : Thread nD τ) none () hJ (A := Amt W) (u := U W 0) (j := 64) ?_) $$ [HB HO]
  · show 0 + 64 * cr ≤ _
    rw [sum_Amt W 64 le_rfl]; omega
  · isplitl [HB]; · iexact HB
    iexact HO
  iintro ⟨HB, HO⟩
  iapply h
  isplitl [HR]; · iexact HR
  isplitl [HB]
  · rw [show U W 1 = U W 0 + 64 * cr by simp [U, Nat.mod_one]]; iexact HB
  isplitl [HS]; · iexact HS
  iexists _; iexact HO

theorem st_waits {R : sProp 𝕄} {Q : α → sProp 𝕄} {p : ℕ} (r : ℕ) (hr : r < 64) {s s' : Shape} {e e' : EltTy} {srcw : Memref sig .tc .hbm s' e'}
    {dstw : Memref sig .tc .vmem s e} {hsrc : srcw.view.WordExact} {hdst : dstw.view.WordExact}
    (hJ : dstw.view.dmaCredit = crs) {k : PUnit → Prog (TpuEff nD τ sig (Elt F) Λ₀ .tc) α}
    (h : Wt c W hW f8 f4 fs F8 F4 Fs R p (r + 1) ⊢ wpc c (k ⟨⟩) Q) :
    Wt c W hW f8 f4 fs F8 F4 Fs R p r ⊢ wpc c (Prog.lift (.waitDma2 cc0_scratch6.sem srcw dstw hsrc hdst) >>= k) Q := by
  unfold Wt at h ⊢
  iintro ⟨HR, HB, HS, ⟨%V, HO⟩⟩
  iapply (wp_waitMixedBatch EC Variants.none (c : Thread nD τ) none () hJ (A := fun _ => crs) (u := r * crs) (j := 64) ?_) $$ [HS HO]
  · rw [sumTo_const crs le_rfl, ← Nat.succ_mul]; exact Nat.mul_le_mul_right _ hr
  · isplitl [HS]; · iexact HS
    iexact HO
  iintro ⟨HS, HO⟩
  iapply h
  isplitl [HR]; · iexact HR
  isplitl [HB]; · iexact HB
  isplitl [HS]
  · rw [Nat.succ_mul]; iexact HS
  iexists _; iexact HO

theorem st_bit {R : sProp 𝕄} {Q : α → sProp 𝕄} {r : ℕ} (b : ℕ) (hb : b < 7) {N M : BitVec 32} (hN : N = nsum W 64) (hM : M = BitVec.ofNat 32 (2 ^ b))
    {s s' : Shape} {e e' : EltTy} {srcw : Memref sig .tc .vmem s' e'}
    {dstw : Memref sig .tc .vmem s e} {hsrc : srcw.view.WordExact} {hdst : dstw.view.WordExact}
    (hJ : dstw.view.dmaCredit = 2 ^ b * cr)
    {inst : Decidable (Scalar.cmpi .ne (Scalar.extui (Scalar.cmpi .ne (Scalar.andi N M) 0#32)) 0#32 = 1#1)}
    {K : Prog (TpuEff nD τ sig (Elt F) Λ₀ .tc) α}
    (h : Wt c W hW f8 f4 fs F8 F4 Fs R (b + 2) r ⊢ wpc c K Q) :
    Wt c W hW f8 f4 fs F8 F4 Fs R (b + 1) r ⊢ wpc c
      (@ite _ (Scalar.cmpi .ne (Scalar.extui (Scalar.cmpi .ne (Scalar.andi N M) 0#32)) 0#32 = 1#1) inst
        (Prog.lift (.waitDma2 cc0_scratch5.sem srcw dstw hsrc hdst) >>= fun _ => K) K) Q := by
  subst hN hM
  have hU := U_succ W b
  by_cases hc : (cnt W 64).testBit b = true
  · rw [if_pos ((bit_test W b hb).2 hc)]
    rw [if_pos hc] at hU
    unfold Wt at h ⊢
    rw [hU] at h
    iintro ⟨HR, HB, HS, ⟨%V, HO⟩⟩
    iapply (wp_waitMixedBatch EC Variants.none (c : Thread nD τ) none () hJ (A := Amt W) (u := U W (b + 1)) (j := 64) ?_) $$ [HB HO]
    · rw [← hU]; exact U_le W _
    · isplitl [HB]; · iexact HB
      iexact HO
    iintro ⟨HB, HO⟩
    iapply h
    isplitl [HR]; · iexact HR
    isplitl [HB]; · iexact HB
    isplitl [HS]; · iexact HS
    iexists _; iexact HO
  · rw [if_neg (fun h => hc ((bit_test W b hb).1 h))]
    rw [if_neg hc] at hU
    unfold Wt at h ⊢
    rw [hU, Nat.add_zero] at h
    exact h

end Cert.Kernel.Hand

end
-- ==== Proof.K.Walk.lean ====
/-
  One chunk's gather, from the first load to the last wait: the printed parts in order, each walked by the step rules.
-/
module

public import proofs.«01_k».proof.Proof.K.Waits
public import Idealize.ShloMosaic.Lib.Exec.Context

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

variable {c : Dev nD} {W : Fin 64 → BitVec 32} {hW : ∀ t, k0_chk1 (W t)}
variable {f8 : Buf (Elt F) (g8M.view.loc (c : Thread nD τ))} {f4 : Buf (Elt F) (g4M.view.loc (c : Thread nD τ))}
variable {fs : Buf (Elt F) (gsM.view.loc (c : Thread nD τ))}
variable {F8 : Buf (Elt F) (w8M.view.loc (c : Thread nD τ))} {F4 : Buf (Elt F) (w4M.view.loc (c : Thread nD τ))}
variable {Fs : Buf (Elt F) (wsM.view.loc (c : Thread nD τ))}
variable {α : Type}

/-- What a chunk's body carries on from the gather: the chunk's number, and the lane masks its row numbers give. -/
def chunkMeta (i : grid0.Coords) (t : Fin k0_t1_loop.trips) (v : Vec F S1x128 .i32) :
    Σ' (v6 : BitVec 32) (v1210 : IVec S64x128 32) (v1216 : IVec S64x128 32), BitVec 32 :=
  let v6 : BitVec 32 := Scalar.addi 0#32 (Scalar.muli (Scf.iv 0#32 1#32 t) 1#32)
  ⟨v6, k0_pay16 (k0_pay13 v6) (k0_pay14 v) k0_pay15, k0_pay17 (k0_pay13 v6) (k0_pay14 v) k0_pay15, 5504#32⟩

/-! ## The ends of a part -/

theorem st_bind {β : Type} {X : sProp 𝕄} {Q : β → sProp 𝕄} {p : Prog (TpuEff nD τ sig (Elt F) Λ₀ .tc) α}
    {k : α → Prog (TpuEff nD τ sig (Elt F) Λ₀ .tc) β} (h : ∀ Q' : α → sProp 𝕄, Q' = (fun a => wpc c (k a) Q) → X ⊢ wpc c p Q') : X ⊢ wpc c (p >>= k) Q := by
  have h := h _ rfl
  unfold wpc at h ⊢
  rw [wp_bind]; exact h

theorem st_pure {X : sProp 𝕄} {Q : α → sProp 𝕄} {a : α} (h : X ⊢ Q a) : X ⊢ wpc c (pure a) Q := by
  unfold wpc
  rw [wp_pure]; exact h.trans fupd_intro

/-- A load, in vector form, of a buffer the rest of the kernel holds. -/
theorem st_vload {sp : CoreSpace} {s : Shape} {e : EltTy} {m : Memref sig .tc sp s e} {f : Buf (Elt F) (m.view.loc (c : Thread nD τ))} {q : PosShare TreeShare}
    {R1 R : sProp 𝕄} {Q : α → sProp 𝕄} {p r : ℕ} {rc : Rect s} {hl : m.view.LoadsAt rc.toLoadRect}
    {k : (rc.shape.Idx → Elt F e) → Prog (TpuEff nD τ sig (Elt F) Λ₀ .tc) α}
    (h : Wt c W hW f8 f4 fs F8 F4 Fs iprop(R1 ∗ (m.view.loc (c : Thread nD τ) ↦[m.view.set]{q} f) ∗ R) p r
      ⊢ wpc c (k ((m.access rc).read (Elt F) f)) Q) :
    Wt c W hW f8 f4 fs F8 F4 Fs iprop(R1 ∗ (m.view.loc (c : Thread nD τ) ↦[m.view.set]{q} f) ∗ R) p r
      ⊢ wpc c (Prog.lift (.load m rc.toLoadRect hl) >>= k) Q := by
  unfold Wt at h ⊢
  iintro ⟨⟨H0, H1, HR⟩, HS⟩
  iapply (wp_load_rect Variants.none (c : Thread nD τ) none Set.univ (m := m) (r := rc) (S := m.view.set) (f := f) (q := q)
    (View.set_slice_subset m.view _)) $$ H1
  iintro H1
  iapply h
  isplitr [HS]
  · isplitl [H0]; · iexact H0
    isplitl [H1]; · iexact H1
    iexact HR
  · iexact HS

set_option maxHeartbeats 0 in
variable (c W hW f8 f4 fs F8 F4 Fs) in
/-- The whole gather of a chunk. -/
theorem gather_walk (i : grid0.Coords) (arg1 : Memref sig .tc .smem S27648 .i32) (harg1 : arg1.IsWhole) (arg2 : Memref sig .tc .vmem S216x128 .i32) (harg2 : arg2.IsWhole) (arg3 : Memref sig .tc .vmem S216x128 .f32) (harg3 : arg3.IsWhole) (arg4 : Memref sig .tc .vmem S3072x128 .f32) (harg4 : arg4.IsWhole) (arg5 : Memref sig .tc .hbm S3072x5120 .bf16) (harg5 : arg5.IsWhole) (harg6 : (w4M : Memref sig .tc _ _ _).IsWhole) (harg7 : (w8M : Memref sig .tc _ _ _).IsWhole) (harg8 : (wsM : Memref sig .tc _ _ _).IsWhole) (arg9 : Memref sig .tc .vmem S3072x512 .bf16) (harg9 : arg9.IsWhole) (arg10 : Memref sig .tc .vmem S3072x5120 .bf16) (harg10 : arg10.IsWhole) (arg11 : Memref sig .tc .vmem S512x5120 .bf16) (harg11 : arg11.IsWhole) (harg12 : (g4M : Memref sig .tc _ _ _).IsWhole) (harg13 : (g8M : Memref sig .tc _ _ _).IsWhole) (harg14 : (gsM : Memref sig .tc _ _ _).IsWhole) (k0_t1 : Fin k0_t1_loop.trips) (arg17 : DmaSems sig S_)
    (f1 : Buf (Elt F) (arg1.view.loc (c : Thread nD τ))) (q1 : PosShare TreeShare)
    (f2 : Buf (Elt F) (arg2.view.loc (c : Thread nD τ))) (q2 : PosShare TreeShare)
    (hw : ∀ r, W r = wordAt (c := c) arg1 f1 i k0_t1 r) {R : sProp 𝕄}
    {Q : (Σ' (v6 : BitVec 32) (v1210 : IVec S64x128 32) (v1216 : IVec S64x128 32), BitVec 32) → sProp 𝕄}
    (h : Wt c W hW f8 f4 fs F8 F4 Fs iprop((arg1.view.loc (c : Thread nD τ) ↦[arg1.view.set]{q1} f1) ∗ (arg2.view.loc (c : Thread nD τ) ↦[arg2.view.set]{q2} f2) ∗ R) 8 64
      ⊢ Q (chunkMeta i k0_t1 ((arg2.access (Rect.unit (s := S216x128) (k0_off257 i k0_t1) S1x128.size (k0_off257_inb i k0_t1))).read (Elt F) f2))) :
    St c W hW f8 f4 fs F8 F4 Fs iprop((arg1.view.loc (c : Thread nD τ) ↦[arg1.view.set]{q1} f1) ∗ (arg2.view.loc (c : Thread nD τ) ↦[arg2.view.set]{q2} f2) ∗ R) 0 0
      ⊢ wpc c (k0_part45 i arg1 harg1 arg2 harg2 arg3 harg3 arg4 harg4 arg5 harg5 w4M harg6 w8M harg7 wsM harg8 arg9 harg9 arg10 harg10 arg11 harg11 g4M harg12 g8M harg13 gsM harg14 cc0_scratch5 cc0_scratch6 arg17 (BitVec.ofNat 32 (i 0).val) 0#32 1#32 k0_t1) Q := by
  rw [k0_part45_eq_skeleton]
  unfold k0_part45_skel
  refine st_bind fun Q3 hQ3 => ?_
  rw [k0_part3_eq_skeleton]; unfold k0_part3_skel
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_pure ?_
  subst hQ3
  refine st_bind fun Q4 hQ4 => ?_
  rw [k0_part4_eq_skeleton]; unfold k0_part4_skel
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_pure ?_
  subst hQ4
  refine st_bind fun Q5 hQ5 => ?_
  rw [k0_part5_eq_skeleton]; unfold k0_part5_skel
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_pure ?_
  subst hQ5
  refine st_bind fun Q6 hQ6 => ?_
  rw [k0_part6_eq_skeleton]; unfold k0_part6_skel
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_pure ?_
  subst hQ6
  refine st_bind fun Q7 hQ7 => ?_
  rw [k0_part7_eq_skeleton]; unfold k0_part7_skel
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_pure ?_
  subst hQ7
  refine st_bind fun Q8 hQ8 => ?_
  rw [k0_part8_eq_skeleton]; unfold k0_part8_skel
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_pure ?_
  subst hQ8
  refine st_bind fun Q9 hQ9 => ?_
  rw [k0_part9_eq_skeleton]; unfold k0_part9_skel
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_pure ?_
  subst hQ9
  refine st_bind fun Q10 hQ10 => ?_
  rw [k0_part10_eq_skeleton]; unfold k0_part10_skel
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_pure ?_
  subst hQ10
  refine st_bind fun Q11 hQ11 => ?_
  rw [k0_part11_eq_skeleton]; unfold k0_part11_skel
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_pure ?_
  subst hQ11
  refine st_bind fun Q12 hQ12 => ?_
  rw [k0_part12_eq_skeleton]; unfold k0_part12_skel
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_pure ?_
  subst hQ12
  refine st_bind fun Q13 hQ13 => ?_
  rw [k0_part13_eq_skeleton]; unfold k0_part13_skel
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_pure ?_
  subst hQ13
  refine st_bind fun Q14 hQ14 => ?_
  rw [k0_part14_eq_skeleton]; unfold k0_part14_skel
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_pure ?_
  subst hQ14
  refine st_bind fun Q15 hQ15 => ?_
  rw [k0_part15_eq_skeleton]; unfold k0_part15_skel
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_pure ?_
  subst hQ15
  refine st_bind fun Q16 hQ16 => ?_
  rw [k0_part16_eq_skeleton]; unfold k0_part16_skel
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_pure ?_
  subst hQ16
  refine st_bind fun Q17 hQ17 => ?_
  rw [k0_part17_eq_skeleton]; unfold k0_part17_skel
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_pure ?_
  subst hQ17
  refine st_bind fun Q18 hQ18 => ?_
  rw [k0_part18_eq_skeleton]; unfold k0_part18_skel
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_pure ?_
  subst hQ18
  refine st_bind fun Q19 hQ19 => ?_
  rw [k0_part19_eq_skeleton]; unfold k0_part19_skel
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_pure ?_
  subst hQ19
  refine st_bind fun Q20 hQ20 => ?_
  rw [k0_part20_eq_skeleton]; unfold k0_part20_skel
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_pure ?_
  subst hQ20
  refine st_bind fun Q21 hQ21 => ?_
  rw [k0_part21_eq_skeleton]; unfold k0_part21_skel
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_pure ?_
  subst hQ21
  refine st_bind fun Q22 hQ22 => ?_
  rw [k0_part22_eq_skeleton]; unfold k0_part22_skel
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_pure ?_
  subst hQ22
  refine st_bind fun Q23 hQ23 => ?_
  rw [k0_part23_eq_skeleton]; unfold k0_part23_skel
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_pure ?_
  subst hQ23
  refine st_bind fun Q24 hQ24 => ?_
  rw [k0_part24_eq_skeleton]; unfold k0_part24_skel
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_pure ?_
  subst hQ24
  refine st_bind fun Q25 hQ25 => ?_
  rw [k0_part25_eq_skeleton]; unfold k0_part25_skel
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_pure ?_
  subst hQ25
  refine st_bind fun Q26 hQ26 => ?_
  rw [k0_part26_eq_skeleton]; unfold k0_part26_skel
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_pure ?_
  subst hQ26
  refine st_bind fun Q27 hQ27 => ?_
  rw [k0_part27_eq_skeleton]; unfold k0_part27_skel
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_pure ?_
  subst hQ27
  refine st_bind fun Q28 hQ28 => ?_
  rw [k0_part28_eq_skeleton]; unfold k0_part28_skel
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_pure ?_
  subst hQ28
  refine st_bind fun Q29 hQ29 => ?_
  rw [k0_part29_eq_skeleton]; unfold k0_part29_skel
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_pure ?_
  subst hQ29
  refine st_bind fun Q30 hQ30 => ?_
  rw [k0_part30_eq_skeleton]; unfold k0_part30_skel
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_pure ?_
  subst hQ30
  refine st_bind fun Q31 hQ31 => ?_
  rw [k0_part31_eq_skeleton]; unfold k0_part31_skel
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_pure ?_
  subst hQ31
  refine st_bind fun Q32 hQ32 => ?_
  rw [k0_part32_eq_skeleton]; unfold k0_part32_skel
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_pure ?_
  subst hQ32
  refine st_bind fun Q33 hQ33 => ?_
  rw [k0_part33_eq_skeleton]; unfold k0_part33_skel
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_pure ?_
  subst hQ33
  refine st_bind fun Q34 hQ34 => ?_
  rw [k0_part34_eq_skeleton]; unfold k0_part34_skel
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_pure ?_
  subst hQ34
  refine st_bind fun Q35 hQ35 => ?_
  rw [k0_part35_eq_skeleton]; unfold k0_part35_skel
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_pure ?_
  subst hQ35
  refine st_bind fun Q36 hQ36 => ?_
  rw [k0_part36_eq_skeleton]; unfold k0_part36_skel
  refine st_if8 _ (by decide) ?_
  refine st_if4 _ (by decide) ?_
  refine st_scale _ (by decide) ?_
  refine st_done ?_
  refine st_wait4 (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_pure ?_
  subst hQ36
  refine st_bind fun Q37 hQ37 => ?_
  rw [k0_part37_eq_skeleton]; unfold k0_part37_skel
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_pure ?_
  subst hQ37
  refine st_bind fun Q38 hQ38 => ?_
  rw [k0_part38_eq_skeleton]; unfold k0_part38_skel
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_pure ?_
  subst hQ38
  refine st_bind fun Q39 hQ39 => ?_
  rw [k0_part39_eq_skeleton]; unfold k0_part39_skel
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_pure ?_
  subst hQ39
  refine st_bind fun Q40 hQ40 => ?_
  rw [k0_part40_eq_skeleton]; unfold k0_part40_skel
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_pure ?_
  subst hQ40
  refine st_bind fun Q41 hQ41 => ?_
  rw [k0_part41_eq_skeleton]; unfold k0_part41_skel
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_pure ?_
  subst hQ41
  refine st_bind fun Q42 hQ42 => ?_
  rw [k0_part42_eq_skeleton]; unfold k0_part42_skel
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_pure ?_
  subst hQ42
  refine st_bind fun Q43 hQ43 => ?_
  rw [k0_part43_eq_skeleton]; unfold k0_part43_skel
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_bit 0 (by decide) (by rfl) (by rfl) (by rfl) ?_
  refine st_bit 1 (by decide) (by rfl) (by rfl) (by rfl) ?_
  refine st_pure ?_
  subst hQ43
  refine st_bind fun Q44 hQ44 => ?_
  rw [k0_part44_eq_skeleton]; unfold k0_part44_skel
  refine st_bit 2 (by decide) (by rfl) (by rfl) (by rfl) ?_
  refine st_bit 3 (by decide) (by rfl) (by rfl) (by rfl) ?_
  refine st_bit 4 (by decide) (by rfl) (by rfl) (by rfl) ?_
  refine st_bit 5 (by decide) (by rfl) (by rfl) (by rfl) ?_
  refine st_bit 6 (by decide) (by rfl) (by rfl) (by rfl) ?_
  refine st_vload ?_
  refine st_pure ?_
  subst hQ44
  refine st_pure ?_
  exact h

end Cert.Kernel.Hand

end
-- ==== Proof.K.Gather.lean ====
/-
  One chunk's gather as a whole: from the three gather buffers, the three word arrays and the two semaphores at zero, to the
  buffers holding the rows the row numbers name, with everything else back.
-/
module

public import proofs.«01_k».proof.Proof.K.Walk

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

variable (c : Dev nD) (W : Fin 64 → BitVec 32) (hW : ∀ t, k0_chk1 (W t))
variable (F8 : Buf (Elt F) (w8M.view.loc (c : Thread nD τ))) (F4 : Buf (Elt F) (w4M.view.loc (c : Thread nD τ)))
variable (Fs : Buf (Elt F) (wsM.view.loc (c : Thread nD τ)))

/-- The gather buffers hold, row by row, the rows named: an 8-bit row where the number is below 5504, a 4-bit row elsewhere,
    and a scale row everywhere. -/
structure Gathered (G8 : Buf (Elt F) (g8M.view.loc (c : Thread nD τ))) (G4 : Buf (Elt F) (g4M.view.loc (c : Thread nD τ)))
    (GS : Buf (Elt F) (gsM.view.loc (c : Thread nD τ))) : Prop where
  e8 : ∀ t (h : k0_cond2 (W t) = 1#1), (row8 t).view.read (Elt F) G8 = (src8 (W t) ((hW t).1 h)).view.read (Elt F) F8
  e4 : ∀ t (h : k0_cond3 (W t) = 1#1), (row4 t).view.read (Elt F) G4 = (src4 (W t) ((hW t).2.1 h)).view.read (Elt F) F4
  es : ∀ t, (rows t).view.read (Elt F) GS = (srcs (W t) (hW t).2.2).view.read (Elt F) Fs

/-! ## The buffers by rows -/

theorem rcover {n : ℕ} (hin : ∀ t : Fin 64, ∀ a, (![t.val, 0] : Fin 2 → ℕ) a + (![1, n] : Fin 2 → ℕ) a ≤ (⟨2, ![64, n]⟩ : Shape).size a) :
    (Finset.univ : Finset (⟨2, ![64, n]⟩ : Shape).Idx)
      = Finset.univ.biUnion fun t : Fin 64 => (Rect.unit (s := ⟨2, ![64, n]⟩) ![t.val, 0] ![1, n] (hin t)).set := by
  ext i
  simp only [Finset.mem_univ, Finset.mem_biUnion, true_and, true_iff]
  refine ⟨i 0, Rect.mem_set_unit.2 fun a => ?_⟩
  match a with
  | 0 => exact ⟨le_rfl, Nat.lt_succ_self _⟩
  | 1 => exact ⟨Nat.zero_le _, (Nat.zero_add n).symm ▸ (i 1).isLt⟩

theorem rdisj {n : ℕ} (hin : ∀ t : Fin 64, ∀ a, (![t.val, 0] : Fin 2 → ℕ) a + (![1, n] : Fin 2 → ℕ) a ≤ (⟨2, ![64, n]⟩ : Shape).size a)
    (t t' : Fin 64) (hne : t ≠ t') :
    Disjoint (Rect.unit (s := ⟨2, ![64, n]⟩) ![t.val, 0] ![1, n] (hin t)).set (Rect.unit (s := ⟨2, ![64, n]⟩) ![t'.val, 0] ![1, n] (hin t')).set := by
  rw [Finset.disjoint_left]
  intro i hi hi'
  apply hne
  have h1 : t.val ≤ (i 0).val ∧ (i 0).val < t.val + 1 := Rect.mem_set_unit.1 hi 0
  have h2 : t'.val ≤ (i 0).val ∧ (i 0).val < t'.val + 1 := Rect.mem_set_unit.1 hi' 0
  exact Fin.ext (by omega)

theorem set8 (t : Fin 64) : (row8 t).view.set = (Rect.unit (s := ⟨2, ![64, 5120]⟩) ![t.val, 0] ![1, 5120] (inb8 t)).set :=
  View.set_slice_whole cc0_scratch3 _
theorem cover8 : (Finset.univ : Finset (⟨2, ![64, 5120]⟩ : Shape).Idx) = Finset.univ.biUnion fun t : Fin 64 => (row8 t).view.set :=
  (rcover inb8).trans (congrArg (Finset.biUnion Finset.univ) (funext fun t => (set8 t).symm))
theorem disj8 : ∀ t ∈ (Finset.univ : Finset (Fin 64)), ∀ t' ∈ (Finset.univ : Finset (Fin 64)), t ≠ t' → Disjoint (row8 t).view.set (row8 t').view.set := by
  intro t _ t' _ hne
  have h := rdisj inb8 t t' hne
  rw [← set8 t, ← set8 t'] at h
  exact h

theorem set4 (t : Fin 64) : (row4 t).view.set = (Rect.unit (s := ⟨2, ![64, 2560]⟩) ![t.val, 0] ![1, 2560] (inb4 t)).set :=
  View.set_slice_whole cc0_scratch2 _
theorem cover4 : (Finset.univ : Finset (⟨2, ![64, 2560]⟩ : Shape).Idx) = Finset.univ.biUnion fun t : Fin 64 => (row4 t).view.set :=
  (rcover inb4).trans (congrArg (Finset.biUnion Finset.univ) (funext fun t => (set4 t).symm))
theorem disj4 : ∀ t ∈ (Finset.univ : Finset (Fin 64)), ∀ t' ∈ (Finset.univ : Finset (Fin 64)), t ≠ t' → Disjoint (row4 t).view.set (row4 t').view.set := by
  intro t _ t' _ hne
  have h := rdisj inb4 t t' hne
  rw [← set4 t, ← set4 t'] at h
  exact h

theorem sets (t : Fin 64) : (rows t).view.set = (Rect.unit (s := ⟨2, ![64, 40]⟩) ![t.val, 0] ![1, 40] (inbs t)).set :=
  View.set_slice_whole cc0_scratch4 _
theorem covers : (Finset.univ : Finset (⟨2, ![64, 40]⟩ : Shape).Idx) = Finset.univ.biUnion fun t : Fin 64 => (rows t).view.set :=
  (rcover inbs).trans (congrArg (Finset.biUnion Finset.univ) (funext fun t => (sets t).symm))
theorem disjs : ∀ t ∈ (Finset.univ : Finset (Fin 64)), ∀ t' ∈ (Finset.univ : Finset (Fin 64)), t ≠ t' → Disjoint (rows t).view.set (rows t').view.set := by
  intro t _ t' _ hne
  have h := rdisj inbs t t' hne
  rw [← sets t, ← sets t'] at h
  exact h

theorem split8 {c : Dev nD} (f : Buf (Elt F) (g8M.view.loc (c : Thread nD τ))) :
    ((g8M.view.loc (c : Thread nD τ) ↦[Finset.univ]{fullShare} f) : sProp 𝕄)
      ⊢ bigSep Finset.univ fun t => (row8 t).view.loc (c : Thread nD τ) ↦[(row8 t).view.set]{fullShare} f :=
  Entails.of_eq ((congrArg (fun S => ((g8M.view.loc (c : Thread nD τ) ↦[S]{fullShare} f) : sProp 𝕄)) cover8).trans
    (pointsTo_biUnion (ℓ := g8M.view.loc (c : Thread nD τ)) Finset.univ _ disj8))

theorem join8 {c : Dev nD} (fs : Fin 64 → Buf (Elt F) (g8M.view.loc (c : Thread nD τ))) (f₀ : Buf (Elt F) (g8M.view.loc (c : Thread nD τ))) :
    (bigSep Finset.univ fun t => (row8 t).view.loc (c : Thread nD τ) ↦[(row8 t).view.set]{fullShare} fs t : sProp 𝕄)
      ⊢ iprop(∃ g, ⌜∀ t, ∀ i ∈ (row8 t).view.set, g i = fs t i⌝ ∗ (g8M.view.loc (c : Thread nD τ) ↦[Finset.univ]{fullShare} g)) := by
  refine BIBase.Entails.trans (pointsTo_biUnion_join (ℓ := g8M.view.loc (c : Thread nD τ)) Finset.univ (fun t => (row8 t).view.set) fs f₀ disj8) ?_
  iintro ⟨%g, %hg, H⟩
  iexists g
  isplitr
  · ipureintro; exact fun t i hi => hg t (Finset.mem_univ t) i hi
  · rw [show (Finset.univ : Finset (Idx (g8M.view.loc (c : Thread nD τ)))) = _ from cover8]
    iexact H

theorem split4 {c : Dev nD} (f : Buf (Elt F) (g4M.view.loc (c : Thread nD τ))) :
    ((g4M.view.loc (c : Thread nD τ) ↦[Finset.univ]{fullShare} f) : sProp 𝕄)
      ⊢ bigSep Finset.univ fun t => (row4 t).view.loc (c : Thread nD τ) ↦[(row4 t).view.set]{fullShare} f :=
  Entails.of_eq ((congrArg (fun S => ((g4M.view.loc (c : Thread nD τ) ↦[S]{fullShare} f) : sProp 𝕄)) cover4).trans
    (pointsTo_biUnion (ℓ := g4M.view.loc (c : Thread nD τ)) Finset.univ _ disj4))

theorem join4 {c : Dev nD} (fs : Fin 64 → Buf (Elt F) (g4M.view.loc (c : Thread nD τ))) (f₀ : Buf (Elt F) (g4M.view.loc (c : Thread nD τ))) :
    (bigSep Finset.univ fun t => (row4 t).view.loc (c : Thread nD τ) ↦[(row4 t).view.set]{fullShare} fs t : sProp 𝕄)
      ⊢ iprop(∃ g, ⌜∀ t, ∀ i ∈ (row4 t).view.set, g i = fs t i⌝ ∗ (g4M.view.loc (c : Thread nD τ) ↦[Finset.univ]{fullShare} g)) := by
  refine BIBase.Entails.trans (pointsTo_biUnion_join (ℓ := g4M.view.loc (c : Thread nD τ)) Finset.univ (fun t => (row4 t).view.set) fs f₀ disj4) ?_
  iintro ⟨%g, %hg, H⟩
  iexists g
  isplitr
  · ipureintro; exact fun t i hi => hg t (Finset.mem_univ t) i hi
  · rw [show (Finset.univ : Finset (Idx (g4M.view.loc (c : Thread nD τ)))) = _ from cover4]
    iexact H

theorem splits {c : Dev nD} (f : Buf (Elt F) (gsM.view.loc (c : Thread nD τ))) :
    ((gsM.view.loc (c : Thread nD τ) ↦[Finset.univ]{fullShare} f) : sProp 𝕄)
      ⊢ bigSep Finset.univ fun t => (rows t).view.loc (c : Thread nD τ) ↦[(rows t).view.set]{fullShare} f :=
  Entails.of_eq ((congrArg (fun S => ((gsM.view.loc (c : Thread nD τ) ↦[S]{fullShare} f) : sProp 𝕄)) covers).trans
    (pointsTo_biUnion (ℓ := gsM.view.loc (c : Thread nD τ)) Finset.univ _ disjs))

theorem joins {c : Dev nD} (fs : Fin 64 → Buf (Elt F) (gsM.view.loc (c : Thread nD τ))) (f₀ : Buf (Elt F) (gsM.view.loc (c : Thread nD τ))) :
    (bigSep Finset.univ fun t => (rows t).view.loc (c : Thread nD τ) ↦[(rows t).view.set]{fullShare} fs t : sProp 𝕄)
      ⊢ iprop(∃ g, ⌜∀ t, ∀ i ∈ (rows t).view.set, g i = fs t i⌝ ∗ (gsM.view.loc (c : Thread nD τ) ↦[Finset.univ]{fullShare} g)) := by
  refine BIBase.Entails.trans (pointsTo_biUnion_join (ℓ := gsM.view.loc (c : Thread nD τ)) Finset.univ (fun t => (rows t).view.set) fs f₀ disjs) ?_
  iintro ⟨%g, %hg, H⟩
  iexists g
  isplitr
  · ipureintro; exact fun t i hi => hg t (Finset.mem_univ t) i hi
  · rw [show (Finset.univ : Finset (Idx (gsM.view.loc (c : Thread nD τ)))) = _ from covers]
    iexact H

/-- Four families, and two, dealt row by row. -/
theorem zip2 (A B : Fin 64 → sProp 𝕄) :
    (bigSep Finset.univ fun t => iprop(A t ∗ B t)) = iprop(bigSep Finset.univ A ∗ bigSep Finset.univ B) :=
  bigSep_sep Finset.univ A B
theorem zip4 (A B C D : Fin 64 → sProp 𝕄) :
    (bigSep Finset.univ fun t => iprop(A t ∗ B t ∗ C t ∗ D t))
      = iprop(bigSep Finset.univ A ∗ bigSep Finset.univ B ∗ bigSep Finset.univ C ∗ bigSep Finset.univ D) :=
  (zip2 A _).trans (congrArg (fun X => iprop(bigSep Finset.univ A ∗ X))
    ((zip2 B _).trans (congrArg (fun X => iprop(bigSep Finset.univ B ∗ X)) (zip2 C D))))
theorem post_zip (f8 : Buf (Elt F) (g8M.view.loc (c : Thread nD τ))) (f4 : Buf (Elt F) (g4M.view.loc (c : Thread nD τ))) :
    bigSep Finset.univ (post c W hW f8 f4 F8 F4)
      = iprop((bigSep Finset.univ fun t => (row8 t).view.loc (c : Thread nD τ) ↦[(row8 t).view.set]{fullShare} got8 c W hW f8 F8 t)
        ∗ (bigSep Finset.univ fun t => (row4 t).view.loc (c : Thread nD τ) ↦[(row4 t).view.set]{fullShare} got4 c W hW f4 F4 t)
        ∗ (bigSep Finset.univ fun t => w8M.view.loc (c : Thread nD τ) ↦[Finset.univ]{tk t} F8)
        ∗ (bigSep Finset.univ fun t => w4M.view.loc (c : Thread nD τ) ↦[Finset.univ]{tk t} F4)) := zip4 _ _ _ _
theorem postS_zip (fs : Buf (Elt F) (gsM.view.loc (c : Thread nD τ))) :
    bigSep Finset.univ (postS c W hW fs Fs)
      = iprop((bigSep Finset.univ fun t => (rows t).view.loc (c : Thread nD τ) ↦[(rows t).view.set]{fullShare} gots c W hW fs Fs t)
        ∗ (bigSep Finset.univ fun t => wsM.view.loc (c : Thread nD τ) ↦[Finset.univ]{tk t} Fs)) := zip2 _ _

/-! ## The set-up and the collection -/

variable {c W hW F8 F4 Fs}

/-- Setting up: the three buffers split into rows, the word arrays into read shares, and the two batches allotted. -/
theorem gather_setup (f8 : Buf (Elt F) (g8M.view.loc (c : Thread nD τ))) (f4 : Buf (Elt F) (g4M.view.loc (c : Thread nD τ)))
    (fs : Buf (Elt F) (gsM.view.loc (c : Thread nD τ))) (R : sProp 𝕄) :
    iprop((g8M.view.loc (c : Thread nD τ) ↦[Finset.univ]{fullShare} f8) ∗ (g4M.view.loc (c : Thread nD τ) ↦[Finset.univ]{fullShare} f4)
      ∗ (gsM.view.loc (c : Thread nD τ) ↦[Finset.univ]{fullShare} fs)
      ∗ (w8M.view.loc (c : Thread nD τ) ↦[Finset.univ]{fullShare} F8) ∗ (w4M.view.loc (c : Thread nD τ) ↦[Finset.univ]{fullShare} F4)
      ∗ (wsM.view.loc (c : Thread nD τ) ↦[Finset.univ]{fullShare} Fs)
      ∗ semVal ((c : Thread nD τ), .dma cc0_scratch5.sem) 0 ∗ semVal ((c : Thread nD τ), .dma cc0_scratch6.sem) 0
      ∗ (∃ V, owes (c : Thread nD τ) 0 V) ∗ R)
    ⊢ |={Set.univ}=> St c W hW f8 f4 fs F8 F4 Fs
        iprop(R ∗ (w8M.view.loc (c : Thread nD τ) ↦[Finset.univ]{shareDrop fullShare 64} F8)
          ∗ (w4M.view.loc (c : Thread nD τ) ↦[Finset.univ]{shareDrop fullShare 64} F4)
          ∗ (wsM.view.loc (c : Thread nD τ) ↦[Finset.univ]{shareDrop fullShare 64} Fs)) 0 0 := by
  iintro ⟨H8, H4, Hs, HF8, HF4, HFs, Hv, Hvs, HO, HR⟩
  ihave H8 := (split8 f8) $$ H8
  ihave H4 := (split4 f4) $$ H4
  ihave Hs := (splits fs) $$ Hs
  ihave HF8 := (pointsTo_toks_split fullShare 64) $$ HF8
  ihave HF4 := (pointsTo_toks_split fullShare 64) $$ HF4
  ihave HFs := (pointsTo_toks_split fullShare 64) $$ HFs
  icases HF8 with ⟨HD8, HF8⟩
  icases HF4 with ⟨HD4, HF4⟩
  icases HFs with ⟨HDs, HFs⟩
  imod (mixedBatch_alloc' EC () (Amt W) (post c W hW f8 f4 F8 F4) (c := (c : Thread nD τ)) (sm := .dma cc0_scratch5.sem) (E := Set.univ)) $$ Hv with HB
  imod (mixedBatch_alloc' EC () (fun _ => crs) (postS c W hW fs Fs) (c := (c : Thread nD τ)) (sm := .dma cc0_scratch6.sem) (E := Set.univ)) $$ Hvs with HBs
  imodintro
  unfold St
  rw [pending_zero]
  isplitl [HR HD8 HD4 HDs]
  · isplitl [HR]; · iexact HR
    isplitl [HD8]; · iexact HD8
    isplitl [HD4]; · iexact HD4
    iexact HDs
  isplitl [HB H8 H4 HF8 HF4]
  · isplitl [HB]; · iexact HB
    iapply (Entails.of_eq (zip4 _ _ _ _).symm)
    isplitl [H8]; · iexact H8
    isplitl [H4]; · iexact H4
    isplitl [HF8]; · iexact HF8
    iexact HF4
  isplitl [HBs Hs HFs]
  · isplitl [HBs]; · iexact HBs
    iapply (Entails.of_eq (zip2 _ _).symm)
    isplitl [Hs]; · iexact Hs
    iexact HFs
  iexact HO

theorem amt_pos (t : Fin 64) : 0 < Amt W t := by
  have h : 0 < cr := by decide
  unfold Amt; split <;> omega

/-- Collecting: after the last wait the rows are the buffers again, the shares the arrays, and the semaphores are at zero. -/
theorem gather_collect {f8 : Buf (Elt F) (g8M.view.loc (c : Thread nD τ))} {f4 : Buf (Elt F) (g4M.view.loc (c : Thread nD τ))}
    {fs : Buf (Elt F) (gsM.view.loc (c : Thread nD τ))} {R : sProp 𝕄} :
    Wt c W hW f8 f4 fs F8 F4 Fs
        iprop(R ∗ (w8M.view.loc (c : Thread nD τ) ↦[Finset.univ]{shareDrop fullShare 64} F8)
          ∗ (w4M.view.loc (c : Thread nD τ) ↦[Finset.univ]{shareDrop fullShare 64} F4)
          ∗ (wsM.view.loc (c : Thread nD τ) ↦[Finset.univ]{shareDrop fullShare 64} Fs)) 8 64
    ⊢ |={Set.univ}=> iprop(∃ G8 G4 GS, ⌜Gathered c W hW F8 F4 Fs G8 G4 GS⌝
      ∗ (g8M.view.loc (c : Thread nD τ) ↦[Finset.univ]{fullShare} G8) ∗ (g4M.view.loc (c : Thread nD τ) ↦[Finset.univ]{fullShare} G4)
      ∗ (gsM.view.loc (c : Thread nD τ) ↦[Finset.univ]{fullShare} GS)
      ∗ (w8M.view.loc (c : Thread nD τ) ↦[Finset.univ]{fullShare} F8) ∗ (w4M.view.loc (c : Thread nD τ) ↦[Finset.univ]{fullShare} F4)
      ∗ (wsM.view.loc (c : Thread nD τ) ↦[Finset.univ]{fullShare} Fs)
      ∗ semVal ((c : Thread nD τ), .dma cc0_scratch5.sem) 0 ∗ semVal ((c : Thread nD τ), .dma cc0_scratch6.sem) 0
      ∗ (∃ V, owes (c : Thread nD τ) 0 V) ∗ R) := by
  unfold Wt
  rw [U_end, show 64 * crs = sumTo (fun _ : Fin 64 => crs) 64 from (sumTo_const crs le_rfl).symm]
  iintro ⟨⟨HR, HD8, HD4, HDs⟩, HB, HBs, HO⟩
  imod (mixedBatch_collect' EC (c := (c : Thread nD τ)) (A := Amt W) amt_pos) $$ HB with ⟨HP, Hv⟩
  imod (mixedBatch_collect' EC (c := (c : Thread nD τ)) (A := fun _ => crs) (fun _ => by decide)) $$ HBs with ⟨HPs, Hvs⟩
  imodintro
  ihave HP := (Entails.of_eq (post_zip c W hW F8 F4 f8 f4)) $$ HP
  icases HP with ⟨H8, H4, HF8, HF4⟩
  ihave HPs := (Entails.of_eq (postS_zip c W hW Fs fs)) $$ HPs
  icases HPs with ⟨Hs, HFs⟩
  ihave H8 := (join8 (fun t => got8 c W hW f8 F8 t) f8) $$ H8
  ihave H4 := (join4 (fun t => got4 c W hW f4 F4 t) f4) $$ H4
  ihave Hs := (joins (fun t => gots c W hW fs Fs t) fs) $$ Hs
  icases H8 with ⟨%G8, %h8, H8⟩
  icases H4 with ⟨%G4, %h4, H4⟩
  icases Hs with ⟨%GS, %hs, Hs⟩
  iexists G8, G4, GS
  isplitr
  · ipureintro
    refine ⟨fun t h => ?_, fun t h => ?_, fun t => ?_⟩
    · rw [View.read_congr (h8 t)]; unfold got8; rw [dif_pos h]; exact View.read_write_univ _ _
    · rw [View.read_congr (h4 t)]; unfold got4; rw [dif_pos h]; exact View.read_write_univ _ _
    · rw [View.read_congr (hs t)]; unfold gots; exact View.read_write_univ _ _
  isplitl [H8]; · iexact H8
  isplitl [H4]; · iexact H4
  isplitl [Hs]; · iexact Hs
  isplitl [HD8 HF8]
  · iapply (pointsTo_toks_join fullShare 64)
    isplitl [HD8]; · iexact HD8
    iexact HF8
  isplitl [HD4 HF4]
  · iapply (pointsTo_toks_join fullShare 64)
    isplitl [HD4]; · iexact HD4
    iexact HF4
  isplitl [HDs HFs]
  · iapply (pointsTo_toks_join fullShare 64)
    isplitl [HDs]; · iexact HDs
    iexact HFs
  isplitl [Hv]; · iexact Hv
  isplitl [Hvs]; · iexact Hvs
  isplitl [HO]; · iexact HO
  iexact HR

/-- What a chunk's gather holds: the row numbers and the lane copy of them, the three buffers, the word arrays, the two
    semaphores at zero and the record of what is owed. -/
def Hold (c : Dev nD) (arg1 : Memref sig .tc .smem S27648 .i32) (arg2 : Memref sig .tc .vmem S216x128 .i32)
    (f1 : Buf (Elt F) (arg1.view.loc (c : Thread nD τ))) (q1 : PosShare TreeShare)
    (f2 : Buf (Elt F) (arg2.view.loc (c : Thread nD τ))) (q2 : PosShare TreeShare)
    (F8 : Buf (Elt F) (w8M.view.loc (c : Thread nD τ))) (F4 : Buf (Elt F) (w4M.view.loc (c : Thread nD τ)))
    (Fs : Buf (Elt F) (wsM.view.loc (c : Thread nD τ))) : sProp 𝕄 :=
  iprop((arg1.view.loc (c : Thread nD τ) ↦[arg1.view.set]{q1} f1) ∗ (arg2.view.loc (c : Thread nD τ) ↦[arg2.view.set]{q2} f2)
      ∗ (w8M.view.loc (c : Thread nD τ) ↦[Finset.univ]{fullShare} F8) ∗ (w4M.view.loc (c : Thread nD τ) ↦[Finset.univ]{fullShare} F4)
      ∗ (wsM.view.loc (c : Thread nD τ) ↦[Finset.univ]{fullShare} Fs)
      ∗ semVal ((c : Thread nD τ), .dma cc0_scratch5.sem) 0 ∗ semVal ((c : Thread nD τ), .dma cc0_scratch6.sem) 0
      ∗ (∃ V, owes (c : Thread nD τ) 0 V))

/-- The three gather buffers at contents. -/
def Bufs (c : Dev nD) (f8 : Buf (Elt F) (g8M.view.loc (c : Thread nD τ))) (f4 : Buf (Elt F) (g4M.view.loc (c : Thread nD τ)))
    (fs : Buf (Elt F) (gsM.view.loc (c : Thread nD τ))) : sProp 𝕄 :=
  iprop((g8M.view.loc (c : Thread nD τ) ↦[Finset.univ]{fullShare} f8) ∗ (g4M.view.loc (c : Thread nD τ) ↦[Finset.univ]{fullShare} f4)
      ∗ (gsM.view.loc (c : Thread nD τ) ↦[Finset.univ]{fullShare} fs))

set_option maxHeartbeats 1000000 in
/-- The gather of one chunk. -/
theorem gather (i : grid0.Coords) (arg1 : Memref sig .tc .smem S27648 .i32) (harg1 : arg1.IsWhole) (arg2 : Memref sig .tc .vmem S216x128 .i32) (harg2 : arg2.IsWhole) (arg3 : Memref sig .tc .vmem S216x128 .f32) (harg3 : arg3.IsWhole) (arg4 : Memref sig .tc .vmem S3072x128 .f32) (harg4 : arg4.IsWhole) (arg5 : Memref sig .tc .hbm S3072x5120 .bf16) (harg5 : arg5.IsWhole) (harg6 : (w4M : Memref sig .tc _ _ _).IsWhole) (harg7 : (w8M : Memref sig .tc _ _ _).IsWhole) (harg8 : (wsM : Memref sig .tc _ _ _).IsWhole) (arg9 : Memref sig .tc .vmem S3072x512 .bf16) (harg9 : arg9.IsWhole) (arg10 : Memref sig .tc .vmem S3072x5120 .bf16) (harg10 : arg10.IsWhole) (arg11 : Memref sig .tc .vmem S512x5120 .bf16) (harg11 : arg11.IsWhole) (harg12 : (g4M : Memref sig .tc _ _ _).IsWhole) (harg13 : (g8M : Memref sig .tc _ _ _).IsWhole) (harg14 : (gsM : Memref sig .tc _ _ _).IsWhole) (k0_t1 : Fin k0_t1_loop.trips) (arg17 : DmaSems sig S_)
    (f1 : Buf (Elt F) (arg1.view.loc (c : Thread nD τ))) (q1 : PosShare TreeShare)
    (f2 : Buf (Elt F) (arg2.view.loc (c : Thread nD τ))) (q2 : PosShare TreeShare)
    (hw : ∀ r, W r = wordAt (c := c) arg1 f1 i k0_t1 r) {R : sProp 𝕄}
    {Q : (Σ' (v6 : BitVec 32) (v1210 : IVec S64x128 32) (v1216 : IVec S64x128 32), BitVec 32) → sProp 𝕄}
    (f8 : Buf (Elt F) (g8M.view.loc (c : Thread nD τ))) (f4 : Buf (Elt F) (g4M.view.loc (c : Thread nD τ)))
    (fs : Buf (Elt F) (gsM.view.loc (c : Thread nD τ)))
    (h : ∀ G8 G4 GS, Gathered c W hW F8 F4 Fs G8 G4 GS →
      iprop(Bufs c G8 G4 GS ∗ Hold c arg1 arg2 f1 q1 f2 q2 F8 F4 Fs ∗ R)
      ⊢ Q (chunkMeta i k0_t1 ((arg2.access (Rect.unit (s := S216x128) (k0_off257 i k0_t1) S1x128.size (k0_off257_inb i k0_t1))).read (Elt F) f2))) :
    iprop(Bufs c f8 f4 fs ∗ Hold c arg1 arg2 f1 q1 f2 q2 F8 F4 Fs ∗ R)
      ⊢ wpc c (k0_part45 i arg1 harg1 arg2 harg2 arg3 harg3 arg4 harg4 arg5 harg5 w4M harg6 w8M harg7 wsM harg8 arg9 harg9 arg10 harg10 arg11 harg11 g4M harg12 g8M harg13 gsM harg14 cc0_scratch5 cc0_scratch6 arg17 (BitVec.ofNat 32 (i 0).val) 0#32 1#32 k0_t1) Q := by
  refine BIBase.Entails.trans ?_ (BIBase.Entails.trans (fupd_mono (BIBase.Entails.trans (gather_walk (c := c) (W := W) (hW := hW) (f8 := f8) (f4 := f4) (fs := fs) (F8 := F8) (F4 := F4) (Fs := Fs)
    i arg1 harg1 arg2 harg2 arg3 harg3 arg4 harg4 arg5 harg5 harg6 harg7 harg8 arg9 harg9 arg10 harg10 arg11 harg11 harg12 harg13 harg14 k0_t1 arg17
    f1 q1 f2 q2 hw
    (R := iprop(R ∗ (w8M.view.loc (c : Thread nD τ) ↦[Finset.univ]{shareDrop fullShare 64} F8)
          ∗ (w4M.view.loc (c : Thread nD τ) ↦[Finset.univ]{shareDrop fullShare 64} F4)
          ∗ (wsM.view.loc (c : Thread nD τ) ↦[Finset.univ]{shareDrop fullShare 64} Fs)))
    (Q := fun a => iprop(|={Set.univ}=> Q a)) ?_) (wp_fupd _ _ _ _ _))) (fupd_wp _ _ _ _ _))
  · refine BIBase.Entails.trans ?_ (BIBase.Entails.trans (gather_setup (c := c) (W := W) (hW := hW) (F8 := F8) (F4 := F4) (Fs := Fs) f8 f4 fs
      iprop((arg1.view.loc (c : Thread nD τ) ↦[arg1.view.set]{q1} f1) ∗ (arg2.view.loc (c : Thread nD τ) ↦[arg2.view.set]{q2} f2) ∗ R)) (fupd_mono ?_))
    · unfold Bufs Hold
      iintro ⟨⟨H8, H4, Hs⟩, ⟨H1, H2, HF8, HF4, HFs, Hv, Hvs, HO⟩, HR⟩
      isplitl [H8]; · iexact H8
      isplitl [H4]; · iexact H4
      isplitl [Hs]; · iexact Hs
      isplitl [HF8]; · iexact HF8
      isplitl [HF4]; · iexact HF4
      isplitl [HFs]; · iexact HFs
      isplitl [Hv]; · iexact Hv
      isplitl [Hvs]; · iexact Hvs
      isplitl [HO]; · iexact HO
      isplitl [H1]; · iexact H1
      isplitl [H2]; · iexact H2
      iexact HR
    · unfold St
      iintro ⟨⟨⟨H1, H2, HR⟩, HD⟩, HS⟩
      isplitr [HS]
      · isplitl [H1]; · iexact H1
        isplitl [H2]; · iexact H2
        isplitl [HR]; · iexact HR
        iexact HD
      iexact HS
  · refine BIBase.Entails.trans ?_ (BIBase.Entails.trans (gather_collect (c := c) (W := W) (hW := hW) (F8 := F8) (F4 := F4) (Fs := Fs) (f8 := f8) (f4 := f4) (fs := fs)
      (R := iprop((arg1.view.loc (c : Thread nD τ) ↦[arg1.view.set]{q1} f1) ∗ (arg2.view.loc (c : Thread nD τ) ↦[arg2.view.set]{q2} f2) ∗ R))) (fupd_mono ?_))
    · unfold Wt
      iintro ⟨⟨H1, H2, HR, HD⟩, HS⟩
      isplitr [HS]
      · isplitr [HD]
        · isplitl [H1]; · iexact H1
          isplitl [H2]; · iexact H2
          iexact HR
        iexact HD
      iexact HS
    · iintro ⟨%G8, %G4, %GS, %hG, H8, H4, Hs, HF8, HF4, HFs, Hv, Hvs, HO, H1, H2, HR⟩
      iapply (h G8 G4 GS hG)
      unfold Bufs Hold
      isplitl [H8 H4 Hs]
      · isplitl [H8]; · iexact H8
        isplitl [H4]; · iexact H4
        iexact Hs
      isplitr [HR]
      · isplitl [H1]; · iexact H1
        isplitl [H2]; · iexact H2
        isplitl [HF8]; · iexact HF8
        isplitl [HF4]; · iexact HF4
        isplitl [HFs]; · iexact HFs
        isplitl [Hv]; · iexact Hv
        isplitl [Hvs]; · iexact Hvs
        iexact HO
      iexact HR

end Cert.Kernel.Hand

end
-- ==== Proof.K.Group.lean ====
/-
  One group's trip: 256 columns of the chunk's 64 rows of the weight tile, and the loop over the twenty groups.
-/
module

public import proofs.«01_k».proof.Proof.K.Elem
public import proofs.«01_k».proof.Proof.K.Gather

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

variable (i : grid0.Coords)
variable (arg1 : Memref sig .tc .smem S27648 .i32) (harg1 : arg1.IsWhole)
variable (arg2 : Memref sig .tc .vmem S216x128 .i32) (harg2 : arg2.IsWhole)
variable (arg3 : Memref sig .tc .vmem S216x128 .f32) (harg3 : arg3.IsWhole)
variable (arg4 : Memref sig .tc .vmem S3072x128 .f32) (harg4 : arg4.IsWhole)
variable (arg5 : Memref sig .tc .hbm S3072x5120 .bf16) (harg5 : arg5.IsWhole)
variable (arg6 : Memref sig .tc .hbm S5536x2560 .i32) (harg6 : arg6.IsWhole)
variable (arg7 : Memref sig .tc .hbm S1376x5120 .i32) (harg7 : arg7.IsWhole)
variable (arg8 : Memref sig .tc .hbm S11072x40 .i32) (harg8 : arg8.IsWhole)
variable (arg9 : Memref sig .tc .vmem S3072x512 .bf16) (harg9 : arg9.IsWhole)
variable (arg10 : Memref sig .tc .vmem S3072x5120 .bf16) (harg10 : arg10.IsWhole)
variable (arg11 : Memref sig .tc .vmem S512x5120 .bf16) (harg11 : arg11.IsWhole)
variable (arg12 : Memref sig .tc .vmem S64x2560 .i32) (harg12 : arg12.IsWhole)
variable (arg13 : Memref sig .tc .vmem S64x5120 .i32) (harg13 : arg13.IsWhole)
variable (arg14 : Memref sig .tc .vmem S64x40 .i32) (harg14 : arg14.IsWhole)
variable (arg15 arg16 arg17 : DmaSems sig S_)

theorem off261_eq (t1 : Fin k0_t1_loop.trips) (t2 : Fin k0_t2_loop.trips) : k0_off261 t1 t2 = ![64 * t1.val, 256 * t2.val] := by
  have e : ∀ (a : Fin 8) (b : Fin 20), k0_off261 ⟨a.val, by have := a.isLt; exact this⟩ ⟨b.val, by have := b.isLt; exact this⟩ = ![64 * a.val, 256 * b.val] := by decide +kernel
  exact e ⟨t1.val, t1.isLt⟩ ⟨t2.val, t2.isLt⟩

theorem off258_eq (t2 : Fin k0_t2_loop.trips) : k0_off258 t2 = ![0, 128 * t2.val] := by revert t2; decide +kernel
theorem off259_eq (t2 : Fin k0_t2_loop.trips) : k0_off259 t2 = ![0, 256 * t2.val] := by revert t2; decide +kernel
theorem off260_eq (t2 : Fin k0_t2_loop.trips) : k0_off260 t2 = ![0, 256 * t2.val + 128] := by revert t2; decide +kernel

/-- The three blocks a trip loads. -/
def ld4 (X4 : BufTy.Contents (Elt F) arg12.view.ty) (k : Fin k0_t2_loop.trips) : Vec F S64x128 .i32 :=
  (arg12.access (Rect.unit (s := S64x2560) (k0_off258 k) S64x128.size (k0_off258_inb k))).read (Elt F) X4
def ldlo (X8 : BufTy.Contents (Elt F) arg13.view.ty) (k : Fin k0_t2_loop.trips) : Vec F S64x128 .i32 :=
  (arg13.access (Rect.unit (s := S64x5120) (k0_off259 k) S64x128.size (k0_off259_inb k))).read (Elt F) X8
def ldhi (X8 : BufTy.Contents (Elt F) arg13.view.ty) (k : Fin k0_t2_loop.trips) : Vec F S64x128 .i32 :=
  (arg13.access (Rect.unit (s := S64x5120) (k0_off260 k) S64x128.size (k0_off260_inb k))).read (Elt F) X8

variable (c : Dev nD) (k0_t1 : Fin k0_t1_loop.trips) (m sh : IVec S64x128 32) (sc : Vec F S64x40 .i32)
  (X4 : BufTy.Contents (Elt F) arg12.view.ty) (X8 : BufTy.Contents (Elt F) arg13.view.ty)

/-- What a trip needs. -/
abbrev Trip2 (f : BufTy.Contents (Elt F) arg11.view.ty) : sProp 𝕄 :=
  iprop((arg12.view.loc (c : Thread nD τ) ↦[arg12.view.set]{fullShare} X4) ∗ (arg13.view.loc (c : Thread nD τ) ↦[arg13.view.set]{fullShare} X8) ∗ (arg11.view.loc (c : Thread nD τ) ↦[arg11.view.set]{fullShare} f))

theorem trip2 (k : Fin k0_t2_loop.trips) (f : BufTy.Contents (Elt F) arg11.view.ty) :
    Trip2 (F := F) arg11 arg12 arg13 c X4 X8 f ⊢ wpc c (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t1 m sh 5504#32 sc k ())
      (fun _ => Trip2 (F := F) arg11 arg12 arg13 c X4 X8 (arg11.view.writes (Elt F) f
        [⟨Rect.unit (s := S512x5120) (k0_off261 k0_t1 k) S64x256.size (k0_off261_inb k0_t1 k), widen m sh sc k (ld4 arg12 X4 k) (ldlo arg13 X8 k) (ldhi arg13 X8 k)⟩])) := by
  have hk : k.val < 20 := Nat.lt_of_lt_of_le k.isLt k0_t2_abs.2.1
  unfold k0_t2_body wpc
  iintro ⟨H12, H13, H11⟩
  sl_exec
  sl_step
  isplitl [H12]; · iexact H12
  isplitl [H13]; · iexact H13
  iexact H11

end Cert.Kernel.Hand

end
-- ==== Proof.K.Target.lean ====
/-
  What the weight tile is to hold, element by element, and that a gathered chunk put through the widening holds it.
-/
module

public import proofs.«01_k».proof.Proof.K.Group

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

/-! ## The words of a row's number -/

section Words
variable (w : BitVec 32) (hw : w.toNat < 27648)
include hw

theorem slt_eq : BitVec.slt w 5504#32 = decide (w.toNat < 5504) := by
  rw [BitVec.slt, BitVec.toInt_eq_toNat_of_lt (by omega)]
  refine decide_eq_decide.mpr ?_
  rw [show (5504#32 : BitVec 32).toInt = 5504 by decide]; omega

theorem cond2_iff : k0_cond2 w = 1#1 ↔ w.toNat < 5504 := by
  unfold k0_cond2
  simp only [Scalar.cmpi, Scalar.extui, IntOp.cmpi]
  rw [slt_eq w hw]
  by_cases h : w.toNat < 5504
  · rw [decide_eq_true h]; exact iff_of_true (by decide) h
  · rw [decide_eq_false h]; exact iff_of_false (by decide) h

theorem lt_bit : IntOp.cmpi .slt w 5504#32 = if w.toNat < 5504 then 1#1 else 0#1 := by
  unfold IntOp.cmpi
  rw [slt_eq w hw]
  by_cases h : w.toNat < 5504
  · rw [decide_eq_true h, if_pos h]; rfl
  · rw [decide_eq_false h, if_neg h]; rfl

theorem max_eq : (Scalar.maxsi (Scalar.subi w 5504#32) 0#32).toNat = w.toNat - 5504 := by
  show (if (0#32).slt (w - 5504#32) then w - 5504#32 else 0#32).toNat = _
  have e : (w - 5504#32).toNat = (2 ^ 32 - 5504 + w.toNat) % 2 ^ 32 := by rw [BitVec.toNat_sub]; rfl
  by_cases h : w.toNat < 5504
  · rw [if_neg, show w.toNat - 5504 = 0 by omega]; rfl
    rw [BitVec.slt, decide_eq_true_eq, BitVec.toInt_eq_toNat_cond, BitVec.toInt_eq_toNat_cond, e]
    simp; omega
  · by_cases h' : (0#32).slt (w - 5504#32)
    · rw [if_pos h', e]; omega
    · rw [if_neg h']
      rw [BitVec.slt, decide_eq_true_eq, BitVec.toInt_eq_toNat_cond, BitVec.toInt_eq_toNat_cond, e] at h'
      simp at h' ⊢; omega

theorem off2_eq : k0_off2 w = ![w.toNat / 4, 0] := by
  show ![(w >>> 2#32).toNat, 0] = _
  rw [BitVec.ushiftRight_eq', BitVec.toNat_ushiftRight, Nat.shiftRight_eq_div_pow]; rfl

theorem off3_eq : k0_off3 w = ![(w.toNat - 5504) / 4, 0] := by
  show ![((Scalar.maxsi (Scalar.subi w 5504#32) 0#32) >>> 2#32).toNat, 0] = _
  rw [BitVec.ushiftRight_eq', BitVec.toNat_ushiftRight, max_eq w hw, Nat.shiftRight_eq_div_pow]; rfl

theorem off4_eq : k0_off4 w = ![(w.toNat - 5504) / 2, 0] := by
  show ![((Scalar.maxsi (Scalar.subi w 5504#32) 0#32) >>> 1#32).toNat, 0] = _
  rw [BitVec.ushiftRight_eq', BitVec.toNat_ushiftRight, max_eq w hw, Nat.shiftRight_eq_div_pow]; rfl

/-- A row number of the table passes the body's check. -/
theorem chk_of : k0_chk1 w := by
  refine ⟨fun h => ?_, fun h => ?_, ?_⟩
  · rw [off2_eq w hw]
    have := (cond2_iff w hw).mp h
    exact Fin.forall_fin_two.mpr ⟨by show w.toNat / 4 + 1 ≤ 1376; omega, by show 0 + 5120 ≤ 5120; omega⟩
  · rw [off3_eq w hw]
    exact Fin.forall_fin_two.mpr ⟨by show (w.toNat - 5504) / 4 + 1 ≤ 5536; omega, by show 0 + 2560 ≤ 2560; omega⟩
  · rw [off4_eq w hw]
    exact Fin.forall_fin_two.mpr ⟨by show (w.toNat - 5504) / 2 + 1 ≤ 11072; omega, by show 0 + 40 ≤ 40; omega⟩

end Words

/-! ## The target -/

/-- The halves of a word's byte: the low one at 0. -/
def nibh (h : ℕ) (w a : BitVec 32) : BitVec 32 := if h = 0 then nib0 w a else nib1 w a

/-- The element of the weight tile at a row of number `w` and a place of the tile's column order. -/
def wElt (A8 : S1376x5120.Idx → BitVec 32) (A4 : S5536x2560.Idx → BitVec 32) (As : S11072x40.Idx → BitVec 32) (w : BitVec 32) (k : Fin 5120) : F .bf16 :=
  elt w (A8 (ix2 (⟨w.toNat / 4 % 1376, by omega⟩ : Fin 1376) (⟨256 * (k.val / 256) + 2 * (k.val % 128) + k.val / 128 % 2, by omega⟩ : Fin 5120)))
    (nibh (k.val / 128 % 2) w (A4 (ix2 (⟨(w.toNat - 5504) / 4 % 5536, by omega⟩ : Fin 5536) (⟨128 * (k.val / 256) + k.val % 128, by omega⟩ : Fin 2560))))
    (As (ix2 (⟨(w.toNat - 5504) / 2 % 11072, by omega⟩ : Fin 11072) (⟨2 * (k.val / 256) + k.val % 128 / 64, by omega⟩ : Fin 40)))

theorem select_one {α : Type} (a b : α) : Scalar.select 1#1 a b = a := if_pos rfl
theorem select_zero {α : Type} (a b : α) : Scalar.select 0#1 a b = b := if_neg (by decide)

/-- An element below the boundary is its byte alone; above it, its half byte times its scale. -/
theorem elt_lt (w a n s n' s' : BitVec 32) (hw : w.toNat < 27648) (h : w.toNat < 5504) : (elt w a n s : F .bf16) = elt w a n' s' := by
  unfold elt; rw [lt_bit w hw, if_pos h, select_one, select_one]
theorem elt_ge (w a n s a' : BitVec 32) (hw : w.toNat < 27648) (h : ¬ w.toNat < 5504) : (elt w a n s : F .bf16) = elt w a' n s := by
  unfold elt; rw [lt_bit w hw, if_neg h, select_zero, select_zero]

section Row
variable {c : Dev nD} {W : Fin 64 → BitVec 32} {hW : ∀ t, k0_chk1 (W t)} (hB : ∀ t, (W t).toNat < 27648)
variable {F8 : Buf (Elt F) (w8M.view.loc (c : Thread nD τ))} {F4 : Buf (Elt F) (w4M.view.loc (c : Thread nD τ))}
variable {Fs : Buf (Elt F) (wsM.view.loc (c : Thread nD τ))}
variable {G8 : Buf (Elt F) (g8M.view.loc (c : Thread nD τ))} {G4 : Buf (Elt F) (g4M.view.loc (c : Thread nD τ))}
variable {GS : Buf (Elt F) (gsM.view.loc (c : Thread nD τ))}

theorem row8_at (t : Fin 64) (k : Fin 5120) : (row8 t).view.read (Elt F) G8 (ix2 (0 : Fin 1) k) = g8M.view.read (Elt F) G8 (ix2 t k) := by
  refine congrArg (g8M.view.read (Elt F) G8) (funext fun a => Fin.ext ?_)
  match a with
  | 0 => show t.val + 1 * 0 = t.val; omega
  | 1 => show 0 + 1 * k.val = k.val; omega
theorem row4_at (t : Fin 64) (k : Fin 2560) : (row4 t).view.read (Elt F) G4 (ix2 (0 : Fin 1) k) = g4M.view.read (Elt F) G4 (ix2 t k) := by
  refine congrArg (g4M.view.read (Elt F) G4) (funext fun a => Fin.ext ?_)
  match a with
  | 0 => show t.val + 1 * 0 = t.val; omega
  | 1 => show 0 + 1 * k.val = k.val; omega
theorem rows_at (t : Fin 64) (k : Fin 40) : (rows t).view.read (Elt F) GS (ix2 (0 : Fin 1) k) = gsM.view.read (Elt F) GS (ix2 t k) := by
  refine congrArg (gsM.view.read (Elt F) GS) (funext fun a => Fin.ext ?_)
  match a with
  | 0 => show t.val + 1 * 0 = t.val; omega
  | 1 => show 0 + 1 * k.val = k.val; omega
include hB
theorem src8_at (t : Fin 64) (h : k0_cond2 (W t) = 1#1) (k : Fin 5120) :
    (src8 (W t) ((hW t).1 h)).view.read (Elt F) F8 (ix2 (0 : Fin 1) k) = w8M.view.read (Elt F) F8 (ix2 (⟨(W t).toNat / 4 % 1376, by omega⟩ : Fin 1376) k) := by
  have hl := (cond2_iff _ (hB t)).mp h
  have e := off2_eq _ (hB t)
  refine congrArg (w8M.view.read (Elt F) F8) (funext fun a => Fin.ext ?_)
  match a with
  | 0 => show k0_off2 (W t) 0 + 1 * 0 = (W t).toNat / 4 % 1376; rw [e]; show (W t).toNat / 4 + 1 * 0 = _; omega
  | 1 => show k0_off2 (W t) 1 + 1 * k.val = k.val; rw [e]; show 0 + 1 * k.val = _; omega
theorem src4_at (t : Fin 64) (h : k0_cond3 (W t) = 1#1) (k : Fin 2560) :
    (src4 (W t) ((hW t).2.1 h)).view.read (Elt F) F4 (ix2 (0 : Fin 1) k) = w4M.view.read (Elt F) F4 (ix2 (⟨((W t).toNat - 5504) / 4 % 5536, by omega⟩ : Fin 5536) k) := by
  have e := off3_eq _ (hB t)
  have hb := hB t
  refine congrArg (w4M.view.read (Elt F) F4) (funext fun a => Fin.ext ?_)
  match a with
  | 0 => show k0_off3 (W t) 0 + 1 * 0 = ((W t).toNat - 5504) / 4 % 5536; rw [e]; show ((W t).toNat - 5504) / 4 + 1 * 0 = _; omega
  | 1 => show k0_off3 (W t) 1 + 1 * k.val = k.val; rw [e]; show 0 + 1 * k.val = _; omega
theorem srcs_at (t : Fin 64) (k : Fin 40) :
    (srcs (W t) (hW t).2.2).view.read (Elt F) Fs (ix2 (0 : Fin 1) k) = wsM.view.read (Elt F) Fs (ix2 (⟨((W t).toNat - 5504) / 2 % 11072, by omega⟩ : Fin 11072) k) := by
  have e := off4_eq _ (hB t)
  have hb := hB t
  refine congrArg (wsM.view.read (Elt F) Fs) (funext fun a => Fin.ext ?_)
  match a with
  | 0 => show k0_off4 (W t) 0 + 1 * 0 = ((W t).toNat - 5504) / 2 % 11072; rw [e]; show ((W t).toNat - 5504) / 2 + 1 * 0 = _; omega
  | 1 => show k0_off4 (W t) 1 + 1 * k.val = k.val; rw [e]; show 0 + 1 * k.val = _; omega

variable (hg : Gathered c W hW F8 F4 Fs G8 G4 GS)
include hg
theorem got8_at (t : Fin 64) (h : (W t).toNat < 5504) (k : Fin 5120) :
    g8M.view.read (Elt F) G8 (ix2 t k) = w8M.view.read (Elt F) F8 (ix2 (⟨(W t).toNat / 4 % 1376, by omega⟩ : Fin 1376) k) := by
  have h2 := (cond2_iff _ (hB t)).mpr h
  exact (row8_at t k).symm.trans ((congrFun (hg.e8 t h2) (ix2 (0 : Fin 1) k)).trans (src8_at (hW := hW) hB t h2 k))
theorem got4_at (t : Fin 64) (h : ¬ (W t).toNat < 5504) (k : Fin 2560) :
    g4M.view.read (Elt F) G4 (ix2 t k) = w4M.view.read (Elt F) F4 (ix2 (⟨((W t).toNat - 5504) / 4 % 5536, by omega⟩ : Fin 5536) k) := by
  have h3 : k0_cond3 (W t) = 1#1 := (cond3_iff _).mpr fun hc => h ((cond2_iff _ (hB t)).mp hc)
  exact (row4_at t k).symm.trans ((congrFun (hg.e4 t h3) (ix2 (0 : Fin 1) k)).trans (src4_at (hW := hW) hB t h3 k))
theorem gots_at (t : Fin 64) (k : Fin 40) :
    gsM.view.read (Elt F) GS (ix2 t k) = wsM.view.read (Elt F) Fs (ix2 (⟨((W t).toNat - 5504) / 2 % 11072, by omega⟩ : Fin 11072) k) := by
  exact (rows_at t k).symm.trans ((congrFun (hg.es t) (ix2 (0 : Fin 1) k)).trans (srcs_at (hW := hW) hB t k))

omit hg hB in
theorem ld4_at (k : Fin k0_t2_loop.trips) (hk : k.val < 20) (r : Fin 64) (l : Fin 128) : ld4 g4M G4 k (ix2 r l) = g4M.view.read (Elt F) G4 (ix2 r (⟨128 * k.val + l.val, by omega⟩ : Fin 2560)) := by
  refine congrArg (g4M.view.read (Elt F) G4) (funext fun a => Fin.ext ?_)
  match a with
  | 0 => show k0_off258 k 0 + 1 * r.val = r.val; rw [off258_eq]; show 0 + 1 * r.val = _; omega
  | 1 => show k0_off258 k 1 + 1 * l.val = 128 * k.val + l.val; rw [off258_eq]; show 128 * k.val + 1 * l.val = _; omega
omit hg hB in
theorem ldlo_at (k : Fin k0_t2_loop.trips) (hk : k.val < 20) (r : Fin 64) (l : Fin 128) : ldlo g8M G8 k (ix2 r l) = g8M.view.read (Elt F) G8 (ix2 r (⟨256 * k.val + l.val, by omega⟩ : Fin 5120)) := by
  refine congrArg (g8M.view.read (Elt F) G8) (funext fun a => Fin.ext ?_)
  match a with
  | 0 => show k0_off259 k 0 + 1 * r.val = r.val; rw [off259_eq]; show 0 + 1 * r.val = _; omega
  | 1 => show k0_off259 k 1 + 1 * l.val = 256 * k.val + l.val; rw [off259_eq]; show 256 * k.val + 1 * l.val = _; omega
omit hg hB in
theorem ldhi_at (k : Fin k0_t2_loop.trips) (hk : k.val < 20) (r : Fin 64) (l : Fin 128) : ldhi g8M G8 k (ix2 r l) = g8M.view.read (Elt F) G8 (ix2 r (⟨256 * k.val + 128 + l.val, by omega⟩ : Fin 5120)) := by
  refine congrArg (g8M.view.read (Elt F) G8) (funext fun a => Fin.ext ?_)
  match a with
  | 0 => show k0_off260 k 0 + 1 * r.val = r.val; rw [off260_eq]; show 0 + 1 * r.val = _; omega
  | 1 => show k0_off260 k 1 + 1 * l.val = 256 * k.val + 128 + l.val; rw [off260_eq]; show 256 * k.val + 128 + 1 * l.val = _; omega

/-- The words a chunk's widening reads give the target's element. -/
theorem elt_got (r : Fin 64) (k8 k8' : Fin 5120) (k4 k4' : Fin 2560) (ks ks' : Fin 40) (h : ℕ) (h8 : k8 = k8') (h4 : k4 = k4') (hs : ks = ks') :
    (elt (W r) (g8M.view.read (Elt F) G8 (ix2 r k8)) (nibh h (W r) (g4M.view.read (Elt F) G4 (ix2 r k4))) (gsM.view.read (Elt F) GS (ix2 r ks)) : F .bf16)
      = elt (W r) (w8M.view.read (Elt F) F8 (ix2 (⟨(W r).toNat / 4 % 1376, by omega⟩ : Fin 1376) k8'))
          (nibh h (W r) (w4M.view.read (Elt F) F4 (ix2 (⟨((W r).toNat - 5504) / 4 % 5536, by omega⟩ : Fin 5536) k4')))
          (wsM.view.read (Elt F) Fs (ix2 (⟨((W r).toNat - 5504) / 2 % 11072, by omega⟩ : Fin 11072) ks')) := by
  subst h8 h4 hs
  by_cases hr : (W r).toNat < 5504
  · rw [got8_at hB hg r hr]; exact elt_lt _ _ _ _ _ _ (hB r) hr
  · rw [got4_at hB hg r hr, gots_at hB hg r]; exact elt_ge _ _ _ _ _ (hB r) hr

/-- One group of a gathered chunk, widened, is the target's 256 columns. -/
theorem widen_target (m sh : IVec S64x128 32) (hm : ∀ r l, m (ix2 r l) = W r) (hs : ∀ r l, sh (ix2 r l) = shw (W r))
    (k : Fin k0_t2_loop.trips) (r : Fin 64) (col : Fin 256) (kk : Fin 5120) (hkk : kk.val = 256 * k.val + col.val) :
    widen m sh (gsM.view.read (Elt F) GS) k (ld4 g4M G4 k) (ldlo g8M G8 k) (ldhi g8M G8 k) (ix2 r col)
      = (wElt (w8M.view.read (Elt F) F8) (w4M.view.read (Elt F) F4) (wsM.view.read (Elt F) Fs) (W r) kk : F .bf16) := by
  have hk : k.val < 20 := Nat.lt_of_lt_of_le k.isLt k0_t2_abs.2.1
  have hcol := col.isLt
  have hsplit : ∀ (l : Fin 128) (p : ℕ) (hp : 2 * l.val % 128 + p < 128),
      (if l.val < 64 then ldlo g8M G8 k (ix2 r (⟨2 * l.val % 128 + p, hp⟩ : Fin 128)) else ldhi g8M G8 k (ix2 r (⟨2 * l.val % 128 + p, hp⟩ : Fin 128)))
        = g8M.view.read (Elt F) G8 (ix2 r (⟨(256 * k.val + 2 * l.val + p) % 5120, by omega⟩ : Fin 5120)) := fun l p hp => by
    by_cases h : l.val < 64
    · rw [if_pos h, ldlo_at k hk]
      exact congrArg (fun z => g8M.view.read (Elt F) G8 (ix2 r z)) (Fin.ext (by show 256 * k.val + (2 * l.val % 128 + p) = (256 * k.val + 2 * l.val + p) % 5120; omega))
    · rw [if_neg h, ldhi_at k hk]
      have := l.isLt
      exact congrArg (fun z => g8M.view.read (Elt F) G8 (ix2 r z)) (Fin.ext (by show 256 * k.val + 128 + (2 * l.val % 128 + p) = (256 * k.val + 2 * l.val + p) % 5120; omega))
  by_cases hc : col.val < 128
  · have hl : (⟨col.val, hc⟩ : Fin 128).val = col.val := rfl
    have e2 := hsplit ⟨col.val, hc⟩ 0 (by omega)
    have e1 := widen_lo m sh W hm hs (gsM.view.read (Elt F) GS) k (ld4 g4M G4 k) (ldlo g8M G8 k) (ldhi g8M G8 k) r ⟨col.val, hc⟩ col rfl
      ⟨2 * k.val + (if col.val < 64 then 0 else 1), by split <;> omega⟩ rfl
    rw [ld4_at k hk] at e1
    refine e1.trans ?_
    refine (congrArg (fun a => (elt (W r) a _ _ : F .bf16)) e2).trans ?_
    unfold wElt
    have hh : kk.val / 128 % 2 = 0 := by omega
    have hn : ∀ a, nib0 (W r) a = nibh (kk.val / 128 % 2) (W r) a := fun a => by rw [hh]; rfl
    rw [hn]
    refine elt_got hB hg r _ _ _ _ _ _ _ (Fin.ext ?_) (Fin.ext ?_) (Fin.ext ?_)
    · show (256 * k.val + 2 * col.val + 0) % 5120 = 256 * (kk.val / 256) + 2 * (kk.val % 128) + kk.val / 128 % 2; omega
    · show 128 * k.val + col.val = 128 * (kk.val / 256) + kk.val % 128; omega
    · show 2 * k.val + (if col.val < 64 then 0 else 1) = 2 * (kk.val / 256) + kk.val % 128 / 64; split <;> omega
  · have e2 := hsplit ⟨col.val - 128, by omega⟩ 1 (by omega)
    have e1 := widen_hi m sh W hm hs (gsM.view.read (Elt F) GS) k (ld4 g4M G4 k) (ldlo g8M G8 k) (ldhi g8M G8 k) r ⟨col.val - 128, by omega⟩ col (by show col.val = 128 + (col.val - 128); omega)
      ⟨2 * k.val + (if col.val - 128 < 64 then 0 else 1), by split <;> omega⟩ rfl
    rw [ld4_at k hk] at e1
    refine e1.trans ?_
    refine (congrArg (fun a => (elt (W r) a _ _ : F .bf16)) e2).trans ?_
    unfold wElt
    have hh : kk.val / 128 % 2 = 1 := by omega
    have hn : ∀ a, nib1 (W r) a = nibh (kk.val / 128 % 2) (W r) a := fun a => by rw [hh]; rfl
    rw [hn]
    refine elt_got hB hg r _ _ _ _ _ _ _ (Fin.ext ?_) (Fin.ext ?_) (Fin.ext ?_)
    · show (256 * k.val + 2 * (col.val - 128) + 1) % 5120 = 256 * (kk.val / 256) + 2 * (kk.val % 128) + kk.val / 128 % 2; omega
    · show 128 * k.val + (col.val - 128) = 128 * (kk.val / 256) + kk.val % 128; omega
    · show 2 * k.val + (if col.val - 128 < 64 then 0 else 1) = 2 * (kk.val / 256) + kk.val % 128 / 64; split <;> omega

end Row

end Cert.Kernel.Hand

end
-- ==== Proof.K.Meta.lean ====
/-
  One chunk's trip: the gather, then the twenty groups; and the loop over a tile's eight chunks.
-/
module

public import proofs.«01_k».proof.Proof.K.Target

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

variable (i : grid0.Coords)
variable (arg1 : Memref sig .tc .smem S27648 .i32) (harg1 : arg1.IsWhole)
variable (arg2 : Memref sig .tc .vmem S216x128 .i32) (harg2 : arg2.IsWhole)
variable (arg3 : Memref sig .tc .vmem S216x128 .f32) (harg3 : arg3.IsWhole)
variable (arg4 : Memref sig .tc .vmem S3072x128 .f32) (harg4 : arg4.IsWhole)
variable (arg5 : Memref sig .tc .hbm S3072x5120 .bf16) (harg5 : arg5.IsWhole)
variable (harg6 : ((w4M : Memref sig .tc .hbm S5536x2560 .i32)).IsWhole)
variable (harg7 : ((w8M : Memref sig .tc .hbm S1376x5120 .i32)).IsWhole)
variable (harg8 : ((wsM : Memref sig .tc .hbm S11072x40 .i32)).IsWhole)
variable (arg9 : Memref sig .tc .vmem S3072x512 .bf16) (harg9 : arg9.IsWhole)
variable (arg10 : Memref sig .tc .vmem S3072x5120 .bf16) (harg10 : arg10.IsWhole)
variable (arg11 : Memref sig .tc .vmem S512x5120 .bf16) (harg11 : arg11.IsWhole)
variable (harg12 : ((g4M : Memref sig .tc .vmem S64x2560 .i32)).IsWhole)
variable (harg13 : ((g8M : Memref sig .tc .vmem S64x5120 .i32)).IsWhole)
variable (harg14 : ((gsM : Memref sig .tc .vmem S64x40 .i32)).IsWhole)
variable (arg17 : DmaSems sig S_)

/-! ## The lane masks name the chunk's rows -/

theorem off257_eq (t : Fin k0_t1_loop.trips) : k0_off257 i t = ![4 * (i 0).val + t.val / 2, 0] := by
  obtain ⟨a, ha⟩ : ∃ a : Fin 54, (i 0).val = a.val := ⟨⟨(i 0).val, (i 0).isLt⟩, rfl⟩
  unfold k0_off257
  simp only [ha]
  clear ha
  revert a t; decide +kernel

theorem offW_eq (r : Fin 64) (t : Fin k0_t1_loop.trips) : offW r.val i t 0 = 512 * (i 0).val + 64 * t.val + r.val := by
  have h := offW_int r.val r.isLt i t
  have r_i0 : (i 0).val < 54 := (i 0).isLt
  have r_t : t.val < 8 := Nat.lt_of_lt_of_le t.isLt k0_t1_abs.2.1
  exact Affine.nat_eq h (512 * (i 0).val + 64 * t.val + r.val) (by omega)

/-- The row number a word of the table gives is the one its block of 128 gives. -/
def Rel {c : Dev nD} (f1 : Buf (Elt F) (arg1.view.loc (c : Thread nD τ))) (f2 : Buf (Elt F) (arg2.view.loc (c : Thread nD τ))) : Prop :=
  ∀ (n : Fin 27648) (y : S27648.Idx), (y 0).val = n.val →
    arg2.view.read (Elt F) f2 (ix2 (⟨n.val / 128, by omega⟩ : Fin 216) (⟨n.val % 128, by omega⟩ : Fin 128)) = arg1.view.read (Elt F) f1 y

theorem mask_lane (t : Fin k0_t1_loop.trips) (r : Fin 64) (l : Fin 128) :
    (fold (k0_pay13 (Scalar.addi 0#32 (Scalar.muli (Scf.iv 0#32 1#32 t) 1#32)) (ix2 r l))).toNat % 128 = r.val + 64 * (t.val % 2) := by
  show (fold (IntOp.addi (iota .tc S64x128 32 [0] iota_S64x128_d0_w32 (ix2 r l)) (Scalar.muli 64#32 (Scalar.andi (Scalar.addi 0#32 (Scalar.muli (Scf.iv 0#32 1#32 t) 1#32)) 1#32)))).toNat % 128 = _
  rw [iota_single_apply]
  show (fold (IntOp.addi (BitVec.ofNat 32 r.val) (Scalar.muli 64#32 (Scalar.andi (Scalar.addi 0#32 (Scalar.muli (Scf.iv 0#32 1#32 t) 1#32)) 1#32)))).toNat % 128 = _
  revert r t; decide +kernel

variable {c : Dev nD} {f1 : Buf (Elt F) (arg1.view.loc (c : Thread nD τ))} {f2 : Buf (Elt F) (arg2.view.loc (c : Thread nD τ))}

theorem meta_row (hrel : Rel arg1 arg2 f1 f2) (t : Fin k0_t1_loop.trips) (r : Fin 64) (l : Fin 128) :
    (chunkMeta (F := F) i t ((arg2.access (Rect.unit (s := S216x128) (k0_off257 i t) S1x128.size (k0_off257_inb i t))).read (Elt F) f2)).2.1 (ix2 r l)
      = wordAt (c := c) arg1 f1 i t r := by
  have r_i0 : (i 0).val < 54 := (i 0).isLt
  have r_t : t.val < 8 := Nat.lt_of_lt_of_le t.isLt k0_t1_abs.2.1
  have hl : r.val + 64 * (t.val % 2) < 128 := by omega
  unfold chunkMeta
  dsimp only
  unfold k0_pay16
  refine (gather_lane (k0_pay14 _) (fun j => fold (k0_pay13 (Scalar.addi 0#32 (Scalar.muli (Scf.iv 0#32 1#32 t) 1#32)) j)) r l ⟨r.val + 64 * (t.val % 2), hl⟩ (mask_lane t r l)).trans ?_
  unfold k0_pay14
  rw [shapeCast_self, shapeCast_self]
  have e := offW_eq i r t
  refine Eq.trans ?_ (hrel ⟨512 * (i 0).val + 64 * t.val + r.val, by omega⟩ _ ?_)
  · refine congrArg (arg2.view.read (Elt F) f2) (funext fun a => Fin.ext ?_)
    match a with
    | 0 => show k0_off257 i t 0 + 1 * 0 = (512 * (i 0).val + 64 * t.val + r.val) / 128; rw [off257_eq]; show 4 * (i 0).val + t.val / 2 + 1 * 0 = _; omega
    | 1 => show k0_off257 i t 1 + 1 * (r.val + 64 * (t.val % 2)) = (512 * (i 0).val + 64 * t.val + r.val) % 128; rw [off257_eq]; show 0 + 1 * (r.val + 64 * (t.val % 2)) = _; omega
  · show offW r.val i t 0 + 1 * 0 = _
    rw [e]; rfl

theorem meta_shift (hrel : Rel arg1 arg2 f1 f2) (t : Fin k0_t1_loop.trips) (r : Fin 64) (l : Fin 128) :
    (chunkMeta (F := F) i t ((arg2.access (Rect.unit (s := S216x128) (k0_off257 i t) S1x128.size (k0_off257_inb i t))).read (Elt F) f2)).2.2.1 (ix2 r l)
      = shw (wordAt (c := c) arg1 f1 i t r) := by
  rw [← meta_row i arg1 arg2 hrel t r l]; rfl

end Cert.Kernel.Hand

end
-- ==== Proof.K.Chunk.lean ====
/-
  The loop over a chunk's twenty groups, one chunk's trip, and the loop over a tile's eight chunks.
-/
module

public import proofs.«01_k».proof.Proof.K.Meta
public import Idealize.ShloMosaic.Lib.WritesUnit

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

section Groups
variable (i : grid0.Coords)
variable (arg1 : Memref sig .tc .smem S27648 .i32) (harg1 : arg1.IsWhole)
variable (arg2 : Memref sig .tc .vmem S216x128 .i32) (harg2 : arg2.IsWhole)
variable (arg3 : Memref sig .tc .vmem S216x128 .f32) (harg3 : arg3.IsWhole)
variable (arg4 : Memref sig .tc .vmem S3072x128 .f32) (harg4 : arg4.IsWhole)
variable (arg5 : Memref sig .tc .hbm S3072x5120 .bf16) (harg5 : arg5.IsWhole)
variable (arg6 : Memref sig .tc .hbm S5536x2560 .i32) (harg6 : arg6.IsWhole)
variable (arg7 : Memref sig .tc .hbm S1376x5120 .i32) (harg7 : arg7.IsWhole)
variable (arg8 : Memref sig .tc .hbm S11072x40 .i32) (harg8 : arg8.IsWhole)
variable (arg9 : Memref sig .tc .vmem S3072x512 .bf16) (harg9 : arg9.IsWhole)
variable (arg10 : Memref sig .tc .vmem S3072x5120 .bf16) (harg10 : arg10.IsWhole)
variable (arg11 : Memref sig .tc .vmem S512x5120 .bf16) (harg11 : arg11.IsWhole)
variable (arg12 : Memref sig .tc .vmem S64x2560 .i32) (harg12 : arg12.IsWhole)
variable (arg13 : Memref sig .tc .vmem S64x5120 .i32) (harg13 : arg13.IsWhole)
variable (arg14 : Memref sig .tc .vmem S64x40 .i32) (harg14 : arg14.IsWhole)
variable (arg15 arg16 arg17 : DmaSems sig S_)

variable (c : Dev nD) (k0_t1 : Fin k0_t1_loop.trips) (m sh : IVec S64x128 32) (sc : Vec F S64x40 .i32)
  (X4 : BufTy.Contents (Elt F) arg12.view.ty) (X8 : BufTy.Contents (Elt F) arg13.view.ty) (G : S512x5120.Idx → F .bf16)

/-- The tile's first `64 t` rows hold `G`. -/
def RowsDone (t : ℕ) (f : BufTy.Contents (Elt F) arg11.view.ty) : Prop :=
  ∀ y : S512x5120.Idx, (y 0).val < 64 * t → arg11.view.read (Elt F) f y = G y

/-- And the first `256 n` columns of the chunk after them. -/
def ColsDone (t n : ℕ) (f : BufTy.Contents (Elt F) arg11.view.ty) : Prop :=
  ∀ y : S512x5120.Idx, ((y 0).val < 64 * t ∨ ((y 0).val < 64 * t + 64 ∧ (y 1).val < 256 * n)) → arg11.view.read (Elt F) f y = G y

theorem cols_step (k : Fin k0_t2_loop.trips) (w : S64x256.Idx → F .bf16)
    (hG : ∀ (r : Fin 64) (col : Fin 256) (y : S512x5120.Idx), (y 0).val = 64 * k0_t1.val + r.val → (y 1).val = 256 * k.val + col.val → w (ix2 r col) = G y)
    (f : BufTy.Contents (Elt F) arg11.view.ty) (h : ColsDone arg11 G k0_t1.val k.val f) :
    ColsDone arg11 G k0_t1.val (k.val + 1) (arg11.view.writes (Elt F) f
      [⟨Rect.unit (s := S512x5120) (k0_off261 k0_t1 k) S64x256.size (k0_off261_inb k0_t1 k), w⟩]) := by
  intro y hy
  by_cases h0 : 64 * k0_t1.val ≤ (y 0).val ∧ (y 0).val < 64 * k0_t1.val + 64
  · by_cases h1 : 256 * k.val ≤ (y 1).val
    · have b1 : (y 1).val < 256 * k.val + 256 := by omega
      refine (View.read_writes_cons_unit_of_mem arg11.view f (k0_off261_inb k0_t1 k) w [] y
        (ix2 (⟨(y 0).val - 64 * k0_t1.val, by omega⟩ : Fin 64) (⟨(y 1).val - 256 * k.val, by omega⟩ : Fin 256)) (off261_eq k0_t1 k) ?_).trans (hG _ _ y ?_ ?_)
      · refine Fin.forall_fin_two.mpr ⟨?_, ?_⟩
        · show (y 0).val = 64 * k0_t1.val + ((y 0).val - 64 * k0_t1.val); omega
        · show (y 1).val = 256 * k.val + ((y 1).val - 256 * k.val); omega
      · show (y 0).val = 64 * k0_t1.val + ((y 0).val - 64 * k0_t1.val); omega
      · show (y 1).val = 256 * k.val + ((y 1).val - 256 * k.val); omega
    · refine (View.read_writes_cons_unit_of_not_mem arg11.view f (k0_off261_inb k0_t1 k) w [] y (off261_eq k0_t1 k) 1 (.inl ?_)).trans (h y ?_)
      · show (y 1).val < 256 * k.val; omega
      · exact .inr ⟨h0.2, by omega⟩
  · refine (View.read_writes_cons_unit_of_not_mem arg11.view f (k0_off261_inb k0_t1 k) w [] y (off261_eq k0_t1 k) 0 ?_).trans (h y ?_)
    · show (y 0).val < 64 * k0_t1.val ∨ 64 * k0_t1.val + 64 ≤ (y 0).val; omega
    · omega

/-- What the loop over the groups holds. -/
def Inv2 (n : ℕ) (_ : Unit) : sProp 𝕄 :=
  iprop(∃ f', ⌜ColsDone arg11 G k0_t1.val n f'⌝ ∗ Trip2 (F := F) arg11 arg12 arg13 c X4 X8 f')

/-- The loop over the groups. -/
theorem loop2 (hG : ∀ (k : Fin k0_t2_loop.trips) (r : Fin 64) (col : Fin 256) (y : S512x5120.Idx), (y 0).val = 64 * k0_t1.val + r.val → (y 1).val = 256 * k.val + col.val →
      widen m sh sc k (ld4 arg12 X4 k) (ldlo arg13 X8 k) (ldhi arg13 X8 k) (ix2 r col) = G y)
    (f : BufTy.Contents (Elt F) arg11.view.ty) (h : RowsDone arg11 G k0_t1.val f) {R : sProp 𝕄} {β : Type} {kk : Unit → Prog (TpuEff nD τ sig (Elt F) Λ₀ .tc) β} {Q : β → sProp 𝕄}
    (hk : ∀ f', RowsDone arg11 G (k0_t1.val + 1) f' → iprop(Trip2 (F := F) arg11 arg12 arg13 c X4 X8 f' ∗ R) ⊢ wpc c (kk ()) Q) :
    iprop(Trip2 (F := F) arg11 arg12 arg13 c X4 X8 f ∗ R) ⊢ wpc c (Scf.Loop.for k0_t2_loop k0_t2_ok () (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t1 m sh 5504#32 sc) >>= kk) Q := by
  iintro ⟨HT, HR⟩
  have htr : k0_t2_loop.trips = 20 := by decide +kernel
  iapply (Scf.wp_for_bind Idealize.ShloMosaic.frame (wpE (defs₀ (F := F)) Variants.none (c : Thread nD τ) none) Set.univ k0_t2_loop.lb k0_t2_loop.ub k0_t2_loop.st k0_t2_ok () _
    (Inv2 arg11 arg12 arg13 c k0_t1 X4 X8 G) (fun k acc => by
      unfold Inv2
      iintro ⟨%f', %hf, HT⟩
      iapply (wp_wand_r Idealize.ShloMosaic.frame (wpE (defs₀ (F := F)) Variants.none (c : Thread nD τ) none) Set.univ)
      isplitl [HT]
      · iapply (trip2 (F := F) i arg1 harg1 arg2 harg2 arg3 harg3 arg4 harg4 arg5 harg5 arg6 harg6 arg7 harg7 arg8 harg8 arg9 harg9 arg10 harg10 arg11 harg11 arg12 harg12 arg13 harg13 arg14 harg14 arg15 arg16 arg17 c k0_t1 m sh sc X4 X8 k f') $$ HT
      · iintro %_ HT
        iexists _
        isplitr
        · ipureintro
          exact cols_step arg11 k0_t1 G k _ (hG k) f' hf
        · iexact HT)) $$ [HT]
  · unfold Inv2
    iexists f
    isplitr
    · ipureintro
      exact fun y hy => h y (by omega)
    · iexact HT
  · unfold Inv2
    iintro %acc ⟨%f', %hf, HT⟩
    iapply (hk f' (fun y hy => hf y (by
      have h1 : (y 1).val < 5120 := (y 1).isLt
      have : Scf.trips k0_t2_loop.lb k0_t2_loop.ub k0_t2_loop.st = 20 := htr
      rw [this]; omega)))
    isplitl [HT]; · iexact HT
    iexact HR
end Groups

section Chunks
variable (i : grid0.Coords)
variable (arg1 : Memref sig .tc .smem S27648 .i32) (harg1 : arg1.IsWhole)
variable (arg2 : Memref sig .tc .vmem S216x128 .i32) (harg2 : arg2.IsWhole)
variable (arg3 : Memref sig .tc .vmem S216x128 .f32) (harg3 : arg3.IsWhole)
variable (arg4 : Memref sig .tc .vmem S3072x128 .f32) (harg4 : arg4.IsWhole)
variable (arg5 : Memref sig .tc .hbm S3072x5120 .bf16) (harg5 : arg5.IsWhole)
variable (harg6 : ((w4M : Memref sig .tc .hbm S5536x2560 .i32)).IsWhole)
variable (harg7 : ((w8M : Memref sig .tc .hbm S1376x5120 .i32)).IsWhole)
variable (harg8 : ((wsM : Memref sig .tc .hbm S11072x40 .i32)).IsWhole)
variable (arg9 : Memref sig .tc .vmem S3072x512 .bf16) (harg9 : arg9.IsWhole)
variable (arg10 : Memref sig .tc .vmem S3072x5120 .bf16) (harg10 : arg10.IsWhole)
variable (arg11 : Memref sig .tc .vmem S512x5120 .bf16) (harg11 : arg11.IsWhole)
variable (harg12 : ((g4M : Memref sig .tc .vmem S64x2560 .i32)).IsWhole)
variable (harg13 : ((g8M : Memref sig .tc .vmem S64x5120 .i32)).IsWhole)
variable (harg14 : ((gsM : Memref sig .tc .vmem S64x40 .i32)).IsWhole)
variable (arg17 : DmaSems sig S_)

variable {c : Dev nD} (f1 : Buf (Elt F) (arg1.view.loc (c : Thread nD τ))) (q1 : PosShare TreeShare) (f2 : Buf (Elt F) (arg2.view.loc (c : Thread nD τ))) (q2 : PosShare TreeShare)
variable (F8 : Buf (Elt F) (w8M.view.loc (c : Thread nD τ))) (F4 : Buf (Elt F) (w4M.view.loc (c : Thread nD τ))) (Fs : Buf (Elt F) (wsM.view.loc (c : Thread nD τ)))

/-- The weight tile of a grid point. -/
def tile : S512x5120.Idx → F .bf16 := fun y =>
  wElt (w8M.view.read (Elt F) F8) (w4M.view.read (Elt F) F4) (wsM.view.read (Elt F) Fs)
    (wordAt (c := c) arg1 f1 i ⟨(y 0).val / 64 % 8, by have : k0_t1_loop.trips = 8 := by decide +kernel
                                                       omega⟩ ⟨(y 0).val % 64, by omega⟩) ⟨(y 1).val, (y 1).isLt⟩

theorem tile_apply (t : Fin k0_t1_loop.trips) (r : Fin 64) (y : S512x5120.Idx) (h0 : (y 0).val = 64 * t.val + r.val) :
    tile i arg1 f1 F8 F4 Fs y = wElt (w8M.view.read (Elt F) F8) (w4M.view.read (Elt F) F4) (wsM.view.read (Elt F) Fs) (wordAt (c := c) arg1 f1 i t r) ⟨(y 1).val, (y 1).isLt⟩ := by
  have r_t : t.val < 8 := Nat.lt_of_lt_of_le t.isLt k0_t1_abs.2.1
  unfold tile
  refine congrArg (fun w => wElt _ _ _ w _) (congr (congrArg (wordAt (c := c) arg1 f1 i) (Fin.ext ?_)) (Fin.ext ?_))
  · show (y 0).val / 64 % 8 = t.val; omega
  · show (y 0).val % 64 = r.val; omega

/-- What the loop over the chunks holds. -/
def Inv1 (n : ℕ) : sProp 𝕄 :=
  iprop(∃ f8 f4 fs fw, ⌜RowsDone arg11 (tile i arg1 f1 F8 F4 Fs) n fw⌝ ∗ Bufs c f8 f4 fs ∗ Hold c arg1 arg2 f1 q1 f2 q2 F8 F4 Fs
    ∗ (arg11.view.loc (c : Thread nD τ) ↦[arg11.view.set]{fullShare} fw))

theorem trip1 (hB : ∀ t r, (wordAt (c := c) arg1 f1 i t r).toNat < 27648) (hrel : Rel arg1 arg2 f1 f2) (t : Fin k0_t1_loop.trips) :
    Inv1 i arg1 arg2 arg11 f1 q1 f2 q2 F8 F4 Fs t.val
      ⊢ wpc c (k0_t1_body (F := F) i arg1 harg1 arg2 harg2 arg3 harg3 arg4 harg4 arg5 harg5 w4M harg6 w8M harg7 wsM harg8 arg9 harg9 arg10 harg10 arg11 harg11 g4M harg12 g8M harg13 gsM harg14 cc0_scratch5 cc0_scratch6 arg17 (BitVec.ofNat 32 (i 0).val) t ()) (fun _ => Inv1 i arg1 arg2 arg11 f1 q1 f2 q2 F8 F4 Fs (t.val + 1)) := by
  have r_t : t.val < 8 := Nat.lt_of_lt_of_le t.isLt k0_t1_abs.2.1
  unfold Inv1 k0_t1_body
  iintro ⟨%f8, %f4, %fs, %fw, %hfw, HB, HH, HW⟩
  iapply (st_bind (c := c) (X := iprop(Bufs c f8 f4 fs ∗ Hold c arg1 arg2 f1 q1 f2 q2 F8 F4 Fs ∗ (arg11.view.loc (c : Thread nD τ) ↦[arg11.view.set]{fullShare} fw))) (fun Q' hQ' =>
    gather (c := c) (W := fun r => wordAt (c := c) arg1 f1 i t r) (hW := fun r => chk_of _ (hB t r)) (F8 := F8) (F4 := F4) (Fs := Fs) i arg1 harg1 arg2 harg2 arg3 harg3 arg4 harg4 arg5 harg5 harg6 harg7 harg8 arg9 harg9 arg10 harg10 arg11 harg11 harg12 harg13 harg14 t arg17 f1 q1 f2 q2 (fun r => rfl) f8 f4 fs
      (fun G8 G4 GS hg => by
        subst hQ'
        unfold Bufs
        have hsc : (gsM.access (Rect.unit (s := S64x40) ![0, 0] S64x40.size inb_S64x40_S64x40_0_0)).read (Elt F) GS = gsM.view.read (Elt F) GS := by
          funext j
          refine congrArg (gsM.view.read (Elt F) GS) (funext fun a => Fin.ext ?_)
          match a with
          | 0 => show 0 + 1 * (j 0).val = (j 0).val; omega
          | 1 => show 0 + 1 * (j 1).val = (j 1).val; omega
        have s4 : (g4M : Memref sig .tc _ _ _).view.set = Finset.univ := View.set_whole _
        have s8 : (g8M : Memref sig .tc _ _ _).view.set = Finset.univ := View.set_whole _
        iintro ⟨⟨H8, H4, Hs⟩, HH, HW⟩
        iapply (wp_load_rect Variants.none (c : Thread nD τ) none Set.univ (m := gsM) (r := Rect.unit (s := S64x40) ![0, 0] S64x40.size inb_S64x40_S64x40_0_0)
          (S := Finset.univ) (f := GS) (q := fullShare) (Finset.subset_univ _)) $$ Hs
        iintro Hs
        rw [hsc]
        iapply (loop2 (F := F) i arg1 harg1 arg2 harg2 arg3 harg3 arg4 harg4 arg5 harg5 w4M harg6 w8M harg7 wsM harg8 arg9 harg9 arg10 harg10 arg11 harg11 g4M harg12 g8M harg13 gsM harg14 cc0_scratch5 cc0_scratch6 arg17 c t _ _ (gsM.view.read (Elt F) GS) G4 G8 (tile i arg1 f1 F8 F4 Fs)
          (fun k r col y h0 h1 => by
            have hk : k.val < 20 := Nat.lt_of_lt_of_le k.isLt k0_t2_abs.2.1
            refine (widen_target (W := fun r => wordAt (c := c) arg1 f1 i t r) (fun r => hB t r) hg _ _ (meta_row i arg1 arg2 hrel t) (meta_shift i arg1 arg2 hrel t) k r col ⟨(y 1).val, (y 1).isLt⟩ h1).trans ?_
            exact (tile_apply i arg1 f1 F8 F4 Fs t r y h0).symm)
          fw hfw (R := iprop((gsM.view.loc (c : Thread nD τ) ↦[Finset.univ]{fullShare} GS) ∗ Hold c arg1 arg2 f1 q1 f2 q2 F8 F4 Fs)) (fun f' hf' => by
            refine BIBase.Entails.trans ?_ (st_pure (c := c) BIBase.Entails.rfl)
            iintro ⟨⟨H4, H8, HW⟩, Hs, HH⟩
            iexists G8; iexists G4; iexists GS; iexists f'
            isplitr
            · ipureintro; exact hf'
            isplitl [H8 H4 Hs]
            · isplitl [H8]; · rw [← s8]; iexact H8
              isplitl [H4]; · rw [← s4]; iexact H4
              iexact Hs
            isplitl [HH]; · iexact HH
            iexact HW))
        isplitl [H4 H8 HW]
        · isplitl [H4]; · rw [s4]; iexact H4
          isplitl [H8]; · rw [s8]; iexact H8
          iexact HW
        isplitl [Hs]; · iexact Hs
        iexact HH)))
  isplitl [HB]; · iexact HB
  isplitl [HH]; · iexact HH
  iexact HW

end Chunks

end Cert.Kernel.Hand

end
-- ==== Proof.K.Mat.lean ====
/-
  The loop over the output tile's twelve row blocks: the product of a block of codes with the weight tile, scaled and rounded.
-/
module

public import proofs.«01_k».proof.Proof.K.Chunk

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

variable (i : grid0.Coords)
variable (arg1 : Memref sig .tc .smem S27648 .i32) (harg1 : arg1.IsWhole)
variable (arg2 : Memref sig .tc .vmem S216x128 .i32) (harg2 : arg2.IsWhole)
variable (arg3 : Memref sig .tc .vmem S216x128 .f32) (harg3 : arg3.IsWhole)
variable (arg4 : Memref sig .tc .vmem S3072x128 .f32) (harg4 : arg4.IsWhole)
variable (arg5 : Memref sig .tc .hbm S3072x5120 .bf16) (harg5 : arg5.IsWhole)
variable (arg6 : Memref sig .tc .hbm S5536x2560 .i32) (harg6 : arg6.IsWhole)
variable (arg7 : Memref sig .tc .hbm S1376x5120 .i32) (harg7 : arg7.IsWhole)
variable (arg8 : Memref sig .tc .hbm S11072x40 .i32) (harg8 : arg8.IsWhole)
variable (arg9 : Memref sig .tc .vmem S3072x512 .bf16) (harg9 : arg9.IsWhole)
variable (arg10 : Memref sig .tc .vmem S3072x5120 .bf16) (harg10 : arg10.IsWhole)
variable (arg11 : Memref sig .tc .vmem S512x5120 .bf16) (harg11 : arg11.IsWhole)
variable (arg12 : Memref sig .tc .vmem S64x2560 .i32) (harg12 : arg12.IsWhole)
variable (arg13 : Memref sig .tc .vmem S64x5120 .i32) (harg13 : arg13.IsWhole)
variable (arg14 : Memref sig .tc .vmem S64x40 .i32) (harg14 : arg14.IsWhole)
variable (arg15 arg16 arg17 : DmaSems sig S_)

theorem off262_eq (t : Fin k0_t3_loop.trips) : k0_off262 t = ![256 * t.val, 0] := by revert t; decide +kernel
theorem off263_eq (t : Fin k0_t3_loop.trips) : k0_off263 t = ![256 * t.val, 0] := by revert t; decide +kernel
theorem off265_eq (t : Fin k0_t3_loop.trips) : k0_off265 t = ![256 * t.val, 0] := by revert t; decide +kernel
theorem off266_eq (t : Fin k0_t3_loop.trips) : k0_off266 t = ![256 * t.val, 128] := by revert t; decide +kernel
theorem off267_eq (t : Fin k0_t3_loop.trips) : k0_off267 t = ![256 * t.val, 256] := by revert t; decide +kernel
theorem off268_eq (t : Fin k0_t3_loop.trips) : k0_off268 t = ![256 * t.val, 384] := by revert t; decide +kernel
theorem off264_eq (q : Fin 4) : k0_off264 i (BitVec.ofNat 32 q.val) = ![4 * (i 0).val + q.val, 0] := by
  obtain ⟨a, ha⟩ : ∃ a : Fin 54, (i 0).val = a.val := ⟨⟨(i 0).val, (i 0).isLt⟩, rfl⟩
  unfold k0_off264
  simp only [ha]
  clear ha
  revert a q; decide +kernel

/-- One output element from an accumulator's, a row scale and a column scale. -/
def cell (a x v : F .f32) : F .bf16 := FloatOps.truncf .bf16 bitsLt_bf16_f32 (FloatOps.mulf (FloatOps.mulf a x) v)

theorem bcast_at (v : FVec F S1x128 .f32) (r : Fin 256) (l : Fin 128) : broadcastTo S256x128 v broadcasts_S1x128_S256x128 (ix2 r l) = v (ix2 (0 : Fin 1) l) := by
  pointwise []

theorem pay20_at (v10 : Vec F S256x5120 .bf16) (v11 : Vec F S512x5120 .bf16) (v16 : Vec F S256x128 .f32) (v : Vec F S1x128 .f32) (r : Fin 256) (l : Fin 128) (cc : Fin 512) (hc : cc.val = 0 + l.val) :
    k0_pay20 v10 v11 v16 v (ix2 r l) = cell (k0_pay18 v10 v11 (ix2 r cc)) (v16 (ix2 r l)) (v (ix2 (0 : Fin 1) l)) := by
  unfold k0_pay20 k0_pay19
  try dsimp only
  rw [shapeCast_self, shapeCast_self]
  rw [← bcast_at v r l]
  refine congrArg (fun a => cell a (v16 (ix2 r l)) (broadcastTo S256x128 v broadcasts_S1x128_S256x128 (ix2 r l))) (congrArg (k0_pay18 v10 v11) (funext fun b => Fin.ext ?_))
  match b with
  | 0 => show 0 + r.val = r.val; omega
  | 1 => show 0 + l.val = cc.val; omega

theorem pay21_at (v10 : Vec F S256x5120 .bf16) (v11 : Vec F S512x5120 .bf16) (v16 : Vec F S256x128 .f32) (v : Vec F S1x128 .f32) (r : Fin 256) (l : Fin 128) (cc : Fin 512) (hc : cc.val = 128 + l.val) :
    k0_pay21 v10 v11 v16 v (ix2 r l) = cell (k0_pay18 v10 v11 (ix2 r cc)) (v16 (ix2 r l)) (v (ix2 (0 : Fin 1) l)) := by
  unfold k0_pay21 k0_pay19
  try dsimp only
  rw [shapeCast_self, shapeCast_self]
  rw [← bcast_at v r l]
  refine congrArg (fun a => cell a (v16 (ix2 r l)) (broadcastTo S256x128 v broadcasts_S1x128_S256x128 (ix2 r l))) (congrArg (k0_pay18 v10 v11) (funext fun b => Fin.ext ?_))
  match b with
  | 0 => show 0 + r.val = r.val; omega
  | 1 => show 128 + l.val = cc.val; omega

theorem pay4_at (v12 : FVec F S256x512 .f32) (v17 : FVec F S256x128 .f32) (v : Vec F S1x128 .f32) (r : Fin 256) (l : Fin 128) (cc : Fin 512) (hc : cc.val = 256 + l.val) :
    k0_pay4 v12 v17 v (ix2 r l) = cell (v12 (ix2 r cc)) (v17 (ix2 r l)) (v (ix2 (0 : Fin 1) l)) := by
  unfold k0_pay4
  try dsimp only
  rw [shapeCast_self]
  rw [← bcast_at v r l]
  refine congrArg (fun a => cell a (v17 (ix2 r l)) (broadcastTo S256x128 v broadcasts_S1x128_S256x128 (ix2 r l))) (congrArg (v12) (funext fun b => Fin.ext ?_))
  match b with
  | 0 => show 0 + r.val = r.val; omega
  | 1 => show 256 + l.val = cc.val; omega

theorem pay5_at (v12 : FVec F S256x512 .f32) (v17 : FVec F S256x128 .f32) (v : Vec F S1x128 .f32) (r : Fin 256) (l : Fin 128) (cc : Fin 512) (hc : cc.val = 384 + l.val) :
    k0_pay5 v12 v17 v (ix2 r l) = cell (v12 (ix2 r cc)) (v17 (ix2 r l)) (v (ix2 (0 : Fin 1) l)) := by
  unfold k0_pay5
  try dsimp only
  rw [shapeCast_self]
  rw [← bcast_at v r l]
  refine congrArg (fun a => cell a (v17 (ix2 r l)) (broadcastTo S256x128 v broadcasts_S1x128_S256x128 (ix2 r l))) (congrArg (v12) (funext fun b => Fin.ext ?_))
  match b with
  | 0 => show 0 + r.val = r.val; omega
  | 1 => show 384 + l.val = cc.val; omega

/-- A block of 256 rows. -/
def xblk (X : S3072x5120.Idx → F .bf16) (t : ℕ) : Vec F S256x5120 .bf16 := fun z => X (ix2 (⟨(256 * t + (z 0).val) % 3072, by omega⟩ : Fin 3072) (⟨(z 1).val, (z 1).isLt⟩ : Fin 5120))

/-- The output tile of a grid point, element by element. -/
def out (X : S3072x5120.Idx → F .bf16) (T : S512x5120.Idx → F .bf16) (Xs : S3072x128.Idx → F .f32) (Sv : S216x128.Idx → F .f32) : S3072x512.Idx → F .bf16 := fun y =>
  cell (k0_pay18 (xblk X ((y 0).val / 256)) T (ix2 (⟨(y 0).val % 256, by omega⟩ : Fin 256) (⟨(y 1).val, (y 1).isLt⟩ : Fin 512)))
    (Xs (ix2 (⟨(y 0).val, (y 0).isLt⟩ : Fin 3072) (⟨(y 1).val % 128, by omega⟩ : Fin 128)))
    (Sv (ix2 (⟨(4 * (i 0).val + (y 1).val / 128) % 216, by omega⟩ : Fin 216) (⟨(y 1).val % 128, by omega⟩ : Fin 128)))

variable (c : Dev nD) (X : BufTy.Contents (Elt F) arg10.view.ty) (T : BufTy.Contents (Elt F) arg11.view.ty)
  (Xs : BufTy.Contents (Elt F) arg4.view.ty) (q4 : PosShare TreeShare) (Sv : BufTy.Contents (Elt F) arg3.view.ty) (q3 : PosShare TreeShare)

/-- The blocks a trip loads. -/
def ldx (t : Fin k0_t3_loop.trips) : Vec F S256x5120 .bf16 := (arg10.access (Rect.unit (s := S3072x5120) (k0_off262 t) S256x5120.size (k0_off262_inb t))).read (Elt F) X
def ldw : Vec F S512x5120 .bf16 := (arg11.access (Rect.unit (s := S512x5120) ![0, 0] S512x5120.size inb_S512x5120_S512x5120_0_0)).read (Elt F) T
def lds (t : Fin k0_t3_loop.trips) : Vec F S256x128 .f32 := (arg4.access (Rect.unit (s := S3072x128) (k0_off263 t) S256x128.size (k0_off263_inb t))).read (Elt F) Xs
def ldv (q : Fin 4) : Vec F S1x128 .f32 := (arg3.access (Rect.unit (s := S216x128) (k0_off264 i (BitVec.ofNat 32 q.val)) S1x128.size (k0_off264_inb i q))).read (Elt F) Sv

/-- The four stores of a trip, last first. -/
def pieces3 (t : Fin k0_t3_loop.trips) : List (View.Piece (Elt F) S3072x512 .bf16) :=
  [⟨Rect.unit (s := S3072x512) (k0_off268 t) S256x128.size (k0_off268_inb t), k0_pay5 (k0_pay18 (ldx arg10 X t) (ldw arg11 T)) (k0_pay19 (lds arg4 Xs t)) (ldv i arg3 Sv 3)⟩,
   ⟨Rect.unit (s := S3072x512) (k0_off267 t) S256x128.size (k0_off267_inb t), k0_pay4 (k0_pay18 (ldx arg10 X t) (ldw arg11 T)) (k0_pay19 (lds arg4 Xs t)) (ldv i arg3 Sv 2)⟩,
   ⟨Rect.unit (s := S3072x512) (k0_off266 t) S256x128.size (k0_off266_inb t), k0_pay21 (ldx arg10 X t) (ldw arg11 T) (lds arg4 Xs t) (ldv i arg3 Sv 1)⟩,
   ⟨Rect.unit (s := S3072x512) (k0_off265 t) S256x128.size (k0_off265_inb t), k0_pay20 (ldx arg10 X t) (ldw arg11 T) (lds arg4 Xs t) (ldv i arg3 Sv 0)⟩]

abbrev Trip3 (f : BufTy.Contents (Elt F) arg9.view.ty) : sProp 𝕄 :=
  iprop((arg10.view.loc (c : Thread nD τ) ↦[arg10.view.set]{fullShare} X) ∗ (arg11.view.loc (c : Thread nD τ) ↦[arg11.view.set]{fullShare} T)
    ∗ (arg4.view.loc (c : Thread nD τ) ↦[arg4.view.set]{q4} Xs) ∗ (arg3.view.loc (c : Thread nD τ) ↦[arg3.view.set]{q3} Sv)
    ∗ (arg9.view.loc (c : Thread nD τ) ↦[arg9.view.set]{fullShare} f))

theorem trip3 (k : Fin k0_t3_loop.trips) (f : BufTy.Contents (Elt F) arg9.view.ty) :
    Trip3 (F := F) arg3 arg4 arg9 arg10 arg11 c X T Xs q4 Sv q3 f ⊢ wpc c (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 arg16 arg17 (BitVec.ofNat 32 (i 0).val) k ())
      (fun _ => Trip3 (F := F) arg3 arg4 arg9 arg10 arg11 c X T Xs q4 Sv q3 (arg9.view.writes (Elt F) f (pieces3 i arg3 arg4 arg10 arg11 X T Xs Sv k))) := by
  have hk : k.val < 12 := Nat.lt_of_lt_of_le k.isLt k0_t3_abs.2.1
  unfold k0_t3_body wpc
  iintro ⟨H10, H11, H4, H3, H9⟩
  sl_exec
  sl_step
  isplitl [H10]; · iexact H10
  isplitl [H11]; · iexact H11
  isplitl [H4]; · iexact H4
  isplitl [H3]; · iexact H3
  iexact H9

theorem ldx_eq (t : Fin k0_t3_loop.trips) : ldx arg10 X t = xblk (arg10.view.read (Elt F) X) t.val := by
  have hk : t.val < 12 := Nat.lt_of_lt_of_le t.isLt k0_t3_abs.2.1
  funext z
  have h0 : (z 0).val < 256 := (z 0).isLt
  refine congrArg (arg10.view.read (Elt F) X) (funext fun a => Fin.ext ?_)
  match a with
  | 0 => show k0_off262 t 0 + 1 * (z 0).val = (256 * t.val + (z 0).val) % 3072; rw [off262_eq]; show 256 * t.val + 1 * (z 0).val = _; omega
  | 1 => show k0_off262 t 1 + 1 * (z 1).val = (z 1).val; rw [off262_eq]; show 0 + 1 * (z 1).val = _; omega
theorem ldw_eq : ldw arg11 T = arg11.view.read (Elt F) T := by
  funext z
  refine congrArg (arg11.view.read (Elt F) T) (funext fun a => Fin.ext ?_)
  match a with
  | 0 => show 0 + 1 * (z 0).val = (z 0).val; omega
  | 1 => show 0 + 1 * (z 1).val = (z 1).val; omega
theorem lds_at (t : Fin k0_t3_loop.trips) (r : Fin 256) (l : Fin 128) (rr : Fin 3072) (h : rr.val = 256 * t.val + r.val) : lds arg4 Xs t (ix2 r l) = arg4.view.read (Elt F) Xs (ix2 rr l) := by
  refine congrArg (arg4.view.read (Elt F) Xs) (funext fun a => Fin.ext ?_)
  match a with
  | 0 => show k0_off263 t 0 + 1 * r.val = rr.val; rw [off263_eq]; show 256 * t.val + 1 * r.val = _; omega
  | 1 => show k0_off263 t 1 + 1 * l.val = l.val; rw [off263_eq]; show 0 + 1 * l.val = _; omega
theorem ldv_at (q : Fin 4) (l : Fin 128) (rr : Fin 216) (h : rr.val = 4 * (i 0).val + q.val) : ldv i arg3 Sv q (ix2 (0 : Fin 1) l) = arg3.view.read (Elt F) Sv (ix2 rr l) := by
  refine congrArg (arg3.view.read (Elt F) Sv) (funext fun a => Fin.ext ?_)
  match a with
  | 0 => show k0_off264 i (BitVec.ofNat 32 q.val) 0 + 1 * 0 = rr.val; rw [off264_eq]; show 4 * (i 0).val + q.val + 1 * 0 = _; omega
  | 1 => show k0_off264 i (BitVec.ofNat 32 q.val) 1 + 1 * l.val = l.val; rw [off264_eq]; show 0 + 1 * l.val = _; omega

/-- The element a trip leaves at column block `q`. -/
theorem out_at (t : Fin k0_t3_loop.trips) (q : Fin 4) (y : S3072x512.Idx) (r : Fin 256) (l : Fin 128) (h0 : (y 0).val = 256 * t.val + r.val) (h1 : (y 1).val = 128 * q.val + l.val)
    (cc : Fin 512) (hc : cc.val = 128 * q.val + l.val) :
    cell (k0_pay18 (ldx arg10 X t) (ldw arg11 T) (ix2 r cc)) (lds arg4 Xs t (ix2 r l)) (ldv i arg3 Sv q (ix2 (0 : Fin 1) l))
      = out i (arg10.view.read (Elt F) X) (arg11.view.read (Elt F) T) (arg4.view.read (Elt F) Xs) (arg3.view.read (Elt F) Sv) y := by
  have hk : t.val < 12 := Nat.lt_of_lt_of_le t.isLt k0_t3_abs.2.1
  have r_i0 : (i 0).val < 54 := (i 0).isLt
  rw [ldx_eq, ldw_eq, lds_at arg4 Xs t r l ⟨256 * t.val + r.val, by omega⟩ rfl, ldv_at i arg3 Sv q l ⟨4 * (i 0).val + q.val, by omega⟩ rfl]
  unfold out
  refine congr (congr (congrArg cell ?_) ?_) ?_
  · have e : (y 0).val / 256 = t.val := by omega
    rw [e]
    refine congrArg (k0_pay18 _ _) ?_
    refine congr (congrArg ix2 (Fin.ext ?_)) (Fin.ext ?_)
    · show r.val = (y 0).val % 256; omega
    · show cc.val = (y 1).val; omega
  · refine congrArg _ (congr (congrArg ix2 (Fin.ext ?_)) (Fin.ext ?_))
    · show 256 * t.val + r.val = (y 0).val; omega
    · show l.val = (y 1).val % 128; omega
  · refine congrArg _ (congr (congrArg ix2 (Fin.ext ?_)) (Fin.ext ?_))
    · show 4 * (i 0).val + q.val = (4 * (i 0).val + (y 1).val / 128) % 216; omega
    · show l.val = (y 1).val % 128; omega

/-- The tile's first `256 t` rows hold `G`. -/
def OutDone (G : S3072x512.Idx → F .bf16) (t : ℕ) (f : BufTy.Contents (Elt F) arg9.view.ty) : Prop :=
  ∀ y : S3072x512.Idx, (y 0).val < 256 * t → arg9.view.read (Elt F) f y = G y

theorem out_step (k : Fin k0_t3_loop.trips) (f : BufTy.Contents (Elt F) arg9.view.ty)
    (h : OutDone arg9 (out i (arg10.view.read (Elt F) X) (arg11.view.read (Elt F) T) (arg4.view.read (Elt F) Xs) (arg3.view.read (Elt F) Sv)) k.val f) :
    OutDone arg9 (out i (arg10.view.read (Elt F) X) (arg11.view.read (Elt F) T) (arg4.view.read (Elt F) Xs) (arg3.view.read (Elt F) Sv)) (k.val + 1)
      (arg9.view.writes (Elt F) f (pieces3 i arg3 arg4 arg10 arg11 X T Xs Sv k)) := by
  have hk : k.val < 12 := Nat.lt_of_lt_of_le k.isLt k0_t3_abs.2.1
  intro y hy
  have b1 : (y 1).val < 512 := (y 1).isLt
  unfold pieces3
  by_cases h0 : 256 * k.val ≤ (y 0).val
  · have hr : (y 0).val - 256 * k.val < 256 := by omega
    have hl : (y 1).val % 128 < 128 := by omega
    by_cases c3 : 384 ≤ (y 1).val
    · refine (View.read_writes_cons_unit_of_mem arg9.view f (k0_off268_inb k) _ _ y
        (ix2 (⟨(y 0).val - 256 * k.val, hr⟩ : Fin 256) (⟨(y 1).val % 128, hl⟩ : Fin 128)) (off268_eq k) ?_).trans ?_
      · refine Fin.forall_fin_two.mpr ⟨?_, ?_⟩
        · show (y 0).val = 256 * k.val + ((y 0).val - 256 * k.val); omega
        · show (y 1).val = 384 + (y 1).val % 128; omega
      · refine (pay5_at (k0_pay18 (ldx arg10 X k) (ldw arg11 T)) (k0_pay19 (lds arg4 Xs k)) (ldv i arg3 Sv 3) _ _ ⟨(y 1).val, b1⟩ (by show (y 1).val = 384 + (y 1).val % 128; omega)).trans ?_
        unfold k0_pay19; rw [shapeCast_self]
        exact out_at i arg3 arg4 arg10 arg11 X T Xs Sv k 3 y _ _ (by show (y 0).val = 256 * k.val + ((y 0).val - 256 * k.val); omega) (by show (y 1).val = 128 * 3 + (y 1).val % 128; omega) _ (by show (y 1).val = 128 * 3 + (y 1).val % 128; omega)
    refine (View.read_writes_cons_unit_of_not_mem arg9.view f (k0_off268_inb k) _ _ y (off268_eq k) 1 (.inl (by show (y 1).val < 384; omega))).trans ?_
    by_cases c2 : 256 ≤ (y 1).val
    · refine (View.read_writes_cons_unit_of_mem arg9.view f (k0_off267_inb k) _ _ y
        (ix2 (⟨(y 0).val - 256 * k.val, hr⟩ : Fin 256) (⟨(y 1).val % 128, hl⟩ : Fin 128)) (off267_eq k) ?_).trans ?_
      · refine Fin.forall_fin_two.mpr ⟨?_, ?_⟩
        · show (y 0).val = 256 * k.val + ((y 0).val - 256 * k.val); omega
        · show (y 1).val = 256 + (y 1).val % 128; omega
      · refine (pay4_at (k0_pay18 (ldx arg10 X k) (ldw arg11 T)) (k0_pay19 (lds arg4 Xs k)) (ldv i arg3 Sv 2) _ _ ⟨(y 1).val, b1⟩ (by show (y 1).val = 256 + (y 1).val % 128; omega)).trans ?_
        unfold k0_pay19; rw [shapeCast_self]
        exact out_at i arg3 arg4 arg10 arg11 X T Xs Sv k 2 y _ _ (by show (y 0).val = 256 * k.val + ((y 0).val - 256 * k.val); omega) (by show (y 1).val = 128 * 2 + (y 1).val % 128; omega) _ (by show (y 1).val = 128 * 2 + (y 1).val % 128; omega)
    refine (View.read_writes_cons_unit_of_not_mem arg9.view f (k0_off267_inb k) _ _ y (off267_eq k) 1 (.inl (by show (y 1).val < 256; omega))).trans ?_
    by_cases c1 : 128 ≤ (y 1).val
    · refine (View.read_writes_cons_unit_of_mem arg9.view f (k0_off266_inb k) _ _ y
        (ix2 (⟨(y 0).val - 256 * k.val, hr⟩ : Fin 256) (⟨(y 1).val % 128, hl⟩ : Fin 128)) (off266_eq k) ?_).trans ?_
      · refine Fin.forall_fin_two.mpr ⟨?_, ?_⟩
        · show (y 0).val = 256 * k.val + ((y 0).val - 256 * k.val); omega
        · show (y 1).val = 128 + (y 1).val % 128; omega
      · refine (pay21_at (ldx arg10 X k) (ldw arg11 T) (lds arg4 Xs k) (ldv i arg3 Sv 1) _ _ ⟨(y 1).val, b1⟩ (by show (y 1).val = 128 + (y 1).val % 128; omega)).trans ?_
        skip
        exact out_at i arg3 arg4 arg10 arg11 X T Xs Sv k 1 y _ _ (by show (y 0).val = 256 * k.val + ((y 0).val - 256 * k.val); omega) (by show (y 1).val = 128 * 1 + (y 1).val % 128; omega) _ (by show (y 1).val = 128 * 1 + (y 1).val % 128; omega)
    refine (View.read_writes_cons_unit_of_not_mem arg9.view f (k0_off266_inb k) _ _ y (off266_eq k) 1 (.inl (by show (y 1).val < 128; omega))).trans ?_
    by_cases c0 : 0 ≤ (y 1).val
    · refine (View.read_writes_cons_unit_of_mem arg9.view f (k0_off265_inb k) _ _ y
        (ix2 (⟨(y 0).val - 256 * k.val, hr⟩ : Fin 256) (⟨(y 1).val % 128, hl⟩ : Fin 128)) (off265_eq k) ?_).trans ?_
      · refine Fin.forall_fin_two.mpr ⟨?_, ?_⟩
        · show (y 0).val = 256 * k.val + ((y 0).val - 256 * k.val); omega
        · show (y 1).val = 0 + (y 1).val % 128; omega
      · refine (pay20_at (ldx arg10 X k) (ldw arg11 T) (lds arg4 Xs k) (ldv i arg3 Sv 0) _ _ ⟨(y 1).val, b1⟩ (by show (y 1).val = 0 + (y 1).val % 128; omega)).trans ?_
        skip
        exact out_at i arg3 arg4 arg10 arg11 X T Xs Sv k 0 y _ _ (by show (y 0).val = 256 * k.val + ((y 0).val - 256 * k.val); omega) (by show (y 1).val = 128 * 0 + (y 1).val % 128; omega) _ (by show (y 1).val = 128 * 0 + (y 1).val % 128; omega)
    exact absurd (Nat.zero_le _) c0
  · refine Eq.trans ?_ (h y (by omega))
    refine (View.read_writes_cons_unit_of_not_mem arg9.view f (k0_off268_inb k) _ _ y (off268_eq k) 0 (.inl (by show (y 0).val < 256 * k.val; omega))).trans ?_
    refine (View.read_writes_cons_unit_of_not_mem arg9.view f (k0_off267_inb k) _ _ y (off267_eq k) 0 (.inl (by show (y 0).val < 256 * k.val; omega))).trans ?_
    refine (View.read_writes_cons_unit_of_not_mem arg9.view f (k0_off266_inb k) _ _ y (off266_eq k) 0 (.inl (by show (y 0).val < 256 * k.val; omega))).trans ?_
    refine (View.read_writes_cons_unit_of_not_mem arg9.view f (k0_off265_inb k) _ _ y (off265_eq k) 0 (.inl (by show (y 0).val < 256 * k.val; omega))).trans ?_
    rfl

/-- What the loop over the row blocks holds. -/
def Inv3 (n : ℕ) (_ : Unit) : sProp 𝕄 :=
  iprop(∃ f, ⌜OutDone arg9 (out i (arg10.view.read (Elt F) X) (arg11.view.read (Elt F) T) (arg4.view.read (Elt F) Xs) (arg3.view.read (Elt F) Sv)) n f⌝
    ∗ Trip3 (F := F) arg3 arg4 arg9 arg10 arg11 c X T Xs q4 Sv q3 f)

theorem loop3 (f : BufTy.Contents (Elt F) arg9.view.ty) {R : sProp 𝕄} {β : Type} {kk : Unit → Prog (TpuEff nD τ sig (Elt F) Λ₀ .tc) β} {Q : β → sProp 𝕄}
    (hk : ∀ f', arg9.view.read (Elt F) f' = out i (arg10.view.read (Elt F) X) (arg11.view.read (Elt F) T) (arg4.view.read (Elt F) Xs) (arg3.view.read (Elt F) Sv) →
      iprop(Trip3 (F := F) arg3 arg4 arg9 arg10 arg11 c X T Xs q4 Sv q3 f' ∗ R) ⊢ wpc c (kk ()) Q) :
    iprop(Trip3 (F := F) arg3 arg4 arg9 arg10 arg11 c X T Xs q4 Sv q3 f ∗ R) ⊢ wpc c (Scf.Loop.for k0_t3_loop k0_t3_ok () (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 arg16 arg17 (BitVec.ofNat 32 (i 0).val)) >>= kk) Q := by
  iintro ⟨HT, HR⟩
  have htr : k0_t3_loop.trips = 12 := by decide +kernel
  iapply (Scf.wp_for_bind Idealize.ShloMosaic.frame (wpE (defs₀ (F := F)) Variants.none (c : Thread nD τ) none) Set.univ k0_t3_loop.lb k0_t3_loop.ub k0_t3_loop.st k0_t3_ok () _
    (Inv3 i arg3 arg4 arg9 arg10 arg11 c X T Xs q4 Sv q3) (fun k acc => by
      unfold Inv3
      iintro ⟨%f', %hf, HT⟩
      iapply (wp_wand_r Idealize.ShloMosaic.frame (wpE (defs₀ (F := F)) Variants.none (c : Thread nD τ) none) Set.univ)
      isplitl [HT]
      · iapply (trip3 (F := F) i arg1 harg1 arg2 harg2 arg3 harg3 arg4 harg4 arg5 harg5 arg6 harg6 arg7 harg7 arg8 harg8 arg9 harg9 arg10 harg10 arg11 harg11 arg12 harg12 arg13 harg13 arg14 harg14 arg15 arg16 arg17 c X T Xs q4 Sv q3 k f') $$ HT
      · iintro %_ HT
        iexists _
        isplitr
        · ipureintro
          exact out_step i arg3 arg4 arg9 arg10 arg11 X T Xs Sv k f' hf
        · iexact HT)) $$ [HT]
  · unfold Inv3
    iexists f
    isplitr
    · ipureintro
      exact fun y hy => absurd hy (by omega)
    · iexact HT
  · unfold Inv3
    iintro %acc ⟨%f', %hf, HT⟩
    iapply (hk f' (funext fun y => hf y (by
      have h1 : (y 0).val < 3072 := (y 0).isLt
      have : Scf.trips k0_t3_loop.lb k0_t3_loop.ub k0_t3_loop.st = 12 := htr
      rw [this]; omega)))
    isplitl [HT]; · iexact HT
    iexact HR

end Cert.Kernel.Hand

end
-- ==== Proof.K.Body.lean ====
/-
  The body at a grid point: the codes' one transfer at the first point, the chunk loop, the loop over the row blocks.
-/
module

public import proofs.«01_k».proof.Proof.K.Mat

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

section Loops
variable (i : grid0.Coords)
variable (arg1 : Memref sig .tc .smem S27648 .i32) (harg1 : arg1.IsWhole)
variable (arg2 : Memref sig .tc .vmem S216x128 .i32) (harg2 : arg2.IsWhole)
variable (arg3 : Memref sig .tc .vmem S216x128 .f32) (harg3 : arg3.IsWhole)
variable (arg4 : Memref sig .tc .vmem S3072x128 .f32) (harg4 : arg4.IsWhole)
variable (arg5 : Memref sig .tc .hbm S3072x5120 .bf16) (harg5 : arg5.IsWhole)
variable (harg6 : ((w4M : Memref sig .tc .hbm S5536x2560 .i32)).IsWhole)
variable (harg7 : ((w8M : Memref sig .tc .hbm S1376x5120 .i32)).IsWhole)
variable (harg8 : ((wsM : Memref sig .tc .hbm S11072x40 .i32)).IsWhole)
variable (arg9 : Memref sig .tc .vmem S3072x512 .bf16) (harg9 : arg9.IsWhole)
variable (arg10 : Memref sig .tc .vmem S3072x5120 .bf16) (harg10 : arg10.IsWhole)
variable (arg11 : Memref sig .tc .vmem S512x5120 .bf16) (harg11 : arg11.IsWhole)
variable (harg12 : ((g4M : Memref sig .tc .vmem S64x2560 .i32)).IsWhole)
variable (harg13 : ((g8M : Memref sig .tc .vmem S64x5120 .i32)).IsWhole)
variable (harg14 : ((gsM : Memref sig .tc .vmem S64x40 .i32)).IsWhole)
variable (arg17 : DmaSems sig S_)

variable (c : Dev nD) (f1 : Buf (Elt F) (arg1.view.loc (c : Thread nD τ))) (q1 : PosShare TreeShare) (f2 : Buf (Elt F) (arg2.view.loc (c : Thread nD τ))) (q2 : PosShare TreeShare)
  (F8 : Buf (Elt F) (w8M.view.loc (c : Thread nD τ))) (F4 : Buf (Elt F) (w4M.view.loc (c : Thread nD τ))) (Fs : Buf (Elt F) (wsM.view.loc (c : Thread nD τ)))
  (X : BufTy.Contents (Elt F) arg10.view.ty)
  (Xs : BufTy.Contents (Elt F) arg4.view.ty) (q4 : PosShare TreeShare) (Sv : BufTy.Contents (Elt F) arg3.view.ty) (q3 : PosShare TreeShare)

theorem loop1 (hB : ∀ t r, (wordAt (c := c) arg1 f1 i t r).toNat < 27648) (hrel : Rel arg1 arg2 f1 f2)
    {R : sProp 𝕄} {β : Type} {kk : Unit → Prog (TpuEff nD τ sig (Elt F) Λ₀ .tc) β} {Q : β → sProp 𝕄}
    (hk : iprop(Inv1 i arg1 arg2 arg11 f1 q1 f2 q2 F8 F4 Fs 8 ∗ R) ⊢ wpc c (kk ()) Q) :
    iprop(Inv1 i arg1 arg2 arg11 f1 q1 f2 q2 F8 F4 Fs 0 ∗ R) ⊢ wpc c (Scf.Loop.for k0_t1_loop k0_t1_ok () (k0_t1_body (F := F) i arg1 harg1 arg2 harg2 arg3 harg3 arg4 harg4 arg5 harg5 w4M harg6 w8M harg7 wsM harg8 arg9 harg9 arg10 harg10 arg11 harg11 g4M harg12 g8M harg13 gsM harg14 cc0_scratch5 cc0_scratch6 arg17 (BitVec.ofNat 32 (i 0).val)) >>= kk) Q := by
  iintro ⟨HT, HR⟩
  have htr : Scf.trips k0_t1_loop.lb k0_t1_loop.ub k0_t1_loop.st = 8 := by decide +kernel
  iapply (Scf.wp_for_bind Idealize.ShloMosaic.frame (wpE (defs₀ (F := F)) Variants.none (c : Thread nD τ) none) Set.univ k0_t1_loop.lb k0_t1_loop.ub k0_t1_loop.st k0_t1_ok () _
    (fun n _ => Inv1 i arg1 arg2 arg11 f1 q1 f2 q2 F8 F4 Fs n) (fun k acc => trip1 (F := F) i arg1 harg1 arg2 harg2 arg3 harg3 arg4 harg4 arg5 harg5 harg6 harg7 harg8 arg9 harg9 arg10 harg10 arg11 harg11 harg12 harg13 harg14 arg17 f1 q1 f2 q2 F8 F4 Fs hB hrel k)) $$ [HT]
  · iexact HT
  · iintro %acc HT
    rw [htr]
    iapply hk
    isplitl [HT]; · iexact HT
    iexact HR

theorem loops (hB : ∀ t r, (wordAt (c := c) arg1 f1 i t r).toNat < 27648) (hrel : Rel arg1 arg2 f1 f2)
    (fw : BufTy.Contents (Elt F) arg11.view.ty) (f9 : BufTy.Contents (Elt F) arg9.view.ty) {R : sProp 𝕄} {β : Type} {kk : Unit → Prog (TpuEff nD τ sig (Elt F) Λ₀ .tc) β} {Q : β → sProp 𝕄}
    (hk : ∀ fw f9, arg9.view.read (Elt F) f9 = out i (arg10.view.read (Elt F) X) (tile i arg1 f1 F8 F4 Fs) (arg4.view.read (Elt F) Xs) (arg3.view.read (Elt F) Sv) →
      iprop(Trip3 (F := F) arg3 arg4 arg9 arg10 arg11 c X fw Xs q4 Sv q3 f9 ∗ Hold c arg1 arg2 f1 q1 f2 q2 F8 F4 Fs ∗ (∃ f8 f4 fs, Bufs c f8 f4 fs) ∗ R) ⊢ wpc c (kk ()) Q) :
    iprop(Trip3 (F := F) arg3 arg4 arg9 arg10 arg11 c X fw Xs q4 Sv q3 f9 ∗ Hold c arg1 arg2 f1 q1 f2 q2 F8 F4 Fs ∗ (∃ f8 f4 fs, Bufs c f8 f4 fs) ∗ R)
      ⊢ wpc c (Scf.Loop.for k0_t1_loop k0_t1_ok () (k0_t1_body (F := F) i arg1 harg1 arg2 harg2 arg3 harg3 arg4 harg4 arg5 harg5 w4M harg6 w8M harg7 wsM harg8 arg9 harg9 arg10 harg10 arg11 harg11 g4M harg12 g8M harg13 gsM harg14 cc0_scratch5 cc0_scratch6 arg17 (BitVec.ofNat 32 (i 0).val)) >>= fun _ =>
        Scf.Loop.for k0_t3_loop k0_t3_ok () (k0_t3_body (F := F) i arg1 harg1 arg2 harg2 arg3 harg3 arg4 harg4 arg5 harg5 w4M harg6 w8M harg7 wsM harg8 arg9 harg9 arg10 harg10 arg11 harg11 g4M harg12 g8M harg13 gsM harg14 cc0_scratch5 cc0_scratch6 arg17 (BitVec.ofNat 32 (i 0).val)) >>= kk) Q := by
  iintro ⟨⟨H10, H11, H4, H3, H9⟩, HH, ⟨%f8, %f4, %fs, HB⟩, HR⟩
  iapply (loop1 (F := F) i arg1 harg1 arg2 harg2 arg3 harg3 arg4 harg4 arg5 harg5 harg6 harg7 harg8 arg9 harg9 arg10 harg10 arg11 harg11 harg12 harg13 harg14 arg17 c f1 q1 f2 q2 F8 F4 Fs hB hrel (R := iprop((arg10.view.loc (c : Thread nD τ) ↦[arg10.view.set]{fullShare} X)
    ∗ (arg4.view.loc (c : Thread nD τ) ↦[arg4.view.set]{q4} Xs) ∗ (arg3.view.loc (c : Thread nD τ) ↦[arg3.view.set]{q3} Sv)
    ∗ (arg9.view.loc (c : Thread nD τ) ↦[arg9.view.set]{fullShare} f9) ∗ R)) (by
      unfold Inv1
      iintro ⟨⟨%f8, %f4, %fs, %fw, %hfw, HB, HH, H11⟩, H10, H4, H3, H9, HR⟩
      have ht : arg11.view.read (Elt F) fw = tile i arg1 f1 F8 F4 Fs := funext fun y => hfw y (by have h : (y 0).val < 512 := (y 0).isLt; omega)
      iapply (loop3 (F := F) i arg1 harg1 arg2 harg2 arg3 harg3 arg4 harg4 arg5 harg5 w4M harg6 w8M harg7 wsM harg8 arg9 harg9 arg10 harg10 arg11 harg11 g4M harg12 g8M harg13 gsM harg14 cc0_scratch5 cc0_scratch6 arg17 c X fw Xs q4 Sv q3 f9 (R := iprop(Hold c arg1 arg2 f1 q1 f2 q2 F8 F4 Fs ∗ (∃ f8 f4 fs, Bufs c f8 f4 fs) ∗ R)) (fun f' hf' => hk fw f' (by rw [hf', ht])))
      isplitl [H10 H11 H4 H3 H9]
      · isplitl [H10]; · iexact H10
        isplitl [H11]; · iexact H11
        isplitl [H4]; · iexact H4
        isplitl [H3]; · iexact H3
        iexact H9
      isplitl [HH]; · iexact HH
      isplitl [HB]; · iexists f8; iexists f4; iexists fs; iexact HB
      iexact HR))
  isplitl [HB HH H11]
  · unfold Inv1
    iexists f8; iexists f4; iexists fs; iexists fw
    isplitr
    · ipureintro; exact fun y hy => absurd hy (by omega)
    isplitl [HB]; · iexact HB
    isplitl [HH]; · iexact HH
    iexact H11
  isplitl [H10]; · iexact H10
  isplitl [H4]; · iexact H4
  isplitl [H3]; · iexact H3
  isplitl [H9]; · iexact H9
  iexact HR

end Loops

end Cert.Kernel.Hand

end
-- ==== Proof.K.Whole.lean ====
/-
  The whole body at a grid point.
-/
module

public import proofs.«01_k».proof.Proof.K.Body

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

/-- The codes in HBM, their buffer, the weight tile's buffer. -/
abbrev xM : Memref sig .tc .hbm S3072x5120 .bf16 := Memref.whole main_v15
abbrev xvM : Memref sig .tc .vmem S3072x5120 .bf16 := Memref.whole cc0_scratch0
abbrev wvM : Memref sig .tc .vmem S512x5120 .bf16 := Memref.whole cc0_scratch1

section Whole
variable (i : grid0.Coords)
variable (arg1 : Memref sig .tc .smem S27648 .i32) (harg1 : arg1.IsWhole)
variable (arg2 : Memref sig .tc .vmem S216x128 .i32) (harg2 : arg2.IsWhole)
variable (arg3 : Memref sig .tc .vmem S216x128 .f32) (harg3 : arg3.IsWhole)
variable (arg4 : Memref sig .tc .vmem S3072x128 .f32) (harg4 : arg4.IsWhole)
variable (arg9 : Memref sig .tc .vmem S3072x512 .bf16) (harg9 : arg9.IsWhole)
variable (harg5 : (xM).IsWhole) (harg6 : (w4M).IsWhole) (harg7 : (w8M).IsWhole) (harg8 : (wsM).IsWhole) (harg10 : (xvM).IsWhole) (harg11 : (wvM).IsWhole)
  (harg12 : (g4M).IsWhole) (harg13 : (g8M).IsWhole) (harg14 : (gsM).IsWhole)
variable (c : Dev nD) (f1 : Buf (Elt F) (arg1.view.loc (c : Thread nD τ))) (q1 : PosShare TreeShare) (f2 : Buf (Elt F) (arg2.view.loc (c : Thread nD τ))) (q2 : PosShare TreeShare)
  (F8 : Buf (Elt F) (w8M.view.loc (c : Thread nD τ))) (F4 : Buf (Elt F) (w4M.view.loc (c : Thread nD τ))) (Fs : Buf (Elt F) (wsM.view.loc (c : Thread nD τ)))
  (FX : Buf (Elt F) (xM.view.loc (c : Thread nD τ)))
  (Xs : BufTy.Contents (Elt F) arg4.view.ty) (q4 : PosShare TreeShare) (Sv : BufTy.Contents (Elt F) arg3.view.ty) (q3 : PosShare TreeShare)

theorem body (hB : ∀ t r, (wordAt (c := c) arg1 f1 i t r).toNat < 27648) (hrel : Rel arg1 arg2 f1 f2) (X : Buf (Elt F) (xvM.view.loc (c : Thread nD τ)))
    (hX : (i 0).val = 0 ∨ xvM.view.read (Elt F) X = xM.view.read (Elt F) FX)
    (fw : BufTy.Contents (Elt F) wvM.view.ty) (f9 : BufTy.Contents (Elt F) arg9.view.ty) (Q : Unit → sProp 𝕄) :
    iprop(Trip3 (F := F) arg3 arg4 arg9 xvM wvM c X fw Xs q4 Sv q3 f9 ∗ Hold c arg1 arg2 f1 q1 f2 q2 F8 F4 Fs ∗ (∃ f8 f4 fs, Bufs c f8 f4 fs)
      ∗ (xM.view.loc (c : Thread nD τ) ↦{fullShare} FX) ∗ semVal ((c : Thread nD τ), .dma cc0_scratch7.sem) 0
      ∗ ((∃ X' fw' f9', ⌜xvM.view.read (Elt F) X' = xM.view.read (Elt F) FX⌝
            ∗ ⌜arg9.view.read (Elt F) f9' = out i (xM.view.read (Elt F) FX) (tile i arg1 f1 F8 F4 Fs) (arg4.view.read (Elt F) Xs) (arg3.view.read (Elt F) Sv)⌝
            ∗ Trip3 (F := F) arg3 arg4 arg9 xvM wvM c X' fw' Xs q4 Sv q3 f9' ∗ Hold c arg1 arg2 f1 q1 f2 q2 F8 F4 Fs ∗ (∃ f8 f4 fs, Bufs c f8 f4 fs)
            ∗ (xM.view.loc (c : Thread nD τ) ↦{fullShare} FX) ∗ semVal ((c : Thread nD τ), .dma cc0_scratch7.sem) 0) -∗ Q ()))
      ⊢ wpc c (cc0_mixed_linear (F := F) i arg1 harg1 arg2 harg2 arg3 harg3 arg4 harg4 xM harg5 w4M harg6 w8M harg7 wsM harg8 arg9 harg9 xvM harg10 wvM harg11 g4M harg12 g8M harg13 gsM harg14 cc0_scratch5 cc0_scratch6 cc0_scratch7) Q := by
  rw [cc0_mixed_linear_eq_skeleton]
  unfold cc0_mixed_linear_skel
  dsimp -proj only
  by_cases h : Scalar.cmpi CmpIPredicate.ne (Scalar.extui (Scalar.cmpi CmpIPredicate.eq (BitVec.ofNat 32 (i 0).val) 0#32) : BitVec 32) 0#32 = 1#1
  · rw [dif_pos h]
    unfold Hold
    iintro ⟨⟨H10, H11, H4, H3, H9⟩, ⟨G1, G2, G8, G4, Gs, S5, S6, ⟨%W, HO⟩⟩, HB, HX, S7, HK⟩
    unfold wpc
    sl_exec
    have hx : xvM.view.read (Elt F) (xvM.view.writes (Elt F) xvM.view.junk [⟨Rect.whole S3072x5120, ReadAs.same.apply (xM.view.read (Elt F) FX)⟩]) = xM.view.read (Elt F) FX := by
      exact View.read_writes_whole _ _ _
    unfold body.sl.dma0
    iapply (loops (F := F) i arg1 harg1 arg2 harg2 arg3 harg3 arg4 harg4 xM harg5 harg6 harg7 harg8 arg9 harg9 xvM harg10 wvM harg11 harg12 harg13 harg14 cc0_scratch7 c f1 q1 f2 q2 F8 F4 Fs
      (xvM.view.writes (Elt F) xvM.view.junk [⟨Rect.whole S3072x5120, ReadAs.same.apply (xM.view.read (Elt F) FX)⟩]) Xs q4 Sv q3 hB hrel fw f9
      (R := iprop((xM.view.loc (c : Thread nD τ) ↦{fullShare} FX) ∗ semVal ((c : Thread nD τ), .dma cc0_scratch7.sem) 0
        ∗ ((∃ X' fw' f9', ⌜xvM.view.read (Elt F) X' = xM.view.read (Elt F) FX⌝
            ∗ ⌜arg9.view.read (Elt F) f9' = out i (xM.view.read (Elt F) FX) (tile i arg1 f1 F8 F4 Fs) (arg4.view.read (Elt F) Xs) (arg3.view.read (Elt F) Sv)⌝
            ∗ Trip3 (F := F) arg3 arg4 arg9 xvM wvM c X' fw' Xs q4 Sv q3 f9' ∗ Hold c arg1 arg2 f1 q1 f2 q2 F8 F4 Fs ∗ (∃ f8 f4 fs, Bufs c f8 f4 fs)
            ∗ (xM.view.loc (c : Thread nD τ) ↦{fullShare} FX) ∗ semVal ((c : Thread nD τ), .dma cc0_scratch7.sem) 0) -∗ Q ())))
      (fun fw' f9' hf => by
        refine BIBase.Entails.trans ?_ (st_pure (c := c) BIBase.Entails.rfl)
        iintro ⟨HT, HH, HB, HX, S7, HK⟩
        iapply HK
        iexists _; iexists fw'; iexists f9'
        isplitr
        swap
        · isplitr
          swap
          · isplitl [HT]; · iexact HT
            isplitl [HH]; · iexact HH
            isplitl [HB]; · iexact HB
            isplitl [HX]; · iexact HX
            iexact S7
          · ipureintro; rw [hx] at hf; exact hf
        · ipureintro; exact hx))
    isplitl [H10 H11 H4 H3 H9]
    · isplitl [H10]; · iexact H10
      isplitl [H11]; · iexact H11
      isplitl [H4]; · iexact H4
      isplitl [H3]; · iexact H3
      iexact H9
    isplitl [G1 G2 G8 G4 Gs S5 S6 HO]
    · unfold Hold
      isplitl [G1]; · iexact G1
      isplitl [G2]; · iexact G2
      isplitl [G8]; · iexact G8
      isplitl [G4]; · iexact G4
      isplitl [Gs]; · iexact Gs
      isplitl [S5]; · iexact S5
      isplitl [S6]; · iexact S6
      iexists _; iexact HO
    isplitl [HB]; · iexact HB
    isplitl [HX]; · iexact HX
    isplitl [S7]; · iexact S7
    iexact HK
  · rw [dif_neg h]
    have hx : xvM.view.read (Elt F) X = xM.view.read (Elt F) FX := hX.resolve_left (fun h0 => h (by rw [h0]; decide))
    iintro ⟨HT, HH, HB, HX, S7, HK⟩
    iapply (loops (F := F) i arg1 harg1 arg2 harg2 arg3 harg3 arg4 harg4 xM harg5 harg6 harg7 harg8 arg9 harg9 xvM harg10 wvM harg11 harg12 harg13 harg14 cc0_scratch7 c f1 q1 f2 q2 F8 F4 Fs X Xs q4 Sv q3 hB hrel fw f9
      (R := iprop((xM.view.loc (c : Thread nD τ) ↦{fullShare} FX) ∗ semVal ((c : Thread nD τ), .dma cc0_scratch7.sem) 0
        ∗ ((∃ X' fw' f9', ⌜xvM.view.read (Elt F) X' = xM.view.read (Elt F) FX⌝
            ∗ ⌜arg9.view.read (Elt F) f9' = out i (xM.view.read (Elt F) FX) (tile i arg1 f1 F8 F4 Fs) (arg4.view.read (Elt F) Xs) (arg3.view.read (Elt F) Sv)⌝
            ∗ Trip3 (F := F) arg3 arg4 arg9 xvM wvM c X' fw' Xs q4 Sv q3 f9' ∗ Hold c arg1 arg2 f1 q1 f2 q2 F8 F4 Fs ∗ (∃ f8 f4 fs, Bufs c f8 f4 fs)
            ∗ (xM.view.loc (c : Thread nD τ) ↦{fullShare} FX) ∗ semVal ((c : Thread nD τ), .dma cc0_scratch7.sem) 0) -∗ Q ())))
      (fun fw' f9' hf => by
        refine BIBase.Entails.trans ?_ (st_pure (c := c) BIBase.Entails.rfl)
        iintro ⟨HT, HH, HB, HX, S7, HK⟩
        iapply HK
        iexists X; iexists fw'; iexists f9'
        isplitr; · ipureintro; exact hx
        isplitr; · ipureintro; rw [← hx]; exact hf
        isplitl [HT]; · iexact HT
        isplitl [HH]; · iexact HH
        isplitl [HB]; · iexact HB
        isplitl [HX]; · iexact HX
        iexact S7))
    isplitl [HT]; · iexact HT
    isplitl [HH]; · iexact HH
    isplitl [HB]; · iexact HB
    isplitl [HX]; · iexact HX
    isplitl [S7]; · iexact S7
    iexact HK

end Whole

end Cert.Kernel.Hand

end
-- ==== Proof.K.Launch.lean ====
/-
  What the body keeps between grid points, the proof data of the one pipeline, and the words of the row table.
-/
module

public import proofs.«01_k».proof.Proof.K.Whole
public import Idealize.ShloMosaic.Lib.StableHlo.ReadAt
public import proofs.«01_k».proof.Proof.Gen.Kernel.Points
public import proofs.«01_k».proof.Proof.Gen.Kernel.Frame

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

open Idealize.ShloMosaic.Pipeline (Dat Cfg Window BodyObligation cellOf)

/-! ## The weight tile from the row table as a vector -/

/-- A grid point's weight tile from the row table and the three word arrays. -/
def tileR (i : grid0.Coords) (W : S27648.Idx → BitVec 32) (A8 : S1376x5120.Idx → BitVec 32) (A4 : S5536x2560.Idx → BitVec 32) (As : S11072x40.Idx → BitVec 32) : S512x5120.Idx → F .bf16 := fun y =>
  wElt A8 A4 As (W (ix1 (⟨(512 * (i 0).val + (y 0).val) % 27648, Nat.mod_lt _ (by decide)⟩ : Fin 27648))) (⟨(y 1).val, (y 1).isLt⟩ : Fin 5120)

section Words
variable {c : Dev nD} (i : grid0.Coords) (arg1 : Memref sig .tc .smem S27648 .i32) (f1 : Buf (Elt F) (arg1.view.loc (c : Thread nD τ)))

theorem wordAt_eq (t : Fin k0_t1_loop.trips) (r : Fin 64) (n : Fin 27648) (hn : n.val = 512 * (i 0).val + 64 * t.val + r.val) :
    wordAt (c := c) arg1 f1 i t r = arg1.view.read (Elt F) f1 (ix1 n) := by
  unfold wordAt
  refine congrArg (arg1.view.read (Elt F) f1) (funext fun a => Fin.ext ?_)
  match a with
  | 0 => show offW r.val i t 0 + 1 * 0 = n.val; rw [offW_eq]; omega

theorem tile_eq (F8 : Buf (Elt F) (w8M.view.loc (c : Thread nD τ))) (F4 : Buf (Elt F) (w4M.view.loc (c : Thread nD τ))) (Fs : Buf (Elt F) (wsM.view.loc (c : Thread nD τ))) :
    tile i arg1 f1 F8 F4 Fs = tileR i (arg1.view.read (Elt F) f1) (w8M.view.read (Elt F) F8) (w4M.view.read (Elt F) F4) (wsM.view.read (Elt F) Fs) := by
  funext y
  have r_i0 : (i 0).val < 54 := (i 0).isLt
  have h0 : (y 0).val < 512 := (y 0).isLt
  unfold tile tileR
  rw [wordAt_eq i arg1 f1 _ _ ⟨(512 * (i 0).val + (y 0).val) % 27648, Nat.mod_lt _ (by decide)⟩ (by
    show (512 * (i 0).val + (y 0).val) % 27648 = 512 * (i 0).val + 64 * ((y 0).val / 64 % 8) + (y 0).val % 64
    omega)]
end Words

/-! ## The pipeline's data -/

variable (m : (ℓ : Loc nD τ sig) → Buf (Elt F) ℓ) (ρ : Dev nD → PrngReg)

abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The body's own three semaphores. -/
abbrev osem0 : Fin 3 → SemLoc sig := fun j => (![SemLoc.dma cc0_scratch5.sem, SemLoc.dma cc0_scratch6.sem, SemLoc.dma cc0_scratch7.sem] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma cc0_scratch5.sem) 0 ∗ semVal ((c : Thread nD τ), SemLoc.dma cc0_scratch6.sem) 0
          ∗ semVal ((c : Thread nD τ), SemLoc.dma cc0_scratch7.sem) 0) := by
  rw [Pipeline.ownSems0_eq_of_list c osem0 [0, 1, 2] (by decide) (by decide)]; rfl

/-- The arrays the body copies from itself. -/
def H0 : Finset (Ref sig .tc) := {main_v15, main_v20, main_v23, main_v26}
theorem H0_sub : H0 ⊆ Pipeline.restRefs sig spec0 := by decide
theorem hbmPts0_eq (c : Dev nD) :
    (bigSep H0 (fun b => ((c : Thread nD τ).loc b) ↦{fullShare} V m c b) : sProp 𝕄)
      = iprop(pt c xM (V m c main_v15) ∗ pt c w4M (V m c main_v20) ∗ pt c w8M (V m c main_v23) ∗ pt c wsM (V m c main_v26)) := by
  rw [BI.bigSep_eq_bigSepL_of_eq [main_v15, main_v20, main_v23, main_v26] (by decide) (by decide)]; rfl

theorem PhiD_eq (c : Dev nD) :
    (Pipeline.ΦD osem0 spec0 H0 (V m) c : sProp 𝕄)
      = iprop(iprop((∃ f, pt c xvM f) ∗ (∃ f, pt c wvM f) ∗ (∃ f, pt c g4M f) ∗ (∃ f, pt c g8M f) ∗ (∃ f, pt c gsM f))
          ∗ (∃ r, prngReg c r)
          ∗ iprop(semVal ((c : Thread nD τ), SemLoc.dma cc0_scratch5.sem) 0 ∗ semVal ((c : Thread nD τ), SemLoc.dma cc0_scratch6.sem) 0
              ∗ semVal ((c : Thread nD τ), SemLoc.dma cc0_scratch7.sem) 0)
          ∗ iprop(pt c xM (V m c main_v15) ∗ pt c w4M (V m c main_v20) ∗ pt c w8M (V m c main_v23) ∗ pt c wsM (V m c main_v26))) := by
  rw [Pipeline.ΦD_eq, scopedRest0_eq, ownSems00_eq, hbmPts0_eq]; try rfl

/-- What the body keeps before point `n`: from the second point on, the codes' buffer holds the codes. -/
def Phi (c : Dev nD) (n : ℕ) : sProp 𝕄 :=
  iprop(iprop((∃ f, ⌜n = 0 ∨ xvM.view.read (Elt F) f = xM.view.read (Elt F) (V m c main_v15)⌝ ∗ pt c xvM f) ∗ (∃ f, pt c wvM f) ∗ (∃ f, pt c g4M f) ∗ (∃ f, pt c g8M f) ∗ (∃ f, pt c gsM f))
          ∗ (∃ r, prngReg c r)
          ∗ iprop(semVal ((c : Thread nD τ), SemLoc.dma cc0_scratch5.sem) 0 ∗ semVal ((c : Thread nD τ), SemLoc.dma cc0_scratch6.sem) 0
              ∗ semVal ((c : Thread nD τ), SemLoc.dma cc0_scratch7.sem) 0)
          ∗ iprop(pt c xM (V m c main_v15) ∗ pt c w4M (V m c main_v20) ∗ pt c w8M (V m c main_v23) ∗ pt c wsM (V m c main_v26)))

theorem phi_in (c : Dev nD) : Pipeline.ΦD osem0 spec0 H0 (V m) c ⊢ Phi m c 0 := by
  rw [PhiD_eq]; unfold Phi
  iintro ⟨⟨⟨%f, HX⟩, HR⟩, HS⟩
  isplitl [HX HR]
  · isplitl [HX]
    · iexists f; isplitr; · ipureintro; exact .inl rfl
      iexact HX
    iexact HR
  iexact HS
theorem phi_out (c : Dev nD) (n : ℕ) : Phi m c n ⊢ Pipeline.ΦD osem0 spec0 H0 (V m) c := by
  rw [PhiD_eq]; unfold Phi
  iintro ⟨⟨⟨%f, -, HX⟩, HR⟩, HS⟩
  isplitl [HX HR]
  · isplitl [HX]; · iexists f; iexact HX
    iexact HR
  iexact HS

/-- The window blocks at their literal shapes. -/
abbrev wInv (c : Dev nD) (t : Fin cfg0.N) : S27648.Idx → BitVec 32 := iblk m c 0 t
abbrev wRow (c : Dev nD) (t : Fin cfg0.N) : S216x128.Idx → BitVec 32 := iblk m c 1 t
abbrev wSv (c : Dev nD) (t : Fin cfg0.N) : S216x128.Idx → F .f32 := iblk m c 2 t
abbrev wXs (c : Dev nD) (t : Fin cfg0.N) : S3072x128.Idx → F .f32 := iblk m c 3 t

/-- The output tile of a point from the arrays as the region finds them. -/
def outAt (c : Dev nD) (t : Fin cfg0.N) : S3072x512.Idx → F .bf16 :=
  out (grid0.coords t) (xM.view.read (Elt F) (V m c main_v15))
    (tileR (grid0.coords t) (wInv m c t) (w8M.view.read (Elt F) (V m c main_v23)) (w4M.view.read (Elt F) (V m c main_v20)) (wsM.view.read (Elt F) (V m c main_v26)))
    (wXs m c t) (wSv m c t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ n := Phi m c n.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = outAt m c t := by dsimp only [dats]

theorem at_castSucc {α : Type} {N : ℕ} (S : ℕ → α) (t : Fin N) : S t.castSucc.val = S t.val := rfl
theorem at_succ {α : Type} {N : ℕ} (S : ℕ → α) (t : Fin N) : S t.succ.val = S (t.val + 1) := rfl
theorem phi_castSucc (c : Dev nD) (t : Fin cfg0.N) : (dats m 0 c).Φ t.castSucc = Phi m c t.val := by
  dsimp only [dats]; exact at_castSucc (Phi m c) t
theorem phi_succ (c : Dev nD) (t : Fin cfg0.N) : (dats m 0 c).Φ t.succ = Phi m c (t.val + 1) := by
  dsimp only [dats]; exact at_succ (Phi m c) t

theorem coords_val (t : Fin cfg0.N) : (grid0.coords t 0).val = t.val := by
  have h : ∀ t : Fin grid0.N, (grid0.coords t 0).val = t.val := by decide +kernel
  exact h t

/-! ## The windows' blocks are their whole arrays -/

theorem wInv_eq (c : Dev nD) (t : Fin cfg0.N) : wInv m c t = V m c main_arg0 := by
  unfold wInv iblk
  funext y
  rw [View.read_apply, cast_eq]
  refine congrArg (V m c main_arg0) (funext fun a => Fin.ext ?_)
  match a with
  | 0 => show 0 * 27648 + 1 * (y 0).val = (y 0).val; omega

theorem wRow_eq (c : Dev nD) (t : Fin cfg0.N) : wRow m c t = V m c main_v16 := by
  unfold wRow iblk
  funext y
  rw [View.read_apply, cast_eq]
  refine congrArg (V m c main_v16) (funext fun a => Fin.ext ?_)
  match a with
  | 0 => show 0 * 216 + 1 * (y 0).val = (y 0).val; omega
  | 1 => show 0 * 128 + 1 * (y 1).val = (y 1).val; omega

theorem v16_at (c : Dev nD) (a : Fin 216) (b : Fin 128) (n : Fin 27648) (h : n.val = 128 * a.val + b.val) : V m c main_v16 (ix2 a b) = m ((c : Thread nD τ).loc main_arg0) (ix1 n) := by
  unfold V
  after_reads_at
  exact congrArg (m ((c : Thread nD τ).loc main_arg0)) (congrArg ix1 (Fin.ext (by show a.val * 128 + b.val = n.val; omega)))

end Cert.Kernel.Hand

end
-- ==== Proof.K.Frame.lean ====
/-
  The body obligation at every grid point, the run, and the frame claim.
-/
module

public import proofs.«01_k».proof.Proof.K.Launch

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-- Every entry of the row table is a row. -/
def InRange : Prop := ∀ (c : Dev nD) (n : Fin 27648), (m ((c : Thread nD τ).loc main_arg0) (ix1 n) : BitVec 32).toNat < 27648

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

section Point
variable {c : Dev nD} (t : Fin cfg0.N)
  (f1 : Buf (Elt F) ((st0_0 t).view.loc (c : Thread nD τ))) (f2 : Buf (Elt F) ((st0_1 t).view.loc (c : Thread nD τ)))

theorem rel_of (h1 : (st0_0 t).view.read (Elt F) f1 = wInv m c t) (h2 : (st0_1 t).view.read (Elt F) f2 = wRow m c t) :
    Rel (c := c) (F := F) (st0_0 t) (st0_1 t) f1 f2 := by
  intro n y hy
  have hyn : y = ix1 n := by
    funext a
    match a with
    | 0 => exact Fin.ext hy
  have e1 : (st0_0 t).view.read (Elt F) f1 y = m ((c : Thread nD τ).loc main_arg0) (ix1 n) := by
    rw [hyn]; exact (congrFun (h1.trans ((wInv_eq m c t).trans (V_main_arg0 m c))) (ix1 n))
  have e2 : (st0_1 t).view.read (Elt F) f2 (ix2 (⟨n.val / 128, by omega⟩ : Fin 216) (⟨n.val % 128, by omega⟩ : Fin 128)) = m ((c : Thread nD τ).loc main_arg0) (ix1 n) :=
    (congrFun (h2.trans (wRow_eq m c t)) _).trans (v16_at m c _ _ n (by show n.val = 128 * (n.val / 128) + n.val % 128; omega))
  exact e2.trans e1.symm

theorem bound_of (hp : InRange m) (h1 : (st0_0 t).view.read (Elt F) f1 = wInv m c t) (t' : Fin k0_t1_loop.trips) (r : Fin 64) :
    (wordAt (c := c) (st0_0 t) f1 (grid0.coords t) t' r).toNat < 27648 := by
  have hk : t'.val < 8 := Nat.lt_of_lt_of_le t'.isLt (by decide)
  have ht : (grid0.coords t 0).val < 54 := (grid0.coords t 0).isLt
  rw [wordAt_eq (F := F) (grid0.coords t) (st0_0 t) f1 t' r ⟨512 * (grid0.coords t 0).val + 64 * t'.val + r.val, by omega⟩ rfl,
    congrFun (h1.trans ((wInv_eq m c t).trans (V_main_arg0 m c))) _]
  exact hp c _
end Point

set_option maxHeartbeats 1000000 in
theorem sound_body (hp : InRange m) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [phi_castSucc, phi_succ, after0_0, after0_1, after0_2, after0_3, after0_4]
  simp only [before0_0, before0_1, before0_2, before0_3]
  unfold Dat.owesAt Pipeline.owesWithin
  rw [show (dats m 0 c).owed t.castSucc = 0 from rfl, show (dats m 0 c).owed t.succ = 0 from rfl]
  unfold Phi owns
  iintro ⟨⟨⟨⟨%X, %hX, HX⟩, ⟨%fw, HW⟩, ⟨%f4, B4⟩, ⟨%f8, B8⟩, ⟨%fs, Bs⟩⟩, Hg, ⟨S5, S6, S7⟩, ⟨GX, G4, G8, Gs⟩⟩, ⟨%W, -, HO⟩,
    ⟨%d0, %f1, %h1, H1⟩, ⟨%d1, %f2, %h2, H2⟩, ⟨%d2, %f3, %h3, H3⟩, ⟨%d3, %fx, %h4, H4⟩, ⟨%d4, %f9, -, H9⟩⟩
  iapply (body (F := F) (grid0.coords t) (st0_0 t) _ (st0_1 t) _ (st0_2 t) _ (st0_3 t) _ (st0_4 t) _ _ _ _ _ _ _ _ _ _ c f1 fullShare f2 fullShare
    (V m c main_v23) (V m c main_v20) (V m c main_v26) (V m c main_v15) fx fullShare f3 fullShare
    (bound_of m t f1 hp h1) (rel_of m t f1 f2 h1 h2) X (hX.imp_left fun h => (coords_val t).trans h) fw f9)
  unfold Trip3 Hold Bufs
  simp only [View.set_whole]
  isplitl [HX HW H4 H3 H9]
  · isplitl [HX]; · iexact HX
    isplitl [HW]; · iexact HW
    isplitl [H4]; · iexact H4
    isplitl [H3]; · iexact H3
    iexact H9
  isplitl [H1 H2 G8 G4 Gs S5 S6 HO]
  · isplitl [H1]; · iexact H1
    isplitl [H2]; · iexact H2
    isplitl [G8]; · iexact G8
    isplitl [G4]; · iexact G4
    isplitl [Gs]; · iexact Gs
    isplitl [S5]; · iexact S5
    isplitl [S6]; · iexact S6
    iexists W; iexact HO
  isplitl [B8 B4 Bs]
  · iexists f8; iexists f4; iexists fs
    isplitl [B8]; · iexact B8
    isplitl [B4]; · iexact B4
    iexact Bs
  isplitl [GX]; · iexact GX
  isplitl [S7]; · iexact S7
  iintro ⟨%X', %fw', %f9', %hX', %h9, ⟨HX, HW, H4, H3, H9⟩, ⟨H1, H2, G8, G4, Gs, S5, S6, ⟨%W', HO⟩⟩, ⟨%f8', %f4', %fs', B8, B4, Bs⟩, GX, S7⟩
  isplitl [HX HW B4 B8 Bs Hg S5 S6 S7 GX G4 G8 Gs]
  · isplitl [HX HW B4 B8 Bs]
    · isplitl [HX]
      · iexists X'; isplitr; · ipureintro; exact .inr hX'
        iexact HX
      isplitl [HW]; · iexists fw'; iexact HW
      isplitl [B4]; · iexists f4'; iexact B4
      isplitl [B8]; · iexists f8'; iexact B8
      iexists fs'; iexact Bs
    isplitl [Hg]; · iexact Hg
    isplitl [S5 S6 S7]
    · isplitl [S5]; · iexact S5
      isplitl [S6]; · iexact S6
      iexact S7
    isplitl [GX]; · iexact GX
    isplitl [G4]; · iexact G4
    isplitl [G8]; · iexact G8
    iexact Gs
  isplitl [HO]
  · iexists W'; isplitr; · ipureintro; exact fun _ _ => Or.inl trivial
    iexact HO
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists fx; isplitr; · ipureintro; exact h4
    iexact H4
  iexists f9'; isplitr
  swap; · iexact H9
  ipureintro
  rw [h9, tile_eq, h1, h3, h4]
  rfl

theorem defs₀_row (t : Fin cfg0.N) : defs₀ (F := F) .tc cfg0.body (cfg0.bodyArgs t (cfg0.slots t)) = bodyAt0 t := by
  unfold defs₀; rw [Defs.onTc_tc]

theorem body_obligation (hp : InRange m) (c : Dev nD) : BodyObligation (dats (F := F) m 0 c) (defs₀ (F := F)) Variants.none () Set.univ := fun t => by
  rw [bigSep_W0, bigSep_W0, defs₀_row]
  exact triple_restated (sound_body m hp c t) rfl .rfl fun _ => .rfl

set_option backward.isDefEq.respectTransparency.types false in
theorem run_main (hp : InRange m) : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hp c).loose) (hshare := fun c => (dats m 0 c).share_full fun _ => rfl)
    (howed := fun _ _ => rfl) (V := V m) (hmain := hmain m Variants.none) (hA := A_eq m)
    (hin := fun c => phi_in m c) (hout := fun c => phi_out m c _)

/-- The frame: the arguments are left as they were and every counter ends at zero. -/
theorem frame (hp : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ ⟨h, hs⟩ => ⟨fun c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩, hs⟩) (run_main m ρ hp)

end Cert.Kernel.Hand

end
-- ==== Proof.KI.Elem.lean ====
/-
  One widened weight element: what the kernel's arithmetic on a chunk's vectors leaves at row `r` and place `128h + l` of a
  256-wide group, in terms of the row's number, one word of its 8-bit row, one word of its 4-bit row and one scale word.
-/
module

public import proofs.«01_k».proof.Proof.Gen.KernelIdeal.Skeleton
public import Idealize.ShloMosaic.Lib.Pointwise

@[expose] public section

noncomputable section

namespace Cert.KernelIdeal.Hand

open Cert.KernelIdeal Cert.KernelIdeal.Gen
open Idealize.ShloMosaic

variable {F : FTy → Type} [FloatOps F]

/-- The shift that brings a row's byte of a word to the top. -/
def shw (w : BitVec 32) : BitVec 32 := IntOp.subi 24#32 (IntOp.muli 8#32 (IntOp.andi w 3#32))
/-- The row's byte of a word, and the low and high half of it, as signed numbers. -/
def byteOf (w a : BitVec 32) : BitVec 32 := IntOp.shrsi .vector (IntOp.shli .vector a (shw w)) 24#32
def nibS0 (s a : BitVec 32) : BitVec 32 := IntOp.shrsi .vector (IntOp.shli .vector (IntOp.shli .vector a s) 4#32) 28#32
def nibS1 (s a : BitVec 32) : BitVec 32 := IntOp.shrsi .vector (IntOp.shli .vector a s) 28#32
def nib0 (w a : BitVec 32) : BitVec 32 := nibS0 (shw w) a
def nib1 (w a : BitVec 32) : BitVec 32 := nibS1 (shw w) a
/-- The row's half of a scale word, as the bits of a 32-bit float. -/
def sbits (w s : BitVec 32) : BitVec 32 :=
  Scalar.select (IntOp.cmpi .ne (IntOp.andi w 1#32) 0#32) (IntOp.andi s 4294901760#32) (IntOp.shli .vector s 16#32)
/-- The widened element. -/
def elt (w a8 n s : BitVec 32) : F .bf16 :=
  FloatOps.truncf .bf16 bitsLt_bf16_f32
    (Scalar.select (IntOp.cmpi .slt w 5504#32) (FloatOps.sitofp .f32 (byteOf w a8))
      (FloatOps.mulf (FloatOps.sitofp .f32 n) (FloatOps.ofBits .f32 (sbits w s))))

/-- A chunk's vectors put through the widening. -/
def widen (m sh : IVec S64x128 32) (sc : Vec F S64x40 .i32) (g : Fin k0_t2_loop.trips) (x4 lo hi : Vec F S64x128 .i32) : FVec F S64x256 .bf16 :=
  k0_pay3 (k0_pay12 sh (k0_pay1 m 5504#32) (iota .tc S64x128 32 [1] iota_S64x128_d1_w32) k0_pay6
    (k0_pay9 sh (k0_pay2 m sc) 0#32 1#32 g x4) (k0_pay10 sh (k0_pay2 m sc) 0#32 1#32 g x4) (k0_pay11 sh lo) hi)

/-- The bits of the mask of a word's high half. -/
theorem mask_bit : ∀ i : Fin 32, (4294901760#32).getLsbD i.val = decide (16 ≤ i.val) := by decide

theorem shl16_sar24 (y z : BitVec 32) : IntOp.shrsi .vector (IntOp.shli .vector
    (IntOp.ori (IntOp.shrui .vector y 16#32) (IntOp.andi z 4294901760#32)) 16#32) 24#32 = IntOp.shrsi .vector y 24#32 := by
  show BitVec.sshiftRight (((y >>> 16) ||| (z &&& 4294901760#32)) <<< 16) 24 = BitVec.sshiftRight y 24
  apply BitVec.eq_of_getLsbD_eq
  intro i hi
  have hm : ∀ k, k < 16 → (4294901760#32).getLsbD k = false := fun k hk => by
    have := mask_bit ⟨k, by omega⟩; simp only at this; rw [this]; exact decide_eq_false (by omega)
  have key : ∀ k, 16 ≤ k → k < 32 → (((y >>> 16) ||| (z &&& 4294901760#32)) <<< 16).getLsbD k = y.getLsbD k := fun k h1 h2 => by
    rw [BitVec.getLsbD_shiftLeft, BitVec.getLsbD_or, BitVec.getLsbD_and, BitVec.getLsbD_ushiftRight, hm _ (by omega)]
    have : 16 + (k - 16) = k := by omega
    simp [this, h2]; omega
  rw [BitVec.getLsbD_sshiftRight, BitVec.getLsbD_sshiftRight]
  by_cases h : 24 + i < 32
  · rw [if_pos h, if_pos h, key _ (by omega) h]
  · rw [if_neg h, if_neg h, BitVec.msb_eq_getLsbD_last, BitVec.msb_eq_getLsbD_last, key _ (by omega) (by omega)]

theorem or_sar24 (y z : BitVec 32) : IntOp.shrsi .vector
    (IntOp.ori (IntOp.shrui .vector y 16#32) (IntOp.andi z 4294901760#32)) 24#32 = IntOp.shrsi .vector z 24#32 := by
  show BitVec.sshiftRight ((y >>> 16) ||| (z &&& 4294901760#32)) 24 = BitVec.sshiftRight z 24
  apply BitVec.eq_of_getLsbD_eq
  intro i hi
  have hm : ∀ k, 16 ≤ k → k < 32 → (4294901760#32).getLsbD k = true := fun k hk h2 => by
    have := mask_bit ⟨k, h2⟩; simp only at this; rw [this]; exact decide_eq_true hk
  have key : ∀ k, 16 ≤ k → k < 32 → ((y >>> 16) ||| (z &&& 4294901760#32)).getLsbD k = z.getLsbD k := fun k h1 h2 => by
    rw [BitVec.getLsbD_or, BitVec.getLsbD_and, BitVec.getLsbD_ushiftRight, hm _ h1 h2, BitVec.getLsbD_of_ge y _ (by omega)]
    simp
  rw [BitVec.getLsbD_sshiftRight, BitVec.getLsbD_sshiftRight]
  by_cases h : 24 + i < 32
  · rw [if_pos h, if_pos h, key _ (by omega) h]
  · rw [if_neg h, if_neg h, BitVec.msb_eq_getLsbD_last, BitVec.msb_eq_getLsbD_last, key _ (by omega) (by omega)]

/-- The low half of the lanes. -/
theorem low_apply (r : Fin 64) (l : Fin 128) : k0_pay6 (ix2 r l) = if l.val < 64 then 1#1 else 0#1 := by
  have e : ∀ l : Fin 128, IntOp.cmpi .slt (BitVec.ofNat 32 l.val) 64#32 = if l.val < 64 then 1#1 else 0#1 := by decide +kernel
  rw [← e l]
  show IntOp.cmpi .slt (iota .tc S64x128 32 [1] iota_S64x128_d1_w32 (ix2 r l)) 64#32 = _
  rw [iota_single_apply]; rfl

/-- A lane gather whose index vector was cast to a column and back. -/
theorem gather_lane {α : Type} (x : S64x128.Idx → α) (idx : IVec S64x128 32) (r : Fin 64) (l l' : Fin 128)
    (h : (idx (ix2 r l)).toNat % 128 = l'.val) :
    dynamicGather 1 x (shapeCast S64x128 (shapeCast S64x128x1 idx shapeCasts_S64x128_S64x128x1) shapeCasts_S64x128x1_S64x128) (ix2 r l)
      = x (ix2 r l') := by
  rw [shapeCast_shapeCast]
  refine congrArg x (funext fun b => ?_)
  match b with
  | 0 => rfl
  | 1 => exact Fin.ext h

/-- An index that is never negative is left alone by the fold at zero. -/
def fold (x : BitVec 32) : BitVec 32 := Scalar.select (IntOp.cmpi .slt x 0#32) (IntOp.addi x 128#32) x

theorem scale_lane (v : FVec F S64x128 .f32) (g : Fin k0_t2_loop.trips) (r : Fin 64) (l : Fin 128) (l' : Fin 128)
    (h : l'.val = 2 * g.val + if l.val < 64 then 0 else 1) :
    k0_pay8 v 0#32 1#32 g (ix2 r l) = v (ix2 r l') := by
  refine gather_lane v _ r l l' ?_
  show (fold (IntOp.addi (Scalar.muli 2#32 (Scalar.addi 0#32 (Scalar.muli (Scf.iv 0#32 1#32 g) 1#32)))
    (Scalar.select (k0_pay6 (ix2 r l)) 0#32 1#32))).toNat % 128 = _
  rw [low_apply, h]
  have hg : g.val < 20 := Nat.lt_of_lt_of_le g.isLt k0_t2_abs.2.1
  have e : ∀ (g : Fin 20) (b : Bool), (fold (IntOp.addi (Scalar.muli 2#32 (Scalar.addi 0#32 (Scalar.muli (Scf.iv 0#32 1#32 g) 1#32)))
    (Scalar.select (if b then 1#1 else 0#1) 0#32 1#32))).toNat % 128 = 2 * g.val + if b then 0 else 1 := by decide +kernel
  have := e ⟨g.val, hg⟩ (decide (l.val < 64))
  simpa using this

theorem scale_apply (m : IVec S64x128 32) (sc : Vec F S64x40 .i32) (r : Fin 64) (k : Fin 40) :
    k0_pay2 m sc (ix2 r (⟨k.val, by omega⟩ : Fin 128)) = (FloatOps.ofBits .f32 (sbits (m (ix2 r (⟨k.val, by omega⟩ : Fin 128))) (sc (ix2 r k))) : F .f32) := by
  unfold k0_pay2
  refine (concatenate_pair_apply_left (t := S64x128) (s₁ := S64x40) (s₂ := S64x88) 1 _ _ concatenates_S64x40_S64x88_S64x128_d1 (ix2 r (⟨k.val, by omega⟩ : Fin 128)) rfl (ix2 r k) ?_).trans ?_
  · intro b
    match b with
    | 0 => rfl
    | 1 => rfl
  · show FloatOps.ofBits .f32 (Scalar.select (IntOp.cmpi .ne (IntOp.andi (extractStridedSlice S64x40 ![0, 0] m slices_S64x128_o0_0_S64x40 (ix2 r k)) 1#32) 0#32)
      (IntOp.andi (sc (ix2 r k)) 4294901760#32) (IntOp.shli .vector (sc (ix2 r k)) 16#32)) = _
    have : extractStridedSlice S64x40 ![0, 0] m slices_S64x128_o0_0_S64x40 (ix2 r k) = m (ix2 r (⟨k.val, by omega⟩ : Fin 128)) := by
      refine congrArg m (funext fun b => ?_)
      match b with
      | 0 => exact Fin.ext (by simp)
      | 1 => exact Fin.ext (by simp)
    rw [this]; rfl

/-- The two 8-bit words of a lane, joined. -/
def joined (sh : IVec S64x128 32) (lo hi : Vec F S64x128 .i32) : IVec S64x128 32 :=
  fun j => IntOp.ori (IntOp.shrui .vector (IntOp.shli .vector (lo j) (sh j)) 16#32) (IntOp.andi (IntOp.shli .vector (hi j) (sh j)) 4294901760#32)

theorem even_lane (r : Fin 64) (l : Fin 128) : ((fold (IntOp.andi (IntOp.muli 2#32 (iota .tc S64x128 32 [1] iota_S64x128_d1_w32 (ix2 r l))) 127#32))).toNat % 128
    = 2 * l.val % 128 := by
  rw [iota_single_apply]
  have e : ∀ l : Fin 128, (fold (IntOp.andi (IntOp.muli 2#32 (BitVec.ofNat 32 l.val)) 127#32)).toNat % 128 = 2 * l.val % 128 := by decide +kernel
  exact e l

theorem odd_lane (r : Fin 64) (l : Fin 128) : ((fold (IntOp.addi (IntOp.andi (IntOp.muli 2#32 (iota .tc S64x128 32 [1] iota_S64x128_d1_w32 (ix2 r l))) 127#32) 1#32))).toNat % 128
    = 2 * l.val % 128 + 1 := by
  rw [iota_single_apply]
  have e : ∀ l : Fin 128, (fold (IntOp.addi (IntOp.andi (IntOp.muli 2#32 (BitVec.ofNat 32 l.val)) 127#32) 1#32)).toNat % 128 = 2 * l.val % 128 + 1 := by decide +kernel
  exact e l

/-- The byte a lane of the joined words is read as. -/
theorem joined_byte (W : Fin 64 → BitVec 32) (sh : IVec S64x128 32) (hs : ∀ r l, sh (ix2 r l) = shw (W r)) (lo hi : Vec F S64x128 .i32) (r : Fin 64) (l l' : Fin 128) :
    IntOp.shrsi .vector (Scalar.select (k0_pay6 (ix2 r l)) (IntOp.shli .vector (joined (F := F) sh lo hi (ix2 r l')) 16#32) (joined (F := F) sh lo hi (ix2 r l'))) 24#32
      = byteOf (W r) (if l.val < 64 then lo (ix2 r l') else hi (ix2 r l')) := by
  rw [low_apply]
  unfold joined byteOf
  rw [hs]
  by_cases h : l.val < 64
  · rw [if_pos h, if_pos h, Scalar.select, if_pos (by rfl), shl16_sar24]
  · rw [if_neg h, if_neg h, Scalar.select, if_neg (by decide), or_sar24]

theorem scale_at (m : IVec S64x128 32) (sc : Vec F S64x40 .i32) (W : Fin 64 → BitVec 32) (hm : ∀ r l, m (ix2 r l) = W r) (g : Fin k0_t2_loop.trips) (r : Fin 64) (l : Fin 128)
    (k : Fin 40) (hk : k.val = 2 * g.val + if l.val < 64 then 0 else 1) :
    k0_pay8 (k0_pay2 m sc) 0#32 1#32 g (ix2 r l) = (FloatOps.ofBits .f32 (sbits (W r) (sc (ix2 r k))) : F .f32) := by
  rw [scale_lane _ g r l (⟨k.val, by omega⟩ : Fin 128) hk, scale_apply, hm]

theorem widen_lo (m sh : IVec S64x128 32) (W : Fin 64 → BitVec 32) (hm : ∀ r l, m (ix2 r l) = W r) (hs : ∀ r l, sh (ix2 r l) = shw (W r))
    (sc : Vec F S64x40 .i32) (g : Fin k0_t2_loop.trips) (x4 lo hi : Vec F S64x128 .i32) (r : Fin 64) (l : Fin 128) (c : Fin 256) (hc : c.val = l.val)
    (k : Fin 40) (hk : k.val = 2 * g.val + if l.val < 64 then 0 else 1) :
    widen m sh sc g x4 lo hi (ix2 r c)
      = (elt (W r) (if l.val < 64 then lo (ix2 r (⟨2 * l.val % 128, by omega⟩ : Fin 128)) else hi (ix2 r (⟨2 * l.val % 128, by omega⟩ : Fin 128)))
          (nib0 (W r) (x4 (ix2 r l))) (sc (ix2 r k)) : F .bf16) := by
  unfold widen k0_pay3
  rw [shapeCast_self]
  unfold elt
  refine congrArg (FloatOps.truncf .bf16 bitsLt_bf16_f32) ?_
  refine (concatenate_pair_apply_left (t := S64x256) (s₁ := S64x128) (s₂ := S64x128) 1 _ _ _ (ix2 r c) rfl (ix2 r l) ?_).trans ?_
  · intro b
    match b with
    | 0 => rfl
    | 1 => exact hc.symm
  refine congr (congr (congrArg Scalar.select ?_) ?_) ?_
  · exact congrArg (IntOp.cmpi .slt · 5504#32) (hm r l)
  · refine congrArg (FloatOps.sitofp .f32) ?_
    rw [← joined_byte W sh hs lo hi r l]
    refine congrArg (IntOp.shrsi .vector · 24#32) ?_
    rw [← gather_lane (joined (F := F) sh lo hi) (fun j => fold (IntOp.andi (IntOp.muli 2#32 (iota .tc S64x128 32 [1] iota_S64x128_d1_w32 j)) 127#32)) r l _ (even_lane r l)]
    rfl
  · unfold nib0
    rw [← scale_at m sc W hm g r l k hk, ← hs r l]
    rfl

theorem widen_hi (m sh : IVec S64x128 32) (W : Fin 64 → BitVec 32) (hm : ∀ r l, m (ix2 r l) = W r) (hs : ∀ r l, sh (ix2 r l) = shw (W r))
    (sc : Vec F S64x40 .i32) (g : Fin k0_t2_loop.trips) (x4 lo hi : Vec F S64x128 .i32) (r : Fin 64) (l : Fin 128) (c : Fin 256) (hc : c.val = 128 + l.val)
    (k : Fin 40) (hk : k.val = 2 * g.val + if l.val < 64 then 0 else 1) :
    widen m sh sc g x4 lo hi (ix2 r c)
      = (elt (W r) (if l.val < 64 then lo (ix2 r (⟨2 * l.val % 128 + 1, by omega⟩ : Fin 128)) else hi (ix2 r (⟨2 * l.val % 128 + 1, by omega⟩ : Fin 128)))
          (nib1 (W r) (x4 (ix2 r l))) (sc (ix2 r k)) : F .bf16) := by
  unfold widen k0_pay3
  rw [shapeCast_self]
  unfold elt
  refine congrArg (FloatOps.truncf .bf16 bitsLt_bf16_f32) ?_
  refine (concatenate_pair_apply_right (t := S64x256) (s₁ := S64x128) (s₂ := S64x128) 1 _ _ _ (ix2 r c) rfl rfl (ix2 r l) ?_ ?_).trans ?_
  · intro b hb
    match b with
    | 0 => rfl
    | 1 => exact absurd rfl hb
  · show l.val + 128 = c.val
    omega
  refine congr (congr (congrArg Scalar.select ?_) ?_) ?_
  · exact congrArg (IntOp.cmpi .slt · 5504#32) (hm r l)
  · refine congrArg (FloatOps.sitofp .f32) ?_
    rw [← joined_byte W sh hs lo hi r l]
    refine congrArg (IntOp.shrsi .vector · 24#32) ?_
    rw [← gather_lane (joined (F := F) sh lo hi) (fun j => fold (IntOp.addi (IntOp.andi (IntOp.muli 2#32 (iota .tc S64x128 32 [1] iota_S64x128_d1_w32 j)) 127#32) 1#32)) r l _ (odd_lane r l)]
    rfl
  · unfold nib1
    rw [← scale_at m sc W hm g r l k hk, ← hs r l]
    rfl

end Cert.KernelIdeal.Hand

end
-- ==== Proof.KI.Rows.lean ====
/-
  The gather of one chunk's 64 weight rows, one operation at a time.

  Row `t` of the chunk starts one copy on the shared semaphore: an 8-bit row when the row's number is below 5504, a 4-bit row
  otherwise. It also starts one copy of a scale row on a semaphore of its own. The copies of one chunk on one semaphore are one
  `MixedBatch`. The state `St a b` says that `a` copies are started on the shared semaphore and `b` on the scales' one. Every
  rule below carries one printed operation past that state.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's algebra: the pipeline library's beside the transfers' counters. -/
local notation "𝕄" => MT nD τ sig Unit (Elt F) ℕ (Pipeline.UD sig nD τ) ℕ

/-- The transfers' counters. -/
abbrev EC : UEmb Counters 𝕄 := countersEmb (U := Pipeline.UD sig nD τ)

/-! ## One issue of a batch, with resources that ride along with the copy -/

open Transfers in
/-- Starting a batch's next copy, where the row's resources `pre` split into the copy's two ends and a rest `put`, and the
    landed copy with that rest is the delivery. -/
theorem issue {n : ℕ} {c : Dev nD} {sp sp' : Space} {s : Shape} {e : EltTy} {α : Type} {Q : α → sProp 𝕄}
    {src : Memref sig (c : Thread nD τ).2.kind sp s e} {dst : Memref sig (c : Thread nD τ).2.kind sp' s e} {sm : SemLoc sig}
    {hsrc : src.view.WordExact} {hdst : dst.view.WordExact} {hsem : DmaTarget.Typed (nD := nD) sp sm (DmaTarget.here (τ := τ) (p := (c : Thread nD τ).2) dst)}
    {K : Prog (TpuEff nD τ sig (Elt F) Λ₀ (c : Thread nD τ).2) α} {q : PosShare TreeShare} {fs : Buf (Elt F) (src.view.loc (c : Thread nD τ))}
    {Sd : Finset (Idx (dst.view.loc (c : Thread nD τ)))} {fd : Buf (Elt F) (dst.view.loc (c : Thread nD τ))}
    {A : Fin n → ℕ} {D pre : Fin n → sProp 𝕄} {j : ℕ} {put : sProp 𝕄}
    (hj : j < n) (hSd : dst.view.set ⊆ Sd) (hA : dst.view.amount sm = A ⟨j, hj⟩)
    (hpre : pre ⟨j, hj⟩ ⊢ iprop(((src.view.loc (c : Thread nD τ) ↦[src.view.set]{q} fs) ∗ (dst.view.loc (c : Thread nD τ) ↦[Sd]{fullShare} fd)) ∗ put))
    (hD : iprop(put ∗ ((dst.view.loc (c : Thread nD τ) ↦[Sd]{fullShare} (dst.view.write (Elt F) fd (src.view.read (Elt F) fs) Finset.univ))
              ∗ (src.view.loc (c : Thread nD τ) ↦[src.view.set]{q} fs))) ⊢ D ⟨j, hj⟩) :
    iprop(MixedBatch EC (c : Thread nD τ) sm () A D j 0 ∗ bigSep (pending j) pre)
      ⊢ iprop((iprop(MixedBatch EC (c : Thread nD τ) sm () A D (j + 1) 0 ∗ bigSep (pending (j + 1)) pre)
          -∗ wp frame (wpE (defs₀ (F := F)) Variants.none (c : Thread nD τ) none) Set.univ K Q)
        -∗ wp frame (wpE (defs₀ (F := F)) Variants.none (c : Thread nD τ) none) Set.univ
            (.op (.enqueueDmaAs src (.here dst) .same sm hsrc hdst hsem) fun _ => K) Q) := by
  unfold MixedBatch
  iintro ⟨⟨%γ, %γ₀, %κ, #Hinv, HI, H0, Hcred⟩, HP⟩ Hk
  ihave HI' := (show bigSep (pending j) (fun t => count EC (γ t) 0) ⊢ iprop(count EC (γ ⟨j, hj⟩) 0 ∗ bigSep (pending (j + 1)) (fun t => count EC (γ t) 0))
    from Entails.of_eq (by rw [pending_succ hj, bigSep_insert (not_mem_pending_succ hj)]; rfl)) $$ HI
  icases HI' with ⟨Ht, HI⟩
  ihave HP' := (show bigSep (pending j) pre ⊢ iprop(pre ⟨j, hj⟩ ∗ bigSep (pending (j + 1)) pre)
    from Entails.of_eq (by rw [pending_succ hj, bigSep_insert (not_mem_pending_succ hj)]; rfl)) $$ HP
  icases HP' with ⟨Hp, HP⟩
  ihave Hp' := hpre $$ Hp
  icases Hp' with ⟨⟨Hs, Hd⟩, Hput⟩
  iapply (wp_enqueueDmaAs Variants.none (c : Thread nD τ) none Set.univ () (A ⟨j, hj⟩) hA) $$ [Hs Hd] [Ht Hput]
  · isplitl [Hs]; · iexact Hs
    iapply (pointsTo_writeUpdate (c : Thread nD τ) hSd) $$ Hd
  · iapply (mixedBatch_creditUpdate_with EC ⟨j, hj⟩ hD)
    isplitr; · iexact Hinv
    isplitl [Ht] <;> iassumption
  iintro Hcred'
  iapply Hk
  isplitr [HP]
  · iexists γ, γ₀, κ
    isplitr; · iexact Hinv
    isplitl [HI]; · iexact HI
    isplitl [H0]; · iexact H0
    rw [show sumTo A (j + 1) - 0 = (sumTo A j - 0) + A ⟨j, hj⟩ by rw [sumTo_succ A hj]; omega, ← tallyAt_add]
    icombine Hcred Hcred' as H
    iexact H
  · iexact HP

/-! ## The buffers and the rows -/

abbrev w8M : Memref sig .tc .hbm S1376x5120 .i32 := Memref.whole main_v23
abbrev w4M : Memref sig .tc .hbm S5536x2560 .i32 := Memref.whole main_v20
abbrev wsM : Memref sig .tc .hbm S11072x40 .i32 := Memref.whole main_v26
abbrev g4M : Memref sig .tc .vmem S64x2560 .i32 := Memref.whole cc0_scratch2
abbrev g8M : Memref sig .tc .vmem S64x5120 .i32 := Memref.whole cc0_scratch3
abbrev gsM : Memref sig .tc .vmem S64x40 .i32 := Memref.whole cc0_scratch4

theorem inb8 (t : Fin 64) : ∀ a, (![t.val, 0] : Fin 2 → ℕ) a + S1x5120.size a ≤ S64x5120.size a := by
  intro a; fin_cases a <;> simp [S1x5120, S64x5120] <;> omega
theorem inb4 (t : Fin 64) : ∀ a, (![t.val, 0] : Fin 2 → ℕ) a + S1x2560.size a ≤ S64x2560.size a := by
  intro a; fin_cases a <;> simp [S1x2560, S64x2560] <;> omega
theorem inbs (t : Fin 64) : ∀ a, (![t.val, 0] : Fin 2 → ℕ) a + S1x40.size a ≤ S64x40.size a := by
  intro a; fin_cases a <;> simp [S1x40, S64x40] <;> omega

/-- Row `t` of the three gather buffers. -/
abbrev row8 (t : Fin 64) : Memref sig .tc .vmem S1x5120 .i32 :=
  g8M.slice (Rect.unit (s := S64x5120) ![t.val, 0] S1x5120.size (inb8 t)) (fun _ => rfl)
abbrev row4 (t : Fin 64) : Memref sig .tc .vmem S1x2560 .i32 :=
  g4M.slice (Rect.unit (s := S64x2560) ![t.val, 0] S1x2560.size (inb4 t)) (fun _ => rfl)
abbrev rows (t : Fin 64) : Memref sig .tc .vmem S1x40 .i32 :=
  gsM.slice (Rect.unit (s := S64x40) ![t.val, 0] S1x40.size (inbs t)) (fun _ => rfl)

/-- The rows a row number names in the three word arrays, as the kernel computes them. -/
abbrev src8 (w : BitVec 32) (h : ∀ a, k0_off2 w a + S1x5120.size a ≤ S1376x5120.size a) : Memref sig .tc .hbm S1x5120 .i32 :=
  w8M.slice (Rect.unit (s := S1376x5120) (k0_off2 w) S1x5120.size h) (fun _ => rfl)
abbrev src4 (w : BitVec 32) (h : ∀ a, k0_off3 w a + S1x2560.size a ≤ S5536x2560.size a) : Memref sig .tc .hbm S1x2560 .i32 :=
  w4M.slice (Rect.unit (s := S5536x2560) (k0_off3 w) S1x2560.size h) (fun _ => rfl)
abbrev srcs (w : BitVec 32) (h : ∀ a, k0_off4 w a + S1x40.size a ≤ S11072x40.size a) : Memref sig .tc .hbm S1x40 .i32 :=
  wsM.slice (Rect.unit (s := S11072x40) (k0_off4 w) S1x40.size h) (fun _ => rfl)

/-- The two tests a row makes are complementary. -/
theorem cond3_iff (w : BitVec 32) : k0_cond3 w = 1#1 ↔ ¬ k0_cond2 w = 1#1 := by
  unfold k0_cond3 k0_cond2
  simp only [Scalar.cmpi, Scalar.extui, Scalar.xori, IntOp.cmpi]
  cases BitVec.slt w 5504#32 <;> decide

variable (c : Dev nD) (W : Fin 64 → BitVec 32) (hW : ∀ t, k0_chk1 (W t))
variable (f8 : Buf (Elt F) (g8M.view.loc (c : Thread nD τ))) (f4 : Buf (Elt F) (g4M.view.loc (c : Thread nD τ)))
variable (fs : Buf (Elt F) (gsM.view.loc (c : Thread nD τ)))
variable (F8 : Buf (Elt F) (w8M.view.loc (c : Thread nD τ))) (F4 : Buf (Elt F) (w4M.view.loc (c : Thread nD τ)))
variable (Fs : Buf (Elt F) (wsM.view.loc (c : Thread nD τ)))

/-- What row `t`'s copy leaves in the 8-bit gather buffer, the 4-bit one and the scales' one. -/
def got8 (t : Fin 64) : Buf (Elt F) (g8M.view.loc (c : Thread nD τ)) :=
  if h : k0_cond2 (W t) = 1#1 then
    (row8 t).view.write (Elt F) f8 ((src8 (W t) ((hW t).1 h)).view.read (Elt F) F8) Finset.univ else f8
def got4 (t : Fin 64) : Buf (Elt F) (g4M.view.loc (c : Thread nD τ)) :=
  if h : k0_cond3 (W t) = 1#1 then
    (row4 t).view.write (Elt F) f4 ((src4 (W t) ((hW t).2.1 h)).view.read (Elt F) F4) Finset.univ else f4
def gots (t : Fin 64) : Buf (Elt F) (gsM.view.loc (c : Thread nD τ)) :=
  (rows t).view.write (Elt F) fs ((srcs (W t) (hW t).2.2).view.read (Elt F) Fs) Finset.univ

/-- A row's read share of each word array. -/
abbrev tk (t : Fin 64) : PosShare TreeShare := Transfers.shareTok fullShare 64 t

/-- A row before and after its copy. -/
def pre (t : Fin 64) : sProp 𝕄 :=
  iprop(((row8 t).view.loc (c : Thread nD τ) ↦[(row8 t).view.set]{fullShare} f8)
    ∗ ((row4 t).view.loc (c : Thread nD τ) ↦[(row4 t).view.set]{fullShare} f4)
    ∗ (w8M.view.loc (c : Thread nD τ) ↦[Finset.univ]{tk t} F8) ∗ (w4M.view.loc (c : Thread nD τ) ↦[Finset.univ]{tk t} F4))
def post (t : Fin 64) : sProp 𝕄 :=
  iprop(((row8 t).view.loc (c : Thread nD τ) ↦[(row8 t).view.set]{fullShare} got8 c W hW f8 F8 t)
    ∗ ((row4 t).view.loc (c : Thread nD τ) ↦[(row4 t).view.set]{fullShare} got4 c W hW f4 F4 t)
    ∗ (w8M.view.loc (c : Thread nD τ) ↦[Finset.univ]{tk t} F8) ∗ (w4M.view.loc (c : Thread nD τ) ↦[Finset.univ]{tk t} F4))
def preS (t : Fin 64) : sProp 𝕄 :=
  iprop(((rows t).view.loc (c : Thread nD τ) ↦[(rows t).view.set]{fullShare} fs) ∗ (wsM.view.loc (c : Thread nD τ) ↦[Finset.univ]{tk t} Fs))
def postS (t : Fin 64) : sProp 𝕄 :=
  iprop(((rows t).view.loc (c : Thread nD τ) ↦[(rows t).view.set]{fullShare} gots c W hW fs Fs t) ∗ (wsM.view.loc (c : Thread nD τ) ↦[Finset.univ]{tk t} Fs))

instance post_storable (t : Fin 64) : Storable (upEmb : UEmb _ 𝕄) (post c W hW f8 f4 F8 F4 t) := by unfold post; infer_instance
instance postS_storable (t : Fin 64) : Storable (upEmb : UEmb _ 𝕄) (postS c W hW fs Fs t) := by unfold postS; infer_instance

/-- The credit of a row: an 8-bit row is worth two 4-bit ones. -/
abbrev cr : ℕ := (row4 0).view.amount (.dma cc0_scratch5.sem)
abbrev crs : ℕ := (rows 0).view.amount (.dma cc0_scratch6.sem)
def Amt (t : Fin 64) : ℕ := if k0_cond2 (W t) = 1#1 then 2 * cr else cr

theorem amt8 (t : Fin 64) : (row8 t).view.amount (.dma cc0_scratch5.sem) = 2 * cr := by decide +revert
theorem amt4 (t : Fin 64) : (row4 t).view.amount (.dma cc0_scratch5.sem) = cr := rfl
theorem amts (t : Fin 64) : (rows t).view.amount (.dma cc0_scratch6.sem) = crs := rfl

end Cert.KernelIdeal.Hand

end
-- ==== Proof.KI.Steps.lean ====
/-
  The state of one chunk's gather and the step rules: a word loaded, its row number assumed in range, the three copies of a row
  started, and the waits.
-/
module

public import proofs.«01_k».proof.Proof.KI.Rows

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

/-- A core's weakest precondition in this program. -/
abbrev wpc (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- The place of word `r` of a chunk among the row numbers, as the kernel computes it. -/
def offW (r : ℕ) (i : grid0.Coords) (t : Fin k0_t1_loop.trips) : Fin 1 → ℕ :=
  ![(Scalar.indexCast (Scalar.addi (Scalar.muli (Scalar.addi (Scalar.muli (BitVec.ofNat 32 (i 0).val) 8#32)
      (Scalar.addi 0#32 (Scalar.muli (Scf.iv 0#32 1#32 t) 1#32))) 64#32) (BitVec.ofNat 32 r))).toNat]

theorem offW_int (r : ℕ) (hr : r < 64) (i : grid0.Coords) (t : Fin k0_t1_loop.trips) :
    Affine.IsInt (Scalar.indexCast (Scalar.addi (Scalar.muli (Scalar.addi (Scalar.muli (BitVec.ofNat 32 (i 0).val) 8#32)
      (Scalar.addi 0#32 (Scalar.muli (Scf.iv 0#32 1#32 t) 1#32))) 64#32) (BitVec.ofNat 32 r)))
      (512 * ((i 0).val : Int) + 64 * (t.val : Int) + r) := by
  have r_i0 : (i 0).val < 54 := (i 0).isLt
  have r_t : t.val < 8 := Nat.lt_of_lt_of_le t.isLt k0_t1_abs.2.1
  have h0 : Affine.IsInt 0#32 (0) := Affine.ofNat _ (by omega)
  have h1 : Affine.IsInt 1#32 (1) := Affine.ofNat _ (by omega)
  have hiv : Affine.IsInt _ ((t.val : Int)) := Affine.iv h0 h1 t.val (by omega)
  have h5 : Affine.IsInt _ ((t.val : Int)) := Affine.muli hiv h1 (by omega)
  have h6 : Affine.IsInt _ ((t.val : Int)) := Affine.addi h0 h5 (by omega)
  have ha : Affine.IsInt (BitVec.ofNat 32 (i 0).val) (((i 0).val : Int)) := Affine.ofNat _ (by omega)
  have h8 : Affine.IsInt 8#32 (8) := Affine.ofNat _ (by omega)
  have h7 : Affine.IsInt _ (8 * ((i 0).val : Int)) := Affine.muli ha h8 (by omega)
  have h9 : Affine.IsInt _ (8 * ((i 0).val : Int) + (t.val : Int)) := Affine.addi h7 h6 (by omega)
  have h64 : Affine.IsInt 64#32 (64) := Affine.ofNat _ (by omega)
  have h10 : Affine.IsInt _ (512 * ((i 0).val : Int) + 64 * (t.val : Int)) := Affine.muli h9 h64 (by omega)
  have hn : Affine.IsInt (BitVec.ofNat 32 r) (r : Int) := Affine.ofNat _ (by omega)
  have h11 : Affine.IsInt _ (512 * ((i 0).val : Int) + 64 * (t.val : Int) + r) := Affine.addi h10 hn (by omega)
  exact Affine.indexCast h11

theorem inbW (r : ℕ) (hr : r < 64) (i : grid0.Coords) (t : Fin k0_t1_loop.trips) :
    ∀ a, offW r i t a + S1.size a ≤ S27648.size a := by
  have r_i0 : (i 0).val < 54 := (i 0).isLt
  have r_t : t.val < 8 := Nat.lt_of_lt_of_le t.isLt k0_t1_abs.2.1
  exact Affine.inb_cons (offW_int r hr i t) (by omega) <| Affine.inb_nil

variable (c : Dev nD) (W : Fin 64 → BitVec 32) (hW : ∀ t, k0_chk1 (W t))
variable (f8 : Buf (Elt F) (g8M.view.loc (c : Thread nD τ))) (f4 : Buf (Elt F) (g4M.view.loc (c : Thread nD τ)))
variable (fs : Buf (Elt F) (gsM.view.loc (c : Thread nD τ)))
variable (F8 : Buf (Elt F) (w8M.view.loc (c : Thread nD τ))) (F4 : Buf (Elt F) (w4M.view.loc (c : Thread nD τ)))
variable (Fs : Buf (Elt F) (wsM.view.loc (c : Thread nD τ)))

/-- `a` copies started on the shared semaphore, `b` on the scales' one; `R` is what the rest of the kernel holds. -/
def St (R : sProp 𝕄) (a b : ℕ) : sProp 𝕄 :=
  iprop(R ∗ (MixedBatch EC (c : Thread nD τ) (.dma cc0_scratch5.sem) () (Amt W) (post c W hW f8 f4 F8 F4) a 0
      ∗ bigSep (pending a) (pre c f8 f4 F8 F4))
    ∗ (MixedBatch EC (c : Thread nD τ) (.dma cc0_scratch6.sem) () (fun _ => crs) (postS c W hW fs Fs) b 0
      ∗ bigSep (pending b) (preS c fs Fs))
    ∗ (∃ V, owes (c : Thread nD τ) 0 V))

variable {c W hW f8 f4 fs F8 F4 Fs}
variable {α : Type}

theorem st_assume {Q : α → sProp 𝕄} {P : Prop} {d : Decidable P} {X : sProp 𝕄} {k : PLift P → Prog (TpuEff nD τ sig (Elt F) Λ₀ .tc) α} (hP : P)
    (h : X ⊢ wpc c (k ⟨hP⟩) Q) : X ⊢ wpc c (Prog.lift (.assume P d) >>= k) Q :=
  h.trans (wp_assume Variants.none (c : Thread nD τ) none Set.univ hP)

/-- A buffer held at a share splits into what one copy reads of it and the rest. -/
theorem lend {sp : Space} {s : Shape} {e : EltTy} (b : Memref sig .tc sp s e) (r : Rect s) (q : PosShare TreeShare)
    (f : Buf (Elt F) (b.view.loc (c : Thread nD τ))) :
    ((b.view.loc (c : Thread nD τ) ↦[Finset.univ]{q} f) : sProp 𝕄)
      ⊣⊢ iprop(((b.view.slice r).loc (c : Thread nD τ) ↦[(b.view.slice r).set]{q} f)
          ∗ (b.view.loc (c : Thread nD τ) ↦[Finset.univ \ (b.view.slice r).set]{q} f)) :=
  pointsTo_split_subset (ℓ := b.view.loc (c : Thread nD τ)) (Finset.subset_univ (b.view.slice r).set)

/-- An 8-bit row's copy. -/
theorem st_if8 {R : sProp 𝕄} {Q : α → sProp 𝕄} (r : ℕ) (hr : r < 64) {inst : Decidable (k0_cond2 (W ⟨r, hr⟩) = 1#1)}
    {K : Prog (TpuEff nD τ sig (Elt F) Λ₀ .tc) α}
    (h : St c W hW f8 f4 fs F8 F4 Fs R (if k0_cond2 (W ⟨r, hr⟩) = 1#1 then r + 1 else r) r ⊢ wpc c K Q) :
    St c W hW f8 f4 fs F8 F4 Fs R r r ⊢ wpc c (@dite _ (k0_cond2 (W ⟨r, hr⟩) = 1#1) inst
      (fun hc => Prog.lift (.enqueueDma (src8 (W ⟨r, hr⟩) ((hW ⟨r, hr⟩).1 hc)) (.here (row8 ⟨r, hr⟩)) (.dma cc0_scratch5.sem)
        (View.wordExact_bits rfl) (View.wordExact_bits rfl) ⟨Or.inl rfl, trivial⟩) >>= fun _ => K) (fun _ => K)) Q := by
  by_cases hc : k0_cond2 (W ⟨r, hr⟩) = 1#1
  · rw [dif_pos hc]
    rw [if_pos hc] at h
    unfold St at h ⊢
    iintro ⟨HR, HB, HS⟩
    iapply (issue (c := c) (src := src8 (W ⟨r, hr⟩) ((hW ⟨r, hr⟩).1 hc)) (dst := row8 ⟨r, hr⟩) (sm := .dma cc0_scratch5.sem)
      (q := tk ⟨r, hr⟩) (fs := F8) (Sd := (row8 ⟨r, hr⟩).view.set) (fd := f8)
      (put := iprop((w8M.view.loc (c : Thread nD τ) ↦[Finset.univ \ (src8 (W ⟨r, hr⟩) ((hW ⟨r, hr⟩).1 hc)).view.set]{tk ⟨r, hr⟩} F8)
         ∗ ((row4 ⟨r, hr⟩).view.loc (c : Thread nD τ) ↦[(row4 ⟨r, hr⟩).view.set]{fullShare} f4)
         ∗ (w4M.view.loc (c : Thread nD τ) ↦[Finset.univ]{tk ⟨r, hr⟩} F4)))
      (A := Amt W) (D := post c W hW f8 f4 F8 F4) (pre := pre c f8 f4 F8 F4) hr (Finset.Subset.refl _) ?_ ?_ ?_) $$ HB
    · rw [amt8, Amt, if_pos hc]
    · unfold pre
      iintro ⟨H8, H4, HF8, HF4⟩
      ihave HF' := (lend w8M (Rect.unit (k0_off2 (W ⟨r, hr⟩)) _ ((hW ⟨r, hr⟩).1 hc)) (tk ⟨r, hr⟩) F8).1 $$ HF8
      icases HF' with ⟨Ha, Hb⟩
      isplitl [Ha H8]
      · isplitl [Ha]
        · iexact Ha
        · iexact H8
      · isplitl [Hb]
        · iexact Hb
        isplitl [H4]
        · iexact H4
        · iexact HF4
    · unfold post got8 got4
      rw [dif_pos hc, dif_neg (fun h3 => (cond3_iff _).1 h3 hc)]
      iintro ⟨⟨Hb, H4, HF4⟩, H8, Ha⟩
      ihave HF8 := (lend w8M (Rect.unit (k0_off2 (W ⟨r, hr⟩)) _ ((hW ⟨r, hr⟩).1 hc)) (tk ⟨r, hr⟩) F8).2 $$ [Ha Hb]
      · isplitl [Ha]
        · iexact Ha
        · iexact Hb
      isplitl [H8]; · iexact H8
      isplitl [H4]; · iexact H4
      isplitl [HF8]; · iexact HF8
      iexact HF4
    · iintro HB
      iapply h
      isplitl [HR]; · iexact HR
      isplitl [HB]; · iexact HB
      iexact HS
  · rw [dif_neg hc]
    rw [if_neg hc] at h
    exact h

/-- A 4-bit row's copy. -/
theorem st_if4 {R : sProp 𝕄} {Q : α → sProp 𝕄} (r : ℕ) (hr : r < 64) {inst : Decidable (k0_cond3 (W ⟨r, hr⟩) = 1#1)}
    {K : Prog (TpuEff nD τ sig (Elt F) Λ₀ .tc) α}
    (h : St c W hW f8 f4 fs F8 F4 Fs R (r + 1) r ⊢ wpc c K Q) :
    St c W hW f8 f4 fs F8 F4 Fs R (if k0_cond2 (W ⟨r, hr⟩) = 1#1 then r + 1 else r) r ⊢ wpc c (@dite _ (k0_cond3 (W ⟨r, hr⟩) = 1#1) inst
      (fun hc => Prog.lift (.enqueueDma (src4 (W ⟨r, hr⟩) ((hW ⟨r, hr⟩).2.1 hc)) (.here (row4 ⟨r, hr⟩)) (.dma cc0_scratch5.sem)
        (View.wordExact_bits rfl) (View.wordExact_bits rfl) ⟨Or.inl rfl, trivial⟩) >>= fun _ => K) (fun _ => K)) Q := by
  by_cases hc : k0_cond3 (W ⟨r, hr⟩) = 1#1
  · rw [dif_pos hc]
    rw [if_neg ((cond3_iff _).1 hc)]
    unfold St at h ⊢
    iintro ⟨HR, HB, HS⟩
    iapply (issue (c := c) (src := src4 (W ⟨r, hr⟩) ((hW ⟨r, hr⟩).2.1 hc)) (dst := row4 ⟨r, hr⟩) (sm := .dma cc0_scratch5.sem)
      (q := tk ⟨r, hr⟩) (fs := F4) (Sd := (row4 ⟨r, hr⟩).view.set) (fd := f4)
      (put := iprop((w4M.view.loc (c : Thread nD τ) ↦[Finset.univ \ (src4 (W ⟨r, hr⟩) ((hW ⟨r, hr⟩).2.1 hc)).view.set]{tk ⟨r, hr⟩} F4)
         ∗ ((row8 ⟨r, hr⟩).view.loc (c : Thread nD τ) ↦[(row8 ⟨r, hr⟩).view.set]{fullShare} f8)
         ∗ (w8M.view.loc (c : Thread nD τ) ↦[Finset.univ]{tk ⟨r, hr⟩} F8)))
      (A := Amt W) (D := post c W hW f8 f4 F8 F4) (pre := pre c f8 f4 F8 F4) hr (Finset.Subset.refl _) ?_ ?_ ?_) $$ HB
    · rw [amt4, Amt, if_neg ((cond3_iff _).1 hc)]
    · unfold pre
      iintro ⟨H8, H4, HF8, HF4⟩
      ihave HF' := (lend w4M (Rect.unit (k0_off3 (W ⟨r, hr⟩)) _ ((hW ⟨r, hr⟩).2.1 hc)) (tk ⟨r, hr⟩) F4).1 $$ HF4
      icases HF' with ⟨Ha, Hb⟩
      isplitl [Ha H4]
      · isplitl [Ha]
        · iexact Ha
        · iexact H4
      · isplitl [Hb]
        · iexact Hb
        isplitl [H8]
        · iexact H8
        · iexact HF8
    · unfold post got8 got4
      rw [dif_pos hc, dif_neg ((cond3_iff _).1 hc)]
      iintro ⟨⟨Hb, H8, HF8⟩, H4, Ha⟩
      ihave HF4 := (lend w4M (Rect.unit (k0_off3 (W ⟨r, hr⟩)) _ ((hW ⟨r, hr⟩).2.1 hc)) (tk ⟨r, hr⟩) F4).2 $$ [Ha Hb]
      · isplitl [Ha]
        · iexact Ha
        · iexact Hb
      isplitl [H8]; · iexact H8
      isplitl [H4]; · iexact H4
      isplitl [HF8]; · iexact HF8
      iexact HF4
    · iintro HB
      iapply h
      isplitl [HR]; · iexact HR
      isplitl [HB]; · iexact HB
      iexact HS
  · rw [dif_neg hc]
    rw [if_pos (by by_contra hn; exact hc ((cond3_iff _).2 hn))]
    exact h

/-- A scale row's copy. -/
theorem st_scale {R : sProp 𝕄} {Q : α → sProp 𝕄} (r : ℕ) (hr : r < 64)
    {k : PUnit → Prog (TpuEff nD τ sig (Elt F) Λ₀ .tc) α}
    (h : St c W hW f8 f4 fs F8 F4 Fs R (r + 1) (r + 1) ⊢ wpc c (k ⟨⟩) Q) :
    St c W hW f8 f4 fs F8 F4 Fs R (r + 1) r ⊢ wpc c
      (Prog.lift (.enqueueDma (srcs (W ⟨r, hr⟩) (hW ⟨r, hr⟩).2.2) (.here (rows ⟨r, hr⟩)) (.dma cc0_scratch6.sem)
        (View.wordExact_bits rfl) (View.wordExact_bits rfl) ⟨Or.inl rfl, trivial⟩) >>= k) Q := by
  unfold St at h ⊢
  iintro ⟨HR, HB, HS, HO⟩
  iapply (issue (c := c) (src := srcs (W ⟨r, hr⟩) (hW ⟨r, hr⟩).2.2) (dst := rows ⟨r, hr⟩) (sm := .dma cc0_scratch6.sem)
    (K := k ⟨⟩)
    (q := tk ⟨r, hr⟩) (fs := Fs) (Sd := (rows ⟨r, hr⟩).view.set) (fd := fs)
    (put := iprop(wsM.view.loc (c : Thread nD τ) ↦[Finset.univ \ (srcs (W ⟨r, hr⟩) (hW ⟨r, hr⟩).2.2).view.set]{tk ⟨r, hr⟩} Fs))
    (A := fun _ => crs) (D := postS c W hW fs Fs) (pre := preS c fs Fs) hr (Finset.Subset.refl _) ?_ ?_ ?_) $$ HS
  · exact amts _
  · unfold preS
    iintro ⟨H8, HF8⟩
    ihave HF' := (lend wsM (Rect.unit (k0_off4 (W ⟨r, hr⟩)) _ (hW ⟨r, hr⟩).2.2) (tk ⟨r, hr⟩) Fs).1 $$ HF8
    icases HF' with ⟨Ha, Hb⟩
    isplitl [Ha H8]
    · isplitl [Ha]
      · iexact Ha
      · iexact H8
    · iexact Hb
  · unfold postS gots
    iintro ⟨Hb, H8, Ha⟩
    ihave HF8 := (lend wsM (Rect.unit (k0_off4 (W ⟨r, hr⟩)) _ (hW ⟨r, hr⟩).2.2) (tk ⟨r, hr⟩) Fs).2 $$ [Ha Hb]
    · isplitl [Ha]
      · iexact Ha
      · iexact Hb
    isplitl [H8]; · iexact H8
    iexact HF8
  · iintro HS
    iapply h
    isplitl [HR]; · iexact HR
    isplitl [HB]; · iexact HB
    isplitl [HS]; · iexact HS
    iexact HO

end Cert.KernelIdeal.Hand

end
-- ==== Proof.KI.Waits.lean ====
/-
  The word loads and the waits of one chunk's gather. The shared semaphore is waited on for all 64 four-bit rows at once, and
  then, one bit of the count of 8-bit rows at a time, for the second half of each 8-bit row. The scales' semaphore is waited on
  row by row.
-/
module

public import proofs.«01_k».proof.Proof.KI.Steps
public import Idealize.ShloMosaic.Lib.Exec.Context

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

variable {c : Dev nD} {W : Fin 64 → BitVec 32} {hW : ∀ t, k0_chk1 (W t)}
variable {f8 : Buf (Elt F) (g8M.view.loc (c : Thread nD τ))} {f4 : Buf (Elt F) (g4M.view.loc (c : Thread nD τ))}
variable {fs : Buf (Elt F) (gsM.view.loc (c : Thread nD τ))}
variable {F8 : Buf (Elt F) (w8M.view.loc (c : Thread nD τ))} {F4 : Buf (Elt F) (w4M.view.loc (c : Thread nD τ))}
variable {Fs : Buf (Elt F) (wsM.view.loc (c : Thread nD τ))}
variable {α : Type}

/-! ## The count of 8-bit rows -/

/-- The kernel's running count of 8-bit rows after `r` rows. -/
def nsum (W : Fin 64 → BitVec 32) : ℕ → BitVec 32
  | 0 => 0#32
  | r + 1 => if h : r < 64 then Scalar.addi (nsum W r) (Scalar.extui (Scalar.cmpi .slt (W ⟨r, h⟩) 5504#32)) else 0#32

/-- The same count in the naturals. -/
def cnt (W : Fin 64 → BitVec 32) : ℕ → ℕ := sumTo (fun t : Fin 64 => if k0_cond2 (W t) = 1#1 then 1 else 0)

theorem ext_cond (w : BitVec 32) :
    (Scalar.extui (Scalar.cmpi .slt w 5504#32) : BitVec 32).toNat = if k0_cond2 w = 1#1 then 1 else 0 := by
  unfold k0_cond2
  cases h : w.slt 5504#32 <;> simp [Scalar.cmpi, Scalar.extui, IntOp.cmpi, h]

theorem cnt_le (W : Fin 64 → BitVec 32) : ∀ r, r ≤ 64 → cnt W r ≤ r
  | 0, _ => le_rfl
  | r + 1, h => by
    have := cnt_le W r (by omega)
    unfold cnt at this ⊢
    rw [sumTo_succ _ (show r < 64 by omega)]
    split <;> omega

theorem nsum_toNat (W : Fin 64 → BitVec 32) : ∀ r, r ≤ 64 → (nsum W r).toNat = cnt W r
  | 0, _ => rfl
  | r + 1, h => by
    have h1 := nsum_toNat W r (by omega)
    have h2 := cnt_le W r (by omega)
    have hr : r < 64 := by omega
    unfold cnt at h1 h2 ⊢
    rw [sumTo_succ _ hr, ← h1, nsum, dif_pos hr, ← ext_cond]
    have h3 : (Scalar.extui (Scalar.cmpi .slt (W ⟨r, hr⟩) 5504#32) : BitVec 32).toNat ≤ 1 := by
      rw [ext_cond]; split <;> omega
    show (nsum W r + Scalar.extui (Scalar.cmpi .slt (W ⟨r, hr⟩) 5504#32)).toNat = _
    rw [BitVec.toNat_add, Nat.mod_eq_of_lt]
    omega

theorem sum_Amt (W : Fin 64 → BitVec 32) : ∀ r, r ≤ 64 → sumTo (Amt W) r = r * cr + cnt W r * cr
  | 0, _ => by simp [sumTo, cnt]
  | r + 1, h => by
    have hr : r < 64 := by omega
    have ih := sum_Amt W r (by omega)
    unfold cnt at ih ⊢
    rw [sumTo_succ _ hr, sumTo_succ _ hr, ih, Amt]
    split
    · rw [Nat.add_mul, Nat.add_mul]; omega
    · rw [Nat.add_mul, Nat.add_mul]; omega

/-- What the waits have taken off the shared semaphore: nothing, then the 64 rows, then bit by bit. -/
def U (W : Fin 64 → BitVec 32) : ℕ → ℕ
  | 0 => 0
  | b + 1 => 64 * cr + (cnt W 64 % 2 ^ b) * cr

theorem U_end (W : Fin 64 → BitVec 32) : U W 8 = sumTo (Amt W) 64 := by
  rw [sum_Amt W 64 le_rfl, U, Nat.mod_eq_of_lt (by have := cnt_le W 64 le_rfl; omega)]

theorem U_le (W : Fin 64 → BitVec 32) (b : ℕ) : U W b ≤ sumTo (Amt W) 64 := by
  rw [sum_Amt W 64 le_rfl]
  cases b with
  | zero => exact Nat.zero_le _
  | succ b => exact Nat.add_le_add_left (Nat.mul_le_mul_right _ (Nat.mod_le _ _)) _

/-- The test of bit `b` of the count. -/
theorem bit_test (W : Fin 64 → BitVec 32) (b : ℕ) (hb : b < 7) :
    Scalar.cmpi .ne (Scalar.extui (Scalar.cmpi .ne (Scalar.andi (nsum W 64) (BitVec.ofNat 32 (2 ^ b))) 0#32)) 0#32 = 1#1
      ↔ (cnt W 64).testBit b = true := by
  rw [← nsum_toNat W 64 le_rfl]
  generalize nsum W 64 = n
  have h1 : (n &&& BitVec.ofNat 32 (2 ^ b) ≠ 0#32) ↔ n.toNat.testBit b = true := by
    have hp : BitVec.ofNat 32 (2 ^ b) = BitVec.twoPow 32 b := by
      have h : ∀ b : Fin 7, BitVec.ofNat 32 (2 ^ b.val) = BitVec.twoPow 32 b.val := by decide
      exact h ⟨b, hb⟩
    have hz : BitVec.twoPow 32 b ≠ 0#32 := by
      have h : ∀ b : Fin 7, BitVec.twoPow 32 b.val ≠ 0#32 := by decide
      exact h ⟨b, hb⟩
    rw [hp, BitVec.and_twoPow, BitVec.testBit_toNat]
    cases n.getLsbD b <;> simp [hz]
  rw [← h1]
  simp only [Scalar.cmpi, Scalar.extui, Scalar.andi, IntOp.cmpi, IntOp.andi]
  by_cases h : n &&& BitVec.ofNat 32 (2 ^ b) = 0#32
  · simp [h]
  · rw [show (n &&& BitVec.ofNat 32 (2 ^ b) != 0#32) = true by simp [bne, h]]
    simp [h]

theorem U_succ (W : Fin 64 → BitVec 32) (b : ℕ) :
    U W (b + 2) = U W (b + 1) + if (cnt W 64).testBit b = true then 2 ^ b * cr else 0 := by
  show 64 * cr + (cnt W 64 % 2 ^ (b + 1)) * cr = 64 * cr + (cnt W 64 % 2 ^ b) * cr + _
  rw [Nat.mod_pow_succ, Nat.add_mul, ← Nat.add_assoc, Nat.testBit_eq_decide_div_mod_eq]
  have h2 : cnt W 64 / 2 ^ b % 2 < 2 := Nat.mod_lt _ (by omega)
  by_cases h : cnt W 64 / 2 ^ b % 2 = 1
  · simp [h]
  · have h0 : cnt W 64 / 2 ^ b % 2 = 0 := by omega
    simp [h0]

/-! ## The loads and the waits -/

/-- Word `r` of the chunk, as the kernel reads it. -/
def wordAt (arg1 : Memref sig .tc .smem S27648 .i32) (f1 : Buf (Elt F) (arg1.view.loc (c : Thread nD τ))) (i : grid0.Coords)
    (t : Fin k0_t1_loop.trips) (r : Fin 64) : BitVec 32 :=
  (arg1.access (Rect.unit (s := S27648) (offW r.val i t) S1.size (inbW r.val r.isLt i t))).read (Elt F) f1
    (Shape.Idx.first (numel1_S1.symm ▸ Nat.one_pos))

theorem st_load {arg1 : Memref sig .tc .smem S27648 .i32} {f1 : Buf (Elt F) (arg1.view.loc (c : Thread nD τ))} {q1 : PosShare TreeShare}
    {i : grid0.Coords} {t : Fin k0_t1_loop.trips} {R : sProp 𝕄} {Q : α → sProp 𝕄} (r : ℕ) (hr : r < 64)
    (hw : W ⟨r, hr⟩ = wordAt (c := c) arg1 f1 i t ⟨r, hr⟩)
    {k : BitVec 32 → Prog (TpuEff nD τ sig (Elt F) Λ₀ .tc) α}
    (h : St c W hW f8 f4 fs F8 F4 Fs iprop((arg1.view.loc (c : Thread nD τ) ↦[arg1.view.set]{q1} f1) ∗ R) r r ⊢ wpc c (k (W ⟨r, hr⟩)) Q) :
    St c W hW f8 f4 fs F8 F4 Fs iprop((arg1.view.loc (c : Thread nD τ) ↦[arg1.view.set]{q1} f1) ∗ R) r r
      ⊢ wpc c (smemLoad arg1 (Rect.unit (s := S27648) (offW r i t) S1.size (inbW r hr i t)) numel1_S1 rfl >>= k) Q := by
  rw [hw] at h
  unfold St at h ⊢
  iintro ⟨⟨H1, HR⟩, HS⟩
  iapply (wp_smemLoadElt_named Variants.none (c : Thread nD τ) none Set.univ (hw := View.loads_smem_one rfl numel1_S1) (m := arg1) (S := arg1.view.set) (f := f1) (q := q1)
    (r := Rect.unit (s := S27648) (offW r i t) S1.size (inbW r hr i t)) (x := Shape.Idx.first (numel1_S1.symm ▸ Nat.one_pos))
    (k := fun x => Prog.ret x >>= k)
    (View.set_slice_subset arg1.view _)) $$ H1
  iintro H1 %w %hv
  rw [show w = wordAt (c := c) arg1 f1 i t ⟨r, hr⟩ from hv]
  iapply h
  isplitr [HS]
  · isplitl [H1]; · iexact H1
    iexact HR
  · iexact HS

variable (c W hW f8 f4 fs F8 F4 Fs) in
/-- The gather's waits: `p` of them are done on the shared semaphore, `r` on the scales' one. -/
def Wt (R : sProp 𝕄) (p r : ℕ) : sProp 𝕄 :=
  iprop(R ∗ MixedBatch EC (c : Thread nD τ) (.dma cc0_scratch5.sem) () (Amt W) (post c W hW f8 f4 F8 F4) 64 (U W p)
    ∗ MixedBatch EC (c : Thread nD τ) (.dma cc0_scratch6.sem) () (fun _ => crs) (postS c W hW fs Fs) 64 (r * crs)
    ∗ (∃ V, owes (c : Thread nD τ) 0 V))

theorem st_done {R : sProp 𝕄} {P : sProp 𝕄} (h : Wt c W hW f8 f4 fs F8 F4 Fs R 0 0 ⊢ P) : St c W hW f8 f4 fs F8 F4 Fs R 64 64 ⊢ P := by
  refine BIBase.Entails.trans ?_ h
  unfold St Wt
  iintro ⟨HR, ⟨HB, -⟩, ⟨HS, -⟩, HO⟩
  isplitl [HR]; · iexact HR
  isplitl [HB]; · iexact HB
  isplitl [HS]; · rw [Nat.zero_mul]; iexact HS
  iexact HO

theorem st_wait4 {R : sProp 𝕄} {Q : α → sProp 𝕄} {r : ℕ} {s s' : Shape} {e : EltTy} {srcw : Memref sig .tc .vmem s' e}
    {dstw : Memref sig .tc .vmem s e} {hsrc : srcw.view.WordExact} {hdst : dstw.view.WordExact}
    (hJ : dstw.view.dmaCredit = 64 * cr) {k : PUnit → Prog (TpuEff nD τ sig (Elt F) Λ₀ .tc) α}
    (h : Wt c W hW f8 f4 fs F8 F4 Fs R 1 r ⊢ wpc c (k ⟨⟩) Q) :
    Wt c W hW f8 f4 fs F8 F4 Fs R 0 r ⊢ wpc c (Prog.lift (.waitDma2 cc0_scratch5.sem srcw dstw hsrc hdst) >>= k) Q := by
  unfold Wt at h ⊢
  iintro ⟨HR, HB, HS, ⟨%V, HO⟩⟩
  iapply (wp_waitMixedBatch EC Variants.none (c : Thread nD τ) none () hJ (A := Amt W) (u := U W 0) (j := 64) ?_) $$ [HB HO]
  · show 0 + 64 * cr ≤ _
    rw [sum_Amt W 64 le_rfl]; omega
  · isplitl [HB]; · iexact HB
    iexact HO
  iintro ⟨HB, HO⟩
  iapply h
  isplitl [HR]; · iexact HR
  isplitl [HB]
  · rw [show U W 1 = U W 0 + 64 * cr by simp [U, Nat.mod_one]]; iexact HB
  isplitl [HS]; · iexact HS
  iexists _; iexact HO

theorem st_waits {R : sProp 𝕄} {Q : α → sProp 𝕄} {p : ℕ} (r : ℕ) (hr : r < 64) {s s' : Shape} {e e' : EltTy} {srcw : Memref sig .tc .hbm s' e'}
    {dstw : Memref sig .tc .vmem s e} {hsrc : srcw.view.WordExact} {hdst : dstw.view.WordExact}
    (hJ : dstw.view.dmaCredit = crs) {k : PUnit → Prog (TpuEff nD τ sig (Elt F) Λ₀ .tc) α}
    (h : Wt c W hW f8 f4 fs F8 F4 Fs R p (r + 1) ⊢ wpc c (k ⟨⟩) Q) :
    Wt c W hW f8 f4 fs F8 F4 Fs R p r ⊢ wpc c (Prog.lift (.waitDma2 cc0_scratch6.sem srcw dstw hsrc hdst) >>= k) Q := by
  unfold Wt at h ⊢
  iintro ⟨HR, HB, HS, ⟨%V, HO⟩⟩
  iapply (wp_waitMixedBatch EC Variants.none (c : Thread nD τ) none () hJ (A := fun _ => crs) (u := r * crs) (j := 64) ?_) $$ [HS HO]
  · rw [sumTo_const crs le_rfl, ← Nat.succ_mul]; exact Nat.mul_le_mul_right _ hr
  · isplitl [HS]; · iexact HS
    iexact HO
  iintro ⟨HS, HO⟩
  iapply h
  isplitl [HR]; · iexact HR
  isplitl [HB]; · iexact HB
  isplitl [HS]
  · rw [Nat.succ_mul]; iexact HS
  iexists _; iexact HO

theorem st_bit {R : sProp 𝕄} {Q : α → sProp 𝕄} {r : ℕ} (b : ℕ) (hb : b < 7) {N M : BitVec 32} (hN : N = nsum W 64) (hM : M = BitVec.ofNat 32 (2 ^ b))
    {s s' : Shape} {e e' : EltTy} {srcw : Memref sig .tc .vmem s' e'}
    {dstw : Memref sig .tc .vmem s e} {hsrc : srcw.view.WordExact} {hdst : dstw.view.WordExact}
    (hJ : dstw.view.dmaCredit = 2 ^ b * cr)
    {inst : Decidable (Scalar.cmpi .ne (Scalar.extui (Scalar.cmpi .ne (Scalar.andi N M) 0#32)) 0#32 = 1#1)}
    {K : Prog (TpuEff nD τ sig (Elt F) Λ₀ .tc) α}
    (h : Wt c W hW f8 f4 fs F8 F4 Fs R (b + 2) r ⊢ wpc c K Q) :
    Wt c W hW f8 f4 fs F8 F4 Fs R (b + 1) r ⊢ wpc c
      (@ite _ (Scalar.cmpi .ne (Scalar.extui (Scalar.cmpi .ne (Scalar.andi N M) 0#32)) 0#32 = 1#1) inst
        (Prog.lift (.waitDma2 cc0_scratch5.sem srcw dstw hsrc hdst) >>= fun _ => K) K) Q := by
  subst hN hM
  have hU := U_succ W b
  by_cases hc : (cnt W 64).testBit b = true
  · rw [if_pos ((bit_test W b hb).2 hc)]
    rw [if_pos hc] at hU
    unfold Wt at h ⊢
    rw [hU] at h
    iintro ⟨HR, HB, HS, ⟨%V, HO⟩⟩
    iapply (wp_waitMixedBatch EC Variants.none (c : Thread nD τ) none () hJ (A := Amt W) (u := U W (b + 1)) (j := 64) ?_) $$ [HB HO]
    · rw [← hU]; exact U_le W _
    · isplitl [HB]; · iexact HB
      iexact HO
    iintro ⟨HB, HO⟩
    iapply h
    isplitl [HR]; · iexact HR
    isplitl [HB]; · iexact HB
    isplitl [HS]; · iexact HS
    iexists _; iexact HO
  · rw [if_neg (fun h => hc ((bit_test W b hb).1 h))]
    rw [if_neg hc] at hU
    unfold Wt at h ⊢
    rw [hU, Nat.add_zero] at h
    exact h

end Cert.KernelIdeal.Hand

end
-- ==== Proof.KI.Walk.lean ====
/-
  One chunk's gather, from the first load to the last wait: the printed parts in order, each walked by the step rules.
-/
module

public import proofs.«01_k».proof.Proof.KI.Waits
public import Idealize.ShloMosaic.Lib.Exec.Context

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

variable {c : Dev nD} {W : Fin 64 → BitVec 32} {hW : ∀ t, k0_chk1 (W t)}
variable {f8 : Buf (Elt F) (g8M.view.loc (c : Thread nD τ))} {f4 : Buf (Elt F) (g4M.view.loc (c : Thread nD τ))}
variable {fs : Buf (Elt F) (gsM.view.loc (c : Thread nD τ))}
variable {F8 : Buf (Elt F) (w8M.view.loc (c : Thread nD τ))} {F4 : Buf (Elt F) (w4M.view.loc (c : Thread nD τ))}
variable {Fs : Buf (Elt F) (wsM.view.loc (c : Thread nD τ))}
variable {α : Type}

/-- What a chunk's body carries on from the gather: the chunk's number, and the lane masks its row numbers give. -/
def chunkMeta (i : grid0.Coords) (t : Fin k0_t1_loop.trips) (v : Vec F S1x128 .i32) :
    Σ' (v6 : BitVec 32) (v1210 : IVec S64x128 32) (v1216 : IVec S64x128 32), BitVec 32 :=
  let v6 : BitVec 32 := Scalar.addi 0#32 (Scalar.muli (Scf.iv 0#32 1#32 t) 1#32)
  ⟨v6, k0_pay16 (k0_pay13 v6) (k0_pay14 v) k0_pay15, k0_pay17 (k0_pay13 v6) (k0_pay14 v) k0_pay15, 5504#32⟩

/-! ## The ends of a part -/

theorem st_bind {β : Type} {X : sProp 𝕄} {Q : β → sProp 𝕄} {p : Prog (TpuEff nD τ sig (Elt F) Λ₀ .tc) α}
    {k : α → Prog (TpuEff nD τ sig (Elt F) Λ₀ .tc) β} (h : ∀ Q' : α → sProp 𝕄, Q' = (fun a => wpc c (k a) Q) → X ⊢ wpc c p Q') : X ⊢ wpc c (p >>= k) Q := by
  have h := h _ rfl
  unfold wpc at h ⊢
  rw [wp_bind]; exact h

theorem st_pure {X : sProp 𝕄} {Q : α → sProp 𝕄} {a : α} (h : X ⊢ Q a) : X ⊢ wpc c (pure a) Q := by
  unfold wpc
  rw [wp_pure]; exact h.trans fupd_intro

/-- A load, in vector form, of a buffer the rest of the kernel holds. -/
theorem st_vload {sp : CoreSpace} {s : Shape} {e : EltTy} {m : Memref sig .tc sp s e} {f : Buf (Elt F) (m.view.loc (c : Thread nD τ))} {q : PosShare TreeShare}
    {R1 R : sProp 𝕄} {Q : α → sProp 𝕄} {p r : ℕ} {rc : Rect s} {hl : m.view.LoadsAt rc.toLoadRect}
    {k : (rc.shape.Idx → Elt F e) → Prog (TpuEff nD τ sig (Elt F) Λ₀ .tc) α}
    (h : Wt c W hW f8 f4 fs F8 F4 Fs iprop(R1 ∗ (m.view.loc (c : Thread nD τ) ↦[m.view.set]{q} f) ∗ R) p r
      ⊢ wpc c (k ((m.access rc).read (Elt F) f)) Q) :
    Wt c W hW f8 f4 fs F8 F4 Fs iprop(R1 ∗ (m.view.loc (c : Thread nD τ) ↦[m.view.set]{q} f) ∗ R) p r
      ⊢ wpc c (Prog.lift (.load m rc.toLoadRect hl) >>= k) Q := by
  unfold Wt at h ⊢
  iintro ⟨⟨H0, H1, HR⟩, HS⟩
  iapply (wp_load_rect Variants.none (c : Thread nD τ) none Set.univ (m := m) (r := rc) (S := m.view.set) (f := f) (q := q)
    (View.set_slice_subset m.view _)) $$ H1
  iintro H1
  iapply h
  isplitr [HS]
  · isplitl [H0]; · iexact H0
    isplitl [H1]; · iexact H1
    iexact HR
  · iexact HS

set_option maxHeartbeats 0 in
variable (c W hW f8 f4 fs F8 F4 Fs) in
/-- The whole gather of a chunk. -/
theorem gather_walk (i : grid0.Coords) (arg1 : Memref sig .tc .smem S27648 .i32) (harg1 : arg1.IsWhole) (arg2 : Memref sig .tc .vmem S216x128 .i32) (harg2 : arg2.IsWhole) (arg3 : Memref sig .tc .vmem S216x128 .f32) (harg3 : arg3.IsWhole) (arg4 : Memref sig .tc .vmem S3072x128 .f32) (harg4 : arg4.IsWhole) (arg5 : Memref sig .tc .hbm S3072x5120 .bf16) (harg5 : arg5.IsWhole) (harg6 : (w4M : Memref sig .tc _ _ _).IsWhole) (harg7 : (w8M : Memref sig .tc _ _ _).IsWhole) (harg8 : (wsM : Memref sig .tc _ _ _).IsWhole) (arg9 : Memref sig .tc .vmem S3072x512 .bf16) (harg9 : arg9.IsWhole) (arg10 : Memref sig .tc .vmem S3072x5120 .bf16) (harg10 : arg10.IsWhole) (arg11 : Memref sig .tc .vmem S512x5120 .bf16) (harg11 : arg11.IsWhole) (harg12 : (g4M : Memref sig .tc _ _ _).IsWhole) (harg13 : (g8M : Memref sig .tc _ _ _).IsWhole) (harg14 : (gsM : Memref sig .tc _ _ _).IsWhole) (k0_t1 : Fin k0_t1_loop.trips) (arg17 : DmaSems sig S_)
    (f1 : Buf (Elt F) (arg1.view.loc (c : Thread nD τ))) (q1 : PosShare TreeShare)
    (f2 : Buf (Elt F) (arg2.view.loc (c : Thread nD τ))) (q2 : PosShare TreeShare)
    (hw : ∀ r, W r = wordAt (c := c) arg1 f1 i k0_t1 r) {R : sProp 𝕄}
    {Q : (Σ' (v6 : BitVec 32) (v1210 : IVec S64x128 32) (v1216 : IVec S64x128 32), BitVec 32) → sProp 𝕄}
    (h : Wt c W hW f8 f4 fs F8 F4 Fs iprop((arg1.view.loc (c : Thread nD τ) ↦[arg1.view.set]{q1} f1) ∗ (arg2.view.loc (c : Thread nD τ) ↦[arg2.view.set]{q2} f2) ∗ R) 8 64
      ⊢ Q (chunkMeta i k0_t1 ((arg2.access (Rect.unit (s := S216x128) (k0_off257 i k0_t1) S1x128.size (k0_off257_inb i k0_t1))).read (Elt F) f2))) :
    St c W hW f8 f4 fs F8 F4 Fs iprop((arg1.view.loc (c : Thread nD τ) ↦[arg1.view.set]{q1} f1) ∗ (arg2.view.loc (c : Thread nD τ) ↦[arg2.view.set]{q2} f2) ∗ R) 0 0
      ⊢ wpc c (k0_part45 i arg1 harg1 arg2 harg2 arg3 harg3 arg4 harg4 arg5 harg5 w4M harg6 w8M harg7 wsM harg8 arg9 harg9 arg10 harg10 arg11 harg11 g4M harg12 g8M harg13 gsM harg14 cc0_scratch5 cc0_scratch6 arg17 (BitVec.ofNat 32 (i 0).val) 0#32 1#32 k0_t1) Q := by
  rw [k0_part45_eq_skeleton]
  unfold k0_part45_skel
  refine st_bind fun Q3 hQ3 => ?_
  rw [k0_part3_eq_skeleton]; unfold k0_part3_skel
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_pure ?_
  subst hQ3
  refine st_bind fun Q4 hQ4 => ?_
  rw [k0_part4_eq_skeleton]; unfold k0_part4_skel
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_pure ?_
  subst hQ4
  refine st_bind fun Q5 hQ5 => ?_
  rw [k0_part5_eq_skeleton]; unfold k0_part5_skel
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_pure ?_
  subst hQ5
  refine st_bind fun Q6 hQ6 => ?_
  rw [k0_part6_eq_skeleton]; unfold k0_part6_skel
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_pure ?_
  subst hQ6
  refine st_bind fun Q7 hQ7 => ?_
  rw [k0_part7_eq_skeleton]; unfold k0_part7_skel
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_pure ?_
  subst hQ7
  refine st_bind fun Q8 hQ8 => ?_
  rw [k0_part8_eq_skeleton]; unfold k0_part8_skel
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_pure ?_
  subst hQ8
  refine st_bind fun Q9 hQ9 => ?_
  rw [k0_part9_eq_skeleton]; unfold k0_part9_skel
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_pure ?_
  subst hQ9
  refine st_bind fun Q10 hQ10 => ?_
  rw [k0_part10_eq_skeleton]; unfold k0_part10_skel
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_pure ?_
  subst hQ10
  refine st_bind fun Q11 hQ11 => ?_
  rw [k0_part11_eq_skeleton]; unfold k0_part11_skel
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_pure ?_
  subst hQ11
  refine st_bind fun Q12 hQ12 => ?_
  rw [k0_part12_eq_skeleton]; unfold k0_part12_skel
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_pure ?_
  subst hQ12
  refine st_bind fun Q13 hQ13 => ?_
  rw [k0_part13_eq_skeleton]; unfold k0_part13_skel
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_pure ?_
  subst hQ13
  refine st_bind fun Q14 hQ14 => ?_
  rw [k0_part14_eq_skeleton]; unfold k0_part14_skel
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_pure ?_
  subst hQ14
  refine st_bind fun Q15 hQ15 => ?_
  rw [k0_part15_eq_skeleton]; unfold k0_part15_skel
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_pure ?_
  subst hQ15
  refine st_bind fun Q16 hQ16 => ?_
  rw [k0_part16_eq_skeleton]; unfold k0_part16_skel
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_pure ?_
  subst hQ16
  refine st_bind fun Q17 hQ17 => ?_
  rw [k0_part17_eq_skeleton]; unfold k0_part17_skel
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_pure ?_
  subst hQ17
  refine st_bind fun Q18 hQ18 => ?_
  rw [k0_part18_eq_skeleton]; unfold k0_part18_skel
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_pure ?_
  subst hQ18
  refine st_bind fun Q19 hQ19 => ?_
  rw [k0_part19_eq_skeleton]; unfold k0_part19_skel
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_pure ?_
  subst hQ19
  refine st_bind fun Q20 hQ20 => ?_
  rw [k0_part20_eq_skeleton]; unfold k0_part20_skel
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_pure ?_
  subst hQ20
  refine st_bind fun Q21 hQ21 => ?_
  rw [k0_part21_eq_skeleton]; unfold k0_part21_skel
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_pure ?_
  subst hQ21
  refine st_bind fun Q22 hQ22 => ?_
  rw [k0_part22_eq_skeleton]; unfold k0_part22_skel
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_pure ?_
  subst hQ22
  refine st_bind fun Q23 hQ23 => ?_
  rw [k0_part23_eq_skeleton]; unfold k0_part23_skel
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_pure ?_
  subst hQ23
  refine st_bind fun Q24 hQ24 => ?_
  rw [k0_part24_eq_skeleton]; unfold k0_part24_skel
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_pure ?_
  subst hQ24
  refine st_bind fun Q25 hQ25 => ?_
  rw [k0_part25_eq_skeleton]; unfold k0_part25_skel
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_pure ?_
  subst hQ25
  refine st_bind fun Q26 hQ26 => ?_
  rw [k0_part26_eq_skeleton]; unfold k0_part26_skel
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_pure ?_
  subst hQ26
  refine st_bind fun Q27 hQ27 => ?_
  rw [k0_part27_eq_skeleton]; unfold k0_part27_skel
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_pure ?_
  subst hQ27
  refine st_bind fun Q28 hQ28 => ?_
  rw [k0_part28_eq_skeleton]; unfold k0_part28_skel
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_pure ?_
  subst hQ28
  refine st_bind fun Q29 hQ29 => ?_
  rw [k0_part29_eq_skeleton]; unfold k0_part29_skel
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_pure ?_
  subst hQ29
  refine st_bind fun Q30 hQ30 => ?_
  rw [k0_part30_eq_skeleton]; unfold k0_part30_skel
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_pure ?_
  subst hQ30
  refine st_bind fun Q31 hQ31 => ?_
  rw [k0_part31_eq_skeleton]; unfold k0_part31_skel
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_pure ?_
  subst hQ31
  refine st_bind fun Q32 hQ32 => ?_
  rw [k0_part32_eq_skeleton]; unfold k0_part32_skel
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_pure ?_
  subst hQ32
  refine st_bind fun Q33 hQ33 => ?_
  rw [k0_part33_eq_skeleton]; unfold k0_part33_skel
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_pure ?_
  subst hQ33
  refine st_bind fun Q34 hQ34 => ?_
  rw [k0_part34_eq_skeleton]; unfold k0_part34_skel
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_if8 _ (by decide) ?_
  refine st_pure ?_
  subst hQ34
  refine st_bind fun Q35 hQ35 => ?_
  rw [k0_part35_eq_skeleton]; unfold k0_part35_skel
  refine st_if4 _ (by decide) ?_
  refine st_scale _ (by decide) ?_
  refine st_load _ (by decide) (hw _) ?_
  refine st_assume (hW ⟨_, by decide⟩) ?_
  refine st_if8 _ (by decide) ?_
  refine st_if4 _ (by decide) ?_
  refine st_scale _ (by decide) ?_
  refine st_load _ (by decide) (hw _) ?_
  refine st_assume (hW ⟨_, by decide⟩) ?_
  refine st_pure ?_
  subst hQ35
  refine st_bind fun Q36 hQ36 => ?_
  rw [k0_part36_eq_skeleton]; unfold k0_part36_skel
  refine st_if8 _ (by decide) ?_
  refine st_if4 _ (by decide) ?_
  refine st_scale _ (by decide) ?_
  refine st_done ?_
  refine st_wait4 (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_pure ?_
  subst hQ36
  refine st_bind fun Q37 hQ37 => ?_
  rw [k0_part37_eq_skeleton]; unfold k0_part37_skel
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_pure ?_
  subst hQ37
  refine st_bind fun Q38 hQ38 => ?_
  rw [k0_part38_eq_skeleton]; unfold k0_part38_skel
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_pure ?_
  subst hQ38
  refine st_bind fun Q39 hQ39 => ?_
  rw [k0_part39_eq_skeleton]; unfold k0_part39_skel
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_pure ?_
  subst hQ39
  refine st_bind fun Q40 hQ40 => ?_
  rw [k0_part40_eq_skeleton]; unfold k0_part40_skel
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_pure ?_
  subst hQ40
  refine st_bind fun Q41 hQ41 => ?_
  rw [k0_part41_eq_skeleton]; unfold k0_part41_skel
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_pure ?_
  subst hQ41
  refine st_bind fun Q42 hQ42 => ?_
  rw [k0_part42_eq_skeleton]; unfold k0_part42_skel
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_pure ?_
  subst hQ42
  refine st_bind fun Q43 hQ43 => ?_
  rw [k0_part43_eq_skeleton]; unfold k0_part43_skel
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_waits _ (by decide) (by rfl) ?_
  refine st_bit 0 (by decide) (by rfl) (by rfl) (by rfl) ?_
  refine st_bit 1 (by decide) (by rfl) (by rfl) (by rfl) ?_
  refine st_pure ?_
  subst hQ43
  refine st_bind fun Q44 hQ44 => ?_
  rw [k0_part44_eq_skeleton]; unfold k0_part44_skel
  refine st_bit 2 (by decide) (by rfl) (by rfl) (by rfl) ?_
  refine st_bit 3 (by decide) (by rfl) (by rfl) (by rfl) ?_
  refine st_bit 4 (by decide) (by rfl) (by rfl) (by rfl) ?_
  refine st_bit 5 (by decide) (by rfl) (by rfl) (by rfl) ?_
  refine st_bit 6 (by decide) (by rfl) (by rfl) (by rfl) ?_
  refine st_vload ?_
  refine st_pure ?_
  subst hQ44
  refine st_pure ?_
  exact h

end Cert.KernelIdeal.Hand

end
-- ==== Proof.KI.Gather.lean ====
/-
  One chunk's gather as a whole: from the three gather buffers, the three word arrays and the two semaphores at zero, to the
  buffers holding the rows the row numbers name, with everything else back.
-/
module

public import proofs.«01_k».proof.Proof.KI.Walk

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

variable (c : Dev nD) (W : Fin 64 → BitVec 32) (hW : ∀ t, k0_chk1 (W t))
variable (F8 : Buf (Elt F) (w8M.view.loc (c : Thread nD τ))) (F4 : Buf (Elt F) (w4M.view.loc (c : Thread nD τ)))
variable (Fs : Buf (Elt F) (wsM.view.loc (c : Thread nD τ)))

/-- The gather buffers hold, row by row, the rows named: an 8-bit row where the number is below 5504, a 4-bit row elsewhere,
    and a scale row everywhere. -/
structure Gathered (G8 : Buf (Elt F) (g8M.view.loc (c : Thread nD τ))) (G4 : Buf (Elt F) (g4M.view.loc (c : Thread nD τ)))
    (GS : Buf (Elt F) (gsM.view.loc (c : Thread nD τ))) : Prop where
  e8 : ∀ t (h : k0_cond2 (W t) = 1#1), (row8 t).view.read (Elt F) G8 = (src8 (W t) ((hW t).1 h)).view.read (Elt F) F8
  e4 : ∀ t (h : k0_cond3 (W t) = 1#1), (row4 t).view.read (Elt F) G4 = (src4 (W t) ((hW t).2.1 h)).view.read (Elt F) F4
  es : ∀ t, (rows t).view.read (Elt F) GS = (srcs (W t) (hW t).2.2).view.read (Elt F) Fs

/-! ## The buffers by rows -/

theorem rcover {n : ℕ} (hin : ∀ t : Fin 64, ∀ a, (![t.val, 0] : Fin 2 → ℕ) a + (![1, n] : Fin 2 → ℕ) a ≤ (⟨2, ![64, n]⟩ : Shape).size a) :
    (Finset.univ : Finset (⟨2, ![64, n]⟩ : Shape).Idx)
      = Finset.univ.biUnion fun t : Fin 64 => (Rect.unit (s := ⟨2, ![64, n]⟩) ![t.val, 0] ![1, n] (hin t)).set := by
  ext i
  simp only [Finset.mem_univ, Finset.mem_biUnion, true_and, true_iff]
  refine ⟨i 0, Rect.mem_set_unit.2 fun a => ?_⟩
  match a with
  | 0 => exact ⟨le_rfl, Nat.lt_succ_self _⟩
  | 1 => exact ⟨Nat.zero_le _, (Nat.zero_add n).symm ▸ (i 1).isLt⟩

theorem rdisj {n : ℕ} (hin : ∀ t : Fin 64, ∀ a, (![t.val, 0] : Fin 2 → ℕ) a + (![1, n] : Fin 2 → ℕ) a ≤ (⟨2, ![64, n]⟩ : Shape).size a)
    (t t' : Fin 64) (hne : t ≠ t') :
    Disjoint (Rect.unit (s := ⟨2, ![64, n]⟩) ![t.val, 0] ![1, n] (hin t)).set (Rect.unit (s := ⟨2, ![64, n]⟩) ![t'.val, 0] ![1, n] (hin t')).set := by
  rw [Finset.disjoint_left]
  intro i hi hi'
  apply hne
  have h1 : t.val ≤ (i 0).val ∧ (i 0).val < t.val + 1 := Rect.mem_set_unit.1 hi 0
  have h2 : t'.val ≤ (i 0).val ∧ (i 0).val < t'.val + 1 := Rect.mem_set_unit.1 hi' 0
  exact Fin.ext (by omega)

theorem set8 (t : Fin 64) : (row8 t).view.set = (Rect.unit (s := ⟨2, ![64, 5120]⟩) ![t.val, 0] ![1, 5120] (inb8 t)).set :=
  View.set_slice_whole cc0_scratch3 _
theorem cover8 : (Finset.univ : Finset (⟨2, ![64, 5120]⟩ : Shape).Idx) = Finset.univ.biUnion fun t : Fin 64 => (row8 t).view.set :=
  (rcover inb8).trans (congrArg (Finset.biUnion Finset.univ) (funext fun t => (set8 t).symm))
theorem disj8 : ∀ t ∈ (Finset.univ : Finset (Fin 64)), ∀ t' ∈ (Finset.univ : Finset (Fin 64)), t ≠ t' → Disjoint (row8 t).view.set (row8 t').view.set := by
  intro t _ t' _ hne
  have h := rdisj inb8 t t' hne
  rw [← set8 t, ← set8 t'] at h
  exact h

theorem set4 (t : Fin 64) : (row4 t).view.set = (Rect.unit (s := ⟨2, ![64, 2560]⟩) ![t.val, 0] ![1, 2560] (inb4 t)).set :=
  View.set_slice_whole cc0_scratch2 _
theorem cover4 : (Finset.univ : Finset (⟨2, ![64, 2560]⟩ : Shape).Idx) = Finset.univ.biUnion fun t : Fin 64 => (row4 t).view.set :=
  (rcover inb4).trans (congrArg (Finset.biUnion Finset.univ) (funext fun t => (set4 t).symm))
theorem disj4 : ∀ t ∈ (Finset.univ : Finset (Fin 64)), ∀ t' ∈ (Finset.univ : Finset (Fin 64)), t ≠ t' → Disjoint (row4 t).view.set (row4 t').view.set := by
  intro t _ t' _ hne
  have h := rdisj inb4 t t' hne
  rw [← set4 t, ← set4 t'] at h
  exact h

theorem sets (t : Fin 64) : (rows t).view.set = (Rect.unit (s := ⟨2, ![64, 40]⟩) ![t.val, 0] ![1, 40] (inbs t)).set :=
  View.set_slice_whole cc0_scratch4 _
theorem covers : (Finset.univ : Finset (⟨2, ![64, 40]⟩ : Shape).Idx) = Finset.univ.biUnion fun t : Fin 64 => (rows t).view.set :=
  (rcover inbs).trans (congrArg (Finset.biUnion Finset.univ) (funext fun t => (sets t).symm))
theorem disjs : ∀ t ∈ (Finset.univ : Finset (Fin 64)), ∀ t' ∈ (Finset.univ : Finset (Fin 64)), t ≠ t' → Disjoint (rows t).view.set (rows t').view.set := by
  intro t _ t' _ hne
  have h := rdisj inbs t t' hne
  rw [← sets t, ← sets t'] at h
  exact h

theorem split8 {c : Dev nD} (f : Buf (Elt F) (g8M.view.loc (c : Thread nD τ))) :
    ((g8M.view.loc (c : Thread nD τ) ↦[Finset.univ]{fullShare} f) : sProp 𝕄)
      ⊢ bigSep Finset.univ fun t => (row8 t).view.loc (c : Thread nD τ) ↦[(row8 t).view.set]{fullShare} f :=
  Entails.of_eq ((congrArg (fun S => ((g8M.view.loc (c : Thread nD τ) ↦[S]{fullShare} f) : sProp 𝕄)) cover8).trans
    (pointsTo_biUnion (ℓ := g8M.view.loc (c : Thread nD τ)) Finset.univ _ disj8))

theorem join8 {c : Dev nD} (fs : Fin 64 → Buf (Elt F) (g8M.view.loc (c : Thread nD τ))) (f₀ : Buf (Elt F) (g8M.view.loc (c : Thread nD τ))) :
    (bigSep Finset.univ fun t => (row8 t).view.loc (c : Thread nD τ) ↦[(row8 t).view.set]{fullShare} fs t : sProp 𝕄)
      ⊢ iprop(∃ g, ⌜∀ t, ∀ i ∈ (row8 t).view.set, g i = fs t i⌝ ∗ (g8M.view.loc (c : Thread nD τ) ↦[Finset.univ]{fullShare} g)) := by
  refine BIBase.Entails.trans (pointsTo_biUnion_join (ℓ := g8M.view.loc (c : Thread nD τ)) Finset.univ (fun t => (row8 t).view.set) fs f₀ disj8) ?_
  iintro ⟨%g, %hg, H⟩
  iexists g
  isplitr
  · ipureintro; exact fun t i hi => hg t (Finset.mem_univ t) i hi
  · rw [show (Finset.univ : Finset (Idx (g8M.view.loc (c : Thread nD τ)))) = _ from cover8]
    iexact H

theorem split4 {c : Dev nD} (f : Buf (Elt F) (g4M.view.loc (c : Thread nD τ))) :
    ((g4M.view.loc (c : Thread nD τ) ↦[Finset.univ]{fullShare} f) : sProp 𝕄)
      ⊢ bigSep Finset.univ fun t => (row4 t).view.loc (c : Thread nD τ) ↦[(row4 t).view.set]{fullShare} f :=
  Entails.of_eq ((congrArg (fun S => ((g4M.view.loc (c : Thread nD τ) ↦[S]{fullShare} f) : sProp 𝕄)) cover4).trans
    (pointsTo_biUnion (ℓ := g4M.view.loc (c : Thread nD τ)) Finset.univ _ disj4))

theorem join4 {c : Dev nD} (fs : Fin 64 → Buf (Elt F) (g4M.view.loc (c : Thread nD τ))) (f₀ : Buf (Elt F) (g4M.view.loc (c : Thread nD τ))) :
    (bigSep Finset.univ fun t => (row4 t).view.loc (c : Thread nD τ) ↦[(row4 t).view.set]{fullShare} fs t : sProp 𝕄)
      ⊢ iprop(∃ g, ⌜∀ t, ∀ i ∈ (row4 t).view.set, g i = fs t i⌝ ∗ (g4M.view.loc (c : Thread nD τ) ↦[Finset.univ]{fullShare} g)) := by
  refine BIBase.Entails.trans (pointsTo_biUnion_join (ℓ := g4M.view.loc (c : Thread nD τ)) Finset.univ (fun t => (row4 t).view.set) fs f₀ disj4) ?_
  iintro ⟨%g, %hg, H⟩
  iexists g
  isplitr
  · ipureintro; exact fun t i hi => hg t (Finset.mem_univ t) i hi
  · rw [show (Finset.univ : Finset (Idx (g4M.view.loc (c : Thread nD τ)))) = _ from cover4]
    iexact H

theorem splits {c : Dev nD} (f : Buf (Elt F) (gsM.view.loc (c : Thread nD τ))) :
    ((gsM.view.loc (c : Thread nD τ) ↦[Finset.univ]{fullShare} f) : sProp 𝕄)
      ⊢ bigSep Finset.univ fun t => (rows t).view.loc (c : Thread nD τ) ↦[(rows t).view.set]{fullShare} f :=
  Entails.of_eq ((congrArg (fun S => ((gsM.view.loc (c : Thread nD τ) ↦[S]{fullShare} f) : sProp 𝕄)) covers).trans
    (pointsTo_biUnion (ℓ := gsM.view.loc (c : Thread nD τ)) Finset.univ _ disjs))

theorem joins {c : Dev nD} (fs : Fin 64 → Buf (Elt F) (gsM.view.loc (c : Thread nD τ))) (f₀ : Buf (Elt F) (gsM.view.loc (c : Thread nD τ))) :
    (bigSep Finset.univ fun t => (rows t).view.loc (c : Thread nD τ) ↦[(rows t).view.set]{fullShare} fs t : sProp 𝕄)
      ⊢ iprop(∃ g, ⌜∀ t, ∀ i ∈ (rows t).view.set, g i = fs t i⌝ ∗ (gsM.view.loc (c : Thread nD τ) ↦[Finset.univ]{fullShare} g)) := by
  refine BIBase.Entails.trans (pointsTo_biUnion_join (ℓ := gsM.view.loc (c : Thread nD τ)) Finset.univ (fun t => (rows t).view.set) fs f₀ disjs) ?_
  iintro ⟨%g, %hg, H⟩
  iexists g
  isplitr
  · ipureintro; exact fun t i hi => hg t (Finset.mem_univ t) i hi
  · rw [show (Finset.univ : Finset (Idx (gsM.view.loc (c : Thread nD τ)))) = _ from covers]
    iexact H

/-- Four families, and two, dealt row by row. -/
theorem zip2 (A B : Fin 64 → sProp 𝕄) :
    (bigSep Finset.univ fun t => iprop(A t ∗ B t)) = iprop(bigSep Finset.univ A ∗ bigSep Finset.univ B) :=
  bigSep_sep Finset.univ A B
theorem zip4 (A B C D : Fin 64 → sProp 𝕄) :
    (bigSep Finset.univ fun t => iprop(A t ∗ B t ∗ C t ∗ D t))
      = iprop(bigSep Finset.univ A ∗ bigSep Finset.univ B ∗ bigSep Finset.univ C ∗ bigSep Finset.univ D) :=
  (zip2 A _).trans (congrArg (fun X => iprop(bigSep Finset.univ A ∗ X))
    ((zip2 B _).trans (congrArg (fun X => iprop(bigSep Finset.univ B ∗ X)) (zip2 C D))))
theorem post_zip (f8 : Buf (Elt F) (g8M.view.loc (c : Thread nD τ))) (f4 : Buf (Elt F) (g4M.view.loc (c : Thread nD τ))) :
    bigSep Finset.univ (post c W hW f8 f4 F8 F4)
      = iprop((bigSep Finset.univ fun t => (row8 t).view.loc (c : Thread nD τ) ↦[(row8 t).view.set]{fullShare} got8 c W hW f8 F8 t)
        ∗ (bigSep Finset.univ fun t => (row4 t).view.loc (c : Thread nD τ) ↦[(row4 t).view.set]{fullShare} got4 c W hW f4 F4 t)
        ∗ (bigSep Finset.univ fun t => w8M.view.loc (c : Thread nD τ) ↦[Finset.univ]{tk t} F8)
        ∗ (bigSep Finset.univ fun t => w4M.view.loc (c : Thread nD τ) ↦[Finset.univ]{tk t} F4)) := zip4 _ _ _ _
theorem postS_zip (fs : Buf (Elt F) (gsM.view.loc (c : Thread nD τ))) :
    bigSep Finset.univ (postS c W hW fs Fs)
      = iprop((bigSep Finset.univ fun t => (rows t).view.loc (c : Thread nD τ) ↦[(rows t).view.set]{fullShare} gots c W hW fs Fs t)
        ∗ (bigSep Finset.univ fun t => wsM.view.loc (c : Thread nD τ) ↦[Finset.univ]{tk t} Fs)) := zip2 _ _

/-! ## The set-up and the collection -/

variable {c W hW F8 F4 Fs}

/-- Setting up: the three buffers split into rows, the word arrays into read shares, and the two batches allotted. -/
theorem gather_setup (f8 : Buf (Elt F) (g8M.view.loc (c : Thread nD τ))) (f4 : Buf (Elt F) (g4M.view.loc (c : Thread nD τ)))
    (fs : Buf (Elt F) (gsM.view.loc (c : Thread nD τ))) (R : sProp 𝕄) :
    iprop((g8M.view.loc (c : Thread nD τ) ↦[Finset.univ]{fullShare} f8) ∗ (g4M.view.loc (c : Thread nD τ) ↦[Finset.univ]{fullShare} f4)
      ∗ (gsM.view.loc (c : Thread nD τ) ↦[Finset.univ]{fullShare} fs)
      ∗ (w8M.view.loc (c : Thread nD τ) ↦[Finset.univ]{fullShare} F8) ∗ (w4M.view.loc (c : Thread nD τ) ↦[Finset.univ]{fullShare} F4)
      ∗ (wsM.view.loc (c : Thread nD τ) ↦[Finset.univ]{fullShare} Fs)
      ∗ semVal ((c : Thread nD τ), .dma cc0_scratch5.sem) 0 ∗ semVal ((c : Thread nD τ), .dma cc0_scratch6.sem) 0
      ∗ (∃ V, owes (c : Thread nD τ) 0 V) ∗ R)
    ⊢ |={Set.univ}=> St c W hW f8 f4 fs F8 F4 Fs
        iprop(R ∗ (w8M.view.loc (c : Thread nD τ) ↦[Finset.univ]{shareDrop fullShare 64} F8)
          ∗ (w4M.view.loc (c : Thread nD τ) ↦[Finset.univ]{shareDrop fullShare 64} F4)
          ∗ (wsM.view.loc (c : Thread nD τ) ↦[Finset.univ]{shareDrop fullShare 64} Fs)) 0 0 := by
  iintro ⟨H8, H4, Hs, HF8, HF4, HFs, Hv, Hvs, HO, HR⟩
  ihave H8 := (split8 f8) $$ H8
  ihave H4 := (split4 f4) $$ H4
  ihave Hs := (splits fs) $$ Hs
  ihave HF8 := (pointsTo_toks_split fullShare 64) $$ HF8
  ihave HF4 := (pointsTo_toks_split fullShare 64) $$ HF4
  ihave HFs := (pointsTo_toks_split fullShare 64) $$ HFs
  icases HF8 with ⟨HD8, HF8⟩
  icases HF4 with ⟨HD4, HF4⟩
  icases HFs with ⟨HDs, HFs⟩
  imod (mixedBatch_alloc' EC () (Amt W) (post c W hW f8 f4 F8 F4) (c := (c : Thread nD τ)) (sm := .dma cc0_scratch5.sem) (E := Set.univ)) $$ Hv with HB
  imod (mixedBatch_alloc' EC () (fun _ => crs) (postS c W hW fs Fs) (c := (c : Thread nD τ)) (sm := .dma cc0_scratch6.sem) (E := Set.univ)) $$ Hvs with HBs
  imodintro
  unfold St
  rw [pending_zero]
  isplitl [HR HD8 HD4 HDs]
  · isplitl [HR]; · iexact HR
    isplitl [HD8]; · iexact HD8
    isplitl [HD4]; · iexact HD4
    iexact HDs
  isplitl [HB H8 H4 HF8 HF4]
  · isplitl [HB]; · iexact HB
    iapply (Entails.of_eq (zip4 _ _ _ _).symm)
    isplitl [H8]; · iexact H8
    isplitl [H4]; · iexact H4
    isplitl [HF8]; · iexact HF8
    iexact HF4
  isplitl [HBs Hs HFs]
  · isplitl [HBs]; · iexact HBs
    iapply (Entails.of_eq (zip2 _ _).symm)
    isplitl [Hs]; · iexact Hs
    iexact HFs
  iexact HO

theorem amt_pos (t : Fin 64) : 0 < Amt W t := by
  have h : 0 < cr := by decide
  unfold Amt; split <;> omega

/-- Collecting: after the last wait the rows are the buffers again, the shares the arrays, and the semaphores are at zero. -/
theorem gather_collect {f8 : Buf (Elt F) (g8M.view.loc (c : Thread nD τ))} {f4 : Buf (Elt F) (g4M.view.loc (c : Thread nD τ))}
    {fs : Buf (Elt F) (gsM.view.loc (c : Thread nD τ))} {R : sProp 𝕄} :
    Wt c W hW f8 f4 fs F8 F4 Fs
        iprop(R ∗ (w8M.view.loc (c : Thread nD τ) ↦[Finset.univ]{shareDrop fullShare 64} F8)
          ∗ (w4M.view.loc (c : Thread nD τ) ↦[Finset.univ]{shareDrop fullShare 64} F4)
          ∗ (wsM.view.loc (c : Thread nD τ) ↦[Finset.univ]{shareDrop fullShare 64} Fs)) 8 64
    ⊢ |={Set.univ}=> iprop(∃ G8 G4 GS, ⌜Gathered c W hW F8 F4 Fs G8 G4 GS⌝
      ∗ (g8M.view.loc (c : Thread nD τ) ↦[Finset.univ]{fullShare} G8) ∗ (g4M.view.loc (c : Thread nD τ) ↦[Finset.univ]{fullShare} G4)
      ∗ (gsM.view.loc (c : Thread nD τ) ↦[Finset.univ]{fullShare} GS)
      ∗ (w8M.view.loc (c : Thread nD τ) ↦[Finset.univ]{fullShare} F8) ∗ (w4M.view.loc (c : Thread nD τ) ↦[Finset.univ]{fullShare} F4)
      ∗ (wsM.view.loc (c : Thread nD τ) ↦[Finset.univ]{fullShare} Fs)
      ∗ semVal ((c : Thread nD τ), .dma cc0_scratch5.sem) 0 ∗ semVal ((c : Thread nD τ), .dma cc0_scratch6.sem) 0
      ∗ (∃ V, owes (c : Thread nD τ) 0 V) ∗ R) := by
  unfold Wt
  rw [U_end, show 64 * crs = sumTo (fun _ : Fin 64 => crs) 64 from (sumTo_const crs le_rfl).symm]
  iintro ⟨⟨HR, HD8, HD4, HDs⟩, HB, HBs, HO⟩
  imod (mixedBatch_collect' EC (c := (c : Thread nD τ)) (A := Amt W) amt_pos) $$ HB with ⟨HP, Hv⟩
  imod (mixedBatch_collect' EC (c := (c : Thread nD τ)) (A := fun _ => crs) (fun _ => by decide)) $$ HBs with ⟨HPs, Hvs⟩
  imodintro
  ihave HP := (Entails.of_eq (post_zip c W hW F8 F4 f8 f4)) $$ HP
  icases HP with ⟨H8, H4, HF8, HF4⟩
  ihave HPs := (Entails.of_eq (postS_zip c W hW Fs fs)) $$ HPs
  icases HPs with ⟨Hs, HFs⟩
  ihave H8 := (join8 (fun t => got8 c W hW f8 F8 t) f8) $$ H8
  ihave H4 := (join4 (fun t => got4 c W hW f4 F4 t) f4) $$ H4
  ihave Hs := (joins (fun t => gots c W hW fs Fs t) fs) $$ Hs
  icases H8 with ⟨%G8, %h8, H8⟩
  icases H4 with ⟨%G4, %h4, H4⟩
  icases Hs with ⟨%GS, %hs, Hs⟩
  iexists G8, G4, GS
  isplitr
  · ipureintro
    refine ⟨fun t h => ?_, fun t h => ?_, fun t => ?_⟩
    · rw [View.read_congr (h8 t)]; unfold got8; rw [dif_pos h]; exact View.read_write_univ _ _
    · rw [View.read_congr (h4 t)]; unfold got4; rw [dif_pos h]; exact View.read_write_univ _ _
    · rw [View.read_congr (hs t)]; unfold gots; exact View.read_write_univ _ _
  isplitl [H8]; · iexact H8
  isplitl [H4]; · iexact H4
  isplitl [Hs]; · iexact Hs
  isplitl [HD8 HF8]
  · iapply (pointsTo_toks_join fullShare 64)
    isplitl [HD8]; · iexact HD8
    iexact HF8
  isplitl [HD4 HF4]
  · iapply (pointsTo_toks_join fullShare 64)
    isplitl [HD4]; · iexact HD4
    iexact HF4
  isplitl [HDs HFs]
  · iapply (pointsTo_toks_join fullShare 64)
    isplitl [HDs]; · iexact HDs
    iexact HFs
  isplitl [Hv]; · iexact Hv
  isplitl [Hvs]; · iexact Hvs
  isplitl [HO]; · iexact HO
  iexact HR

/-- What a chunk's gather holds: the row numbers and the lane copy of them, the three buffers, the word arrays, the two
    semaphores at zero and the record of what is owed. -/
def Hold (c : Dev nD) (arg1 : Memref sig .tc .smem S27648 .i32) (arg2 : Memref sig .tc .vmem S216x128 .i32)
    (f1 : Buf (Elt F) (arg1.view.loc (c : Thread nD τ))) (q1 : PosShare TreeShare)
    (f2 : Buf (Elt F) (arg2.view.loc (c : Thread nD τ))) (q2 : PosShare TreeShare)
    (F8 : Buf (Elt F) (w8M.view.loc (c : Thread nD τ))) (F4 : Buf (Elt F) (w4M.view.loc (c : Thread nD τ)))
    (Fs : Buf (Elt F) (wsM.view.loc (c : Thread nD τ))) : sProp 𝕄 :=
  iprop((arg1.view.loc (c : Thread nD τ) ↦[arg1.view.set]{q1} f1) ∗ (arg2.view.loc (c : Thread nD τ) ↦[arg2.view.set]{q2} f2)
      ∗ (w8M.view.loc (c : Thread nD τ) ↦[Finset.univ]{fullShare} F8) ∗ (w4M.view.loc (c : Thread nD τ) ↦[Finset.univ]{fullShare} F4)
      ∗ (wsM.view.loc (c : Thread nD τ) ↦[Finset.univ]{fullShare} Fs)
      ∗ semVal ((c : Thread nD τ), .dma cc0_scratch5.sem) 0 ∗ semVal ((c : Thread nD τ), .dma cc0_scratch6.sem) 0
      ∗ (∃ V, owes (c : Thread nD τ) 0 V))

/-- The three gather buffers at contents. -/
def Bufs (c : Dev nD) (f8 : Buf (Elt F) (g8M.view.loc (c : Thread nD τ))) (f4 : Buf (Elt F) (g4M.view.loc (c : Thread nD τ)))
    (fs : Buf (Elt F) (gsM.view.loc (c : Thread nD τ))) : sProp 𝕄 :=
  iprop((g8M.view.loc (c : Thread nD τ) ↦[Finset.univ]{fullShare} f8) ∗ (g4M.view.loc (c : Thread nD τ) ↦[Finset.univ]{fullShare} f4)
      ∗ (gsM.view.loc (c : Thread nD τ) ↦[Finset.univ]{fullShare} fs))

set_option maxHeartbeats 1000000 in
/-- The gather of one chunk. -/
theorem gather (i : grid0.Coords) (arg1 : Memref sig .tc .smem S27648 .i32) (harg1 : arg1.IsWhole) (arg2 : Memref sig .tc .vmem S216x128 .i32) (harg2 : arg2.IsWhole) (arg3 : Memref sig .tc .vmem S216x128 .f32) (harg3 : arg3.IsWhole) (arg4 : Memref sig .tc .vmem S3072x128 .f32) (harg4 : arg4.IsWhole) (arg5 : Memref sig .tc .hbm S3072x5120 .bf16) (harg5 : arg5.IsWhole) (harg6 : (w4M : Memref sig .tc _ _ _).IsWhole) (harg7 : (w8M : Memref sig .tc _ _ _).IsWhole) (harg8 : (wsM : Memref sig .tc _ _ _).IsWhole) (arg9 : Memref sig .tc .vmem S3072x512 .bf16) (harg9 : arg9.IsWhole) (arg10 : Memref sig .tc .vmem S3072x5120 .bf16) (harg10 : arg10.IsWhole) (arg11 : Memref sig .tc .vmem S512x5120 .bf16) (harg11 : arg11.IsWhole) (harg12 : (g4M : Memref sig .tc _ _ _).IsWhole) (harg13 : (g8M : Memref sig .tc _ _ _).IsWhole) (harg14 : (gsM : Memref sig .tc _ _ _).IsWhole) (k0_t1 : Fin k0_t1_loop.trips) (arg17 : DmaSems sig S_)
    (f1 : Buf (Elt F) (arg1.view.loc (c : Thread nD τ))) (q1 : PosShare TreeShare)
    (f2 : Buf (Elt F) (arg2.view.loc (c : Thread nD τ))) (q2 : PosShare TreeShare)
    (hw : ∀ r, W r = wordAt (c := c) arg1 f1 i k0_t1 r) {R : sProp 𝕄}
    {Q : (Σ' (v6 : BitVec 32) (v1210 : IVec S64x128 32) (v1216 : IVec S64x128 32), BitVec 32) → sProp 𝕄}
    (f8 : Buf (Elt F) (g8M.view.loc (c : Thread nD τ))) (f4 : Buf (Elt F) (g4M.view.loc (c : Thread nD τ)))
    (fs : Buf (Elt F) (gsM.view.loc (c : Thread nD τ)))
    (h : ∀ G8 G4 GS, Gathered c W hW F8 F4 Fs G8 G4 GS →
      iprop(Bufs c G8 G4 GS ∗ Hold c arg1 arg2 f1 q1 f2 q2 F8 F4 Fs ∗ R)
      ⊢ Q (chunkMeta i k0_t1 ((arg2.access (Rect.unit (s := S216x128) (k0_off257 i k0_t1) S1x128.size (k0_off257_inb i k0_t1))).read (Elt F) f2))) :
    iprop(Bufs c f8 f4 fs ∗ Hold c arg1 arg2 f1 q1 f2 q2 F8 F4 Fs ∗ R)
      ⊢ wpc c (k0_part45 i arg1 harg1 arg2 harg2 arg3 harg3 arg4 harg4 arg5 harg5 w4M harg6 w8M harg7 wsM harg8 arg9 harg9 arg10 harg10 arg11 harg11 g4M harg12 g8M harg13 gsM harg14 cc0_scratch5 cc0_scratch6 arg17 (BitVec.ofNat 32 (i 0).val) 0#32 1#32 k0_t1) Q := by
  refine BIBase.Entails.trans ?_ (BIBase.Entails.trans (fupd_mono (BIBase.Entails.trans (gather_walk (c := c) (W := W) (hW := hW) (f8 := f8) (f4 := f4) (fs := fs) (F8 := F8) (F4 := F4) (Fs := Fs)
    i arg1 harg1 arg2 harg2 arg3 harg3 arg4 harg4 arg5 harg5 harg6 harg7 harg8 arg9 harg9 arg10 harg10 arg11 harg11 harg12 harg13 harg14 k0_t1 arg17
    f1 q1 f2 q2 hw
    (R := iprop(R ∗ (w8M.view.loc (c : Thread nD τ) ↦[Finset.univ]{shareDrop fullShare 64} F8)
          ∗ (w4M.view.loc (c : Thread nD τ) ↦[Finset.univ]{shareDrop fullShare 64} F4)
          ∗ (wsM.view.loc (c : Thread nD τ) ↦[Finset.univ]{shareDrop fullShare 64} Fs)))
    (Q := fun a => iprop(|={Set.univ}=> Q a)) ?_) (wp_fupd _ _ _ _ _))) (fupd_wp _ _ _ _ _))
  · refine BIBase.Entails.trans ?_ (BIBase.Entails.trans (gather_setup (c := c) (W := W) (hW := hW) (F8 := F8) (F4 := F4) (Fs := Fs) f8 f4 fs
      iprop((arg1.view.loc (c : Thread nD τ) ↦[arg1.view.set]{q1} f1) ∗ (arg2.view.loc (c : Thread nD τ) ↦[arg2.view.set]{q2} f2) ∗ R)) (fupd_mono ?_))
    · unfold Bufs Hold
      iintro ⟨⟨H8, H4, Hs⟩, ⟨H1, H2, HF8, HF4, HFs, Hv, Hvs, HO⟩, HR⟩
      isplitl [H8]; · iexact H8
      isplitl [H4]; · iexact H4
      isplitl [Hs]; · iexact Hs
      isplitl [HF8]; · iexact HF8
      isplitl [HF4]; · iexact HF4
      isplitl [HFs]; · iexact HFs
      isplitl [Hv]; · iexact Hv
      isplitl [Hvs]; · iexact Hvs
      isplitl [HO]; · iexact HO
      isplitl [H1]; · iexact H1
      isplitl [H2]; · iexact H2
      iexact HR
    · unfold St
      iintro ⟨⟨⟨H1, H2, HR⟩, HD⟩, HS⟩
      isplitr [HS]
      · isplitl [H1]; · iexact H1
        isplitl [H2]; · iexact H2
        isplitl [HR]; · iexact HR
        iexact HD
      iexact HS
  · refine BIBase.Entails.trans ?_ (BIBase.Entails.trans (gather_collect (c := c) (W := W) (hW := hW) (F8 := F8) (F4 := F4) (Fs := Fs) (f8 := f8) (f4 := f4) (fs := fs)
      (R := iprop((arg1.view.loc (c : Thread nD τ) ↦[arg1.view.set]{q1} f1) ∗ (arg2.view.loc (c : Thread nD τ) ↦[arg2.view.set]{q2} f2) ∗ R))) (fupd_mono ?_))
    · unfold Wt
      iintro ⟨⟨H1, H2, HR, HD⟩, HS⟩
      isplitr [HS]
      · isplitr [HD]
        · isplitl [H1]; · iexact H1
          isplitl [H2]; · iexact H2
          iexact HR
        iexact HD
      iexact HS
    · iintro ⟨%G8, %G4, %GS, %hG, H8, H4, Hs, HF8, HF4, HFs, Hv, Hvs, HO, H1, H2, HR⟩
      iapply (h G8 G4 GS hG)
      unfold Bufs Hold
      isplitl [H8 H4 Hs]
      · isplitl [H8]; · iexact H8
        isplitl [H4]; · iexact H4
        iexact Hs
      isplitr [HR]
      · isplitl [H1]; · iexact H1
        isplitl [H2]; · iexact H2
        isplitl [HF8]; · iexact HF8
        isplitl [HF4]; · iexact HF4
        isplitl [HFs]; · iexact HFs
        isplitl [Hv]; · iexact Hv
        isplitl [Hvs]; · iexact Hvs
        iexact HO
      iexact HR

end Cert.KernelIdeal.Hand

end
-- ==== Proof.KI.Group.lean ====
/-
  One group's trip: 256 columns of the chunk's 64 rows of the weight tile, and the loop over the twenty groups.
-/
module

public import proofs.«01_k».proof.Proof.KI.Elem
public import proofs.«01_k».proof.Proof.KI.Gather

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

variable (i : grid0.Coords)
variable (arg1 : Memref sig .tc .smem S27648 .i32) (harg1 : arg1.IsWhole)
variable (arg2 : Memref sig .tc .vmem S216x128 .i32) (harg2 : arg2.IsWhole)
variable (arg3 : Memref sig .tc .vmem S216x128 .f32) (harg3 : arg3.IsWhole)
variable (arg4 : Memref sig .tc .vmem S3072x128 .f32) (harg4 : arg4.IsWhole)
variable (arg5 : Memref sig .tc .hbm S3072x5120 .bf16) (harg5 : arg5.IsWhole)
variable (arg6 : Memref sig .tc .hbm S5536x2560 .i32) (harg6 : arg6.IsWhole)
variable (arg7 : Memref sig .tc .hbm S1376x5120 .i32) (harg7 : arg7.IsWhole)
variable (arg8 : Memref sig .tc .hbm S11072x40 .i32) (harg8 : arg8.IsWhole)
variable (arg9 : Memref sig .tc .vmem S3072x512 .bf16) (harg9 : arg9.IsWhole)
variable (arg10 : Memref sig .tc .vmem S3072x5120 .bf16) (harg10 : arg10.IsWhole)
variable (arg11 : Memref sig .tc .vmem S512x5120 .bf16) (harg11 : arg11.IsWhole)
variable (arg12 : Memref sig .tc .vmem S64x2560 .i32) (harg12 : arg12.IsWhole)
variable (arg13 : Memref sig .tc .vmem S64x5120 .i32) (harg13 : arg13.IsWhole)
variable (arg14 : Memref sig .tc .vmem S64x40 .i32) (harg14 : arg14.IsWhole)
variable (arg15 arg16 arg17 : DmaSems sig S_)

theorem off261_eq (t1 : Fin k0_t1_loop.trips) (t2 : Fin k0_t2_loop.trips) : k0_off261 t1 t2 = ![64 * t1.val, 256 * t2.val] := by
  have e : ∀ (a : Fin 8) (b : Fin 20), k0_off261 ⟨a.val, by have := a.isLt; exact this⟩ ⟨b.val, by have := b.isLt; exact this⟩ = ![64 * a.val, 256 * b.val] := by decide +kernel
  exact e ⟨t1.val, t1.isLt⟩ ⟨t2.val, t2.isLt⟩

theorem off258_eq (t2 : Fin k0_t2_loop.trips) : k0_off258 t2 = ![0, 128 * t2.val] := by revert t2; decide +kernel
theorem off259_eq (t2 : Fin k0_t2_loop.trips) : k0_off259 t2 = ![0, 256 * t2.val] := by revert t2; decide +kernel
theorem off260_eq (t2 : Fin k0_t2_loop.trips) : k0_off260 t2 = ![0, 256 * t2.val + 128] := by revert t2; decide +kernel

/-- The three blocks a trip loads. -/
def ld4 (X4 : BufTy.Contents (Elt F) arg12.view.ty) (k : Fin k0_t2_loop.trips) : Vec F S64x128 .i32 :=
  (arg12.access (Rect.unit (s := S64x2560) (k0_off258 k) S64x128.size (k0_off258_inb k))).read (Elt F) X4
def ldlo (X8 : BufTy.Contents (Elt F) arg13.view.ty) (k : Fin k0_t2_loop.trips) : Vec F S64x128 .i32 :=
  (arg13.access (Rect.unit (s := S64x5120) (k0_off259 k) S64x128.size (k0_off259_inb k))).read (Elt F) X8
def ldhi (X8 : BufTy.Contents (Elt F) arg13.view.ty) (k : Fin k0_t2_loop.trips) : Vec F S64x128 .i32 :=
  (arg13.access (Rect.unit (s := S64x5120) (k0_off260 k) S64x128.size (k0_off260_inb k))).read (Elt F) X8

variable (c : Dev nD) (k0_t1 : Fin k0_t1_loop.trips) (m sh : IVec S64x128 32) (sc : Vec F S64x40 .i32)
  (X4 : BufTy.Contents (Elt F) arg12.view.ty) (X8 : BufTy.Contents (Elt F) arg13.view.ty)

/-- What a trip needs. -/
abbrev Trip2 (f : BufTy.Contents (Elt F) arg11.view.ty) : sProp 𝕄 :=
  iprop((arg12.view.loc (c : Thread nD τ) ↦[arg12.view.set]{fullShare} X4) ∗ (arg13.view.loc (c : Thread nD τ) ↦[arg13.view.set]{fullShare} X8) ∗ (arg11.view.loc (c : Thread nD τ) ↦[arg11.view.set]{fullShare} f))

theorem trip2 (k : Fin k0_t2_loop.trips) (f : BufTy.Contents (Elt F) arg11.view.ty) :
    Trip2 (F := F) arg11 arg12 arg13 c X4 X8 f ⊢ wpc c (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t1 m sh 5504#32 sc k ())
      (fun _ => Trip2 (F := F) arg11 arg12 arg13 c X4 X8 (arg11.view.writes (Elt F) f
        [⟨Rect.unit (s := S512x5120) (k0_off261 k0_t1 k) S64x256.size (k0_off261_inb k0_t1 k), widen m sh sc k (ld4 arg12 X4 k) (ldlo arg13 X8 k) (ldhi arg13 X8 k)⟩])) := by
  have hk : k.val < 20 := Nat.lt_of_lt_of_le k.isLt k0_t2_abs.2.1
  unfold k0_t2_body wpc
  iintro ⟨H12, H13, H11⟩
  sl_exec
  sl_step
  isplitl [H12]; · iexact H12
  isplitl [H13]; · iexact H13
  iexact H11

end Cert.KernelIdeal.Hand

end
-- ==== Proof.KI.Target.lean ====
/-
  What the weight tile is to hold, element by element, and that a gathered chunk put through the widening holds it.
-/
module

public import proofs.«01_k».proof.Proof.KI.Group

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

/-! ## The words of a row's number -/

section Words
variable (w : BitVec 32) (hw : w.toNat < 27648)
include hw

theorem slt_eq : BitVec.slt w 5504#32 = decide (w.toNat < 5504) := by
  rw [BitVec.slt, BitVec.toInt_eq_toNat_of_lt (by omega)]
  refine decide_eq_decide.mpr ?_
  rw [show (5504#32 : BitVec 32).toInt = 5504 by decide]; omega

theorem cond2_iff : k0_cond2 w = 1#1 ↔ w.toNat < 5504 := by
  unfold k0_cond2
  simp only [Scalar.cmpi, Scalar.extui, IntOp.cmpi]
  rw [slt_eq w hw]
  by_cases h : w.toNat < 5504
  · rw [decide_eq_true h]; exact iff_of_true (by decide) h
  · rw [decide_eq_false h]; exact iff_of_false (by decide) h

theorem lt_bit : IntOp.cmpi .slt w 5504#32 = if w.toNat < 5504 then 1#1 else 0#1 := by
  unfold IntOp.cmpi
  rw [slt_eq w hw]
  by_cases h : w.toNat < 5504
  · rw [decide_eq_true h, if_pos h]; rfl
  · rw [decide_eq_false h, if_neg h]; rfl

theorem max_eq : (Scalar.maxsi (Scalar.subi w 5504#32) 0#32).toNat = w.toNat - 5504 := by
  show (if (0#32).slt (w - 5504#32) then w - 5504#32 else 0#32).toNat = _
  have e : (w - 5504#32).toNat = (2 ^ 32 - 5504 + w.toNat) % 2 ^ 32 := by rw [BitVec.toNat_sub]; rfl
  by_cases h : w.toNat < 5504
  · rw [if_neg, show w.toNat - 5504 = 0 by omega]; rfl
    rw [BitVec.slt, decide_eq_true_eq, BitVec.toInt_eq_toNat_cond, BitVec.toInt_eq_toNat_cond, e]
    simp; omega
  · by_cases h' : (0#32).slt (w - 5504#32)
    · rw [if_pos h', e]; omega
    · rw [if_neg h']
      rw [BitVec.slt, decide_eq_true_eq, BitVec.toInt_eq_toNat_cond, BitVec.toInt_eq_toNat_cond, e] at h'
      simp at h' ⊢; omega

theorem off2_eq : k0_off2 w = ![w.toNat / 4, 0] := by
  show ![(w >>> 2#32).toNat, 0] = _
  rw [BitVec.ushiftRight_eq', BitVec.toNat_ushiftRight, Nat.shiftRight_eq_div_pow]; rfl

theorem off3_eq : k0_off3 w = ![(w.toNat - 5504) / 4, 0] := by
  show ![((Scalar.maxsi (Scalar.subi w 5504#32) 0#32) >>> 2#32).toNat, 0] = _
  rw [BitVec.ushiftRight_eq', BitVec.toNat_ushiftRight, max_eq w hw, Nat.shiftRight_eq_div_pow]; rfl

theorem off4_eq : k0_off4 w = ![(w.toNat - 5504) / 2, 0] := by
  show ![((Scalar.maxsi (Scalar.subi w 5504#32) 0#32) >>> 1#32).toNat, 0] = _
  rw [BitVec.ushiftRight_eq', BitVec.toNat_ushiftRight, max_eq w hw, Nat.shiftRight_eq_div_pow]; rfl

/-- A row number of the table passes the body's check. -/
theorem chk_of : k0_chk1 w := by
  refine ⟨fun h => ?_, fun h => ?_, ?_⟩
  · rw [off2_eq w hw]
    have := (cond2_iff w hw).mp h
    exact Fin.forall_fin_two.mpr ⟨by show w.toNat / 4 + 1 ≤ 1376; omega, by show 0 + 5120 ≤ 5120; omega⟩
  · rw [off3_eq w hw]
    exact Fin.forall_fin_two.mpr ⟨by show (w.toNat - 5504) / 4 + 1 ≤ 5536; omega, by show 0 + 2560 ≤ 2560; omega⟩
  · rw [off4_eq w hw]
    exact Fin.forall_fin_two.mpr ⟨by show (w.toNat - 5504) / 2 + 1 ≤ 11072; omega, by show 0 + 40 ≤ 40; omega⟩

end Words

/-! ## The target -/

/-- The halves of a word's byte: the low one at 0. -/
def nibh (h : ℕ) (w a : BitVec 32) : BitVec 32 := if h = 0 then nib0 w a else nib1 w a

/-- The element of the weight tile at a row of number `w` and a place of the tile's column order. -/
def wElt (A8 : S1376x5120.Idx → BitVec 32) (A4 : S5536x2560.Idx → BitVec 32) (As : S11072x40.Idx → BitVec 32) (w : BitVec 32) (k : Fin 5120) : F .bf16 :=
  elt w (A8 (ix2 (⟨w.toNat / 4 % 1376, by omega⟩ : Fin 1376) (⟨256 * (k.val / 256) + 2 * (k.val % 128) + k.val / 128 % 2, by omega⟩ : Fin 5120)))
    (nibh (k.val / 128 % 2) w (A4 (ix2 (⟨(w.toNat - 5504) / 4 % 5536, by omega⟩ : Fin 5536) (⟨128 * (k.val / 256) + k.val % 128, by omega⟩ : Fin 2560))))
    (As (ix2 (⟨(w.toNat - 5504) / 2 % 11072, by omega⟩ : Fin 11072) (⟨2 * (k.val / 256) + k.val % 128 / 64, by omega⟩ : Fin 40)))

theorem select_one {α : Type} (a b : α) : Scalar.select 1#1 a b = a := if_pos rfl
theorem select_zero {α : Type} (a b : α) : Scalar.select 0#1 a b = b := if_neg (by decide)

/-- An element below the boundary is its byte alone; above it, its half byte times its scale. -/
theorem elt_lt (w a n s n' s' : BitVec 32) (hw : w.toNat < 27648) (h : w.toNat < 5504) : (elt w a n s : F .bf16) = elt w a n' s' := by
  unfold elt; rw [lt_bit w hw, if_pos h, select_one, select_one]
theorem elt_ge (w a n s a' : BitVec 32) (hw : w.toNat < 27648) (h : ¬ w.toNat < 5504) : (elt w a n s : F .bf16) = elt w a' n s := by
  unfold elt; rw [lt_bit w hw, if_neg h, select_zero, select_zero]

section Row
variable {c : Dev nD} {W : Fin 64 → BitVec 32} {hW : ∀ t, k0_chk1 (W t)} (hB : ∀ t, (W t).toNat < 27648)
variable {F8 : Buf (Elt F) (w8M.view.loc (c : Thread nD τ))} {F4 : Buf (Elt F) (w4M.view.loc (c : Thread nD τ))}
variable {Fs : Buf (Elt F) (wsM.view.loc (c : Thread nD τ))}
variable {G8 : Buf (Elt F) (g8M.view.loc (c : Thread nD τ))} {G4 : Buf (Elt F) (g4M.view.loc (c : Thread nD τ))}
variable {GS : Buf (Elt F) (gsM.view.loc (c : Thread nD τ))}

theorem row8_at (t : Fin 64) (k : Fin 5120) : (row8 t).view.read (Elt F) G8 (ix2 (0 : Fin 1) k) = g8M.view.read (Elt F) G8 (ix2 t k) := by
  refine congrArg (g8M.view.read (Elt F) G8) (funext fun a => Fin.ext ?_)
  match a with
  | 0 => show t.val + 1 * 0 = t.val; omega
  | 1 => show 0 + 1 * k.val = k.val; omega
theorem row4_at (t : Fin 64) (k : Fin 2560) : (row4 t).view.read (Elt F) G4 (ix2 (0 : Fin 1) k) = g4M.view.read (Elt F) G4 (ix2 t k) := by
  refine congrArg (g4M.view.read (Elt F) G4) (funext fun a => Fin.ext ?_)
  match a with
  | 0 => show t.val + 1 * 0 = t.val; omega
  | 1 => show 0 + 1 * k.val = k.val; omega
theorem rows_at (t : Fin 64) (k : Fin 40) : (rows t).view.read (Elt F) GS (ix2 (0 : Fin 1) k) = gsM.view.read (Elt F) GS (ix2 t k) := by
  refine congrArg (gsM.view.read (Elt F) GS) (funext fun a => Fin.ext ?_)
  match a with
  | 0 => show t.val + 1 * 0 = t.val; omega
  | 1 => show 0 + 1 * k.val = k.val; omega
include hB
theorem src8_at (t : Fin 64) (h : k0_cond2 (W t) = 1#1) (k : Fin 5120) :
    (src8 (W t) ((hW t).1 h)).view.read (Elt F) F8 (ix2 (0 : Fin 1) k) = w8M.view.read (Elt F) F8 (ix2 (⟨(W t).toNat / 4 % 1376, by omega⟩ : Fin 1376) k) := by
  have hl := (cond2_iff _ (hB t)).mp h
  have e := off2_eq _ (hB t)
  refine congrArg (w8M.view.read (Elt F) F8) (funext fun a => Fin.ext ?_)
  match a with
  | 0 => show k0_off2 (W t) 0 + 1 * 0 = (W t).toNat / 4 % 1376; rw [e]; show (W t).toNat / 4 + 1 * 0 = _; omega
  | 1 => show k0_off2 (W t) 1 + 1 * k.val = k.val; rw [e]; show 0 + 1 * k.val = _; omega
theorem src4_at (t : Fin 64) (h : k0_cond3 (W t) = 1#1) (k : Fin 2560) :
    (src4 (W t) ((hW t).2.1 h)).view.read (Elt F) F4 (ix2 (0 : Fin 1) k) = w4M.view.read (Elt F) F4 (ix2 (⟨((W t).toNat - 5504) / 4 % 5536, by omega⟩ : Fin 5536) k) := by
  have e := off3_eq _ (hB t)
  have hb := hB t
  refine congrArg (w4M.view.read (Elt F) F4) (funext fun a => Fin.ext ?_)
  match a with
  | 0 => show k0_off3 (W t) 0 + 1 * 0 = ((W t).toNat - 5504) / 4 % 5536; rw [e]; show ((W t).toNat - 5504) / 4 + 1 * 0 = _; omega
  | 1 => show k0_off3 (W t) 1 + 1 * k.val = k.val; rw [e]; show 0 + 1 * k.val = _; omega
theorem srcs_at (t : Fin 64) (k : Fin 40) :
    (srcs (W t) (hW t).2.2).view.read (Elt F) Fs (ix2 (0 : Fin 1) k) = wsM.view.read (Elt F) Fs (ix2 (⟨((W t).toNat - 5504) / 2 % 11072, by omega⟩ : Fin 11072) k) := by
  have e := off4_eq _ (hB t)
  have hb := hB t
  refine congrArg (wsM.view.read (Elt F) Fs) (funext fun a => Fin.ext ?_)
  match a with
  | 0 => show k0_off4 (W t) 0 + 1 * 0 = ((W t).toNat - 5504) / 2 % 11072; rw [e]; show ((W t).toNat - 5504) / 2 + 1 * 0 = _; omega
  | 1 => show k0_off4 (W t) 1 + 1 * k.val = k.val; rw [e]; show 0 + 1 * k.val = _; omega

variable (hg : Gathered c W hW F8 F4 Fs G8 G4 GS)
include hg
theorem got8_at (t : Fin 64) (h : (W t).toNat < 5504) (k : Fin 5120) :
    g8M.view.read (Elt F) G8 (ix2 t k) = w8M.view.read (Elt F) F8 (ix2 (⟨(W t).toNat / 4 % 1376, by omega⟩ : Fin 1376) k) := by
  have h2 := (cond2_iff _ (hB t)).mpr h
  exact (row8_at t k).symm.trans ((congrFun (hg.e8 t h2) (ix2 (0 : Fin 1) k)).trans (src8_at (hW := hW) hB t h2 k))
theorem got4_at (t : Fin 64) (h : ¬ (W t).toNat < 5504) (k : Fin 2560) :
    g4M.view.read (Elt F) G4 (ix2 t k) = w4M.view.read (Elt F) F4 (ix2 (⟨((W t).toNat - 5504) / 4 % 5536, by omega⟩ : Fin 5536) k) := by
  have h3 : k0_cond3 (W t) = 1#1 := (cond3_iff _).mpr fun hc => h ((cond2_iff _ (hB t)).mp hc)
  exact (row4_at t k).symm.trans ((congrFun (hg.e4 t h3) (ix2 (0 : Fin 1) k)).trans (src4_at (hW := hW) hB t h3 k))
theorem gots_at (t : Fin 64) (k : Fin 40) :
    gsM.view.read (Elt F) GS (ix2 t k) = wsM.view.read (Elt F) Fs (ix2 (⟨((W t).toNat - 5504) / 2 % 11072, by omega⟩ : Fin 11072) k) := by
  exact (rows_at t k).symm.trans ((congrFun (hg.es t) (ix2 (0 : Fin 1) k)).trans (srcs_at (hW := hW) hB t k))

omit hg hB in
theorem ld4_at (k : Fin k0_t2_loop.trips) (hk : k.val < 20) (r : Fin 64) (l : Fin 128) : ld4 g4M G4 k (ix2 r l) = g4M.view.read (Elt F) G4 (ix2 r (⟨128 * k.val + l.val, by omega⟩ : Fin 2560)) := by
  refine congrArg (g4M.view.read (Elt F) G4) (funext fun a => Fin.ext ?_)
  match a with
  | 0 => show k0_off258 k 0 + 1 * r.val = r.val; rw [off258_eq]; show 0 + 1 * r.val = _; omega
  | 1 => show k0_off258 k 1 + 1 * l.val = 128 * k.val + l.val; rw [off258_eq]; show 128 * k.val + 1 * l.val = _; omega
omit hg hB in
theorem ldlo_at (k : Fin k0_t2_loop.trips) (hk : k.val < 20) (r : Fin 64) (l : Fin 128) : ldlo g8M G8 k (ix2 r l) = g8M.view.read (Elt F) G8 (ix2 r (⟨256 * k.val + l.val, by omega⟩ : Fin 5120)) := by
  refine congrArg (g8M.view.read (Elt F) G8) (funext fun a => Fin.ext ?_)
  match a with
  | 0 => show k0_off259 k 0 + 1 * r.val = r.val; rw [off259_eq]; show 0 + 1 * r.val = _; omega
  | 1 => show k0_off259 k 1 + 1 * l.val = 256 * k.val + l.val; rw [off259_eq]; show 256 * k.val + 1 * l.val = _; omega
omit hg hB in
theorem ldhi_at (k : Fin k0_t2_loop.trips) (hk : k.val < 20) (r : Fin 64) (l : Fin 128) : ldhi g8M G8 k (ix2 r l) = g8M.view.read (Elt F) G8 (ix2 r (⟨256 * k.val + 128 + l.val, by omega⟩ : Fin 5120)) := by
  refine congrArg (g8M.view.read (Elt F) G8) (funext fun a => Fin.ext ?_)
  match a with
  | 0 => show k0_off260 k 0 + 1 * r.val = r.val; rw [off260_eq]; show 0 + 1 * r.val = _; omega
  | 1 => show k0_off260 k 1 + 1 * l.val = 256 * k.val + 128 + l.val; rw [off260_eq]; show 256 * k.val + 128 + 1 * l.val = _; omega

/-- The words a chunk's widening reads give the target's element. -/
theorem elt_got (r : Fin 64) (k8 k8' : Fin 5120) (k4 k4' : Fin 2560) (ks ks' : Fin 40) (h : ℕ) (h8 : k8 = k8') (h4 : k4 = k4') (hs : ks = ks') :
    (elt (W r) (g8M.view.read (Elt F) G8 (ix2 r k8)) (nibh h (W r) (g4M.view.read (Elt F) G4 (ix2 r k4))) (gsM.view.read (Elt F) GS (ix2 r ks)) : F .bf16)
      = elt (W r) (w8M.view.read (Elt F) F8 (ix2 (⟨(W r).toNat / 4 % 1376, by omega⟩ : Fin 1376) k8'))
          (nibh h (W r) (w4M.view.read (Elt F) F4 (ix2 (⟨((W r).toNat - 5504) / 4 % 5536, by omega⟩ : Fin 5536) k4')))
          (wsM.view.read (Elt F) Fs (ix2 (⟨((W r).toNat - 5504) / 2 % 11072, by omega⟩ : Fin 11072) ks')) := by
  subst h8 h4 hs
  by_cases hr : (W r).toNat < 5504
  · rw [got8_at hB hg r hr]; exact elt_lt _ _ _ _ _ _ (hB r) hr
  · rw [got4_at hB hg r hr, gots_at hB hg r]; exact elt_ge _ _ _ _ _ (hB r) hr

/-- One group of a gathered chunk, widened, is the target's 256 columns. -/
theorem widen_target (m sh : IVec S64x128 32) (hm : ∀ r l, m (ix2 r l) = W r) (hs : ∀ r l, sh (ix2 r l) = shw (W r))
    (k : Fin k0_t2_loop.trips) (r : Fin 64) (col : Fin 256) (kk : Fin 5120) (hkk : kk.val = 256 * k.val + col.val) :
    widen m sh (gsM.view.read (Elt F) GS) k (ld4 g4M G4 k) (ldlo g8M G8 k) (ldhi g8M G8 k) (ix2 r col)
      = (wElt (w8M.view.read (Elt F) F8) (w4M.view.read (Elt F) F4) (wsM.view.read (Elt F) Fs) (W r) kk : F .bf16) := by
  have hk : k.val < 20 := Nat.lt_of_lt_of_le k.isLt k0_t2_abs.2.1
  have hcol := col.isLt
  have hsplit : ∀ (l : Fin 128) (p : ℕ) (hp : 2 * l.val % 128 + p < 128),
      (if l.val < 64 then ldlo g8M G8 k (ix2 r (⟨2 * l.val % 128 + p, hp⟩ : Fin 128)) else ldhi g8M G8 k (ix2 r (⟨2 * l.val % 128 + p, hp⟩ : Fin 128)))
        = g8M.view.read (Elt F) G8 (ix2 r (⟨(256 * k.val + 2 * l.val + p) % 5120, by omega⟩ : Fin 5120)) := fun l p hp => by
    by_cases h : l.val < 64
    · rw [if_pos h, ldlo_at k hk]
      exact congrArg (fun z => g8M.view.read (Elt F) G8 (ix2 r z)) (Fin.ext (by show 256 * k.val + (2 * l.val % 128 + p) = (256 * k.val + 2 * l.val + p) % 5120; omega))
    · rw [if_neg h, ldhi_at k hk]
      have := l.isLt
      exact congrArg (fun z => g8M.view.read (Elt F) G8 (ix2 r z)) (Fin.ext (by show 256 * k.val + 128 + (2 * l.val % 128 + p) = (256 * k.val + 2 * l.val + p) % 5120; omega))
  by_cases hc : col.val < 128
  · have hl : (⟨col.val, hc⟩ : Fin 128).val = col.val := rfl
    have e2 := hsplit ⟨col.val, hc⟩ 0 (by omega)
    have e1 := widen_lo m sh W hm hs (gsM.view.read (Elt F) GS) k (ld4 g4M G4 k) (ldlo g8M G8 k) (ldhi g8M G8 k) r ⟨col.val, hc⟩ col rfl
      ⟨2 * k.val + (if col.val < 64 then 0 else 1), by split <;> omega⟩ rfl
    rw [ld4_at k hk] at e1
    refine e1.trans ?_
    refine (congrArg (fun a => (elt (W r) a _ _ : F .bf16)) e2).trans ?_
    unfold wElt
    have hh : kk.val / 128 % 2 = 0 := by omega
    have hn : ∀ a, nib0 (W r) a = nibh (kk.val / 128 % 2) (W r) a := fun a => by rw [hh]; rfl
    rw [hn]
    refine elt_got hB hg r _ _ _ _ _ _ _ (Fin.ext ?_) (Fin.ext ?_) (Fin.ext ?_)
    · show (256 * k.val + 2 * col.val + 0) % 5120 = 256 * (kk.val / 256) + 2 * (kk.val % 128) + kk.val / 128 % 2; omega
    · show 128 * k.val + col.val = 128 * (kk.val / 256) + kk.val % 128; omega
    · show 2 * k.val + (if col.val < 64 then 0 else 1) = 2 * (kk.val / 256) + kk.val % 128 / 64; split <;> omega
  · have e2 := hsplit ⟨col.val - 128, by omega⟩ 1 (by omega)
    have e1 := widen_hi m sh W hm hs (gsM.view.read (Elt F) GS) k (ld4 g4M G4 k) (ldlo g8M G8 k) (ldhi g8M G8 k) r ⟨col.val - 128, by omega⟩ col (by show col.val = 128 + (col.val - 128); omega)
      ⟨2 * k.val + (if col.val - 128 < 64 then 0 else 1), by split <;> omega⟩ rfl
    rw [ld4_at k hk] at e1
    refine e1.trans ?_
    refine (congrArg (fun a => (elt (W r) a _ _ : F .bf16)) e2).trans ?_
    unfold wElt
    have hh : kk.val / 128 % 2 = 1 := by omega
    have hn : ∀ a, nib1 (W r) a = nibh (kk.val / 128 % 2) (W r) a := fun a => by rw [hh]; rfl
    rw [hn]
    refine elt_got hB hg r _ _ _ _ _ _ _ (Fin.ext ?_) (Fin.ext ?_) (Fin.ext ?_)
    · show (256 * k.val + 2 * (col.val - 128) + 1) % 5120 = 256 * (kk.val / 256) + 2 * (kk.val % 128) + kk.val / 128 % 2; omega
    · show 128 * k.val + (col.val - 128) = 128 * (kk.val / 256) + kk.val % 128; omega
    · show 2 * k.val + (if col.val - 128 < 64 then 0 else 1) = 2 * (kk.val / 256) + kk.val % 128 / 64; split <;> omega

end Row

end Cert.KernelIdeal.Hand

end
-- ==== Proof.KI.Meta.lean ====
/-
  One chunk's trip: the gather, then the twenty groups; and the loop over a tile's eight chunks.
-/
module

public import proofs.«01_k».proof.Proof.KI.Target

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

variable (i : grid0.Coords)
variable (arg1 : Memref sig .tc .smem S27648 .i32) (harg1 : arg1.IsWhole)
variable (arg2 : Memref sig .tc .vmem S216x128 .i32) (harg2 : arg2.IsWhole)
variable (arg3 : Memref sig .tc .vmem S216x128 .f32) (harg3 : arg3.IsWhole)
variable (arg4 : Memref sig .tc .vmem S3072x128 .f32) (harg4 : arg4.IsWhole)
variable (arg5 : Memref sig .tc .hbm S3072x5120 .bf16) (harg5 : arg5.IsWhole)
variable (harg6 : ((w4M : Memref sig .tc .hbm S5536x2560 .i32)).IsWhole)
variable (harg7 : ((w8M : Memref sig .tc .hbm S1376x5120 .i32)).IsWhole)
variable (harg8 : ((wsM : Memref sig .tc .hbm S11072x40 .i32)).IsWhole)
variable (arg9 : Memref sig .tc .vmem S3072x512 .bf16) (harg9 : arg9.IsWhole)
variable (arg10 : Memref sig .tc .vmem S3072x5120 .bf16) (harg10 : arg10.IsWhole)
variable (arg11 : Memref sig .tc .vmem S512x5120 .bf16) (harg11 : arg11.IsWhole)
variable (harg12 : ((g4M : Memref sig .tc .vmem S64x2560 .i32)).IsWhole)
variable (harg13 : ((g8M : Memref sig .tc .vmem S64x5120 .i32)).IsWhole)
variable (harg14 : ((gsM : Memref sig .tc .vmem S64x40 .i32)).IsWhole)
variable (arg17 : DmaSems sig S_)

/-! ## The lane masks name the chunk's rows -/

theorem off257_eq (t : Fin k0_t1_loop.trips) : k0_off257 i t = ![4 * (i 0).val + t.val / 2, 0] := by
  obtain ⟨a, ha⟩ : ∃ a : Fin 54, (i 0).val = a.val := ⟨⟨(i 0).val, (i 0).isLt⟩, rfl⟩
  unfold k0_off257
  simp only [ha]
  clear ha
  revert a t; decide +kernel

theorem offW_eq (r : Fin 64) (t : Fin k0_t1_loop.trips) : offW r.val i t 0 = 512 * (i 0).val + 64 * t.val + r.val := by
  have h := offW_int r.val r.isLt i t
  have r_i0 : (i 0).val < 54 := (i 0).isLt
  have r_t : t.val < 8 := Nat.lt_of_lt_of_le t.isLt k0_t1_abs.2.1
  exact Affine.nat_eq h (512 * (i 0).val + 64 * t.val + r.val) (by omega)

/-- The row number a word of the table gives is the one its block of 128 gives. -/
def Rel {c : Dev nD} (f1 : Buf (Elt F) (arg1.view.loc (c : Thread nD τ))) (f2 : Buf (Elt F) (arg2.view.loc (c : Thread nD τ))) : Prop :=
  ∀ (n : Fin 27648) (y : S27648.Idx), (y 0).val = n.val →
    arg2.view.read (Elt F) f2 (ix2 (⟨n.val / 128, by omega⟩ : Fin 216) (⟨n.val % 128, by omega⟩ : Fin 128)) = arg1.view.read (Elt F) f1 y

theorem mask_lane (t : Fin k0_t1_loop.trips) (r : Fin 64) (l : Fin 128) :
    (fold (k0_pay13 (Scalar.addi 0#32 (Scalar.muli (Scf.iv 0#32 1#32 t) 1#32)) (ix2 r l))).toNat % 128 = r.val + 64 * (t.val % 2) := by
  show (fold (IntOp.addi (iota .tc S64x128 32 [0] iota_S64x128_d0_w32 (ix2 r l)) (Scalar.muli 64#32 (Scalar.andi (Scalar.addi 0#32 (Scalar.muli (Scf.iv 0#32 1#32 t) 1#32)) 1#32)))).toNat % 128 = _
  rw [iota_single_apply]
  show (fold (IntOp.addi (BitVec.ofNat 32 r.val) (Scalar.muli 64#32 (Scalar.andi (Scalar.addi 0#32 (Scalar.muli (Scf.iv 0#32 1#32 t) 1#32)) 1#32)))).toNat % 128 = _
  revert r t; decide +kernel

variable {c : Dev nD} {f1 : Buf (Elt F) (arg1.view.loc (c : Thread nD τ))} {f2 : Buf (Elt F) (arg2.view.loc (c : Thread nD τ))}

theorem meta_row (hrel : Rel arg1 arg2 f1 f2) (t : Fin k0_t1_loop.trips) (r : Fin 64) (l : Fin 128) :
    (chunkMeta (F := F) i t ((arg2.access (Rect.unit (s := S216x128) (k0_off257 i t) S1x128.size (k0_off257_inb i t))).read (Elt F) f2)).2.1 (ix2 r l)
      = wordAt (c := c) arg1 f1 i t r := by
  have r_i0 : (i 0).val < 54 := (i 0).isLt
  have r_t : t.val < 8 := Nat.lt_of_lt_of_le t.isLt k0_t1_abs.2.1
  have hl : r.val + 64 * (t.val % 2) < 128 := by omega
  unfold chunkMeta
  dsimp only
  unfold k0_pay16
  refine (gather_lane (k0_pay14 _) (fun j => fold (k0_pay13 (Scalar.addi 0#32 (Scalar.muli (Scf.iv 0#32 1#32 t) 1#32)) j)) r l ⟨r.val + 64 * (t.val % 2), hl⟩ (mask_lane t r l)).trans ?_
  unfold k0_pay14
  rw [shapeCast_self, shapeCast_self]
  have e := offW_eq i r t
  refine Eq.trans ?_ (hrel ⟨512 * (i 0).val + 64 * t.val + r.val, by omega⟩ _ ?_)
  · refine congrArg (arg2.view.read (Elt F) f2) (funext fun a => Fin.ext ?_)
    match a with
    | 0 => show k0_off257 i t 0 + 1 * 0 = (512 * (i 0).val + 64 * t.val + r.val) / 128; rw [off257_eq]; show 4 * (i 0).val + t.val / 2 + 1 * 0 = _; omega
    | 1 => show k0_off257 i t 1 + 1 * (r.val + 64 * (t.val % 2)) = (512 * (i 0).val + 64 * t.val + r.val) % 128; rw [off257_eq]; show 0 + 1 * (r.val + 64 * (t.val % 2)) = _; omega
  · show offW r.val i t 0 + 1 * 0 = _
    rw [e]; rfl

theorem meta_shift (hrel : Rel arg1 arg2 f1 f2) (t : Fin k0_t1_loop.trips) (r : Fin 64) (l : Fin 128) :
    (chunkMeta (F := F) i t ((arg2.access (Rect.unit (s := S216x128) (k0_off257 i t) S1x128.size (k0_off257_inb i t))).read (Elt F) f2)).2.2.1 (ix2 r l)
      = shw (wordAt (c := c) arg1 f1 i t r) := by
  rw [← meta_row i arg1 arg2 hrel t r l]; rfl

end Cert.KernelIdeal.Hand

end
-- ==== Proof.KI.Chunk.lean ====
/-
  The loop over a chunk's twenty groups, one chunk's trip, and the loop over a tile's eight chunks.
-/
module

public import proofs.«01_k».proof.Proof.KI.Meta
public import Idealize.ShloMosaic.Lib.WritesUnit

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

section Groups
variable (i : grid0.Coords)
variable (arg1 : Memref sig .tc .smem S27648 .i32) (harg1 : arg1.IsWhole)
variable (arg2 : Memref sig .tc .vmem S216x128 .i32) (harg2 : arg2.IsWhole)
variable (arg3 : Memref sig .tc .vmem S216x128 .f32) (harg3 : arg3.IsWhole)
variable (arg4 : Memref sig .tc .vmem S3072x128 .f32) (harg4 : arg4.IsWhole)
variable (arg5 : Memref sig .tc .hbm S3072x5120 .bf16) (harg5 : arg5.IsWhole)
variable (arg6 : Memref sig .tc .hbm S5536x2560 .i32) (harg6 : arg6.IsWhole)
variable (arg7 : Memref sig .tc .hbm S1376x5120 .i32) (harg7 : arg7.IsWhole)
variable (arg8 : Memref sig .tc .hbm S11072x40 .i32) (harg8 : arg8.IsWhole)
variable (arg9 : Memref sig .tc .vmem S3072x512 .bf16) (harg9 : arg9.IsWhole)
variable (arg10 : Memref sig .tc .vmem S3072x5120 .bf16) (harg10 : arg10.IsWhole)
variable (arg11 : Memref sig .tc .vmem S512x5120 .bf16) (harg11 : arg11.IsWhole)
variable (arg12 : Memref sig .tc .vmem S64x2560 .i32) (harg12 : arg12.IsWhole)
variable (arg13 : Memref sig .tc .vmem S64x5120 .i32) (harg13 : arg13.IsWhole)
variable (arg14 : Memref sig .tc .vmem S64x40 .i32) (harg14 : arg14.IsWhole)
variable (arg15 arg16 arg17 : DmaSems sig S_)

variable (c : Dev nD) (k0_t1 : Fin k0_t1_loop.trips) (m sh : IVec S64x128 32) (sc : Vec F S64x40 .i32)
  (X4 : BufTy.Contents (Elt F) arg12.view.ty) (X8 : BufTy.Contents (Elt F) arg13.view.ty) (G : S512x5120.Idx → F .bf16)

/-- The tile's first `64 t` rows hold `G`. -/
def RowsDone (t : ℕ) (f : BufTy.Contents (Elt F) arg11.view.ty) : Prop :=
  ∀ y : S512x5120.Idx, (y 0).val < 64 * t → arg11.view.read (Elt F) f y = G y

/-- And the first `256 n` columns of the chunk after them. -/
def ColsDone (t n : ℕ) (f : BufTy.Contents (Elt F) arg11.view.ty) : Prop :=
  ∀ y : S512x5120.Idx, ((y 0).val < 64 * t ∨ ((y 0).val < 64 * t + 64 ∧ (y 1).val < 256 * n)) → arg11.view.read (Elt F) f y = G y

theorem cols_step (k : Fin k0_t2_loop.trips) (w : S64x256.Idx → F .bf16)
    (hG : ∀ (r : Fin 64) (col : Fin 256) (y : S512x5120.Idx), (y 0).val = 64 * k0_t1.val + r.val → (y 1).val = 256 * k.val + col.val → w (ix2 r col) = G y)
    (f : BufTy.Contents (Elt F) arg11.view.ty) (h : ColsDone arg11 G k0_t1.val k.val f) :
    ColsDone arg11 G k0_t1.val (k.val + 1) (arg11.view.writes (Elt F) f
      [⟨Rect.unit (s := S512x5120) (k0_off261 k0_t1 k) S64x256.size (k0_off261_inb k0_t1 k), w⟩]) := by
  intro y hy
  by_cases h0 : 64 * k0_t1.val ≤ (y 0).val ∧ (y 0).val < 64 * k0_t1.val + 64
  · by_cases h1 : 256 * k.val ≤ (y 1).val
    · have b1 : (y 1).val < 256 * k.val + 256 := by omega
      refine (View.read_writes_cons_unit_of_mem arg11.view f (k0_off261_inb k0_t1 k) w [] y
        (ix2 (⟨(y 0).val - 64 * k0_t1.val, by omega⟩ : Fin 64) (⟨(y 1).val - 256 * k.val, by omega⟩ : Fin 256)) (off261_eq k0_t1 k) ?_).trans (hG _ _ y ?_ ?_)
      · refine Fin.forall_fin_two.mpr ⟨?_, ?_⟩
        · show (y 0).val = 64 * k0_t1.val + ((y 0).val - 64 * k0_t1.val); omega
        · show (y 1).val = 256 * k.val + ((y 1).val - 256 * k.val); omega
      · show (y 0).val = 64 * k0_t1.val + ((y 0).val - 64 * k0_t1.val); omega
      · show (y 1).val = 256 * k.val + ((y 1).val - 256 * k.val); omega
    · refine (View.read_writes_cons_unit_of_not_mem arg11.view f (k0_off261_inb k0_t1 k) w [] y (off261_eq k0_t1 k) 1 (.inl ?_)).trans (h y ?_)
      · show (y 1).val < 256 * k.val; omega
      · exact .inr ⟨h0.2, by omega⟩
  · refine (View.read_writes_cons_unit_of_not_mem arg11.view f (k0_off261_inb k0_t1 k) w [] y (off261_eq k0_t1 k) 0 ?_).trans (h y ?_)
    · show (y 0).val < 64 * k0_t1.val ∨ 64 * k0_t1.val + 64 ≤ (y 0).val; omega
    · omega

/-- What the loop over the groups holds. -/
def Inv2 (n : ℕ) (_ : Unit) : sProp 𝕄 :=
  iprop(∃ f', ⌜ColsDone arg11 G k0_t1.val n f'⌝ ∗ Trip2 (F := F) arg11 arg12 arg13 c X4 X8 f')

/-- The loop over the groups. -/
theorem loop2 (hG : ∀ (k : Fin k0_t2_loop.trips) (r : Fin 64) (col : Fin 256) (y : S512x5120.Idx), (y 0).val = 64 * k0_t1.val + r.val → (y 1).val = 256 * k.val + col.val →
      widen m sh sc k (ld4 arg12 X4 k) (ldlo arg13 X8 k) (ldhi arg13 X8 k) (ix2 r col) = G y)
    (f : BufTy.Contents (Elt F) arg11.view.ty) (h : RowsDone arg11 G k0_t1.val f) {R : sProp 𝕄} {β : Type} {kk : Unit → Prog (TpuEff nD τ sig (Elt F) Λ₀ .tc) β} {Q : β → sProp 𝕄}
    (hk : ∀ f', RowsDone arg11 G (k0_t1.val + 1) f' → iprop(Trip2 (F := F) arg11 arg12 arg13 c X4 X8 f' ∗ R) ⊢ wpc c (kk ()) Q) :
    iprop(Trip2 (F := F) arg11 arg12 arg13 c X4 X8 f ∗ R) ⊢ wpc c (Scf.Loop.for k0_t2_loop k0_t2_ok () (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 arg16 arg17 k0_t1 m sh 5504#32 sc) >>= kk) Q := by
  iintro ⟨HT, HR⟩
  have htr : k0_t2_loop.trips = 20 := by decide +kernel
  iapply (Scf.wp_for_bind Idealize.ShloMosaic.frame (wpE (defs₀ (F := F)) Variants.none (c : Thread nD τ) none) Set.univ k0_t2_loop.lb k0_t2_loop.ub k0_t2_loop.st k0_t2_ok () _
    (Inv2 arg11 arg12 arg13 c k0_t1 X4 X8 G) (fun k acc => by
      unfold Inv2
      iintro ⟨%f', %hf, HT⟩
      iapply (wp_wand_r Idealize.ShloMosaic.frame (wpE (defs₀ (F := F)) Variants.none (c : Thread nD τ) none) Set.univ)
      isplitl [HT]
      · iapply (trip2 (F := F) i arg1 harg1 arg2 harg2 arg3 harg3 arg4 harg4 arg5 harg5 arg6 harg6 arg7 harg7 arg8 harg8 arg9 harg9 arg10 harg10 arg11 harg11 arg12 harg12 arg13 harg13 arg14 harg14 arg15 arg16 arg17 c k0_t1 m sh sc X4 X8 k f') $$ HT
      · iintro %_ HT
        iexists _
        isplitr
        · ipureintro
          exact cols_step arg11 k0_t1 G k _ (hG k) f' hf
        · iexact HT)) $$ [HT]
  · unfold Inv2
    iexists f
    isplitr
    · ipureintro
      exact fun y hy => h y (by omega)
    · iexact HT
  · unfold Inv2
    iintro %acc ⟨%f', %hf, HT⟩
    iapply (hk f' (fun y hy => hf y (by
      have h1 : (y 1).val < 5120 := (y 1).isLt
      have : Scf.trips k0_t2_loop.lb k0_t2_loop.ub k0_t2_loop.st = 20 := htr
      rw [this]; omega)))
    isplitl [HT]; · iexact HT
    iexact HR
end Groups

section Chunks
variable (i : grid0.Coords)
variable (arg1 : Memref sig .tc .smem S27648 .i32) (harg1 : arg1.IsWhole)
variable (arg2 : Memref sig .tc .vmem S216x128 .i32) (harg2 : arg2.IsWhole)
variable (arg3 : Memref sig .tc .vmem S216x128 .f32) (harg3 : arg3.IsWhole)
variable (arg4 : Memref sig .tc .vmem S3072x128 .f32) (harg4 : arg4.IsWhole)
variable (arg5 : Memref sig .tc .hbm S3072x5120 .bf16) (harg5 : arg5.IsWhole)
variable (harg6 : ((w4M : Memref sig .tc .hbm S5536x2560 .i32)).IsWhole)
variable (harg7 : ((w8M : Memref sig .tc .hbm S1376x5120 .i32)).IsWhole)
variable (harg8 : ((wsM : Memref sig .tc .hbm S11072x40 .i32)).IsWhole)
variable (arg9 : Memref sig .tc .vmem S3072x512 .bf16) (harg9 : arg9.IsWhole)
variable (arg10 : Memref sig .tc .vmem S3072x5120 .bf16) (harg10 : arg10.IsWhole)
variable (arg11 : Memref sig .tc .vmem S512x5120 .bf16) (harg11 : arg11.IsWhole)
variable (harg12 : ((g4M : Memref sig .tc .vmem S64x2560 .i32)).IsWhole)
variable (harg13 : ((g8M : Memref sig .tc .vmem S64x5120 .i32)).IsWhole)
variable (harg14 : ((gsM : Memref sig .tc .vmem S64x40 .i32)).IsWhole)
variable (arg17 : DmaSems sig S_)

variable {c : Dev nD} (f1 : Buf (Elt F) (arg1.view.loc (c : Thread nD τ))) (q1 : PosShare TreeShare) (f2 : Buf (Elt F) (arg2.view.loc (c : Thread nD τ))) (q2 : PosShare TreeShare)
variable (F8 : Buf (Elt F) (w8M.view.loc (c : Thread nD τ))) (F4 : Buf (Elt F) (w4M.view.loc (c : Thread nD τ))) (Fs : Buf (Elt F) (wsM.view.loc (c : Thread nD τ)))

/-- The weight tile of a grid point. -/
def tile : S512x5120.Idx → F .bf16 := fun y =>
  wElt (w8M.view.read (Elt F) F8) (w4M.view.read (Elt F) F4) (wsM.view.read (Elt F) Fs)
    (wordAt (c := c) arg1 f1 i ⟨(y 0).val / 64 % 8, by have : k0_t1_loop.trips = 8 := by decide +kernel
                                                       omega⟩ ⟨(y 0).val % 64, by omega⟩) ⟨(y 1).val, (y 1).isLt⟩

theorem tile_apply (t : Fin k0_t1_loop.trips) (r : Fin 64) (y : S512x5120.Idx) (h0 : (y 0).val = 64 * t.val + r.val) :
    tile i arg1 f1 F8 F4 Fs y = wElt (w8M.view.read (Elt F) F8) (w4M.view.read (Elt F) F4) (wsM.view.read (Elt F) Fs) (wordAt (c := c) arg1 f1 i t r) ⟨(y 1).val, (y 1).isLt⟩ := by
  have r_t : t.val < 8 := Nat.lt_of_lt_of_le t.isLt k0_t1_abs.2.1
  unfold tile
  refine congrArg (fun w => wElt _ _ _ w _) (congr (congrArg (wordAt (c := c) arg1 f1 i) (Fin.ext ?_)) (Fin.ext ?_))
  · show (y 0).val / 64 % 8 = t.val; omega
  · show (y 0).val % 64 = r.val; omega

/-- What the loop over the chunks holds. -/
def Inv1 (n : ℕ) : sProp 𝕄 :=
  iprop(∃ f8 f4 fs fw, ⌜RowsDone arg11 (tile i arg1 f1 F8 F4 Fs) n fw⌝ ∗ Bufs c f8 f4 fs ∗ Hold c arg1 arg2 f1 q1 f2 q2 F8 F4 Fs
    ∗ (arg11.view.loc (c : Thread nD τ) ↦[arg11.view.set]{fullShare} fw))

theorem trip1 (hB : ∀ t r, (wordAt (c := c) arg1 f1 i t r).toNat < 27648) (hrel : Rel arg1 arg2 f1 f2) (t : Fin k0_t1_loop.trips) :
    Inv1 i arg1 arg2 arg11 f1 q1 f2 q2 F8 F4 Fs t.val
      ⊢ wpc c (k0_t1_body (F := F) i arg1 harg1 arg2 harg2 arg3 harg3 arg4 harg4 arg5 harg5 w4M harg6 w8M harg7 wsM harg8 arg9 harg9 arg10 harg10 arg11 harg11 g4M harg12 g8M harg13 gsM harg14 cc0_scratch5 cc0_scratch6 arg17 (BitVec.ofNat 32 (i 0).val) t ()) (fun _ => Inv1 i arg1 arg2 arg11 f1 q1 f2 q2 F8 F4 Fs (t.val + 1)) := by
  have r_t : t.val < 8 := Nat.lt_of_lt_of_le t.isLt k0_t1_abs.2.1
  unfold Inv1 k0_t1_body
  iintro ⟨%f8, %f4, %fs, %fw, %hfw, HB, HH, HW⟩
  iapply (st_bind (c := c) (X := iprop(Bufs c f8 f4 fs ∗ Hold c arg1 arg2 f1 q1 f2 q2 F8 F4 Fs ∗ (arg11.view.loc (c : Thread nD τ) ↦[arg11.view.set]{fullShare} fw))) (fun Q' hQ' =>
    gather (c := c) (W := fun r => wordAt (c := c) arg1 f1 i t r) (hW := fun r => chk_of _ (hB t r)) (F8 := F8) (F4 := F4) (Fs := Fs) i arg1 harg1 arg2 harg2 arg3 harg3 arg4 harg4 arg5 harg5 harg6 harg7 harg8 arg9 harg9 arg10 harg10 arg11 harg11 harg12 harg13 harg14 t arg17 f1 q1 f2 q2 (fun r => rfl) f8 f4 fs
      (fun G8 G4 GS hg => by
        subst hQ'
        unfold Bufs
        have hsc : (gsM.access (Rect.unit (s := S64x40) ![0, 0] S64x40.size inb_S64x40_S64x40_0_0)).read (Elt F) GS = gsM.view.read (Elt F) GS := by
          funext j
          refine congrArg (gsM.view.read (Elt F) GS) (funext fun a => Fin.ext ?_)
          match a with
          | 0 => show 0 + 1 * (j 0).val = (j 0).val; omega
          | 1 => show 0 + 1 * (j 1).val = (j 1).val; omega
        have s4 : (g4M : Memref sig .tc _ _ _).view.set = Finset.univ := View.set_whole _
        have s8 : (g8M : Memref sig .tc _ _ _).view.set = Finset.univ := View.set_whole _
        iintro ⟨⟨H8, H4, Hs⟩, HH, HW⟩
        iapply (wp_load_rect Variants.none (c : Thread nD τ) none Set.univ (m := gsM) (r := Rect.unit (s := S64x40) ![0, 0] S64x40.size inb_S64x40_S64x40_0_0)
          (S := Finset.univ) (f := GS) (q := fullShare) (Finset.subset_univ _)) $$ Hs
        iintro Hs
        rw [hsc]
        iapply (loop2 (F := F) i arg1 harg1 arg2 harg2 arg3 harg3 arg4 harg4 arg5 harg5 w4M harg6 w8M harg7 wsM harg8 arg9 harg9 arg10 harg10 arg11 harg11 g4M harg12 g8M harg13 gsM harg14 cc0_scratch5 cc0_scratch6 arg17 c t _ _ (gsM.view.read (Elt F) GS) G4 G8 (tile i arg1 f1 F8 F4 Fs)
          (fun k r col y h0 h1 => by
            have hk : k.val < 20 := Nat.lt_of_lt_of_le k.isLt k0_t2_abs.2.1
            refine (widen_target (W := fun r => wordAt (c := c) arg1 f1 i t r) (fun r => hB t r) hg _ _ (meta_row i arg1 arg2 hrel t) (meta_shift i arg1 arg2 hrel t) k r col ⟨(y 1).val, (y 1).isLt⟩ h1).trans ?_
            exact (tile_apply i arg1 f1 F8 F4 Fs t r y h0).symm)
          fw hfw (R := iprop((gsM.view.loc (c : Thread nD τ) ↦[Finset.univ]{fullShare} GS) ∗ Hold c arg1 arg2 f1 q1 f2 q2 F8 F4 Fs)) (fun f' hf' => by
            refine BIBase.Entails.trans ?_ (st_pure (c := c) BIBase.Entails.rfl)
            iintro ⟨⟨H4, H8, HW⟩, Hs, HH⟩
            iexists G8; iexists G4; iexists GS; iexists f'
            isplitr
            · ipureintro; exact hf'
            isplitl [H8 H4 Hs]
            · isplitl [H8]; · rw [← s8]; iexact H8
              isplitl [H4]; · rw [← s4]; iexact H4
              iexact Hs
            isplitl [HH]; · iexact HH
            iexact HW))
        isplitl [H4 H8 HW]
        · isplitl [H4]; · rw [s4]; iexact H4
          isplitl [H8]; · rw [s8]; iexact H8
          iexact HW
        isplitl [Hs]; · iexact Hs
        iexact HH)))
  isplitl [HB]; · iexact HB
  isplitl [HH]; · iexact HH
  iexact HW

end Chunks

end Cert.KernelIdeal.Hand

end
-- ==== Proof.KI.Mat.lean ====
/-
  The loop over the output tile's twelve row blocks: the product of a block of codes with the weight tile, scaled and rounded.
-/
module

public import proofs.«01_k».proof.Proof.KI.Chunk

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

variable (i : grid0.Coords)
variable (arg1 : Memref sig .tc .smem S27648 .i32) (harg1 : arg1.IsWhole)
variable (arg2 : Memref sig .tc .vmem S216x128 .i32) (harg2 : arg2.IsWhole)
variable (arg3 : Memref sig .tc .vmem S216x128 .f32) (harg3 : arg3.IsWhole)
variable (arg4 : Memref sig .tc .vmem S3072x128 .f32) (harg4 : arg4.IsWhole)
variable (arg5 : Memref sig .tc .hbm S3072x5120 .bf16) (harg5 : arg5.IsWhole)
variable (arg6 : Memref sig .tc .hbm S5536x2560 .i32) (harg6 : arg6.IsWhole)
variable (arg7 : Memref sig .tc .hbm S1376x5120 .i32) (harg7 : arg7.IsWhole)
variable (arg8 : Memref sig .tc .hbm S11072x40 .i32) (harg8 : arg8.IsWhole)
variable (arg9 : Memref sig .tc .vmem S3072x512 .bf16) (harg9 : arg9.IsWhole)
variable (arg10 : Memref sig .tc .vmem S3072x5120 .bf16) (harg10 : arg10.IsWhole)
variable (arg11 : Memref sig .tc .vmem S512x5120 .bf16) (harg11 : arg11.IsWhole)
variable (arg12 : Memref sig .tc .vmem S64x2560 .i32) (harg12 : arg12.IsWhole)
variable (arg13 : Memref sig .tc .vmem S64x5120 .i32) (harg13 : arg13.IsWhole)
variable (arg14 : Memref sig .tc .vmem S64x40 .i32) (harg14 : arg14.IsWhole)
variable (arg15 arg16 arg17 : DmaSems sig S_)

theorem off262_eq (t : Fin k0_t3_loop.trips) : k0_off262 t = ![256 * t.val, 0] := by revert t; decide +kernel
theorem off263_eq (t : Fin k0_t3_loop.trips) : k0_off263 t = ![256 * t.val, 0] := by revert t; decide +kernel
theorem off265_eq (t : Fin k0_t3_loop.trips) : k0_off265 t = ![256 * t.val, 0] := by revert t; decide +kernel
theorem off266_eq (t : Fin k0_t3_loop.trips) : k0_off266 t = ![256 * t.val, 128] := by revert t; decide +kernel
theorem off267_eq (t : Fin k0_t3_loop.trips) : k0_off267 t = ![256 * t.val, 256] := by revert t; decide +kernel
theorem off268_eq (t : Fin k0_t3_loop.trips) : k0_off268 t = ![256 * t.val, 384] := by revert t; decide +kernel
theorem off264_eq (q : Fin 4) : k0_off264 i (BitVec.ofNat 32 q.val) = ![4 * (i 0).val + q.val, 0] := by
  obtain ⟨a, ha⟩ : ∃ a : Fin 54, (i 0).val = a.val := ⟨⟨(i 0).val, (i 0).isLt⟩, rfl⟩
  unfold k0_off264
  simp only [ha]
  clear ha
  revert a q; decide +kernel

/-- One output element from an accumulator's, a row scale and a column scale. -/
def cell (a x v : F .f32) : F .bf16 := FloatOps.truncf .bf16 bitsLt_bf16_f32 (FloatOps.mulf (FloatOps.mulf a x) v)

theorem bcast_at (v : FVec F S1x128 .f32) (r : Fin 256) (l : Fin 128) : broadcastTo S256x128 v broadcasts_S1x128_S256x128 (ix2 r l) = v (ix2 (0 : Fin 1) l) := by
  pointwise []

theorem pay20_at (v10 : Vec F S256x5120 .bf16) (v11 : Vec F S512x5120 .bf16) (v16 : Vec F S256x128 .f32) (v : Vec F S1x128 .f32) (r : Fin 256) (l : Fin 128) (cc : Fin 512) (hc : cc.val = 0 + l.val) :
    k0_pay20 v10 v11 v16 v (ix2 r l) = cell (k0_pay18 v10 v11 (ix2 r cc)) (v16 (ix2 r l)) (v (ix2 (0 : Fin 1) l)) := by
  unfold k0_pay20 k0_pay19
  try dsimp only
  rw [shapeCast_self, shapeCast_self]
  rw [← bcast_at v r l]
  refine congrArg (fun a => cell a (v16 (ix2 r l)) (broadcastTo S256x128 v broadcasts_S1x128_S256x128 (ix2 r l))) (congrArg (k0_pay18 v10 v11) (funext fun b => Fin.ext ?_))
  match b with
  | 0 => show 0 + r.val = r.val; omega
  | 1 => show 0 + l.val = cc.val; omega

theorem pay21_at (v10 : Vec F S256x5120 .bf16) (v11 : Vec F S512x5120 .bf16) (v16 : Vec F S256x128 .f32) (v : Vec F S1x128 .f32) (r : Fin 256) (l : Fin 128) (cc : Fin 512) (hc : cc.val = 128 + l.val) :
    k0_pay21 v10 v11 v16 v (ix2 r l) = cell (k0_pay18 v10 v11 (ix2 r cc)) (v16 (ix2 r l)) (v (ix2 (0 : Fin 1) l)) := by
  unfold k0_pay21 k0_pay19
  try dsimp only
  rw [shapeCast_self, shapeCast_self]
  rw [← bcast_at v r l]
  refine congrArg (fun a => cell a (v16 (ix2 r l)) (broadcastTo S256x128 v broadcasts_S1x128_S256x128 (ix2 r l))) (congrArg (k0_pay18 v10 v11) (funext fun b => Fin.ext ?_))
  match b with
  | 0 => show 0 + r.val = r.val; omega
  | 1 => show 128 + l.val = cc.val; omega

theorem pay4_at (v12 : FVec F S256x512 .f32) (v17 : FVec F S256x128 .f32) (v : Vec F S1x128 .f32) (r : Fin 256) (l : Fin 128) (cc : Fin 512) (hc : cc.val = 256 + l.val) :
    k0_pay4 v12 v17 v (ix2 r l) = cell (v12 (ix2 r cc)) (v17 (ix2 r l)) (v (ix2 (0 : Fin 1) l)) := by
  unfold k0_pay4
  try dsimp only
  rw [shapeCast_self]
  rw [← bcast_at v r l]
  refine congrArg (fun a => cell a (v17 (ix2 r l)) (broadcastTo S256x128 v broadcasts_S1x128_S256x128 (ix2 r l))) (congrArg (v12) (funext fun b => Fin.ext ?_))
  match b with
  | 0 => show 0 + r.val = r.val; omega
  | 1 => show 256 + l.val = cc.val; omega

theorem pay5_at (v12 : FVec F S256x512 .f32) (v17 : FVec F S256x128 .f32) (v : Vec F S1x128 .f32) (r : Fin 256) (l : Fin 128) (cc : Fin 512) (hc : cc.val = 384 + l.val) :
    k0_pay5 v12 v17 v (ix2 r l) = cell (v12 (ix2 r cc)) (v17 (ix2 r l)) (v (ix2 (0 : Fin 1) l)) := by
  unfold k0_pay5
  try dsimp only
  rw [shapeCast_self]
  rw [← bcast_at v r l]
  refine congrArg (fun a => cell a (v17 (ix2 r l)) (broadcastTo S256x128 v broadcasts_S1x128_S256x128 (ix2 r l))) (congrArg (v12) (funext fun b => Fin.ext ?_))
  match b with
  | 0 => show 0 + r.val = r.val; omega
  | 1 => show 384 + l.val = cc.val; omega

/-- A block of 256 rows. -/
def xblk (X : S3072x5120.Idx → F .bf16) (t : ℕ) : Vec F S256x5120 .bf16 := fun z => X (ix2 (⟨(256 * t + (z 0).val) % 3072, by omega⟩ : Fin 3072) (⟨(z 1).val, (z 1).isLt⟩ : Fin 5120))

/-- The output tile of a grid point, element by element. -/
def out (X : S3072x5120.Idx → F .bf16) (T : S512x5120.Idx → F .bf16) (Xs : S3072x128.Idx → F .f32) (Sv : S216x128.Idx → F .f32) : S3072x512.Idx → F .bf16 := fun y =>
  cell (k0_pay18 (xblk X ((y 0).val / 256)) T (ix2 (⟨(y 0).val % 256, by omega⟩ : Fin 256) (⟨(y 1).val, (y 1).isLt⟩ : Fin 512)))
    (Xs (ix2 (⟨(y 0).val, (y 0).isLt⟩ : Fin 3072) (⟨(y 1).val % 128, by omega⟩ : Fin 128)))
    (Sv (ix2 (⟨(4 * (i 0).val + (y 1).val / 128) % 216, by omega⟩ : Fin 216) (⟨(y 1).val % 128, by omega⟩ : Fin 128)))

variable (c : Dev nD) (X : BufTy.Contents (Elt F) arg10.view.ty) (T : BufTy.Contents (Elt F) arg11.view.ty)
  (Xs : BufTy.Contents (Elt F) arg4.view.ty) (q4 : PosShare TreeShare) (Sv : BufTy.Contents (Elt F) arg3.view.ty) (q3 : PosShare TreeShare)

/-- The blocks a trip loads. -/
def ldx (t : Fin k0_t3_loop.trips) : Vec F S256x5120 .bf16 := (arg10.access (Rect.unit (s := S3072x5120) (k0_off262 t) S256x5120.size (k0_off262_inb t))).read (Elt F) X
def ldw : Vec F S512x5120 .bf16 := (arg11.access (Rect.unit (s := S512x5120) ![0, 0] S512x5120.size inb_S512x5120_S512x5120_0_0)).read (Elt F) T
def lds (t : Fin k0_t3_loop.trips) : Vec F S256x128 .f32 := (arg4.access (Rect.unit (s := S3072x128) (k0_off263 t) S256x128.size (k0_off263_inb t))).read (Elt F) Xs
def ldv (q : Fin 4) : Vec F S1x128 .f32 := (arg3.access (Rect.unit (s := S216x128) (k0_off264 i (BitVec.ofNat 32 q.val)) S1x128.size (k0_off264_inb i q))).read (Elt F) Sv

/-- The four stores of a trip, last first. -/
def pieces3 (t : Fin k0_t3_loop.trips) : List (View.Piece (Elt F) S3072x512 .bf16) :=
  [⟨Rect.unit (s := S3072x512) (k0_off268 t) S256x128.size (k0_off268_inb t), k0_pay5 (k0_pay18 (ldx arg10 X t) (ldw arg11 T)) (k0_pay19 (lds arg4 Xs t)) (ldv i arg3 Sv 3)⟩,
   ⟨Rect.unit (s := S3072x512) (k0_off267 t) S256x128.size (k0_off267_inb t), k0_pay4 (k0_pay18 (ldx arg10 X t) (ldw arg11 T)) (k0_pay19 (lds arg4 Xs t)) (ldv i arg3 Sv 2)⟩,
   ⟨Rect.unit (s := S3072x512) (k0_off266 t) S256x128.size (k0_off266_inb t), k0_pay21 (ldx arg10 X t) (ldw arg11 T) (lds arg4 Xs t) (ldv i arg3 Sv 1)⟩,
   ⟨Rect.unit (s := S3072x512) (k0_off265 t) S256x128.size (k0_off265_inb t), k0_pay20 (ldx arg10 X t) (ldw arg11 T) (lds arg4 Xs t) (ldv i arg3 Sv 0)⟩]

abbrev Trip3 (f : BufTy.Contents (Elt F) arg9.view.ty) : sProp 𝕄 :=
  iprop((arg10.view.loc (c : Thread nD τ) ↦[arg10.view.set]{fullShare} X) ∗ (arg11.view.loc (c : Thread nD τ) ↦[arg11.view.set]{fullShare} T)
    ∗ (arg4.view.loc (c : Thread nD τ) ↦[arg4.view.set]{q4} Xs) ∗ (arg3.view.loc (c : Thread nD τ) ↦[arg3.view.set]{q3} Sv)
    ∗ (arg9.view.loc (c : Thread nD τ) ↦[arg9.view.set]{fullShare} f))

theorem trip3 (k : Fin k0_t3_loop.trips) (f : BufTy.Contents (Elt F) arg9.view.ty) :
    Trip3 (F := F) arg3 arg4 arg9 arg10 arg11 c X T Xs q4 Sv q3 f ⊢ wpc c (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 arg16 arg17 (BitVec.ofNat 32 (i 0).val) k ())
      (fun _ => Trip3 (F := F) arg3 arg4 arg9 arg10 arg11 c X T Xs q4 Sv q3 (arg9.view.writes (Elt F) f (pieces3 i arg3 arg4 arg10 arg11 X T Xs Sv k))) := by
  have hk : k.val < 12 := Nat.lt_of_lt_of_le k.isLt k0_t3_abs.2.1
  unfold k0_t3_body wpc
  iintro ⟨H10, H11, H4, H3, H9⟩
  sl_exec
  sl_step
  isplitl [H10]; · iexact H10
  isplitl [H11]; · iexact H11
  isplitl [H4]; · iexact H4
  isplitl [H3]; · iexact H3
  iexact H9

theorem ldx_eq (t : Fin k0_t3_loop.trips) : ldx arg10 X t = xblk (arg10.view.read (Elt F) X) t.val := by
  have hk : t.val < 12 := Nat.lt_of_lt_of_le t.isLt k0_t3_abs.2.1
  funext z
  have h0 : (z 0).val < 256 := (z 0).isLt
  refine congrArg (arg10.view.read (Elt F) X) (funext fun a => Fin.ext ?_)
  match a with
  | 0 => show k0_off262 t 0 + 1 * (z 0).val = (256 * t.val + (z 0).val) % 3072; rw [off262_eq]; show 256 * t.val + 1 * (z 0).val = _; omega
  | 1 => show k0_off262 t 1 + 1 * (z 1).val = (z 1).val; rw [off262_eq]; show 0 + 1 * (z 1).val = _; omega
theorem ldw_eq : ldw arg11 T = arg11.view.read (Elt F) T := by
  funext z
  refine congrArg (arg11.view.read (Elt F) T) (funext fun a => Fin.ext ?_)
  match a with
  | 0 => show 0 + 1 * (z 0).val = (z 0).val; omega
  | 1 => show 0 + 1 * (z 1).val = (z 1).val; omega
theorem lds_at (t : Fin k0_t3_loop.trips) (r : Fin 256) (l : Fin 128) (rr : Fin 3072) (h : rr.val = 256 * t.val + r.val) : lds arg4 Xs t (ix2 r l) = arg4.view.read (Elt F) Xs (ix2 rr l) := by
  refine congrArg (arg4.view.read (Elt F) Xs) (funext fun a => Fin.ext ?_)
  match a with
  | 0 => show k0_off263 t 0 + 1 * r.val = rr.val; rw [off263_eq]; show 256 * t.val + 1 * r.val = _; omega
  | 1 => show k0_off263 t 1 + 1 * l.val = l.val; rw [off263_eq]; show 0 + 1 * l.val = _; omega
theorem ldv_at (q : Fin 4) (l : Fin 128) (rr : Fin 216) (h : rr.val = 4 * (i 0).val + q.val) : ldv i arg3 Sv q (ix2 (0 : Fin 1) l) = arg3.view.read (Elt F) Sv (ix2 rr l) := by
  refine congrArg (arg3.view.read (Elt F) Sv) (funext fun a => Fin.ext ?_)
  match a with
  | 0 => show k0_off264 i (BitVec.ofNat 32 q.val) 0 + 1 * 0 = rr.val; rw [off264_eq]; show 4 * (i 0).val + q.val + 1 * 0 = _; omega
  | 1 => show k0_off264 i (BitVec.ofNat 32 q.val) 1 + 1 * l.val = l.val; rw [off264_eq]; show 0 + 1 * l.val = _; omega

/-- The element a trip leaves at column block `q`. -/
theorem out_at (t : Fin k0_t3_loop.trips) (q : Fin 4) (y : S3072x512.Idx) (r : Fin 256) (l : Fin 128) (h0 : (y 0).val = 256 * t.val + r.val) (h1 : (y 1).val = 128 * q.val + l.val)
    (cc : Fin 512) (hc : cc.val = 128 * q.val + l.val) :
    cell (k0_pay18 (ldx arg10 X t) (ldw arg11 T) (ix2 r cc)) (lds arg4 Xs t (ix2 r l)) (ldv i arg3 Sv q (ix2 (0 : Fin 1) l))
      = out i (arg10.view.read (Elt F) X) (arg11.view.read (Elt F) T) (arg4.view.read (Elt F) Xs) (arg3.view.read (Elt F) Sv) y := by
  have hk : t.val < 12 := Nat.lt_of_lt_of_le t.isLt k0_t3_abs.2.1
  have r_i0 : (i 0).val < 54 := (i 0).isLt
  rw [ldx_eq, ldw_eq, lds_at arg4 Xs t r l ⟨256 * t.val + r.val, by omega⟩ rfl, ldv_at i arg3 Sv q l ⟨4 * (i 0).val + q.val, by omega⟩ rfl]
  unfold out
  refine congr (congr (congrArg cell ?_) ?_) ?_
  · have e : (y 0).val / 256 = t.val := by omega
    rw [e]
    refine congrArg (k0_pay18 _ _) ?_
    refine congr (congrArg ix2 (Fin.ext ?_)) (Fin.ext ?_)
    · show r.val = (y 0).val % 256; omega
    · show cc.val = (y 1).val; omega
  · refine congrArg _ (congr (congrArg ix2 (Fin.ext ?_)) (Fin.ext ?_))
    · show 256 * t.val + r.val = (y 0).val; omega
    · show l.val = (y 1).val % 128; omega
  · refine congrArg _ (congr (congrArg ix2 (Fin.ext ?_)) (Fin.ext ?_))
    · show 4 * (i 0).val + q.val = (4 * (i 0).val + (y 1).val / 128) % 216; omega
    · show l.val = (y 1).val % 128; omega

/-- The tile's first `256 t` rows hold `G`. -/
def OutDone (G : S3072x512.Idx → F .bf16) (t : ℕ) (f : BufTy.Contents (Elt F) arg9.view.ty) : Prop :=
  ∀ y : S3072x512.Idx, (y 0).val < 256 * t → arg9.view.read (Elt F) f y = G y

theorem out_step (k : Fin k0_t3_loop.trips) (f : BufTy.Contents (Elt F) arg9.view.ty)
    (h : OutDone arg9 (out i (arg10.view.read (Elt F) X) (arg11.view.read (Elt F) T) (arg4.view.read (Elt F) Xs) (arg3.view.read (Elt F) Sv)) k.val f) :
    OutDone arg9 (out i (arg10.view.read (Elt F) X) (arg11.view.read (Elt F) T) (arg4.view.read (Elt F) Xs) (arg3.view.read (Elt F) Sv)) (k.val + 1)
      (arg9.view.writes (Elt F) f (pieces3 i arg3 arg4 arg10 arg11 X T Xs Sv k)) := by
  have hk : k.val < 12 := Nat.lt_of_lt_of_le k.isLt k0_t3_abs.2.1
  intro y hy
  have b1 : (y 1).val < 512 := (y 1).isLt
  unfold pieces3
  by_cases h0 : 256 * k.val ≤ (y 0).val
  · have hr : (y 0).val - 256 * k.val < 256 := by omega
    have hl : (y 1).val % 128 < 128 := by omega
    by_cases c3 : 384 ≤ (y 1).val
    · refine (View.read_writes_cons_unit_of_mem arg9.view f (k0_off268_inb k) _ _ y
        (ix2 (⟨(y 0).val - 256 * k.val, hr⟩ : Fin 256) (⟨(y 1).val % 128, hl⟩ : Fin 128)) (off268_eq k) ?_).trans ?_
      · refine Fin.forall_fin_two.mpr ⟨?_, ?_⟩
        · show (y 0).val = 256 * k.val + ((y 0).val - 256 * k.val); omega
        · show (y 1).val = 384 + (y 1).val % 128; omega
      · refine (pay5_at (k0_pay18 (ldx arg10 X k) (ldw arg11 T)) (k0_pay19 (lds arg4 Xs k)) (ldv i arg3 Sv 3) _ _ ⟨(y 1).val, b1⟩ (by show (y 1).val = 384 + (y 1).val % 128; omega)).trans ?_
        unfold k0_pay19; rw [shapeCast_self]
        exact out_at i arg3 arg4 arg10 arg11 X T Xs Sv k 3 y _ _ (by show (y 0).val = 256 * k.val + ((y 0).val - 256 * k.val); omega) (by show (y 1).val = 128 * 3 + (y 1).val % 128; omega) _ (by show (y 1).val = 128 * 3 + (y 1).val % 128; omega)
    refine (View.read_writes_cons_unit_of_not_mem arg9.view f (k0_off268_inb k) _ _ y (off268_eq k) 1 (.inl (by show (y 1).val < 384; omega))).trans ?_
    by_cases c2 : 256 ≤ (y 1).val
    · refine (View.read_writes_cons_unit_of_mem arg9.view f (k0_off267_inb k) _ _ y
        (ix2 (⟨(y 0).val - 256 * k.val, hr⟩ : Fin 256) (⟨(y 1).val % 128, hl⟩ : Fin 128)) (off267_eq k) ?_).trans ?_
      · refine Fin.forall_fin_two.mpr ⟨?_, ?_⟩
        · show (y 0).val = 256 * k.val + ((y 0).val - 256 * k.val); omega
        · show (y 1).val = 256 + (y 1).val % 128; omega
      · refine (pay4_at (k0_pay18 (ldx arg10 X k) (ldw arg11 T)) (k0_pay19 (lds arg4 Xs k)) (ldv i arg3 Sv 2) _ _ ⟨(y 1).val, b1⟩ (by show (y 1).val = 256 + (y 1).val % 128; omega)).trans ?_
        unfold k0_pay19; rw [shapeCast_self]
        exact out_at i arg3 arg4 arg10 arg11 X T Xs Sv k 2 y _ _ (by show (y 0).val = 256 * k.val + ((y 0).val - 256 * k.val); omega) (by show (y 1).val = 128 * 2 + (y 1).val % 128; omega) _ (by show (y 1).val = 128 * 2 + (y 1).val % 128; omega)
    refine (View.read_writes_cons_unit_of_not_mem arg9.view f (k0_off267_inb k) _ _ y (off267_eq k) 1 (.inl (by show (y 1).val < 256; omega))).trans ?_
    by_cases c1 : 128 ≤ (y 1).val
    · refine (View.read_writes_cons_unit_of_mem arg9.view f (k0_off266_inb k) _ _ y
        (ix2 (⟨(y 0).val - 256 * k.val, hr⟩ : Fin 256) (⟨(y 1).val % 128, hl⟩ : Fin 128)) (off266_eq k) ?_).trans ?_
      · refine Fin.forall_fin_two.mpr ⟨?_, ?_⟩
        · show (y 0).val = 256 * k.val + ((y 0).val - 256 * k.val); omega
        · show (y 1).val = 128 + (y 1).val % 128; omega
      · refine (pay21_at (ldx arg10 X k) (ldw arg11 T) (lds arg4 Xs k) (ldv i arg3 Sv 1) _ _ ⟨(y 1).val, b1⟩ (by show (y 1).val = 128 + (y 1).val % 128; omega)).trans ?_
        skip
        exact out_at i arg3 arg4 arg10 arg11 X T Xs Sv k 1 y _ _ (by show (y 0).val = 256 * k.val + ((y 0).val - 256 * k.val); omega) (by show (y 1).val = 128 * 1 + (y 1).val % 128; omega) _ (by show (y 1).val = 128 * 1 + (y 1).val % 128; omega)
    refine (View.read_writes_cons_unit_of_not_mem arg9.view f (k0_off266_inb k) _ _ y (off266_eq k) 1 (.inl (by show (y 1).val < 128; omega))).trans ?_
    by_cases c0 : 0 ≤ (y 1).val
    · refine (View.read_writes_cons_unit_of_mem arg9.view f (k0_off265_inb k) _ _ y
        (ix2 (⟨(y 0).val - 256 * k.val, hr⟩ : Fin 256) (⟨(y 1).val % 128, hl⟩ : Fin 128)) (off265_eq k) ?_).trans ?_
      · refine Fin.forall_fin_two.mpr ⟨?_, ?_⟩
        · show (y 0).val = 256 * k.val + ((y 0).val - 256 * k.val); omega
        · show (y 1).val = 0 + (y 1).val % 128; omega
      · refine (pay20_at (ldx arg10 X k) (ldw arg11 T) (lds arg4 Xs k) (ldv i arg3 Sv 0) _ _ ⟨(y 1).val, b1⟩ (by show (y 1).val = 0 + (y 1).val % 128; omega)).trans ?_
        skip
        exact out_at i arg3 arg4 arg10 arg11 X T Xs Sv k 0 y _ _ (by show (y 0).val = 256 * k.val + ((y 0).val - 256 * k.val); omega) (by show (y 1).val = 128 * 0 + (y 1).val % 128; omega) _ (by show (y 1).val = 128 * 0 + (y 1).val % 128; omega)
    exact absurd (Nat.zero_le _) c0
  · refine Eq.trans ?_ (h y (by omega))
    refine (View.read_writes_cons_unit_of_not_mem arg9.view f (k0_off268_inb k) _ _ y (off268_eq k) 0 (.inl (by show (y 0).val < 256 * k.val; omega))).trans ?_
    refine (View.read_writes_cons_unit_of_not_mem arg9.view f (k0_off267_inb k) _ _ y (off267_eq k) 0 (.inl (by show (y 0).val < 256 * k.val; omega))).trans ?_
    refine (View.read_writes_cons_unit_of_not_mem arg9.view f (k0_off266_inb k) _ _ y (off266_eq k) 0 (.inl (by show (y 0).val < 256 * k.val; omega))).trans ?_
    refine (View.read_writes_cons_unit_of_not_mem arg9.view f (k0_off265_inb k) _ _ y (off265_eq k) 0 (.inl (by show (y 0).val < 256 * k.val; omega))).trans ?_
    rfl

/-- What the loop over the row blocks holds. -/
def Inv3 (n : ℕ) (_ : Unit) : sProp 𝕄 :=
  iprop(∃ f, ⌜OutDone arg9 (out i (arg10.view.read (Elt F) X) (arg11.view.read (Elt F) T) (arg4.view.read (Elt F) Xs) (arg3.view.read (Elt F) Sv)) n f⌝
    ∗ Trip3 (F := F) arg3 arg4 arg9 arg10 arg11 c X T Xs q4 Sv q3 f)

theorem loop3 (f : BufTy.Contents (Elt F) arg9.view.ty) {R : sProp 𝕄} {β : Type} {kk : Unit → Prog (TpuEff nD τ sig (Elt F) Λ₀ .tc) β} {Q : β → sProp 𝕄}
    (hk : ∀ f', arg9.view.read (Elt F) f' = out i (arg10.view.read (Elt F) X) (arg11.view.read (Elt F) T) (arg4.view.read (Elt F) Xs) (arg3.view.read (Elt F) Sv) →
      iprop(Trip3 (F := F) arg3 arg4 arg9 arg10 arg11 c X T Xs q4 Sv q3 f' ∗ R) ⊢ wpc c (kk ()) Q) :
    iprop(Trip3 (F := F) arg3 arg4 arg9 arg10 arg11 c X T Xs q4 Sv q3 f ∗ R) ⊢ wpc c (Scf.Loop.for k0_t3_loop k0_t3_ok () (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 arg16 arg17 (BitVec.ofNat 32 (i 0).val)) >>= kk) Q := by
  iintro ⟨HT, HR⟩
  have htr : k0_t3_loop.trips = 12 := by decide +kernel
  iapply (Scf.wp_for_bind Idealize.ShloMosaic.frame (wpE (defs₀ (F := F)) Variants.none (c : Thread nD τ) none) Set.univ k0_t3_loop.lb k0_t3_loop.ub k0_t3_loop.st k0_t3_ok () _
    (Inv3 i arg3 arg4 arg9 arg10 arg11 c X T Xs q4 Sv q3) (fun k acc => by
      unfold Inv3
      iintro ⟨%f', %hf, HT⟩
      iapply (wp_wand_r Idealize.ShloMosaic.frame (wpE (defs₀ (F := F)) Variants.none (c : Thread nD τ) none) Set.univ)
      isplitl [HT]
      · iapply (trip3 (F := F) i arg1 harg1 arg2 harg2 arg3 harg3 arg4 harg4 arg5 harg5 arg6 harg6 arg7 harg7 arg8 harg8 arg9 harg9 arg10 harg10 arg11 harg11 arg12 harg12 arg13 harg13 arg14 harg14 arg15 arg16 arg17 c X T Xs q4 Sv q3 k f') $$ HT
      · iintro %_ HT
        iexists _
        isplitr
        · ipureintro
          exact out_step i arg3 arg4 arg9 arg10 arg11 X T Xs Sv k f' hf
        · iexact HT)) $$ [HT]
  · unfold Inv3
    iexists f
    isplitr
    · ipureintro
      exact fun y hy => absurd hy (by omega)
    · iexact HT
  · unfold Inv3
    iintro %acc ⟨%f', %hf, HT⟩
    iapply (hk f' (funext fun y => hf y (by
      have h1 : (y 0).val < 3072 := (y 0).isLt
      have : Scf.trips k0_t3_loop.lb k0_t3_loop.ub k0_t3_loop.st = 12 := htr
      rw [this]; omega)))
    isplitl [HT]; · iexact HT
    iexact HR

end Cert.KernelIdeal.Hand

end
-- ==== Proof.KI.Body.lean ====
/-
  The body at a grid point: the codes' one transfer at the first point, the chunk loop, the loop over the row blocks.
-/
module

public import proofs.«01_k».proof.Proof.KI.Mat

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

section Loops
variable (i : grid0.Coords)
variable (arg1 : Memref sig .tc .smem S27648 .i32) (harg1 : arg1.IsWhole)
variable (arg2 : Memref sig .tc .vmem S216x128 .i32) (harg2 : arg2.IsWhole)
variable (arg3 : Memref sig .tc .vmem S216x128 .f32) (harg3 : arg3.IsWhole)
variable (arg4 : Memref sig .tc .vmem S3072x128 .f32) (harg4 : arg4.IsWhole)
variable (arg5 : Memref sig .tc .hbm S3072x5120 .bf16) (harg5 : arg5.IsWhole)
variable (harg6 : ((w4M : Memref sig .tc .hbm S5536x2560 .i32)).IsWhole)
variable (harg7 : ((w8M : Memref sig .tc .hbm S1376x5120 .i32)).IsWhole)
variable (harg8 : ((wsM : Memref sig .tc .hbm S11072x40 .i32)).IsWhole)
variable (arg9 : Memref sig .tc .vmem S3072x512 .bf16) (harg9 : arg9.IsWhole)
variable (arg10 : Memref sig .tc .vmem S3072x5120 .bf16) (harg10 : arg10.IsWhole)
variable (arg11 : Memref sig .tc .vmem S512x5120 .bf16) (harg11 : arg11.IsWhole)
variable (harg12 : ((g4M : Memref sig .tc .vmem S64x2560 .i32)).IsWhole)
variable (harg13 : ((g8M : Memref sig .tc .vmem S64x5120 .i32)).IsWhole)
variable (harg14 : ((gsM : Memref sig .tc .vmem S64x40 .i32)).IsWhole)
variable (arg17 : DmaSems sig S_)

variable (c : Dev nD) (f1 : Buf (Elt F) (arg1.view.loc (c : Thread nD τ))) (q1 : PosShare TreeShare) (f2 : Buf (Elt F) (arg2.view.loc (c : Thread nD τ))) (q2 : PosShare TreeShare)
  (F8 : Buf (Elt F) (w8M.view.loc (c : Thread nD τ))) (F4 : Buf (Elt F) (w4M.view.loc (c : Thread nD τ))) (Fs : Buf (Elt F) (wsM.view.loc (c : Thread nD τ)))
  (X : BufTy.Contents (Elt F) arg10.view.ty)
  (Xs : BufTy.Contents (Elt F) arg4.view.ty) (q4 : PosShare TreeShare) (Sv : BufTy.Contents (Elt F) arg3.view.ty) (q3 : PosShare TreeShare)

theorem loop1 (hB : ∀ t r, (wordAt (c := c) arg1 f1 i t r).toNat < 27648) (hrel : Rel arg1 arg2 f1 f2)
    {R : sProp 𝕄} {β : Type} {kk : Unit → Prog (TpuEff nD τ sig (Elt F) Λ₀ .tc) β} {Q : β → sProp 𝕄}
    (hk : iprop(Inv1 i arg1 arg2 arg11 f1 q1 f2 q2 F8 F4 Fs 8 ∗ R) ⊢ wpc c (kk ()) Q) :
    iprop(Inv1 i arg1 arg2 arg11 f1 q1 f2 q2 F8 F4 Fs 0 ∗ R) ⊢ wpc c (Scf.Loop.for k0_t1_loop k0_t1_ok () (k0_t1_body (F := F) i arg1 harg1 arg2 harg2 arg3 harg3 arg4 harg4 arg5 harg5 w4M harg6 w8M harg7 wsM harg8 arg9 harg9 arg10 harg10 arg11 harg11 g4M harg12 g8M harg13 gsM harg14 cc0_scratch5 cc0_scratch6 arg17 (BitVec.ofNat 32 (i 0).val)) >>= kk) Q := by
  iintro ⟨HT, HR⟩
  have htr : Scf.trips k0_t1_loop.lb k0_t1_loop.ub k0_t1_loop.st = 8 := by decide +kernel
  iapply (Scf.wp_for_bind Idealize.ShloMosaic.frame (wpE (defs₀ (F := F)) Variants.none (c : Thread nD τ) none) Set.univ k0_t1_loop.lb k0_t1_loop.ub k0_t1_loop.st k0_t1_ok () _
    (fun n _ => Inv1 i arg1 arg2 arg11 f1 q1 f2 q2 F8 F4 Fs n) (fun k acc => trip1 (F := F) i arg1 harg1 arg2 harg2 arg3 harg3 arg4 harg4 arg5 harg5 harg6 harg7 harg8 arg9 harg9 arg10 harg10 arg11 harg11 harg12 harg13 harg14 arg17 f1 q1 f2 q2 F8 F4 Fs hB hrel k)) $$ [HT]
  · iexact HT
  · iintro %acc HT
    rw [htr]
    iapply hk
    isplitl [HT]; · iexact HT
    iexact HR

theorem loops (hB : ∀ t r, (wordAt (c := c) arg1 f1 i t r).toNat < 27648) (hrel : Rel arg1 arg2 f1 f2)
    (fw : BufTy.Contents (Elt F) arg11.view.ty) (f9 : BufTy.Contents (Elt F) arg9.view.ty) {R : sProp 𝕄} {β : Type} {kk : Unit → Prog (TpuEff nD τ sig (Elt F) Λ₀ .tc) β} {Q : β → sProp 𝕄}
    (hk : ∀ fw f9, arg9.view.read (Elt F) f9 = out i (arg10.view.read (Elt F) X) (tile i arg1 f1 F8 F4 Fs) (arg4.view.read (Elt F) Xs) (arg3.view.read (Elt F) Sv) →
      iprop(Trip3 (F := F) arg3 arg4 arg9 arg10 arg11 c X fw Xs q4 Sv q3 f9 ∗ Hold c arg1 arg2 f1 q1 f2 q2 F8 F4 Fs ∗ (∃ f8 f4 fs, Bufs c f8 f4 fs) ∗ R) ⊢ wpc c (kk ()) Q) :
    iprop(Trip3 (F := F) arg3 arg4 arg9 arg10 arg11 c X fw Xs q4 Sv q3 f9 ∗ Hold c arg1 arg2 f1 q1 f2 q2 F8 F4 Fs ∗ (∃ f8 f4 fs, Bufs c f8 f4 fs) ∗ R)
      ⊢ wpc c (Scf.Loop.for k0_t1_loop k0_t1_ok () (k0_t1_body (F := F) i arg1 harg1 arg2 harg2 arg3 harg3 arg4 harg4 arg5 harg5 w4M harg6 w8M harg7 wsM harg8 arg9 harg9 arg10 harg10 arg11 harg11 g4M harg12 g8M harg13 gsM harg14 cc0_scratch5 cc0_scratch6 arg17 (BitVec.ofNat 32 (i 0).val)) >>= fun _ =>
        Scf.Loop.for k0_t3_loop k0_t3_ok () (k0_t3_body (F := F) i arg1 harg1 arg2 harg2 arg3 harg3 arg4 harg4 arg5 harg5 w4M harg6 w8M harg7 wsM harg8 arg9 harg9 arg10 harg10 arg11 harg11 g4M harg12 g8M harg13 gsM harg14 cc0_scratch5 cc0_scratch6 arg17 (BitVec.ofNat 32 (i 0).val)) >>= kk) Q := by
  iintro ⟨⟨H10, H11, H4, H3, H9⟩, HH, ⟨%f8, %f4, %fs, HB⟩, HR⟩
  iapply (loop1 (F := F) i arg1 harg1 arg2 harg2 arg3 harg3 arg4 harg4 arg5 harg5 harg6 harg7 harg8 arg9 harg9 arg10 harg10 arg11 harg11 harg12 harg13 harg14 arg17 c f1 q1 f2 q2 F8 F4 Fs hB hrel (R := iprop((arg10.view.loc (c : Thread nD τ) ↦[arg10.view.set]{fullShare} X)
    ∗ (arg4.view.loc (c : Thread nD τ) ↦[arg4.view.set]{q4} Xs) ∗ (arg3.view.loc (c : Thread nD τ) ↦[arg3.view.set]{q3} Sv)
    ∗ (arg9.view.loc (c : Thread nD τ) ↦[arg9.view.set]{fullShare} f9) ∗ R)) (by
      unfold Inv1
      iintro ⟨⟨%f8, %f4, %fs, %fw, %hfw, HB, HH, H11⟩, H10, H4, H3, H9, HR⟩
      have ht : arg11.view.read (Elt F) fw = tile i arg1 f1 F8 F4 Fs := funext fun y => hfw y (by have h : (y 0).val < 512 := (y 0).isLt; omega)
      iapply (loop3 (F := F) i arg1 harg1 arg2 harg2 arg3 harg3 arg4 harg4 arg5 harg5 w4M harg6 w8M harg7 wsM harg8 arg9 harg9 arg10 harg10 arg11 harg11 g4M harg12 g8M harg13 gsM harg14 cc0_scratch5 cc0_scratch6 arg17 c X fw Xs q4 Sv q3 f9 (R := iprop(Hold c arg1 arg2 f1 q1 f2 q2 F8 F4 Fs ∗ (∃ f8 f4 fs, Bufs c f8 f4 fs) ∗ R)) (fun f' hf' => hk fw f' (by rw [hf', ht])))
      isplitl [H10 H11 H4 H3 H9]
      · isplitl [H10]; · iexact H10
        isplitl [H11]; · iexact H11
        isplitl [H4]; · iexact H4
        isplitl [H3]; · iexact H3
        iexact H9
      isplitl [HH]; · iexact HH
      isplitl [HB]; · iexists f8; iexists f4; iexists fs; iexact HB
      iexact HR))
  isplitl [HB HH H11]
  · unfold Inv1
    iexists f8; iexists f4; iexists fs; iexists fw
    isplitr
    · ipureintro; exact fun y hy => absurd hy (by omega)
    isplitl [HB]; · iexact HB
    isplitl [HH]; · iexact HH
    iexact H11
  isplitl [H10]; · iexact H10
  isplitl [H4]; · iexact H4
  isplitl [H3]; · iexact H3
  isplitl [H9]; · iexact H9
  iexact HR

end Loops

end Cert.KernelIdeal.Hand

end
-- ==== Proof.KI.Whole.lean ====
/-
  The whole body at a grid point.
-/
module

public import proofs.«01_k».proof.Proof.KI.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

/-- The codes in HBM, their buffer, the weight tile's buffer. -/
abbrev xM : Memref sig .tc .hbm S3072x5120 .bf16 := Memref.whole main_v15
abbrev xvM : Memref sig .tc .vmem S3072x5120 .bf16 := Memref.whole cc0_scratch0
abbrev wvM : Memref sig .tc .vmem S512x5120 .bf16 := Memref.whole cc0_scratch1

section Whole
variable (i : grid0.Coords)
variable (arg1 : Memref sig .tc .smem S27648 .i32) (harg1 : arg1.IsWhole)
variable (arg2 : Memref sig .tc .vmem S216x128 .i32) (harg2 : arg2.IsWhole)
variable (arg3 : Memref sig .tc .vmem S216x128 .f32) (harg3 : arg3.IsWhole)
variable (arg4 : Memref sig .tc .vmem S3072x128 .f32) (harg4 : arg4.IsWhole)
variable (arg9 : Memref sig .tc .vmem S3072x512 .bf16) (harg9 : arg9.IsWhole)
variable (harg5 : (xM).IsWhole) (harg6 : (w4M).IsWhole) (harg7 : (w8M).IsWhole) (harg8 : (wsM).IsWhole) (harg10 : (xvM).IsWhole) (harg11 : (wvM).IsWhole)
  (harg12 : (g4M).IsWhole) (harg13 : (g8M).IsWhole) (harg14 : (gsM).IsWhole)
variable (c : Dev nD) (f1 : Buf (Elt F) (arg1.view.loc (c : Thread nD τ))) (q1 : PosShare TreeShare) (f2 : Buf (Elt F) (arg2.view.loc (c : Thread nD τ))) (q2 : PosShare TreeShare)
  (F8 : Buf (Elt F) (w8M.view.loc (c : Thread nD τ))) (F4 : Buf (Elt F) (w4M.view.loc (c : Thread nD τ))) (Fs : Buf (Elt F) (wsM.view.loc (c : Thread nD τ)))
  (FX : Buf (Elt F) (xM.view.loc (c : Thread nD τ)))
  (Xs : BufTy.Contents (Elt F) arg4.view.ty) (q4 : PosShare TreeShare) (Sv : BufTy.Contents (Elt F) arg3.view.ty) (q3 : PosShare TreeShare)

theorem body (hB : ∀ t r, (wordAt (c := c) arg1 f1 i t r).toNat < 27648) (hrel : Rel arg1 arg2 f1 f2) (X : Buf (Elt F) (xvM.view.loc (c : Thread nD τ)))
    (hX : (i 0).val = 0 ∨ xvM.view.read (Elt F) X = xM.view.read (Elt F) FX)
    (fw : BufTy.Contents (Elt F) wvM.view.ty) (f9 : BufTy.Contents (Elt F) arg9.view.ty) (Q : Unit → sProp 𝕄) :
    iprop(Trip3 (F := F) arg3 arg4 arg9 xvM wvM c X fw Xs q4 Sv q3 f9 ∗ Hold c arg1 arg2 f1 q1 f2 q2 F8 F4 Fs ∗ (∃ f8 f4 fs, Bufs c f8 f4 fs)
      ∗ (xM.view.loc (c : Thread nD τ) ↦{fullShare} FX) ∗ semVal ((c : Thread nD τ), .dma cc0_scratch7.sem) 0
      ∗ ((∃ X' fw' f9', ⌜xvM.view.read (Elt F) X' = xM.view.read (Elt F) FX⌝
            ∗ ⌜arg9.view.read (Elt F) f9' = out i (xM.view.read (Elt F) FX) (tile i arg1 f1 F8 F4 Fs) (arg4.view.read (Elt F) Xs) (arg3.view.read (Elt F) Sv)⌝
            ∗ Trip3 (F := F) arg3 arg4 arg9 xvM wvM c X' fw' Xs q4 Sv q3 f9' ∗ Hold c arg1 arg2 f1 q1 f2 q2 F8 F4 Fs ∗ (∃ f8 f4 fs, Bufs c f8 f4 fs)
            ∗ (xM.view.loc (c : Thread nD τ) ↦{fullShare} FX) ∗ semVal ((c : Thread nD τ), .dma cc0_scratch7.sem) 0) -∗ Q ()))
      ⊢ wpc c (cc0_mixed_linear (F := F) i arg1 harg1 arg2 harg2 arg3 harg3 arg4 harg4 xM harg5 w4M harg6 w8M harg7 wsM harg8 arg9 harg9 xvM harg10 wvM harg11 g4M harg12 g8M harg13 gsM harg14 cc0_scratch5 cc0_scratch6 cc0_scratch7) Q := by
  rw [cc0_mixed_linear_eq_skeleton]
  unfold cc0_mixed_linear_skel
  dsimp -proj only
  by_cases h : Scalar.cmpi CmpIPredicate.ne (Scalar.extui (Scalar.cmpi CmpIPredicate.eq (BitVec.ofNat 32 (i 0).val) 0#32) : BitVec 32) 0#32 = 1#1
  · rw [dif_pos h]
    unfold Hold
    iintro ⟨⟨H10, H11, H4, H3, H9⟩, ⟨G1, G2, G8, G4, Gs, S5, S6, ⟨%W, HO⟩⟩, HB, HX, S7, HK⟩
    unfold wpc
    sl_exec
    have hx : xvM.view.read (Elt F) (xvM.view.writes (Elt F) xvM.view.junk [⟨Rect.whole S3072x5120, ReadAs.same.apply (xM.view.read (Elt F) FX)⟩]) = xM.view.read (Elt F) FX := by
      exact View.read_writes_whole _ _ _
    unfold body.sl.dma0
    iapply (loops (F := F) i arg1 harg1 arg2 harg2 arg3 harg3 arg4 harg4 xM harg5 harg6 harg7 harg8 arg9 harg9 xvM harg10 wvM harg11 harg12 harg13 harg14 cc0_scratch7 c f1 q1 f2 q2 F8 F4 Fs
      (xvM.view.writes (Elt F) xvM.view.junk [⟨Rect.whole S3072x5120, ReadAs.same.apply (xM.view.read (Elt F) FX)⟩]) Xs q4 Sv q3 hB hrel fw f9
      (R := iprop((xM.view.loc (c : Thread nD τ) ↦{fullShare} FX) ∗ semVal ((c : Thread nD τ), .dma cc0_scratch7.sem) 0
        ∗ ((∃ X' fw' f9', ⌜xvM.view.read (Elt F) X' = xM.view.read (Elt F) FX⌝
            ∗ ⌜arg9.view.read (Elt F) f9' = out i (xM.view.read (Elt F) FX) (tile i arg1 f1 F8 F4 Fs) (arg4.view.read (Elt F) Xs) (arg3.view.read (Elt F) Sv)⌝
            ∗ Trip3 (F := F) arg3 arg4 arg9 xvM wvM c X' fw' Xs q4 Sv q3 f9' ∗ Hold c arg1 arg2 f1 q1 f2 q2 F8 F4 Fs ∗ (∃ f8 f4 fs, Bufs c f8 f4 fs)
            ∗ (xM.view.loc (c : Thread nD τ) ↦{fullShare} FX) ∗ semVal ((c : Thread nD τ), .dma cc0_scratch7.sem) 0) -∗ Q ())))
      (fun fw' f9' hf => by
        refine BIBase.Entails.trans ?_ (st_pure (c := c) BIBase.Entails.rfl)
        iintro ⟨HT, HH, HB, HX, S7, HK⟩
        iapply HK
        iexists _; iexists fw'; iexists f9'
        isplitr
        swap
        · isplitr
          swap
          · isplitl [HT]; · iexact HT
            isplitl [HH]; · iexact HH
            isplitl [HB]; · iexact HB
            isplitl [HX]; · iexact HX
            iexact S7
          · ipureintro; rw [hx] at hf; exact hf
        · ipureintro; exact hx))
    isplitl [H10 H11 H4 H3 H9]
    · isplitl [H10]; · iexact H10
      isplitl [H11]; · iexact H11
      isplitl [H4]; · iexact H4
      isplitl [H3]; · iexact H3
      iexact H9
    isplitl [G1 G2 G8 G4 Gs S5 S6 HO]
    · unfold Hold
      isplitl [G1]; · iexact G1
      isplitl [G2]; · iexact G2
      isplitl [G8]; · iexact G8
      isplitl [G4]; · iexact G4
      isplitl [Gs]; · iexact Gs
      isplitl [S5]; · iexact S5
      isplitl [S6]; · iexact S6
      iexists _; iexact HO
    isplitl [HB]; · iexact HB
    isplitl [HX]; · iexact HX
    isplitl [S7]; · iexact S7
    iexact HK
  · rw [dif_neg h]
    have hx : xvM.view.read (Elt F) X = xM.view.read (Elt F) FX := hX.resolve_left (fun h0 => h (by rw [h0]; decide))
    iintro ⟨HT, HH, HB, HX, S7, HK⟩
    iapply (loops (F := F) i arg1 harg1 arg2 harg2 arg3 harg3 arg4 harg4 xM harg5 harg6 harg7 harg8 arg9 harg9 xvM harg10 wvM harg11 harg12 harg13 harg14 cc0_scratch7 c f1 q1 f2 q2 F8 F4 Fs X Xs q4 Sv q3 hB hrel fw f9
      (R := iprop((xM.view.loc (c : Thread nD τ) ↦{fullShare} FX) ∗ semVal ((c : Thread nD τ), .dma cc0_scratch7.sem) 0
        ∗ ((∃ X' fw' f9', ⌜xvM.view.read (Elt F) X' = xM.view.read (Elt F) FX⌝
            ∗ ⌜arg9.view.read (Elt F) f9' = out i (xM.view.read (Elt F) FX) (tile i arg1 f1 F8 F4 Fs) (arg4.view.read (Elt F) Xs) (arg3.view.read (Elt F) Sv)⌝
            ∗ Trip3 (F := F) arg3 arg4 arg9 xvM wvM c X' fw' Xs q4 Sv q3 f9' ∗ Hold c arg1 arg2 f1 q1 f2 q2 F8 F4 Fs ∗ (∃ f8 f4 fs, Bufs c f8 f4 fs)
            ∗ (xM.view.loc (c : Thread nD τ) ↦{fullShare} FX) ∗ semVal ((c : Thread nD τ), .dma cc0_scratch7.sem) 0) -∗ Q ())))
      (fun fw' f9' hf => by
        refine BIBase.Entails.trans ?_ (st_pure (c := c) BIBase.Entails.rfl)
        iintro ⟨HT, HH, HB, HX, S7, HK⟩
        iapply HK
        iexists X; iexists fw'; iexists f9'
        isplitr; · ipureintro; exact hx
        isplitr; · ipureintro; rw [← hx]; exact hf
        isplitl [HT]; · iexact HT
        isplitl [HH]; · iexact HH
        isplitl [HB]; · iexact HB
        isplitl [HX]; · iexact HX
        iexact S7))
    isplitl [HT]; · iexact HT
    isplitl [HH]; · iexact HH
    isplitl [HB]; · iexact HB
    isplitl [HX]; · iexact HX
    isplitl [S7]; · iexact S7
    iexact HK

end Whole

end Cert.KernelIdeal.Hand

end
-- ==== Proof.KI.Launch.lean ====
/-
  What the body keeps between grid points, the proof data of the one pipeline, and the words of the row table.
-/
module

public import proofs.«01_k».proof.Proof.KI.Whole
public import Idealize.ShloMosaic.Lib.StableHlo.ReadAt
public import proofs.«01_k».proof.Proof.Gen.KernelIdeal.Points
public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

open Idealize.ShloMosaic.Pipeline (Dat Cfg Window BodyObligation cellOf)

/-! ## The weight tile from the row table as a vector -/

/-- A grid point's weight tile from the row table and the three word arrays. -/
def tileR (i : grid0.Coords) (W : S27648.Idx → BitVec 32) (A8 : S1376x5120.Idx → BitVec 32) (A4 : S5536x2560.Idx → BitVec 32) (As : S11072x40.Idx → BitVec 32) : S512x5120.Idx → F .bf16 := fun y =>
  wElt A8 A4 As (W (ix1 (⟨(512 * (i 0).val + (y 0).val) % 27648, Nat.mod_lt _ (by decide)⟩ : Fin 27648))) (⟨(y 1).val, (y 1).isLt⟩ : Fin 5120)

section Words
variable {c : Dev nD} (i : grid0.Coords) (arg1 : Memref sig .tc .smem S27648 .i32) (f1 : Buf (Elt F) (arg1.view.loc (c : Thread nD τ)))

theorem wordAt_eq (t : Fin k0_t1_loop.trips) (r : Fin 64) (n : Fin 27648) (hn : n.val = 512 * (i 0).val + 64 * t.val + r.val) :
    wordAt (c := c) arg1 f1 i t r = arg1.view.read (Elt F) f1 (ix1 n) := by
  unfold wordAt
  refine congrArg (arg1.view.read (Elt F) f1) (funext fun a => Fin.ext ?_)
  match a with
  | 0 => show offW r.val i t 0 + 1 * 0 = n.val; rw [offW_eq]; omega

theorem tile_eq (F8 : Buf (Elt F) (w8M.view.loc (c : Thread nD τ))) (F4 : Buf (Elt F) (w4M.view.loc (c : Thread nD τ))) (Fs : Buf (Elt F) (wsM.view.loc (c : Thread nD τ))) :
    tile i arg1 f1 F8 F4 Fs = tileR i (arg1.view.read (Elt F) f1) (w8M.view.read (Elt F) F8) (w4M.view.read (Elt F) F4) (wsM.view.read (Elt F) Fs) := by
  funext y
  have r_i0 : (i 0).val < 54 := (i 0).isLt
  have h0 : (y 0).val < 512 := (y 0).isLt
  unfold tile tileR
  rw [wordAt_eq i arg1 f1 _ _ ⟨(512 * (i 0).val + (y 0).val) % 27648, Nat.mod_lt _ (by decide)⟩ (by
    show (512 * (i 0).val + (y 0).val) % 27648 = 512 * (i 0).val + 64 * ((y 0).val / 64 % 8) + (y 0).val % 64
    omega)]
end Words

/-! ## The pipeline's data -/

variable (m : (ℓ : Loc nD τ sig) → Buf (Elt F) ℓ) (ρ : Dev nD → PrngReg)

abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The body's own three semaphores. -/
abbrev osem0 : Fin 3 → SemLoc sig := fun j => (![SemLoc.dma cc0_scratch5.sem, SemLoc.dma cc0_scratch6.sem, SemLoc.dma cc0_scratch7.sem] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma cc0_scratch5.sem) 0 ∗ semVal ((c : Thread nD τ), SemLoc.dma cc0_scratch6.sem) 0
          ∗ semVal ((c : Thread nD τ), SemLoc.dma cc0_scratch7.sem) 0) := by
  rw [Pipeline.ownSems0_eq_of_list c osem0 [0, 1, 2] (by decide) (by decide)]; rfl

/-- The arrays the body copies from itself. -/
def H0 : Finset (Ref sig .tc) := {main_v15, main_v20, main_v23, main_v26}
theorem H0_sub : H0 ⊆ Pipeline.restRefs sig spec0 := by decide
theorem hbmPts0_eq (c : Dev nD) :
    (bigSep H0 (fun b => ((c : Thread nD τ).loc b) ↦{fullShare} V m c b) : sProp 𝕄)
      = iprop(pt c xM (V m c main_v15) ∗ pt c w4M (V m c main_v20) ∗ pt c w8M (V m c main_v23) ∗ pt c wsM (V m c main_v26)) := by
  rw [BI.bigSep_eq_bigSepL_of_eq [main_v15, main_v20, main_v23, main_v26] (by decide) (by decide)]; rfl

theorem PhiD_eq (c : Dev nD) :
    (Pipeline.ΦD osem0 spec0 H0 (V m) c : sProp 𝕄)
      = iprop(iprop((∃ f, pt c xvM f) ∗ (∃ f, pt c wvM f) ∗ (∃ f, pt c g4M f) ∗ (∃ f, pt c g8M f) ∗ (∃ f, pt c gsM f))
          ∗ (∃ r, prngReg c r)
          ∗ iprop(semVal ((c : Thread nD τ), SemLoc.dma cc0_scratch5.sem) 0 ∗ semVal ((c : Thread nD τ), SemLoc.dma cc0_scratch6.sem) 0
              ∗ semVal ((c : Thread nD τ), SemLoc.dma cc0_scratch7.sem) 0)
          ∗ iprop(pt c xM (V m c main_v15) ∗ pt c w4M (V m c main_v20) ∗ pt c w8M (V m c main_v23) ∗ pt c wsM (V m c main_v26))) := by
  rw [Pipeline.ΦD_eq, scopedRest0_eq, ownSems00_eq, hbmPts0_eq]; try rfl

/-- What the body keeps before point `n`: from the second point on, the codes' buffer holds the codes. -/
def Phi (c : Dev nD) (n : ℕ) : sProp 𝕄 :=
  iprop(iprop((∃ f, ⌜n = 0 ∨ xvM.view.read (Elt F) f = xM.view.read (Elt F) (V m c main_v15)⌝ ∗ pt c xvM f) ∗ (∃ f, pt c wvM f) ∗ (∃ f, pt c g4M f) ∗ (∃ f, pt c g8M f) ∗ (∃ f, pt c gsM f))
          ∗ (∃ r, prngReg c r)
          ∗ iprop(semVal ((c : Thread nD τ), SemLoc.dma cc0_scratch5.sem) 0 ∗ semVal ((c : Thread nD τ), SemLoc.dma cc0_scratch6.sem) 0
              ∗ semVal ((c : Thread nD τ), SemLoc.dma cc0_scratch7.sem) 0)
          ∗ iprop(pt c xM (V m c main_v15) ∗ pt c w4M (V m c main_v20) ∗ pt c w8M (V m c main_v23) ∗ pt c wsM (V m c main_v26)))

theorem phi_in (c : Dev nD) : Pipeline.ΦD osem0 spec0 H0 (V m) c ⊢ Phi m c 0 := by
  rw [PhiD_eq]; unfold Phi
  iintro ⟨⟨⟨%f, HX⟩, HR⟩, HS⟩
  isplitl [HX HR]
  · isplitl [HX]
    · iexists f; isplitr; · ipureintro; exact .inl rfl
      iexact HX
    iexact HR
  iexact HS
theorem phi_out (c : Dev nD) (n : ℕ) : Phi m c n ⊢ Pipeline.ΦD osem0 spec0 H0 (V m) c := by
  rw [PhiD_eq]; unfold Phi
  iintro ⟨⟨⟨%f, -, HX⟩, HR⟩, HS⟩
  isplitl [HX HR]
  · isplitl [HX]; · iexists f; iexact HX
    iexact HR
  iexact HS

/-- The window blocks at their literal shapes. -/
abbrev wInv (c : Dev nD) (t : Fin cfg0.N) : S27648.Idx → BitVec 32 := iblk m c 0 t
abbrev wRow (c : Dev nD) (t : Fin cfg0.N) : S216x128.Idx → BitVec 32 := iblk m c 1 t
abbrev wSv (c : Dev nD) (t : Fin cfg0.N) : S216x128.Idx → F .f32 := iblk m c 2 t
abbrev wXs (c : Dev nD) (t : Fin cfg0.N) : S3072x128.Idx → F .f32 := iblk m c 3 t

/-- The output tile of a point from the arrays as the region finds them. -/
def outAt (c : Dev nD) (t : Fin cfg0.N) : S3072x512.Idx → F .bf16 :=
  out (grid0.coords t) (xM.view.read (Elt F) (V m c main_v15))
    (tileR (grid0.coords t) (wInv m c t) (w8M.view.read (Elt F) (V m c main_v23)) (w4M.view.read (Elt F) (V m c main_v20)) (wsM.view.read (Elt F) (V m c main_v26)))
    (wXs m c t) (wSv m c t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ n := Phi m c n.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m 0 c).after 4 t = outAt m c t := by dsimp only [dats]

theorem at_castSucc {α : Type} {N : ℕ} (S : ℕ → α) (t : Fin N) : S t.castSucc.val = S t.val := rfl
theorem at_succ {α : Type} {N : ℕ} (S : ℕ → α) (t : Fin N) : S t.succ.val = S (t.val + 1) := rfl
theorem phi_castSucc (c : Dev nD) (t : Fin cfg0.N) : (dats m 0 c).Φ t.castSucc = Phi m c t.val := by
  dsimp only [dats]; exact at_castSucc (Phi m c) t
theorem phi_succ (c : Dev nD) (t : Fin cfg0.N) : (dats m 0 c).Φ t.succ = Phi m c (t.val + 1) := by
  dsimp only [dats]; exact at_succ (Phi m c) t

theorem coords_val (t : Fin cfg0.N) : (grid0.coords t 0).val = t.val := by
  have h : ∀ t : Fin grid0.N, (grid0.coords t 0).val = t.val := by decide +kernel
  exact h t

/-! ## The windows' blocks are their whole arrays -/

theorem wInv_eq (c : Dev nD) (t : Fin cfg0.N) : wInv m c t = V m c main_arg0 := by
  unfold wInv iblk
  funext y
  rw [View.read_apply, cast_eq]
  refine congrArg (V m c main_arg0) (funext fun a => Fin.ext ?_)
  match a with
  | 0 => show 0 * 27648 + 1 * (y 0).val = (y 0).val; omega

theorem wRow_eq (c : Dev nD) (t : Fin cfg0.N) : wRow m c t = V m c main_v16 := by
  unfold wRow iblk
  funext y
  rw [View.read_apply, cast_eq]
  refine congrArg (V m c main_v16) (funext fun a => Fin.ext ?_)
  match a with
  | 0 => show 0 * 216 + 1 * (y 0).val = (y 0).val; omega
  | 1 => show 0 * 128 + 1 * (y 1).val = (y 1).val; omega

theorem v16_at (c : Dev nD) (a : Fin 216) (b : Fin 128) (n : Fin 27648) (h : n.val = 128 * a.val + b.val) : V m c main_v16 (ix2 a b) = m ((c : Thread nD τ).loc main_arg0) (ix1 n) := by
  unfold V
  after_reads_at
  exact congrArg (m ((c : Thread nD τ).loc main_arg0)) (congrArg ix1 (Fin.ext (by show a.val * 128 + b.val = n.val; omega)))

end Cert.KernelIdeal.Hand

end
-- ==== Proof.KI.Frame.lean ====
/-
  The body obligation at every grid point, the run, and the frame claim.
-/
module

public import proofs.«01_k».proof.Proof.KI.Launch

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-- Every entry of the row table is a row. -/
def InRange : Prop := ∀ (c : Dev nD) (n : Fin 27648), (m ((c : Thread nD τ).loc main_arg0) (ix1 n) : BitVec 32).toNat < 27648

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

section Point
variable {c : Dev nD} (t : Fin cfg0.N)
  (f1 : Buf (Elt F) ((st0_0 t).view.loc (c : Thread nD τ))) (f2 : Buf (Elt F) ((st0_1 t).view.loc (c : Thread nD τ)))

theorem rel_of (h1 : (st0_0 t).view.read (Elt F) f1 = wInv m c t) (h2 : (st0_1 t).view.read (Elt F) f2 = wRow m c t) :
    Rel (c := c) (F := F) (st0_0 t) (st0_1 t) f1 f2 := by
  intro n y hy
  have hyn : y = ix1 n := by
    funext a
    match a with
    | 0 => exact Fin.ext hy
  have e1 : (st0_0 t).view.read (Elt F) f1 y = m ((c : Thread nD τ).loc main_arg0) (ix1 n) := by
    rw [hyn]; exact (congrFun (h1.trans ((wInv_eq m c t).trans (V_main_arg0 m c))) (ix1 n))
  have e2 : (st0_1 t).view.read (Elt F) f2 (ix2 (⟨n.val / 128, by omega⟩ : Fin 216) (⟨n.val % 128, by omega⟩ : Fin 128)) = m ((c : Thread nD τ).loc main_arg0) (ix1 n) :=
    (congrFun (h2.trans (wRow_eq m c t)) _).trans (v16_at m c _ _ n (by show n.val = 128 * (n.val / 128) + n.val % 128; omega))
  exact e2.trans e1.symm

theorem bound_of (hp : InRange m) (h1 : (st0_0 t).view.read (Elt F) f1 = wInv m c t) (t' : Fin k0_t1_loop.trips) (r : Fin 64) :
    (wordAt (c := c) (st0_0 t) f1 (grid0.coords t) t' r).toNat < 27648 := by
  have hk : t'.val < 8 := Nat.lt_of_lt_of_le t'.isLt (by decide)
  have ht : (grid0.coords t 0).val < 54 := (grid0.coords t 0).isLt
  rw [wordAt_eq (F := F) (grid0.coords t) (st0_0 t) f1 t' r ⟨512 * (grid0.coords t 0).val + 64 * t'.val + r.val, by omega⟩ rfl,
    congrFun (h1.trans ((wInv_eq m c t).trans (V_main_arg0 m c))) _]
  exact hp c _
end Point

set_option maxHeartbeats 1000000 in
theorem sound_body (hp : InRange m) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [phi_castSucc, phi_succ, after0_0, after0_1, after0_2, after0_3, after0_4]
  simp only [before0_0, before0_1, before0_2, before0_3]
  unfold Dat.owesAt Pipeline.owesWithin
  rw [show (dats m 0 c).owed t.castSucc = 0 from rfl, show (dats m 0 c).owed t.succ = 0 from rfl]
  unfold Phi owns
  iintro ⟨⟨⟨⟨%X, %hX, HX⟩, ⟨%fw, HW⟩, ⟨%f4, B4⟩, ⟨%f8, B8⟩, ⟨%fs, Bs⟩⟩, Hg, ⟨S5, S6, S7⟩, ⟨GX, G4, G8, Gs⟩⟩, ⟨%W, -, HO⟩,
    ⟨%d0, %f1, %h1, H1⟩, ⟨%d1, %f2, %h2, H2⟩, ⟨%d2, %f3, %h3, H3⟩, ⟨%d3, %fx, %h4, H4⟩, ⟨%d4, %f9, -, H9⟩⟩
  iapply (body (F := F) (grid0.coords t) (st0_0 t) _ (st0_1 t) _ (st0_2 t) _ (st0_3 t) _ (st0_4 t) _ _ _ _ _ _ _ _ _ _ c f1 fullShare f2 fullShare
    (V m c main_v23) (V m c main_v20) (V m c main_v26) (V m c main_v15) fx fullShare f3 fullShare
    (bound_of m t f1 hp h1) (rel_of m t f1 f2 h1 h2) X (hX.imp_left fun h => (coords_val t).trans h) fw f9)
  unfold Trip3 Hold Bufs
  simp only [View.set_whole]
  isplitl [HX HW H4 H3 H9]
  · isplitl [HX]; · iexact HX
    isplitl [HW]; · iexact HW
    isplitl [H4]; · iexact H4
    isplitl [H3]; · iexact H3
    iexact H9
  isplitl [H1 H2 G8 G4 Gs S5 S6 HO]
  · isplitl [H1]; · iexact H1
    isplitl [H2]; · iexact H2
    isplitl [G8]; · iexact G8
    isplitl [G4]; · iexact G4
    isplitl [Gs]; · iexact Gs
    isplitl [S5]; · iexact S5
    isplitl [S6]; · iexact S6
    iexists W; iexact HO
  isplitl [B8 B4 Bs]
  · iexists f8; iexists f4; iexists fs
    isplitl [B8]; · iexact B8
    isplitl [B4]; · iexact B4
    iexact Bs
  isplitl [GX]; · iexact GX
  isplitl [S7]; · iexact S7
  iintro ⟨%X', %fw', %f9', %hX', %h9, ⟨HX, HW, H4, H3, H9⟩, ⟨H1, H2, G8, G4, Gs, S5, S6, ⟨%W', HO⟩⟩, ⟨%f8', %f4', %fs', B8, B4, Bs⟩, GX, S7⟩
  isplitl [HX HW B4 B8 Bs Hg S5 S6 S7 GX G4 G8 Gs]
  · isplitl [HX HW B4 B8 Bs]
    · isplitl [HX]
      · iexists X'; isplitr; · ipureintro; exact .inr hX'
        iexact HX
      isplitl [HW]; · iexists fw'; iexact HW
      isplitl [B4]; · iexists f4'; iexact B4
      isplitl [B8]; · iexists f8'; iexact B8
      iexists fs'; iexact Bs
    isplitl [Hg]; · iexact Hg
    isplitl [S5 S6 S7]
    · isplitl [S5]; · iexact S5
      isplitl [S6]; · iexact S6
      iexact S7
    isplitl [GX]; · iexact GX
    isplitl [G4]; · iexact G4
    isplitl [G8]; · iexact G8
    iexact Gs
  isplitl [HO]
  · iexists W'; isplitr; · ipureintro; exact fun _ _ => Or.inl trivial
    iexact HO
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists fx; isplitr; · ipureintro; exact h4
    iexact H4
  iexists f9'; isplitr
  swap; · iexact H9
  ipureintro
  rw [h9, tile_eq, h1, h3, h4]
  rfl

theorem defs₀_row (t : Fin cfg0.N) : defs₀ (F := F) .tc cfg0.body (cfg0.bodyArgs t (cfg0.slots t)) = bodyAt0 t := by
  unfold defs₀; rw [Defs.onTc_tc]

theorem body_obligation (hp : InRange m) (c : Dev nD) : BodyObligation (dats (F := F) m 0 c) (defs₀ (F := F)) Variants.none () Set.univ := fun t => by
  rw [bigSep_W0, bigSep_W0, defs₀_row]
  exact triple_restated (sound_body m hp c t) rfl .rfl fun _ => .rfl

set_option backward.isDefEq.respectTransparency.types false in
theorem run_main (hp : InRange m) : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hp c).loose) (hshare := fun c => (dats m 0 c).share_full fun _ => rfl)
    (howed := fun _ _ => rfl) (V := V m) (hmain := hmain m Variants.none) (hA := A_eq m)
    (hin := fun c => phi_in m c) (hout := fun c => phi_out m c _)

/-- The frame: the arguments are left as they were and every counter ends at zero. -/
theorem frame (hp : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ ⟨h, hs⟩ => ⟨fun c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩, hs⟩) (run_main m ρ hp)

end Cert.KernelIdeal.Hand

end
-- ==== Proof.KI.Bits.lean ====
/-
  The words: a byte of a word and its halves as signed numbers, and a half word read as a 32-bit float.
-/
module

public import proofs.«01_k».proof.Proof.KI.Target
public import Idealize.ShloMosaic.Lib.BitcastConvert
public import Idealize.ShloMosaic.PureOps.Ideal

@[expose] public section

noncomputable section

namespace Cert.KernelIdeal.Hand

open Cert.KernelIdeal Cert.KernelIdeal.Gen
open Idealize.ShloMosaic Idealize.ShloMosaic.TcCoe Idealize.ShloMosaic.Tactic

/-- A left shift and then a signed right shift take out a field and extend its sign. -/
theorem sar_shl (a : BitVec 32) (n r : ℕ) (hn : n ≤ r) (hr : r < 32) :
    (a <<< n).sshiftRight r = (a.extractLsb' (r - n) (32 - r)).signExtend 32 := by
  apply BitVec.eq_of_getLsbD_eq
  intro i hi
  rw [BitVec.getLsbD_sshiftRight, BitVec.getLsbD_signExtend, BitVec.msb_eq_getLsbD_last, BitVec.msb_eq_getLsbD_last,
    BitVec.getLsbD_extractLsb', BitVec.getLsbD_extractLsb', BitVec.getLsbD_shiftLeft, BitVec.getLsbD_shiftLeft]
  by_cases h : r + i < 32
  · have e : r + i - n = r - n + i := by omega
    have h2 : i < 32 - r := by omega
    have h3 : ¬ r + i < n := by omega
    have h4 : ¬ 32 ≤ i := by omega
    simp [h, h2, e, h3, hi, h4]
  · have e : 31 - n = r - n + (32 - r - 1) := by omega
    have h2 : ¬ i < 32 - r := by omega
    have h3 : ¬ 31 < n := by omega
    have h4 : ¬ 32 ≤ i := by omega
    have h5 : 32 - r - 1 < 32 - r := by omega
    simp [h, h2, e, h3, hi, h4, h5]

theorem ext_ext (a : BitVec 32) (n k : ℕ) (h : k ≤ 4) : (a.extractLsb' n 8).extractLsb' k 4 = a.extractLsb' (n + k) 4 := by
  apply BitVec.eq_of_getLsbD_eq
  intro i hi
  have e : k + i < 8 := by omega
  rw [BitVec.getLsbD_extractLsb', BitVec.getLsbD_extractLsb', BitVec.getLsbD_extractLsb', Nat.add_assoc, decide_eq_true e, Bool.true_and]

theorem andi3 (w : BitVec 32) (b : Fin 4) (h : w.toNat % 4 = b.val) : IntOp.andi w 3#32 = BitVec.ofNat 32 b.val := by
  refine BitVec.eq_of_toNat_eq ?_
  show (w &&& 3#32).toNat = _
  rw [BitVec.toNat_and, BitVec.toNat_ofNat]
  show w.toNat &&& (2 ^ 2 - 1) = _
  rw [Nat.and_two_pow_sub_one_eq_mod, BitVec.toNat_ofNat]
  omega

theorem shw_eq (w : BitVec 32) (b : Fin 4) (h : w.toNat % 4 = b.val) : shw w = BitVec.ofNat 32 (24 - 8 * b.val) := by
  unfold shw; rw [andi3 w b h]; clear h; revert b; decide

/-- The row's byte of a word. -/
theorem byteOf_eq (w a : BitVec 32) (b : Fin 4) (h : w.toNat % 4 = b.val) : byteOf w a = (a.extractLsb' (8 * b.val) 8).signExtend 32 := by
  unfold byteOf; rw [shw_eq w b h]
  match b with
  | 0 => exact sar_shl a 24 24 (by omega) (by omega)
  | 1 => exact sar_shl a 16 24 (by omega) (by omega)
  | 2 => exact sar_shl a 8 24 (by omega) (by omega)
  | 3 => exact sar_shl a 0 24 (by omega) (by omega)

theorem nib0_eq (w a : BitVec 32) (b : Fin 4) (h : w.toNat % 4 = b.val) : nib0 w a = ((a.extractLsb' (8 * b.val) 8).extractLsb' 0 4).signExtend 32 := by
  rw [ext_ext a (8 * b.val) 0 (by omega)]
  unfold nib0 nibS0; rw [shw_eq w b h]
  match b with
  | 0 => exact (congrArg (BitVec.sshiftRight · 28) (BitVec.shiftLeft_add a 24 4).symm).trans (sar_shl a 28 28 (by omega) (by omega))
  | 1 => exact (congrArg (BitVec.sshiftRight · 28) (BitVec.shiftLeft_add a 16 4).symm).trans (sar_shl a 20 28 (by omega) (by omega))
  | 2 => exact (congrArg (BitVec.sshiftRight · 28) (BitVec.shiftLeft_add a 8 4).symm).trans (sar_shl a 12 28 (by omega) (by omega))
  | 3 => exact (congrArg (BitVec.sshiftRight · 28) (BitVec.shiftLeft_add a 0 4).symm).trans (sar_shl a 4 28 (by omega) (by omega))

theorem nib1_eq (w a : BitVec 32) (b : Fin 4) (h : w.toNat % 4 = b.val) : nib1 w a = ((a.extractLsb' (8 * b.val) 8).extractLsb' 4 4).signExtend 32 := by
  rw [ext_ext a (8 * b.val) 4 (by omega)]
  unfold nib1 nibS1; rw [shw_eq w b h]
  match b with
  | 0 => exact sar_shl a 24 28 (by omega) (by omega)
  | 1 => exact sar_shl a 16 28 (by omega) (by omega)
  | 2 => exact sar_shl a 8 28 (by omega) (by omega)
  | 3 => exact sar_shl a 0 28 (by omega) (by omega)

/-- The number of a half byte as the reference forms it. -/
theorem ref_lo : ∀ b : BitVec 8, Scalar.select (IntOp.cmpi .sge (IntOp.andi (b.setWidth 32) 15#32) 8#32)
    (IntOp.subi (IntOp.andi (b.setWidth 32) 15#32) 16#32) (IntOp.andi (b.setWidth 32) 15#32) = (b.extractLsb' 0 4).signExtend 32 := by
  decide +kernel

theorem ref_hi : ∀ b : BitVec 8, Scalar.select (IntOp.cmpi .sge (IntOp.shrsi .vector (b.setWidth 32) 4#32) 8#32)
    (IntOp.subi (IntOp.shrsi .vector (b.setWidth 32) 4#32) 16#32) (IntOp.shrsi .vector (b.setWidth 32) 4#32) = (b.extractLsb' 4 4).signExtend 32 := by
  decide +kernel

/-- Part `k` of a word made of four bytes is byte `k`. -/
theorem part8 (t : Shape) {s : Shape} (x : IVec s 8) (h : t.SplitsWords 32 s 8) (j : t.Idx) (b : Fin 4) (e : b.val < s.size h.axis) :
    (Host.bitcastConvertWiden t 32 x h j).extractLsb' (8 * b.val) 8 = x (h.snoc j ⟨b.val, e⟩) := by
  apply BitVec.eq_of_getLsbD_eq
  intro i hi
  rw [BitVec.getLsbD_extractLsb', Host.bitcastConvertWiden_getLsbD _ _ _ _ _ _ (by omega)]
  have e1 : (8 * b.val + i) / 8 = b.val := by omega
  have e2 : (8 * b.val + i) % 8 = i := by omega
  simp only [e1, e2, hi, decide_true, Bool.true_and]

theorem andi1 (w : BitVec 32) : IntOp.cmpi .ne (IntOp.andi w 1#32) 0#32 = if w.toNat % 2 = 0 then 0#1 else 1#1 := by
  have e : IntOp.andi w 1#32 = BitVec.ofNat 32 (w.toNat % 2) := by
    refine BitVec.eq_of_toNat_eq ?_
    show (w &&& 1#32).toNat = _
    rw [BitVec.toNat_and, BitVec.toNat_ofNat]
    show w.toNat &&& (2 ^ 1 - 1) = _
    rw [Nat.and_two_pow_sub_one_eq_mod, BitVec.toNat_ofNat]
    omega
  rw [e]
  rcases Nat.mod_two_eq_zero_or_one w.toNat with h | h <;> rw [h] <;> decide

theorem sbits_eq (w : BitVec 32) (hi lo : BitVec 16) : sbits w (hi ++ lo) = (if w.toNat % 2 = 0 then lo else hi) ++ 0#16 := by
  unfold sbits
  rw [andi1]
  by_cases h : w.toNat % 2 = 0
  · rw [if_pos h, if_pos h, select_zero]
    show (hi ++ lo) <<< 16 = _
    apply BitVec.eq_of_getLsbD_eq
    intro i hi
    simp only [BitVec.getLsbD_shiftLeft, BitVec.getLsbD_append]
    by_cases h1 : i < 16
    · simp [h1]
    · have h2 : i - 16 < 16 := by omega
      simp [h1, h2, hi]
  · rw [if_neg h, if_neg h, select_one]
    show (hi ++ lo) &&& 4294901760#32 = _
    apply BitVec.eq_of_getLsbD_eq
    intro i hi
    have := mask_bit ⟨i, hi⟩
    simp only at this
    simp only [BitVec.getLsbD_and, BitVec.getLsbD_append, this]
    by_cases h1 : i < 16
    · have h2 : ¬ 16 ≤ i := by omega
      simp [h1, h2]
    · have h2 : 16 ≤ i := by omega
      simp [h1, h2]

/-- A 16-bit pattern with sixteen zero bits appended is the same number at the wider format. -/
theorem ofBits_wide (s : BitVec 16) : Ideal.ofBits .f32 (s ++ 0#16) = Ideal.ofBits .bf16 s := by
  obtain ⟨t, ht⟩ : ∃ t : BitVec 32, t = s ++ 0#16 := ⟨_, rfl⟩
  have hb : ∀ k, t.getLsbD k = (decide (16 ≤ k) && s.getLsbD (k - 16)) := fun k => by
    rw [ht, BitVec.getLsbD_append]
    by_cases h : k < 16
    · rw [if_pos h, decide_eq_false (by omega)]; simp
    · rw [if_neg h, decide_eq_true (by omega)]; simp
  have e1 : t.extractLsb' 31 1 = s.extractLsb' 15 1 := by
    apply BitVec.eq_of_getLsbD_eq; intro i hi
    rw [BitVec.getLsbD_extractLsb', BitVec.getLsbD_extractLsb', hb, decide_eq_true (show 16 ≤ 31 + i by omega), Bool.true_and, show 31 + i - 16 = 15 + i by omega]
  have e2 : t.extractLsb' 23 8 = s.extractLsb' 7 8 := by
    apply BitVec.eq_of_getLsbD_eq; intro i hi
    rw [BitVec.getLsbD_extractLsb', BitVec.getLsbD_extractLsb', hb, decide_eq_true (show 16 ≤ 23 + i by omega), Bool.true_and, show 23 + i - 16 = 7 + i by omega]
  have e3 : (t.extractLsb' 0 23).toNat = (s.extractLsb' 0 7).toNat * 2 ^ 16 := by
    have e : t.extractLsb' 0 23 = s.extractLsb' 0 7 ++ 0#16 := by
      apply BitVec.eq_of_getLsbD_eq; intro i hi
      rw [BitVec.getLsbD_extractLsb', BitVec.getLsbD_append, BitVec.getLsbD_extractLsb', hb, decide_eq_true hi, Bool.true_and, Nat.zero_add]
      by_cases h : i < 16
      · rw [if_pos h, decide_eq_false (by omega)]; simp
      · rw [if_neg h, decide_eq_true (show 16 ≤ i by omega), decide_eq_true (show i - 16 < 7 by omega), Nat.zero_add]
    rw [e, BitVec.toNat_append, Nat.shiftLeft_eq]; simp
  rw [← ht]
  show Ideal.ieee 8 23 t = Ideal.ieee 8 7 s
  unfold Ideal.ieee
  simp only [show 8 + 23 = 31 from rfl, show 8 + 7 = 15 from rfl, e1, e2, e3]
  generalize (s.extractLsb' 0 7).toNat = fr
  generalize (s.extractLsb' 7 8).toNat = ex
  have h0 : fr * 2 ^ 16 = 0 ↔ fr = 0 := by omega
  simp only [h0]
  have p1 : ∀ z : ℤ, (2 : ℝ) ^ (z - 23) = (2 : ℝ) ^ (z - 7) * ((2 : ℝ) ^ (16 : ℕ))⁻¹ := fun z => by
    rw [show z - 23 = z - 7 - (16 : ℕ) by push_cast; ring, zpow_sub₀ (by norm_num : (2 : ℝ) ≠ 0), zpow_natCast, div_eq_mul_inv]
  have p2 : ((2 : ℝ) ^ (16 : ℕ)) * ((2 : ℝ) ^ (16 : ℕ))⁻¹ = 1 := mul_inv_cancel₀ (by positivity)
  split
  · rfl
  · split
    · congr 1
      push_cast
      have p3 : (65536 : ℝ) * 2 ^ (-149 : ℤ) = 2 ^ (-133 : ℤ) := by norm_num
      linear_combination ((if (s.extractLsb' 15 1 == 1#1) = true then (-1 : ℝ) else 1) * fr) * p3
    · congr 1
      push_cast
      rw [p1]
      linear_combination ((if s.extractLsb' 15 1 == 1#1 then (-1 : ℝ) else 1) * (2 ^ 7 + fr) * (2 : ℝ) ^ ((ex : ℤ) - (2 ^ (8 - 1) - 1) - 7 : ℤ)) * p2

end Cert.KernelIdeal.Hand

end
-- ==== Proof.KI.Host.lean ====
/-
  What the host's arrays hold, element by element of the arguments.
-/
module

public import proofs.«01_k».proof.Proof.KI.Launch
public import proofs.«01_k».proof.Proof.KI.Bits
public import Idealize.ShloMosaic.Lib.StableHlo.Predicate

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

variable (m : (ℓ : Loc nD τ sig) → Buf (Elt F) ℓ)

/-- The arguments at their shapes. -/
abbrev a0 (c : Dev nD) : S27648.Idx → BitVec 32 := m ((c : Thread nD τ).loc main_arg0)
abbrev a1 (c : Dev nD) : S3072x5120.Idx → F .bf16 := m ((c : Thread nD τ).loc main_arg1)
abbrev a2 (c : Dev nD) : S3072.Idx → F .f32 := m ((c : Thread nD τ).loc main_arg2)
abbrev a3 (c : Dev nD) : S5504x5120.Idx → BitVec 8 := m ((c : Thread nD τ).loc main_arg3)
abbrev a4 (c : Dev nD) : S5504.Idx → F .f32 := m ((c : Thread nD τ).loc main_arg4)
abbrev a5 (c : Dev nD) : S22144x2560.Idx → BitVec 8 := m ((c : Thread nD τ).loc main_arg5)
abbrev a6 (c : Dev nD) : S22144x40.Idx → BitVec 16 := m ((c : Thread nD τ).loc main_arg6)

/-- The codes with the even and the odd columns of every 256 apart. -/
theorem v15_at (c : Dev nD) (a : Fin 3072) (b b' : Fin 5120) (h : b'.val = 256 * (b.val / 256) + 2 * (b.val % 128) + b.val / 128 % 2) :
    V m c main_v15 (ix2 a b) = a1 m c (ix2 a b') := by
  unfold V
  after_reads_at
  exact congrArg (a1 m c) (congrArg (ix2 a) (Fin.ext (by show b.val / 256 * 256 + b.val % 128 * 2 + b.val / 128 % 2 = b'.val; omega)))

/-- The token scales on every lane. -/
theorem v12_at (c : Dev nD) (a : Fin 3072) (b : Fin 128) : V m c main_v12 (ix2 a b) = a2 m c (ix1 a) := by
  unfold V
  after_reads_at

/-- The words of the 8-bit rows: byte `b` is row `4a + b`. -/
theorem v23_at (c : Dev nD) (a : Fin 1376) (k : Fin 5120) (b : Fin 4) (q : Fin 5504) (h : q.val = 4 * a.val + b.val) :
    ((V m c main_v23 : S1376x5120.Idx → BitVec 32) (ix2 a k)).extractLsb' (8 * b.val) 8 = a3 m c (ix2 q k) := by
  unfold V
  after_reads_at
  refine (part8 _ _ _ _ b (by exact b.isLt)).trans ?_
  exact congrArg (a3 m c) (funext fun z => Fin.ext (by
    match z with
    | 0 => show a.val * 4 + b.val = q.val; omega
    | 1 => show k.val = k.val; rfl))

/-- The words of the 4-bit rows. -/
theorem v20_at (c : Dev nD) (a : Fin 5536) (k : Fin 2560) (b : Fin 4) (q : Fin 22144) (h : q.val = 4 * a.val + b.val) :
    ((V m c main_v20 : S5536x2560.Idx → BitVec 32) (ix2 a k)).extractLsb' (8 * b.val) 8 = a5 m c (ix2 q k) := by
  unfold V
  after_reads_at
  refine (part8 _ _ _ _ b (by exact b.isLt)).trans ?_
  exact congrArg (a5 m c) (funext fun z => Fin.ext (by
    match z with
    | 0 => show a.val * 4 + b.val = q.val; omega
    | 1 => show k.val = k.val; rfl))

/-- The words of the scale rows: the odd row in the high half. -/
theorem v26_at (c : Dev nD) (a : Fin 11072) (k : Fin 40) (q q' : Fin 22144) (h : q.val = 2 * a.val) (h' : q'.val = 2 * a.val + 1) :
    (V m c main_v26 : S11072x40.Idx → BitVec 32) (ix2 a k) = a6 m c (ix2 q' k) ++ a6 m c (ix2 q k) := by
  unfold V
  after_reads_at
  refine congrArg₂ (fun (x y : BitVec 16) => x ++ y) (congrArg (a6 m c) (funext fun z => Fin.ext ?_)) (congrArg (a6 m c) (funext fun z => Fin.ext ?_))
  · match z with
    | 0 => show a.val * 2 + 1 = q'.val; omega
    | 1 => show k.val = k.val; rfl
  · match z with
    | 0 => show a.val * 2 + 0 = q.val; omega
    | 1 => show k.val = k.val; rfl

/-- A take from the table of row scales, its index in range. -/
theorem take8 {α : Type} (x : S5504.Idx → α) (idx : IVec S27648x1 32) (n : Fin 27648) (q : Fin 5504) (h : (idx (ix2 n (0 : Fin 1))).toInt = q.val) :
    Host.gather gather_S5504_S27648x1_S27648_n_0_n_n_0_1_1 x idx (ix1 n) = x (ix1 q) := by
  have e1 : (Shape.Idx.ofFin n : S27648.Idx) = ix1 n := funext fun a => by match a with | 0 => rfl
  have e2 : (StableHlo.Predicate.ixP n : S27648x1.Idx) = ix2 n (0 : Fin 1) := funext fun a => by
    match a with
    | 0 => rfl
    | 1 => rfl
  rw [← e1, StableHlo.Predicate.gather_take gather_S5504_S27648x1_S27648_n_0_n_n_0_1_1 rfl rfl rfl rfl x idx n (by decide)]
  refine congrArg x (funext fun a => Fin.ext ?_)
  match a with
  | 0 =>
    show min (idx (StableHlo.Predicate.ixP n)).toInt.toNat (5504 - 1) = q.val
    rw [e2, h]; have := q.isLt; omega

theorem clip8 (w : BitVec 32) (h : w.toNat < 5504) : IntOp.minsi 5503#32 (IntOp.maxsi 0#32 w) = w := by
  have e : w.toInt = w.toNat := BitVec.toInt_eq_toNat_of_lt (by omega)
  have e0 : (0#32).toInt = 0 := by decide
  have e1 : (5503#32).toInt = 5503 := by decide
  have m1 : IntOp.maxsi 0#32 w = w := by
    unfold IntOp.maxsi; split
    · rename_i g; rw [BitVec.slt, decide_eq_true_eq, e, e0] at g; exfalso; omega
    · rfl
  rw [m1]; unfold IntOp.minsi; split
  · rename_i g; rw [BitVec.slt, decide_eq_true_eq, e, e1] at g; exfalso; omega
  · rfl

theorem neg8 (w : BitVec 32) (h : w.toNat < 2 ^ 31) : IntOp.cmpi .slt w 0#32 = 0#1 := by
  unfold IntOp.cmpi
  rw [BitVec.slt, BitVec.toInt_eq_toNat_of_lt (by omega), decide_eq_false (by rw [show (0#32).toInt = 0 by decide]; omega)]; rfl

/-- The row scale at a place of the table of scales. -/
theorem v17_at (c : Dev nD) (a : Fin 216) (b : Fin 128) (n : Fin 27648) (h : n.val = 128 * a.val + b.val) (hp : (a0 m c (ix1 n)).toNat < 27648) :
    V m c main_v17 (ix2 a b) = if hq : (a0 m c (ix1 n)).toNat < 5504 then a4 m c (ix1 (⟨(a0 m c (ix1 n)).toNat, hq⟩ : Fin 5504)) else FloatOps.ofBits .f32 1065353216#32 := by
  have e : (⟨a.val * 128 + b.val, by omega⟩ : Fin 27648) = n := Fin.ext (by show a.val * 128 + b.val = n.val; omega)
  unfold V
  after_reads_at
  simp only [e]
  by_cases hq : (a0 m c (ix1 n)).toNat < 5504
  · rw [dif_pos hq]
    pointwise
    rw [lt_bit _ hp, if_pos hq, select_one]
    refine take8 _ _ n ⟨_, hq⟩ ?_
    pointwise
    rw [show IntOp.minsi (id (constantI S_ 32 5503#32) ix0) (IntOp.maxsi (id (constantI S_ 32 0#32) ix0) (m (c, Proc.tc.devRef main_arg0) (ix1 n))) = m (c, Proc.tc.devRef main_arg0) (ix1 n) from clip8 _ hq,
      show IntOp.cmpi .slt (m (c, Proc.tc.devRef main_arg0) (ix1 n)) 0#32 = 0#1 from neg8 _ (show (a0 m c (ix1 n)).toNat < 2 ^ 31 by omega), select_zero]
    exact BitVec.toInt_eq_toNat_of_lt (show 2 * (a0 m c (ix1 n)).toNat < 2 ^ 32 by omega)
  · rw [dif_neg hq]
    pointwise
    rw [lt_bit _ hp, if_neg hq, select_zero]

end Cert.KernelIdeal.Hand

end
-- ==== Proof.KI.Output.lean ====
/-
  The output array after the run, element by element.
-/
module

public import proofs.«01_k».proof.Proof.KI.Frame
public import proofs.«01_k».proof.Proof.KI.Host

@[expose] public section

noncomputable section

namespace Cert.KernelIdeal.Hand

open Cert.KernelIdeal Cert.KernelIdeal.Gen
open Idealize.SL Idealize.SL.RA Idealize.SL.Sem
open Idealize.ShloMosaic Idealize.ShloMosaic.TcCoe Idealize.ShloMosaic.Tactic

variable {F : FTy → Type} [FloatOps F]

variable (m : (ℓ : Loc nD τ sig) → Buf (Elt F) ℓ) (ρ : Dev nD → PrngReg)

/-- The scale windows are their whole arrays. -/
theorem wSv_eq (c : Dev nD) (t : Fin cfg0.N) : wSv m c t = V m c main_v17 := by
  unfold wSv iblk
  funext y
  rw [View.read_apply, cast_eq]
  refine congrArg (V m c main_v17) (funext fun a => Fin.ext ?_)
  match a with
  | 0 => show 0 * 216 + 1 * (y 0).val = (y 0).val; omega
  | 1 => show 0 * 128 + 1 * (y 1).val = (y 1).val; omega

theorem wXs_eq (c : Dev nD) (t : Fin cfg0.N) : wXs m c t = V m c main_v12 := by
  unfold wXs iblk
  funext y
  rw [View.read_apply, cast_eq]
  refine congrArg (V m c main_v12) (funext fun a => Fin.ext ?_)
  match a with
  | 0 => show 0 * 3072 + 1 * (y 0).val = (y 0).val; omega
  | 1 => show 0 * 128 + 1 * (y 1).val = (y 1).val; omega

theorem N_eq : cfg0.N = 54 := by decide +kernel

/-- The whole result: the tile of the column's point. -/
def G (c : Dev nD) : S3072x27648.Idx → F .bf16 := fun y =>
  outAt m c (⟨(y 1).val / 512, by rw [N_eq]; have : (y 1).val < 27648 := (y 1).isLt; omega⟩ : Fin cfg0.N)
    (ix2 (⟨(y 0).val, (y 0).isLt⟩ : Fin 3072) (⟨(y 1).val % 512, by omega⟩ : Fin 512))

/-- Block `t` of the output is columns `512 t` onwards, every row. -/
theorem idx4 : ∀ t : Fin cfg0.N, win0_4.index t (0 : Fin 2) = 0 ∧ win0_4.index t (1 : Fin 2) = t.val :=
  (by decide +kernel : ∀ t : Fin grid0.N, _)

theorem emb4 (t : Fin cfg0.N) (j : S3072x512.Idx) : ∀ a : Fin 2, ((((cfg0.win 4).blk t).view.emb j : S3072x27648.Idx) a).val = (![(j 0).val, 512 * t.val + (j 1).val] : Fin 2 → ℕ) a := by
  obtain ⟨e0, e1⟩ := idx4 t
  intro a
  match a with
  | ⟨0, _⟩ => show win0_4.index t (0 : Fin 2) * 3072 + 1 * (j 0).val = (j 0).val; omega
  | ⟨1, _⟩ => show win0_4.index t (1 : Fin 2) * 512 + 1 * (j 1).val = 512 * t.val + (j 1).val; omega

theorem flushed_eq (c : Dev nD) (t : Fin cfg0.N) : (dats m 0 c).flushed 4 t = ((cfg0.win 4).blk t).view.read (Elt F) (G m c) := by
  show (cfg0.win 4).cut (grid0.coords t) ((dats m 0 c).after 4 t) = _
  rw [after0_4]
  funext j
  show outAt m c t j = G m c (((cfg0.win 4).blk t).view.emb j)
  have h0 := emb4 t j 0
  have h1 := emb4 t j 1
  have hj : (j 1).val < 512 := (j 1).isLt
  change ((((cfg0.win 4).blk t).view.emb j : S3072x27648.Idx) 0).val = (j 0).val at h0
  change ((((cfg0.win 4).blk t).view.emb j : S3072x27648.Idx) 1).val = 512 * t.val + (j 1).val at h1
  unfold G
  refine congr (congrArg (outAt m c) (Fin.ext ?_)) (funext fun a => Fin.ext ?_)
  · show t.val = _ / 512
    rw [h1]; omega
  · match a with
    | ⟨0, _⟩ => exact h0.symm
    | ⟨1, _⟩ =>
      show (j 1).val = _ % 512
      rw [h1]; omega

theorem covered4 (i : S3072x27648.Idx) : ∃ t : Fin cfg0.N, (cfg0.win 4).flush t = true ∧ i ∈ ((cfg0.win 4).blk t).view.set := by
  have hi : (i 1).val < 27648 := (i 1).isLt
  refine ⟨(⟨(i 1).val / 512, by rw [N_eq]; omega⟩ : Fin cfg0.N), flush0_4 _, ?_⟩
  have h := ((cfg0.win 4).blk (⟨(i 1).val / 512, by rw [N_eq]; omega⟩ : Fin cfg0.N)).view.emb_mem_set
    (ix2 (⟨(i 0).val, (i 0).isLt⟩ : Fin 3072) (⟨(i 1).val % 512, by omega⟩ : Fin 512) : S3072x512.Idx)
  refine cast (congrArg (· ∈ _) (funext fun a => Fin.ext ?_)) h
  rw [emb4]
  match a with
  | ⟨0, _⟩ => rfl
  | ⟨1, _⟩ => show 512 * ((i 1).val / 512) + (i 1).val % 512 = (i 1).val; omega

/-- The run with the result array at its function of the arrays the region finds, the arguments as they were. -/
theorem run_value (hp : InRange m) : θ_run defs (onTc (τ := τ) (main (F := F))) ⟨m, fun _ => 0, ρ⟩ (fun r => ∀ c : Dev nD,
      r.2.mem ((c.tc : Thread nD τ).loc main_v27) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ ⟨h, hs⟩ c => ⟨((h c).1 4).trans ((dats m 0 c).arrAt_eq_of_cover 4 (G m c) (fun t _ => flushed_eq m c t) covered4),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ hp)

end Cert.KernelIdeal.Hand

end
-- ==== Proof.KI.Ref.lean ====
/-
  The reference's result, element by element of its arguments.
-/
module

public import proofs.«01_k».proof.Proof.Gen.ReferenceIdeal.Read
public import proofs.«01_k».proof.Proof.KI.Host

@[expose] public section

noncomputable section

namespace Cert.ReferenceIdeal.Hand

open Cert.ReferenceIdeal Cert.ReferenceIdeal.Gen Cert.ReferenceIdeal.Read
open Idealize.ShloMosaic Idealize.ShloMosaic.TcCoe Idealize.ShloMosaic.Tactic

variable (x0 : S27648.Idx → BitVec 32) (x1 : S3072x5120.Idx → EReal) (x2 : S3072.Idx → EReal) (x3 : S5504x5120.Idx → BitVec 8)
  (x4 : S5504.Idx → EReal) (x5 : S22144x2560.Idx → BitVec 8) (x6 : S22144x40.Idx → BitVec 16)

/-- A signed word as an extended real. -/
def num {w : ℕ} (b : BitVec w) : EReal := ((b.toInt : ℝ) : EReal)

/-- A row of 8-bit weights against a token's codes, and the low and the high halves of a row of 4-bit weights. -/
def dot8 (a : Fin 3072) (q : Fin 5504) : EReal := ∑ k : Fin 5120, x1 (ix2 a k) * num ((x3 (ix2 q k)).signExtend 32)
def dotLo (a : Fin 3072) (p : Fin 22144) : EReal := ∑ k : Fin 2560, x1 (ix2 a (⟨2 * k.val, by omega⟩ : Fin 5120))
  * (num (((x5 (ix2 p k)).extractLsb' 0 4).signExtend 32) * Ideal.ofBits .bf16 (x6 (ix2 p (⟨k.val / 64, by omega⟩ : Fin 40))))
def dotHi (a : Fin 3072) (p : Fin 22144) : EReal := ∑ k : Fin 2560, x1 (ix2 a (⟨2 * k.val + 1, by omega⟩ : Fin 5120))
  * (num (((x5 (ix2 p k)).extractLsb' 4 4).signExtend 32) * Ideal.ofBits .bf16 (x6 (ix2 p (⟨k.val / 64, by omega⟩ : Fin 40))))

/-- The column gather: column `n` of the result is the column the index names. -/
theorem take_cols {α : Type} (x : S3072x27648.Idx → α) (idx : IVec S27648x1 32) (a : Fin 3072) (n q : Fin 27648) (h : (idx (ix2 n (0 : Fin 1))).toInt = q.val) :
    Host.gather gather_S3072x27648_S27648x1_S3072x27648_0_1_n_n_1_1_30721 x idx (ix2 a n) = x (ix2 a q) := by
  unfold Host.gather
  congr 1
  funext z
  refine Fin.ext ?_
  show GatherDims.start _ (ix2 a n) idx z + GatherDims.batchCoord _ (ix2 a n) z + GatherDims.offCoord _ (ix2 a n) z = _
  rw [GatherDims.batchCoord_eq_zero _ _ _ List.not_mem_nil]
  match z with
  | 0 =>
    unfold GatherDims.start
    rw [dif_neg (show ¬ (0 : Fin S3072x27648.rank) ∈ gather_S3072x27648_S27648x1_S3072x27648_0_1_n_n_1_1_30721.startIndexMap from (by decide : ¬ (0 : Fin 2) ∈ ([1] : List (Fin 2))))]
    unfold GatherDims.offCoord
    rw [dif_pos (by rw [GatherDims.mem_sKept]; exact ⟨show ¬ (0 : Fin 2) ∈ ([1] : List (Fin 2)) by decide, List.not_mem_nil⟩)]
    show 0 + 0 + a.val = a.val
    omega
  | 1 =>
    rw [GatherDims.offCoord_eq_zero _ _ _ (fun h => ((GatherDims.mem_sKept _ _).mp h).1 (show (1 : Fin 2) ∈ ([1] : List (Fin 2)) by decide))]
    unfold GatherDims.start
    rw [dif_pos (show (1 : Fin S3072x27648.rank) ∈ gather_S3072x27648_S27648x1_S3072x27648_0_1_n_n_1_1_30721.startIndexMap from (by decide : (1 : Fin 2) ∈ ([1] : List (Fin 2))))]
    have e : GatherDims.siIdx gather_S3072x27648_S27648x1_S3072x27648_0_1_n_n_1_1_30721 (ix2 a n) ⟨List.idxOf (1 : Fin 2) ([1] : List (Fin 2)), by decide⟩ = ix2 n (0 : Fin 1) := by
      funext b
      match b with
      | 0 => rfl
      | 1 => rfl
    show min (idx (GatherDims.siIdx gather_S3072x27648_S27648x1_S3072x27648_0_1_n_n_1_1_30721 (ix2 a n) ⟨List.idxOf (1 : Fin 2) ([1] : List (Fin 2)), _⟩)).toInt.toNat (27648 - 1) + 0 + 0 = q.val
    rw [e, h]; have := q.isLt; omega

theorem clip27 (w : BitVec 32) (h : w.toNat < 27648) : IntOp.minsi 27647#32 (IntOp.maxsi 0#32 w) = w := by
  have e : w.toInt = w.toNat := BitVec.toInt_eq_toNat_of_lt (by omega)
  have e0 : (0#32).toInt = 0 := by decide
  have e1 : (27647#32).toInt = 27647 := by decide
  have m1 : IntOp.maxsi 0#32 w = w := by
    unfold IntOp.maxsi; split
    · rename_i g; rw [BitVec.slt, decide_eq_true_eq, e, e0] at g; exfalso; omega
    · rfl
  rw [m1]; unfold IntOp.minsi; split
  · rename_i g; rw [BitVec.slt, decide_eq_true_eq, e, e1] at g; exfalso; omega
  · rfl

theorem v49_at (n : Fin 27648) (h : (x0 (ix1 n)).toNat < 27648) : (val_main_v49 (F := Ideal) x0 (ix2 n (0 : Fin 1)) : BitVec 32).toInt = (x0 (ix1 n)).toNat := by
  have e43 : ∀ i, i = ix1 n → val_main_v43 (F := Ideal) x0 i = x0 (ix1 n) := fun i hi => by
    subst hi; exact clip27 _ h
  rw [val_main_v49_apply]
  have ei : idx_main_v49 (ix2 n (0 : Fin 1)) = ix1 n := funext fun a => by match a with | 0 => rfl
  rw [ei, val_main_v48_apply, val_main_v45_apply, e43 _ rfl]
  rw [show IntOp.cmpi .slt (x0 (ix1 n)) (val_main_v44 (F := Ideal) (ix1 n)) = 0#1 from Cert.KernelIdeal.Hand.neg8 _ (by omega), Cert.KernelIdeal.Hand.select_zero]
  exact BitVec.toInt_eq_toNat_of_lt (by omega)

/-- The 8-bit half of the reordered result. -/
theorem v9_at (a : Fin 3072) (q : Fin 5504) : val_main_v9 (F := Ideal) x1 x2 x3 x4 (ix2 a q) = dot8 x1 x3 a q * x2 (ix1 a) * x4 (ix1 q) := by
  rw [val_main_v9_apply, val_main_v6_apply, val_main_v3_apply, val_main_v8_apply, val_main_v7_apply, val_main_v5_apply, val_main_v4_apply]
  refine congrArg₂ (fun x y : EReal => x * y) (congrArg₂ (fun x y : EReal => x * y) (Finset.sum_congr rfl fun k _ => ?_) (congrArg x2 (funext fun z => ?_))) (congrArg x4 (funext fun z => ?_))
  · refine congrArg₂ (fun x y : EReal => x * y) (congrArg x1 (funext fun z => ?_)) ?_
    · match z with
      | 0 => rfl
      | 1 => rfl
    · exact congrArg (fun i => num ((x3 i).signExtend 32)) (funext fun z => by
        match z with
        | 0 => rfl
        | 1 => rfl)
  · match z with
    | 0 => rfl
  · match z with
    | 0 => rfl

theorem v12_ref (p : Fin 22144) (k : Fin 2560) : val_main_v12 (F := Ideal) x6 (ix2 p k) = Ideal.ofBits .bf16 (x6 (ix2 p (⟨k.val / 64, by omega⟩ : Fin 40))) := by
  rw [val_main_v12_apply, val_main_v11_apply, val_main_v10_apply]
  refine congrArg (fun i => Ideal.ofBits .bf16 (x6 i)) (funext fun z => Fin.ext ?_)
  match z with
  | 0 => show (p.val * 2560 + k.val) / 2560 = p.val; omega
  | 1 => show (p.val * 2560 + k.val) / 64 % 40 = k.val / 64; omega

theorem v35_at (a : Fin 3072) (p : Fin 22144) : val_main_v35 (F := Ideal) x1 x5 x6 (ix2 a p) = dotLo x1 x5 x6 a p := by
  rw [val_main_v35_apply]
  refine Finset.sum_congr rfl fun k _ => ?_
  have e : ridx_main_v35 (ix2 a p) k = ix2 p k := funext fun z => by
    match z with
    | 0 => rfl
    | 1 => rfl
  rw [e, val_main_v23_apply, v12_ref]
  refine congrArg₂ (fun x y : EReal => x * y) (congrArg x1 (funext fun z => Fin.ext ?_)) (congrArg (fun y : EReal => y * _) (congrArg num (Cert.KernelIdeal.Hand.ref_lo (x5 (ix2 p k)))))
  match z with
  | 0 => show 0 + 1 * a.val = a.val; omega
  | 1 => show 0 + 2 * k.val = 2 * k.val; omega

theorem v37_at (a : Fin 3072) (p : Fin 22144) : val_main_v37 (F := Ideal) x1 x5 x6 (ix2 a p) = dotHi x1 x5 x6 a p := by
  rw [val_main_v37_apply]
  refine Finset.sum_congr rfl fun k _ => ?_
  have e : ridx_main_v37 (ix2 a p) k = ix2 p k := funext fun z => by
    match z with
    | 0 => rfl
    | 1 => rfl
  rw [e, val_main_v33_apply, v12_ref]
  refine congrArg₂ (fun x y : EReal => x * y) (congrArg x1 (funext fun z => Fin.ext ?_)) (congrArg (fun y : EReal => y * _) (congrArg num (Cert.KernelIdeal.Hand.ref_hi (x5 (ix2 p k)))))
  match z with
  | 0 => show 0 + 1 * a.val = a.val; omega
  | 1 => show 1 + 2 * k.val = 2 * k.val + 1; omega

/-- The 4-bit half. -/
theorem v41_at (a : Fin 3072) (p : Fin 22144) : val_main_v41 (F := Ideal) x1 x2 x5 x6 (ix2 a p) = (dotLo x1 x5 x6 a p + dotHi x1 x5 x6 a p) * x2 (ix1 a) := by
  rw [val_main_v41_apply, val_main_v38_apply, v35_at, v37_at, val_main_v40_apply, val_main_v39_apply]
  refine congrArg₂ (fun x y : EReal => x * y) rfl (congrArg x2 (funext fun z => ?_))
  match z with
  | 0 => rfl

theorem v42_lo (a : Fin 3072) (n : Fin 27648) (q : Fin 5504) (h : n.val = q.val) : val_main_v42 (F := Ideal) x1 x2 x3 x4 x5 x6 (ix2 a n) = val_main_v9 (F := Ideal) x1 x2 x3 x4 (ix2 a q) := by
  unfold val_main_v42
  pointwise
  rw [dif_pos (by omega)]
  exact congrArg _ (congrArg (ix2 a) (Fin.ext h))

theorem v42_hi (a : Fin 3072) (n : Fin 27648) (p : Fin 22144) (h : n.val = p.val + 5504) : val_main_v42 (F := Ideal) x1 x2 x3 x4 x5 x6 (ix2 a n) = val_main_v41 (F := Ideal) x1 x2 x5 x6 (ix2 a p) := by
  unfold val_main_v42
  pointwise
  rw [dif_neg (by omega)]
  exact congrArg _ (congrArg (ix2 a) (Fin.ext (by show n.val - 5504 = p.val; omega)))

theorem trunc_id (x : Ideal .f32) : FloatOps.truncf (F := Ideal) .bf16 bitsLt_bf16_f32 x = x := rfl

/-- The result at a row below the boundary, and at one above it. -/
theorem ref_lt (a : Fin 3072) (n : Fin 27648) (h : (x0 (ix1 n)).toNat < 5504) :
    val_main_v51 (F := Ideal) x0 x1 x2 x3 x4 x5 x6 (ix2 a n) = dot8 x1 x3 a ⟨_, h⟩ * x2 (ix1 a) * x4 (ix1 (⟨(x0 (ix1 n)).toNat, h⟩ : Fin 5504)) := by
  rw [← v9_at, val_main_v51_apply, trunc_id]
  unfold val_main_v50
  rw [take_cols _ _ a n (⟨(x0 (ix1 n)).toNat, by omega⟩ : Fin 27648) (v49_at x0 n (by omega))]
  exact v42_lo x1 x2 x3 x4 x5 x6 a _ _ rfl

theorem ref_ge (a : Fin 3072) (n : Fin 27648) (p : Fin 22144) (h : (x0 (ix1 n)).toNat = p.val + 5504) :
    val_main_v51 (F := Ideal) x0 x1 x2 x3 x4 x5 x6 (ix2 a n) = (dotLo x1 x5 x6 a p + dotHi x1 x5 x6 a p) * x2 (ix1 a) := by
  rw [← v41_at x1 x2 x5 x6, val_main_v51_apply, trunc_id]
  unfold val_main_v50
  rw [take_cols _ _ a n (⟨(x0 (ix1 n)).toNat, by omega⟩ : Fin 27648) (v49_at x0 n (by omega))]
  exact v42_hi x1 x2 x3 x4 x5 x6 a _ p h

end Cert.ReferenceIdeal.Hand

end
-- ==== Proof.KI.Value.lean ====
/-
  The kernel's result, element by element of its arguments, is the reference's.
-/
module

public import proofs.«01_k».proof.Proof.KI.Output
public import proofs.«01_k».proof.Proof.KI.Ref

@[expose] public section

noncomputable section

namespace Cert.KernelIdeal.Hand

open Cert.KernelIdeal Cert.KernelIdeal.Gen
open Idealize.SL Idealize.SL.RA Idealize.SL.Sem
open Idealize.ShloMosaic Idealize.ShloMosaic.TcCoe Idealize.ShloMosaic.Tactic

variable (m : (ℓ : Loc nD τ sig) → Buf (Elt Idealize.ShloMosaic.Ideal) ℓ)

/-- The arrays the region finds, as extended reals: the codes, a weight of the tile, the two tables of scales. -/
def xv (c : Dev nD) (a : Fin 3072) (k : Fin 5120) : EReal := V (F := Idealize.ShloMosaic.Ideal) m c main_v15 (ix2 a k)
def wv (c : Dev nD) (w : BitVec 32) (k : Fin 5120) : EReal := wElt (F := Idealize.ShloMosaic.Ideal) (V (F := Idealize.ShloMosaic.Ideal) m c main_v23) (V (F := Idealize.ShloMosaic.Ideal) m c main_v20) (V (F := Idealize.ShloMosaic.Ideal) m c main_v26) w k
def xsv (c : Dev nD) (a : Fin 3072) (x : Fin 128) : EReal := V (F := Idealize.ShloMosaic.Ideal) m c main_v12 (ix2 a x)
def svv (c : Dev nD) (z : Fin 216) (x : Fin 128) : EReal := V (F := Idealize.ShloMosaic.Ideal) m c main_v17 (ix2 z x)

/-! ## Sums over the columns -/

theorem sig_left (k : ℕ) : 256 * ((256 * (k / 256) + 2 * (k % 128) + k / 128 % 2) / 256) + 128 * ((256 * (k / 256) + 2 * (k % 128) + k / 128 % 2) % 2)
    + (256 * (k / 256) + 2 * (k % 128) + k / 128 % 2) % 256 / 2 = k := by
  have e1 : (256 * (k / 256) + 2 * (k % 128) + k / 128 % 2) / 256 = k / 256 := by omega
  have e2 : (256 * (k / 256) + 2 * (k % 128) + k / 128 % 2) % 2 = k / 128 % 2 := by omega
  have e3 : (256 * (k / 256) + 2 * (k % 128) + k / 128 % 2) % 256 / 2 = k % 128 := by omega
  rw [e1, e2, e3]; omega

theorem sig_right (k : ℕ) : 256 * ((256 * (k / 256) + 128 * (k % 2) + k % 256 / 2) / 256) + 2 * ((256 * (k / 256) + 128 * (k % 2) + k % 256 / 2) % 128)
    + (256 * (k / 256) + 128 * (k % 2) + k % 256 / 2) / 128 % 2 = k := by
  have e1 : (256 * (k / 256) + 128 * (k % 2) + k % 256 / 2) / 256 = k / 256 := by omega
  have e2 : (256 * (k / 256) + 128 * (k % 2) + k % 256 / 2) % 128 = k % 256 / 2 := by omega
  have e3 : (256 * (k / 256) + 128 * (k % 2) + k % 256 / 2) / 128 % 2 = k % 2 := by omega
  rw [e1, e2, e3]; omega

/-- The column order of the tile: place `256 g + 128 h + l` is column `256 g + 2 l + h`. -/
def colp : Fin 5120 ≃ Fin 5120 where
  toFun k := ⟨256 * (k.val / 256) + 2 * (k.val % 128) + k.val / 128 % 2, by omega⟩
  invFun k := ⟨256 * (k.val / 256) + 128 * (k.val % 2) + k.val % 256 / 2, by omega⟩
  left_inv k := Fin.ext (sig_left k.val)
  right_inv k := Fin.ext (sig_right k.val)

/-- A column is an even or an odd one. -/
def eo : Fin 2560 × Fin 2 ≃ Fin 5120 where
  toFun p := ⟨2 * p.1.val + p.2.val, by omega⟩
  invFun k := (⟨k.val / 2, by omega⟩, ⟨k.val % 2, by omega⟩)
  left_inv p := Prod.ext (Fin.ext (by simp only []; omega)) (Fin.ext (by simp only []; omega))
  right_inv k := Fin.ext (by simp only []; omega)

theorem sum_eo (f : Fin 5120 → EReal) : ∑ k, f k = (∑ k : Fin 2560, f ⟨2 * k.val, by omega⟩) + ∑ k : Fin 2560, f ⟨2 * k.val + 1, by omega⟩ := by
  rw [← Equiv.sum_comp eo, Fintype.sum_prod_type, ← Finset.sum_add_distrib]
  exact Finset.sum_congr rfl fun k _ => Fin.sum_univ_two _

/-! ## One weight -/

theorem trunc_id (x : Idealize.ShloMosaic.Ideal .f32) : FloatOps.truncf (F := Idealize.ShloMosaic.Ideal) .bf16 bitsLt_bf16_f32 x = x := rfl

/-- A weight of an 8-bit row. -/
theorem wElt_lt (c : Dev nD) (w : BitVec 32) (k : Fin 5120) (q : Fin 5504) (h : w.toNat = q.val) :
    wv m c w k = Cert.ReferenceIdeal.Hand.num ((a3 (F := Idealize.ShloMosaic.Ideal) m c (ix2 q (colp k))).signExtend 32) := by
  have hq := q.isLt
  unfold wv wElt elt
  rw [lt_bit w (by omega), if_pos (by omega), select_one, trunc_id, byteOf_eq w _ (⟨w.toNat % 4, by omega⟩ : Fin 4) rfl,
    v23_at (F := Idealize.ShloMosaic.Ideal) m c _ _ _ q (by show q.val = 4 * (w.toNat / 4 % 1376) + w.toNat % 4; omega)]
  rfl

/-- A weight of a 4-bit row. -/
theorem wElt_ge (c : Dev nD) (w : BitVec 32) (k : Fin 5120) (p : Fin 22144) (h : w.toNat = p.val + 5504) :
    wv m c w k
      = Cert.ReferenceIdeal.Hand.num (((a5 (F := Idealize.ShloMosaic.Ideal) m c (ix2 p (⟨(colp k).val / 2, by omega⟩ : Fin 2560))).extractLsb' (4 * ((colp k).val % 2)) 4).signExtend 32)
        * Ideal.ofBits .bf16 (a6 (F := Idealize.ShloMosaic.Ideal) m c (ix2 p (⟨(colp k).val / 128, by omega⟩ : Fin 40))) := by
  have hp := p.isLt
  have es : (colp k).val = 256 * (k.val / 256) + 2 * (k.val % 128) + k.val / 128 % 2 := rfl
  unfold wv wElt elt
  rw [lt_bit w (by omega), if_neg (by omega), select_zero, trunc_id,
    v26_at (F := Idealize.ShloMosaic.Ideal) m c _ _ (⟨2 * ((w.toNat - 5504) / 2 % 11072), by omega⟩ : Fin 22144) (⟨2 * ((w.toNat - 5504) / 2 % 11072) + 1, by omega⟩ : Fin 22144) rfl rfl,
    sbits_eq]
  refine congrArg₂ (fun x y : EReal => x * y) (congrArg Cert.ReferenceIdeal.Hand.num ?_) ((ofBits_wide _).trans (congrArg (Ideal.ofBits .bf16) ?_))
  · have e4 : (⟨128 * (k.val / 256) + k.val % 128, by omega⟩ : Fin 2560) = ⟨(colp k).val / 2, by omega⟩ := Fin.ext (by show _ = (colp k).val / 2; rw [es]; show 128 * (k.val / 256) + k.val % 128 = _; omega)
    have eh : (colp k).val % 2 = k.val / 128 % 2 := by rw [es]; omega
    unfold nibh
    by_cases h2 : k.val / 128 % 2 = 0
    · rw [if_pos h2, nib0_eq w _ (⟨w.toNat % 4, by omega⟩ : Fin 4) rfl, v20_at (F := Idealize.ShloMosaic.Ideal) m c _ _ _ p (by show p.val = 4 * ((w.toNat - 5504) / 4 % 5536) + w.toNat % 4; omega), e4, eh, h2]
    · have h3 : k.val / 128 % 2 = 1 := by omega
      rw [if_neg h2, nib1_eq w _ (⟨w.toNat % 4, by omega⟩ : Fin 4) rfl, v20_at (F := Idealize.ShloMosaic.Ideal) m c _ _ _ p (by show p.val = 4 * ((w.toNat - 5504) / 4 % 5536) + w.toNat % 4; omega), e4, eh, h3]
  · have e40 : (⟨2 * (k.val / 256) + k.val % 128 / 64, by omega⟩ : Fin 40) = ⟨(colp k).val / 128, by omega⟩ := Fin.ext (by show _ = (colp k).val / 128; rw [es]; show 2 * (k.val / 256) + k.val % 128 / 64 = _; omega)
    rw [e40]
    by_cases h2 : w.toNat % 2 = 0
    · rw [if_pos h2]
      exact congrArg (fun z => a6 (F := Idealize.ShloMosaic.Ideal) m c (ix2 z _)) (Fin.ext (by show 2 * ((w.toNat - 5504) / 2 % 11072) = p.val; omega))
    · rw [if_neg h2]
      exact congrArg (fun z => a6 (F := Idealize.ShloMosaic.Ideal) m c (ix2 z _)) (Fin.ext (by show 2 * ((w.toNat - 5504) / 2 % 11072) + 1 = p.val; omega))

/-! ## A row's sum -/

theorem acc_at (v10 : Vec Idealize.ShloMosaic.Ideal S256x5120 .bf16) (v11 : Vec Idealize.ShloMosaic.Ideal S512x5120 .bf16) (r : Fin 256) (cc : Fin 512) :
    (k0_pay18 (F := Idealize.ShloMosaic.Ideal) v10 v11 (ix2 r cc) : EReal) = ∑ k : Fin 5120, (v10 (ix2 r k) : EReal) * v11 (ix2 cc k) := by
  pointwise [k0_pay18]

theorem sum_lt (c : Dev nD) (a : Fin 3072) (w : BitVec 32) (q : Fin 5504) (h : w.toNat = q.val) :
    (∑ k : Fin 5120, xv m c a k * wv m c w k)
      = Cert.ReferenceIdeal.Hand.dot8 (a1 (F := Idealize.ShloMosaic.Ideal) m c) (a3 (F := Idealize.ShloMosaic.Ideal) m c) a q := by
  unfold Cert.ReferenceIdeal.Hand.dot8
  rw [← Equiv.sum_comp colp (fun k : Fin 5120 => (a1 (F := Idealize.ShloMosaic.Ideal) m c (ix2 a k) : EReal) * Cert.ReferenceIdeal.Hand.num ((a3 (F := Idealize.ShloMosaic.Ideal) m c (ix2 q k)).signExtend 32))]
  exact Finset.sum_congr rfl fun k _ => by rw [wElt_lt m c w k q h, show xv m c a k = _ from v15_at (F := Idealize.ShloMosaic.Ideal) m c a k (colp k) rfl]

theorem sum_ge (c : Dev nD) (a : Fin 3072) (w : BitVec 32) (p : Fin 22144) (h : w.toNat = p.val + 5504) :
    (∑ k : Fin 5120, xv m c a k * wv m c w k)
      = Cert.ReferenceIdeal.Hand.dotLo (a1 (F := Idealize.ShloMosaic.Ideal) m c) (a5 (F := Idealize.ShloMosaic.Ideal) m c) (a6 (F := Idealize.ShloMosaic.Ideal) m c) a p + Cert.ReferenceIdeal.Hand.dotHi (a1 (F := Idealize.ShloMosaic.Ideal) m c) (a5 (F := Idealize.ShloMosaic.Ideal) m c) (a6 (F := Idealize.ShloMosaic.Ideal) m c) a p := by
  let f : Fin 5120 → EReal := fun j => a1 (F := Idealize.ShloMosaic.Ideal) m c (ix2 a j) * (Cert.ReferenceIdeal.Hand.num (((a5 (F := Idealize.ShloMosaic.Ideal) m c (ix2 p (⟨j.val / 2, by omega⟩ : Fin 2560))).extractLsb' (4 * (j.val % 2)) 4).signExtend 32)
        * Ideal.ofBits .bf16 (a6 (F := Idealize.ShloMosaic.Ideal) m c (ix2 p (⟨j.val / 128, by omega⟩ : Fin 40))))
  have e : (∑ k : Fin 5120, xv m c a k * wv m c w k) = ∑ k, f (colp k) :=
    Finset.sum_congr rfl fun k _ => by rw [wElt_ge m c w k p h, show xv m c a k = _ from v15_at (F := Idealize.ShloMosaic.Ideal) m c a k (colp k) rfl]
  rw [e, Equiv.sum_comp colp f, sum_eo]
  unfold Cert.ReferenceIdeal.Hand.dotLo Cert.ReferenceIdeal.Hand.dotHi
  have key : ∀ (k j : Fin 2560) (s s' : Fin 40) (t : ℕ) (t' : ℕ), j = k → s = s' → t = t' →
      (Cert.ReferenceIdeal.Hand.num (((a5 (F := Idealize.ShloMosaic.Ideal) m c (ix2 p j)).extractLsb' t 4).signExtend 32) * Ideal.ofBits .bf16 (a6 (F := Idealize.ShloMosaic.Ideal) m c (ix2 p s)))
        = (Cert.ReferenceIdeal.Hand.num (((a5 (F := Idealize.ShloMosaic.Ideal) m c (ix2 p k)).extractLsb' t' 4).signExtend 32) * Ideal.ofBits .bf16 (a6 (F := Idealize.ShloMosaic.Ideal) m c (ix2 p s'))) := by
    intro k j s s' t t' h1 h2 h3; rw [h1, h2, h3]
  refine congrArg₂ (fun x y : EReal => x + y) (Finset.sum_congr rfl fun k _ => ?_) (Finset.sum_congr rfl fun k _ => ?_)
  · exact congrArg (fun y : EReal => a1 (F := Idealize.ShloMosaic.Ideal) m c (ix2 a (⟨2 * k.val, by omega⟩ : Fin 5120)) * y)
      (key k _ _ _ _ _ (Fin.ext (by show 2 * k.val / 2 = k.val; omega)) (Fin.ext (by show 2 * k.val / 128 = k.val / 64; omega)) (by show 4 * (2 * k.val % 2) = 0; omega))
  · exact congrArg (fun y : EReal => a1 (F := Idealize.ShloMosaic.Ideal) m c (ix2 a (⟨2 * k.val + 1, by omega⟩ : Fin 5120)) * y)
      (key k _ _ _ _ _ (Fin.ext (by show (2 * k.val + 1) / 2 = k.val; omega)) (Fin.ext (by show (2 * k.val + 1) / 128 = k.val / 64; omega)) (by show 4 * ((2 * k.val + 1) % 2) = 4; omega))

/-! ## The result -/

/-- An element of the result: the sum, the token's scale, the row's scale. -/
theorem G_at (c : Dev nD) (a : Fin 3072) (n : Fin 27648) (x : Fin 128) (z : Fin 216) (hx : x.val = n.val % 128) (hz : z.val = n.val / 128) :
    (show EReal from G (F := Idealize.ShloMosaic.Ideal) m c (ix2 a n)) = (∑ k : Fin 5120, xv m c a k * wv m c (a0 (F := Idealize.ShloMosaic.Ideal) m c (ix1 n)) k)
      * xsv m c a x * svv m c z x := by
  have hn := n.isLt
  have ha := a.isLt
  unfold G outAt out
  rw [wSv_eq, wXs_eq, wInv_eq, V_main_arg0, acc_at]
  unfold cell
  rw [trunc_id]
  refine congrArg₂ (fun x y : EReal => x * y) (congrArg₂ (fun x y : EReal => x * y) (Finset.sum_congr rfl fun k _ => ?_) ?_) ?_
  · refine congrArg₂ (fun x y : EReal => x * y) ?_ ?_
    · refine congrArg (V (F := Idealize.ShloMosaic.Ideal) m c main_v15) (funext fun b => Fin.ext ?_)
      match b with
      | 0 => show (256 * (a.val / 256) + a.val % 256) % 3072 = a.val; omega
      | 1 => rfl
    · unfold tileR
      refine congrArg (fun i => wv m c (a0 (F := Idealize.ShloMosaic.Ideal) m c i) k) (funext fun b => Fin.ext ?_)
      match b with
      | 0 => show (512 * (grid0.coords _ 0).val + n.val % 512) % 27648 = n.val; rw [coords_val]; show (512 * (n.val / 512) + n.val % 512) % 27648 = n.val; omega
  · refine congrArg (V (F := Idealize.ShloMosaic.Ideal) m c main_v12) (funext fun b => Fin.ext ?_)
    match b with
    | 0 => rfl
    | 1 => show n.val % 512 % 128 = x.val; omega
  · refine congrArg (V (F := Idealize.ShloMosaic.Ideal) m c main_v17) (funext fun b => Fin.ext ?_)
    match b with
    | 0 => show (4 * (grid0.coords _ 0).val + n.val % 512 / 128) % 216 = z.val; rw [coords_val]; show (4 * (n.val / 512) + n.val % 512 / 128) % 216 = z.val; omega
    | 1 => show n.val % 512 % 128 = x.val; omega

/-- The whole result is the reference's of the same arguments. -/
theorem result (hp : InRange m) (c : Dev nD) :
    G m c = Cert.ReferenceIdeal.Read.val_main_v51 (F := Idealize.ShloMosaic.Ideal) (a0 m c) (a1 m c) (a2 m c) (a3 m c) (a4 m c) (a5 m c) (a6 m c) := by
  funext y
  obtain ⟨a, n, rfl⟩ : ∃ (a : Fin 3072) (n : Fin 27648), y = ix2 a n := ⟨y 0, y 1, eq_ix2 y⟩
  have hn := n.isLt
  have hw : (a0 m c (ix1 n)).toNat < 27648 := hp c n
  refine (G_at m c a n (⟨n.val % 128, by omega⟩ : Fin 128) (⟨n.val / 128, by omega⟩ : Fin 216) rfl rfl).trans ?_
  have es : svv m c (⟨n.val / 128, by omega⟩ : Fin 216) (⟨n.val % 128, by omega⟩ : Fin 128) = _ :=
    v17_at (F := Idealize.ShloMosaic.Ideal) m c (⟨n.val / 128, by omega⟩ : Fin 216) (⟨n.val % 128, by omega⟩ : Fin 128) n (by show n.val = 128 * (n.val / 128) + n.val % 128; omega) hw
  rw [es, show xsv m c a (⟨n.val % 128, by omega⟩ : Fin 128) = _ from v12_at (F := Idealize.ShloMosaic.Ideal) m c a _]
  by_cases h : (a0 m c (ix1 n)).toNat < 5504
  · rw [dif_pos h, sum_lt m c a _ ⟨_, h⟩ rfl]
    exact (Cert.ReferenceIdeal.Hand.ref_lt _ _ _ _ _ _ _ a n h).symm
  · have hq : (a0 m c (ix1 n)).toNat = (⟨(a0 m c (ix1 n)).toNat - 5504, by omega⟩ : Fin 22144).val + 5504 := by show _ = (a0 m c (ix1 n)).toNat - 5504 + 5504; omega
    rw [dif_neg h, sum_ge m c a _ _ hq]
    refine (congrArg (fun z : EReal => _ * z) Ideal.ofBits_one_f32).trans ?_
    refine (mul_one _).trans ?_
    exact (Cert.ReferenceIdeal.Hand.ref_ge _ _ _ _ _ _ _ a n _ hq).symm

end Cert.KernelIdeal.Hand

end
-- ==== Proof.Q.Codes.lean ====
/-
  One token's scale and codes, by the kernel's body and by the reference.
-/
module

public import proofs.«01_k».proof.Proof.Gen.QuantiseIdeal.Value
public import proofs.«01_k».proof.Proof.Gen.QuantiseReferenceIdeal.Read
public import Idealize.ShloMosaic.Lib.Pointwise
public import Idealize.ShloMosaic.Lib.IdealHost

@[expose] public section

noncomputable section

namespace Cert.QuantiseIdeal.Hand

open Cert.QuantiseIdeal Cert.QuantiseIdeal.Gen
open Idealize.ShloMosaic Idealize.ShloMosaic.TcCoe Idealize.ShloMosaic.Tactic

/-- The greatest magnitude of a token's entries. -/
def rowMax (f : Fin 5120 → EReal) : EReal := Finset.univ.fold max (FloatOps.ofBits (F := Idealize.ShloMosaic.Ideal) .f32 0xFF800000#32) fun k => max (f k) (-f k)

/-- A token's scale from its greatest magnitude: that over 127, or 1 for a token of zeros. -/
def scaleOf (z : EReal) : EReal :=
  Scalar.select (FloatOps.cmpf (F := Idealize.ShloMosaic.Ideal) (φ := .f32) .oeq z (FloatOps.ofBits (F := Idealize.ShloMosaic.Ideal) .f32 0x00000000#32)) (FloatOps.ofBits (F := Idealize.ShloMosaic.Ideal) .f32 0x3F800000#32)
    (Idealize.ShloMosaic.Ideal.div z (FloatOps.ofBits (F := Idealize.ShloMosaic.Ideal) .f32 0x42FE0000#32))

/-- The scale of the token with entries `f`. -/
def scale (f : Fin 5120 → EReal) : EReal := scaleOf (rowMax f)

/-- An entry over a scale, rounded to an integer and held to [-127, 127]. -/
def roundedOf (x s : EReal) : EReal :=
  min (Idealize.ShloMosaic.Ideal.ofBits .f32 0x42FE0000#32) (max (Idealize.ShloMosaic.Ideal.ofBits .f32 0xC2FE0000#32) (Idealize.ShloMosaic.Ideal.liftRound Idealize.ShloMosaic.Ideal.roundHalfEven (Idealize.ShloMosaic.Ideal.div x s)))

/-- The token's entry `k`, over the token's scale, so rounded. -/
def rounded (f : Fin 5120 → EReal) (k : Fin 5120) : EReal := roundedOf (f k) (scale f)

theorem ofBits_127 : Idealize.ShloMosaic.Ideal.ofBits .f32 0x42FE0000#32 = ((127 : ℝ) : EReal) := by
  simp [Idealize.ShloMosaic.Ideal.ofBits, Idealize.ShloMosaic.Ideal.ieee, -EReal.coe_mul]; norm_num

theorem ofBits_neg_127 : Idealize.ShloMosaic.Ideal.ofBits .f32 0xC2FE0000#32 = ((-127 : ℝ) : EReal) := by
  simp [Idealize.ShloMosaic.Ideal.ofBits, Idealize.ShloMosaic.Ideal.ieee, -EReal.coe_mul, -EReal.coe_neg]; norm_num

/-- A number held to [-127, 127] converts to a byte as it converts to a word and then to a byte. -/
theorem byte_of_word (x : EReal) :
    (Idealize.ShloMosaic.Ideal.fptosi 32 (min (Idealize.ShloMosaic.Ideal.ofBits .f32 0x42FE0000#32) (max (Idealize.ShloMosaic.Ideal.ofBits .f32 0xC2FE0000#32) x))).setWidth 8
      = Idealize.ShloMosaic.Ideal.fptosi 8 (min (Idealize.ShloMosaic.Ideal.ofBits .f32 0x42FE0000#32) (max (Idealize.ShloMosaic.Ideal.ofBits .f32 0xC2FE0000#32) x)) := by
  rw [ofBits_127, ofBits_neg_127]
  obtain ⟨r, hr, h1, h2⟩ : ∃ r : ℝ, min ((127 : ℝ) : EReal) (max ((-127 : ℝ) : EReal) x) = (r : EReal) ∧ -127 ≤ r ∧ r ≤ 127 := by
    induction x using EReal.rec with
    | bot => exact ⟨-127, by rw [max_eq_left bot_le, min_eq_right (EReal.coe_le_coe_iff.mpr (by norm_num))], by norm_num, by norm_num⟩
    | top => exact ⟨127, by rw [max_eq_right le_top, min_eq_left le_top], by norm_num, by norm_num⟩
    | coe y => exact ⟨min 127 (max (-127) y), by rw [EReal.coe_strictMono.monotone.map_min, EReal.coe_strictMono.monotone.map_max], le_min (by norm_num) (le_max_left _ _), min_le_left _ _⟩
  rw [hr]
  unfold Idealize.ShloMosaic.Ideal.fptosi Idealize.ShloMosaic.Ideal.toIntClamped
  have hz : ∃ z : ℤ, (if 0 ≤ r then ⌊r⌋ else ⌈r⌉) = z ∧ -127 ≤ z ∧ z ≤ 127 := by
    refine ⟨_, rfl, ?_⟩
    split
    · exact ⟨Int.le_floor.mpr (by push_cast; exact h1), Int.cast_le (R := ℝ) |>.mp ((Int.floor_le r).trans (by push_cast; exact h2))⟩
    · exact ⟨Int.cast_le (R := ℝ) |>.mp (le_trans (by push_cast; exact h1) (Int.le_ceil r)), Int.ceil_le.mpr (by push_cast; exact h2)⟩
  obtain ⟨z, e, z1, z2⟩ := hz
  show (BitVec.ofInt 32 (max _ (min _ (if 0 ≤ r then ⌊r⌋ else ⌈r⌉)))).setWidth 8 = BitVec.ofInt 8 (max _ (min _ (if 0 ≤ r then ⌊r⌋ else ⌈r⌉)))
  rw [e]
  have e32 : max (-((2 ^ (32 - 1) : ℕ) : ℤ)) (min (((2 ^ (32 - 1) : ℕ) : ℤ) - 1) z) = z := by norm_num; omega
  have e8 : max (-((2 ^ (8 - 1) : ℕ) : ℤ)) (min (((2 ^ (8 - 1) : ℕ) : ℤ) - 1) z) = z := by norm_num; omega
  rw [e32, e8]
  apply BitVec.eq_of_toNat_eq
  rw [BitVec.toNat_setWidth, BitVec.toNat_ofInt, BitVec.toNat_ofInt]
  omega

/-- The body's maximum along the lanes. -/
theorem max_at (P : Vec Idealize.ShloMosaic.Ideal S128x5120 .bf16) (h : S128x5120.Reduces [1] S128) (hφ) (ha) (b : Fin 128) :
    multiReduction (F := Idealize.ShloMosaic.Ideal) (φ := .f32) .maximumf [1] S128 (absf (extf .f32 P bitsLt_bf16_f32)) 0xFF800000#32 h hφ ha (ix1 b) = rowMax fun k => P (ix2 b k) := by
  pointwise [rowMax]
  rfl

theorem E4_at (P : Vec Idealize.ShloMosaic.Ideal S128x5120 .bf16) (u v : Fin 1) (b : Fin 128) :
    Cert.QuantiseIdeal.Value.E4 P (ix3 u v b) = scale fun k => P (ix2 b k) := by
  have e : Cert.QuantiseIdeal.Value.ix4_0 (ix3 u v b) = ix1 b := funext fun a => match a with | 0 => rfl
  unfold Cert.QuantiseIdeal.Value.E4
  rw [show Cert.QuantiseIdeal.Value.ix4_1 (ix3 u v b) = ix1 b from e, e]
  exact congrArg scaleOf (max_at P reduces_S128x5120_S128 (.inl rfl) rfl b)

theorem E1_at (P : Vec Idealize.ShloMosaic.Ideal S128x5120 .bf16) (b : Fin 128) (k : Fin 5120) :
    Cert.QuantiseIdeal.Value.E1 P (ix2 b k) = Idealize.ShloMosaic.Ideal.fptosi 8 (rounded (fun k => P (ix2 b k)) k) := by
  have e : Cert.QuantiseIdeal.Value.ix1_1 (ix2 b k) = ix1 b := funext fun a => match a with | 0 => rfl
  have e0 : Cert.QuantiseIdeal.Value.ix1_0 (ix2 b k) = ix2 b k := funext fun a => match a with | 0 => rfl | 1 => rfl
  unfold Cert.QuantiseIdeal.Value.E1
  rw [show Cert.QuantiseIdeal.Value.ix1_2 (ix2 b k) = ix1 b from e, e, e0]
  exact congrArg (fun z => Idealize.ShloMosaic.Ideal.fptosi 8 (roundedOf (P (ix2 b k)) (scaleOf z))) (max_at P reduces_S128x5120_S128 (.inl rfl) rfl b)

end Cert.QuantiseIdeal.Hand

end
-- ==== Proof.Q.Ref.lean ====
/-
  The reference's scales and codes, element by element.
-/
module

public import proofs.«01_k».proof.Proof.Q.Codes

@[expose] public section

noncomputable section

namespace Cert.QuantiseReferenceIdeal.Hand

open Cert.QuantiseReferenceIdeal.Read Cert.QuantiseReferenceIdeal
open Idealize.ShloMosaic Idealize.ShloMosaic.TcCoe Idealize.ShloMosaic.Tactic

open Cert.QuantiseIdeal.Hand

theorem v2_at (x : (⟨S3072x5120, .bf16⟩ : BufTy).Contents (Elt Idealize.ShloMosaic.Ideal)) (a : Fin 3072) :
    val_main_v2 (F := Idealize.ShloMosaic.Ideal) x (ix1 a) = rowMax fun k => x (ix2 a k) := by
  unfold val_main_v2
  pointwise [rowMax]
  rfl

theorem v7_at (x : (⟨S3072x5120, .bf16⟩ : BufTy).Contents (Elt Idealize.ShloMosaic.Ideal)) (a : Fin 3072) :
    val_main_v7 (F := Idealize.ShloMosaic.Ideal) x (ix1 a) = scale fun k => x (ix2 a k) := by
  rw [val_main_v7_apply, val_main_v4_apply, val_main_v6_apply, v2_at, val_main_v3_apply, val_main_v5_apply, val_main_call0_v0_apply]
  rfl

theorem v14_at (x : (⟨S3072x5120, .bf16⟩ : BufTy).Contents (Elt Idealize.ShloMosaic.Ideal)) (a : Fin 3072) (k : Fin 5120) :
    val_main_v14 (F := Idealize.ShloMosaic.Ideal) x (ix2 a k) = Idealize.ShloMosaic.Ideal.fptosi 8 (rounded (fun k => x (ix2 a k)) k) := by
  rw [val_main_v14_apply, val_main_v13_apply, val_main_v12_apply, val_main_call2_v2_apply, val_main_v11_apply, val_main_v10_apply, val_main_v9_apply, val_main_v8_apply,
    show idx_main_v8 (idx_main_v9 (ix2 a k)) = ix1 a from funext fun b => match b with | 0 => rfl, v7_at, val_main_call2_v4_apply, val_main_call2_v1_apply, val_main_call2_v3_apply, val_main_call2_v0_apply,
    val_main_cst_3_apply, val_main_cst_4_apply, val_main_v0_apply]
  have h := byte_of_word (Idealize.ShloMosaic.Ideal.liftRound Idealize.ShloMosaic.Ideal.roundHalfEven (Idealize.ShloMosaic.Ideal.div (x (ix2 a k)) (scale fun k => x (ix2 a k))))
  unfold rounded roundedOf
  refine Eq.trans ?_ h
  refine congrArg (fun z : BitVec 32 => z.setWidth 8) ?_
  refine congrArg (Idealize.ShloMosaic.Ideal.fptosi 32) ?_
  refine congrArg₂ (fun x y : EReal => min x y) ?_ (congrArg₂ (fun x y : EReal => max x y) ?_ ?_)
  · rfl
  · rfl
  · rw [Idealize.ShloMosaic.Ideal.hostUnary_roundeven_def, Idealize.ShloMosaic.Ideal.hostDivf_def]
    rfl

theorem v15_at (x : (⟨S3072x5120, .bf16⟩ : BufTy).Contents (Elt Idealize.ShloMosaic.Ideal)) (t : Fin 24) (u : Fin 1) (b : Fin 128) :
    val_main_v15 (F := Idealize.ShloMosaic.Ideal) x (ix3 t u b) = scale fun k => x (ix2 (⟨128 * t.val + b.val, by omega⟩ : Fin 3072) k) := by
  rw [val_main_v15_apply, show idx_main_v15 (ix3 t u b) = ix1 (⟨128 * t.val + b.val, by omega⟩ : Fin 3072) from funext fun a => Fin.ext (match a with | 0 => by show (t.val * 1 + u.val) * 128 + b.val = 128 * t.val + b.val; omega), v7_at]

end Cert.QuantiseReferenceIdeal.Hand

end
-- ==== Proof.Q.Result.lean ====
/-
  The two arrays the quantiser leaves are the reference's.
-/
module

public import proofs.«01_k».proof.Proof.Q.Ref
public import Idealize.ShloMosaic.Lib.Pipeline.Value

@[expose] public section

noncomputable section

namespace Cert.QuantiseIdeal.Hand

open Cert.QuantiseIdeal Cert.QuantiseIdeal.Gen Idealize.SL.Sem
open Idealize.ShloMosaic Idealize.ShloMosaic.TcCoe Idealize.ShloMosaic.Tactic

variable (m : (ℓ : Loc nD τ sig) → Buf (Elt Idealize.ShloMosaic.Ideal) ℓ) (ρ : Dev nD → PrngReg)

/-- The tokens, as launched. -/
abbrev X (c : Dev nD) : S3072x5120.Idx → EReal := m ((c.tc : Thread nD τ).loc main_arg0)

/-- The codes, element by element. -/
def G1 (c : Dev nD) : S3072x5120.Idx → BitVec 8 := fun y => Idealize.ShloMosaic.Ideal.fptosi 8 (rounded (fun k => X m c (ix2 (⟨(y 0).val, (y 0).isLt⟩ : Fin 3072) k)) (⟨(y 1).val, (y 1).isLt⟩ : Fin 5120))

/-- The scales, element by element. -/
def G4 (c : Dev nD) : S24x1x128.Idx → EReal := fun y => scale fun k => X m c (ix2 (⟨128 * (y 0).val + (y 2).val, by have h0 : (y 0).val < 24 := (y 0).isLt; have h2 : (y 2).val < 128 := (y 2).isLt; omega⟩ : Fin 3072) k)

theorem N_eq : cfg0.N = 24 := by decide

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)

/-- Block `t` of the codes is rows `128 t` onwards, every column. -/
theorem emb1 (t : Fin cfg0.N) (j : S128x5120.Idx) : ∀ a : Fin 2, ((((cfg0.win 1).blk t).view.emb j : S3072x5120.Idx) a).val = (![128 * t.val + (j 0).val, (j 1).val] : Fin 2 → ℕ) a := by
  obtain ⟨e0, e1⟩ := idx1 t
  intro a
  match a with
  | ⟨0, _⟩ => show win0_1.index t (0 : Fin 2) * 128 + 1 * (j 0).val = 128 * t.val + (j 0).val; omega
  | ⟨1, _⟩ => show win0_1.index t (1 : Fin 2) * 5120 + 1 * (j 1).val = (j 1).val; omega

/-- Block `t` of the scales is row `t`. -/
theorem emb4 (t : Fin cfg0.N) (j : S1x1x128.Idx) : ∀ a : Fin 3, ((((cfg0.win 4).blk t).view.emb j : S24x1x128.Idx) a).val = (![t.val, 0, (j 2).val] : Fin 3 → ℕ) a := by
  obtain ⟨e0, e1, e2⟩ := idx4 t
  have h0 : (j 0).val < 1 := (j 0).isLt
  have h1 : (j 1).val < 1 := (j 1).isLt
  intro a
  match a with
  | ⟨0, _⟩ => show win0_4.index t (0 : Fin 3) * 1 + 1 * (j 0).val = t.val; omega
  | ⟨1, _⟩ => show win0_4.index t (1 : Fin 3) * 1 + 1 * (j 1).val = 0; omega
  | ⟨2, _⟩ => show win0_4.index t (2 : Fin 3) * 128 + 1 * (j 2).val = (j 2).val; omega

/-- The body reads its block of the tokens whole. -/
theorem ld_eq (P : Vec Idealize.ShloMosaic.Ideal S128x5120 .bf16) : View.ld P r0_0 = P :=
  funext fun y => congrArg P (funext fun a => Fin.ext (match a with
    | 0 => by show 0 + 1 * (y 0).val = (y 0).val; omega
    | 1 => by show 0 + 1 * (y 1).val = (y 1).val; omega))

/-- Row `b` of block `t` is token `128 t + b`. -/
theorem row_at (c : Dev nD) (t : Fin cfg0.N) (b : Fin 128) (a : Fin 3072) (h : a.val = 128 * t.val + b.val) (k : Fin 5120) :
    (show EReal from (iblk m c 0 t : Vec Idealize.ShloMosaic.Ideal S128x5120 .bf16) (ix2 b k)) = X m c (ix2 a k) := by
  obtain ⟨e0, e1⟩ := idx0 t
  refine congrArg (X m c) (funext fun d => Fin.ext ?_)
  match d with
  | 0 => show win0_0.index t (0 : Fin 2) * 128 + 1 * b.val = a.val; omega
  | 1 => show win0_0.index t (1 : Fin 2) * 5120 + 1 * k.val = k.val; omega

theorem flushed1_eq (c : Dev nD) (t : Fin cfg0.N) : (dats m 0 c).flushed 1 t = ((cfg0.win 1).blk t).view.read (Elt Idealize.ShloMosaic.Ideal) (G1 m c) := by
  rw [Cert.QuantiseIdeal.Value.flushed1]
  funext j
  obtain ⟨b, k, rfl⟩ : ∃ (b : Fin 128) (k : Fin 5120), j = (ix2 b k : S128x5120.Idx) := ⟨j 0, j 1, eq_ix2 j⟩
  show out0_1 (iblk m c 0 t) (ix2 b k) = G1 m c (((cfg0.win 1).blk t).view.emb (ix2 b k))
  have h0 := emb1 t (ix2 b k) 0
  have h1 := emb1 t (ix2 b k) 1
  unfold out0_1
  rw [ld_eq, Cert.QuantiseIdeal.Value.canon1_eq, E1_at]
  unfold G1
  refine congrArg (Idealize.ShloMosaic.Ideal.fptosi 8) (congr (congrArg rounded (funext fun k => row_at m c t b _ ?_ k)) (Fin.ext ?_))
  · exact h0
  · exact h1.symm

set_option maxRecDepth 20000 in
theorem flushed4_eq (c : Dev nD) (t : Fin cfg0.N) : (dats m 0 c).flushed 4 t = ((cfg0.win 4).blk t).view.read (Elt Idealize.ShloMosaic.Ideal) (G4 m c) := by
  rw [Cert.QuantiseIdeal.Value.flushed4]
  funext j
  obtain ⟨u, v, b, rfl⟩ : ∃ (u v : Fin 1) (b : Fin 128), j = (ix3 u v b : S1x1x128.Idx) := ⟨j 0, j 1, j 2, eq_ix3 j⟩
  show out0_4 (iblk m c 0 t) (ix3 u v b) = G4 m c (((cfg0.win 4).blk t).view.emb (ix3 u v b))
  have h0 := emb4 t (ix3 u v b) 0
  have h2 := emb4 t (ix3 u v b) 2
  change ((((cfg0.win 4).blk t).view.emb (ix3 u v b) : S24x1x128.Idx) 0).val = t.val at h0
  change ((((cfg0.win 4).blk t).view.emb (ix3 u v b) : S24x1x128.Idx) 2).val = b.val at h2
  unfold out0_4 k0_pay130
  rw [ld_eq, Cert.QuantiseIdeal.Value.canon4_eq, E4_at]
  unfold G4
  refine congrArg scale (funext fun k => row_at m c t b _ ?_ k)
  show 128 * _ + _ = _
  rw [h0, h2]

theorem covered1 (i : S3072x5120.Idx) : ∃ t : Fin cfg0.N, (cfg0.win 1).flush t = true ∧ i ∈ ((cfg0.win 1).blk t).view.set := by
  have hi : (i 0).val < 3072 := (i 0).isLt
  refine ⟨(⟨(i 0).val / 128, by rw [N_eq]; omega⟩ : Fin cfg0.N), flush0_1 _, ?_⟩
  have h := ((cfg0.win 1).blk (⟨(i 0).val / 128, by rw [N_eq]; omega⟩ : Fin cfg0.N)).view.emb_mem_set
    (ix2 (⟨(i 0).val % 128, by omega⟩ : Fin 128) (⟨(i 1).val, (i 1).isLt⟩ : Fin 5120) : S128x5120.Idx)
  refine cast (congrArg (· ∈ _) (funext fun a => Fin.ext ?_)) h
  rw [emb1]
  match a with
  | ⟨0, _⟩ => show 128 * ((i 0).val / 128) + (i 0).val % 128 = (i 0).val; omega
  | ⟨1, _⟩ => rfl

theorem covered4 (i : S24x1x128.Idx) : ∃ t : Fin cfg0.N, (cfg0.win 4).flush t = true ∧ i ∈ ((cfg0.win 4).blk t).view.set := by
  have hi : (i 0).val < 24 := (i 0).isLt
  have hi1 : (i 1).val < 1 := (i 1).isLt
  refine ⟨(⟨(i 0).val, by rw [N_eq]; omega⟩ : Fin cfg0.N), flush0_4 _, ?_⟩
  have h := ((cfg0.win 4).blk (⟨(i 0).val, by rw [N_eq]; omega⟩ : Fin cfg0.N)).view.emb_mem_set
    (ix3 (0 : Fin 1) (0 : Fin 1) (⟨(i 2).val, (i 2).isLt⟩ : Fin 128) : S1x1x128.Idx)
  refine cast (congrArg (· ∈ _) (funext fun a => Fin.ext ?_)) h
  rw [emb4]
  match a with
  | ⟨0, _⟩ => rfl
  | ⟨1, _⟩ => show 0 = (i 1).val; omega
  | ⟨2, _⟩ => rfl

/-- The run, with the codes and the scales at their functions of the tokens. -/
theorem run_value : θ_run defs (onTc (τ := τ) (main (F := Idealize.ShloMosaic.Ideal))) ⟨m, fun _ => 0, ρ⟩ (fun r => ∀ c : Dev nD,
      r.2.mem ((c.tc : Thread nD τ).loc main_v0_0) = G1 m c
      ∧ r.2.mem ((c.tc : Thread nD τ).loc main_v0_3) = G4 m c
      ∧ r.2.mem ((c.tc : Thread nD τ).loc main_arg0) = m ((c.tc : Thread nD τ).loc main_arg0)) :=
  (θ_run defs _ _).mono (fun _ h c => ⟨(h c).1.trans ((dats m 0 c).arrAt_eq_of_cover 1 (G1 m c) (fun t _ => flushed1_eq m c t) covered1),
      (h c).2.2.2.1.trans ((dats m 0 c).arrAt_eq_of_cover 4 (G4 m c) (fun t _ => flushed4_eq m c t) covered4),
      (h c).2.2.2.2⟩) (Cert.QuantiseIdeal.Value.run_blocks m ρ)

/-- The codes are the reference's. -/
theorem codes (c : Dev nD) : G1 m c = Cert.QuantiseReferenceIdeal.Read.val_main_v14 (F := Idealize.ShloMosaic.Ideal) (X m c) := by
  funext y
  obtain ⟨a, k, rfl⟩ : ∃ (a : Fin 3072) (k : Fin 5120), y = ix2 a k := ⟨y 0, y 1, eq_ix2 y⟩
  exact (Cert.QuantiseReferenceIdeal.Hand.v14_at (X m c) a k).symm

/-- The scales are the reference's. -/
theorem scales (c : Dev nD) : G4 m c = Cert.QuantiseReferenceIdeal.Read.val_main_v15 (F := Idealize.ShloMosaic.Ideal) (X m c) := by
  funext y
  obtain ⟨t, u, b, rfl⟩ : ∃ (t : Fin 24) (u : Fin 1) (b : Fin 128), y = ix3 t u b := ⟨y 0, y 1, y 2, eq_ix3 y⟩
  exact (Cert.QuantiseReferenceIdeal.Hand.v15_at (X m c) t u b).symm

end Cert.QuantiseIdeal.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Quantise
public import proofs.«01_k».proof.Proof.Gen.Quantise.Frame
public import proofs.«01_k».proof.Proof.Gen.QuantiseIdeal
public import proofs.«01_k».proof.Proof.Gen.QuantiseIdeal.Frame
public import proofs.«01_k».proof.Proof.Gen.QuantiseIdeal.Value
public import proofs.«01_k».proof.Proof.Gen.QuantiseReferenceIdeal
public import proofs.«01_k».proof.Proof.Gen.QuantiseReferenceIdeal.Run
public import proofs.«01_k».proof.Proof.Gen.QuantiseReferenceIdeal.Read
public import proofs.«01_k».proof.Proof.Gen.ReferenceIdeal.Run
public import proofs.«01_k».proof.Proof.Gen.ReferenceIdeal.Read
public import proofs.«01_k».proof.Proof.K.Frame
public import proofs.«01_k».proof.Proof.KI.Frame
public import proofs.«01_k».proof.Proof.KI.Output
public import proofs.«01_k».proof.Proof.KI.Value
public import proofs.«01_k».proof.Proof.Q.Result
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

theorem preFacts : Cert.Pre_in_range.Facts where
  bcast_S_S27648 := by decide

/-- What the precondition says of one entry of the row table. -/
theorem toNat_of_pre {x : BitVec 32} (h : IntOp.andi (IntOp.cmpi .sge x 0#32) (IntOp.cmpi .slt x 27648#32) = 1#1) : x.toNat < 27648 := by
  simp only [IntOp.cmpi, IntOp.andi] at h
  have hx := x.isLt
  have hc := BitVec.toInt_eq_toNat_cond x
  have e0 : (0#32).toInt = 0 := by decide
  have e1 : (27648#32).toInt = 27648 := by decide
  cases h1 : (0#32).sle x <;> cases h2 : x.slt 27648#32 <;> rw [h1, h2] at h
  · exact absurd h (by decide)
  · exact absurd h (by decide)
  · exact absurd h (by decide)
  · simp only [BitVec.sle, BitVec.slt, decide_eq_true_eq, e0, e1] at h1 h2
    split at hc <;> omega

theorem kernel_inRange (m : (ℓ : Loc Cert.Kernel.nD Cert.Kernel.τ Cert.Kernel.sig) → Buf (Elt Bits) ℓ)
    (h : Cert.Pre_Kernel (hPre_in_range := preFacts) m) : Cert.Kernel.Hand.InRange m := fun c n =>
  toNat_of_pre (congrFun (h c) (ValueIdx.ix1 n))

theorem kernelIdeal_inRange (m : (ℓ : Loc Cert.KernelIdeal.nD Cert.KernelIdeal.τ Cert.KernelIdeal.sig) → Buf (Elt Ideal) ℓ)
    (h : Cert.Pre_KernelIdeal (hPre_in_range := preFacts) m) : Cert.KernelIdeal.Hand.InRange m := fun c n =>
  toNat_of_pre (congrFun (h c) (ValueIdx.ix1 n))

/-- The reference, run from a memory with the kernel's arguments, ends with the kernel's result. -/
theorem equal_results : Cert.algebraic_KernelIdeal_ReferenceIdeal (hKernelIdeal := Cert.KernelIdeal.Gen.facts) (hReferenceIdeal := Cert.ReferenceIdeal.Gen.facts) (hPre_in_range := preFacts) := by
  intro m g m' g' hp ha
  have hr := kernelIdeal_inRange m hp
  refine ⟨fun c => Cert.KernelIdeal.Hand.G m c, Cert.KernelIdeal.Hand.run_value m g hr, ?_⟩
  refine (θ_run _ _ _).mono (fun r h c => ⟨(h c).1.trans ?_, (h c).2⟩) (Cert.ReferenceIdeal.Value.run (F := Ideal) m' g')
  obtain ⟨h0, h1, h2, h3, h4, h5, h6⟩ := ha c
  rw [h0, h1, h2, h3, h4, h5, h6]
  exact (Cert.ReferenceIdeal.Read.val_main_v51_eq (F := Ideal) _ _ _ _ _ _ _).trans (Cert.KernelIdeal.Hand.result m hr c).symm

/-- The quantiser's reference, run from a memory with the same tokens, ends with the quantiser's codes and scales. -/
theorem equal_codes : Cert.algebraic_QuantiseIdeal_QuantiseReferenceIdeal (hQuantiseIdeal := Cert.QuantiseIdeal.Gen.facts) (hQuantiseReferenceIdeal := Cert.QuantiseReferenceIdeal.Gen.facts) := by
  intro m g m' g' _ ha
  refine ⟨fun c => Cert.QuantiseIdeal.Hand.G1 m c, fun c => Cert.QuantiseIdeal.Hand.G4 m c, Cert.QuantiseIdeal.Hand.run_value m g, ?_⟩
  refine (θ_run _ _ _).mono (fun r h c => ⟨(h c).1.trans ?_, (h c).2.1.trans ?_, (h c).2.2⟩) (Cert.QuantiseReferenceIdeal.Value.run (F := Ideal) m' g')
  · rw [ha c]
    exact (Cert.QuantiseReferenceIdeal.Read.val_main_v14_eq (F := Ideal) _).trans (Cert.QuantiseIdeal.Hand.codes m c).symm
  · rw [ha c]
    exact (Cert.QuantiseReferenceIdeal.Read.val_main_v15_eq (F := Ideal) _).trans (Cert.QuantiseIdeal.Hand.scales m c).symm

theorem claim : Cert.Claim := ⟨Cert.Kernel.Gen.facts, Cert.KernelIdeal.Gen.facts, Cert.ReferenceIdeal.Gen.facts,
  Cert.Quantise.Gen.facts, Cert.QuantiseIdeal.Gen.facts, Cert.QuantiseReferenceIdeal.Gen.facts, preFacts,
  fun m g h => Cert.Kernel.Hand.frame m g (kernel_inRange m h),
  fun m g h => Cert.KernelIdeal.Hand.frame m g (kernelIdeal_inRange m h),
  fun m g _ => (θ_run _ _ _).mono (fun r h => ⟨fun c => (h c).2, sem_eq_zero_of_no_sems (by decide) r.2⟩) (Cert.ReferenceIdeal.Value.run m g),
  fun m g _ => (θ_run _ _ _).mono (fun r h => ⟨fun c => (h c).2, sem_eq_zero_of_no_sems (by decide) r.2⟩) (Cert.ReferenceIdeal.Value.run m g),
  fun m g _ => Cert.Quantise.Gen.frame m g,
  fun m g _ => Cert.QuantiseIdeal.Gen.frame m g,
  fun m g _ => (θ_run _ _ _).mono (fun r h => ⟨fun c => (h c).2.2, sem_eq_zero_of_no_sems (by decide) r.2⟩) (Cert.QuantiseReferenceIdeal.Value.run m g),
  trivial,
  equal_results,
  trivial,
  equal_codes⟩

end Cert.Proof

end
